-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnHidden (m : (ℓ : Loc Cert.FfnHidden.nD Cert.FfnHidden.τ Cert.FfnHidden.sig) → Buf (Elt Bits) ℓ) : Prop :=
  True

def Pre_FfnHiddenIdeal (m : (ℓ : Loc Cert.FfnHiddenIdeal.nD Cert.FfnHiddenIdeal.τ Cert.FfnHiddenIdeal.sig) → Buf (Elt Ideal) ℓ) : Prop :=
  True

def Pre_FfnHiddenIdeal_hidden_finite [hPre_hidden_finite : Cert.Pre_hidden_finite.Facts] (m : (ℓ : Loc Cert.FfnHiddenIdeal.nD Cert.FfnHiddenIdeal.τ Cert.FfnHiddenIdeal.sig) → Buf (Elt Ideal) ℓ) : Prop :=
  ∀ c : Dev Cert.FfnHiddenIdeal.nD,
    (Cert.Pre_hidden_finite.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2))).1 = (fun _ => 1#1)
    ∧ (Cert.Pre_hidden_finite.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2))).2.1 = (fun _ => 1#1)
    ∧ (Cert.Pre_hidden_finite.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2))).2.2 = (fun _ => 1#1)

def Pre_FfnHiddenRefIdeal (m : (ℓ : Loc Cert.FfnHiddenRefIdeal.nD Cert.FfnHiddenRefIdeal.τ Cert.FfnHiddenRefIdeal.sig) → Buf (Elt Ideal) ℓ) : Prop :=
  True

def Pre_FfnHiddenRefIdeal_hidden_finite [hPre_hidden_finite : Cert.Pre_hidden_finite.Facts] (m : (ℓ : Loc Cert.FfnHiddenRefIdeal.nD Cert.FfnHiddenRefIdeal.τ Cert.FfnHiddenRefIdeal.sig) → Buf (Elt Ideal) ℓ) : Prop :=
  ∀ c : Dev Cert.FfnHiddenRefIdeal.nD,
    (Cert.Pre_hidden_finite.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2))).1 = (fun _ => 1#1)
    ∧ (Cert.Pre_hidden_finite.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2))).2.1 = (fun _ => 1#1)
    ∧ (Cert.Pre_hidden_finite.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2))).2.2 = (fun _ => 1#1)

def Pre_FfnDownGrad (m : (ℓ : Loc Cert.FfnDownGrad.nD Cert.FfnDownGrad.τ Cert.FfnDownGrad.sig) → Buf (Elt Bits) ℓ) : Prop :=
  True

def Pre_FfnDownGradIdeal (m : (ℓ : Loc Cert.FfnDownGradIdeal.nD Cert.FfnDownGradIdeal.τ Cert.FfnDownGradIdeal.sig) → Buf (Elt Ideal) ℓ) : Prop :=
  True

def Pre_FfnDownGradRefIdeal (m : (ℓ : Loc Cert.FfnDownGradRefIdeal.nD Cert.FfnDownGradRefIdeal.τ Cert.FfnDownGradRefIdeal.sig) → Buf (Elt Ideal) ℓ) : Prop :=
  True

def Pre_FfnUpGrad (m : (ℓ : Loc Cert.FfnUpGrad.nD Cert.FfnUpGrad.τ Cert.FfnUpGrad.sig) → Buf (Elt Bits) ℓ) : Prop :=
  True

def Pre_FfnUpGradIdeal (m : (ℓ : Loc Cert.FfnUpGradIdeal.nD Cert.FfnUpGradIdeal.τ Cert.FfnUpGradIdeal.sig) → Buf (Elt Ideal) ℓ) : Prop :=
  True

def Pre_FfnUpGradRefIdeal (m : (ℓ : Loc Cert.FfnUpGradRefIdeal.nD Cert.FfnUpGradRefIdeal.τ Cert.FfnUpGradRefIdeal.sig) → Buf (Elt Ideal) ℓ) : Prop :=
  True

def Pre_FfnInput (m : (ℓ : Loc Cert.FfnInput.nD Cert.FfnInput.τ Cert.FfnInput.sig) → Buf (Elt Bits) ℓ) : Prop :=
  True

def Pre_FfnInputIdeal (m : (ℓ : Loc Cert.FfnInputIdeal.nD Cert.FfnInputIdeal.τ Cert.FfnInputIdeal.sig) → Buf (Elt Ideal) ℓ) : Prop :=
  True

def Pre_FfnInputRefIdeal (m : (ℓ : Loc Cert.FfnInputRefIdeal.nD Cert.FfnInputRefIdeal.τ Cert.FfnInputRefIdeal.sig) → Buf (Elt Ideal) ℓ) : Prop :=
  True

def Pre_FfnFwdHidden (m : (ℓ : Loc Cert.FfnFwdHidden.nD Cert.FfnFwdHidden.τ Cert.FfnFwdHidden.sig) → Buf (Elt Bits) ℓ) : Prop :=
  True

def Pre_FfnFwdHiddenIdeal (m : (ℓ : Loc Cert.FfnFwdHiddenIdeal.nD Cert.FfnFwdHiddenIdeal.τ Cert.FfnFwdHiddenIdeal.sig) → Buf (Elt Ideal) ℓ) : Prop :=
  True

def Pre_FfnFwdHiddenRefIdeal (m : (ℓ : Loc Cert.FfnFwdHiddenRefIdeal.nD Cert.FfnFwdHiddenRefIdeal.τ Cert.FfnFwdHiddenRefIdeal.sig) → Buf (Elt Ideal) ℓ) : Prop :=
  True

def Pre_FfnFwdDown (m : (ℓ : Loc Cert.FfnFwdDown.nD Cert.FfnFwdDown.τ Cert.FfnFwdDown.sig) → Buf (Elt Bits) ℓ) : Prop :=
  True

def Pre_FfnFwdDownIdeal (m : (ℓ : Loc Cert.FfnFwdDownIdeal.nD Cert.FfnFwdDownIdeal.τ Cert.FfnFwdDownIdeal.sig) → Buf (Elt Ideal) ℓ) : Prop :=
  True

def Pre_FfnFwdDownRefIdeal (m : (ℓ : Loc Cert.FfnFwdDownRefIdeal.nD Cert.FfnFwdDownRefIdeal.τ Cert.FfnFwdDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InInput (m : (ℓ : Loc Cert.InInput.nD Cert.InInput.τ Cert.InInput.sig) → Buf (Elt Bits) ℓ) : Prop :=
  True

def Pre_InInputIdeal (m : (ℓ : Loc Cert.InInputIdeal.nD Cert.InInputIdeal.τ Cert.InInputIdeal.sig) → Buf (Elt Ideal) ℓ) : Prop :=
  True

def Pre_InInputRefIdeal (m : (ℓ : Loc Cert.InInputRefIdeal.nD Cert.InInputRefIdeal.τ Cert.InInputRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_SquareGrad (m : (ℓ : Loc Cert.SquareGrad.nD Cert.SquareGrad.τ Cert.SquareGrad.sig) → Buf (Elt Bits) ℓ) : Prop :=
  True

def Pre_SquareGradIdeal (m : (ℓ : Loc Cert.SquareGradIdeal.nD Cert.SquareGradIdeal.τ Cert.SquareGradIdeal.sig) → Buf (Elt Ideal) ℓ) : Prop :=
  True

def Pre_SquareGradRefIdeal (m : (ℓ : Loc Cert.SquareGradRefIdeal.nD Cert.SquareGradRefIdeal.τ Cert.SquareGradRefIdeal.sig) → Buf (Elt Ideal) ℓ) : Prop :=
  True

def Pre_KvGrad (m : (ℓ : Loc Cert.KvGrad.nD Cert.KvGrad.τ Cert.KvGrad.sig) → Buf (Elt Bits) ℓ) : Prop :=
  True

def Pre_KvGradIdeal (m : (ℓ : Loc Cert.KvGradIdeal.nD Cert.KvGradIdeal.τ Cert.KvGradIdeal.sig) → Buf (Elt Ideal) ℓ) : Prop :=
  True

def Pre_KvGradRefIdeal (m : (ℓ : Loc Cert.KvGradRefIdeal.nD Cert.KvGradRefIdeal.τ Cert.KvGradRefIdeal.sig) → Buf (Elt Ideal) ℓ) : Prop :=
  True

def Pre_PleUpGrad (m : (ℓ : Loc Cert.PleUpGrad.nD Cert.PleUpGrad.τ Cert.PleUpGrad.sig) → Buf (Elt Bits) ℓ) : Prop :=
  True

def Pre_PleUpGradIdeal (m : (ℓ : Loc Cert.PleUpGradIdeal.nD Cert.PleUpGradIdeal.τ Cert.PleUpGradIdeal.sig) → Buf (Elt Ideal) ℓ) : Prop :=
  True

def Pre_PleUpGradRefIdeal (m : (ℓ : Loc Cert.PleUpGradRefIdeal.nD Cert.PleUpGradRefIdeal.τ Cert.PleUpGradRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamGateUp (m : (ℓ : Loc Cert.AdamGateUp.nD Cert.AdamGateUp.τ Cert.AdamGateUp.sig) → Buf (Elt Bits) ℓ) : Prop :=
  True

def Pre_AdamGateUpIdeal (m : (ℓ : Loc Cert.AdamGateUpIdeal.nD Cert.AdamGateUpIdeal.τ Cert.AdamGateUpIdeal.sig) → Buf (Elt Ideal) ℓ) : Prop :=
  True

def Pre_AdamGateUpRefIdeal (m : (ℓ : Loc Cert.AdamGateUpRefIdeal.nD Cert.AdamGateUpRefIdeal.τ Cert.AdamGateUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamPleUp (m : (ℓ : Loc Cert.AdamPleUp.nD Cert.AdamPleUp.τ Cert.AdamPleUp.sig) → Buf (Elt Bits) ℓ) : Prop :=
  True

def Pre_AdamPleUpIdeal (m : (ℓ : Loc Cert.AdamPleUpIdeal.nD Cert.AdamPleUpIdeal.τ Cert.AdamPleUpIdeal.sig) → Buf (Elt Ideal) ℓ) : Prop :=
  True

def Pre_AdamPleUpRefIdeal (m : (ℓ : Loc Cert.AdamPleUpRefIdeal.nD Cert.AdamPleUpRefIdeal.τ Cert.AdamPleUpRefIdeal.sig) → Buf (Elt Ideal) ℓ) : Prop :=
  True

def Pre_AdamPleGate (m : (ℓ : Loc Cert.AdamPleGate.nD Cert.AdamPleGate.τ Cert.AdamPleGate.sig) → Buf (Elt Bits) ℓ) : Prop :=
  True

def Pre_AdamPleGateIdeal (m : (ℓ : Loc Cert.AdamPleGateIdeal.nD Cert.AdamPleGateIdeal.τ Cert.AdamPleGateIdeal.sig) → Buf (Elt Ideal) ℓ) : Prop :=
  True

def Pre_AdamPleGateRefIdeal (m : (ℓ : Loc Cert.AdamPleGateRefIdeal.nD Cert.AdamPleGateRefIdeal.τ Cert.AdamPleGateRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnHidden [hFfnHidden : Cert.FfnHidden.Facts] : Prop :=
  ∀ (m : (ℓ : Loc Cert.FfnHidden.nD Cert.FfnHidden.τ Cert.FfnHidden.sig) → Buf (Elt Bits) ℓ) (g : Dev Cert.FfnHidden.nD → PrngReg), Pre_FfnHidden m →
    θ_run (Cert.FfnHidden.defs (F := Bits)) (onTc (τ := Cert.FfnHidden.τ) (Cert.FfnHidden.main (F := Bits))) ⟨m, fun _ => 0, g⟩ (fun r => (∀ c : Dev Cert.FfnHidden.nD,
      r.2.mem ((c.tc : Thread Cert.FfnHidden.nD Cert.FfnHidden.τ).loc Cert.FfnHidden.main_arg0) = m ((c.tc : Thread Cert.FfnHidden.nD Cert.FfnHidden.τ).loc Cert.FfnHidden.main_arg0)
      ∧ r.2.mem ((c.tc : Thread Cert.FfnHidden.nD Cert.FfnHidden.τ).loc Cert.FfnHidden.main_arg1) = m ((c.tc : Thread Cert.FfnHidden.nD Cert.FfnHidden.τ).loc Cert.FfnHidden.main_arg1)
      ∧ r.2.mem ((c.tc : Thread Cert.FfnHidden.nD Cert.FfnHidden.τ).loc Cert.FfnHidden.main_arg2) = m ((c.tc : Thread Cert.FfnHidden.nD Cert.FfnHidden.τ).loc Cert.FfnHidden.main_arg2))
      ∧ r.2.sem = fun _ => 0)

def quiescent_FfnHiddenIdeal [hFfnHiddenIdeal : Cert.FfnHiddenIdeal.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg), Pre_FfnHiddenIdeal m →
    θ_run (Cert.FfnHiddenIdeal.defs (F := Ideal)) (onTc (τ := Cert.FfnHiddenIdeal.τ) (Cert.FfnHiddenIdeal.main (F := Ideal))) ⟨m, fun _ => 0, g⟩ (fun r => (∀ c : Dev Cert.FfnHiddenIdeal.nD,
      r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
      ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
      ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2))
      ∧ r.2.sem = fun _ => 0)

def quiescent_FfnHiddenIdeal_pre_hidden_finite [hFfnHiddenIdeal : Cert.FfnHiddenIdeal.Facts] [hPre_hidden_finite : Cert.Pre_hidden_finite.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg), Pre_FfnHiddenIdeal_hidden_finite m →
    θ_run (Cert.FfnHiddenIdeal.defs (F := Ideal)) (onTc (τ := Cert.FfnHiddenIdeal.τ) (Cert.FfnHiddenIdeal.main (F := Ideal))) ⟨m, fun _ => 0, g⟩ (fun r => (∀ c : Dev Cert.FfnHiddenIdeal.nD,
      r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
      ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
      ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2))
      ∧ r.2.sem = fun _ => 0)

def quiescent_FfnHiddenRefIdeal [hFfnHiddenRefIdeal : Cert.FfnHiddenRefIdeal.Facts] : Prop :=
  ∀ (m : (ℓ : Loc Cert.FfnHiddenRefIdeal.nD Cert.FfnHiddenRefIdeal.τ Cert.FfnHiddenRefIdeal.sig) → Buf (Elt Ideal) ℓ) (g : Dev Cert.FfnHiddenRefIdeal.nD → PrngReg), Pre_FfnHiddenRefIdeal m →
    θ_run (Cert.FfnHiddenRefIdeal.defs (F := Ideal)) (onTc (τ := Cert.FfnHiddenRefIdeal.τ) (Cert.FfnHiddenRefIdeal.main (F := Ideal))) ⟨m, fun _ => 0, g⟩ (fun r => (∀ c : Dev Cert.FfnHiddenRefIdeal.nD,
      r.2.mem ((c.tc : Thread Cert.FfnHiddenRefIdeal.nD Cert.FfnHiddenRefIdeal.τ).loc Cert.FfnHiddenRefIdeal.main_arg0) = m ((c.tc : Thread Cert.FfnHiddenRefIdeal.nD Cert.FfnHiddenRefIdeal.τ).loc Cert.FfnHiddenRefIdeal.main_arg0)
      ∧ r.2.mem ((c.tc : Thread Cert.FfnHiddenRefIdeal.nD Cert.FfnHiddenRefIdeal.τ).loc Cert.FfnHiddenRefIdeal.main_arg1) = m ((c.tc : Thread Cert.FfnHiddenRefIdeal.nD Cert.FfnHiddenRefIdeal.τ).loc Cert.FfnHiddenRefIdeal.main_arg1)
      ∧ r.2.mem ((c.tc : Thread Cert.FfnHiddenRefIdeal.nD Cert.FfnHiddenRefIdeal.τ).loc Cert.FfnHiddenRefIdeal.main_arg2) = m ((c.tc : Thread Cert.FfnHiddenRefIdeal.nD Cert.FfnHiddenRefIdeal.τ).loc Cert.FfnHiddenRefIdeal.main_arg2))
      ∧ r.2.sem = fun _ => 0)

def quiescent_FfnHiddenRefIdeal_pre_hidden_finite [hFfnHiddenRefIdeal : Cert.FfnHiddenRefIdeal.Facts] [hPre_hidden_finite : Cert.Pre_hidden_finite.Facts] : Prop :=
  ∀ (m : (ℓ : Loc Cert.FfnHiddenRefIdeal.nD Cert.FfnHiddenRefIdeal.τ Cert.FfnHiddenRefIdeal.sig) → Buf (Elt Ideal) ℓ) (g : Dev Cert.FfnHiddenRefIdeal.nD → PrngReg), Pre_FfnHiddenRefIdeal_hidden_finite m →
    θ_run (Cert.FfnHiddenRefIdeal.defs (F := Ideal)) (onTc (τ := Cert.FfnHiddenRefIdeal.τ) (Cert.FfnHiddenRefIdeal.main (F := Ideal))) ⟨m, fun _ => 0, g⟩ (fun r => (∀ c : Dev Cert.FfnHiddenRefIdeal.nD,
      r.2.mem ((c.tc : Thread Cert.FfnHiddenRefIdeal.nD Cert.FfnHiddenRefIdeal.τ).loc Cert.FfnHiddenRefIdeal.main_arg0) = m ((c.tc : Thread Cert.FfnHiddenRefIdeal.nD Cert.FfnHiddenRefIdeal.τ).loc Cert.FfnHiddenRefIdeal.main_arg0)
      ∧ r.2.mem ((c.tc : Thread Cert.FfnHiddenRefIdeal.nD Cert.FfnHiddenRefIdeal.τ).loc Cert.FfnHiddenRefIdeal.main_arg1) = m ((c.tc : Thread Cert.FfnHiddenRefIdeal.nD Cert.FfnHiddenRefIdeal.τ).loc Cert.FfnHiddenRefIdeal.main_arg1)
      ∧ r.2.mem ((c.tc : Thread Cert.FfnHiddenRefIdeal.nD Cert.FfnHiddenRefIdeal.τ).loc Cert.FfnHiddenRefIdeal.main_arg2) = m ((c.tc : Thread Cert.FfnHiddenRefIdeal.nD Cert.FfnHiddenRefIdeal.τ).loc Cert.FfnHiddenRefIdeal.main_arg2))
      ∧ r.2.sem = fun _ => 0)

def quiescent_FfnDownGrad [hFfnDownGrad : Cert.FfnDownGrad.Facts] : Prop :=
  ∀ (m : (ℓ : Loc Cert.FfnDownGrad.nD Cert.FfnDownGrad.τ Cert.FfnDownGrad.sig) → Buf (Elt Bits) ℓ) (g : Dev Cert.FfnDownGrad.nD → PrngReg), Pre_FfnDownGrad m →
    θ_run (Cert.FfnDownGrad.defs (F := Bits)) (onTc (τ := Cert.FfnDownGrad.τ) (Cert.FfnDownGrad.main (F := Bits))) ⟨m, fun _ => 0, g⟩ (fun r => (∀ c : Dev Cert.FfnDownGrad.nD,
      r.2.mem ((c.tc : Thread Cert.FfnDownGrad.nD Cert.FfnDownGrad.τ).loc Cert.FfnDownGrad.main_arg0) = m ((c.tc : Thread Cert.FfnDownGrad.nD Cert.FfnDownGrad.τ).loc Cert.FfnDownGrad.main_arg0)
      ∧ r.2.mem ((c.tc : Thread Cert.FfnDownGrad.nD Cert.FfnDownGrad.τ).loc Cert.FfnDownGrad.main_arg1) = m ((c.tc : Thread Cert.FfnDownGrad.nD Cert.FfnDownGrad.τ).loc Cert.FfnDownGrad.main_arg1))
      ∧ r.2.sem = fun _ => 0)

def quiescent_FfnDownGradIdeal [hFfnDownGradIdeal : Cert.FfnDownGradIdeal.Facts] : Prop :=
  ∀ (m : (ℓ : Loc Cert.FfnDownGradIdeal.nD Cert.FfnDownGradIdeal.τ Cert.FfnDownGradIdeal.sig) → Buf (Elt Ideal) ℓ) (g : Dev Cert.FfnDownGradIdeal.nD → PrngReg), Pre_FfnDownGradIdeal m →
    θ_run (Cert.FfnDownGradIdeal.defs (F := Ideal)) (onTc (τ := Cert.FfnDownGradIdeal.τ) (Cert.FfnDownGradIdeal.main (F := Ideal))) ⟨m, fun _ => 0, g⟩ (fun r => (∀ c : Dev Cert.FfnDownGradIdeal.nD,
      r.2.mem ((c.tc : Thread Cert.FfnDownGradIdeal.nD Cert.FfnDownGradIdeal.τ).loc Cert.FfnDownGradIdeal.main_arg0) = m ((c.tc : Thread Cert.FfnDownGradIdeal.nD Cert.FfnDownGradIdeal.τ).loc Cert.FfnDownGradIdeal.main_arg0)
      ∧ r.2.mem ((c.tc : Thread Cert.FfnDownGradIdeal.nD Cert.FfnDownGradIdeal.τ).loc Cert.FfnDownGradIdeal.main_arg1) = m ((c.tc : Thread Cert.FfnDownGradIdeal.nD Cert.FfnDownGradIdeal.τ).loc Cert.FfnDownGradIdeal.main_arg1))
      ∧ r.2.sem = fun _ => 0)

def quiescent_FfnDownGradRefIdeal [hFfnDownGradRefIdeal : Cert.FfnDownGradRefIdeal.Facts] : Prop :=
  ∀ (m : (ℓ : Loc Cert.FfnDownGradRefIdeal.nD Cert.FfnDownGradRefIdeal.τ Cert.FfnDownGradRefIdeal.sig) → Buf (Elt Ideal) ℓ) (g : Dev Cert.FfnDownGradRefIdeal.nD → PrngReg), Pre_FfnDownGradRefIdeal m →
    θ_run (Cert.FfnDownGradRefIdeal.defs (F := Ideal)) (onTc (τ := Cert.FfnDownGradRefIdeal.τ) (Cert.FfnDownGradRefIdeal.main (F := Ideal))) ⟨m, fun _ => 0, g⟩ (fun r => (∀ c : Dev Cert.FfnDownGradRefIdeal.nD,
      r.2.mem ((c.tc : Thread Cert.FfnDownGradRefIdeal.nD Cert.FfnDownGradRefIdeal.τ).loc Cert.FfnDownGradRefIdeal.main_arg0) = m ((c.tc : Thread Cert.FfnDownGradRefIdeal.nD Cert.FfnDownGradRefIdeal.τ).loc Cert.FfnDownGradRefIdeal.main_arg0)
      ∧ r.2.mem ((c.tc : Thread Cert.FfnDownGradRefIdeal.nD Cert.FfnDownGradRefIdeal.τ).loc Cert.FfnDownGradRefIdeal.main_arg1) = m ((c.tc : Thread Cert.FfnDownGradRefIdeal.nD Cert.FfnDownGradRefIdeal.τ).loc Cert.FfnDownGradRefIdeal.main_arg1))
      ∧ r.2.sem = fun _ => 0)

def quiescent_FfnUpGrad [hFfnUpGrad : Cert.FfnUpGrad.Facts] : Prop :=
  ∀ (m : (ℓ : Loc Cert.FfnUpGrad.nD Cert.FfnUpGrad.τ Cert.FfnUpGrad.sig) → Buf (Elt Bits) ℓ) (g : Dev Cert.FfnUpGrad.nD → PrngReg), Pre_FfnUpGrad m →
    θ_run (Cert.FfnUpGrad.defs (F := Bits)) (onTc (τ := Cert.FfnUpGrad.τ) (Cert.FfnUpGrad.main (F := Bits))) ⟨m, fun _ => 0, g⟩ (fun r => (∀ c : Dev Cert.FfnUpGrad.nD,
      r.2.mem ((c.tc : Thread Cert.FfnUpGrad.nD Cert.FfnUpGrad.τ).loc Cert.FfnUpGrad.main_arg0) = m ((c.tc : Thread Cert.FfnUpGrad.nD Cert.FfnUpGrad.τ).loc Cert.FfnUpGrad.main_arg0)
      ∧ r.2.mem ((c.tc : Thread Cert.FfnUpGrad.nD Cert.FfnUpGrad.τ).loc Cert.FfnUpGrad.main_arg1) = m ((c.tc : Thread Cert.FfnUpGrad.nD Cert.FfnUpGrad.τ).loc Cert.FfnUpGrad.main_arg1))
      ∧ r.2.sem = fun _ => 0)

def quiescent_FfnUpGradIdeal [hFfnUpGradIdeal : Cert.FfnUpGradIdeal.Facts] : Prop :=
  ∀ (m : (ℓ : Loc Cert.FfnUpGradIdeal.nD Cert.FfnUpGradIdeal.τ Cert.FfnUpGradIdeal.sig) → Buf (Elt Ideal) ℓ) (g : Dev Cert.FfnUpGradIdeal.nD → PrngReg), Pre_FfnUpGradIdeal m →
    θ_run (Cert.FfnUpGradIdeal.defs (F := Ideal)) (onTc (τ := Cert.FfnUpGradIdeal.τ) (Cert.FfnUpGradIdeal.main (F := Ideal))) ⟨m, fun _ => 0, g⟩ (fun r => (∀ c : Dev Cert.FfnUpGradIdeal.nD,
      r.2.mem ((c.tc : Thread Cert.FfnUpGradIdeal.nD Cert.FfnUpGradIdeal.τ).loc Cert.FfnUpGradIdeal.main_arg0) = m ((c.tc : Thread Cert.FfnUpGradIdeal.nD Cert.FfnUpGradIdeal.τ).loc Cert.FfnUpGradIdeal.main_arg0)
      ∧ r.2.mem ((c.tc : Thread Cert.FfnUpGradIdeal.nD Cert.FfnUpGradIdeal.τ).loc Cert.FfnUpGradIdeal.main_arg1) = m ((c.tc : Thread Cert.FfnUpGradIdeal.nD Cert.FfnUpGradIdeal.τ).loc Cert.FfnUpGradIdeal.main_arg1))
      ∧ r.2.sem = fun _ => 0)

def quiescent_FfnUpGradRefIdeal [hFfnUpGradRefIdeal : Cert.FfnUpGradRefIdeal.Facts] : Prop :=
  ∀ (m : (ℓ : Loc Cert.FfnUpGradRefIdeal.nD Cert.FfnUpGradRefIdeal.τ Cert.FfnUpGradRefIdeal.sig) → Buf (Elt Ideal) ℓ) (g : Dev Cert.FfnUpGradRefIdeal.nD → PrngReg), Pre_FfnUpGradRefIdeal m →
    θ_run (Cert.FfnUpGradRefIdeal.defs (F := Ideal)) (onTc (τ := Cert.FfnUpGradRefIdeal.τ) (Cert.FfnUpGradRefIdeal.main (F := Ideal))) ⟨m, fun _ => 0, g⟩ (fun r => (∀ c : Dev Cert.FfnUpGradRefIdeal.nD,
      r.2.mem ((c.tc : Thread Cert.FfnUpGradRefIdeal.nD Cert.FfnUpGradRefIdeal.τ).loc Cert.FfnUpGradRefIdeal.main_arg0) = m ((c.tc : Thread Cert.FfnUpGradRefIdeal.nD Cert.FfnUpGradRefIdeal.τ).loc Cert.FfnUpGradRefIdeal.main_arg0)
      ∧ r.2.mem ((c.tc : Thread Cert.FfnUpGradRefIdeal.nD Cert.FfnUpGradRefIdeal.τ).loc Cert.FfnUpGradRefIdeal.main_arg1) = m ((c.tc : Thread Cert.FfnUpGradRefIdeal.nD Cert.FfnUpGradRefIdeal.τ).loc Cert.FfnUpGradRefIdeal.main_arg1))
      ∧ r.2.sem = fun _ => 0)

def quiescent_FfnInput [hFfnInput : Cert.FfnInput.Facts] : Prop :=
  ∀ (m : (ℓ : Loc Cert.FfnInput.nD Cert.FfnInput.τ Cert.FfnInput.sig) → Buf (Elt Bits) ℓ) (g : Dev Cert.FfnInput.nD → PrngReg), Pre_FfnInput m →
    θ_run (Cert.FfnInput.defs (F := Bits)) (onTc (τ := Cert.FfnInput.τ) (Cert.FfnInput.main (F := Bits))) ⟨m, fun _ => 0, g⟩ (fun r => (∀ c : Dev Cert.FfnInput.nD,
      r.2.mem ((c.tc : Thread Cert.FfnInput.nD Cert.FfnInput.τ).loc Cert.FfnInput.main_arg0) = m ((c.tc : Thread Cert.FfnInput.nD Cert.FfnInput.τ).loc Cert.FfnInput.main_arg0)
      ∧ r.2.mem ((c.tc : Thread Cert.FfnInput.nD Cert.FfnInput.τ).loc Cert.FfnInput.main_arg1) = m ((c.tc : Thread Cert.FfnInput.nD Cert.FfnInput.τ).loc Cert.FfnInput.main_arg1)
      ∧ r.2.mem ((c.tc : Thread Cert.FfnInput.nD Cert.FfnInput.τ).loc Cert.FfnInput.main_arg2) = m ((c.tc : Thread Cert.FfnInput.nD Cert.FfnInput.τ).loc Cert.FfnInput.main_arg2))
      ∧ r.2.sem = fun _ => 0)

def quiescent_FfnInputIdeal [hFfnInputIdeal : Cert.FfnInputIdeal.Facts] : Prop :=
  ∀ (m : (ℓ : Loc Cert.FfnInputIdeal.nD Cert.FfnInputIdeal.τ Cert.FfnInputIdeal.sig) → Buf (Elt Ideal) ℓ) (g : Dev Cert.FfnInputIdeal.nD → PrngReg), Pre_FfnInputIdeal m →
    θ_run (Cert.FfnInputIdeal.defs (F := Ideal)) (onTc (τ := Cert.FfnInputIdeal.τ) (Cert.FfnInputIdeal.main (F := Ideal))) ⟨m, fun _ => 0, g⟩ (fun r => (∀ c : Dev Cert.FfnInputIdeal.nD,
      r.2.mem ((c.tc : Thread Cert.FfnInputIdeal.nD Cert.FfnInputIdeal.τ).loc Cert.FfnInputIdeal.main_arg0) = m ((c.tc : Thread Cert.FfnInputIdeal.nD Cert.FfnInputIdeal.τ).loc Cert.FfnInputIdeal.main_arg0)
      ∧ r.2.mem ((c.tc : Thread Cert.FfnInputIdeal.nD Cert.FfnInputIdeal.τ).loc Cert.FfnInputIdeal.main_arg1) = m ((c.tc : Thread Cert.FfnInputIdeal.nD Cert.FfnInputIdeal.τ).loc Cert.FfnInputIdeal.main_arg1)
      ∧ r.2.mem ((c.tc : Thread Cert.FfnInputIdeal.nD Cert.FfnInputIdeal.τ).loc Cert.FfnInputIdeal.main_arg2) = m ((c.tc : Thread Cert.FfnInputIdeal.nD Cert.FfnInputIdeal.τ).loc Cert.FfnInputIdeal.main_arg2))
      ∧ r.2.sem = fun _ => 0)

def quiescent_FfnInputRefIdeal [hFfnInputRefIdeal : Cert.FfnInputRefIdeal.Facts] : Prop :=
  ∀ (m : (ℓ : Loc Cert.FfnInputRefIdeal.nD Cert.FfnInputRefIdeal.τ Cert.FfnInputRefIdeal.sig) → Buf (Elt Ideal) ℓ) (g : Dev Cert.FfnInputRefIdeal.nD → PrngReg), Pre_FfnInputRefIdeal m →
    θ_run (Cert.FfnInputRefIdeal.defs (F := Ideal)) (onTc (τ := Cert.FfnInputRefIdeal.τ) (Cert.FfnInputRefIdeal.main (F := Ideal))) ⟨m, fun _ => 0, g⟩ (fun r => (∀ c : Dev Cert.FfnInputRefIdeal.nD,
      r.2.mem ((c.tc : Thread Cert.FfnInputRefIdeal.nD Cert.FfnInputRefIdeal.τ).loc Cert.FfnInputRefIdeal.main_arg0) = m ((c.tc : Thread Cert.FfnInputRefIdeal.nD Cert.FfnInputRefIdeal.τ).loc Cert.FfnInputRefIdeal.main_arg0)
      ∧ r.2.mem ((c.tc : Thread Cert.FfnInputRefIdeal.nD Cert.FfnInputRefIdeal.τ).loc Cert.FfnInputRefIdeal.main_arg1) = m ((c.tc : Thread Cert.FfnInputRefIdeal.nD Cert.FfnInputRefIdeal.τ).loc Cert.FfnInputRefIdeal.main_arg1)
      ∧ r.2.mem ((c.tc : Thread Cert.FfnInputRefIdeal.nD Cert.FfnInputRefIdeal.τ).loc Cert.FfnInputRefIdeal.main_arg2) = m ((c.tc : Thread Cert.FfnInputRefIdeal.nD Cert.FfnInputRefIdeal.τ).loc Cert.FfnInputRefIdeal.main_arg2))
      ∧ r.2.sem = fun _ => 0)

def quiescent_FfnFwdHidden [hFfnFwdHidden : Cert.FfnFwdHidden.Facts] : Prop :=
  ∀ (m : (ℓ : Loc Cert.FfnFwdHidden.nD Cert.FfnFwdHidden.τ Cert.FfnFwdHidden.sig) → Buf (Elt Bits) ℓ) (g : Dev Cert.FfnFwdHidden.nD → PrngReg), Pre_FfnFwdHidden m →
    θ_run (Cert.FfnFwdHidden.defs (F := Bits)) (onTc (τ := Cert.FfnFwdHidden.τ) (Cert.FfnFwdHidden.main (F := Bits))) ⟨m, fun _ => 0, g⟩ (fun r => (∀ c : Dev Cert.FfnFwdHidden.nD,
      r.2.mem ((c.tc : Thread Cert.FfnFwdHidden.nD Cert.FfnFwdHidden.τ).loc Cert.FfnFwdHidden.main_arg0) = m ((c.tc : Thread Cert.FfnFwdHidden.nD Cert.FfnFwdHidden.τ).loc Cert.FfnFwdHidden.main_arg0)
      ∧ r.2.mem ((c.tc : Thread Cert.FfnFwdHidden.nD Cert.FfnFwdHidden.τ).loc Cert.FfnFwdHidden.main_arg1) = m ((c.tc : Thread Cert.FfnFwdHidden.nD Cert.FfnFwdHidden.τ).loc Cert.FfnFwdHidden.main_arg1))
      ∧ r.2.sem = fun _ => 0)

def quiescent_FfnFwdHiddenIdeal [hFfnFwdHiddenIdeal : Cert.FfnFwdHiddenIdeal.Facts] : Prop :=
  ∀ (m : (ℓ : Loc Cert.FfnFwdHiddenIdeal.nD Cert.FfnFwdHiddenIdeal.τ Cert.FfnFwdHiddenIdeal.sig) → Buf (Elt Ideal) ℓ) (g : Dev Cert.FfnFwdHiddenIdeal.nD → PrngReg), Pre_FfnFwdHiddenIdeal m →
    θ_run (Cert.FfnFwdHiddenIdeal.defs (F := Ideal)) (onTc (τ := Cert.FfnFwdHiddenIdeal.τ) (Cert.FfnFwdHiddenIdeal.main (F := Ideal))) ⟨m, fun _ => 0, g⟩ (fun r => (∀ c : Dev Cert.FfnFwdHiddenIdeal.nD,
      r.2.mem ((c.tc : Thread Cert.FfnFwdHiddenIdeal.nD Cert.FfnFwdHiddenIdeal.τ).loc Cert.FfnFwdHiddenIdeal.main_arg0) = m ((c.tc : Thread Cert.FfnFwdHiddenIdeal.nD Cert.FfnFwdHiddenIdeal.τ).loc Cert.FfnFwdHiddenIdeal.main_arg0)
      ∧ r.2.mem ((c.tc : Thread Cert.FfnFwdHiddenIdeal.nD Cert.FfnFwdHiddenIdeal.τ).loc Cert.FfnFwdHiddenIdeal.main_arg1) = m ((c.tc : Thread Cert.FfnFwdHiddenIdeal.nD Cert.FfnFwdHiddenIdeal.τ).loc Cert.FfnFwdHiddenIdeal.main_arg1))
      ∧ r.2.sem = fun _ => 0)

def quiescent_FfnFwdHiddenRefIdeal [hFfnFwdHiddenRefIdeal : Cert.FfnFwdHiddenRefIdeal.Facts] : Prop :=
  ∀ (m : (ℓ : Loc Cert.FfnFwdHiddenRefIdeal.nD Cert.FfnFwdHiddenRefIdeal.τ Cert.FfnFwdHiddenRefIdeal.sig) → Buf (Elt Ideal) ℓ) (g : Dev Cert.FfnFwdHiddenRefIdeal.nD → PrngReg), Pre_FfnFwdHiddenRefIdeal m →
    θ_run (Cert.FfnFwdHiddenRefIdeal.defs (F := Ideal)) (onTc (τ := Cert.FfnFwdHiddenRefIdeal.τ) (Cert.FfnFwdHiddenRefIdeal.main (F := Ideal))) ⟨m, fun _ => 0, g⟩ (fun r => (∀ c : Dev Cert.FfnFwdHiddenRefIdeal.nD,
      r.2.mem ((c.tc : Thread Cert.FfnFwdHiddenRefIdeal.nD Cert.FfnFwdHiddenRefIdeal.τ).loc Cert.FfnFwdHiddenRefIdeal.main_arg0) = m ((c.tc : Thread Cert.FfnFwdHiddenRefIdeal.nD Cert.FfnFwdHiddenRefIdeal.τ).loc Cert.FfnFwdHiddenRefIdeal.main_arg0)
      ∧ r.2.mem ((c.tc : Thread Cert.FfnFwdHiddenRefIdeal.nD Cert.FfnFwdHiddenRefIdeal.τ).loc Cert.FfnFwdHiddenRefIdeal.main_arg1) = m ((c.tc : Thread Cert.FfnFwdHiddenRefIdeal.nD Cert.FfnFwdHiddenRefIdeal.τ).loc Cert.FfnFwdHiddenRefIdeal.main_arg1))
      ∧ r.2.sem = fun _ => 0)

def quiescent_FfnFwdDown [hFfnFwdDown : Cert.FfnFwdDown.Facts] : Prop :=
  ∀ (m : (ℓ : Loc Cert.FfnFwdDown.nD Cert.FfnFwdDown.τ Cert.FfnFwdDown.sig) → Buf (Elt Bits) ℓ) (g : Dev Cert.FfnFwdDown.nD → PrngReg), Pre_FfnFwdDown m →
    θ_run (Cert.FfnFwdDown.defs (F := Bits)) (onTc (τ := Cert.FfnFwdDown.τ) (Cert.FfnFwdDown.main (F := Bits))) ⟨m, fun _ => 0, g⟩ (fun r => (∀ c : Dev Cert.FfnFwdDown.nD,
      r.2.mem ((c.tc : Thread Cert.FfnFwdDown.nD Cert.FfnFwdDown.τ).loc Cert.FfnFwdDown.main_arg0) = m ((c.tc : Thread Cert.FfnFwdDown.nD Cert.FfnFwdDown.τ).loc Cert.FfnFwdDown.main_arg0)
      ∧ r.2.mem ((c.tc : Thread Cert.FfnFwdDown.nD Cert.FfnFwdDown.τ).loc Cert.FfnFwdDown.main_arg1) = m ((c.tc : Thread Cert.FfnFwdDown.nD Cert.FfnFwdDown.τ).loc Cert.FfnFwdDown.main_arg1)
      ∧ r.2.mem ((c.tc : Thread Cert.FfnFwdDown.nD Cert.FfnFwdDown.τ).loc Cert.FfnFwdDown.main_arg2) = m ((c.tc : Thread Cert.FfnFwdDown.nD Cert.FfnFwdDown.τ).loc Cert.FfnFwdDown.main_arg2)
      ∧ r.2.mem ((c.tc : Thread Cert.FfnFwdDown.nD Cert.FfnFwdDown.τ).loc Cert.FfnFwdDown.main_arg3) = m ((c.tc : Thread Cert.FfnFwdDown.nD Cert.FfnFwdDown.τ).loc Cert.FfnFwdDown.main_arg3)
      ∧ r.2.mem ((c.tc : Thread Cert.FfnFwdDown.nD Cert.FfnFwdDown.τ).loc Cert.FfnFwdDown.main_arg4) = m ((c.tc : Thread Cert.FfnFwdDown.nD Cert.FfnFwdDown.τ).loc Cert.FfnFwdDown.main_arg4))
      ∧ r.2.sem = fun _ => 0)

def quiescent_FfnFwdDownIdeal [hFfnFwdDownIdeal : Cert.FfnFwdDownIdeal.Facts] : Prop :=
  ∀ (m : (ℓ : Loc Cert.FfnFwdDownIdeal.nD Cert.FfnFwdDownIdeal.τ Cert.FfnFwdDownIdeal.sig) → Buf (Elt Ideal) ℓ) (g : Dev Cert.FfnFwdDownIdeal.nD → PrngReg), Pre_FfnFwdDownIdeal m →
    θ_run (Cert.FfnFwdDownIdeal.defs (F := Ideal)) (onTc (τ := Cert.FfnFwdDownIdeal.τ) (Cert.FfnFwdDownIdeal.main (F := Ideal))) ⟨m, fun _ => 0, g⟩ (fun r => (∀ c : Dev Cert.FfnFwdDownIdeal.nD,
      r.2.mem ((c.tc : Thread Cert.FfnFwdDownIdeal.nD Cert.FfnFwdDownIdeal.τ).loc Cert.FfnFwdDownIdeal.main_arg0) = m ((c.tc : Thread Cert.FfnFwdDownIdeal.nD Cert.FfnFwdDownIdeal.τ).loc Cert.FfnFwdDownIdeal.main_arg0)
      ∧ r.2.mem ((c.tc : Thread Cert.FfnFwdDownIdeal.nD Cert.FfnFwdDownIdeal.τ).loc Cert.FfnFwdDownIdeal.main_arg1) = m ((c.tc : Thread Cert.FfnFwdDownIdeal.nD Cert.FfnFwdDownIdeal.τ).loc Cert.FfnFwdDownIdeal.main_arg1)
      ∧ r.2.mem ((c.tc : Thread Cert.FfnFwdDownIdeal.nD Cert.FfnFwdDownIdeal.τ).loc Cert.FfnFwdDownIdeal.main_arg2) = m ((c.tc : Thread Cert.FfnFwdDownIdeal.nD Cert.FfnFwdDownIdeal.τ).loc Cert.FfnFwdDownIdeal.main_arg2)
      ∧ r.2.mem ((c.tc : Thread Cert.FfnFwdDownIdeal.nD Cert.FfnFwdDownIdeal.τ).loc Cert.FfnFwdDownIdeal.main_arg3) = m ((c.tc : Thread Cert.FfnFwdDownIdeal.nD Cert.FfnFwdDownIdeal.τ).loc Cert.FfnFwdDownIdeal.main_arg3)
      ∧ r.2.mem ((c.tc : Thread Cert.FfnFwdDownIdeal.nD Cert.FfnFwdDownIdeal.τ).loc Cert.FfnFwdDownIdeal.main_arg4) = m ((c.tc : Thread Cert.FfnFwdDownIdeal.nD Cert.FfnFwdDownIdeal.τ).loc Cert.FfnFwdDownIdeal.main_arg4))
      ∧ r.2.sem = fun _ => 0)

def quiescent_FfnFwdDownRefIdeal [hFfnFwdDownRefIdeal : Cert.FfnFwdDownRefIdeal.Facts] : Prop :=
  ∀ (m : (ℓ : Loc Cert.FfnFwdDownRefIdeal.nD Cert.FfnFwdDownRefIdeal.τ Cert.FfnFwdDownRefIdeal.sig) → Buf (Elt Ideal) ℓ) (g : Dev Cert.FfnFwdDownRefIdeal.nD → PrngReg), Pre_FfnFwdDownRefIdeal m →
    θ_run (Cert.FfnFwdDownRefIdeal.defs (F := Ideal)) (onTc (τ := Cert.FfnFwdDownRefIdeal.τ) (Cert.FfnFwdDownRefIdeal.main (F := Ideal))) ⟨m, fun _ => 0, g⟩ (fun r => (∀ c : Dev Cert.FfnFwdDownRefIdeal.nD,
      r.2.mem ((c.tc : Thread Cert.FfnFwdDownRefIdeal.nD Cert.FfnFwdDownRefIdeal.τ).loc Cert.FfnFwdDownRefIdeal.main_arg0) = m ((c.tc : Thread Cert.FfnFwdDownRefIdeal.nD Cert.FfnFwdDownRefIdeal.τ).loc Cert.FfnFwdDownRefIdeal.main_arg0)
      ∧ r.2.mem ((c.tc : Thread Cert.FfnFwdDownRefIdeal.nD Cert.FfnFwdDownRefIdeal.τ).loc Cert.FfnFwdDownRefIdeal.main_arg1) = m ((c.tc : Thread Cert.FfnFwdDownRefIdeal.nD Cert.FfnFwdDownRefIdeal.τ).loc Cert.FfnFwdDownRefIdeal.main_arg1)
      ∧ r.2.mem ((c.tc : Thread Cert.FfnFwdDownRefIdeal.nD Cert.FfnFwdDownRefIdeal.τ).loc Cert.FfnFwdDownRefIdeal.main_arg2) = m ((c.tc : Thread Cert.FfnFwdDownRefIdeal.nD Cert.FfnFwdDownRefIdeal.τ).loc Cert.FfnFwdDownRefIdeal.main_arg2)
      ∧ r.2.mem ((c.tc : Thread Cert.FfnFwdDownRefIdeal.nD Cert.FfnFwdDownRefIdeal.τ).loc Cert.FfnFwdDownRefIdeal.main_arg3) = m ((c.tc : Thread Cert.FfnFwdDownRefIdeal.nD Cert.FfnFwdDownRefIdeal.τ).loc Cert.FfnFwdDownRefIdeal.main_arg3)
      ∧ r.2.mem ((c.tc : Thread Cert.FfnFwdDownRefIdeal.nD Cert.FfnFwdDownRefIdeal.τ).loc Cert.FfnFwdDownRefIdeal.main_arg4) = m ((c.tc : Thread Cert.FfnFwdDownRefIdeal.nD Cert.FfnFwdDownRefIdeal.τ).loc Cert.FfnFwdDownRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InInput [hInInput : Cert.InInput.Facts] : Prop :=
  ∀ (m : (ℓ : Loc Cert.InInput.nD Cert.InInput.τ Cert.InInput.sig) → Buf (Elt Bits) ℓ) (g : Dev Cert.InInput.nD → PrngReg), Pre_InInput m →
    θ_run (Cert.InInput.defs (F := Bits)) (onTc (τ := Cert.InInput.τ) (Cert.InInput.main (F := Bits))) ⟨m, fun _ => 0, g⟩ (fun r => (∀ c : Dev Cert.InInput.nD,
      r.2.mem ((c.tc : Thread Cert.InInput.nD Cert.InInput.τ).loc Cert.InInput.main_arg0) = m ((c.tc : Thread Cert.InInput.nD Cert.InInput.τ).loc Cert.InInput.main_arg0)
      ∧ r.2.mem ((c.tc : Thread Cert.InInput.nD Cert.InInput.τ).loc Cert.InInput.main_arg1) = m ((c.tc : Thread Cert.InInput.nD Cert.InInput.τ).loc Cert.InInput.main_arg1)
      ∧ r.2.mem ((c.tc : Thread Cert.InInput.nD Cert.InInput.τ).loc Cert.InInput.main_arg2) = m ((c.tc : Thread Cert.InInput.nD Cert.InInput.τ).loc Cert.InInput.main_arg2))
      ∧ r.2.sem = fun _ => 0)

def quiescent_InInputIdeal [hInInputIdeal : Cert.InInputIdeal.Facts] : Prop :=
  ∀ (m : (ℓ : Loc Cert.InInputIdeal.nD Cert.InInputIdeal.τ Cert.InInputIdeal.sig) → Buf (Elt Ideal) ℓ) (g : Dev Cert.InInputIdeal.nD → PrngReg), Pre_InInputIdeal m →
    θ_run (Cert.InInputIdeal.defs (F := Ideal)) (onTc (τ := Cert.InInputIdeal.τ) (Cert.InInputIdeal.main (F := Ideal))) ⟨m, fun _ => 0, g⟩ (fun r => (∀ c : Dev Cert.InInputIdeal.nD,
      r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
      ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1)
      ∧ r.2.mem ((c.tc : Thread Cert.InInputIdeal.nD Cert.InInputIdeal.τ).loc Cert.InInputIdeal.main_arg2) = m ((c.tc : Thread Cert.InInputIdeal.nD Cert.InInputIdeal.τ).loc Cert.InInputIdeal.main_arg2))
      ∧ r.2.sem = fun _ => 0)

def quiescent_InInputRefIdeal [hInInputRefIdeal : Cert.InInputRefIdeal.Facts] : Prop :=
  ∀ (m : (ℓ : Loc Cert.InInputRefIdeal.nD Cert.InInputRefIdeal.τ Cert.InInputRefIdeal.sig) → Buf (Elt Ideal) ℓ) (g : Dev Cert.InInputRefIdeal.nD → PrngReg), Pre_InInputRefIdeal m →
    θ_run (Cert.InInputRefIdeal.defs (F := Ideal)) (onTc (τ := Cert.InInputRefIdeal.τ) (Cert.InInputRefIdeal.main (F := Ideal))) ⟨m, fun _ => 0, g⟩ (fun r => (∀ c : Dev Cert.InInputRefIdeal.nD,
      r.2.mem ((c.tc : Thread Cert.InInputRefIdeal.nD Cert.InInputRefIdeal.τ).loc Cert.InInputRefIdeal.main_arg0) = m ((c.tc : Thread Cert.InInputRefIdeal.nD Cert.InInputRefIdeal.τ).loc Cert.InInputRefIdeal.main_arg0)
      ∧ r.2.mem ((c.tc : Thread Cert.InInputRefIdeal.nD Cert.InInputRefIdeal.τ).loc Cert.InInputRefIdeal.main_arg1) = m ((c.tc : Thread Cert.InInputRefIdeal.nD Cert.InInputRefIdeal.τ).loc Cert.InInputRefIdeal.main_arg1)
      ∧ r.2.mem ((c.tc : Thread Cert.InInputRefIdeal.nD Cert.InInputRefIdeal.τ).loc Cert.InInputRefIdeal.main_arg2) = m ((c.tc : Thread Cert.InInputRefIdeal.nD Cert.InInputRefIdeal.τ).loc Cert.InInputRefIdeal.main_arg2))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_SquareGrad [hSquareGrad : Cert.SquareGrad.Facts] : Prop :=
  ∀ (m : (ℓ : Loc Cert.SquareGrad.nD Cert.SquareGrad.τ Cert.SquareGrad.sig) → Buf (Elt Bits) ℓ) (g : Dev Cert.SquareGrad.nD → PrngReg), Pre_SquareGrad m →
    θ_run (Cert.SquareGrad.defs (F := Bits)) (onTc (τ := Cert.SquareGrad.τ) (Cert.SquareGrad.main (F := Bits))) ⟨m, fun _ => 0, g⟩ (fun r => (∀ c : Dev Cert.SquareGrad.nD,
      r.2.mem ((c.tc : Thread Cert.SquareGrad.nD Cert.SquareGrad.τ).loc Cert.SquareGrad.main_arg0) = m ((c.tc : Thread Cert.SquareGrad.nD Cert.SquareGrad.τ).loc Cert.SquareGrad.main_arg0)
      ∧ r.2.mem ((c.tc : Thread Cert.SquareGrad.nD Cert.SquareGrad.τ).loc Cert.SquareGrad.main_arg1) = m ((c.tc : Thread Cert.SquareGrad.nD Cert.SquareGrad.τ).loc Cert.SquareGrad.main_arg1))
      ∧ r.2.sem = fun _ => 0)

def quiescent_SquareGradIdeal [hSquareGradIdeal : Cert.SquareGradIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg), Pre_SquareGradIdeal m →
    θ_run (Cert.SquareGradIdeal.defs (F := Ideal)) (onTc (τ := Cert.SquareGradIdeal.τ) (Cert.SquareGradIdeal.main (F := Ideal))) ⟨m, fun _ => 0, g⟩ (fun r => (∀ c : Dev Cert.SquareGradIdeal.nD,
      r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
      ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ r.2.sem = fun _ => 0)

def quiescent_SquareGradRefIdeal [hSquareGradRefIdeal : Cert.SquareGradRefIdeal.Facts] : Prop :=
  ∀ (m : (ℓ : Loc Cert.SquareGradRefIdeal.nD Cert.SquareGradRefIdeal.τ Cert.SquareGradRefIdeal.sig) → Buf (Elt Ideal) ℓ) (g : Dev Cert.SquareGradRefIdeal.nD → PrngReg), Pre_SquareGradRefIdeal m →
    θ_run (Cert.SquareGradRefIdeal.defs (F := Ideal)) (onTc (τ := Cert.SquareGradRefIdeal.τ) (Cert.SquareGradRefIdeal.main (F := Ideal))) ⟨m, fun _ => 0, g⟩ (fun r => (∀ c : Dev Cert.SquareGradRefIdeal.nD,
      r.2.mem ((c.tc : Thread Cert.SquareGradRefIdeal.nD Cert.SquareGradRefIdeal.τ).loc Cert.SquareGradRefIdeal.main_arg0) = m ((c.tc : Thread Cert.SquareGradRefIdeal.nD Cert.SquareGradRefIdeal.τ).loc Cert.SquareGradRefIdeal.main_arg0)
      ∧ r.2.mem ((c.tc : Thread Cert.SquareGradRefIdeal.nD Cert.SquareGradRefIdeal.τ).loc Cert.SquareGradRefIdeal.main_arg1) = m ((c.tc : Thread Cert.SquareGradRefIdeal.nD Cert.SquareGradRefIdeal.τ).loc Cert.SquareGradRefIdeal.main_arg1))
      ∧ r.2.sem = fun _ => 0)

def quiescent_KvGrad [hKvGrad : Cert.KvGrad.Facts] : Prop :=
  ∀ (m : (ℓ : Loc Cert.KvGrad.nD Cert.KvGrad.τ Cert.KvGrad.sig) → Buf (Elt Bits) ℓ) (g : Dev Cert.KvGrad.nD → PrngReg), Pre_KvGrad m →
    θ_run (Cert.KvGrad.defs (F := Bits)) (onTc (τ := Cert.KvGrad.τ) (Cert.KvGrad.main (F := Bits))) ⟨m, fun _ => 0, g⟩ (fun r => (∀ c : Dev Cert.KvGrad.nD,
      r.2.mem ((c.tc : Thread Cert.KvGrad.nD Cert.KvGrad.τ).loc Cert.KvGrad.main_arg0) = m ((c.tc : Thread Cert.KvGrad.nD Cert.KvGrad.τ).loc Cert.KvGrad.main_arg0)
      ∧ r.2.mem ((c.tc : Thread Cert.KvGrad.nD Cert.KvGrad.τ).loc Cert.KvGrad.main_arg1) = m ((c.tc : Thread Cert.KvGrad.nD Cert.KvGrad.τ).loc Cert.KvGrad.main_arg1))
      ∧ r.2.sem = fun _ => 0)

def quiescent_KvGradIdeal [hKvGradIdeal : Cert.KvGradIdeal.Facts] : Prop :=
  ∀ (m : (ℓ : Loc Cert.KvGradIdeal.nD Cert.KvGradIdeal.τ Cert.KvGradIdeal.sig) → Buf (Elt Ideal) ℓ) (g : Dev Cert.KvGradIdeal.nD → PrngReg), Pre_KvGradIdeal m →
    θ_run (Cert.KvGradIdeal.defs (F := Ideal)) (onTc (τ := Cert.KvGradIdeal.τ) (Cert.KvGradIdeal.main (F := Ideal))) ⟨m, fun _ => 0, g⟩ (fun r => (∀ c : Dev Cert.KvGradIdeal.nD,
      r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
      ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1))
      ∧ r.2.sem = fun _ => 0)

def quiescent_KvGradRefIdeal [hKvGradRefIdeal : Cert.KvGradRefIdeal.Facts] : Prop :=
  ∀ (m : (ℓ : Loc Cert.KvGradRefIdeal.nD Cert.KvGradRefIdeal.τ Cert.KvGradRefIdeal.sig) → Buf (Elt Ideal) ℓ) (g : Dev Cert.KvGradRefIdeal.nD → PrngReg), Pre_KvGradRefIdeal m →
    θ_run (Cert.KvGradRefIdeal.defs (F := Ideal)) (onTc (τ := Cert.KvGradRefIdeal.τ) (Cert.KvGradRefIdeal.main (F := Ideal))) ⟨m, fun _ => 0, g⟩ (fun r => (∀ c : Dev Cert.KvGradRefIdeal.nD,
      r.2.mem ((c.tc : Thread Cert.KvGradRefIdeal.nD Cert.KvGradRefIdeal.τ).loc Cert.KvGradRefIdeal.main_arg0) = m ((c.tc : Thread Cert.KvGradRefIdeal.nD Cert.KvGradRefIdeal.τ).loc Cert.KvGradRefIdeal.main_arg0)
      ∧ r.2.mem ((c.tc : Thread Cert.KvGradRefIdeal.nD Cert.KvGradRefIdeal.τ).loc Cert.KvGradRefIdeal.main_arg1) = m ((c.tc : Thread Cert.KvGradRefIdeal.nD Cert.KvGradRefIdeal.τ).loc Cert.KvGradRefIdeal.main_arg1))
      ∧ r.2.sem = fun _ => 0)

def quiescent_PleUpGrad [hPleUpGrad : Cert.PleUpGrad.Facts] : Prop :=
  ∀ (m : (ℓ : Loc Cert.PleUpGrad.nD Cert.PleUpGrad.τ Cert.PleUpGrad.sig) → Buf (Elt Bits) ℓ) (g : Dev Cert.PleUpGrad.nD → PrngReg), Pre_PleUpGrad m →
    θ_run (Cert.PleUpGrad.defs (F := Bits)) (onTc (τ := Cert.PleUpGrad.τ) (Cert.PleUpGrad.main (F := Bits))) ⟨m, fun _ => 0, g⟩ (fun r => (∀ c : Dev Cert.PleUpGrad.nD,
      r.2.mem ((c.tc : Thread Cert.PleUpGrad.nD Cert.PleUpGrad.τ).loc Cert.PleUpGrad.main_arg0) = m ((c.tc : Thread Cert.PleUpGrad.nD Cert.PleUpGrad.τ).loc Cert.PleUpGrad.main_arg0)
      ∧ r.2.mem ((c.tc : Thread Cert.PleUpGrad.nD Cert.PleUpGrad.τ).loc Cert.PleUpGrad.main_arg1) = m ((c.tc : Thread Cert.PleUpGrad.nD Cert.PleUpGrad.τ).loc Cert.PleUpGrad.main_arg1))
      ∧ r.2.sem = fun _ => 0)

def quiescent_PleUpGradIdeal [hPleUpGradIdeal : Cert.PleUpGradIdeal.Facts] : Prop :=
  ∀ (m : (ℓ : Loc Cert.PleUpGradIdeal.nD Cert.PleUpGradIdeal.τ Cert.PleUpGradIdeal.sig) → Buf (Elt Ideal) ℓ) (g : Dev Cert.PleUpGradIdeal.nD → PrngReg), Pre_PleUpGradIdeal m →
    θ_run (Cert.PleUpGradIdeal.defs (F := Ideal)) (onTc (τ := Cert.PleUpGradIdeal.τ) (Cert.PleUpGradIdeal.main (F := Ideal))) ⟨m, fun _ => 0, g⟩ (fun r => (∀ c : Dev Cert.PleUpGradIdeal.nD,
      r.2.mem ((c.tc : Thread Cert.PleUpGradIdeal.nD Cert.PleUpGradIdeal.τ).loc Cert.PleUpGradIdeal.main_arg0) = m ((c.tc : Thread Cert.PleUpGradIdeal.nD Cert.PleUpGradIdeal.τ).loc Cert.PleUpGradIdeal.main_arg0)
      ∧ r.2.mem ((c.tc : Thread Cert.PleUpGradIdeal.nD Cert.PleUpGradIdeal.τ).loc Cert.PleUpGradIdeal.main_arg1) = m ((c.tc : Thread Cert.PleUpGradIdeal.nD Cert.PleUpGradIdeal.τ).loc Cert.PleUpGradIdeal.main_arg1))
      ∧ r.2.sem = fun _ => 0)

def quiescent_PleUpGradRefIdeal [hPleUpGradRefIdeal : Cert.PleUpGradRefIdeal.Facts] : Prop :=
  ∀ (m : (ℓ : Loc Cert.PleUpGradRefIdeal.nD Cert.PleUpGradRefIdeal.τ Cert.PleUpGradRefIdeal.sig) → Buf (Elt Ideal) ℓ) (g : Dev Cert.PleUpGradRefIdeal.nD → PrngReg), Pre_PleUpGradRefIdeal m →
    θ_run (Cert.PleUpGradRefIdeal.defs (F := Ideal)) (onTc (τ := Cert.PleUpGradRefIdeal.τ) (Cert.PleUpGradRefIdeal.main (F := Ideal))) ⟨m, fun _ => 0, g⟩ (fun r => (∀ c : Dev Cert.PleUpGradRefIdeal.nD,
      r.2.mem ((c.tc : Thread Cert.PleUpGradRefIdeal.nD Cert.PleUpGradRefIdeal.τ).loc Cert.PleUpGradRefIdeal.main_arg0) = m ((c.tc : Thread Cert.PleUpGradRefIdeal.nD Cert.PleUpGradRefIdeal.τ).loc Cert.PleUpGradRefIdeal.main_arg0)
      ∧ r.2.mem ((c.tc : Thread Cert.PleUpGradRefIdeal.nD Cert.PleUpGradRefIdeal.τ).loc Cert.PleUpGradRefIdeal.main_arg1) = m ((c.tc : Thread Cert.PleUpGradRefIdeal.nD Cert.PleUpGradRefIdeal.τ).loc Cert.PleUpGradRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamGateUp [hAdamGateUp : Cert.AdamGateUp.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3)
      ∧ r.2.mem ((c.tc : Thread Cert.AdamGateUp.nD Cert.AdamGateUp.τ).loc Cert.AdamGateUp.main_arg4) = m ((c.tc : Thread Cert.AdamGateUp.nD Cert.AdamGateUp.τ).loc Cert.AdamGateUp.main_arg4))
      ∧ r.2.sem = fun _ => 0)

def quiescent_AdamGateUpIdeal [hAdamGateUpIdeal : Cert.AdamGateUpIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3)
      ∧ r.2.mem ((c.tc : Thread Cert.AdamGateUpIdeal.nD Cert.AdamGateUpIdeal.τ).loc Cert.AdamGateUpIdeal.main_arg4) = m ((c.tc : Thread Cert.AdamGateUpIdeal.nD Cert.AdamGateUpIdeal.τ).loc Cert.AdamGateUpIdeal.main_arg4))
      ∧ r.2.sem = fun _ => 0)

def quiescent_AdamGateUpRefIdeal [hAdamGateUpRefIdeal : Cert.AdamGateUpRefIdeal.Facts] : Prop :=
  ∀ (m : (ℓ : Loc Cert.AdamGateUpRefIdeal.nD Cert.AdamGateUpRefIdeal.τ Cert.AdamGateUpRefIdeal.sig) → Buf (Elt Ideal) ℓ) (g : Dev Cert.AdamGateUpRefIdeal.nD → PrngReg), Pre_AdamGateUpRefIdeal m →
    θ_run (Cert.AdamGateUpRefIdeal.defs (F := Ideal)) (onTc (τ := Cert.AdamGateUpRefIdeal.τ) (Cert.AdamGateUpRefIdeal.main (F := Ideal))) ⟨m, fun _ => 0, g⟩ (fun r => (∀ c : Dev Cert.AdamGateUpRefIdeal.nD,
      r.2.mem ((c.tc : Thread Cert.AdamGateUpRefIdeal.nD Cert.AdamGateUpRefIdeal.τ).loc Cert.AdamGateUpRefIdeal.main_arg0) = m ((c.tc : Thread Cert.AdamGateUpRefIdeal.nD Cert.AdamGateUpRefIdeal.τ).loc Cert.AdamGateUpRefIdeal.main_arg0)
      ∧ r.2.mem ((c.tc : Thread Cert.AdamGateUpRefIdeal.nD Cert.AdamGateUpRefIdeal.τ).loc Cert.AdamGateUpRefIdeal.main_arg1) = m ((c.tc : Thread Cert.AdamGateUpRefIdeal.nD Cert.AdamGateUpRefIdeal.τ).loc Cert.AdamGateUpRefIdeal.main_arg1)
      ∧ r.2.mem ((c.tc : Thread Cert.AdamGateUpRefIdeal.nD Cert.AdamGateUpRefIdeal.τ).loc Cert.AdamGateUpRefIdeal.main_arg2) = m ((c.tc : Thread Cert.AdamGateUpRefIdeal.nD Cert.AdamGateUpRefIdeal.τ).loc Cert.AdamGateUpRefIdeal.main_arg2)
      ∧ r.2.mem ((c.tc : Thread Cert.AdamGateUpRefIdeal.nD Cert.AdamGateUpRefIdeal.τ).loc Cert.AdamGateUpRefIdeal.main_arg3) = m ((c.tc : Thread Cert.AdamGateUpRefIdeal.nD Cert.AdamGateUpRefIdeal.τ).loc Cert.AdamGateUpRefIdeal.main_arg3)
      ∧ r.2.mem ((c.tc : Thread Cert.AdamGateUpRefIdeal.nD Cert.AdamGateUpRefIdeal.τ).loc Cert.AdamGateUpRefIdeal.main_arg4) = m ((c.tc : Thread Cert.AdamGateUpRefIdeal.nD Cert.AdamGateUpRefIdeal.τ).loc Cert.AdamGateUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamPleUp [hAdamPleUp : Cert.AdamPleUp.Facts] : Prop :=
  ∀ (m : (ℓ : Loc Cert.AdamPleUp.nD Cert.AdamPleUp.τ Cert.AdamPleUp.sig) → Buf (Elt Bits) ℓ) (g : Dev Cert.AdamPleUp.nD → PrngReg), Pre_AdamPleUp m →
    θ_run (Cert.AdamPleUp.defs (F := Bits)) (onTc (τ := Cert.AdamPleUp.τ) (Cert.AdamPleUp.main (F := Bits))) ⟨m, fun _ => 0, g⟩ (fun r => (∀ c : Dev Cert.AdamPleUp.nD,
      r.2.mem ((c.tc : Thread Cert.AdamPleUp.nD Cert.AdamPleUp.τ).loc Cert.AdamPleUp.main_arg0) = m ((c.tc : Thread Cert.AdamPleUp.nD Cert.AdamPleUp.τ).loc Cert.AdamPleUp.main_arg0)
      ∧ r.2.mem ((c.tc : Thread Cert.AdamPleUp.nD Cert.AdamPleUp.τ).loc Cert.AdamPleUp.main_arg1) = m ((c.tc : Thread Cert.AdamPleUp.nD Cert.AdamPleUp.τ).loc Cert.AdamPleUp.main_arg1)
      ∧ r.2.mem ((c.tc : Thread Cert.AdamPleUp.nD Cert.AdamPleUp.τ).loc Cert.AdamPleUp.main_arg2) = m ((c.tc : Thread Cert.AdamPleUp.nD Cert.AdamPleUp.τ).loc Cert.AdamPleUp.main_arg2)
      ∧ r.2.mem ((c.tc : Thread Cert.AdamPleUp.nD Cert.AdamPleUp.τ).loc Cert.AdamPleUp.main_arg3) = m ((c.tc : Thread Cert.AdamPleUp.nD Cert.AdamPleUp.τ).loc Cert.AdamPleUp.main_arg3)
      ∧ r.2.mem ((c.tc : Thread Cert.AdamPleUp.nD Cert.AdamPleUp.τ).loc Cert.AdamPleUp.main_arg4) = m ((c.tc : Thread Cert.AdamPleUp.nD Cert.AdamPleUp.τ).loc Cert.AdamPleUp.main_arg4))
      ∧ r.2.sem = fun _ => 0)

def quiescent_AdamPleUpIdeal [hAdamPleUpIdeal : Cert.AdamPleUpIdeal.Facts] : Prop :=
  ∀ (m : (ℓ : Loc Cert.AdamPleUpIdeal.nD Cert.AdamPleUpIdeal.τ Cert.AdamPleUpIdeal.sig) → Buf (Elt Ideal) ℓ) (g : Dev Cert.AdamPleUpIdeal.nD → PrngReg), Pre_AdamPleUpIdeal m →
    θ_run (Cert.AdamPleUpIdeal.defs (F := Ideal)) (onTc (τ := Cert.AdamPleUpIdeal.τ) (Cert.AdamPleUpIdeal.main (F := Ideal))) ⟨m, fun _ => 0, g⟩ (fun r => (∀ c : Dev Cert.AdamPleUpIdeal.nD,
      r.2.mem ((c.tc : Thread Cert.AdamPleUpIdeal.nD Cert.AdamPleUpIdeal.τ).loc Cert.AdamPleUpIdeal.main_arg0) = m ((c.tc : Thread Cert.AdamPleUpIdeal.nD Cert.AdamPleUpIdeal.τ).loc Cert.AdamPleUpIdeal.main_arg0)
      ∧ r.2.mem ((c.tc : Thread Cert.AdamPleUpIdeal.nD Cert.AdamPleUpIdeal.τ).loc Cert.AdamPleUpIdeal.main_arg1) = m ((c.tc : Thread Cert.AdamPleUpIdeal.nD Cert.AdamPleUpIdeal.τ).loc Cert.AdamPleUpIdeal.main_arg1)
      ∧ r.2.mem ((c.tc : Thread Cert.AdamPleUpIdeal.nD Cert.AdamPleUpIdeal.τ).loc Cert.AdamPleUpIdeal.main_arg2) = m ((c.tc : Thread Cert.AdamPleUpIdeal.nD Cert.AdamPleUpIdeal.τ).loc Cert.AdamPleUpIdeal.main_arg2)
      ∧ r.2.mem ((c.tc : Thread Cert.AdamPleUpIdeal.nD Cert.AdamPleUpIdeal.τ).loc Cert.AdamPleUpIdeal.main_arg3) = m ((c.tc : Thread Cert.AdamPleUpIdeal.nD Cert.AdamPleUpIdeal.τ).loc Cert.AdamPleUpIdeal.main_arg3)
      ∧ r.2.mem ((c.tc : Thread Cert.AdamPleUpIdeal.nD Cert.AdamPleUpIdeal.τ).loc Cert.AdamPleUpIdeal.main_arg4) = m ((c.tc : Thread Cert.AdamPleUpIdeal.nD Cert.AdamPleUpIdeal.τ).loc Cert.AdamPleUpIdeal.main_arg4))
      ∧ r.2.sem = fun _ => 0)

def quiescent_AdamPleUpRefIdeal [hAdamPleUpRefIdeal : Cert.AdamPleUpRefIdeal.Facts] : Prop :=
  ∀ (m : (ℓ : Loc Cert.AdamPleUpRefIdeal.nD Cert.AdamPleUpRefIdeal.τ Cert.AdamPleUpRefIdeal.sig) → Buf (Elt Ideal) ℓ) (g : Dev Cert.AdamPleUpRefIdeal.nD → PrngReg), Pre_AdamPleUpRefIdeal m →
    θ_run (Cert.AdamPleUpRefIdeal.defs (F := Ideal)) (onTc (τ := Cert.AdamPleUpRefIdeal.τ) (Cert.AdamPleUpRefIdeal.main (F := Ideal))) ⟨m, fun _ => 0, g⟩ (fun r => (∀ c : Dev Cert.AdamPleUpRefIdeal.nD,
      r.2.mem ((c.tc : Thread Cert.AdamPleUpRefIdeal.nD Cert.AdamPleUpRefIdeal.τ).loc Cert.AdamPleUpRefIdeal.main_arg0) = m ((c.tc : Thread Cert.AdamPleUpRefIdeal.nD Cert.AdamPleUpRefIdeal.τ).loc Cert.AdamPleUpRefIdeal.main_arg0)
      ∧ r.2.mem ((c.tc : Thread Cert.AdamPleUpRefIdeal.nD Cert.AdamPleUpRefIdeal.τ).loc Cert.AdamPleUpRefIdeal.main_arg1) = m ((c.tc : Thread Cert.AdamPleUpRefIdeal.nD Cert.AdamPleUpRefIdeal.τ).loc Cert.AdamPleUpRefIdeal.main_arg1)
      ∧ r.2.mem ((c.tc : Thread Cert.AdamPleUpRefIdeal.nD Cert.AdamPleUpRefIdeal.τ).loc Cert.AdamPleUpRefIdeal.main_arg2) = m ((c.tc : Thread Cert.AdamPleUpRefIdeal.nD Cert.AdamPleUpRefIdeal.τ).loc Cert.AdamPleUpRefIdeal.main_arg2)
      ∧ r.2.mem ((c.tc : Thread Cert.AdamPleUpRefIdeal.nD Cert.AdamPleUpRefIdeal.τ).loc Cert.AdamPleUpRefIdeal.main_arg3) = m ((c.tc : Thread Cert.AdamPleUpRefIdeal.nD Cert.AdamPleUpRefIdeal.τ).loc Cert.AdamPleUpRefIdeal.main_arg3)
      ∧ r.2.mem ((c.tc : Thread Cert.AdamPleUpRefIdeal.nD Cert.AdamPleUpRefIdeal.τ).loc Cert.AdamPleUpRefIdeal.main_arg4) = m ((c.tc : Thread Cert.AdamPleUpRefIdeal.nD Cert.AdamPleUpRefIdeal.τ).loc Cert.AdamPleUpRefIdeal.main_arg4))
      ∧ r.2.sem = fun _ => 0)

def quiescent_AdamPleGate [hAdamPleGate : Cert.AdamPleGate.Facts] : Prop :=
  ∀ (m : (ℓ : Loc Cert.AdamPleGate.nD Cert.AdamPleGate.τ Cert.AdamPleGate.sig) → Buf (Elt Bits) ℓ) (g : Dev Cert.AdamPleGate.nD → PrngReg), Pre_AdamPleGate m →
    θ_run (Cert.AdamPleGate.defs (F := Bits)) (onTc (τ := Cert.AdamPleGate.τ) (Cert.AdamPleGate.main (F := Bits))) ⟨m, fun _ => 0, g⟩ (fun r => (∀ c : Dev Cert.AdamPleGate.nD,
      r.2.mem ((c.tc : Thread Cert.AdamPleGate.nD Cert.AdamPleGate.τ).loc Cert.AdamPleGate.main_arg0) = m ((c.tc : Thread Cert.AdamPleGate.nD Cert.AdamPleGate.τ).loc Cert.AdamPleGate.main_arg0)
      ∧ r.2.mem ((c.tc : Thread Cert.AdamPleGate.nD Cert.AdamPleGate.τ).loc Cert.AdamPleGate.main_arg1) = m ((c.tc : Thread Cert.AdamPleGate.nD Cert.AdamPleGate.τ).loc Cert.AdamPleGate.main_arg1)
      ∧ r.2.mem ((c.tc : Thread Cert.AdamPleGate.nD Cert.AdamPleGate.τ).loc Cert.AdamPleGate.main_arg2) = m ((c.tc : Thread Cert.AdamPleGate.nD Cert.AdamPleGate.τ).loc Cert.AdamPleGate.main_arg2)
      ∧ r.2.mem ((c.tc : Thread Cert.AdamPleGate.nD Cert.AdamPleGate.τ).loc Cert.AdamPleGate.main_arg3) = m ((c.tc : Thread Cert.AdamPleGate.nD Cert.AdamPleGate.τ).loc Cert.AdamPleGate.main_arg3)
      ∧ r.2.mem ((c.tc : Thread Cert.AdamPleGate.nD Cert.AdamPleGate.τ).loc Cert.AdamPleGate.main_arg4) = m ((c.tc : Thread Cert.AdamPleGate.nD Cert.AdamPleGate.τ).loc Cert.AdamPleGate.main_arg4))
      ∧ r.2.sem = fun _ => 0)

def quiescent_AdamPleGateIdeal [hAdamPleGateIdeal : Cert.AdamPleGateIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg), Pre_AdamPleGateIdeal m →
    θ_run (Cert.AdamPleGateIdeal.defs (F := Ideal)) (onTc (τ := Cert.AdamPleGateIdeal.τ) (Cert.AdamPleGateIdeal.main (F := Ideal))) ⟨m, fun _ => 0, g⟩ (fun r => (∀ c : Dev Cert.AdamPleGateIdeal.nD,
      r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
      ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
      ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
      ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3)
      ∧ r.2.mem ((c.tc : Thread Cert.AdamPleGateIdeal.nD Cert.AdamPleGateIdeal.τ).loc Cert.AdamPleGateIdeal.main_arg4) = m ((c.tc : Thread Cert.AdamPleGateIdeal.nD Cert.AdamPleGateIdeal.τ).loc Cert.AdamPleGateIdeal.main_arg4))
      ∧ r.2.sem = fun _ => 0)

def quiescent_AdamPleGateRefIdeal [hAdamPleGateRefIdeal : Cert.AdamPleGateRefIdeal.Facts] : Prop :=
  ∀ (m : (ℓ : Loc Cert.AdamPleGateRefIdeal.nD Cert.AdamPleGateRefIdeal.τ Cert.AdamPleGateRefIdeal.sig) → Buf (Elt Ideal) ℓ) (g : Dev Cert.AdamPleGateRefIdeal.nD → PrngReg), Pre_AdamPleGateRefIdeal m →
    θ_run (Cert.AdamPleGateRefIdeal.defs (F := Ideal)) (onTc (τ := Cert.AdamPleGateRefIdeal.τ) (Cert.AdamPleGateRefIdeal.main (F := Ideal))) ⟨m, fun _ => 0, g⟩ (fun r => (∀ c : Dev Cert.AdamPleGateRefIdeal.nD,
      r.2.mem ((c.tc : Thread Cert.AdamPleGateRefIdeal.nD Cert.AdamPleGateRefIdeal.τ).loc Cert.AdamPleGateRefIdeal.main_arg0) = m ((c.tc : Thread Cert.AdamPleGateRefIdeal.nD Cert.AdamPleGateRefIdeal.τ).loc Cert.AdamPleGateRefIdeal.main_arg0)
      ∧ r.2.mem ((c.tc : Thread Cert.AdamPleGateRefIdeal.nD Cert.AdamPleGateRefIdeal.τ).loc Cert.AdamPleGateRefIdeal.main_arg1) = m ((c.tc : Thread Cert.AdamPleGateRefIdeal.nD Cert.AdamPleGateRefIdeal.τ).loc Cert.AdamPleGateRefIdeal.main_arg1)
      ∧ r.2.mem ((c.tc : Thread Cert.AdamPleGateRefIdeal.nD Cert.AdamPleGateRefIdeal.τ).loc Cert.AdamPleGateRefIdeal.main_arg2) = m ((c.tc : Thread Cert.AdamPleGateRefIdeal.nD Cert.AdamPleGateRefIdeal.τ).loc Cert.AdamPleGateRefIdeal.main_arg2)
      ∧ r.2.mem ((c.tc : Thread Cert.AdamPleGateRefIdeal.nD Cert.AdamPleGateRefIdeal.τ).loc Cert.AdamPleGateRefIdeal.main_arg3) = m ((c.tc : Thread Cert.AdamPleGateRefIdeal.nD Cert.AdamPleGateRefIdeal.τ).loc Cert.AdamPleGateRefIdeal.main_arg3)
      ∧ r.2.mem ((c.tc : Thread Cert.AdamPleGateRefIdeal.nD Cert.AdamPleGateRefIdeal.τ).loc Cert.AdamPleGateRefIdeal.main_arg4) = m ((c.tc : Thread Cert.AdamPleGateRefIdeal.nD Cert.AdamPleGateRefIdeal.τ).loc Cert.AdamPleGateRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36))
      ∧ r.2.sem = fun _ => 0)

def preserves_Kernel_KernelIdeal : Prop :=
  True

def preserves_FfnHidden_FfnHiddenIdeal : Prop :=
  True

def algebraic_FfnHiddenIdeal_FfnHiddenRefIdeal_pre_hidden_finite [hFfnHiddenIdeal : Cert.FfnHiddenIdeal.Facts] [hFfnHiddenRefIdeal : Cert.FfnHiddenRefIdeal.Facts] [hPre_hidden_finite : Cert.Pre_hidden_finite.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg)
    (m' : (ℓ : Loc Cert.FfnHiddenRefIdeal.nD Cert.FfnHiddenRefIdeal.τ Cert.FfnHiddenRefIdeal.sig) → Buf (Elt Ideal) ℓ) (g' : Dev Cert.FfnHiddenRefIdeal.nD → PrngReg), Pre_FfnHiddenIdeal_hidden_finite m →
    (∀ c : Dev Cert.FfnHiddenIdeal.nD,
      m' ((c.tc : Thread Cert.FfnHiddenRefIdeal.nD Cert.FfnHiddenRefIdeal.τ).loc Cert.FfnHiddenRefIdeal.main_arg0) = m ((c.tc : Thread Cert.FfnHiddenIdeal.nD Cert.FfnHiddenIdeal.τ).loc Cert.FfnHiddenIdeal.main_arg0)
      ∧ m' ((c.tc : Thread Cert.FfnHiddenRefIdeal.nD Cert.FfnHiddenRefIdeal.τ).loc Cert.FfnHiddenRefIdeal.main_arg1) = m ((c.tc : Thread Cert.FfnHiddenIdeal.nD Cert.FfnHiddenIdeal.τ).loc Cert.FfnHiddenIdeal.main_arg1)
      ∧ m' ((c.tc : Thread Cert.FfnHiddenRefIdeal.nD Cert.FfnHiddenRefIdeal.τ).loc Cert.FfnHiddenRefIdeal.main_arg2) = m ((c.tc : Thread Cert.FfnHiddenIdeal.nD Cert.FfnHiddenIdeal.τ).loc Cert.FfnHiddenIdeal.main_arg2)) →
    ∃ (v0 : (c : Dev Cert.FfnHiddenIdeal.nD) → Buf (Elt Ideal) ((c.tc : Thread Cert.FfnHiddenIdeal.nD Cert.FfnHiddenIdeal.τ).loc Cert.FfnHiddenIdeal.main_v0)),
      θ_run (Cert.FfnHiddenIdeal.defs (F := Ideal)) (onTc (τ := Cert.FfnHiddenIdeal.τ) (Cert.FfnHiddenIdeal.main (F := Ideal))) ⟨m, fun _ => 0, g⟩ (fun r => ∀ c : Dev Cert.FfnHiddenIdeal.nD,
          r.2.mem ((c.tc : Thread Cert.FfnHiddenIdeal.nD Cert.FfnHiddenIdeal.τ).loc Cert.FfnHiddenIdeal.main_v0) = v0 c
          ∧ r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
          ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
          ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2))
      ∧ θ_run (Cert.FfnHiddenRefIdeal.defs (F := Ideal)) (onTc (τ := Cert.FfnHiddenRefIdeal.τ) (Cert.FfnHiddenRefIdeal.main (F := Ideal))) ⟨m', fun _ => 0, g'⟩ (fun r => ∀ c : Dev Cert.FfnHiddenRefIdeal.nD,
          r.2.mem ((c.tc : Thread Cert.FfnHiddenRefIdeal.nD Cert.FfnHiddenRefIdeal.τ).loc Cert.FfnHiddenRefIdeal.main_v27) = v0 c
          ∧ r.2.mem ((c.tc : Thread Cert.FfnHiddenRefIdeal.nD Cert.FfnHiddenRefIdeal.τ).loc Cert.FfnHiddenRefIdeal.main_arg0) = m' ((c.tc : Thread Cert.FfnHiddenRefIdeal.nD Cert.FfnHiddenRefIdeal.τ).loc Cert.FfnHiddenRefIdeal.main_arg0)
          ∧ r.2.mem ((c.tc : Thread Cert.FfnHiddenRefIdeal.nD Cert.FfnHiddenRefIdeal.τ).loc Cert.FfnHiddenRefIdeal.main_arg1) = m' ((c.tc : Thread Cert.FfnHiddenRefIdeal.nD Cert.FfnHiddenRefIdeal.τ).loc Cert.FfnHiddenRefIdeal.main_arg1)
          ∧ r.2.mem ((c.tc : Thread Cert.FfnHiddenRefIdeal.nD Cert.FfnHiddenRefIdeal.τ).loc Cert.FfnHiddenRefIdeal.main_arg2) = m' ((c.tc : Thread Cert.FfnHiddenRefIdeal.nD Cert.FfnHiddenRefIdeal.τ).loc Cert.FfnHiddenRefIdeal.main_arg2))

def preserves_FfnDownGrad_FfnDownGradIdeal : Prop :=
  True

def algebraic_FfnDownGradIdeal_FfnDownGradRefIdeal [hFfnDownGradIdeal : Cert.FfnDownGradIdeal.Facts] [hFfnDownGradRefIdeal : Cert.FfnDownGradRefIdeal.Facts] : Prop :=
  ∀ (m : (ℓ : Loc Cert.FfnDownGradIdeal.nD Cert.FfnDownGradIdeal.τ Cert.FfnDownGradIdeal.sig) → Buf (Elt Ideal) ℓ) (g : Dev Cert.FfnDownGradIdeal.nD → PrngReg)
    (m' : (ℓ : Loc Cert.FfnDownGradRefIdeal.nD Cert.FfnDownGradRefIdeal.τ Cert.FfnDownGradRefIdeal.sig) → Buf (Elt Ideal) ℓ) (g' : Dev Cert.FfnDownGradRefIdeal.nD → PrngReg), Pre_FfnDownGradIdeal m →
    (∀ c : Dev Cert.FfnDownGradIdeal.nD,
      m' ((c.tc : Thread Cert.FfnDownGradRefIdeal.nD Cert.FfnDownGradRefIdeal.τ).loc Cert.FfnDownGradRefIdeal.main_arg0) = m ((c.tc : Thread Cert.FfnDownGradIdeal.nD Cert.FfnDownGradIdeal.τ).loc Cert.FfnDownGradIdeal.main_arg0)
      ∧ m' ((c.tc : Thread Cert.FfnDownGradRefIdeal.nD Cert.FfnDownGradRefIdeal.τ).loc Cert.FfnDownGradRefIdeal.main_arg1) = m ((c.tc : Thread Cert.FfnDownGradIdeal.nD Cert.FfnDownGradIdeal.τ).loc Cert.FfnDownGradIdeal.main_arg1)) →
    ∃ (v0 : (c : Dev Cert.FfnDownGradIdeal.nD) → Buf (Elt Ideal) ((c.tc : Thread Cert.FfnDownGradIdeal.nD Cert.FfnDownGradIdeal.τ).loc Cert.FfnDownGradIdeal.main_v1)),
      θ_run (Cert.FfnDownGradIdeal.defs (F := Ideal)) (onTc (τ := Cert.FfnDownGradIdeal.τ) (Cert.FfnDownGradIdeal.main (F := Ideal))) ⟨m, fun _ => 0, g⟩ (fun r => ∀ c : Dev Cert.FfnDownGradIdeal.nD,
          r.2.mem ((c.tc : Thread Cert.FfnDownGradIdeal.nD Cert.FfnDownGradIdeal.τ).loc Cert.FfnDownGradIdeal.main_v1) = v0 c
          ∧ r.2.mem ((c.tc : Thread Cert.FfnDownGradIdeal.nD Cert.FfnDownGradIdeal.τ).loc Cert.FfnDownGradIdeal.main_arg0) = m ((c.tc : Thread Cert.FfnDownGradIdeal.nD Cert.FfnDownGradIdeal.τ).loc Cert.FfnDownGradIdeal.main_arg0)
          ∧ r.2.mem ((c.tc : Thread Cert.FfnDownGradIdeal.nD Cert.FfnDownGradIdeal.τ).loc Cert.FfnDownGradIdeal.main_arg1) = m ((c.tc : Thread Cert.FfnDownGradIdeal.nD Cert.FfnDownGradIdeal.τ).loc Cert.FfnDownGradIdeal.main_arg1))
      ∧ θ_run (Cert.FfnDownGradRefIdeal.defs (F := Ideal)) (onTc (τ := Cert.FfnDownGradRefIdeal.τ) (Cert.FfnDownGradRefIdeal.main (F := Ideal))) ⟨m', fun _ => 0, g'⟩ (fun r => ∀ c : Dev Cert.FfnDownGradRefIdeal.nD,
          r.2.mem ((c.tc : Thread Cert.FfnDownGradRefIdeal.nD Cert.FfnDownGradRefIdeal.τ).loc Cert.FfnDownGradRefIdeal.main_v9) = v0 c
          ∧ r.2.mem ((c.tc : Thread Cert.FfnDownGradRefIdeal.nD Cert.FfnDownGradRefIdeal.τ).loc Cert.FfnDownGradRefIdeal.main_arg0) = m' ((c.tc : Thread Cert.FfnDownGradRefIdeal.nD Cert.FfnDownGradRefIdeal.τ).loc Cert.FfnDownGradRefIdeal.main_arg0)
          ∧ r.2.mem ((c.tc : Thread Cert.FfnDownGradRefIdeal.nD Cert.FfnDownGradRefIdeal.τ).loc Cert.FfnDownGradRefIdeal.main_arg1) = m' ((c.tc : Thread Cert.FfnDownGradRefIdeal.nD Cert.FfnDownGradRefIdeal.τ).loc Cert.FfnDownGradRefIdeal.main_arg1))

def preserves_FfnUpGrad_FfnUpGradIdeal : Prop :=
  True

def algebraic_FfnUpGradIdeal_FfnUpGradRefIdeal [hFfnUpGradIdeal : Cert.FfnUpGradIdeal.Facts] [hFfnUpGradRefIdeal : Cert.FfnUpGradRefIdeal.Facts] : Prop :=
  ∀ (m : (ℓ : Loc Cert.FfnUpGradIdeal.nD Cert.FfnUpGradIdeal.τ Cert.FfnUpGradIdeal.sig) → Buf (Elt Ideal) ℓ) (g : Dev Cert.FfnUpGradIdeal.nD → PrngReg)
    (m' : (ℓ : Loc Cert.FfnUpGradRefIdeal.nD Cert.FfnUpGradRefIdeal.τ Cert.FfnUpGradRefIdeal.sig) → Buf (Elt Ideal) ℓ) (g' : Dev Cert.FfnUpGradRefIdeal.nD → PrngReg), Pre_FfnUpGradIdeal m →
    (∀ c : Dev Cert.FfnUpGradIdeal.nD,
      m' ((c.tc : Thread Cert.FfnUpGradRefIdeal.nD Cert.FfnUpGradRefIdeal.τ).loc Cert.FfnUpGradRefIdeal.main_arg0) = m ((c.tc : Thread Cert.FfnUpGradIdeal.nD Cert.FfnUpGradIdeal.τ).loc Cert.FfnUpGradIdeal.main_arg0)
      ∧ m' ((c.tc : Thread Cert.FfnUpGradRefIdeal.nD Cert.FfnUpGradRefIdeal.τ).loc Cert.FfnUpGradRefIdeal.main_arg1) = m ((c.tc : Thread Cert.FfnUpGradIdeal.nD Cert.FfnUpGradIdeal.τ).loc Cert.FfnUpGradIdeal.main_arg1)) →
    ∃ (v0 : (c : Dev Cert.FfnUpGradIdeal.nD) → Buf (Elt Ideal) ((c.tc : Thread Cert.FfnUpGradIdeal.nD Cert.FfnUpGradIdeal.τ).loc Cert.FfnUpGradIdeal.main_v2)),
      θ_run (Cert.FfnUpGradIdeal.defs (F := Ideal)) (onTc (τ := Cert.FfnUpGradIdeal.τ) (Cert.FfnUpGradIdeal.main (F := Ideal))) ⟨m, fun _ => 0, g⟩ (fun r => ∀ c : Dev Cert.FfnUpGradIdeal.nD,
          r.2.mem ((c.tc : Thread Cert.FfnUpGradIdeal.nD Cert.FfnUpGradIdeal.τ).loc Cert.FfnUpGradIdeal.main_v2) = v0 c
          ∧ r.2.mem ((c.tc : Thread Cert.FfnUpGradIdeal.nD Cert.FfnUpGradIdeal.τ).loc Cert.FfnUpGradIdeal.main_arg0) = m ((c.tc : Thread Cert.FfnUpGradIdeal.nD Cert.FfnUpGradIdeal.τ).loc Cert.FfnUpGradIdeal.main_arg0)
          ∧ r.2.mem ((c.tc : Thread Cert.FfnUpGradIdeal.nD Cert.FfnUpGradIdeal.τ).loc Cert.FfnUpGradIdeal.main_arg1) = m ((c.tc : Thread Cert.FfnUpGradIdeal.nD Cert.FfnUpGradIdeal.τ).loc Cert.FfnUpGradIdeal.main_arg1))
      ∧ θ_run (Cert.FfnUpGradRefIdeal.defs (F := Ideal)) (onTc (τ := Cert.FfnUpGradRefIdeal.τ) (Cert.FfnUpGradRefIdeal.main (F := Ideal))) ⟨m', fun _ => 0, g'⟩ (fun r => ∀ c : Dev Cert.FfnUpGradRefIdeal.nD,
          r.2.mem ((c.tc : Thread Cert.FfnUpGradRefIdeal.nD Cert.FfnUpGradRefIdeal.τ).loc Cert.FfnUpGradRefIdeal.main_v18) = v0 c
          ∧ r.2.mem ((c.tc : Thread Cert.FfnUpGradRefIdeal.nD Cert.FfnUpGradRefIdeal.τ).loc Cert.FfnUpGradRefIdeal.main_arg0) = m' ((c.tc : Thread Cert.FfnUpGradRefIdeal.nD Cert.FfnUpGradRefIdeal.τ).loc Cert.FfnUpGradRefIdeal.main_arg0)
          ∧ r.2.mem ((c.tc : Thread Cert.FfnUpGradRefIdeal.nD Cert.FfnUpGradRefIdeal.τ).loc Cert.FfnUpGradRefIdeal.main_arg1) = m' ((c.tc : Thread Cert.FfnUpGradRefIdeal.nD Cert.FfnUpGradRefIdeal.τ).loc Cert.FfnUpGradRefIdeal.main_arg1))

def preserves_FfnInput_FfnInputIdeal : Prop :=
  True

def algebraic_FfnInputIdeal_FfnInputRefIdeal [hFfnInputIdeal : Cert.FfnInputIdeal.Facts] [hFfnInputRefIdeal : Cert.FfnInputRefIdeal.Facts] : Prop :=
  ∀ (m : (ℓ : Loc Cert.FfnInputIdeal.nD Cert.FfnInputIdeal.τ Cert.FfnInputIdeal.sig) → Buf (Elt Ideal) ℓ) (g : Dev Cert.FfnInputIdeal.nD → PrngReg)
    (m' : (ℓ : Loc Cert.FfnInputRefIdeal.nD Cert.FfnInputRefIdeal.τ Cert.FfnInputRefIdeal.sig) → Buf (Elt Ideal) ℓ) (g' : Dev Cert.FfnInputRefIdeal.nD → PrngReg), Pre_FfnInputIdeal m →
    (∀ c : Dev Cert.FfnInputIdeal.nD,
      m' ((c.tc : Thread Cert.FfnInputRefIdeal.nD Cert.FfnInputRefIdeal.τ).loc Cert.FfnInputRefIdeal.main_arg0) = m ((c.tc : Thread Cert.FfnInputIdeal.nD Cert.FfnInputIdeal.τ).loc Cert.FfnInputIdeal.main_arg0)
      ∧ m' ((c.tc : Thread Cert.FfnInputRefIdeal.nD Cert.FfnInputRefIdeal.τ).loc Cert.FfnInputRefIdeal.main_arg1) = m ((c.tc : Thread Cert.FfnInputIdeal.nD Cert.FfnInputIdeal.τ).loc Cert.FfnInputIdeal.main_arg1)
      ∧ m' ((c.tc : Thread Cert.FfnInputRefIdeal.nD Cert.FfnInputRefIdeal.τ).loc Cert.FfnInputRefIdeal.main_arg2) = m ((c.tc : Thread Cert.FfnInputIdeal.nD Cert.FfnInputIdeal.τ).loc Cert.FfnInputIdeal.main_arg2)) →
    ∃ (v0 : (c : Dev Cert.FfnInputIdeal.nD) → Buf (Elt Ideal) ((c.tc : Thread Cert.FfnInputIdeal.nD Cert.FfnInputIdeal.τ).loc Cert.FfnInputIdeal.main_v0)),
      θ_run (Cert.FfnInputIdeal.defs (F := Ideal)) (onTc (τ := Cert.FfnInputIdeal.τ) (Cert.FfnInputIdeal.main (F := Ideal))) ⟨m, fun _ => 0, g⟩ (fun r => ∀ c : Dev Cert.FfnInputIdeal.nD,
          r.2.mem ((c.tc : Thread Cert.FfnInputIdeal.nD Cert.FfnInputIdeal.τ).loc Cert.FfnInputIdeal.main_v0) = v0 c
          ∧ r.2.mem ((c.tc : Thread Cert.FfnInputIdeal.nD Cert.FfnInputIdeal.τ).loc Cert.FfnInputIdeal.main_arg0) = m ((c.tc : Thread Cert.FfnInputIdeal.nD Cert.FfnInputIdeal.τ).loc Cert.FfnInputIdeal.main_arg0)
          ∧ r.2.mem ((c.tc : Thread Cert.FfnInputIdeal.nD Cert.FfnInputIdeal.τ).loc Cert.FfnInputIdeal.main_arg1) = m ((c.tc : Thread Cert.FfnInputIdeal.nD Cert.FfnInputIdeal.τ).loc Cert.FfnInputIdeal.main_arg1)
          ∧ r.2.mem ((c.tc : Thread Cert.FfnInputIdeal.nD Cert.FfnInputIdeal.τ).loc Cert.FfnInputIdeal.main_arg2) = m ((c.tc : Thread Cert.FfnInputIdeal.nD Cert.FfnInputIdeal.τ).loc Cert.FfnInputIdeal.main_arg2))
      ∧ θ_run (Cert.FfnInputRefIdeal.defs (F := Ideal)) (onTc (τ := Cert.FfnInputRefIdeal.τ) (Cert.FfnInputRefIdeal.main (F := Ideal))) ⟨m', fun _ => 0, g'⟩ (fun r => ∀ c : Dev Cert.FfnInputRefIdeal.nD,
          r.2.mem ((c.tc : Thread Cert.FfnInputRefIdeal.nD Cert.FfnInputRefIdeal.τ).loc Cert.FfnInputRefIdeal.main_v21) = v0 c
          ∧ r.2.mem ((c.tc : Thread Cert.FfnInputRefIdeal.nD Cert.FfnInputRefIdeal.τ).loc Cert.FfnInputRefIdeal.main_arg0) = m' ((c.tc : Thread Cert.FfnInputRefIdeal.nD Cert.FfnInputRefIdeal.τ).loc Cert.FfnInputRefIdeal.main_arg0)
          ∧ r.2.mem ((c.tc : Thread Cert.FfnInputRefIdeal.nD Cert.FfnInputRefIdeal.τ).loc Cert.FfnInputRefIdeal.main_arg1) = m' ((c.tc : Thread Cert.FfnInputRefIdeal.nD Cert.FfnInputRefIdeal.τ).loc Cert.FfnInputRefIdeal.main_arg1)
          ∧ r.2.mem ((c.tc : Thread Cert.FfnInputRefIdeal.nD Cert.FfnInputRefIdeal.τ).loc Cert.FfnInputRefIdeal.main_arg2) = m' ((c.tc : Thread Cert.FfnInputRefIdeal.nD Cert.FfnInputRefIdeal.τ).loc Cert.FfnInputRefIdeal.main_arg2))

def preserves_FfnFwdHidden_FfnFwdHiddenIdeal : Prop :=
  True

def algebraic_FfnFwdHiddenIdeal_FfnFwdHiddenRefIdeal [hFfnFwdHiddenIdeal : Cert.FfnFwdHiddenIdeal.Facts] [hFfnFwdHiddenRefIdeal : Cert.FfnFwdHiddenRefIdeal.Facts] : Prop :=
  ∀ (m : (ℓ : Loc Cert.FfnFwdHiddenIdeal.nD Cert.FfnFwdHiddenIdeal.τ Cert.FfnFwdHiddenIdeal.sig) → Buf (Elt Ideal) ℓ) (g : Dev Cert.FfnFwdHiddenIdeal.nD → PrngReg)
    (m' : (ℓ : Loc Cert.FfnFwdHiddenRefIdeal.nD Cert.FfnFwdHiddenRefIdeal.τ Cert.FfnFwdHiddenRefIdeal.sig) → Buf (Elt Ideal) ℓ) (g' : Dev Cert.FfnFwdHiddenRefIdeal.nD → PrngReg), Pre_FfnFwdHiddenIdeal m →
    (∀ c : Dev Cert.FfnFwdHiddenIdeal.nD,
      m' ((c.tc : Thread Cert.FfnFwdHiddenRefIdeal.nD Cert.FfnFwdHiddenRefIdeal.τ).loc Cert.FfnFwdHiddenRefIdeal.main_arg0) = m ((c.tc : Thread Cert.FfnFwdHiddenIdeal.nD Cert.FfnFwdHiddenIdeal.τ).loc Cert.FfnFwdHiddenIdeal.main_arg0)
      ∧ m' ((c.tc : Thread Cert.FfnFwdHiddenRefIdeal.nD Cert.FfnFwdHiddenRefIdeal.τ).loc Cert.FfnFwdHiddenRefIdeal.main_arg1) = m ((c.tc : Thread Cert.FfnFwdHiddenIdeal.nD Cert.FfnFwdHiddenIdeal.τ).loc Cert.FfnFwdHiddenIdeal.main_arg1)) →
    ∃ (v0 : (c : Dev Cert.FfnFwdHiddenIdeal.nD) → Buf (Elt Ideal) ((c.tc : Thread Cert.FfnFwdHiddenIdeal.nD Cert.FfnFwdHiddenIdeal.τ).loc Cert.FfnFwdHiddenIdeal.main_v0_0)) (v1 : (c : Dev Cert.FfnFwdHiddenIdeal.nD) → Buf (Elt Ideal) ((c.tc : Thread Cert.FfnFwdHiddenIdeal.nD Cert.FfnFwdHiddenIdeal.τ).loc Cert.FfnFwdHiddenIdeal.main_v0_1)),
      θ_run (Cert.FfnFwdHiddenIdeal.defs (F := Ideal)) (onTc (τ := Cert.FfnFwdHiddenIdeal.τ) (Cert.FfnFwdHiddenIdeal.main (F := Ideal))) ⟨m, fun _ => 0, g⟩ (fun r => ∀ c : Dev Cert.FfnFwdHiddenIdeal.nD,
          r.2.mem ((c.tc : Thread Cert.FfnFwdHiddenIdeal.nD Cert.FfnFwdHiddenIdeal.τ).loc Cert.FfnFwdHiddenIdeal.main_v0_0) = v0 c
          ∧ r.2.mem ((c.tc : Thread Cert.FfnFwdHiddenIdeal.nD Cert.FfnFwdHiddenIdeal.τ).loc Cert.FfnFwdHiddenIdeal.main_v0_1) = v1 c
          ∧ r.2.mem ((c.tc : Thread Cert.FfnFwdHiddenIdeal.nD Cert.FfnFwdHiddenIdeal.τ).loc Cert.FfnFwdHiddenIdeal.main_arg0) = m ((c.tc : Thread Cert.FfnFwdHiddenIdeal.nD Cert.FfnFwdHiddenIdeal.τ).loc Cert.FfnFwdHiddenIdeal.main_arg0)
          ∧ r.2.mem ((c.tc : Thread Cert.FfnFwdHiddenIdeal.nD Cert.FfnFwdHiddenIdeal.τ).loc Cert.FfnFwdHiddenIdeal.main_arg1) = m ((c.tc : Thread Cert.FfnFwdHiddenIdeal.nD Cert.FfnFwdHiddenIdeal.τ).loc Cert.FfnFwdHiddenIdeal.main_arg1))
      ∧ θ_run (Cert.FfnFwdHiddenRefIdeal.defs (F := Ideal)) (onTc (τ := Cert.FfnFwdHiddenRefIdeal.τ) (Cert.FfnFwdHiddenRefIdeal.main (F := Ideal))) ⟨m', fun _ => 0, g'⟩ (fun r => ∀ c : Dev Cert.FfnFwdHiddenRefIdeal.nD,
          r.2.mem ((c.tc : Thread Cert.FfnFwdHiddenRefIdeal.nD Cert.FfnFwdHiddenRefIdeal.τ).loc Cert.FfnFwdHiddenRefIdeal.main_v18) = v0 c
          ∧ r.2.mem ((c.tc : Thread Cert.FfnFwdHiddenRefIdeal.nD Cert.FfnFwdHiddenRefIdeal.τ).loc Cert.FfnFwdHiddenRefIdeal.main_v21) = v1 c
          ∧ r.2.mem ((c.tc : Thread Cert.FfnFwdHiddenRefIdeal.nD Cert.FfnFwdHiddenRefIdeal.τ).loc Cert.FfnFwdHiddenRefIdeal.main_arg0) = m' ((c.tc : Thread Cert.FfnFwdHiddenRefIdeal.nD Cert.FfnFwdHiddenRefIdeal.τ).loc Cert.FfnFwdHiddenRefIdeal.main_arg0)
          ∧ r.2.mem ((c.tc : Thread Cert.FfnFwdHiddenRefIdeal.nD Cert.FfnFwdHiddenRefIdeal.τ).loc Cert.FfnFwdHiddenRefIdeal.main_arg1) = m' ((c.tc : Thread Cert.FfnFwdHiddenRefIdeal.nD Cert.FfnFwdHiddenRefIdeal.τ).loc Cert.FfnFwdHiddenRefIdeal.main_arg1))

def preserves_FfnFwdDown_FfnFwdDownIdeal : Prop :=
  True

def algebraic_FfnFwdDownIdeal_FfnFwdDownRefIdeal [hFfnFwdDownIdeal : Cert.FfnFwdDownIdeal.Facts] [hFfnFwdDownRefIdeal : Cert.FfnFwdDownRefIdeal.Facts] : Prop :=
  ∀ (m : (ℓ : Loc Cert.FfnFwdDownIdeal.nD Cert.FfnFwdDownIdeal.τ Cert.FfnFwdDownIdeal.sig) → Buf (Elt Ideal) ℓ) (g : Dev Cert.FfnFwdDownIdeal.nD → PrngReg)
    (m' : (ℓ : Loc Cert.FfnFwdDownRefIdeal.nD Cert.FfnFwdDownRefIdeal.τ Cert.FfnFwdDownRefIdeal.sig) → Buf (Elt Ideal) ℓ) (g' : Dev Cert.FfnFwdDownRefIdeal.nD → PrngReg), Pre_FfnFwdDownIdeal m →
    (∀ c : Dev Cert.FfnFwdDownIdeal.nD,
      m' ((c.tc : Thread Cert.FfnFwdDownRefIdeal.nD Cert.FfnFwdDownRefIdeal.τ).loc Cert.FfnFwdDownRefIdeal.main_arg0) = m ((c.tc : Thread Cert.FfnFwdDownIdeal.nD Cert.FfnFwdDownIdeal.τ).loc Cert.FfnFwdDownIdeal.main_arg0)
      ∧ m' ((c.tc : Thread Cert.FfnFwdDownRefIdeal.nD Cert.FfnFwdDownRefIdeal.τ).loc Cert.FfnFwdDownRefIdeal.main_arg1) = m ((c.tc : Thread Cert.FfnFwdDownIdeal.nD Cert.FfnFwdDownIdeal.τ).loc Cert.FfnFwdDownIdeal.main_arg1)
      ∧ m' ((c.tc : Thread Cert.FfnFwdDownRefIdeal.nD Cert.FfnFwdDownRefIdeal.τ).loc Cert.FfnFwdDownRefIdeal.main_arg2) = m ((c.tc : Thread Cert.FfnFwdDownIdeal.nD Cert.FfnFwdDownIdeal.τ).loc Cert.FfnFwdDownIdeal.main_arg2)
      ∧ m' ((c.tc : Thread Cert.FfnFwdDownRefIdeal.nD Cert.FfnFwdDownRefIdeal.τ).loc Cert.FfnFwdDownRefIdeal.main_arg3) = m ((c.tc : Thread Cert.FfnFwdDownIdeal.nD Cert.FfnFwdDownIdeal.τ).loc Cert.FfnFwdDownIdeal.main_arg3)
      ∧ m' ((c.tc : Thread Cert.FfnFwdDownRefIdeal.nD Cert.FfnFwdDownRefIdeal.τ).loc Cert.FfnFwdDownRefIdeal.main_arg4) = m ((c.tc : Thread Cert.FfnFwdDownIdeal.nD Cert.FfnFwdDownIdeal.τ).loc Cert.FfnFwdDownIdeal.main_arg4)) →
    ∃ (v0 : (c : Dev Cert.FfnFwdDownIdeal.nD) → Buf (Elt Ideal) ((c.tc : Thread Cert.FfnFwdDownIdeal.nD Cert.FfnFwdDownIdeal.τ).loc Cert.FfnFwdDownIdeal.main_v0_0)) (v1 : (c : Dev Cert.FfnFwdDownIdeal.nD) → Buf (Elt Ideal) ((c.tc : Thread Cert.FfnFwdDownIdeal.nD Cert.FfnFwdDownIdeal.τ).loc Cert.FfnFwdDownIdeal.main_v0_1)) (v2 : (c : Dev Cert.FfnFwdDownIdeal.nD) → Buf (Elt Ideal) ((c.tc : Thread Cert.FfnFwdDownIdeal.nD Cert.FfnFwdDownIdeal.τ).loc Cert.FfnFwdDownIdeal.main_v0_2)),
      θ_run (Cert.FfnFwdDownIdeal.defs (F := Ideal)) (onTc (τ := Cert.FfnFwdDownIdeal.τ) (Cert.FfnFwdDownIdeal.main (F := Ideal))) ⟨m, fun _ => 0, g⟩ (fun r => ∀ c : Dev Cert.FfnFwdDownIdeal.nD,
          r.2.mem ((c.tc : Thread Cert.FfnFwdDownIdeal.nD Cert.FfnFwdDownIdeal.τ).loc Cert.FfnFwdDownIdeal.main_v0_0) = v0 c
          ∧ r.2.mem ((c.tc : Thread Cert.FfnFwdDownIdeal.nD Cert.FfnFwdDownIdeal.τ).loc Cert.FfnFwdDownIdeal.main_v0_1) = v1 c
          ∧ r.2.mem ((c.tc : Thread Cert.FfnFwdDownIdeal.nD Cert.FfnFwdDownIdeal.τ).loc Cert.FfnFwdDownIdeal.main_v0_2) = v2 c
          ∧ r.2.mem ((c.tc : Thread Cert.FfnFwdDownIdeal.nD Cert.FfnFwdDownIdeal.τ).loc Cert.FfnFwdDownIdeal.main_arg0) = m ((c.tc : Thread Cert.FfnFwdDownIdeal.nD Cert.FfnFwdDownIdeal.τ).loc Cert.FfnFwdDownIdeal.main_arg0)
          ∧ r.2.mem ((c.tc : Thread Cert.FfnFwdDownIdeal.nD Cert.FfnFwdDownIdeal.τ).loc Cert.FfnFwdDownIdeal.main_arg1) = m ((c.tc : Thread Cert.FfnFwdDownIdeal.nD Cert.FfnFwdDownIdeal.τ).loc Cert.FfnFwdDownIdeal.main_arg1)
          ∧ r.2.mem ((c.tc : Thread Cert.FfnFwdDownIdeal.nD Cert.FfnFwdDownIdeal.τ).loc Cert.FfnFwdDownIdeal.main_arg2) = m ((c.tc : Thread Cert.FfnFwdDownIdeal.nD Cert.FfnFwdDownIdeal.τ).loc Cert.FfnFwdDownIdeal.main_arg2)
          ∧ r.2.mem ((c.tc : Thread Cert.FfnFwdDownIdeal.nD Cert.FfnFwdDownIdeal.τ).loc Cert.FfnFwdDownIdeal.main_arg3) = m ((c.tc : Thread Cert.FfnFwdDownIdeal.nD Cert.FfnFwdDownIdeal.τ).loc Cert.FfnFwdDownIdeal.main_arg3)
          ∧ r.2.mem ((c.tc : Thread Cert.FfnFwdDownIdeal.nD Cert.FfnFwdDownIdeal.τ).loc Cert.FfnFwdDownIdeal.main_arg4) = m ((c.tc : Thread Cert.FfnFwdDownIdeal.nD Cert.FfnFwdDownIdeal.τ).loc Cert.FfnFwdDownIdeal.main_arg4))
      ∧ θ_run (Cert.FfnFwdDownRefIdeal.defs (F := Ideal)) (onTc (τ := Cert.FfnFwdDownRefIdeal.τ) (Cert.FfnFwdDownRefIdeal.main (F := Ideal))) ⟨m', fun _ => 0, g'⟩ (fun r => ∀ c : Dev Cert.FfnFwdDownRefIdeal.nD,
          r.2.mem ((c.tc : Thread Cert.FfnFwdDownRefIdeal.nD Cert.FfnFwdDownRefIdeal.τ).loc Cert.FfnFwdDownRefIdeal.main_v8) = v0 c
          ∧ r.2.mem ((c.tc : Thread Cert.FfnFwdDownRefIdeal.nD Cert.FfnFwdDownRefIdeal.τ).loc Cert.FfnFwdDownRefIdeal.main_v30) = v1 c
          ∧ r.2.mem ((c.tc : Thread Cert.FfnFwdDownRefIdeal.nD Cert.FfnFwdDownRefIdeal.τ).loc Cert.FfnFwdDownRefIdeal.main_v31) = v2 c
          ∧ r.2.mem ((c.tc : Thread Cert.FfnFwdDownRefIdeal.nD Cert.FfnFwdDownRefIdeal.τ).loc Cert.FfnFwdDownRefIdeal.main_arg0) = m' ((c.tc : Thread Cert.FfnFwdDownRefIdeal.nD Cert.FfnFwdDownRefIdeal.τ).loc Cert.FfnFwdDownRefIdeal.main_arg0)
          ∧ r.2.mem ((c.tc : Thread Cert.FfnFwdDownRefIdeal.nD Cert.FfnFwdDownRefIdeal.τ).loc Cert.FfnFwdDownRefIdeal.main_arg1) = m' ((c.tc : Thread Cert.FfnFwdDownRefIdeal.nD Cert.FfnFwdDownRefIdeal.τ).loc Cert.FfnFwdDownRefIdeal.main_arg1)
          ∧ r.2.mem ((c.tc : Thread Cert.FfnFwdDownRefIdeal.nD Cert.FfnFwdDownRefIdeal.τ).loc Cert.FfnFwdDownRefIdeal.main_arg2) = m' ((c.tc : Thread Cert.FfnFwdDownRefIdeal.nD Cert.FfnFwdDownRefIdeal.τ).loc Cert.FfnFwdDownRefIdeal.main_arg2)
          ∧ r.2.mem ((c.tc : Thread Cert.FfnFwdDownRefIdeal.nD Cert.FfnFwdDownRefIdeal.τ).loc Cert.FfnFwdDownRefIdeal.main_arg3) = m' ((c.tc : Thread Cert.FfnFwdDownRefIdeal.nD Cert.FfnFwdDownRefIdeal.τ).loc Cert.FfnFwdDownRefIdeal.main_arg3)
          ∧ r.2.mem ((c.tc : Thread Cert.FfnFwdDownRefIdeal.nD Cert.FfnFwdDownRefIdeal.τ).loc Cert.FfnFwdDownRefIdeal.main_arg4) = m' ((c.tc : Thread Cert.FfnFwdDownRefIdeal.nD Cert.FfnFwdDownRefIdeal.τ).loc Cert.FfnFwdDownRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InInput_InInputIdeal : Prop :=
  True

def algebraic_InInputIdeal_InInputRefIdeal [hInInputIdeal : Cert.InInputIdeal.Facts] [hInInputRefIdeal : Cert.InInputRefIdeal.Facts] : Prop :=
  ∀ (m : (ℓ : Loc Cert.InInputIdeal.nD Cert.InInputIdeal.τ Cert.InInputIdeal.sig) → Buf (Elt Ideal) ℓ) (g : Dev Cert.InInputIdeal.nD → PrngReg)
    (m' : (ℓ : Loc Cert.InInputRefIdeal.nD Cert.InInputRefIdeal.τ Cert.InInputRefIdeal.sig) → Buf (Elt Ideal) ℓ) (g' : Dev Cert.InInputRefIdeal.nD → PrngReg), Pre_InInputIdeal m →
    (∀ c : Dev Cert.InInputIdeal.nD,
      m' ((c.tc : Thread Cert.InInputRefIdeal.nD Cert.InInputRefIdeal.τ).loc Cert.InInputRefIdeal.main_arg0) = m ((c.tc : Thread Cert.InInputIdeal.nD Cert.InInputIdeal.τ).loc Cert.InInputIdeal.main_arg0)
      ∧ m' ((c.tc : Thread Cert.InInputRefIdeal.nD Cert.InInputRefIdeal.τ).loc Cert.InInputRefIdeal.main_arg1) = m ((c.tc : Thread Cert.InInputIdeal.nD Cert.InInputIdeal.τ).loc Cert.InInputIdeal.main_arg1)
      ∧ m' ((c.tc : Thread Cert.InInputRefIdeal.nD Cert.InInputRefIdeal.τ).loc Cert.InInputRefIdeal.main_arg2) = m ((c.tc : Thread Cert.InInputIdeal.nD Cert.InInputIdeal.τ).loc Cert.InInputIdeal.main_arg2)) →
    ∃ (v0 : (c : Dev Cert.InInputIdeal.nD) → Buf (Elt Ideal) ((c.tc : Thread Cert.InInputIdeal.nD Cert.InInputIdeal.τ).loc Cert.InInputIdeal.main_v0)),
      θ_run (Cert.InInputIdeal.defs (F := Ideal)) (onTc (τ := Cert.InInputIdeal.τ) (Cert.InInputIdeal.main (F := Ideal))) ⟨m, fun _ => 0, g⟩ (fun r => ∀ c : Dev Cert.InInputIdeal.nD,
          r.2.mem ((c.tc : Thread Cert.InInputIdeal.nD Cert.InInputIdeal.τ).loc Cert.InInputIdeal.main_v0) = v0 c
          ∧ r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
          ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1)
          ∧ r.2.mem ((c.tc : Thread Cert.InInputIdeal.nD Cert.InInputIdeal.τ).loc Cert.InInputIdeal.main_arg2) = m ((c.tc : Thread Cert.InInputIdeal.nD Cert.InInputIdeal.τ).loc Cert.InInputIdeal.main_arg2))
      ∧ θ_run (Cert.InInputRefIdeal.defs (F := Ideal)) (onTc (τ := Cert.InInputRefIdeal.τ) (Cert.InInputRefIdeal.main (F := Ideal))) ⟨m', fun _ => 0, g'⟩ (fun r => ∀ c : Dev Cert.InInputRefIdeal.nD,
          r.2.mem ((c.tc : Thread Cert.InInputRefIdeal.nD Cert.InInputRefIdeal.τ).loc Cert.InInputRefIdeal.main_v23) = v0 c
          ∧ r.2.mem ((c.tc : Thread Cert.InInputRefIdeal.nD Cert.InInputRefIdeal.τ).loc Cert.InInputRefIdeal.main_arg0) = m' ((c.tc : Thread Cert.InInputRefIdeal.nD Cert.InInputRefIdeal.τ).loc Cert.InInputRefIdeal.main_arg0)
          ∧ r.2.mem ((c.tc : Thread Cert.InInputRefIdeal.nD Cert.InInputRefIdeal.τ).loc Cert.InInputRefIdeal.main_arg1) = m' ((c.tc : Thread Cert.InInputRefIdeal.nD Cert.InInputRefIdeal.τ).loc Cert.InInputRefIdeal.main_arg1)
          ∧ r.2.mem ((c.tc : Thread Cert.InInputRefIdeal.nD Cert.InInputRefIdeal.τ).loc Cert.InInputRefIdeal.main_arg2) = m' ((c.tc : Thread Cert.InInputRefIdeal.nD Cert.InInputRefIdeal.τ).loc Cert.InInputRefIdeal.main_arg2))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v1)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v1) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v20) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_SquareGrad_SquareGradIdeal : Prop :=
  True

def algebraic_SquareGradIdeal_SquareGradRefIdeal [hSquareGradIdeal : Cert.SquareGradIdeal.Facts] [hSquareGradRefIdeal : Cert.SquareGradRefIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg)
    (m' : (ℓ : Loc Cert.SquareGradRefIdeal.nD Cert.SquareGradRefIdeal.τ Cert.SquareGradRefIdeal.sig) → Buf (Elt Ideal) ℓ) (g' : Dev Cert.SquareGradRefIdeal.nD → PrngReg), Pre_SquareGradIdeal m →
    (∀ c : Dev Cert.SquareGradIdeal.nD,
      m' ((c.tc : Thread Cert.SquareGradRefIdeal.nD Cert.SquareGradRefIdeal.τ).loc Cert.SquareGradRefIdeal.main_arg0) = m ((c.tc : Thread Cert.SquareGradIdeal.nD Cert.SquareGradIdeal.τ).loc Cert.SquareGradIdeal.main_arg0)
      ∧ m' ((c.tc : Thread Cert.SquareGradRefIdeal.nD Cert.SquareGradRefIdeal.τ).loc Cert.SquareGradRefIdeal.main_arg1) = m ((c.tc : Thread Cert.SquareGradIdeal.nD Cert.SquareGradIdeal.τ).loc Cert.SquareGradIdeal.main_arg1)) →
    ∃ (v0 : (c : Dev Cert.SquareGradIdeal.nD) → Buf (Elt Ideal) ((c.tc : Thread Cert.SquareGradIdeal.nD Cert.SquareGradIdeal.τ).loc Cert.SquareGradIdeal.main_v2)),
      θ_run (Cert.SquareGradIdeal.defs (F := Ideal)) (onTc (τ := Cert.SquareGradIdeal.τ) (Cert.SquareGradIdeal.main (F := Ideal))) ⟨m, fun _ => 0, g⟩ (fun r => ∀ c : Dev Cert.SquareGradIdeal.nD,
          r.2.mem ((c.tc : Thread Cert.SquareGradIdeal.nD Cert.SquareGradIdeal.τ).loc Cert.SquareGradIdeal.main_v2) = v0 c
          ∧ r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
          ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ θ_run (Cert.SquareGradRefIdeal.defs (F := Ideal)) (onTc (τ := Cert.SquareGradRefIdeal.τ) (Cert.SquareGradRefIdeal.main (F := Ideal))) ⟨m', fun _ => 0, g'⟩ (fun r => ∀ c : Dev Cert.SquareGradRefIdeal.nD,
          r.2.mem ((c.tc : Thread Cert.SquareGradRefIdeal.nD Cert.SquareGradRefIdeal.τ).loc Cert.SquareGradRefIdeal.main_v7) = v0 c
          ∧ r.2.mem ((c.tc : Thread Cert.SquareGradRefIdeal.nD Cert.SquareGradRefIdeal.τ).loc Cert.SquareGradRefIdeal.main_arg0) = m' ((c.tc : Thread Cert.SquareGradRefIdeal.nD Cert.SquareGradRefIdeal.τ).loc Cert.SquareGradRefIdeal.main_arg0)
          ∧ r.2.mem ((c.tc : Thread Cert.SquareGradRefIdeal.nD Cert.SquareGradRefIdeal.τ).loc Cert.SquareGradRefIdeal.main_arg1) = m' ((c.tc : Thread Cert.SquareGradRefIdeal.nD Cert.SquareGradRefIdeal.τ).loc Cert.SquareGradRefIdeal.main_arg1))

def preserves_KvGrad_KvGradIdeal : Prop :=
  True

def algebraic_KvGradIdeal_KvGradRefIdeal [hKvGradIdeal : Cert.KvGradIdeal.Facts] [hKvGradRefIdeal : Cert.KvGradRefIdeal.Facts] : Prop :=
  ∀ (m : (ℓ : Loc Cert.KvGradIdeal.nD Cert.KvGradIdeal.τ Cert.KvGradIdeal.sig) → Buf (Elt Ideal) ℓ) (g : Dev Cert.KvGradIdeal.nD → PrngReg)
    (m' : (ℓ : Loc Cert.KvGradRefIdeal.nD Cert.KvGradRefIdeal.τ Cert.KvGradRefIdeal.sig) → Buf (Elt Ideal) ℓ) (g' : Dev Cert.KvGradRefIdeal.nD → PrngReg), Pre_KvGradIdeal m →
    (∀ c : Dev Cert.KvGradIdeal.nD,
      m' ((c.tc : Thread Cert.KvGradRefIdeal.nD Cert.KvGradRefIdeal.τ).loc Cert.KvGradRefIdeal.main_arg0) = m ((c.tc : Thread Cert.KvGradIdeal.nD Cert.KvGradIdeal.τ).loc Cert.KvGradIdeal.main_arg0)
      ∧ m' ((c.tc : Thread Cert.KvGradRefIdeal.nD Cert.KvGradRefIdeal.τ).loc Cert.KvGradRefIdeal.main_arg1) = m ((c.tc : Thread Cert.KvGradIdeal.nD Cert.KvGradIdeal.τ).loc Cert.KvGradIdeal.main_arg1)) →
    ∃ (v0 : (c : Dev Cert.KvGradIdeal.nD) → Buf (Elt Ideal) ((c.tc : Thread Cert.KvGradIdeal.nD Cert.KvGradIdeal.τ).loc Cert.KvGradIdeal.main_v2)),
      θ_run (Cert.KvGradIdeal.defs (F := Ideal)) (onTc (τ := Cert.KvGradIdeal.τ) (Cert.KvGradIdeal.main (F := Ideal))) ⟨m, fun _ => 0, g⟩ (fun r => ∀ c : Dev Cert.KvGradIdeal.nD,
          r.2.mem ((c.tc : Thread Cert.KvGradIdeal.nD Cert.KvGradIdeal.τ).loc Cert.KvGradIdeal.main_v2) = v0 c
          ∧ r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
          ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1))
      ∧ θ_run (Cert.KvGradRefIdeal.defs (F := Ideal)) (onTc (τ := Cert.KvGradRefIdeal.τ) (Cert.KvGradRefIdeal.main (F := Ideal))) ⟨m', fun _ => 0, g'⟩ (fun r => ∀ c : Dev Cert.KvGradRefIdeal.nD,
          r.2.mem ((c.tc : Thread Cert.KvGradRefIdeal.nD Cert.KvGradRefIdeal.τ).loc Cert.KvGradRefIdeal.main_v7) = v0 c
          ∧ r.2.mem ((c.tc : Thread Cert.KvGradRefIdeal.nD Cert.KvGradRefIdeal.τ).loc Cert.KvGradRefIdeal.main_arg0) = m' ((c.tc : Thread Cert.KvGradRefIdeal.nD Cert.KvGradRefIdeal.τ).loc Cert.KvGradRefIdeal.main_arg0)
          ∧ r.2.mem ((c.tc : Thread Cert.KvGradRefIdeal.nD Cert.KvGradRefIdeal.τ).loc Cert.KvGradRefIdeal.main_arg1) = m' ((c.tc : Thread Cert.KvGradRefIdeal.nD Cert.KvGradRefIdeal.τ).loc Cert.KvGradRefIdeal.main_arg1))

def preserves_PleUpGrad_PleUpGradIdeal : Prop :=
  True

def algebraic_PleUpGradIdeal_PleUpGradRefIdeal [hPleUpGradIdeal : Cert.PleUpGradIdeal.Facts] [hPleUpGradRefIdeal : Cert.PleUpGradRefIdeal.Facts] : Prop :=
  ∀ (m : (ℓ : Loc Cert.PleUpGradIdeal.nD Cert.PleUpGradIdeal.τ Cert.PleUpGradIdeal.sig) → Buf (Elt Ideal) ℓ) (g : Dev Cert.PleUpGradIdeal.nD → PrngReg)
    (m' : (ℓ : Loc Cert.PleUpGradRefIdeal.nD Cert.PleUpGradRefIdeal.τ Cert.PleUpGradRefIdeal.sig) → Buf (Elt Ideal) ℓ) (g' : Dev Cert.PleUpGradRefIdeal.nD → PrngReg), Pre_PleUpGradIdeal m →
    (∀ c : Dev Cert.PleUpGradIdeal.nD,
      m' ((c.tc : Thread Cert.PleUpGradRefIdeal.nD Cert.PleUpGradRefIdeal.τ).loc Cert.PleUpGradRefIdeal.main_arg0) = m ((c.tc : Thread Cert.PleUpGradIdeal.nD Cert.PleUpGradIdeal.τ).loc Cert.PleUpGradIdeal.main_arg0)
      ∧ m' ((c.tc : Thread Cert.PleUpGradRefIdeal.nD Cert.PleUpGradRefIdeal.τ).loc Cert.PleUpGradRefIdeal.main_arg1) = m ((c.tc : Thread Cert.PleUpGradIdeal.nD Cert.PleUpGradIdeal.τ).loc Cert.PleUpGradIdeal.main_arg1)) →
    ∃ (v0 : (c : Dev Cert.PleUpGradIdeal.nD) → Buf (Elt Ideal) ((c.tc : Thread Cert.PleUpGradIdeal.nD Cert.PleUpGradIdeal.τ).loc Cert.PleUpGradIdeal.main_v2)),
      θ_run (Cert.PleUpGradIdeal.defs (F := Ideal)) (onTc (τ := Cert.PleUpGradIdeal.τ) (Cert.PleUpGradIdeal.main (F := Ideal))) ⟨m, fun _ => 0, g⟩ (fun r => ∀ c : Dev Cert.PleUpGradIdeal.nD,
          r.2.mem ((c.tc : Thread Cert.PleUpGradIdeal.nD Cert.PleUpGradIdeal.τ).loc Cert.PleUpGradIdeal.main_v2) = v0 c
          ∧ r.2.mem ((c.tc : Thread Cert.PleUpGradIdeal.nD Cert.PleUpGradIdeal.τ).loc Cert.PleUpGradIdeal.main_arg0) = m ((c.tc : Thread Cert.PleUpGradIdeal.nD Cert.PleUpGradIdeal.τ).loc Cert.PleUpGradIdeal.main_arg0)
          ∧ r.2.mem ((c.tc : Thread Cert.PleUpGradIdeal.nD Cert.PleUpGradIdeal.τ).loc Cert.PleUpGradIdeal.main_arg1) = m ((c.tc : Thread Cert.PleUpGradIdeal.nD Cert.PleUpGradIdeal.τ).loc Cert.PleUpGradIdeal.main_arg1))
      ∧ θ_run (Cert.PleUpGradRefIdeal.defs (F := Ideal)) (onTc (τ := Cert.PleUpGradRefIdeal.τ) (Cert.PleUpGradRefIdeal.main (F := Ideal))) ⟨m', fun _ => 0, g'⟩ (fun r => ∀ c : Dev Cert.PleUpGradRefIdeal.nD,
          r.2.mem ((c.tc : Thread Cert.PleUpGradRefIdeal.nD Cert.PleUpGradRefIdeal.τ).loc Cert.PleUpGradRefIdeal.main_v7) = v0 c
          ∧ r.2.mem ((c.tc : Thread Cert.PleUpGradRefIdeal.nD Cert.PleUpGradRefIdeal.τ).loc Cert.PleUpGradRefIdeal.main_arg0) = m' ((c.tc : Thread Cert.PleUpGradRefIdeal.nD Cert.PleUpGradRefIdeal.τ).loc Cert.PleUpGradRefIdeal.main_arg0)
          ∧ r.2.mem ((c.tc : Thread Cert.PleUpGradRefIdeal.nD Cert.PleUpGradRefIdeal.τ).loc Cert.PleUpGradRefIdeal.main_arg1) = m' ((c.tc : Thread Cert.PleUpGradRefIdeal.nD Cert.PleUpGradRefIdeal.τ).loc Cert.PleUpGradRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v2) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v7) = v2 c
          ∧ r.2.mem ((c.tc : Thread Cert.AdamInRefIdeal.nD Cert.AdamInRefIdeal.τ).loc Cert.AdamInRefIdeal.main_v13) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v2) = v0 c
          ∧ r.2.mem ((c.tc : Thread Cert.AdamSquareRefIdeal.nD Cert.AdamSquareRefIdeal.τ).loc Cert.AdamSquareRefIdeal.main_v26) = v1 c
          ∧ r.2.mem ((c.tc : Thread Cert.AdamSquareRefIdeal.nD Cert.AdamSquareRefIdeal.τ).loc Cert.AdamSquareRefIdeal.main_v7) = v2 c
          ∧ r.2.mem ((c.tc : Thread Cert.AdamSquareRefIdeal.nD Cert.AdamSquareRefIdeal.τ).loc Cert.AdamSquareRefIdeal.main_v13) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v3_0)) (v1 : (c : Dev Cert.AdamKvIdeal.nD) → Buf (Elt Ideal) ((c.tc : Thread Cert.AdamKvIdeal.nD Cert.AdamKvIdeal.τ).loc Cert.AdamKvIdeal.main_v3_1)) (v2 : (c : Dev Cert.AdamKvIdeal.nD) → Buf (Elt Ideal) ((c.tc : Thread Cert.AdamKvIdeal.nD Cert.AdamKvIdeal.τ).loc Cert.AdamKvIdeal.main_v3_2)) (v3 : (c : Dev Cert.AdamKvIdeal.nD) → Buf (Elt Ideal) ((c.tc : Thread Cert.AdamKvIdeal.nD Cert.AdamKvIdeal.τ).loc Cert.AdamKvIdeal.main_v3_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v3_0) = v0 c
          ∧ r.2.mem ((c.tc : Thread Cert.AdamKvIdeal.nD Cert.AdamKvIdeal.τ).loc Cert.AdamKvIdeal.main_v3_1) = v1 c
          ∧ r.2.mem ((c.tc : Thread Cert.AdamKvIdeal.nD Cert.AdamKvIdeal.τ).loc Cert.AdamKvIdeal.main_v3_2) = v2 c
          ∧ r.2.mem ((c.tc : Thread Cert.AdamKvIdeal.nD Cert.AdamKvIdeal.τ).loc Cert.AdamKvIdeal.main_v3_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v2) = v0 c
          ∧ r.2.mem ((c.tc : Thread Cert.AdamKvRefIdeal.nD Cert.AdamKvRefIdeal.τ).loc Cert.AdamKvRefIdeal.main_v29) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_v16) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamGateUp_AdamGateUpIdeal : Prop :=
  True

def algebraic_AdamGateUpIdeal_AdamGateUpRefIdeal [hAdamGateUpIdeal : Cert.AdamGateUpIdeal.Facts] [hAdamGateUpRefIdeal : Cert.AdamGateUpRefIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpRefIdeal.nD Cert.AdamGateUpRefIdeal.τ Cert.AdamGateUpRefIdeal.sig) → Buf (Elt Ideal) ℓ) (g' : Dev Cert.AdamGateUpRefIdeal.nD → PrngReg), Pre_AdamGateUpIdeal m →
    (∀ c : Dev Cert.AdamGateUpIdeal.nD,
      m' ((c.tc : Thread Cert.AdamGateUpRefIdeal.nD Cert.AdamGateUpRefIdeal.τ).loc Cert.AdamGateUpRefIdeal.main_arg0) = m ((c.tc : Thread Cert.AdamGateUpIdeal.nD Cert.AdamGateUpIdeal.τ).loc Cert.AdamGateUpIdeal.main_arg0)
      ∧ m' ((c.tc : Thread Cert.AdamGateUpRefIdeal.nD Cert.AdamGateUpRefIdeal.τ).loc Cert.AdamGateUpRefIdeal.main_arg1) = m ((c.tc : Thread Cert.AdamGateUpIdeal.nD Cert.AdamGateUpIdeal.τ).loc Cert.AdamGateUpIdeal.main_arg1)
      ∧ m' ((c.tc : Thread Cert.AdamGateUpRefIdeal.nD Cert.AdamGateUpRefIdeal.τ).loc Cert.AdamGateUpRefIdeal.main_arg2) = m ((c.tc : Thread Cert.AdamGateUpIdeal.nD Cert.AdamGateUpIdeal.τ).loc Cert.AdamGateUpIdeal.main_arg2)
      ∧ m' ((c.tc : Thread Cert.AdamGateUpRefIdeal.nD Cert.AdamGateUpRefIdeal.τ).loc Cert.AdamGateUpRefIdeal.main_arg3) = m ((c.tc : Thread Cert.AdamGateUpIdeal.nD Cert.AdamGateUpIdeal.τ).loc Cert.AdamGateUpIdeal.main_arg3)
      ∧ m' ((c.tc : Thread Cert.AdamGateUpRefIdeal.nD Cert.AdamGateUpRefIdeal.τ).loc Cert.AdamGateUpRefIdeal.main_arg4) = m ((c.tc : Thread Cert.AdamGateUpIdeal.nD Cert.AdamGateUpIdeal.τ).loc Cert.AdamGateUpIdeal.main_arg4)) →
    ∃ (v0 : (c : Dev Cert.AdamGateUpIdeal.nD) → Buf (Elt Ideal) ((c.tc : Thread Cert.AdamGateUpIdeal.nD Cert.AdamGateUpIdeal.τ).loc Cert.AdamGateUpIdeal.main_v3_0)) (v1 : (c : Dev Cert.AdamGateUpIdeal.nD) → Buf (Elt Ideal) ((c.tc : Thread Cert.AdamGateUpIdeal.nD Cert.AdamGateUpIdeal.τ).loc Cert.AdamGateUpIdeal.main_v3_1)) (v2 : (c : Dev Cert.AdamGateUpIdeal.nD) → Buf (Elt Ideal) ((c.tc : Thread Cert.AdamGateUpIdeal.nD Cert.AdamGateUpIdeal.τ).loc Cert.AdamGateUpIdeal.main_v3_2)) (v3 : (c : Dev Cert.AdamGateUpIdeal.nD) → Buf (Elt Ideal) ((c.tc : Thread Cert.AdamGateUpIdeal.nD Cert.AdamGateUpIdeal.τ).loc Cert.AdamGateUpIdeal.main_v3_3)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v3_0) = v0 c
          ∧ r.2.mem ((c.tc : Thread Cert.AdamGateUpIdeal.nD Cert.AdamGateUpIdeal.τ).loc Cert.AdamGateUpIdeal.main_v3_1) = v1 c
          ∧ r.2.mem ((c.tc : Thread Cert.AdamGateUpIdeal.nD Cert.AdamGateUpIdeal.τ).loc Cert.AdamGateUpIdeal.main_v3_2) = v2 c
          ∧ r.2.mem ((c.tc : Thread Cert.AdamGateUpIdeal.nD Cert.AdamGateUpIdeal.τ).loc Cert.AdamGateUpIdeal.main_v3_3) = v3 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3)
          ∧ r.2.mem ((c.tc : Thread Cert.AdamGateUpIdeal.nD Cert.AdamGateUpIdeal.τ).loc Cert.AdamGateUpIdeal.main_arg4) = m ((c.tc : Thread Cert.AdamGateUpIdeal.nD Cert.AdamGateUpIdeal.τ).loc Cert.AdamGateUpIdeal.main_arg4))
      ∧ θ_run (Cert.AdamGateUpRefIdeal.defs (F := Ideal)) (onTc (τ := Cert.AdamGateUpRefIdeal.τ) (Cert.AdamGateUpRefIdeal.main (F := Ideal))) ⟨m', fun _ => 0, g'⟩ (fun r => ∀ c : Dev Cert.AdamGateUpRefIdeal.nD,
          r.2.mem ((c.tc : Thread Cert.AdamGateUpRefIdeal.nD Cert.AdamGateUpRefIdeal.τ).loc Cert.AdamGateUpRefIdeal.main_v6) = v0 c
          ∧ r.2.mem ((c.tc : Thread Cert.AdamGateUpRefIdeal.nD Cert.AdamGateUpRefIdeal.τ).loc Cert.AdamGateUpRefIdeal.main_v33) = v1 c
          ∧ r.2.mem ((c.tc : Thread Cert.AdamGateUpRefIdeal.nD Cert.AdamGateUpRefIdeal.τ).loc Cert.AdamGateUpRefIdeal.main_v14) = v2 c
          ∧ r.2.mem ((c.tc : Thread Cert.AdamGateUpRefIdeal.nD Cert.AdamGateUpRefIdeal.τ).loc Cert.AdamGateUpRefIdeal.main_v20) = v3 c
          ∧ r.2.mem ((c.tc : Thread Cert.AdamGateUpRefIdeal.nD Cert.AdamGateUpRefIdeal.τ).loc Cert.AdamGateUpRefIdeal.main_arg0) = m' ((c.tc : Thread Cert.AdamGateUpRefIdeal.nD Cert.AdamGateUpRefIdeal.τ).loc Cert.AdamGateUpRefIdeal.main_arg0)
          ∧ r.2.mem ((c.tc : Thread Cert.AdamGateUpRefIdeal.nD Cert.AdamGateUpRefIdeal.τ).loc Cert.AdamGateUpRefIdeal.main_arg1) = m' ((c.tc : Thread Cert.AdamGateUpRefIdeal.nD Cert.AdamGateUpRefIdeal.τ).loc Cert.AdamGateUpRefIdeal.main_arg1)
          ∧ r.2.mem ((c.tc : Thread Cert.AdamGateUpRefIdeal.nD Cert.AdamGateUpRefIdeal.τ).loc Cert.AdamGateUpRefIdeal.main_arg2) = m' ((c.tc : Thread Cert.AdamGateUpRefIdeal.nD Cert.AdamGateUpRefIdeal.τ).loc Cert.AdamGateUpRefIdeal.main_arg2)
          ∧ r.2.mem ((c.tc : Thread Cert.AdamGateUpRefIdeal.nD Cert.AdamGateUpRefIdeal.τ).loc Cert.AdamGateUpRefIdeal.main_arg3) = m' ((c.tc : Thread Cert.AdamGateUpRefIdeal.nD Cert.AdamGateUpRefIdeal.τ).loc Cert.AdamGateUpRefIdeal.main_arg3)
          ∧ r.2.mem ((c.tc : Thread Cert.AdamGateUpRefIdeal.nD Cert.AdamGateUpRefIdeal.τ).loc Cert.AdamGateUpRefIdeal.main_arg4) = m' ((c.tc : Thread Cert.AdamGateUpRefIdeal.nD Cert.AdamGateUpRefIdeal.τ).loc Cert.AdamGateUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamPleUp_AdamPleUpIdeal : Prop :=
  True

def algebraic_AdamPleUpIdeal_AdamPleUpRefIdeal [hAdamPleUpIdeal : Cert.AdamPleUpIdeal.Facts] [hAdamPleUpRefIdeal : Cert.AdamPleUpRefIdeal.Facts] : Prop :=
  ∀ (m : (ℓ : Loc Cert.AdamPleUpIdeal.nD Cert.AdamPleUpIdeal.τ Cert.AdamPleUpIdeal.sig) → Buf (Elt Ideal) ℓ) (g : Dev Cert.AdamPleUpIdeal.nD → PrngReg)
    (m' : (ℓ : Loc Cert.AdamPleUpRefIdeal.nD Cert.AdamPleUpRefIdeal.τ Cert.AdamPleUpRefIdeal.sig) → Buf (Elt Ideal) ℓ) (g' : Dev Cert.AdamPleUpRefIdeal.nD → PrngReg), Pre_AdamPleUpIdeal m →
    (∀ c : Dev Cert.AdamPleUpIdeal.nD,
      m' ((c.tc : Thread Cert.AdamPleUpRefIdeal.nD Cert.AdamPleUpRefIdeal.τ).loc Cert.AdamPleUpRefIdeal.main_arg0) = m ((c.tc : Thread Cert.AdamPleUpIdeal.nD Cert.AdamPleUpIdeal.τ).loc Cert.AdamPleUpIdeal.main_arg0)
      ∧ m' ((c.tc : Thread Cert.AdamPleUpRefIdeal.nD Cert.AdamPleUpRefIdeal.τ).loc Cert.AdamPleUpRefIdeal.main_arg1) = m ((c.tc : Thread Cert.AdamPleUpIdeal.nD Cert.AdamPleUpIdeal.τ).loc Cert.AdamPleUpIdeal.main_arg1)
      ∧ m' ((c.tc : Thread Cert.AdamPleUpRefIdeal.nD Cert.AdamPleUpRefIdeal.τ).loc Cert.AdamPleUpRefIdeal.main_arg2) = m ((c.tc : Thread Cert.AdamPleUpIdeal.nD Cert.AdamPleUpIdeal.τ).loc Cert.AdamPleUpIdeal.main_arg2)
      ∧ m' ((c.tc : Thread Cert.AdamPleUpRefIdeal.nD Cert.AdamPleUpRefIdeal.τ).loc Cert.AdamPleUpRefIdeal.main_arg3) = m ((c.tc : Thread Cert.AdamPleUpIdeal.nD Cert.AdamPleUpIdeal.τ).loc Cert.AdamPleUpIdeal.main_arg3)
      ∧ m' ((c.tc : Thread Cert.AdamPleUpRefIdeal.nD Cert.AdamPleUpRefIdeal.τ).loc Cert.AdamPleUpRefIdeal.main_arg4) = m ((c.tc : Thread Cert.AdamPleUpIdeal.nD Cert.AdamPleUpIdeal.τ).loc Cert.AdamPleUpIdeal.main_arg4)) →
    ∃ (v0 : (c : Dev Cert.AdamPleUpIdeal.nD) → Buf (Elt Ideal) ((c.tc : Thread Cert.AdamPleUpIdeal.nD Cert.AdamPleUpIdeal.τ).loc Cert.AdamPleUpIdeal.main_v0_0)) (v1 : (c : Dev Cert.AdamPleUpIdeal.nD) → Buf (Elt Ideal) ((c.tc : Thread Cert.AdamPleUpIdeal.nD Cert.AdamPleUpIdeal.τ).loc Cert.AdamPleUpIdeal.main_v0_1)) (v2 : (c : Dev Cert.AdamPleUpIdeal.nD) → Buf (Elt Ideal) ((c.tc : Thread Cert.AdamPleUpIdeal.nD Cert.AdamPleUpIdeal.τ).loc Cert.AdamPleUpIdeal.main_v0_2)) (v3 : (c : Dev Cert.AdamPleUpIdeal.nD) → Buf (Elt Ideal) ((c.tc : Thread Cert.AdamPleUpIdeal.nD Cert.AdamPleUpIdeal.τ).loc Cert.AdamPleUpIdeal.main_v0_3)),
      θ_run (Cert.AdamPleUpIdeal.defs (F := Ideal)) (onTc (τ := Cert.AdamPleUpIdeal.τ) (Cert.AdamPleUpIdeal.main (F := Ideal))) ⟨m, fun _ => 0, g⟩ (fun r => ∀ c : Dev Cert.AdamPleUpIdeal.nD,
          r.2.mem ((c.tc : Thread Cert.AdamPleUpIdeal.nD Cert.AdamPleUpIdeal.τ).loc Cert.AdamPleUpIdeal.main_v0_0) = v0 c
          ∧ r.2.mem ((c.tc : Thread Cert.AdamPleUpIdeal.nD Cert.AdamPleUpIdeal.τ).loc Cert.AdamPleUpIdeal.main_v0_1) = v1 c
          ∧ r.2.mem ((c.tc : Thread Cert.AdamPleUpIdeal.nD Cert.AdamPleUpIdeal.τ).loc Cert.AdamPleUpIdeal.main_v0_2) = v2 c
          ∧ r.2.mem ((c.tc : Thread Cert.AdamPleUpIdeal.nD Cert.AdamPleUpIdeal.τ).loc Cert.AdamPleUpIdeal.main_v0_3) = v3 c
          ∧ r.2.mem ((c.tc : Thread Cert.AdamPleUpIdeal.nD Cert.AdamPleUpIdeal.τ).loc Cert.AdamPleUpIdeal.main_arg0) = m ((c.tc : Thread Cert.AdamPleUpIdeal.nD Cert.AdamPleUpIdeal.τ).loc Cert.AdamPleUpIdeal.main_arg0)
          ∧ r.2.mem ((c.tc : Thread Cert.AdamPleUpIdeal.nD Cert.AdamPleUpIdeal.τ).loc Cert.AdamPleUpIdeal.main_arg1) = m ((c.tc : Thread Cert.AdamPleUpIdeal.nD Cert.AdamPleUpIdeal.τ).loc Cert.AdamPleUpIdeal.main_arg1)
          ∧ r.2.mem ((c.tc : Thread Cert.AdamPleUpIdeal.nD Cert.AdamPleUpIdeal.τ).loc Cert.AdamPleUpIdeal.main_arg2) = m ((c.tc : Thread Cert.AdamPleUpIdeal.nD Cert.AdamPleUpIdeal.τ).loc Cert.AdamPleUpIdeal.main_arg2)
          ∧ r.2.mem ((c.tc : Thread Cert.AdamPleUpIdeal.nD Cert.AdamPleUpIdeal.τ).loc Cert.AdamPleUpIdeal.main_arg3) = m ((c.tc : Thread Cert.AdamPleUpIdeal.nD Cert.AdamPleUpIdeal.τ).loc Cert.AdamPleUpIdeal.main_arg3)
          ∧ r.2.mem ((c.tc : Thread Cert.AdamPleUpIdeal.nD Cert.AdamPleUpIdeal.τ).loc Cert.AdamPleUpIdeal.main_arg4) = m ((c.tc : Thread Cert.AdamPleUpIdeal.nD Cert.AdamPleUpIdeal.τ).loc Cert.AdamPleUpIdeal.main_arg4))
      ∧ θ_run (Cert.AdamPleUpRefIdeal.defs (F := Ideal)) (onTc (τ := Cert.AdamPleUpRefIdeal.τ) (Cert.AdamPleUpRefIdeal.main (F := Ideal))) ⟨m', fun _ => 0, g'⟩ (fun r => ∀ c : Dev Cert.AdamPleUpRefIdeal.nD,
          r.2.mem ((c.tc : Thread Cert.AdamPleUpRefIdeal.nD Cert.AdamPleUpRefIdeal.τ).loc Cert.AdamPleUpRefIdeal.main_v6) = v0 c
          ∧ r.2.mem ((c.tc : Thread Cert.AdamPleUpRefIdeal.nD Cert.AdamPleUpRefIdeal.τ).loc Cert.AdamPleUpRefIdeal.main_v30) = v1 c
          ∧ r.2.mem ((c.tc : Thread Cert.AdamPleUpRefIdeal.nD Cert.AdamPleUpRefIdeal.τ).loc Cert.AdamPleUpRefIdeal.main_v11) = v2 c
          ∧ r.2.mem ((c.tc : Thread Cert.AdamPleUpRefIdeal.nD Cert.AdamPleUpRefIdeal.τ).loc Cert.AdamPleUpRefIdeal.main_v17) = v3 c
          ∧ r.2.mem ((c.tc : Thread Cert.AdamPleUpRefIdeal.nD Cert.AdamPleUpRefIdeal.τ).loc Cert.AdamPleUpRefIdeal.main_arg0) = m' ((c.tc : Thread Cert.AdamPleUpRefIdeal.nD Cert.AdamPleUpRefIdeal.τ).loc Cert.AdamPleUpRefIdeal.main_arg0)
          ∧ r.2.mem ((c.tc : Thread Cert.AdamPleUpRefIdeal.nD Cert.AdamPleUpRefIdeal.τ).loc Cert.AdamPleUpRefIdeal.main_arg1) = m' ((c.tc : Thread Cert.AdamPleUpRefIdeal.nD Cert.AdamPleUpRefIdeal.τ).loc Cert.AdamPleUpRefIdeal.main_arg1)
          ∧ r.2.mem ((c.tc : Thread Cert.AdamPleUpRefIdeal.nD Cert.AdamPleUpRefIdeal.τ).loc Cert.AdamPleUpRefIdeal.main_arg2) = m' ((c.tc : Thread Cert.AdamPleUpRefIdeal.nD Cert.AdamPleUpRefIdeal.τ).loc Cert.AdamPleUpRefIdeal.main_arg2)
          ∧ r.2.mem ((c.tc : Thread Cert.AdamPleUpRefIdeal.nD Cert.AdamPleUpRefIdeal.τ).loc Cert.AdamPleUpRefIdeal.main_arg3) = m' ((c.tc : Thread Cert.AdamPleUpRefIdeal.nD Cert.AdamPleUpRefIdeal.τ).loc Cert.AdamPleUpRefIdeal.main_arg3)
          ∧ r.2.mem ((c.tc : Thread Cert.AdamPleUpRefIdeal.nD Cert.AdamPleUpRefIdeal.τ).loc Cert.AdamPleUpRefIdeal.main_arg4) = m' ((c.tc : Thread Cert.AdamPleUpRefIdeal.nD Cert.AdamPleUpRefIdeal.τ).loc Cert.AdamPleUpRefIdeal.main_arg4))

def preserves_AdamPleGate_AdamPleGateIdeal : Prop :=
  True

def algebraic_AdamPleGateIdeal_AdamPleGateRefIdeal [hAdamPleGateIdeal : Cert.AdamPleGateIdeal.Facts] [hAdamPleGateRefIdeal : Cert.AdamPleGateRefIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg)
    (m' : (ℓ : Loc Cert.AdamPleGateRefIdeal.nD Cert.AdamPleGateRefIdeal.τ Cert.AdamPleGateRefIdeal.sig) → Buf (Elt Ideal) ℓ) (g' : Dev Cert.AdamPleGateRefIdeal.nD → PrngReg), Pre_AdamPleGateIdeal m →
    (∀ c : Dev Cert.AdamPleGateIdeal.nD,
      m' ((c.tc : Thread Cert.AdamPleGateRefIdeal.nD Cert.AdamPleGateRefIdeal.τ).loc Cert.AdamPleGateRefIdeal.main_arg0) = m ((c.tc : Thread Cert.AdamPleGateIdeal.nD Cert.AdamPleGateIdeal.τ).loc Cert.AdamPleGateIdeal.main_arg0)
      ∧ m' ((c.tc : Thread Cert.AdamPleGateRefIdeal.nD Cert.AdamPleGateRefIdeal.τ).loc Cert.AdamPleGateRefIdeal.main_arg1) = m ((c.tc : Thread Cert.AdamPleGateIdeal.nD Cert.AdamPleGateIdeal.τ).loc Cert.AdamPleGateIdeal.main_arg1)
      ∧ m' ((c.tc : Thread Cert.AdamPleGateRefIdeal.nD Cert.AdamPleGateRefIdeal.τ).loc Cert.AdamPleGateRefIdeal.main_arg2) = m ((c.tc : Thread Cert.AdamPleGateIdeal.nD Cert.AdamPleGateIdeal.τ).loc Cert.AdamPleGateIdeal.main_arg2)
      ∧ m' ((c.tc : Thread Cert.AdamPleGateRefIdeal.nD Cert.AdamPleGateRefIdeal.τ).loc Cert.AdamPleGateRefIdeal.main_arg3) = m ((c.tc : Thread Cert.AdamPleGateIdeal.nD Cert.AdamPleGateIdeal.τ).loc Cert.AdamPleGateIdeal.main_arg3)
      ∧ m' ((c.tc : Thread Cert.AdamPleGateRefIdeal.nD Cert.AdamPleGateRefIdeal.τ).loc Cert.AdamPleGateRefIdeal.main_arg4) = m ((c.tc : Thread Cert.AdamPleGateIdeal.nD Cert.AdamPleGateIdeal.τ).loc Cert.AdamPleGateIdeal.main_arg4)) →
    ∃ (v0 : (c : Dev Cert.AdamPleGateIdeal.nD) → Buf (Elt Ideal) ((c.tc : Thread Cert.AdamPleGateIdeal.nD Cert.AdamPleGateIdeal.τ).loc Cert.AdamPleGateIdeal.main_v0_0)) (v1 : (c : Dev Cert.AdamPleGateIdeal.nD) → Buf (Elt Ideal) ((c.tc : Thread Cert.AdamPleGateIdeal.nD Cert.AdamPleGateIdeal.τ).loc Cert.AdamPleGateIdeal.main_v0_1)) (v2 : (c : Dev Cert.AdamPleGateIdeal.nD) → Buf (Elt Ideal) ((c.tc : Thread Cert.AdamPleGateIdeal.nD Cert.AdamPleGateIdeal.τ).loc Cert.AdamPleGateIdeal.main_v0_2)) (v3 : (c : Dev Cert.AdamPleGateIdeal.nD) → Buf (Elt Ideal) ((c.tc : Thread Cert.AdamPleGateIdeal.nD Cert.AdamPleGateIdeal.τ).loc Cert.AdamPleGateIdeal.main_v0_3)),
      θ_run (Cert.AdamPleGateIdeal.defs (F := Ideal)) (onTc (τ := Cert.AdamPleGateIdeal.τ) (Cert.AdamPleGateIdeal.main (F := Ideal))) ⟨m, fun _ => 0, g⟩ (fun r => ∀ c : Dev Cert.AdamPleGateIdeal.nD,
          r.2.mem ((c.tc : Thread Cert.AdamPleGateIdeal.nD Cert.AdamPleGateIdeal.τ).loc Cert.AdamPleGateIdeal.main_v0_0) = v0 c
          ∧ r.2.mem ((c.tc : Thread Cert.AdamPleGateIdeal.nD Cert.AdamPleGateIdeal.τ).loc Cert.AdamPleGateIdeal.main_v0_1) = v1 c
          ∧ r.2.mem ((c.tc : Thread Cert.AdamPleGateIdeal.nD Cert.AdamPleGateIdeal.τ).loc Cert.AdamPleGateIdeal.main_v0_2) = v2 c
          ∧ r.2.mem ((c.tc : Thread Cert.AdamPleGateIdeal.nD Cert.AdamPleGateIdeal.τ).loc Cert.AdamPleGateIdeal.main_v0_3) = v3 c
          ∧ r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
          ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
          ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
          ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3)
          ∧ r.2.mem ((c.tc : Thread Cert.AdamPleGateIdeal.nD Cert.AdamPleGateIdeal.τ).loc Cert.AdamPleGateIdeal.main_arg4) = m ((c.tc : Thread Cert.AdamPleGateIdeal.nD Cert.AdamPleGateIdeal.τ).loc Cert.AdamPleGateIdeal.main_arg4))
      ∧ θ_run (Cert.AdamPleGateRefIdeal.defs (F := Ideal)) (onTc (τ := Cert.AdamPleGateRefIdeal.τ) (Cert.AdamPleGateRefIdeal.main (F := Ideal))) ⟨m', fun _ => 0, g'⟩ (fun r => ∀ c : Dev Cert.AdamPleGateRefIdeal.nD,
          r.2.mem ((c.tc : Thread Cert.AdamPleGateRefIdeal.nD Cert.AdamPleGateRefIdeal.τ).loc Cert.AdamPleGateRefIdeal.main_v6) = v0 c
          ∧ r.2.mem ((c.tc : Thread Cert.AdamPleGateRefIdeal.nD Cert.AdamPleGateRefIdeal.τ).loc Cert.AdamPleGateRefIdeal.main_v30) = v1 c
          ∧ r.2.mem ((c.tc : Thread Cert.AdamPleGateRefIdeal.nD Cert.AdamPleGateRefIdeal.τ).loc Cert.AdamPleGateRefIdeal.main_v11) = v2 c
          ∧ r.2.mem ((c.tc : Thread Cert.AdamPleGateRefIdeal.nD Cert.AdamPleGateRefIdeal.τ).loc Cert.AdamPleGateRefIdeal.main_v17) = v3 c
          ∧ r.2.mem ((c.tc : Thread Cert.AdamPleGateRefIdeal.nD Cert.AdamPleGateRefIdeal.τ).loc Cert.AdamPleGateRefIdeal.main_arg0) = m' ((c.tc : Thread Cert.AdamPleGateRefIdeal.nD Cert.AdamPleGateRefIdeal.τ).loc Cert.AdamPleGateRefIdeal.main_arg0)
          ∧ r.2.mem ((c.tc : Thread Cert.AdamPleGateRefIdeal.nD Cert.AdamPleGateRefIdeal.τ).loc Cert.AdamPleGateRefIdeal.main_arg1) = m' ((c.tc : Thread Cert.AdamPleGateRefIdeal.nD Cert.AdamPleGateRefIdeal.τ).loc Cert.AdamPleGateRefIdeal.main_arg1)
          ∧ r.2.mem ((c.tc : Thread Cert.AdamPleGateRefIdeal.nD Cert.AdamPleGateRefIdeal.τ).loc Cert.AdamPleGateRefIdeal.main_arg2) = m' ((c.tc : Thread Cert.AdamPleGateRefIdeal.nD Cert.AdamPleGateRefIdeal.τ).loc Cert.AdamPleGateRefIdeal.main_arg2)
          ∧ r.2.mem ((c.tc : Thread Cert.AdamPleGateRefIdeal.nD Cert.AdamPleGateRefIdeal.τ).loc Cert.AdamPleGateRefIdeal.main_arg3) = m' ((c.tc : Thread Cert.AdamPleGateRefIdeal.nD Cert.AdamPleGateRefIdeal.τ).loc Cert.AdamPleGateRefIdeal.main_arg3)
          ∧ r.2.mem ((c.tc : Thread Cert.AdamPleGateRefIdeal.nD Cert.AdamPleGateRefIdeal.τ).loc Cert.AdamPleGateRefIdeal.main_arg4) = m' ((c.tc : Thread Cert.AdamPleGateRefIdeal.nD Cert.AdamPleGateRefIdeal.τ).loc Cert.AdamPleGateRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)) →
    ∃ (v0 : (c : Dev Cert.AdamSmallIdeal.nD) → Buf (Elt Ideal) ((c.tc : Thread Cert.AdamSmallIdeal.nD Cert.AdamSmallIdeal.τ).loc Cert.AdamSmallIdeal.main_v9_0)) (v1 : (c : Dev Cert.AdamSmallIdeal.nD) → Buf (Elt Ideal) ((c.tc : Thread Cert.AdamSmallIdeal.nD Cert.AdamSmallIdeal.τ).loc Cert.AdamSmallIdeal.main_v9_1)) (v2 : (c : Dev Cert.AdamSmallIdeal.nD) → Buf (Elt Ideal) ((c.tc : Thread Cert.AdamSmallIdeal.nD Cert.AdamSmallIdeal.τ).loc Cert.AdamSmallIdeal.main_v9_2)) (v3 : (c : Dev Cert.AdamSmallIdeal.nD) → Buf (Elt Ideal) ((c.tc : Thread Cert.AdamSmallIdeal.nD Cert.AdamSmallIdeal.τ).loc Cert.AdamSmallIdeal.main_v9_3)) (v4 : (c : Dev Cert.AdamSmallIdeal.nD) → Buf (Elt Ideal) ((c.tc : Thread Cert.AdamSmallIdeal.nD Cert.AdamSmallIdeal.τ).loc Cert.AdamSmallIdeal.main_v9_4)) (v5 : (c : Dev Cert.AdamSmallIdeal.nD) → Buf (Elt Ideal) ((c.tc : Thread Cert.AdamSmallIdeal.nD Cert.AdamSmallIdeal.τ).loc Cert.AdamSmallIdeal.main_v9_5)) (v6 : (c : Dev Cert.AdamSmallIdeal.nD) → Buf (Elt Ideal) ((c.tc : Thread Cert.AdamSmallIdeal.nD Cert.AdamSmallIdeal.τ).loc Cert.AdamSmallIdeal.main_v9_6)) (v7 : (c : Dev Cert.AdamSmallIdeal.nD) → Buf (Elt Ideal) ((c.tc : Thread Cert.AdamSmallIdeal.nD Cert.AdamSmallIdeal.τ).loc Cert.AdamSmallIdeal.main_v9_7)) (v8 : (c : Dev Cert.AdamSmallIdeal.nD) → Buf (Elt Ideal) ((c.tc : Thread Cert.AdamSmallIdeal.nD Cert.AdamSmallIdeal.τ).loc Cert.AdamSmallIdeal.main_v9_8)) (v9 : (c : Dev Cert.AdamSmallIdeal.nD) → Buf (Elt Ideal) ((c.tc : Thread Cert.AdamSmallIdeal.nD Cert.AdamSmallIdeal.τ).loc Cert.AdamSmallIdeal.main_v9_9)) (v10 : (c : Dev Cert.AdamSmallIdeal.nD) → Buf (Elt Ideal) ((c.tc : Thread Cert.AdamSmallIdeal.nD Cert.AdamSmallIdeal.τ).loc Cert.AdamSmallIdeal.main_v9_10)) (v11 : (c : Dev Cert.AdamSmallIdeal.nD) → Buf (Elt Ideal) ((c.tc : Thread Cert.AdamSmallIdeal.nD Cert.AdamSmallIdeal.τ).loc Cert.AdamSmallIdeal.main_v9_11)) (v12 : (c : Dev Cert.AdamSmallIdeal.nD) → Buf (Elt Ideal) ((c.tc : Thread Cert.AdamSmallIdeal.nD Cert.AdamSmallIdeal.τ).loc Cert.AdamSmallIdeal.main_v9_12)) (v13 : (c : Dev Cert.AdamSmallIdeal.nD) → Buf (Elt Ideal) ((c.tc : Thread Cert.AdamSmallIdeal.nD Cert.AdamSmallIdeal.τ).loc Cert.AdamSmallIdeal.main_v9_13)) (v14 : (c : Dev Cert.AdamSmallIdeal.nD) → Buf (Elt Ideal) ((c.tc : Thread Cert.AdamSmallIdeal.nD Cert.AdamSmallIdeal.τ).loc Cert.AdamSmallIdeal.main_v9_14)) (v15 : (c : Dev Cert.AdamSmallIdeal.nD) → Buf (Elt Ideal) ((c.tc : Thread Cert.AdamSmallIdeal.nD Cert.AdamSmallIdeal.τ).loc Cert.AdamSmallIdeal.main_v9_15)) (v16 : (c : Dev Cert.AdamSmallIdeal.nD) → Buf (Elt Ideal) ((c.tc : Thread Cert.AdamSmallIdeal.nD Cert.AdamSmallIdeal.τ).loc Cert.AdamSmallIdeal.main_v9_16)) (v17 : (c : Dev Cert.AdamSmallIdeal.nD) → Buf (Elt Ideal) ((c.tc : Thread Cert.AdamSmallIdeal.nD Cert.AdamSmallIdeal.τ).loc Cert.AdamSmallIdeal.main_v9_17)) (v18 : (c : Dev Cert.AdamSmallIdeal.nD) → Buf (Elt Ideal) ((c.tc : Thread Cert.AdamSmallIdeal.nD Cert.AdamSmallIdeal.τ).loc Cert.AdamSmallIdeal.main_v9_18)) (v19 : (c : Dev Cert.AdamSmallIdeal.nD) → Buf (Elt Ideal) ((c.tc : Thread Cert.AdamSmallIdeal.nD Cert.AdamSmallIdeal.τ).loc Cert.AdamSmallIdeal.main_v9_19)) (v20 : (c : Dev Cert.AdamSmallIdeal.nD) → Buf (Elt Ideal) ((c.tc : Thread Cert.AdamSmallIdeal.nD Cert.AdamSmallIdeal.τ).loc Cert.AdamSmallIdeal.main_v9_20)) (v21 : (c : Dev Cert.AdamSmallIdeal.nD) → Buf (Elt Ideal) ((c.tc : Thread Cert.AdamSmallIdeal.nD Cert.AdamSmallIdeal.τ).loc Cert.AdamSmallIdeal.main_v9_21)) (v22 : (c : Dev Cert.AdamSmallIdeal.nD) → Buf (Elt Ideal) ((c.tc : Thread Cert.AdamSmallIdeal.nD Cert.AdamSmallIdeal.τ).loc Cert.AdamSmallIdeal.main_v9_22)) (v23 : (c : Dev Cert.AdamSmallIdeal.nD) → Buf (Elt Ideal) ((c.tc : Thread Cert.AdamSmallIdeal.nD Cert.AdamSmallIdeal.τ).loc Cert.AdamSmallIdeal.main_v9_23)) (v24 : (c : Dev Cert.AdamSmallIdeal.nD) → Buf (Elt Ideal) ((c.tc : Thread Cert.AdamSmallIdeal.nD Cert.AdamSmallIdeal.τ).loc Cert.AdamSmallIdeal.main_v9_24)) (v25 : (c : Dev Cert.AdamSmallIdeal.nD) → Buf (Elt Ideal) ((c.tc : Thread Cert.AdamSmallIdeal.nD Cert.AdamSmallIdeal.τ).loc Cert.AdamSmallIdeal.main_v9_25)) (v26 : (c : Dev Cert.AdamSmallIdeal.nD) → Buf (Elt Ideal) ((c.tc : Thread Cert.AdamSmallIdeal.nD Cert.AdamSmallIdeal.τ).loc Cert.AdamSmallIdeal.main_v9_26)) (v27 : (c : Dev Cert.AdamSmallIdeal.nD) → Buf (Elt Ideal) ((c.tc : Thread Cert.AdamSmallIdeal.nD Cert.AdamSmallIdeal.τ).loc Cert.AdamSmallIdeal.main_v9_27)) (v28 : (c : Dev Cert.AdamSmallIdeal.nD) → Buf (Elt Ideal) ((c.tc : Thread Cert.AdamSmallIdeal.nD Cert.AdamSmallIdeal.τ).loc Cert.AdamSmallIdeal.main_v9_28)) (v29 : (c : Dev Cert.AdamSmallIdeal.nD) → Buf (Elt Ideal) ((c.tc : Thread Cert.AdamSmallIdeal.nD Cert.AdamSmallIdeal.τ).loc Cert.AdamSmallIdeal.main_v9_29)) (v30 : (c : Dev Cert.AdamSmallIdeal.nD) → Buf (Elt Ideal) ((c.tc : Thread Cert.AdamSmallIdeal.nD Cert.AdamSmallIdeal.τ).loc Cert.AdamSmallIdeal.main_v9_30)) (v31 : (c : Dev Cert.AdamSmallIdeal.nD) → Buf (Elt Ideal) ((c.tc : Thread Cert.AdamSmallIdeal.nD Cert.AdamSmallIdeal.τ).loc Cert.AdamSmallIdeal.main_v9_31)) (v32 : (c : Dev Cert.AdamSmallIdeal.nD) → Buf (Elt Ideal) ((c.tc : Thread Cert.AdamSmallIdeal.nD Cert.AdamSmallIdeal.τ).loc Cert.AdamSmallIdeal.main_v9_32)) (v33 : (c : Dev Cert.AdamSmallIdeal.nD) → Buf (Elt Ideal) ((c.tc : Thread Cert.AdamSmallIdeal.nD Cert.AdamSmallIdeal.τ).loc Cert.AdamSmallIdeal.main_v9_33)) (v34 : (c : Dev Cert.AdamSmallIdeal.nD) → Buf (Elt Ideal) ((c.tc : Thread Cert.AdamSmallIdeal.nD Cert.AdamSmallIdeal.τ).loc Cert.AdamSmallIdeal.main_v9_34)) (v35 : (c : Dev Cert.AdamSmallIdeal.nD) → Buf (Elt Ideal) ((c.tc : Thread Cert.AdamSmallIdeal.nD Cert.AdamSmallIdeal.τ).loc Cert.AdamSmallIdeal.main_v9_35)) (v36 : (c : Dev Cert.AdamSmallIdeal.nD) → Buf (Elt Ideal) ((c.tc : Thread Cert.AdamSmallIdeal.nD Cert.AdamSmallIdeal.τ).loc Cert.AdamSmallIdeal.main_v9_36)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v9_0) = v0 c
          ∧ r.2.mem ((c.tc : Thread Cert.AdamSmallIdeal.nD Cert.AdamSmallIdeal.τ).loc Cert.AdamSmallIdeal.main_v9_1) = v1 c
          ∧ r.2.mem ((c.tc : Thread Cert.AdamSmallIdeal.nD Cert.AdamSmallIdeal.τ).loc Cert.AdamSmallIdeal.main_v9_2) = v2 c
          ∧ r.2.mem ((c.tc : Thread Cert.AdamSmallIdeal.nD Cert.AdamSmallIdeal.τ).loc Cert.AdamSmallIdeal.main_v9_3) = v3 c
          ∧ r.2.mem ((c.tc : Thread Cert.AdamSmallIdeal.nD Cert.AdamSmallIdeal.τ).loc Cert.AdamSmallIdeal.main_v9_4) = v4 c
          ∧ r.2.mem ((c.tc : Thread Cert.AdamSmallIdeal.nD Cert.AdamSmallIdeal.τ).loc Cert.AdamSmallIdeal.main_v9_5) = v5 c
          ∧ r.2.mem ((c.tc : Thread Cert.AdamSmallIdeal.nD Cert.AdamSmallIdeal.τ).loc Cert.AdamSmallIdeal.main_v9_6) = v6 c
          ∧ r.2.mem ((c.tc : Thread Cert.AdamSmallIdeal.nD Cert.AdamSmallIdeal.τ).loc Cert.AdamSmallIdeal.main_v9_7) = v7 c
          ∧ r.2.mem ((c.tc : Thread Cert.AdamSmallIdeal.nD Cert.AdamSmallIdeal.τ).loc Cert.AdamSmallIdeal.main_v9_8) = v8 c
          ∧ r.2.mem ((c.tc : Thread Cert.AdamSmallIdeal.nD Cert.AdamSmallIdeal.τ).loc Cert.AdamSmallIdeal.main_v9_9) = v9 c
          ∧ r.2.mem ((c.tc : Thread Cert.AdamSmallIdeal.nD Cert.AdamSmallIdeal.τ).loc Cert.AdamSmallIdeal.main_v9_10) = v10 c
          ∧ r.2.mem ((c.tc : Thread Cert.AdamSmallIdeal.nD Cert.AdamSmallIdeal.τ).loc Cert.AdamSmallIdeal.main_v9_11) = v11 c
          ∧ r.2.mem ((c.tc : Thread Cert.AdamSmallIdeal.nD Cert.AdamSmallIdeal.τ).loc Cert.AdamSmallIdeal.main_v9_12) = v12 c
          ∧ r.2.mem ((c.tc : Thread Cert.AdamSmallIdeal.nD Cert.AdamSmallIdeal.τ).loc Cert.AdamSmallIdeal.main_v9_13) = v13 c
          ∧ r.2.mem ((c.tc : Thread Cert.AdamSmallIdeal.nD Cert.AdamSmallIdeal.τ).loc Cert.AdamSmallIdeal.main_v9_14) = v14 c
          ∧ r.2.mem ((c.tc : Thread Cert.AdamSmallIdeal.nD Cert.AdamSmallIdeal.τ).loc Cert.AdamSmallIdeal.main_v9_15) = v15 c
          ∧ r.2.mem ((c.tc : Thread Cert.AdamSmallIdeal.nD Cert.AdamSmallIdeal.τ).loc Cert.AdamSmallIdeal.main_v9_16) = v16 c
          ∧ r.2.mem ((c.tc : Thread Cert.AdamSmallIdeal.nD Cert.AdamSmallIdeal.τ).loc Cert.AdamSmallIdeal.main_v9_17) = v17 c
          ∧ r.2.mem ((c.tc : Thread Cert.AdamSmallIdeal.nD Cert.AdamSmallIdeal.τ).loc Cert.AdamSmallIdeal.main_v9_18) = v18 c
          ∧ r.2.mem ((c.tc : Thread Cert.AdamSmallIdeal.nD Cert.AdamSmallIdeal.τ).loc Cert.AdamSmallIdeal.main_v9_19) = v19 c
          ∧ r.2.mem ((c.tc : Thread Cert.AdamSmallIdeal.nD Cert.AdamSmallIdeal.τ).loc Cert.AdamSmallIdeal.main_v9_20) = v20 c
          ∧ r.2.mem ((c.tc : Thread Cert.AdamSmallIdeal.nD Cert.AdamSmallIdeal.τ).loc Cert.AdamSmallIdeal.main_v9_21) = v21 c
          ∧ r.2.mem ((c.tc : Thread Cert.AdamSmallIdeal.nD Cert.AdamSmallIdeal.τ).loc Cert.AdamSmallIdeal.main_v9_22) = v22 c
          ∧ r.2.mem ((c.tc : Thread Cert.AdamSmallIdeal.nD Cert.AdamSmallIdeal.τ).loc Cert.AdamSmallIdeal.main_v9_23) = v23 c
          ∧ r.2.mem ((c.tc : Thread Cert.AdamSmallIdeal.nD Cert.AdamSmallIdeal.τ).loc Cert.AdamSmallIdeal.main_v9_24) = v24 c
          ∧ r.2.mem ((c.tc : Thread Cert.AdamSmallIdeal.nD Cert.AdamSmallIdeal.τ).loc Cert.AdamSmallIdeal.main_v9_25) = v25 c
          ∧ r.2.mem ((c.tc : Thread Cert.AdamSmallIdeal.nD Cert.AdamSmallIdeal.τ).loc Cert.AdamSmallIdeal.main_v9_26) = v26 c
          ∧ r.2.mem ((c.tc : Thread Cert.AdamSmallIdeal.nD Cert.AdamSmallIdeal.τ).loc Cert.AdamSmallIdeal.main_v9_27) = v27 c
          ∧ r.2.mem ((c.tc : Thread Cert.AdamSmallIdeal.nD Cert.AdamSmallIdeal.τ).loc Cert.AdamSmallIdeal.main_v9_28) = v28 c
          ∧ r.2.mem ((c.tc : Thread Cert.AdamSmallIdeal.nD Cert.AdamSmallIdeal.τ).loc Cert.AdamSmallIdeal.main_v9_29) = v29 c
          ∧ r.2.mem ((c.tc : Thread Cert.AdamSmallIdeal.nD Cert.AdamSmallIdeal.τ).loc Cert.AdamSmallIdeal.main_v9_30) = v30 c
          ∧ r.2.mem ((c.tc : Thread Cert.AdamSmallIdeal.nD Cert.AdamSmallIdeal.τ).loc Cert.AdamSmallIdeal.main_v9_31) = v31 c
          ∧ r.2.mem ((c.tc : Thread Cert.AdamSmallIdeal.nD Cert.AdamSmallIdeal.τ).loc Cert.AdamSmallIdeal.main_v9_32) = v32 c
          ∧ r.2.mem ((c.tc : Thread Cert.AdamSmallIdeal.nD Cert.AdamSmallIdeal.τ).loc Cert.AdamSmallIdeal.main_v9_33) = v33 c
          ∧ r.2.mem ((c.tc : Thread Cert.AdamSmallIdeal.nD Cert.AdamSmallIdeal.τ).loc Cert.AdamSmallIdeal.main_v9_34) = v34 c
          ∧ r.2.mem ((c.tc : Thread Cert.AdamSmallIdeal.nD Cert.AdamSmallIdeal.τ).loc Cert.AdamSmallIdeal.main_v9_35) = v35 c
          ∧ r.2.mem ((c.tc : Thread Cert.AdamSmallIdeal.nD Cert.AdamSmallIdeal.τ).loc Cert.AdamSmallIdeal.main_v9_36) = v36 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v1) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v6) = v2 c
          ∧ r.2.mem ((c.tc : Thread Cert.AdamSmallRefIdeal.nD Cert.AdamSmallRefIdeal.τ).loc Cert.AdamSmallRefIdeal.main_v12) = v3 c
          ∧ r.2.mem ((c.tc : Thread Cert.AdamSmallRefIdeal.nD Cert.AdamSmallRefIdeal.τ).loc Cert.AdamSmallRefIdeal.main_v29) = v4 c
          ∧ r.2.mem ((c.tc : Thread Cert.AdamSmallRefIdeal.nD Cert.AdamSmallRefIdeal.τ).loc Cert.AdamSmallRefIdeal.main_v56) = v5 c
          ∧ r.2.mem ((c.tc : Thread Cert.AdamSmallRefIdeal.nD Cert.AdamSmallRefIdeal.τ).loc Cert.AdamSmallRefIdeal.main_v37) = v6 c
          ∧ r.2.mem ((c.tc : Thread Cert.AdamSmallRefIdeal.nD Cert.AdamSmallRefIdeal.τ).loc Cert.AdamSmallRefIdeal.main_v43) = v7 c
          ∧ r.2.mem ((c.tc : Thread Cert.AdamSmallRefIdeal.nD Cert.AdamSmallRefIdeal.τ).loc Cert.AdamSmallRefIdeal.main_v60) = v8 c
          ∧ r.2.mem ((c.tc : Thread Cert.AdamSmallRefIdeal.nD Cert.AdamSmallRefIdeal.τ).loc Cert.AdamSmallRefIdeal.main_v87) = v9 c
          ∧ r.2.mem ((c.tc : Thread Cert.AdamSmallRefIdeal.nD Cert.AdamSmallRefIdeal.τ).loc Cert.AdamSmallRefIdeal.main_v68) = v10 c
          ∧ r.2.mem ((c.tc : Thread Cert.AdamSmallRefIdeal.nD Cert.AdamSmallRefIdeal.τ).loc Cert.AdamSmallRefIdeal.main_v74) = v11 c
          ∧ r.2.mem ((c.tc : Thread Cert.AdamSmallRefIdeal.nD Cert.AdamSmallRefIdeal.τ).loc Cert.AdamSmallRefIdeal.main_v88) = v12 c
          ∧ r.2.mem ((c.tc : Thread Cert.AdamSmallRefIdeal.nD Cert.AdamSmallRefIdeal.τ).loc Cert.AdamSmallRefIdeal.main_v112) = v13 c
          ∧ r.2.mem ((c.tc : Thread Cert.AdamSmallRefIdeal.nD Cert.AdamSmallRefIdeal.τ).loc Cert.AdamSmallRefIdeal.main_v93) = v14 c
          ∧ r.2.mem ((c.tc : Thread Cert.AdamSmallRefIdeal.nD Cert.AdamSmallRefIdeal.τ).loc Cert.AdamSmallRefIdeal.main_v99) = v15 c
          ∧ r.2.mem ((c.tc : Thread Cert.AdamSmallRefIdeal.nD Cert.AdamSmallRefIdeal.τ).loc Cert.AdamSmallRefIdeal.main_v115) = v16 c
          ∧ r.2.mem ((c.tc : Thread Cert.AdamSmallRefIdeal.nD Cert.AdamSmallRefIdeal.τ).loc Cert.AdamSmallRefIdeal.main_v142) = v17 c
          ∧ r.2.mem ((c.tc : Thread Cert.AdamSmallRefIdeal.nD Cert.AdamSmallRefIdeal.τ).loc Cert.AdamSmallRefIdeal.main_v123) = v18 c
          ∧ r.2.mem ((c.tc : Thread Cert.AdamSmallRefIdeal.nD Cert.AdamSmallRefIdeal.τ).loc Cert.AdamSmallRefIdeal.main_v129) = v19 c
          ∧ r.2.mem ((c.tc : Thread Cert.AdamSmallRefIdeal.nD Cert.AdamSmallRefIdeal.τ).loc Cert.AdamSmallRefIdeal.main_v143) = v20 c
          ∧ r.2.mem ((c.tc : Thread Cert.AdamSmallRefIdeal.nD Cert.AdamSmallRefIdeal.τ).loc Cert.AdamSmallRefIdeal.main_v167) = v21 c
          ∧ r.2.mem ((c.tc : Thread Cert.AdamSmallRefIdeal.nD Cert.AdamSmallRefIdeal.τ).loc Cert.AdamSmallRefIdeal.main_v148) = v22 c
          ∧ r.2.mem ((c.tc : Thread Cert.AdamSmallRefIdeal.nD Cert.AdamSmallRefIdeal.τ).loc Cert.AdamSmallRefIdeal.main_v154) = v23 c
          ∧ r.2.mem ((c.tc : Thread Cert.AdamSmallRefIdeal.nD Cert.AdamSmallRefIdeal.τ).loc Cert.AdamSmallRefIdeal.main_v169) = v24 c
          ∧ r.2.mem ((c.tc : Thread Cert.AdamSmallRefIdeal.nD Cert.AdamSmallRefIdeal.τ).loc Cert.AdamSmallRefIdeal.main_v193) = v25 c
          ∧ r.2.mem ((c.tc : Thread Cert.AdamSmallRefIdeal.nD Cert.AdamSmallRefIdeal.τ).loc Cert.AdamSmallRefIdeal.main_v174) = v26 c
          ∧ r.2.mem ((c.tc : Thread Cert.AdamSmallRefIdeal.nD Cert.AdamSmallRefIdeal.τ).loc Cert.AdamSmallRefIdeal.main_v180) = v27 c
          ∧ r.2.mem ((c.tc : Thread Cert.AdamSmallRefIdeal.nD Cert.AdamSmallRefIdeal.τ).loc Cert.AdamSmallRefIdeal.main_v194) = v28 c
          ∧ r.2.mem ((c.tc : Thread Cert.AdamSmallRefIdeal.nD Cert.AdamSmallRefIdeal.τ).loc Cert.AdamSmallRefIdeal.main_v218) = v29 c
          ∧ r.2.mem ((c.tc : Thread Cert.AdamSmallRefIdeal.nD Cert.AdamSmallRefIdeal.τ).loc Cert.AdamSmallRefIdeal.main_v199) = v30 c
          ∧ r.2.mem ((c.tc : Thread Cert.AdamSmallRefIdeal.nD Cert.AdamSmallRefIdeal.τ).loc Cert.AdamSmallRefIdeal.main_v205) = v31 c
          ∧ r.2.mem ((c.tc : Thread Cert.AdamSmallRefIdeal.nD Cert.AdamSmallRefIdeal.τ).loc Cert.AdamSmallRefIdeal.main_v219) = v32 c
          ∧ r.2.mem ((c.tc : Thread Cert.AdamSmallRefIdeal.nD Cert.AdamSmallRefIdeal.τ).loc Cert.AdamSmallRefIdeal.main_v243) = v33 c
          ∧ r.2.mem ((c.tc : Thread Cert.AdamSmallRefIdeal.nD Cert.AdamSmallRefIdeal.τ).loc Cert.AdamSmallRefIdeal.main_v224) = v34 c
          ∧ r.2.mem ((c.tc : Thread Cert.AdamSmallRefIdeal.nD Cert.AdamSmallRefIdeal.τ).loc Cert.AdamSmallRefIdeal.main_v230) = v35 c
          ∧ r.2.mem ((c.tc : Thread Cert.AdamSmallRefIdeal.nD Cert.AdamSmallRefIdeal.τ).loc Cert.AdamSmallRefIdeal.main_v244) = v36 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36))

def Claim : Prop :=
  ∃ (hKernel : Cert.Kernel.Facts) (hKernelIdeal : Cert.KernelIdeal.Facts) (hReferenceIdeal : Cert.ReferenceIdeal.Facts) (hFfnHidden : Cert.FfnHidden.Facts) (hFfnHiddenIdeal : Cert.FfnHiddenIdeal.Facts) (hFfnHiddenRefIdeal : Cert.FfnHiddenRefIdeal.Facts) (hFfnDownGrad : Cert.FfnDownGrad.Facts) (hFfnDownGradIdeal : Cert.FfnDownGradIdeal.Facts) (hFfnDownGradRefIdeal : Cert.FfnDownGradRefIdeal.Facts) (hFfnUpGrad : Cert.FfnUpGrad.Facts) (hFfnUpGradIdeal : Cert.FfnUpGradIdeal.Facts) (hFfnUpGradRefIdeal : Cert.FfnUpGradRefIdeal.Facts) (hFfnInput : Cert.FfnInput.Facts) (hFfnInputIdeal : Cert.FfnInputIdeal.Facts) (hFfnInputRefIdeal : Cert.FfnInputRefIdeal.Facts) (hFfnFwdHidden : Cert.FfnFwdHidden.Facts) (hFfnFwdHiddenIdeal : Cert.FfnFwdHiddenIdeal.Facts) (hFfnFwdHiddenRefIdeal : Cert.FfnFwdHiddenRefIdeal.Facts) (hFfnFwdDown : Cert.FfnFwdDown.Facts) (hFfnFwdDownIdeal : Cert.FfnFwdDownIdeal.Facts) (hFfnFwdDownRefIdeal : Cert.FfnFwdDownRefIdeal.Facts) (hInProj : Cert.InProj.Facts) (hInProjIdeal : Cert.InProjIdeal.Facts) (hInProjRefIdeal : Cert.InProjRefIdeal.Facts) (hInInput : Cert.InInput.Facts) (hInInputIdeal : Cert.InInputIdeal.Facts) (hInInputRefIdeal : Cert.InInputRefIdeal.Facts) (hInGrad : Cert.InGrad.Facts) (hInGradIdeal : Cert.InGradIdeal.Facts) (hInGradRefIdeal : Cert.InGradRefIdeal.Facts) (hSquareGrad : Cert.SquareGrad.Facts) (hSquareGradIdeal : Cert.SquareGradIdeal.Facts) (hSquareGradRefIdeal : Cert.SquareGradRefIdeal.Facts) (hKvGrad : Cert.KvGrad.Facts) (hKvGradIdeal : Cert.KvGradIdeal.Facts) (hKvGradRefIdeal : Cert.KvGradRefIdeal.Facts) (hPleUpGrad : Cert.PleUpGrad.Facts) (hPleUpGradIdeal : Cert.PleUpGradIdeal.Facts) (hPleUpGradRefIdeal : Cert.PleUpGradRefIdeal.Facts) (hAdamIn : Cert.AdamIn.Facts) (hAdamInIdeal : Cert.AdamInIdeal.Facts) (hAdamInRefIdeal : Cert.AdamInRefIdeal.Facts) (hAdamSquare : Cert.AdamSquare.Facts) (hAdamSquareIdeal : Cert.AdamSquareIdeal.Facts) (hAdamSquareRefIdeal : Cert.AdamSquareRefIdeal.Facts) (hAdamKv : Cert.AdamKv.Facts) (hAdamKvIdeal : Cert.AdamKvIdeal.Facts) (hAdamKvRefIdeal : Cert.AdamKvRefIdeal.Facts) (hAdamGateUp : Cert.AdamGateUp.Facts) (hAdamGateUpIdeal : Cert.AdamGateUpIdeal.Facts) (hAdamGateUpRefIdeal : Cert.AdamGateUpRefIdeal.Facts) (hAdamDown : Cert.AdamDown.Facts) (hAdamDownIdeal : Cert.AdamDownIdeal.Facts) (hAdamDownRefIdeal : Cert.AdamDownRefIdeal.Facts) (hAdamPleUp : Cert.AdamPleUp.Facts) (hAdamPleUpIdeal : Cert.AdamPleUpIdeal.Facts) (hAdamPleUpRefIdeal : Cert.AdamPleUpRefIdeal.Facts) (hAdamPleGate : Cert.AdamPleGate.Facts) (hAdamPleGateIdeal : Cert.AdamPleGateIdeal.Facts) (hAdamPleGateRefIdeal : Cert.AdamPleGateRefIdeal.Facts) (hAdamSmall : Cert.AdamSmall.Facts) (hAdamSmallIdeal : Cert.AdamSmallIdeal.Facts) (hAdamSmallRefIdeal : Cert.AdamSmallRefIdeal.Facts) (hPre_hidden_finite : Cert.Pre_hidden_finite.Facts),
    quiescent_Kernel (hKernel := hKernel)
    ∧ quiescent_KernelIdeal (hKernelIdeal := hKernelIdeal)
    ∧ quiescent_ReferenceIdeal (hReferenceIdeal := hReferenceIdeal)
    ∧ quiescent_FfnHidden (hFfnHidden := hFfnHidden)
    ∧ quiescent_FfnHiddenIdeal (hFfnHiddenIdeal := hFfnHiddenIdeal)
    ∧ quiescent_FfnHiddenIdeal_pre_hidden_finite (hFfnHiddenIdeal := hFfnHiddenIdeal) (hPre_hidden_finite := hPre_hidden_finite)
    ∧ quiescent_FfnHiddenRefIdeal (hFfnHiddenRefIdeal := hFfnHiddenRefIdeal)
    ∧ quiescent_FfnHiddenRefIdeal_pre_hidden_finite (hFfnHiddenRefIdeal := hFfnHiddenRefIdeal) (hPre_hidden_finite := hPre_hidden_finite)
    ∧ quiescent_FfnDownGrad (hFfnDownGrad := hFfnDownGrad)
    ∧ quiescent_FfnDownGradIdeal (hFfnDownGradIdeal := hFfnDownGradIdeal)
    ∧ quiescent_FfnDownGradRefIdeal (hFfnDownGradRefIdeal := hFfnDownGradRefIdeal)
    ∧ quiescent_FfnUpGrad (hFfnUpGrad := hFfnUpGrad)
    ∧ quiescent_FfnUpGradIdeal (hFfnUpGradIdeal := hFfnUpGradIdeal)
    ∧ quiescent_FfnUpGradRefIdeal (hFfnUpGradRefIdeal := hFfnUpGradRefIdeal)
    ∧ quiescent_FfnInput (hFfnInput := hFfnInput)
    ∧ quiescent_FfnInputIdeal (hFfnInputIdeal := hFfnInputIdeal)
    ∧ quiescent_FfnInputRefIdeal (hFfnInputRefIdeal := hFfnInputRefIdeal)
    ∧ quiescent_FfnFwdHidden (hFfnFwdHidden := hFfnFwdHidden)
    ∧ quiescent_FfnFwdHiddenIdeal (hFfnFwdHiddenIdeal := hFfnFwdHiddenIdeal)
    ∧ quiescent_FfnFwdHiddenRefIdeal (hFfnFwdHiddenRefIdeal := hFfnFwdHiddenRefIdeal)
    ∧ quiescent_FfnFwdDown (hFfnFwdDown := hFfnFwdDown)
    ∧ quiescent_FfnFwdDownIdeal (hFfnFwdDownIdeal := hFfnFwdDownIdeal)
    ∧ quiescent_FfnFwdDownRefIdeal (hFfnFwdDownRefIdeal := hFfnFwdDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_InInput (hInInput := hInInput)
    ∧ quiescent_InInputIdeal (hInInputIdeal := hInInputIdeal)
    ∧ quiescent_InInputRefIdeal (hInInputRefIdeal := hInInputRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_SquareGrad (hSquareGrad := hSquareGrad)
    ∧ quiescent_SquareGradIdeal (hSquareGradIdeal := hSquareGradIdeal)
    ∧ quiescent_SquareGradRefIdeal (hSquareGradRefIdeal := hSquareGradRefIdeal)
    ∧ quiescent_KvGrad (hKvGrad := hKvGrad)
    ∧ quiescent_KvGradIdeal (hKvGradIdeal := hKvGradIdeal)
    ∧ quiescent_KvGradRefIdeal (hKvGradRefIdeal := hKvGradRefIdeal)
    ∧ quiescent_PleUpGrad (hPleUpGrad := hPleUpGrad)
    ∧ quiescent_PleUpGradIdeal (hPleUpGradIdeal := hPleUpGradIdeal)
    ∧ quiescent_PleUpGradRefIdeal (hPleUpGradRefIdeal := hPleUpGradRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamGateUp (hAdamGateUp := hAdamGateUp)
    ∧ quiescent_AdamGateUpIdeal (hAdamGateUpIdeal := hAdamGateUpIdeal)
    ∧ quiescent_AdamGateUpRefIdeal (hAdamGateUpRefIdeal := hAdamGateUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamPleUp (hAdamPleUp := hAdamPleUp)
    ∧ quiescent_AdamPleUpIdeal (hAdamPleUpIdeal := hAdamPleUpIdeal)
    ∧ quiescent_AdamPleUpRefIdeal (hAdamPleUpRefIdeal := hAdamPleUpRefIdeal)
    ∧ quiescent_AdamPleGate (hAdamPleGate := hAdamPleGate)
    ∧ quiescent_AdamPleGateIdeal (hAdamPleGateIdeal := hAdamPleGateIdeal)
    ∧ quiescent_AdamPleGateRefIdeal (hAdamPleGateRefIdeal := hAdamPleGateRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ preserves_FfnHidden_FfnHiddenIdeal
    ∧ algebraic_FfnHiddenIdeal_FfnHiddenRefIdeal_pre_hidden_finite (hFfnHiddenIdeal := hFfnHiddenIdeal) (hFfnHiddenRefIdeal := hFfnHiddenRefIdeal) (hPre_hidden_finite := hPre_hidden_finite)
    ∧ preserves_FfnDownGrad_FfnDownGradIdeal
    ∧ algebraic_FfnDownGradIdeal_FfnDownGradRefIdeal (hFfnDownGradIdeal := hFfnDownGradIdeal) (hFfnDownGradRefIdeal := hFfnDownGradRefIdeal)
    ∧ preserves_FfnUpGrad_FfnUpGradIdeal
    ∧ algebraic_FfnUpGradIdeal_FfnUpGradRefIdeal (hFfnUpGradIdeal := hFfnUpGradIdeal) (hFfnUpGradRefIdeal := hFfnUpGradRefIdeal)
    ∧ preserves_FfnInput_FfnInputIdeal
    ∧ algebraic_FfnInputIdeal_FfnInputRefIdeal (hFfnInputIdeal := hFfnInputIdeal) (hFfnInputRefIdeal := hFfnInputRefIdeal)
    ∧ preserves_FfnFwdHidden_FfnFwdHiddenIdeal
    ∧ algebraic_FfnFwdHiddenIdeal_FfnFwdHiddenRefIdeal (hFfnFwdHiddenIdeal := hFfnFwdHiddenIdeal) (hFfnFwdHiddenRefIdeal := hFfnFwdHiddenRefIdeal)
    ∧ preserves_FfnFwdDown_FfnFwdDownIdeal
    ∧ algebraic_FfnFwdDownIdeal_FfnFwdDownRefIdeal (hFfnFwdDownIdeal := hFfnFwdDownIdeal) (hFfnFwdDownRefIdeal := hFfnFwdDownRefIdeal)
    ∧ preserves_InProj_InProjIdeal
    ∧ algebraic_InProjIdeal_InProjRefIdeal (hInProjIdeal := hInProjIdeal) (hInProjRefIdeal := hInProjRefIdeal)
    ∧ preserves_InInput_InInputIdeal
    ∧ algebraic_InInputIdeal_InInputRefIdeal (hInInputIdeal := hInInputIdeal) (hInInputRefIdeal := hInInputRefIdeal)
    ∧ preserves_InGrad_InGradIdeal
    ∧ algebraic_InGradIdeal_InGradRefIdeal (hInGradIdeal := hInGradIdeal) (hInGradRefIdeal := hInGradRefIdeal)
    ∧ preserves_SquareGrad_SquareGradIdeal
    ∧ algebraic_SquareGradIdeal_SquareGradRefIdeal (hSquareGradIdeal := hSquareGradIdeal) (hSquareGradRefIdeal := hSquareGradRefIdeal)
    ∧ preserves_KvGrad_KvGradIdeal
    ∧ algebraic_KvGradIdeal_KvGradRefIdeal (hKvGradIdeal := hKvGradIdeal) (hKvGradRefIdeal := hKvGradRefIdeal)
    ∧ preserves_PleUpGrad_PleUpGradIdeal
    ∧ algebraic_PleUpGradIdeal_PleUpGradRefIdeal (hPleUpGradIdeal := hPleUpGradIdeal) (hPleUpGradRefIdeal := hPleUpGradRefIdeal)
    ∧ preserves_AdamIn_AdamInIdeal
    ∧ algebraic_AdamInIdeal_AdamInRefIdeal (hAdamInIdeal := hAdamInIdeal) (hAdamInRefIdeal := hAdamInRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamGateUp_AdamGateUpIdeal
    ∧ algebraic_AdamGateUpIdeal_AdamGateUpRefIdeal (hAdamGateUpIdeal := hAdamGateUpIdeal) (hAdamGateUpRefIdeal := hAdamGateUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamPleUp_AdamPleUpIdeal
    ∧ algebraic_AdamPleUpIdeal_AdamPleUpRefIdeal (hAdamPleUpIdeal := hAdamPleUpIdeal) (hAdamPleUpRefIdeal := hAdamPleUpRefIdeal)
    ∧ preserves_AdamPleGate_AdamPleGateIdeal
    ∧ algebraic_AdamPleGateIdeal_AdamPleGateRefIdeal (hAdamPleGateIdeal := hAdamPleGateIdeal) (hAdamPleGateRefIdeal := hAdamPleGateRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_hidden_finite.lean ====
abbrev S2048x1024 : Shape := ⟨2, ![2048, 1024]⟩
abbrev S2x4x2048x704 : Shape := ⟨4, ![2, 4, 2048, 704]⟩
abbrev S4x704x1024 : Shape := ⟨3, ![4, 704, 1024]⟩
abbrev S_ : Shape := ⟨0, ![]⟩
abbrev S1x4x2048x704 : Shape := ⟨4, ![1, 4, 2048, 704]⟩
abbrev S4x2048x704 : Shape := ⟨3, ![4, 2048, 704]⟩

class Facts : Prop where
  bitsLt_bf16_f32 : FTy.bits .bf16 < FTy.bits .f32
  bcast_S_S2048x1024 : S_.BroadcastsInDim S2048x1024 (![] : Fin 0 → Fin S2048x1024.rank)
  slices_S2x4x2048x704_S1x4x2048x704_1_0_0_0 : S2x4x2048x704.Slices ![1, 0, 0, 0] S1x4x2048x704
  shapeCasts_S1x4x2048x704_S4x2048x704 : S1x4x2048x704.ShapeCasts S4x2048x704
  bcast_S_S4x2048x704 : S_.BroadcastsInDim S4x2048x704 (![] : Fin 0 → Fin S4x2048x704.rank)
  bcast_S_S4x704x1024 : S_.BroadcastsInDim S4x704x1024 (![] : Fin 0 → Fin S4x704x1024.rank)

variable [Facts]

def fn {F : FTy → Type} [FloatOps F] (main_arg0 : FVec F S2048x1024 .bf16) (main_arg1 : FVec F S2x4x2048x704 .bf16) (main_arg2 : FVec F S4x704x1024 .bf16) : IVec S2048x1024 1 × IVec S4x2048x704 1 × IVec S4x704x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S1x4x2048x704 .bf16 := (extractStridedSlice S1x4x2048x704 ![1, 0, 0, 0] · slices_S2x4x2048x704_S1x4x2048x704_1_0_0_0) main_arg1
  let main_v5 : FVec F S4x2048x704 .bf16 := shapeCast S4x2048x704 main_v4 shapeCasts_S1x4x2048x704_S4x2048x704
  let main_v6 : FVec F S4x2048x704 .f32 := (extf .f32 · bitsLt_bf16_f32) main_v5
  let main_v7 : FVec F S4x2048x704 .f32 := Host.absf main_v6
  let main_cst_0 : FVec F S_ .f32 := constant S_ .f32 0x7F800000#32
  let main_v8 : FVec F S4x2048x704 .f32 := broadcastInDim S4x2048x704 ![] bcast_S_S4x2048x704 main_cst_0
  let main_v9 : IVec S4x2048x704 1 := cmpf .olt main_v7 main_v8
  let main_v10 : FVec F S4x704x1024 .f32 := (extf .f32 · bitsLt_bf16_f32) main_arg2
  let main_v11 : FVec F S4x704x1024 .f32 := Host.absf main_v10
  let main_cst_1 : FVec F S_ .f32 := constant S_ .f32 0x7F800000#32
  let main_v12 : FVec F S4x704x1024 .f32 := broadcastInDim S4x704x1024 ![] bcast_S_S4x704x1024 main_cst_1
  let main_v13 : IVec S4x704x1024 1 := cmpf .olt main_v11 main_v12
  (main_v3, main_v9, main_v13)
-- ==== Kernel.lean ====
abbrev S16x2048x64 : Shape := ⟨3, ![16, 2048, 64]⟩
abbrev S8x2048x64 : Shape := ⟨3, ![8, 2048, 64]⟩
abbrev S1x16 : Shape := ⟨2, ![1, 16]⟩
abbrev S2048x1024 : Shape := ⟨2, ![2048, 1024]⟩
abbrev S2048x16x64 : Shape := ⟨3, ![2048, 16, 64]⟩
abbrev S1x16x128x4x4x64 : Shape := ⟨6, ![1, 16, 128, 4, 4, 64]⟩
abbrev S2048x8x64 : Shape := ⟨3, ![2048, 8, 64]⟩
abbrev S1x2048x8x64 : Shape := ⟨4, ![1, 2048, 8, 64]⟩
abbrev S1x2048x4x64 : Shape := ⟨4, ![1, 2048, 4, 64]⟩
abbrev S_ : Shape := ⟨0, ![]⟩
abbrev S1x128x4x64 : Shape := ⟨4, ![1, 128, 4, 64]⟩
abbrev S1x2176x4x64 : Shape := ⟨4, ![1, 2176, 4, 64]⟩
abbrev S1x17x128x4x64 : Shape := ⟨5, ![1, 17, 128, 4, 64]⟩
abbrev S1x16x128x4x64 : Shape := ⟨5, ![1, 16, 128, 4, 64]⟩
abbrev S1x16x256x4x64 : Shape := ⟨5, ![1, 16, 256, 4, 64]⟩
abbrev S16 : Shape := ⟨1, ![16]⟩
abbrev S1x16x4x256x128x4 : Shape := ⟨6, ![1, 16, 4, 256, 128, 4]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x1x4x4x128x256 : Shape := ⟨6, ![1, 1, 4, 4, 128, 256]⟩
abbrev S1x16x1x1x128x256 : Shape := ⟨6, ![1, 16, 1, 1, 128, 256]⟩
abbrev S1x1x4x4x1x1 : Shape := ⟨6, ![1, 1, 4, 4, 1, 1]⟩
abbrev S1x16x4x4x128x1 : Shape := ⟨6, ![1, 16, 4, 4, 128, 1]⟩
abbrev S1x16x4x4x128x257 : Shape := ⟨6, ![1, 16, 4, 4, 128, 257]⟩
abbrev S1x16x4x4x128 : Shape := ⟨5, ![1, 16, 4, 4, 128]⟩
abbrev S16x4x4x128x257 : Shape := ⟨5, ![16, 4, 4, 128, 257]⟩
abbrev S4x4x16x128x257 : Shape := ⟨5, ![4, 4, 16, 128, 257]⟩
abbrev S16x2048x257 : Shape := ⟨3, ![16, 2048, 257]⟩
abbrev S16x2048x1 : Shape := ⟨3, ![16, 2048, 1]⟩
abbrev S16x2048 : Shape := ⟨2, ![16, 2048]⟩
abbrev S2048x16 : Shape := ⟨2, ![2048, 16]⟩
abbrev S2048x128 : Shape := ⟨2, ![2048, 128]⟩
abbrev S16x2048x256 : Shape := ⟨3, ![16, 2048, 256]⟩
abbrev S1x1024 : Shape := ⟨2, ![1, 1024]⟩
abbrev S1x128 : Shape := ⟨2, ![1, 128]⟩
abbrev S16x128x64 : Shape := ⟨3, ![16, 128, 64]⟩
abbrev S8x128x64 : Shape := ⟨3, ![8, 128, 64]⟩
abbrev S128x128 : Shape := ⟨2, ![128, 128]⟩
abbrev S128x1024 : Shape := ⟨2, ![128, 1024]⟩
abbrev S64x128 : Shape := ⟨2, ![64, 128]⟩
abbrev S1x128x64 : Shape := ⟨3, ![1, 128, 64]⟩
abbrev S128x64 : Shape := ⟨2, ![128, 64]⟩
abbrev S256x64 : Shape := ⟨2, ![256, 64]⟩
abbrev S256x128 : Shape := ⟨2, ![256, 128]⟩

abbrev nBuf : Space → Nat
  | .hbm => 124
  | .vmem => 17
  | .smem => 0
  | _ => 0

abbrev bufTy : (tb : Table) → Fin (tcTables nBuf tb) → BufTy
  | .hbm, ⟨0, _⟩ => ⟨S16x2048x64, .bf16⟩
  | .hbm, ⟨1, _⟩ => ⟨S8x2048x64, .bf16⟩
  | .hbm, ⟨2, _⟩ => ⟨S1x16, .f32⟩
  | .hbm, ⟨3, _⟩ => ⟨S2048x1024, .bf16⟩
  | .hbm, ⟨4, _⟩ => ⟨S16x2048x64, .f32⟩
  | .hbm, ⟨5, _⟩ => ⟨S2048x16x64, .f32⟩
  | .hbm, ⟨6, _⟩ => ⟨S1x16x128x4x4x64, .f32⟩
  | .hbm, ⟨7, _⟩ => ⟨S8x2048x64, .f32⟩
  | .hbm, ⟨8, _⟩ => ⟨S2048x8x64, .f32⟩
  | .hbm, ⟨9, _⟩ => ⟨S1x2048x8x64, .f32⟩
  | .hbm, ⟨10, _⟩ => ⟨S1x2048x4x64, .f32⟩
  | .hbm, ⟨11, _⟩ => ⟨S1x2048x4x64, .f32⟩
  | .hbm, ⟨12, _⟩ => ⟨S_, .f32⟩
  | .hbm, ⟨13, _⟩ => ⟨S1x128x4x64, .f32⟩
  | .hbm, ⟨14, _⟩ => ⟨S1x2176x4x64, .f32⟩
  | .hbm, ⟨15, _⟩ => ⟨S1x17x128x4x64, .f32⟩
  | .hbm, ⟨16, _⟩ => ⟨S1x16x128x4x64, .f32⟩
  | .hbm, ⟨17, _⟩ => ⟨S1x16x128x4x64, .f32⟩
  | .hbm, ⟨18, _⟩ => ⟨S1x16x256x4x64, .f32⟩
  | .hbm, ⟨19, _⟩ => ⟨S16, .f32⟩
  | .hbm, ⟨20, _⟩ => ⟨S1x16x4x256x128x4, .f32⟩
  | .hbm, ⟨21, _⟩ => ⟨S1x16x4x4x128x256, .f32⟩
  | .hbm, ⟨22, _⟩ => ⟨S_, .f32⟩
  | .hbm, ⟨23, _⟩ => ⟨S1x16x4x4x128x256, .f32⟩
  | .hbm, ⟨24, _⟩ => ⟨S1x16x4x4x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S16, .i32⟩
  | .hbm, ⟨36, _⟩ => ⟨S16x1x1, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S_, .i32⟩
  | .hbm, ⟨45, _⟩ => ⟨S16x1x1, .i32⟩
  | .hbm, ⟨46, _⟩ => ⟨S16x1x1, .i32⟩
  | .hbm, ⟨47, _⟩ => ⟨S_, .i32⟩
  | .hbm, ⟨48, _⟩ => ⟨S16x1x1, .i32⟩
  | .hbm, ⟨49, _⟩ => ⟨S16x1x1, .i32⟩
  | .hbm, ⟨50, _⟩ => ⟨S1x1x256, .i32⟩
  | .hbm, ⟨51, _⟩ => ⟨S16x1x256, .i32⟩
  | .hbm, ⟨52, _⟩ => ⟨S16x1x256, .i32⟩
  | .hbm, ⟨53, _⟩ => ⟨S16x1x256, .i32⟩
  | .hbm, ⟨54, _⟩ => ⟨S_, .i32⟩
  | .hbm, ⟨55, _⟩ => ⟨S16x1x256, .i32⟩
  | .hbm, ⟨56, _⟩ => ⟨S16x1x256, .i1⟩
  | .hbm, ⟨57, _⟩ => ⟨S1x128x256, .i1⟩
  | .hbm, ⟨58, _⟩ => ⟨S16x128x256, .i1⟩
  | .hbm, ⟨59, _⟩ => ⟨S16x128x256, .i1⟩
  | .hbm, ⟨60, _⟩ => ⟨S16x128x256, .i1⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S16, .f32⟩
  | .hbm, ⟨75, _⟩ => ⟨S4x4, .f32⟩
  | .hbm, ⟨76, _⟩ => ⟨S4x4x1x1, .f32⟩
  | .hbm, ⟨77, _⟩ => ⟨S128x256, .f32⟩
  | .hbm, ⟨78, _⟩ => ⟨S1x1x128x256, .f32⟩
  | .hbm, ⟨79, _⟩ => ⟨S4x4x128x256, .f32⟩
  | .hbm, ⟨80, _⟩ => ⟨S4x4x128x256, .f32⟩
  | .hbm, ⟨81, _⟩ => ⟨S4x4x128x256, .f32⟩
  | .hbm, ⟨82, _⟩ => ⟨S1x1x4x4x128x256, .f32⟩
  | .hbm, ⟨83, _⟩ => ⟨S1x16x4x4x128x256, .f32⟩
  | .hbm, ⟨84, _⟩ => ⟨S1x16x4x4x128x256, .f32⟩
  | .hbm, ⟨85, _⟩ => ⟨S1x16x1x1x128x256, .i1⟩
  | .hbm, ⟨86, _⟩ => ⟨S_, .f32⟩
  | .hbm, ⟨87, _⟩ => ⟨S_, .f32⟩
  | .hbm, ⟨88, _⟩ => ⟨S1x16x4x4x128x256, .i1⟩
  | .hbm, ⟨89, _⟩ => ⟨S1x16x4x4x128x256, .f32⟩
  | .hbm, ⟨90, _⟩ => ⟨S1x16x4x4x128x256, .f32⟩
  | .hbm, ⟨91, _⟩ => ⟨S4x4, .f32⟩
  | .hbm, ⟨92, _⟩ => ⟨S1x1x4x4x1x1, .f32⟩
  | .hbm, ⟨93, _⟩ => ⟨S1x16x4x4x128x1, .f32⟩
  | .hbm, ⟨94, _⟩ => ⟨S1x16x4x4x128x257, .f32⟩
  | .hbm, ⟨95, _⟩ => ⟨S_, .f32⟩
  | .hbm, ⟨96, _⟩ => ⟨S1x16x4x4x128, .f32⟩
  | .hbm, ⟨97, _⟩ => ⟨S_, .f32⟩
  | .hbm, ⟨98, _⟩ => ⟨S1x16x4x4x128, .f32⟩
  | .hbm, ⟨99, _⟩ => ⟨S1x16x4x4x128, .f32⟩
  | .hbm, ⟨100, _⟩ => ⟨S1x16x4x4x128x1, .f32⟩
  | .hbm, ⟨101, _⟩ => ⟨S1x16x4x4x128x257, .f32⟩
  | .hbm, ⟨102, _⟩ => ⟨S1x16x4x4x128x257, .f32⟩
  | .hbm, ⟨103, _⟩ => ⟨S1x16x4x4x128x257, .f32⟩
  | .hbm, ⟨104, _⟩ => ⟨S_, .f32⟩
  | .hbm, ⟨105, _⟩ => ⟨S1x16x4x4x128, .f32⟩
  | .hbm, ⟨106, _⟩ => ⟨S1x16x4x4x128x1, .f32⟩
  | .hbm, ⟨107, _⟩ => ⟨S1x16x4x4x128x257, .f32⟩
  | .hbm, ⟨108, _⟩ => ⟨S1x16x4x4x128x257, .f32⟩
  | .hbm, ⟨109, _⟩ => ⟨S16x4x4x128x257, .f32⟩
  | .hbm, ⟨110, _⟩ => ⟨S4x4x16x128x257, .f32⟩
  | .hbm, ⟨111, _⟩ => ⟨S16x2048x257, .f32⟩
  | .hbm, ⟨112, _⟩ => ⟨S16x2048x1, .f32⟩
  | .hbm, ⟨113, _⟩ => ⟨S16x2048, .f32⟩
  | .hbm, ⟨114, _⟩ => ⟨S2048x16, .f32⟩
  | .hbm, ⟨115, _⟩ => ⟨S_, .i32⟩
  | .hbm, ⟨116, _⟩ => ⟨S_, .f32⟩
  | .hbm, ⟨117, _⟩ => ⟨S2048x128, .f32⟩
  | .hbm, ⟨118, _⟩ => ⟨S16x2048x256, .f32⟩
  | .hbm, ⟨119, _⟩ => ⟨S16x2048x256, .bf16⟩
  | .hbm, ⟨120, _⟩ => ⟨S2048x1024, .bf16⟩
  | .hbm, ⟨121, _⟩ => ⟨S8x2048x64, .f32⟩
  | .hbm, ⟨122, _⟩ => ⟨S1x1024, .f32⟩
  | .hbm, ⟨123, _⟩ => ⟨S1x128, .f32⟩
  | .local _ .vmem, ⟨0, _⟩ => ⟨S16x128x64, .bf16⟩
  | .local _ .vmem, ⟨1, _⟩ => ⟨S16x128x64, .bf16⟩
  | .local _ .vmem, ⟨2, _⟩ => ⟨S8x128x64, .bf16⟩
  | .local _ .vmem, ⟨3, _⟩ => ⟨S8x128x64, .bf16⟩
  | .local _ .vmem, ⟨4, _⟩ => ⟨S8x128x64, .bf16⟩
  | .local _ .vmem, ⟨5, _⟩ => ⟨S8x128x64, .bf16⟩
  | .local _ .vmem, ⟨6, _⟩ => ⟨S16x128x256, .bf16⟩
  | .local _ .vmem, ⟨7, _⟩ => ⟨S16x128x256, .bf16⟩
  | .local _ .vmem, ⟨8, _⟩ => ⟨S128x128, .f32⟩
  | .local _ .vmem, ⟨9, _⟩ => ⟨S128x128, .f32⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S8x2048x64, .f32⟩
  | .local _ .vmem, ⟨15, _⟩ => ⟨S1x1024, .f32⟩
  | .local _ .vmem, ⟨16, _⟩ => ⟨S1x128, .f32⟩
  | _, _ => ⟨S16x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_13 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c_14 : Ref sig .tc := ⟨.hbm, 115, rfl⟩
abbrev main_call1_v0 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95_0 : Ref sig .tc := ⟨.hbm, 120, rfl⟩
abbrev main_v95_1 : Ref sig .tc := ⟨.hbm, 121, rfl⟩
abbrev main_v95_2 : Ref sig .tc := ⟨.hbm, 122, rfl⟩
abbrev main_v95_3 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c1_i32_120 : BitVec 32 := 1#32
  let v193 : BitVec 32 := Scalar.muli arg0 c1_i32_120
  let c0_i32_121 : BitVec 32 := 0#32
  let v194 : BitVec 32 := Scalar.addi v193 c0_i32_121
  let c128_i32 : BitVec 32 := 128#32
  let v195 : BitVec 32 := Scalar.muli v194 c128_i32
  v195
def k0_mult2 (i : grid0.Coords) : BitVec 32 :=
  let arg0 : BitVec 32 := BitVec.ofNat 32 (i 0).val
  let c1_i32_120 : BitVec 32 := 1#32
  let v193 : BitVec 32 := Scalar.muli arg0 c1_i32_120
  let c0_i32_121 : BitVec 32 := 0#32
  let v194 : BitVec 32 := Scalar.addi v193 c0_i32_121
  let c1_i32_122 : BitVec 32 := 1#32
  let v197 : BitVec 32 := Scalar.subi v194 c1_i32_122
  let c0_i32_123 : BitVec 32 := 0#32
  let v198 : BitVec 32 := Scalar.maxsi v197 c0_i32_123
  let c128_i32_124 : BitVec 32 := 128#32
  let v199 : BitVec 32 := Scalar.muli v198 c128_i32_124
  v199
def k0_off1 (i : grid0.Coords) : Fin 3 → Nat :=
  let c0_164 : Index := 0#32
  let arg0 : BitVec 32 := BitVec.ofNat 32 (i 0).val
  let c1_i32_120 : BitVec 32 := 1#32
  let v193 : BitVec 32 := Scalar.muli arg0 c1_i32_120
  let c0_i32_121 : BitVec 32 := 0#32
  let v194 : BitVec 32 := Scalar.addi v193 c0_i32_121
  let c1_i32_122 : BitVec 32 := 1#32
  let v197 : BitVec 32 := Scalar.subi v194 c1_i32_122
  let c0_i32_123 : BitVec 32 := 0#32
  let v198 : BitVec 32 := Scalar.maxsi v197 c0_i32_123
  let c128_i32_124 : BitVec 32 := 128#32
  let v199 : BitVec 32 := Scalar.muli v198 c128_i32_124
  let v200 : BitVec 32 := v199
  let v250 : Index := Scalar.indexCast v200
  let c0_165 : Index := 0#32
  ![0, v250.toNat, 0]
def k0_off2 (i : grid0.Coords) : Fin 3 → Nat :=
  let c0_168 : Index := 0#32
  let arg0 : BitVec 32 := BitVec.ofNat 32 (i 0).val
  let c1_i32_120 : BitVec 32 := 1#32
  let v193 : BitVec 32 := Scalar.muli arg0 c1_i32_120
  let c0_i32_121 : BitVec 32 := 0#32
  let v194 : BitVec 32 := Scalar.addi v193 c0_i32_121
  let c128_i32 : BitVec 32 := 128#32
  let v195 : BitVec 32 := Scalar.muli v194 c128_i32
  let v196 : BitVec 32 := v195
  let v259 : Index := Scalar.indexCast v196
  let c0_169 : Index := 0#32
  ![0, v259.toNat, 0]
def k0_off3 (i : grid0.Coords) : Fin 3 → Nat :=
  let c4_172 : Index := 4#32
  let arg0 : BitVec 32 := BitVec.ofNat 32 (i 0).val
  let c1_i32_120 : BitVec 32 := 1#32
  let v193 : BitVec 32 := Scalar.muli arg0 c1_i32_120
  let c0_i32_121 : BitVec 32 := 0#32
  let v194 : BitVec 32 := Scalar.addi v193 c0_i32_121
  let c1_i32_122 : BitVec 32 := 1#32
  let v197 : BitVec 32 := Scalar.subi v194 c1_i32_122
  let c0_i32_123 : BitVec 32 := 0#32
  let v198 : BitVec 32 := Scalar.maxsi v197 c0_i32_123
  let c128_i32_124 : BitVec 32 := 128#32
  let v199 : BitVec 32 := Scalar.muli v198 c128_i32_124
  let v200 : BitVec 32 := v199
  let v268 : Index := Scalar.indexCast v200
  let c0_173 : Index := 0#32
  ![4, v268.toNat, 0]
def k0_off4 (i : grid0.Coords) : Fin 3 → Nat :=
  let c4_176 : Index := 4#32
  let arg0 : BitVec 32 := BitVec.ofNat 32 (i 0).val
  let c1_i32_120 : BitVec 32 := 1#32
  let v193 : BitVec 32 := Scalar.muli arg0 c1_i32_120
  let c0_i32_121 : BitVec 32 := 0#32
  let v194 : BitVec 32 := Scalar.addi v193 c0_i32_121
  let c128_i32 : BitVec 32 := 128#32
  let v195 : BitVec 32 := Scalar.muli v194 c128_i32
  let v196 : BitVec 32 := v195
  let v277 : Index := Scalar.indexCast v196
  let c0_177 : Index := 0#32
  ![4, v277.toNat, 0]
def k0_mult3 (i : grid0.Coords) : BitVec 32 :=
  let arg0 : BitVec 32 := BitVec.ofNat 32 (i 0).val
  let c1_i32_248 : BitVec 32 := 1#32
  let v410 : BitVec 32 := Scalar.muli arg0 c1_i32_248
  let c0_i32_249 : BitVec 32 := 0#32
  let v411 : BitVec 32 := Scalar.addi v410 c0_i32_249
  let c128_i32_250 : BitVec 32 := 128#32
  let v412 : BitVec 32 := Scalar.muli v411 c128_i32_250
  v412
def k0_mult4 (i : grid0.Coords) : BitVec 32 :=
  let arg0 : BitVec 32 := BitVec.ofNat 32 (i 0).val
  let c1_i32_248 : BitVec 32 := 1#32
  let v410 : BitVec 32 := Scalar.muli arg0 c1_i32_248
  let c0_i32_249 : BitVec 32 := 0#32
  let v411 : BitVec 32 := Scalar.addi v410 c0_i32_249
  let c1_i32_251 : BitVec 32 := 1#32
  let v414 : BitVec 32 := Scalar.subi v411 c1_i32_251
  let c0_i32_252 : BitVec 32 := 0#32
  let v415 : BitVec 32 := Scalar.maxsi v414 c0_i32_252
  let c128_i32_253 : BitVec 32 := 128#32
  let v416 : BitVec 32 := Scalar.muli v415 c128_i32_253
  v416
def k0_off5 (i : grid0.Coords) : Fin 3 → Nat :=
  let c1_293 : Index := 1#32
  let arg0 : BitVec 32 := BitVec.ofNat 32 (i 0).val
  let c1_i32_248 : BitVec 32 := 1#32
  let v410 : BitVec 32 := Scalar.muli arg0 c1_i32_248
  let c0_i32_249 : BitVec 32 := 0#32
  let v411 : BitVec 32 := Scalar.addi v410 c0_i32_249
  let c1_i32_251 : BitVec 32 := 1#32
  let v414 : BitVec 32 := Scalar.subi v411 c1_i32_251
  let c0_i32_252 : BitVec 32 := 0#32
  let v415 : BitVec 32 := Scalar.maxsi v414 c0_i32_252
  let c128_i32_253 : BitVec 32 := 128#32
  let v416 : BitVec 32 := Scalar.muli v415 c128_i32_253
  let v417 : BitVec 32 := v416
  let v467 : Index := Scalar.indexCast v417
  let c0_294 : Index := 0#32
  ![1, v467.toNat, 0]
def k0_off6 (i : grid0.Coords) : Fin 3 → Nat :=
  let c1_297 : Index := 1#32
  let arg0 : BitVec 32 := BitVec.ofNat 32 (i 0).val
  let c1_i32_248 : BitVec 32 := 1#32
  let v410 : BitVec 32 := Scalar.muli arg0 c1_i32_248
  let c0_i32_249 : BitVec 32 := 0#32
  let v411 : BitVec 32 := Scalar.addi v410 c0_i32_249
  let c128_i32_250 : BitVec 32 := 128#32
  let v412 : BitVec 32 := Scalar.muli v411 c128_i32_250
  let v413 : BitVec 32 := v412
  let v476 : Index := Scalar.indexCast v413
  let c0_298 : Index := 0#32
  ![1, v476.toNat, 0]
def k0_off7 (i : grid0.Coords) : Fin 3 → Nat :=
  let c5_301 : Index := 5#32
  let arg0 : BitVec 32 := BitVec.ofNat 32 (i 0).val
  let c1_i32_248 : BitVec 32 := 1#32
  let v410 : BitVec 32 := Scalar.muli arg0 c1_i32_248
  let c0_i32_249 : BitVec 32 := 0#32
  let v411 : BitVec 32 := Scalar.addi v410 c0_i32_249
  let c1_i32_251 : BitVec 32 := 1#32
  let v414 : BitVec 32 := Scalar.subi v411 c1_i32_251
  let c0_i32_252 : BitVec 32 := 0#32
  let v415 : BitVec 32 := Scalar.maxsi v414 c0_i32_252
  let c128_i32_253 : BitVec 32 := 128#32
  let v416 : BitVec 32 := Scalar.muli v415 c128_i32_253
  let v417 : BitVec 32 := v416
  let v485 : Index := Scalar.indexCast v417
  let c0_302 : Index := 0#32
  ![5, v485.toNat, 0]
def k0_off8 (i : grid0.Coords) : Fin 3 → Nat :=
  let c5_305 : Index := 5#32
  let arg0 : BitVec 32 := BitVec.ofNat 32 (i 0).val
  let c1_i32_248 : BitVec 32 := 1#32
  let v410 : BitVec 32 := Scalar.muli arg0 c1_i32_248
  let c0_i32_249 : BitVec 32 := 0#32
  let v411 : BitVec 32 := Scalar.addi v410 c0_i32_249
  let c128_i32_250 : BitVec 32 := 128#32
  let v412 : BitVec 32 := Scalar.muli v411 c128_i32_250
  let v413 : BitVec 32 := v412
  let v494 : Index := Scalar.indexCast v413
  let c0_306 : Index := 0#32
  ![5, v494.toNat, 0]
def k0_mult5 (i : grid0.Coords) : BitVec 32 :=
  let arg0 : BitVec 32 := BitVec.ofNat 32 (i 0).val
  let c1_i32_377 : BitVec 32 := 1#32
  let v627 : BitVec 32 := Scalar.muli arg0 c1_i32_377
  let c0_i32_378 : BitVec 32 := 0#32
  let v628 : BitVec 32 := Scalar.addi v627 c0_i32_378
  let c128_i32_379 : BitVec 32 := 128#32
  let v629 : BitVec 32 := Scalar.muli v628 c128_i32_379
  v629
def k0_mult6 (i : grid0.Coords) : BitVec 32 :=
  let arg0 : BitVec 32 := BitVec.ofNat 32 (i 0).val
  let c1_i32_377 : BitVec 32 := 1#32
  let v627 : BitVec 32 := Scalar.muli arg0 c1_i32_377
  let c0_i32_378 : BitVec 32 := 0#32
  let v628 : BitVec 32 := Scalar.addi v627 c0_i32_378
  let c1_i32_380 : BitVec 32 := 1#32
  let v631 : BitVec 32 := Scalar.subi v628 c1_i32_380
  let c0_i32_381 : BitVec 32 := 0#32
  let v632 : BitVec 32 := Scalar.maxsi v631 c0_i32_381
  let c128_i32_382 : BitVec 32 := 128#32
  let v633 : BitVec 32 := Scalar.muli v632 c128_i32_382
  v633
def k0_off9 (i : grid0.Coords) : Fin 3 → Nat :=
  let c2_422 : Index := 2#32
  let arg0 : BitVec 32 := BitVec.ofNat 32 (i 0).val
  let c1_i32_377 : BitVec 32 := 1#32
  let v627 : BitVec 32 := Scalar.muli arg0 c1_i32_377
  let c0_i32_378 : BitVec 32 := 0#32
  let v628 : BitVec 32 := Scalar.addi v627 c0_i32_378
  let c1_i32_380 : BitVec 32 := 1#32
  let v631 : BitVec 32 := Scalar.subi v628 c1_i32_380
  let c0_i32_381 : BitVec 32 := 0#32
  let v632 : BitVec 32 := Scalar.maxsi v631 c0_i32_381
  let c128_i32_382 : BitVec 32 := 128#32
  let v633 : BitVec 32 := Scalar.muli v632 c128_i32_382
  let v634 : BitVec 32 := v633
  let v684 : Index := Scalar.indexCast v634
  let c0_423 : Index := 0#32
  ![2, v684.toNat, 0]
def k0_off10 (i : grid0.Coords) : Fin 3 → Nat :=
  let c2_426 : Index := 2#32
  let arg0 : BitVec 32 := BitVec.ofNat 32 (i 0).val
  let c1_i32_377 : BitVec 32 := 1#32
  let v627 : BitVec 32 := Scalar.muli arg0 c1_i32_377
  let c0_i32_378 : BitVec 32 := 0#32
  let v628 : BitVec 32 := Scalar.addi v627 c0_i32_378
  let c128_i32_379 : BitVec 32 := 128#32
  let v629 : BitVec 32 := Scalar.muli v628 c128_i32_379
  let v630 : BitVec 32 := v629
  let v693 : Index := Scalar.indexCast v630
  let c0_427 : Index := 0#32
  ![2, v693.toNat, 0]
def k0_off11 (i : grid0.Coords) : Fin 3 → Nat :=
  let c6_430 : Index := 6#32
  let arg0 : BitVec 32 := BitVec.ofNat 32 (i 0).val
  let c1_i32_377 : BitVec 32 := 1#32
  let v627 : BitVec 32 := Scalar.muli arg0 c1_i32_377
  let c0_i32_378 : BitVec 32 := 0#32
  let v628 : BitVec 32 := Scalar.addi v627 c0_i32_378
  let c1_i32_380 : BitVec 32 := 1#32
  let v631 : BitVec 32 := Scalar.subi v628 c1_i32_380
  let c0_i32_381 : BitVec 32 := 0#32
  let v632 : BitVec 32 := Scalar.maxsi v631 c0_i32_381
  let c128_i32_382 : BitVec 32 := 128#32
  let v633 : BitVec 32 := Scalar.muli v632 c128_i32_382
  let v634 : BitVec 32 := v633
  let v702 : Index := Scalar.indexCast v634
  let c0_431 : Index := 0#32
  ![6, v702.toNat, 0]
def k0_off12 (i : grid0.Coords) : Fin 3 → Nat :=
  let c6_434 : Index := 6#32
  let arg0 : BitVec 32 := BitVec.ofNat 32 (i 0).val
  let c1_i32_377 : BitVec 32 := 1#32
  let v627 : BitVec 32 := Scalar.muli arg0 c1_i32_377
  let c0_i32_378 : BitVec 32 := 0#32
  let v628 : BitVec 32 := Scalar.addi v627 c0_i32_378
  let c128_i32_379 : BitVec 32 := 128#32
  let v629 : BitVec 32 := Scalar.muli v628 c128_i32_379
  let v630 : BitVec 32 := v629
  let v711 : Index := Scalar.indexCast v630
  let c0_435 : Index := 0#32
  ![6, v711.toNat, 0]
def k0_mult7 (i : grid0.Coords) : BitVec 32 :=
  let arg0 : BitVec 32 := BitVec.ofNat 32 (i 0).val
  let c1_i32_458 : BitVec 32 := 1#32
  let v796 : BitVec 32 := Scalar.muli arg0 c1_i32_458
  let c0_i32_459 : BitVec 32 := 0#32
  let v797 : BitVec 32 := Scalar.addi v796 c0_i32_459
  let c128_i32_460 : BitVec 32 := 128#32
  let v798 : BitVec 32 := Scalar.muli v797 c128_i32_460
  v798
def k0_mult8 (i : grid0.Coords) : BitVec 32 :=
  let arg0 : BitVec 32 := BitVec.ofNat 32 (i 0).val
  let c1_i32_458 : BitVec 32 := 1#32
  let v796 : BitVec 32 := Scalar.muli arg0 c1_i32_458
  let c0_i32_459 : BitVec 32 := 0#32
  let v797 : BitVec 32 := Scalar.addi v796 c0_i32_459
  let c1_i32_461 : BitVec 32 := 1#32
  let v800 : BitVec 32 := Scalar.subi v797 c1_i32_461
  let c0_i32_462 : BitVec 32 := 0#32
  let v801 : BitVec 32 := Scalar.maxsi v800 c0_i32_462
  let c128_i32_463 : BitVec 32 := 128#32
  let v802 : BitVec 32 := Scalar.muli v801 c128_i32_463
  v802
def k0_off13 (i : grid0.Coords) : Fin 3 → Nat :=
  let c3_503 : Index := 3#32
  let arg0 : BitVec 32 := BitVec.ofNat 32 (i 0).val
  let c1_i32_458 : BitVec 32 := 1#32
  let v796 : BitVec 32 := Scalar.muli arg0 c1_i32_458
  let c0_i32_459 : BitVec 32 := 0#32
  let v797 : BitVec 32 := Scalar.addi v796 c0_i32_459
  let c1_i32_461 : BitVec 32 := 1#32
  let v800 : BitVec 32 := Scalar.subi v797 c1_i32_461
  let c0_i32_462 : BitVec 32 := 0#32
  let v801 : BitVec 32 := Scalar.maxsi v800 c0_i32_462
  let c128_i32_463 : BitVec 32 := 128#32
  let v802 : BitVec 32 := Scalar.muli v801 c128_i32_463
  let v803 : BitVec 32 := v802
  let v853 : Index := Scalar.indexCast v803
  let c0_504 : Index := 0#32
  ![3, v853.toNat, 0]
def k0_off14 (i : grid0.Coords) : Fin 3 → Nat :=
  let c3_507 : Index := 3#32
  let arg0 : BitVec 32 := BitVec.ofNat 32 (i 0).val
  let c1_i32_458 : BitVec 32 := 1#32
  let v796 : BitVec 32 := Scalar.muli arg0 c1_i32_458
  let c0_i32_459 : BitVec 32 := 0#32
  let v797 : BitVec 32 := Scalar.addi v796 c0_i32_459
  let c128_i32_460 : BitVec 32 := 128#32
  let v798 : BitVec 32 := Scalar.muli v797 c128_i32_460
  let v799 : BitVec 32 := v798
  let v862 : Index := Scalar.indexCast v799
  let c0_508 : Index := 0#32
  ![3, v862.toNat, 0]
def k0_off15 (i : grid0.Coords) : Fin 3 → Nat :=
  let c7_511 : Index := 7#32
  let arg0 : BitVec 32 := BitVec.ofNat 32 (i 0).val
  let c1_i32_458 : BitVec 32 := 1#32
  let v796 : BitVec 32 := Scalar.muli arg0 c1_i32_458
  let c0_i32_459 : BitVec 32 := 0#32
  let v797 : BitVec 32 := Scalar.addi v796 c0_i32_459
  let c1_i32_461 : BitVec 32 := 1#32
  let v800 : BitVec 32 := Scalar.subi v797 c1_i32_461
  let c0_i32_462 : BitVec 32 := 0#32
  let v801 : BitVec 32 := Scalar.maxsi v800 c0_i32_462
  let c128_i32_463 : BitVec 32 := 128#32
  let v802 : BitVec 32 := Scalar.muli v801 c128_i32_463
  let v803 : BitVec 32 := v802
  let v871 : Index := Scalar.indexCast v803
  let c0_512 : Index := 0#32
  ![7, v871.toNat, 0]
def k0_off16 (i : grid0.Coords) : Fin 3 → Nat :=
  let c7_515 : Index := 7#32
  let arg0 : BitVec 32 := BitVec.ofNat 32 (i 0).val
  let c1_i32_458 : BitVec 32 := 1#32
  let v796 : BitVec 32 := Scalar.muli arg0 c1_i32_458
  let c0_i32_459 : BitVec 32 := 0#32
  let v797 : BitVec 32 := Scalar.addi v796 c0_i32_459
  let c128_i32_460 : BitVec 32 := 128#32
  let v798 : BitVec 32 := Scalar.muli v797 c128_i32_460
  let v799 : BitVec 32 := v798
  let v880 : Index := Scalar.indexCast v799
  let c0_516 : Index := 0#32
  ![7, v880.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.muli c1_i32 arg0
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16x2048x64 : Shape := ⟨3, ![16, 2048, 64]⟩
abbrev S8x2048x64 : Shape := ⟨3, ![8, 2048, 64]⟩
abbrev S1x16 : Shape := ⟨2, ![1, 16]⟩
abbrev S2048x1024 : Shape := ⟨2, ![2048, 1024]⟩
abbrev S2048x16x64 : Shape := ⟨3, ![2048, 16, 64]⟩
abbrev S1x16x128x4x4x64 : Shape := ⟨6, ![1, 16, 128, 4, 4, 64]⟩
abbrev S2048x8x64 : Shape := ⟨3, ![2048, 8, 64]⟩
abbrev S1x2048x8x64 : Shape := ⟨4, ![1, 2048, 8, 64]⟩
abbrev S1x2048x4x64 : Shape := ⟨4, ![1, 2048, 4, 64]⟩
abbrev S16 : Shape := ⟨1, ![16]⟩
abbrev S_ : Shape := ⟨0, ![]⟩
abbrev S1x128x4x64 : Shape := ⟨4, ![1, 128, 4, 64]⟩
abbrev S1x2176x4x64 : Shape := ⟨4, ![1, 2176, 4, 64]⟩
abbrev S1x17x128x4x64 : Shape := ⟨5, ![1, 17, 128, 4, 64]⟩
abbrev S1x16x128x4x64 : Shape := ⟨5, ![1, 16, 128, 4, 64]⟩
abbrev S1x16x256x4x64 : Shape := ⟨5, ![1, 16, 256, 4, 64]⟩
abbrev S1x16x4x256x128x4 : Shape := ⟨6, ![1, 16, 4, 256, 128, 4]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x1x4x4x128x256 : Shape := ⟨6, ![1, 1, 4, 4, 128, 256]⟩
abbrev S1x16x1x1x128x256 : Shape := ⟨6, ![1, 16, 1, 1, 128, 256]⟩
abbrev S1x1x4x4x1x1 : Shape := ⟨6, ![1, 1, 4, 4, 1, 1]⟩
abbrev S1x16x4x4x128x1 : Shape := ⟨6, ![1, 16, 4, 4, 128, 1]⟩
abbrev S1x16x4x4x128x257 : Shape := ⟨6, ![1, 16, 4, 4, 128, 257]⟩
abbrev S1x16x4x4x128 : Shape := ⟨5, ![1, 16, 4, 4, 128]⟩
abbrev S1x16x4x64x4x128 : Shape := ⟨6, ![1, 16, 4, 64, 4, 128]⟩
abbrev S1x16x4x64x256 : Shape := ⟨5, ![1, 16, 4, 64, 256]⟩
abbrev S16x4x4x128 : Shape := ⟨4, ![16, 4, 4, 128]⟩
abbrev S1x16x4x128x4x64 : Shape := ⟨6, ![1, 16, 4, 128, 4, 64]⟩
abbrev S1x16x4x256x64 : Shape := ⟨5, ![1, 16, 4, 256, 64]⟩
abbrev S1024 : Shape := ⟨1, ![1024]⟩
abbrev S1x1024 : Shape := ⟨2, ![1, 1024]⟩
abbrev S1x128 : Shape := ⟨2, ![1, 128]⟩

abbrev nBuf : Space → Nat
  | .hbm => 224
  | .vmem => 0
  | .smem => 0
  | _ => 0

abbrev hbmTy0_0 (i : Nat) : BufTy := match i % 128 with
  | 0 => ⟨S16x2048x64, .bf16⟩
  | 1 => ⟨S8x2048x64, .bf16⟩
  | 2 => ⟨S1x16, .f32⟩
  | 3 => ⟨S2048x1024, .bf16⟩
  | 4 => ⟨S16x2048x64, .f32⟩
  | 5 => ⟨S2048x16x64, .f32⟩
  | 6 => ⟨S1x16x128x4x4x64, .f32⟩
  | 7 => ⟨S8x2048x64, .f32⟩
  | 8 => ⟨S2048x8x64, .f32⟩
  | 9 => ⟨S1x2048x8x64, .f32⟩
  | 10 => ⟨S1x2048x4x64, .f32⟩
  | 11 => ⟨S1x2048x4x64, .f32⟩
  | 12 => ⟨S16, .f32⟩
  | 13 => ⟨S_, .f32⟩
  | 14 => ⟨S1x128x4x64, .f32⟩
  | 15 => ⟨S1x2176x4x64, .f32⟩
  | 16 => ⟨S_, .f32⟩
  | 17 => ⟨S1x128x4x64, .f32⟩
  | 18 => ⟨S1x17x128x4x64, .f32⟩
  | 19 => ⟨S1x16x128x4x64, .f32⟩
  | 20 => ⟨S1x16x128x4x64, .f32⟩
  | 21 => ⟨S1x16x256x4x64, .f32⟩
  | 22 => ⟨S1x16x4x256x128x4, .f32⟩
  | 23 => ⟨S1x16x4x4x128x256, .f32⟩
  | 24 => ⟨S_, .f32⟩
  | 25 => ⟨S1x16x4x4x128x256, .f32⟩
  | 26 => ⟨S1x16x4x4x128x256, .f32⟩
  | 27 => ⟨S128, .i32⟩
  | 28 => ⟨S128x1, .i32⟩
  | 29 => ⟨S256, .i32⟩
  | 30 => ⟨S1x256, .i32⟩
  | 31 => ⟨S128x256, .i32⟩
  | 32 => ⟨S128x256, .i32⟩
  | 33 => ⟨S128x256, .i32⟩
  | 34 => ⟨S_, .i32⟩
  | 35 => ⟨S128x256, .i32⟩
  | 36 => ⟨S128x256, .i32⟩
  | 37 => ⟨S16, .i32⟩
  | 38 => ⟨S16x1x1, .i32⟩
  | 39 => ⟨S_, .i32⟩
  | 40 => ⟨S128x256, .i32⟩
  | 41 => ⟨S128x256, .i1⟩
  | 42 => ⟨S_, .i32⟩
  | 43 => ⟨S128x256, .i32⟩
  | 44 => ⟨S128x256, .i1⟩
  | 45 => ⟨S128x256, .i1⟩
  | 46 => ⟨S_, .i32⟩
  | 47 => ⟨S16x1x1, .i32⟩
  | 48 => ⟨S16x1x1, .i32⟩
  | 49 => ⟨S_, .i32⟩
  | 50 => ⟨S16x1x1, .i32⟩
  | 51 => ⟨S16x1x1, .i32⟩
  | 52 => ⟨S1x1x256, .i32⟩
  | 53 => ⟨S16x1x256, .i32⟩
  | 54 => ⟨S16x1x256, .i32⟩
  | 55 => ⟨S16x1x256, .i32⟩
  | 56 => ⟨S_, .i32⟩
  | 57 => ⟨S16x1x256, .i32⟩
  | 58 => ⟨S16x1x256, .i1⟩
  | 59 => ⟨S1x128x256, .i1⟩
  | 60 => ⟨S16x128x256, .i1⟩
  | 61 => ⟨S16x128x256, .i1⟩
  | 62 => ⟨S16x128x256, .i1⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S16, .f32⟩
  | 77 => ⟨S4x4, .f32⟩
  | 78 => ⟨S4x4x1x1, .f32⟩
  | 79 => ⟨S128x256, .f32⟩
  | 80 => ⟨S1x1x128x256, .f32⟩
  | 81 => ⟨S4x4x128x256, .f32⟩
  | 82 => ⟨S4x4x128x256, .f32⟩
  | 83 => ⟨S4x4x128x256, .f32⟩
  | 84 => ⟨S1x1x4x4x128x256, .f32⟩
  | 85 => ⟨S1x16x4x4x128x256, .f32⟩
  | 86 => ⟨S1x16x4x4x128x256, .f32⟩
  | 87 => ⟨S1x16x1x1x128x256, .i1⟩
  | 88 => ⟨S_, .f32⟩
  | 89 => ⟨S_, .f32⟩
  | 90 => ⟨S1x16x4x4x128x256, .i1⟩
  | 91 => ⟨S1x16x4x4x128x256, .f32⟩
  | 92 => ⟨S1x16x4x4x128x256, .f32⟩
  | 93 => ⟨S_, .f32⟩
  | 94 => ⟨S1x16x4x4x128x256, .f32⟩
  | 95 => ⟨S4x4, .f32⟩
  | 96 => ⟨S1x1x4x4x1x1, .f32⟩
  | 97 => ⟨S1x16x4x4x128x1, .f32⟩
  | 98 => ⟨S1x16x4x4x128x257, .f32⟩
  | 99 => ⟨S_, .f32⟩
  | 100 => ⟨S1x16x4x4x128, .f32⟩
  | 101 => ⟨S1x16x4x4x128x1, .f32⟩
  | 102 => ⟨S1x16x4x4x128x257, .f32⟩
  | 103 => ⟨S1x16x4x4x128x257, .i1⟩
  | 104 => ⟨S1x16x4x4x128x257, .f32⟩
  | 105 => ⟨S_, .f32⟩
  | 106 => ⟨S1x16x4x4x128, .f32⟩
  | 107 => ⟨S_, .f32⟩
  | 108 => ⟨S1x16x4x4x128, .f32⟩
  | 109 => ⟨S1x16x4x4x128, .f32⟩
  | 110 => ⟨S_, .f32⟩
  | 111 => ⟨S1x16x4x4x128, .f32⟩
  | 112 => ⟨S1x16x4x4x128, .i1⟩
  | 113 => ⟨S_, .f32⟩
  | 114 => ⟨S1x16x4x4x128, .f32⟩
  | 115 => ⟨S1x16x4x4x128, .i1⟩
  | 116 => ⟨S_, .f32⟩
  | 117 => ⟨S1x16x4x4x128, .f32⟩
  | 118 => ⟨S_, .f32⟩
  | 119 => ⟨S1x16x4x4x128, .f32⟩
  | 120 => ⟨S_, .f32⟩
  | 121 => ⟨S1x16x4x4x128, .f32⟩
  | 122 => ⟨S1x16x4x4x128, .f32⟩
  | 123 => ⟨S1x16x4x4x128, .f32⟩
  | 124 => ⟨S1x16x4x4x128x1, .f32⟩
  | 125 => ⟨S1x16x4x4x128x257, .f32⟩
  | 126 => ⟨S1x16x4x4x128x257, .f32⟩
  | 127 => ⟨S1x16x4x4x128x257, .f32⟩
  | _ => ⟨S16x2048x64, .bf16⟩

abbrev hbmTy0_1 (i : Nat) : BufTy := match i % 128 with
  | 0 => ⟨S_, .f32⟩
  | 1 => ⟨S1x16x4x4x128, .f32⟩
  | 2 => ⟨S1x16x4x4x128x1, .f32⟩
  | 3 => ⟨S1x16x4x4x128x257, .f32⟩
  | 4 => ⟨S1x16x4x4x128x257, .f32⟩
  | 5 => ⟨S1x16x4x4x128x1, .f32⟩
  | 6 => ⟨S_, .f32⟩
  | 7 => ⟨S1x16x4x4x128x1, .f32⟩
  | 8 => ⟨S1x16x4x4x128x1, .f32⟩
  | 9 => ⟨S1x16x4x4x128x256, .f32⟩
  | 10 => ⟨S_, .f32⟩
  | 11 => ⟨S1x128x4x64, .f32⟩
  | 12 => ⟨S1x2176x4x64, .f32⟩
  | 13 => ⟨S_, .f32⟩
  | 14 => ⟨S1x128x4x64, .f32⟩
  | 15 => ⟨S1x17x128x4x64, .f32⟩
  | 16 => ⟨S1x16x128x4x64, .f32⟩
  | 17 => ⟨S1x16x128x4x64, .f32⟩
  | 18 => ⟨S1x16x256x4x64, .f32⟩
  | 19 => ⟨S1x16x4x64x4x128, .f32⟩
  | 20 => ⟨S1x16x128x4x4x64, .f32⟩
  | 21 => ⟨S2048x1024, .f32⟩
  | 22 => ⟨S2048x1024, .f32⟩
  | 23 => ⟨S1x16x128x4x4x64, .f32⟩
  | 24 => ⟨S1x16x4x64x4x128, .f32⟩
  | 25 => ⟨S1x16x4x4x128x256, .f32⟩
  | 26 => ⟨S1x16x4x64x256, .f32⟩
  | 27 => ⟨S1x16x256x4x64, .f32⟩
  | 28 => ⟨S1x16x128x4x64, .f32⟩
  | 29 => ⟨S1x16x128x4x64, .f32⟩
  | 30 => ⟨S_, .f32⟩
  | 31 => ⟨S1x17x128x4x64, .f32⟩
  | 32 => ⟨S_, .f32⟩
  | 33 => ⟨S1x17x128x4x64, .f32⟩
  | 34 => ⟨S1x17x128x4x64, .f32⟩
  | 35 => ⟨S1x2176x4x64, .f32⟩
  | 36 => ⟨S1x128x4x64, .f32⟩
  | 37 => ⟨S1x2048x4x64, .f32⟩
  | 38 => ⟨S_, .f32⟩
  | 39 => ⟨S1x16x4x4x128x257, .f32⟩
  | 40 => ⟨S1x16x4x4x128x257, .f32⟩
  | 41 => ⟨S1x16x4x4x128x257, .f32⟩
  | 42 => ⟨S1x16x4x4x128x257, .f32⟩
  | 43 => ⟨S_, .f32⟩
  | 44 => ⟨S1x16x4x4x128, .f32⟩
  | 45 => ⟨S1x16x4x4x128x1, .f32⟩
  | 46 => ⟨S1x16x4x4x128x1, .f32⟩
  | 47 => ⟨S1x16x4x4x128x257, .f32⟩
  | 48 => ⟨S1x16x4x4x128x257, .f32⟩
  | 49 => ⟨S_, .f32⟩
  | 50 => ⟨S16x4x4x128, .f32⟩
  | 51 => ⟨S1x16x4x4x128, .f32⟩
  | 52 => ⟨S1x16x4x4x128x257, .f32⟩
  | 53 => ⟨S1x16x4x4x128x257, .f32⟩
  | 54 => ⟨S1x16x4x4x128x257, .f32⟩
  | 55 => ⟨S1x16x4x4x128x256, .f32⟩
  | 56 => ⟨S1x16x4x4x128x1, .f32⟩
  | 57 => ⟨S_, .f32⟩
  | 58 => ⟨S4x4, .f32⟩
  | 59 => ⟨S1x1x4x4x1x1, .f32⟩
  | 60 => ⟨S_, .f32⟩
  | 61 => ⟨S4x4, .f32⟩
  | 62 => ⟨S16, .f32⟩
  | 63 => ⟨S_, .f32⟩
  | 64 => ⟨S1x16x4x4x128x256, .f32⟩
  | 65 => ⟨S1x16x4x4x128x256, .f32⟩
  | 66 => ⟨S_, .f32⟩
  | 67 => ⟨S1x16x4x4x128x256, .f32⟩
  | 68 => ⟨S1x16x4x4x128x256, .f32⟩
  | 69 => ⟨S1x16x4x256x128x4, .f32⟩
  | 70 => ⟨S1x16x4x128x4x64, .f32⟩
  | 71 => ⟨S1x16x128x4x4x64, .f32⟩
  | 72 => ⟨S1x16x4x256x64, .f32⟩
  | 73 => ⟨S1x16x256x4x64, .f32⟩
  | 74 => ⟨S1x16x128x4x64, .f32⟩
  | 75 => ⟨S1x16x128x4x64, .f32⟩
  | 76 => ⟨S_, .f32⟩
  | 77 => ⟨S1x17x128x4x64, .f32⟩
  | 78 => ⟨S_, .f32⟩
  | 79 => ⟨S1x17x128x4x64, .f32⟩
  | 80 => ⟨S1x17x128x4x64, .f32⟩
  | 81 => ⟨S1x2176x4x64, .f32⟩
  | 82 => ⟨S1x128x4x64, .f32⟩
  | 83 => ⟨S1x2048x4x64, .f32⟩
  | 84 => ⟨S2048x1024, .f32⟩
  | 85 => ⟨S1x2048x8x64, .f32⟩
  | 86 => ⟨S2048x8x64, .f32⟩
  | 87 => ⟨S8x2048x64, .f32⟩
  | 88 => ⟨S2048x1024, .bf16⟩
  | 89 => ⟨S_, .f32⟩
  | 90 => ⟨S1024, .f32⟩
  | 91 => ⟨S1x1024, .f32⟩
  | 92 => ⟨S1x16, .f32⟩
  | 93 => ⟨S_, .i32⟩
  | 94 => ⟨S_, .f32⟩
  | 95 => ⟨S1x128, .f32⟩
  | _ => ⟨S16x2048x64, .bf16⟩

abbrev hbmTy (i : Nat) : BufTy := match i / 128 with
  | 0 => hbmTy0_0 i
  | 1 => hbmTy0_1 i
  | _ => ⟨S16x2048x64, .bf16⟩

abbrev bufTy : (tb : Table) → Fin (tcTables nBuf tb) → BufTy
  | .hbm, ⟨i, _⟩ => hbmTy i
  | _, _ => ⟨S16x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_11 : Ref sig .tc := ⟨.hbm, 88, rfl⟩
abbrev main_call0_v0 : Ref sig .tc := ⟨.hbm, 89, rfl⟩
abbrev main_v71_1 : Ref sig .tc := ⟨.hbm, 90, rfl⟩
abbrev main_call0_v2 : Ref sig .tc := ⟨.hbm, 91, rfl⟩
abbrev main_v71_0 : Ref sig .tc := ⟨.hbm, 92, rfl⟩
abbrev main_call0_cst : Ref sig .tc := ⟨.hbm, 93, rfl⟩
abbrev main_v71_2 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_v88 : Ref sig .tc := ⟨.hbm, 117, rfl⟩
abbrev main_cst_18 : Ref sig .tc := ⟨.hbm, 118, rfl⟩
abbrev main_v89 : Ref sig .tc := ⟨.hbm, 119, rfl⟩
abbrev main_cst_19 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_21 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_22 : Ref sig .tc := ⟨.hbm, 138, rfl⟩
abbrev main_v105 : Ref sig .tc := ⟨.hbm, 139, rfl⟩
abbrev main_v106 : Ref sig .tc := ⟨.hbm, 140, rfl⟩
abbrev main_cst_23 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_24 : Ref sig .tc := ⟨.hbm, 158, rfl⟩
abbrev main_v123 : Ref sig .tc := ⟨.hbm, 159, rfl⟩
abbrev main_cst_25 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_26 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_27 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_28 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_29 : Ref sig .tc := ⟨.hbm, 185, rfl⟩
abbrev main_v145 : Ref sig .tc := ⟨.hbm, 186, rfl⟩
abbrev main_v146 : Ref sig .tc := ⟨.hbm, 187, rfl⟩
abbrev main_cst_30 : Ref sig .tc := ⟨.hbm, 188, rfl⟩
abbrev main_v147 : Ref sig .tc := ⟨.hbm, 189, rfl⟩
abbrev main_v148 : Ref sig .tc := ⟨.hbm, 190, rfl⟩
abbrev main_call1_cst : Ref sig .tc := ⟨.hbm, 191, rfl⟩
abbrev main_call1_v0 : Ref sig .tc := ⟨.hbm, 192, rfl⟩
abbrev main_v149 : Ref sig .tc := ⟨.hbm, 193, rfl⟩
abbrev main_cst_31 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_32 : Ref sig .tc := ⟨.hbm, 204, rfl⟩
abbrev main_v159 : Ref sig .tc := ⟨.hbm, 205, rfl⟩
abbrev main_cst_33 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_34 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_c_35 : Ref sig .tc := ⟨.hbm, 221, rfl⟩
abbrev main_call2_v0 : Ref sig .tc := ⟨.hbm, 222, rfl⟩
abbrev main_v173 : Ref sig .tc := ⟨.hbm, 223, rfl⟩

abbrev nD : Nat := 1
abbrev τ : Topo := Topo.v7x

variable {F : FTy → Type} [FloatOps F]
-- ==== FfnHidden.lean ====
abbrev S2048x1024 : Shape := ⟨2, ![2048, 1024]⟩
abbrev S2x4x2048x704 : Shape := ⟨4, ![2, 4, 2048, 704]⟩
abbrev S4x704x1024 : Shape := ⟨3, ![4, 704, 1024]⟩
abbrev S512x1024 : Shape := ⟨2, ![512, 1024]⟩
abbrev S2x1x512x704 : Shape := ⟨4, ![2, 1, 512, 704]⟩
abbrev S1x704x1024 : Shape := ⟨3, ![1, 704, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2x4x2048x704, .bf16⟩
  | .hbm, ⟨2, _⟩ => ⟨S4x704x1024, .bf16⟩
  | .hbm, ⟨3, _⟩ => ⟨S2x4x2048x704, .bf16⟩
  | .local _ .vmem, ⟨0, _⟩ => ⟨S512x1024, .bf16⟩
  | .local _ .vmem, ⟨1, _⟩ => ⟨S512x1024, .bf16⟩
  | .local _ .vmem, ⟨2, _⟩ => ⟨S2x1x512x704, .bf16⟩
  | .local _ .vmem, ⟨3, _⟩ => ⟨S2x1x512x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S2x1x512x704, .bf16⟩
  | .local _ .vmem, ⟨7, _⟩ => ⟨S2x1x512x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnHiddenRefIdeal.lean ====
abbrev S2048x1024 : Shape := ⟨2, ![2048, 1024]⟩
abbrev S2x4x2048x704 : Shape := ⟨4, ![2, 4, 2048, 704]⟩
abbrev S4x704x1024 : Shape := ⟨3, ![4, 704, 1024]⟩
abbrev S2816x1024 : Shape := ⟨2, ![2816, 1024]⟩
abbrev S1x4x2048x704 : Shape := ⟨4, ![1, 4, 2048, 704]⟩
abbrev S4x2048x704 : Shape := ⟨3, ![4, 2048, 704]⟩
abbrev S2048x4x704 : Shape := ⟨3, ![2048, 4, 704]⟩
abbrev S2048x2816 : Shape := ⟨2, ![2048, 2816]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x4x2048x704, .bf16⟩
  | .hbm, ⟨2, _⟩ => ⟨S4x704x1024, .bf16⟩
  | .hbm, ⟨3, _⟩ => ⟨S4x704x1024, .f32⟩
  | .hbm, ⟨4, _⟩ => ⟨S2816x1024, .f32⟩
  | .hbm, ⟨5, _⟩ => ⟨S1x4x2048x704, .bf16⟩
  | .hbm, ⟨6, _⟩ => ⟨S4x2048x704, .bf16⟩
  | .hbm, ⟨7, _⟩ => ⟨S4x2048x704, .f32⟩
  | .hbm, ⟨8, _⟩ => ⟨S2048x4x704, .f32⟩
  | .hbm, ⟨9, _⟩ => ⟨S2048x2816, .f32⟩
  | .hbm, ⟨10, _⟩ => ⟨S1x4x2048x704, .bf16⟩
  | .hbm, ⟨11, _⟩ => ⟨S4x2048x704, .bf16⟩
  | .hbm, ⟨12, _⟩ => ⟨S4x2048x704, .f32⟩
  | .hbm, ⟨13, _⟩ => ⟨S2048x4x704, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S_, .f32⟩
  | .hbm, ⟨21, _⟩ => ⟨S2048x2816, .f32⟩
  | .hbm, ⟨22, _⟩ => ⟨S2048x2816, .f32⟩
  | .hbm, ⟨23, _⟩ => ⟨S_, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x1024, .f32⟩
  | .hbm, ⟨30, _⟩ => ⟨S2048x1024, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x4x704, .f32⟩
  | .hbm, ⟨39, _⟩ => ⟨S4x2048x704, .f32⟩
  | .hbm, ⟨40, _⟩ => ⟨S2048x4x704, .f32⟩
  | .hbm, ⟨41, _⟩ => ⟨S4x2048x704, .f32⟩
  | .hbm, ⟨42, _⟩ => ⟨S1x4x2048x704, .f32⟩
  | .hbm, ⟨43, _⟩ => ⟨S1x4x2048x704, .f32⟩
  | .hbm, ⟨44, _⟩ => ⟨S2x4x2048x704, .f32⟩
  | .hbm, ⟨45, _⟩ => ⟨S2x4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v12_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v12_1 : Ref sig .tc := ⟨.hbm, 26, rfl⟩
abbrev main_v12_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== FfnDownGrad.lean ====
abbrev S4x2048x704 : Shape := ⟨3, ![4, 2048, 704]⟩
abbrev S2048x1024 : Shape := ⟨2, ![2048, 1024]⟩
abbrev S1x2048x1024 : Shape := ⟨3, ![1, 2048, 1024]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S1x2048x1024, .bf16⟩
  | .hbm, ⟨3, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .bf16⟩
  | .local _ .vmem, ⟨3, _⟩ => ⟨S1x704x1024, .bf16⟩
  | .local _ .vmem, ⟨4, _⟩ => ⟨S1x704x1024, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDownGradRefIdeal.lean ====
abbrev S4x2048x704 : Shape := ⟨3, ![4, 2048, 704]⟩
abbrev S2048x1024 : Shape := ⟨2, ![2048, 1024]⟩
abbrev S2048x4x704 : Shape := ⟨3, ![2048, 4, 704]⟩
abbrev S2048x2816 : Shape := ⟨2, ![2048, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S4x2048x704, .f32⟩
  | .hbm, ⟨3, _⟩ => ⟨S2048x4x704, .f32⟩
  | .hbm, ⟨4, _⟩ => ⟨S2048x2816, .f32⟩
  | .hbm, ⟨5, _⟩ => ⟨S_, .f32⟩
  | .hbm, ⟨6, _⟩ => ⟨S2816x1024, .f32⟩
  | .hbm, ⟨7, _⟩ => ⟨S2048x1024, .f32⟩
  | .hbm, ⟨8, _⟩ => ⟨S2048x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== FfnUpGrad.lean ====
abbrev S2x4x2048x704 : Shape := ⟨4, ![2, 4, 2048, 704]⟩
abbrev S2048x1024 : Shape := ⟨2, ![2048, 1024]⟩
abbrev S8x2048x704 : Shape := ⟨3, ![8, 2048, 704]⟩
abbrev S1x2048x1024 : Shape := ⟨3, ![1, 2048, 1024]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x4x2048x704, .bf16⟩
  | .hbm, ⟨1, _⟩ => ⟨S2048x1024, .bf16⟩
  | .hbm, ⟨2, _⟩ => ⟨S8x2048x704, .bf16⟩
  | .hbm, ⟨3, _⟩ => ⟨S1x2048x1024, .bf16⟩
  | .hbm, ⟨4, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .bf16⟩
  | .local _ .vmem, ⟨3, _⟩ => ⟨S1x704x1024, .bf16⟩
  | .local _ .vmem, ⟨4, _⟩ => ⟨S1x704x1024, .bf16⟩
  | _, _ => ⟨S2x4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnUpGradRefIdeal.lean ====
abbrev S2x4x2048x704 : Shape := ⟨4, ![2, 4, 2048, 704]⟩
abbrev S2048x1024 : Shape := ⟨2, ![2048, 1024]⟩
abbrev S1x4x2048x704 : Shape := ⟨4, ![1, 4, 2048, 704]⟩
abbrev S4x2048x704 : Shape := ⟨3, ![4, 2048, 704]⟩
abbrev S2048x4x704 : Shape := ⟨3, ![2048, 4, 704]⟩
abbrev S2048x2816 : Shape := ⟨2, ![2048, 2816]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x4x2048x704, .bf16⟩
  | .hbm, ⟨1, _⟩ => ⟨S2048x1024, .bf16⟩
  | .hbm, ⟨2, _⟩ => ⟨S2048x1024, .f32⟩
  | .hbm, ⟨3, _⟩ => ⟨S1x4x2048x704, .bf16⟩
  | .hbm, ⟨4, _⟩ => ⟨S4x2048x704, .bf16⟩
  | .hbm, ⟨5, _⟩ => ⟨S4x2048x704, .f32⟩
  | .hbm, ⟨6, _⟩ => ⟨S2048x4x704, .f32⟩
  | .hbm, ⟨7, _⟩ => ⟨S2048x2816, .f32⟩
  | .hbm, ⟨8, _⟩ => ⟨S1x4x2048x704, .bf16⟩
  | .hbm, ⟨9, _⟩ => ⟨S4x2048x704, .bf16⟩
  | .hbm, ⟨10, _⟩ => ⟨S4x2048x704, .f32⟩
  | .hbm, ⟨11, _⟩ => ⟨S2048x4x704, .f32⟩
  | .hbm, ⟨12, _⟩ => ⟨S2048x2816, .f32⟩
  | .hbm, ⟨13, _⟩ => ⟨S2048x5632, .f32⟩
  | .hbm, ⟨14, _⟩ => ⟨S_, .f32⟩
  | .hbm, ⟨15, _⟩ => ⟨S1024x5632, .f32⟩
  | .hbm, ⟨16, _⟩ => ⟨S2048x5632, .f32⟩
  | .hbm, ⟨17, _⟩ => ⟨S5632x1024, .f32⟩
  | .hbm, ⟨18, _⟩ => ⟨S1024x5632, .f32⟩
  | .hbm, ⟨19, _⟩ => ⟨S5632x1024, .f32⟩
  | .hbm, ⟨20, _⟩ => ⟨S8x704x1024, .f32⟩
  | .hbm, ⟨21, _⟩ => ⟨S8x704x1024, .bf16⟩
  | _, _ => ⟨S2x4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== FfnInput.lean ====
abbrev S2048x1024 : Shape := ⟨2, ![2048, 1024]⟩
abbrev S2x4x2048x704 : Shape := ⟨4, ![2, 4, 2048, 704]⟩
abbrev S2x4x704x1024 : Shape := ⟨4, ![2, 4, 704, 1024]⟩
abbrev S512x1024 : Shape := ⟨2, ![512, 1024]⟩
abbrev S2x4x512x704 : Shape := ⟨4, ![2, 4, 512, 704]⟩
abbrev S1x1x512x704 : Shape := ⟨4, ![1, 1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2x4x2048x704, .bf16⟩
  | .hbm, ⟨2, _⟩ => ⟨S2x4x704x1024, .bf16⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S2x4x512x704, .bf16⟩
  | .local _ .vmem, ⟨3, _⟩ => ⟨S2x4x512x704, .bf16⟩
  | .local _ .vmem, ⟨4, _⟩ => ⟨S2x4x704x1024, .bf16⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnInputRefIdeal.lean ====
abbrev S2048x1024 : Shape := ⟨2, ![2048, 1024]⟩
abbrev S2x4x2048x704 : Shape := ⟨4, ![2, 4, 2048, 704]⟩
abbrev S2x4x704x1024 : Shape := ⟨4, ![2, 4, 704, 1024]⟩
abbrev S5632x1024 : Shape := ⟨2, ![5632, 1024]⟩
abbrev S1024x5632 : Shape := ⟨2, ![1024, 5632]⟩
abbrev S1x4x2048x704 : Shape := ⟨4, ![1, 4, 2048, 704]⟩
abbrev S4x2048x704 : Shape := ⟨3, ![4, 2048, 704]⟩
abbrev S2048x4x704 : Shape := ⟨3, ![2048, 4, 704]⟩
abbrev S2048x2816 : Shape := ⟨2, ![2048, 2816]⟩
abbrev S2048x5632 : Shape := ⟨2, ![2048, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x4x2048x704, .bf16⟩
  | .hbm, ⟨2, _⟩ => ⟨S2x4x704x1024, .bf16⟩
  | .hbm, ⟨3, _⟩ => ⟨S2x4x704x1024, .f32⟩
  | .hbm, ⟨4, _⟩ => ⟨S5632x1024, .f32⟩
  | .hbm, ⟨5, _⟩ => ⟨S1024x5632, .f32⟩
  | .hbm, ⟨6, _⟩ => ⟨S1x4x2048x704, .bf16⟩
  | .hbm, ⟨7, _⟩ => ⟨S4x2048x704, .bf16⟩
  | .hbm, ⟨8, _⟩ => ⟨S4x2048x704, .f32⟩
  | .hbm, ⟨9, _⟩ => ⟨S2048x4x704, .f32⟩
  | .hbm, ⟨10, _⟩ => ⟨S2048x2816, .f32⟩
  | .hbm, ⟨11, _⟩ => ⟨S1x4x2048x704, .bf16⟩
  | .hbm, ⟨12, _⟩ => ⟨S4x2048x704, .bf16⟩
  | .hbm, ⟨13, _⟩ => ⟨S4x2048x704, .f32⟩
  | .hbm, ⟨14, _⟩ => ⟨S2048x4x704, .f32⟩
  | .hbm, ⟨15, _⟩ => ⟨S2048x2816, .f32⟩
  | .hbm, ⟨16, _⟩ => ⟨S2048x5632, .f32⟩
  | .hbm, ⟨17, _⟩ => ⟨S_, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x5632, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== FfnFwdHidden.lean ====
abbrev S2048x1024 : Shape := ⟨2, ![2048, 1024]⟩
abbrev S2x4x704x1024 : Shape := ⟨4, ![2, 4, 704, 1024]⟩
abbrev S2x4x2048x704 : Shape := ⟨4, ![2, 4, 2048, 704]⟩
abbrev S4x2048x704 : Shape := ⟨3, ![4, 2048, 704]⟩
abbrev S512x1024 : Shape := ⟨2, ![512, 1024]⟩
abbrev S2x1x704x1024 : Shape := ⟨4, ![2, 1, 704, 1024]⟩
abbrev S2x1x512x704 : Shape := ⟨4, ![2, 1, 512, 704]⟩
abbrev S1x512x704 : Shape := ⟨3, ![1, 512, 704]⟩
abbrev S1x1x704x1024 : Shape := ⟨4, ![1, 1, 704, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2x4x704x1024, .bf16⟩
  | .hbm, ⟨2, _⟩ => ⟨S2x4x2048x704, .bf16⟩
  | .hbm, ⟨3, _⟩ => ⟨S4x2048x704, .bf16⟩
  | .local _ .vmem, ⟨0, _⟩ => ⟨S512x1024, .bf16⟩
  | .local _ .vmem, ⟨1, _⟩ => ⟨S512x1024, .bf16⟩
  | .local _ .vmem, ⟨2, _⟩ => ⟨S2x1x704x1024, .bf16⟩
  | .local _ .vmem, ⟨3, _⟩ => ⟨S2x1x704x1024, .bf16⟩
  | .local _ .vmem, ⟨4, _⟩ => ⟨S2x1x512x704, .bf16⟩
  | .local _ .vmem, ⟨5, _⟩ => ⟨S2x1x512x704, .bf16⟩
  | .local _ .vmem, ⟨6, _⟩ => ⟨S1x512x704, .bf16⟩
  | .local _ .vmem, ⟨7, _⟩ => ⟨S1x512x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnFwdHiddenRefIdeal.lean ====
abbrev S2048x1024 : Shape := ⟨2, ![2048, 1024]⟩
abbrev S2x4x704x1024 : Shape := ⟨4, ![2, 4, 704, 1024]⟩
abbrev S5632x1024 : Shape := ⟨2, ![5632, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩
abbrev S1x4x2048x704 : Shape := ⟨4, ![1, 4, 2048, 704]⟩
abbrev S2x4x2048x704 : Shape := ⟨4, ![2, 4, 2048, 704]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x4x704x1024, .bf16⟩
  | .hbm, ⟨2, _⟩ => ⟨S2x4x704x1024, .f32⟩
  | .hbm, ⟨3, _⟩ => ⟨S5632x1024, .f32⟩
  | .hbm, ⟨4, _⟩ => ⟨S1024x5632, .f32⟩
  | .hbm, ⟨5, _⟩ => ⟨S2048x1024, .f32⟩
  | .hbm, ⟨6, _⟩ => ⟨S2048x5632, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x4x704, .f32⟩
  | .hbm, ⟨21, _⟩ => ⟨S4x2048x704, .f32⟩
  | .hbm, ⟨22, _⟩ => ⟨S2048x2816, .f32⟩
  | .hbm, ⟨23, _⟩ => ⟨S2048x4x704, .f32⟩
  | .hbm, ⟨24, _⟩ => ⟨S4x2048x704, .f32⟩
  | .hbm, ⟨25, _⟩ => ⟨S1x4x2048x704, .f32⟩
  | .hbm, ⟨26, _⟩ => ⟨S1x4x2048x704, .f32⟩
  | .hbm, ⟨27, _⟩ => ⟨S2x4x2048x704, .f32⟩
  | .hbm, ⟨28, _⟩ => ⟨S2x4x2048x704, .bf16⟩
  | .hbm, ⟨29, _⟩ => ⟨S2048x4x704, .f32⟩
  | .hbm, ⟨30, _⟩ => ⟨S4x2048x704, .f32⟩
  | .hbm, ⟨31, _⟩ => ⟨S4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== FfnFwdDown.lean ====
abbrev S2048x1024 : Shape := ⟨2, ![2048, 1024]⟩
abbrev S4x2048x704 : Shape := ⟨3, ![4, 2048, 704]⟩
abbrev S4x704x1024 : Shape := ⟨3, ![4, 704, 1024]⟩
abbrev S1x1024 : Shape := ⟨2, ![1, 1024]⟩
abbrev S512x1024 : Shape := ⟨2, ![512, 1024]⟩
abbrev S4x512x704 : Shape := ⟨3, ![4, 512, 704]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S4x2048x704, .bf16⟩
  | .hbm, ⟨2, _⟩ => ⟨S4x704x1024, .bf16⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdDownRefIdeal.lean ====
abbrev S2048x1024 : Shape := ⟨2, ![2048, 1024]⟩
abbrev S4x2048x704 : Shape := ⟨3, ![4, 2048, 704]⟩
abbrev S4x704x1024 : Shape := ⟨3, ![4, 704, 1024]⟩
abbrev S1x1024 : Shape := ⟨2, ![1, 1024]⟩
abbrev S_ : Shape := ⟨0, ![]⟩
abbrev S2048x4x704 : Shape := ⟨3, ![2048, 4, 704]⟩
abbrev S2048x2816 : Shape := ⟨2, ![2048, 2816]⟩
abbrev S2816x1024 : Shape := ⟨2, ![2816, 1024]⟩
abbrev S2048 : Shape := ⟨1, ![2048]⟩
abbrev S2048x1 : Shape := ⟨2, ![2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x2048x704, .bf16⟩
  | .hbm, ⟨2, _⟩ => ⟨S4x704x1024, .bf16⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S4x2048x704, .f32⟩
  | .hbm, ⟨9, _⟩ => ⟨S2048x4x704, .f32⟩
  | .hbm, ⟨10, _⟩ => ⟨S2048x2816, .f32⟩
  | .hbm, ⟨11, _⟩ => ⟨S4x704x1024, .f32⟩
  | .hbm, ⟨12, _⟩ => ⟨S2816x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== InProj.lean ====
abbrev S2048x1024 : Shape := ⟨2, ![2048, 1024]⟩
abbrev S8x1024x512 : Shape := ⟨3, ![8, 1024, 512]⟩
abbrev S4x2048x1024 : Shape := ⟨3, ![4, 2048, 1024]⟩
abbrev S256x1024 : Shape := ⟨2, ![256, 1024]⟩
abbrev S4x256x1024 : Shape := ⟨3, ![4, 256, 1024]⟩
abbrev S1x1024x512 : Shape := ⟨3, ![1, 1024, 512]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1024x512, .bf16⟩
  | .hbm, ⟨2, _⟩ => ⟨S4x2048x1024, .f32⟩
  | .local _ .vmem, ⟨0, _⟩ => ⟨S256x1024, .bf16⟩
  | .local _ .vmem, ⟨1, _⟩ => ⟨S256x1024, .bf16⟩
  | .local _ .vmem, ⟨2, _⟩ => ⟨S8x1024x512, .bf16⟩
  | .local _ .vmem, ⟨3, _⟩ => ⟨S4x256x1024, .f32⟩
  | .local _ .vmem, ⟨4, _⟩ => ⟨S4x256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InProjRefIdeal.lean ====
abbrev S2048x1024 : Shape := ⟨2, ![2048, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S2048x4096 : Shape := ⟨2, ![2048, 4096]⟩
abbrev S1x2048x1024 : Shape := ⟨3, ![1, 2048, 1024]⟩
abbrev S4x2048x1024 : Shape := ⟨3, ![4, 2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x512, .bf16⟩
  | .hbm, ⟨2, _⟩ => ⟨S2048x1024, .f32⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S2048x4096, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S4x2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== InInput.lean ====
abbrev S2048x1024 : Shape := ⟨2, ![2048, 1024]⟩
abbrev S4x2048x1024 : Shape := ⟨3, ![4, 2048, 1024]⟩
abbrev S8x1024x512 : Shape := ⟨3, ![8, 1024, 512]⟩
abbrev S512x1024 : Shape := ⟨2, ![512, 1024]⟩
abbrev S4x512x1024 : Shape := ⟨3, ![4, 512, 1024]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S4x2048x1024, .bf16⟩
  | .hbm, ⟨2, _⟩ => ⟨S8x1024x512, .bf16⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S8x1024x512, .bf16⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InInputRefIdeal.lean ====
abbrev S2048x1024 : Shape := ⟨2, ![2048, 1024]⟩
abbrev S4x2048x1024 : Shape := ⟨3, ![4, 2048, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S1x2048x1024 : Shape := ⟨3, ![1, 2048, 1024]⟩
abbrev S2048x4096 : Shape := ⟨2, ![2048, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x2048x1024, .bf16⟩
  | .hbm, ⟨2, _⟩ => ⟨S8x1024x512, .bf16⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S1x2048x1024, .bf16⟩
  | .hbm, ⟨7, _⟩ => ⟨S2048x1024, .bf16⟩
  | .hbm, ⟨8, _⟩ => ⟨S2048x1024, .f32⟩
  | .hbm, ⟨9, _⟩ => ⟨S1x2048x1024, .bf16⟩
  | .hbm, ⟨10, _⟩ => ⟨S2048x1024, .bf16⟩
  | .hbm, ⟨11, _⟩ => ⟨S2048x1024, .f32⟩
  | .hbm, ⟨12, _⟩ => ⟨S1x2048x1024, .bf16⟩
  | .hbm, ⟨13, _⟩ => ⟨S2048x1024, .bf16⟩
  | .hbm, ⟨14, _⟩ => ⟨S2048x1024, .f32⟩
  | .hbm, ⟨15, _⟩ => ⟨S1x2048x1024, .bf16⟩
  | .hbm, ⟨16, _⟩ => ⟨S2048x1024, .bf16⟩
  | .hbm, ⟨17, _⟩ => ⟨S2048x1024, .f32⟩
  | .hbm, ⟨18, _⟩ => ⟨S2048x4096, .f32⟩
  | .hbm, ⟨19, _⟩ => ⟨S_, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x4096, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== InGrad.lean ====
abbrev S2048x1024 : Shape := ⟨2, ![2048, 1024]⟩
abbrev S4x2048x1024 : Shape := ⟨3, ![4, 2048, 1024]⟩
abbrev S1x2048x1024 : Shape := ⟨3, ![1, 2048, 1024]⟩
abbrev S8x1024x512 : Shape := ⟨3, ![8, 1024, 512]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S4x2048x1024, .bf16⟩
  | .hbm, ⟨2, _⟩ => ⟨S1x2048x1024, .bf16⟩
  | .hbm, ⟨3, _⟩ => ⟨S8x1024x512, .bf16⟩
  | .local _ .vmem, ⟨0, _⟩ => ⟨S1x2048x1024, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InGradRefIdeal.lean ====
abbrev S2048x1024 : Shape := ⟨2, ![2048, 1024]⟩
abbrev S4x2048x1024 : Shape := ⟨3, ![4, 2048, 1024]⟩
abbrev S1x2048x1024 : Shape := ⟨3, ![1, 2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x2048x1024, .bf16⟩
  | .hbm, ⟨2, _⟩ => ⟨S2048x1024, .f32⟩
  | .hbm, ⟨3, _⟩ => ⟨S1x2048x1024, .bf16⟩
  | .hbm, ⟨4, _⟩ => ⟨S2048x1024, .bf16⟩
  | .hbm, ⟨5, _⟩ => ⟨S2048x1024, .f32⟩
  | .hbm, ⟨6, _⟩ => ⟨S1x2048x1024, .bf16⟩
  | .hbm, ⟨7, _⟩ => ⟨S2048x1024, .bf16⟩
  | .hbm, ⟨8, _⟩ => ⟨S2048x1024, .f32⟩
  | .hbm, ⟨9, _⟩ => ⟨S1x2048x1024, .bf16⟩
  | .hbm, ⟨10, _⟩ => ⟨S2048x1024, .bf16⟩
  | .hbm, ⟨11, _⟩ => ⟨S2048x1024, .f32⟩
  | .hbm, ⟨12, _⟩ => ⟨S1x2048x1024, .bf16⟩
  | .hbm, ⟨13, _⟩ => ⟨S2048x1024, .bf16⟩
  | .hbm, ⟨14, _⟩ => ⟨S2048x1024, .f32⟩
  | .hbm, ⟨15, _⟩ => ⟨S2048x4096, .f32⟩
  | .hbm, ⟨16, _⟩ => ⟨S_, .f32⟩
  | .hbm, ⟨17, _⟩ => ⟨S1024x4096, .f32⟩
  | .hbm, ⟨18, _⟩ => ⟨S2048x4096, .f32⟩
  | .hbm, ⟨19, _⟩ => ⟨S4096x1024, .f32⟩
  | .hbm, ⟨20, _⟩ => ⟨S1024x4096, .f32⟩
  | .hbm, ⟨21, _⟩ => ⟨S1024x8x512, .f32⟩
  | .hbm, ⟨22, _⟩ => ⟨S8x1024x512, .f32⟩
  | .hbm, ⟨23, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== SquareGrad.lean ====
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1x2048x1024, .bf16⟩
  | .hbm, ⟨3, _⟩ => ⟨S1x2048x1024, .bf16⟩
  | .hbm, ⟨4, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SquareGradRefIdeal.lean ====
abbrev S2048x1024 : Shape := ⟨2, ![2048, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KvGrad.lean ====
abbrev S2048x1024 : Shape := ⟨2, ![2048, 1024]⟩
abbrev S2048x512 : Shape := ⟨2, ![2048, 512]⟩
abbrev S1x2048x1024 : Shape := ⟨3, ![1, 2048, 1024]⟩
abbrev S1x2048x512 : Shape := ⟨3, ![1, 2048, 512]⟩
abbrev S1x1024x512 : Shape := ⟨3, ![1, 1024, 512]⟩
abbrev S1024x512 : Shape := ⟨2, ![1024, 512]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1x2048x1024, .bf16⟩
  | .hbm, ⟨3, _⟩ => ⟨S1x2048x512, .bf16⟩
  | .hbm, ⟨4, _⟩ => ⟨S1x1024x512, .bf16⟩
  | .local _ .vmem, ⟨0, _⟩ => ⟨S1x2048x1024, .bf16⟩
  | .local _ .vmem, ⟨1, _⟩ => ⟨S1x2048x512, .bf16⟩
  | .local _ .vmem, ⟨2, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== KvGradRefIdeal.lean ====
abbrev S2048x1024 : Shape := ⟨2, ![2048, 1024]⟩
abbrev S2048x512 : Shape := ⟨2, ![2048, 512]⟩
abbrev S_ : Shape := ⟨0, ![]⟩
abbrev S1024x512 : Shape := ⟨2, ![1024, 512]⟩
abbrev S512x1024 : Shape := ⟨2, ![512, 1024]⟩
abbrev S1x1024x512 : Shape := ⟨3, ![1, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x1024, .f32⟩
  | .hbm, ⟨3, _⟩ => ⟨S_, .f32⟩
  | .hbm, ⟨4, _⟩ => ⟨S1024x512, .f32⟩
  | .hbm, ⟨5, _⟩ => ⟨S2048x512, .f32⟩
  | .hbm, ⟨6, _⟩ => ⟨S2048x512, .f32⟩
  | .hbm, ⟨7, _⟩ => ⟨S512x1024, .f32⟩
  | .hbm, ⟨8, _⟩ => ⟨S1024x512, .f32⟩
  | .hbm, ⟨9, _⟩ => ⟨S1024x512, .bf16⟩
  | .hbm, ⟨10, _⟩ => ⟨S1x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PleUpGrad.lean ====
abbrev S2048x256 : Shape := ⟨2, ![2048, 256]⟩
abbrev S2048x1024 : Shape := ⟨2, ![2048, 1024]⟩
abbrev S1x2048x256 : Shape := ⟨3, ![1, 2048, 256]⟩
abbrev S1x2048x1024 : Shape := ⟨3, ![1, 2048, 1024]⟩
abbrev S1x256x1024 : Shape := ⟨3, ![1, 256, 1024]⟩
abbrev S256x1024 : Shape := ⟨2, ![256, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S1x2048x256, .bf16⟩
  | .hbm, ⟨3, _⟩ => ⟨S1x2048x1024, .bf16⟩
  | .hbm, ⟨4, _⟩ => ⟨S1x256x1024, .bf16⟩
  | .local _ .vmem, ⟨0, _⟩ => ⟨S1x2048x256, .bf16⟩
  | .local _ .vmem, ⟨1, _⟩ => ⟨S1x2048x1024, .bf16⟩
  | .local _ .vmem, ⟨2, _⟩ => ⟨S1x256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== PleUpGradRefIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩
abbrev S1x256x1024 : Shape := ⟨3, ![1, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S2048x256, .f32⟩
  | .hbm, ⟨3, _⟩ => ⟨S_, .f32⟩
  | .hbm, ⟨4, _⟩ => ⟨S256x1024, .f32⟩
  | .hbm, ⟨5, _⟩ => ⟨S2048x1024, .f32⟩
  | .hbm, ⟨6, _⟩ => ⟨S2048x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S1x256x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AdamIn.lean ====
abbrev S1x1024x512 : Shape := ⟨3, ![1, 1024, 512]⟩
abbrev S8x1024x512 : Shape := ⟨3, ![8, 1024, 512]⟩
abbrev S1x256x512 : Shape := ⟨3, ![1, 256, 512]⟩
abbrev S8x256x512 : Shape := ⟨3, ![8, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S8x1024x512, .bf16⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S8x256x512, .bf16⟩
  | .local _ .vmem, ⟨3, _⟩ => ⟨S8x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S1x1024x512 : Shape := ⟨3, ![1, 1024, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S8x1024x512, .bf16⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S_, .f32⟩
  | .hbm, ⟨39, _⟩ => ⟨S1x1024x512, .f32⟩
  | .hbm, ⟨40, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamSquare.lean ====
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S8x128x1024, .bf16⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSquareRefIdeal.lean ====
abbrev S1x128x1024 : Shape := ⟨3, ![1, 128, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamKv.lean ====
abbrev S128x512 : Shape := ⟨2, ![128, 512]⟩
abbrev S8x128x512 : Shape := ⟨3, ![8, 128, 512]⟩
abbrev S1x128x512 : Shape := ⟨3, ![1, 128, 512]⟩

abbrev nBuf : Space → Nat
  | .hbm => 11
  | .vmem => 8
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S8x128x512, .bf16⟩
  | .hbm, ⟨4, _⟩ => ⟨S1x128x512, .f32⟩
  | .hbm, ⟨5, _⟩ => ⟨S1x128x512, .f32⟩
  | .hbm, ⟨6, _⟩ => ⟨S1x128x512, .f32⟩
  | .hbm, ⟨7, _⟩ => ⟨S1x128x512, .f32⟩
  | .hbm, ⟨8, _⟩ => ⟨S1x128x512, .f32⟩
  | .hbm, ⟨9, _⟩ => ⟨S1x128x512, .f32⟩
  | .hbm, ⟨10, _⟩ => ⟨S1x128x512, .f32⟩
  | .local _ .vmem, ⟨0, _⟩ => ⟨S1x128x512, .f32⟩
  | .local _ .vmem, ⟨1, _⟩ => ⟨S8x128x512, .bf16⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamKvRefIdeal.lean ====
abbrev S128x512 : Shape := ⟨2, ![128, 512]⟩
abbrev S8x128x512 : Shape := ⟨3, ![8, 128, 512]⟩
abbrev S_ : Shape := ⟨0, ![]⟩
abbrev S1x128x512 : Shape := ⟨3, ![1, 128, 512]⟩

abbrev nBuf : Space → Nat
  | .hbm => 44
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S8x128x512, .bf16⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S1x128x512, .f32⟩
  | .hbm, ⟨8, _⟩ => ⟨S1x128x512, .f32⟩
  | .hbm, ⟨9, _⟩ => ⟨S1x128x512, .f32⟩
  | .hbm, ⟨10, _⟩ => ⟨S1x128x512, .f32⟩
  | .hbm, ⟨11, _⟩ => ⟨S_, .f32⟩
  | .hbm, ⟨12, _⟩ => ⟨S1x128x512, .f32⟩
  | .hbm, ⟨13, _⟩ => ⟨S1x128x512, .f32⟩
  | .hbm, ⟨14, _⟩ => ⟨S_, .f32⟩
  | .hbm, ⟨15, _⟩ => ⟨S1x128x512, .f32⟩
  | .hbm, ⟨16, _⟩ => ⟨S1x128x512, .f32⟩
  | .hbm, ⟨17, _⟩ => ⟨S1x128x512, .f32⟩
  | .hbm, ⟨18, _⟩ => ⟨S_, .f32⟩
  | .hbm, ⟨19, _⟩ => ⟨S1x128x512, .f32⟩
  | .hbm, ⟨20, _⟩ => ⟨S1x128x512, .f32⟩
  | .hbm, ⟨21, _⟩ => ⟨S1x128x512, .f32⟩
  | .hbm, ⟨22, _⟩ => ⟨S_, .f32⟩
  | .hbm, ⟨23, _⟩ => ⟨S1x128x512, .f32⟩
  | .hbm, ⟨24, _⟩ => ⟨S1x128x512, .f32⟩
  | .hbm, ⟨25, _⟩ => ⟨S1x128x512, .f32⟩
  | .hbm, ⟨26, _⟩ => ⟨S_, .f32⟩
  | .hbm, ⟨27, _⟩ => ⟨S1x128x512, .f32⟩
  | .hbm, ⟨28, _⟩ => ⟨S1x128x512, .f32⟩
  | .hbm, ⟨29, _⟩ => ⟨S_, .f32⟩
  | .hbm, ⟨30, _⟩ => ⟨S1x128x512, .f32⟩
  | .hbm, ⟨31, _⟩ => ⟨S1x128x512, .f32⟩
  | .hbm, ⟨32, _⟩ => ⟨S1x128x512, .f32⟩
  | .hbm, ⟨33, _⟩ => ⟨S_, .f32⟩
  | .hbm, ⟨34, _⟩ => ⟨S1x128x512, .f32⟩
  | .hbm, ⟨35, _⟩ => ⟨S1x128x512, .f32⟩
  | .hbm, ⟨36, _⟩ => ⟨S1x128x512, .f32⟩
  | .hbm, ⟨37, _⟩ => ⟨S_, .f32⟩
  | .hbm, ⟨38, _⟩ => ⟨S1x128x512, .f32⟩
  | .hbm, ⟨39, _⟩ => ⟨S1x128x512, .f32⟩
  | .hbm, ⟨40, _⟩ => ⟨S1x128x512, .f32⟩
  | .hbm, ⟨41, _⟩ => ⟨S_, .f32⟩
  | .hbm, ⟨42, _⟩ => ⟨S1x128x512, .f32⟩
  | .hbm, ⟨43, _⟩ => ⟨S1x128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamGateUp.lean ====
abbrev S2x1024x704 : Shape := ⟨3, ![2, 1024, 704]⟩
abbrev S8x704x1024 : Shape := ⟨3, ![8, 704, 1024]⟩
abbrev S2x704x1024 : Shape := ⟨3, ![2, 704, 1024]⟩
abbrev S1x176x1024 : Shape := ⟨3, ![1, 176, 1024]⟩
abbrev S8x176x1024 : Shape := ⟨3, ![8, 176, 1024]⟩
abbrev S176x1024 : Shape := ⟨2, ![176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S8x704x1024, .bf16⟩
  | .hbm, ⟨4, _⟩ => ⟨S8x704x1024, .bf16⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGateUpRefIdeal.lean ====
abbrev S2x1024x704 : Shape := ⟨3, ![2, 1024, 704]⟩
abbrev S8x704x1024 : Shape := ⟨3, ![8, 704, 1024]⟩
abbrev S_ : Shape := ⟨0, ![]⟩
abbrev S704x1024 : Shape := ⟨2, ![704, 1024]⟩
abbrev S1x704x1024 : Shape := ⟨3, ![1, 704, 1024]⟩
abbrev S2x704x1024 : Shape := ⟨3, ![2, 704, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S8x704x1024, .bf16⟩
  | .hbm, ⟨4, _⟩ => ⟨S8x704x1024, .bf16⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S2x704x1024, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S_, .f32⟩
  | .hbm, ⟨21, _⟩ => ⟨S2x704x1024, .f32⟩
  | .hbm, ⟨22, _⟩ => ⟨S2x704x1024, .f32⟩
  | .hbm, ⟨23, _⟩ => ⟨S2x704x1024, .f32⟩
  | .hbm, ⟨24, _⟩ => ⟨S_, .f32⟩
  | .hbm, ⟨25, _⟩ => ⟨S2x704x1024, .f32⟩
  | .hbm, ⟨26, _⟩ => ⟨S2x704x1024, .f32⟩
  | .hbm, ⟨27, _⟩ => ⟨S2x704x1024, .f32⟩
  | .hbm, ⟨28, _⟩ => ⟨S_, .f32⟩
  | .hbm, ⟨29, _⟩ => ⟨S2x704x1024, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S_, .f32⟩
  | .hbm, ⟨36, _⟩ => ⟨S2x704x1024, .f32⟩
  | .hbm, ⟨37, _⟩ => ⟨S2x704x1024, .f32⟩
  | .hbm, ⟨38, _⟩ => ⟨S2x704x1024, .f32⟩
  | .hbm, ⟨39, _⟩ => ⟨S_, .f32⟩
  | .hbm, ⟨40, _⟩ => ⟨S2x704x1024, .f32⟩
  | .hbm, ⟨41, _⟩ => ⟨S2x704x1024, .f32⟩
  | .hbm, ⟨42, _⟩ => ⟨S2x704x1024, .f32⟩
  | .hbm, ⟨43, _⟩ => ⟨S_, .f32⟩
  | .hbm, ⟨44, _⟩ => ⟨S2x704x1024, .f32⟩
  | .hbm, ⟨45, _⟩ => ⟨S2x704x1024, .f32⟩
  | .hbm, ⟨46, _⟩ => ⟨S2x704x1024, .f32⟩
  | .hbm, ⟨47, _⟩ => ⟨S_, .f32⟩
  | .hbm, ⟨48, _⟩ => ⟨S2x704x1024, .f32⟩
  | .hbm, ⟨49, _⟩ => ⟨S2x704x1024, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== AdamDown.lean ====
abbrev S2x352x1024 : Shape := ⟨3, ![2, 352, 1024]⟩
abbrev S8x352x1024 : Shape := ⟨3, ![8, 352, 1024]⟩
abbrev S1x176x1024 : Shape := ⟨3, ![1, 176, 1024]⟩
abbrev S8x176x1024 : Shape := ⟨3, ![8, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S8x352x1024, .bf16⟩
  | .hbm, ⟨4, _⟩ => ⟨S8x352x1024, .bf16⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S1x176x1024, .f32⟩
  | .local _ .vmem, ⟨1, _⟩ => ⟨S1x176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S2x352x1024 : Shape := ⟨3, ![2, 352, 1024]⟩
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S8x352x1024, .bf16⟩
  | .hbm, ⟨4, _⟩ => ⟨S8x352x1024, .bf16⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamPleUp.lean ====
abbrev S2x256x128 : Shape := ⟨3, ![2, 256, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S2x256x128, .f32⟩
  | .hbm, ⟨1, _⟩ => ⟨S2x256x128, .f32⟩
  | .hbm, ⟨2, _⟩ => ⟨S2x256x128, .f32⟩
  | .hbm, ⟨3, _⟩ => ⟨S8x256x128, .bf16⟩
  | .hbm, ⟨4, _⟩ => ⟨S8x256x128, .bf16⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S2x256x128, .f32⟩
  | .local _ .vmem, ⟨0, _⟩ => ⟨S1x256x128, .f32⟩
  | .local _ .vmem, ⟨1, _⟩ => ⟨S1x256x128, .f32⟩
  | .local _ .vmem, ⟨2, _⟩ => ⟨S8x256x128, .bf16⟩
  | .local _ .vmem, ⟨3, _⟩ => ⟨S8x256x128, .bf16⟩
  | .local _ .vmem, ⟨4, _⟩ => ⟨S8x256x128, .bf16⟩
  | .local _ .vmem, ⟨5, _⟩ => ⟨S8x256x128, .bf16⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S2x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamPleUpRefIdeal.lean ====
abbrev S2x256x128 : Shape := ⟨3, ![2, 256, 128]⟩
abbrev S8x256x128 : Shape := ⟨3, ![8, 256, 128]⟩
abbrev S_ : Shape := ⟨0, ![]⟩
abbrev S256x128 : Shape := ⟨2, ![256, 128]⟩
abbrev S1x256x128 : Shape := ⟨3, ![1, 256, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x256x128, .f32⟩
  | .hbm, ⟨1, _⟩ => ⟨S2x256x128, .f32⟩
  | .hbm, ⟨2, _⟩ => ⟨S2x256x128, .f32⟩
  | .hbm, ⟨3, _⟩ => ⟨S8x256x128, .bf16⟩
  | .hbm, ⟨4, _⟩ => ⟨S8x256x128, .bf16⟩
  | .hbm, ⟨5, _⟩ => ⟨S8x256x128, .f32⟩
  | .hbm, ⟨6, _⟩ => ⟨S_, .f32⟩
  | .hbm, ⟨7, _⟩ => ⟨S256x128, .f32⟩
  | .hbm, ⟨8, _⟩ => ⟨S8x256x128, .f32⟩
  | .hbm, ⟨9, _⟩ => ⟨S_, .f32⟩
  | .hbm, ⟨10, _⟩ => ⟨S256x128, .f32⟩
  | .hbm, ⟨11, _⟩ => ⟨S1x256x128, .f32⟩
  | .hbm, ⟨12, _⟩ => ⟨S1x256x128, .f32⟩
  | .hbm, ⟨13, _⟩ => ⟨S2x256x128, .f32⟩
  | .hbm, ⟨14, _⟩ => ⟨S_, .f32⟩
  | .hbm, ⟨15, _⟩ => ⟨S2x256x128, .f32⟩
  | .hbm, ⟨16, _⟩ => ⟨S2x256x128, .f32⟩
  | .hbm, ⟨17, _⟩ => ⟨S_, .f32⟩
  | .hbm, ⟨18, _⟩ => ⟨S2x256x128, .f32⟩
  | .hbm, ⟨19, _⟩ => ⟨S2x256x128, .f32⟩
  | .hbm, ⟨20, _⟩ => ⟨S2x256x128, .f32⟩
  | .hbm, ⟨21, _⟩ => ⟨S_, .f32⟩
  | .hbm, ⟨22, _⟩ => ⟨S2x256x128, .f32⟩
  | .hbm, ⟨23, _⟩ => ⟨S2x256x128, .f32⟩
  | .hbm, ⟨24, _⟩ => ⟨S2x256x128, .f32⟩
  | .hbm, ⟨25, _⟩ => ⟨S_, .f32⟩
  | .hbm, ⟨26, _⟩ => ⟨S2x256x128, .f32⟩
  | .hbm, ⟨27, _⟩ => ⟨S2x256x128, .f32⟩
  | .hbm, ⟨28, _⟩ => ⟨S2x256x128, .f32⟩
  | .hbm, ⟨29, _⟩ => ⟨S_, .f32⟩
  | .hbm, ⟨30, _⟩ => ⟨S2x256x128, .f32⟩
  | .hbm, ⟨31, _⟩ => ⟨S2x256x128, .f32⟩
  | .hbm, ⟨32, _⟩ => ⟨S_, .f32⟩
  | .hbm, ⟨33, _⟩ => ⟨S2x256x128, .f32⟩
  | .hbm, ⟨34, _⟩ => ⟨S2x256x128, .f32⟩
  | .hbm, ⟨35, _⟩ => ⟨S2x256x128, .f32⟩
  | .hbm, ⟨36, _⟩ => ⟨S_, .f32⟩
  | .hbm, ⟨37, _⟩ => ⟨S2x256x128, .f32⟩
  | .hbm, ⟨38, _⟩ => ⟨S2x256x128, .f32⟩
  | .hbm, ⟨39, _⟩ => ⟨S2x256x128, .f32⟩
  | .hbm, ⟨40, _⟩ => ⟨S_, .f32⟩
  | .hbm, ⟨41, _⟩ => ⟨S2x256x128, .f32⟩
  | .hbm, ⟨42, _⟩ => ⟨S2x256x128, .f32⟩
  | .hbm, ⟨43, _⟩ => ⟨S2x256x128, .f32⟩
  | .hbm, ⟨44, _⟩ => ⟨S_, .f32⟩
  | .hbm, ⟨45, _⟩ => ⟨S2x256x128, .f32⟩
  | .hbm, ⟨46, _⟩ => ⟨S2x256x128, .f32⟩
  | _, _ => ⟨S2x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamPleGate.lean ====
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamPleGateRefIdeal.lean ====
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamSmall.lean ====
abbrev S8x2x1024 : Shape := ⟨3, ![8, 2, 1024]⟩
abbrev S8x6x1024 : Shape := ⟨3, ![8, 6, 1024]⟩
abbrev S8x1x128 : Shape := ⟨3, ![8, 1, 128]⟩
abbrev S8x1x512 : Shape := ⟨3, ![8, 1, 512]⟩
abbrev S8x1x1024 : Shape := ⟨3, ![8, 1, 1024]⟩
abbrev S2x128 : Shape := ⟨2, ![2, 128]⟩
abbrev S2x3x128 : Shape := ⟨3, ![2, 3, 128]⟩
abbrev S1x128 : Shape := ⟨2, ![1, 128]⟩
abbrev S512 : Shape := ⟨1, ![512]⟩
abbrev S1x1024 : Shape := ⟨2, ![1, 1024]⟩
abbrev S1x16 : Shape := ⟨2, ![1, 16]⟩
abbrev S2x1024 : Shape := ⟨2, ![2, 1024]⟩
abbrev S3x2x128 : Shape := ⟨3, ![3, 2, 128]⟩
abbrev S1x512 : Shape := ⟨2, ![1, 512]⟩
abbrev S1x1x128 : Shape := ⟨3, ![1, 1, 128]⟩
abbrev S1x2x128 : Shape := ⟨3, ![1, 2, 128]⟩
abbrev S1x1x512 : Shape := ⟨3, ![1, 1, 512]⟩
abbrev S1x1x1024 : Shape := ⟨3, ![1, 1, 1024]⟩
abbrev S1x1x16 : Shape := ⟨3, ![1, 1, 16]⟩
abbrev S1x2x1024 : Shape := ⟨3, ![1, 2, 1024]⟩

abbrev nBuf : Space → Nat
  | .hbm => 83
  | .vmem => 74
  | .smem => 0
  | _ => 0

abbrev bufTy : (tb : Table) → Fin (tcTables nBuf tb) → BufTy
  | .hbm, ⟨0, _⟩ => ⟨S8x2x1024, .f32⟩
  | .hbm, ⟨1, _⟩ => ⟨S8x6x1024, .f32⟩
  | .hbm, ⟨2, _⟩ => ⟨S8x6x1024, .f32⟩
  | .hbm, ⟨3, _⟩ => ⟨S8x1x128, .f32⟩
  | .hbm, ⟨4, _⟩ => ⟨S8x1x512, .f32⟩
  | .hbm, ⟨5, _⟩ => ⟨S8x1x1024, .f32⟩
  | .hbm, ⟨6, _⟩ => ⟨S8x1x128, .f32⟩
  | .hbm, ⟨7, _⟩ => ⟨S8x1x1024, .f32⟩
  | .hbm, ⟨8, _⟩ => ⟨S8x2x1024, .f32⟩
  | .hbm, ⟨9, _⟩ => ⟨S2x128, .f32⟩
  | .hbm, ⟨10, _⟩ => ⟨S2x3x128, .f32⟩
  | .hbm, ⟨11, _⟩ => ⟨S2x3x128, .f32⟩
  | .hbm, ⟨12, _⟩ => ⟨S1x128, .f32⟩
  | .hbm, ⟨13, _⟩ => ⟨S512, .f32⟩
  | .hbm, ⟨14, _⟩ => ⟨S1x1024, .f32⟩
  | .hbm, ⟨15, _⟩ => ⟨S1x16, .f32⟩
  | .hbm, ⟨16, _⟩ => ⟨S1x1024, .f32⟩
  | .hbm, ⟨17, _⟩ => ⟨S2x1024, .f32⟩
  | .hbm, ⟨18, _⟩ => ⟨S2x128, .f32⟩
  | .hbm, ⟨19, _⟩ => ⟨S2x3x128, .f32⟩
  | .hbm, ⟨20, _⟩ => ⟨S2x3x128, .f32⟩
  | .hbm, ⟨21, _⟩ => ⟨S1x128, .f32⟩
  | .hbm, ⟨22, _⟩ => ⟨S512, .f32⟩
  | .hbm, ⟨23, _⟩ => ⟨S1x1024, .f32⟩
  | .hbm, ⟨24, _⟩ => ⟨S1x16, .f32⟩
  | .hbm, ⟨25, _⟩ => ⟨S1x1024, .f32⟩
  | .hbm, ⟨26, _⟩ => ⟨S2x1024, .f32⟩
  | .hbm, ⟨27, _⟩ => ⟨S2x128, .f32⟩
  | .hbm, ⟨28, _⟩ => ⟨S2x3x128, .f32⟩
  | .hbm, ⟨29, _⟩ => ⟨S2x3x128, .f32⟩
  | .hbm, ⟨30, _⟩ => ⟨S1x128, .f32⟩
  | .hbm, ⟨31, _⟩ => ⟨S512, .f32⟩
  | .hbm, ⟨32, _⟩ => ⟨S1x1024, .f32⟩
  | .hbm, ⟨33, _⟩ => ⟨S1x16, .f32⟩
  | .hbm, ⟨34, _⟩ => ⟨S1x1024, .f32⟩
  | .hbm, ⟨35, _⟩ => ⟨S2x1024, .f32⟩
  | .hbm, ⟨36, _⟩ => ⟨S8x1x128, .f32⟩
  | .hbm, ⟨37, _⟩ => ⟨S3x2x128, .f32⟩
  | .hbm, ⟨38, _⟩ => ⟨S3x2x128, .f32⟩
  | .hbm, ⟨39, _⟩ => ⟨S1x512, .f32⟩
  | .hbm, ⟨40, _⟩ => ⟨S3x2x128, .f32⟩
  | .hbm, ⟨41, _⟩ => ⟨S3x2x128, .f32⟩
  | .hbm, ⟨42, _⟩ => ⟨S1x512, .f32⟩
  | .hbm, ⟨43, _⟩ => ⟨S3x2x128, .f32⟩
  | .hbm, ⟨44, _⟩ => ⟨S3x2x128, .f32⟩
  | .hbm, ⟨45, _⟩ => ⟨S1x512, .f32⟩
  | .hbm, ⟨46, _⟩ => ⟨S2x128, .f32⟩
  | .hbm, ⟨47, _⟩ => ⟨S2x128, .f32⟩
  | .hbm, ⟨48, _⟩ => ⟨S2x128, .f32⟩
  | .hbm, ⟨49, _⟩ => ⟨S2x128, .f32⟩
  | .hbm, ⟨50, _⟩ => ⟨S3x2x128, .f32⟩
  | .hbm, ⟨51, _⟩ => ⟨S3x2x128, .f32⟩
  | .hbm, ⟨52, _⟩ => ⟨S3x2x128, .f32⟩
  | .hbm, ⟨53, _⟩ => ⟨S3x2x128, .f32⟩
  | .hbm, ⟨54, _⟩ => ⟨S3x2x128, .f32⟩
  | .hbm, ⟨55, _⟩ => ⟨S3x2x128, .f32⟩
  | .hbm, ⟨56, _⟩ => ⟨S3x2x128, .f32⟩
  | .hbm, ⟨57, _⟩ => ⟨S3x2x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x512, .f32⟩
  | .hbm, ⟨63, _⟩ => ⟨S1x512, .f32⟩
  | .hbm, ⟨64, _⟩ => ⟨S1x512, .f32⟩
  | .hbm, ⟨65, _⟩ => ⟨S1x512, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x16, .f32⟩
  | .hbm, ⟨71, _⟩ => ⟨S1x16, .f32⟩
  | .hbm, ⟨72, _⟩ => ⟨S1x16, .f32⟩
  | .hbm, ⟨73, _⟩ => ⟨S1x16, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S2x1024, .f32⟩
  | .hbm, ⟨79, _⟩ => ⟨S2x1024, .f32⟩
  | .hbm, ⟨80, _⟩ => ⟨S2x1024, .f32⟩
  | .hbm, ⟨81, _⟩ => ⟨S2x1024, .f32⟩
  | .hbm, ⟨82, _⟩ => ⟨S1x128, .f32⟩
  | .local _ .vmem, ⟨0, _⟩ => ⟨S8x2x1024, .f32⟩
  | .local _ .vmem, ⟨1, _⟩ => ⟨S8x6x1024, .f32⟩
  | .local _ .vmem, ⟨2, _⟩ => ⟨S8x6x1024, .f32⟩
  | .local _ .vmem, ⟨3, _⟩ => ⟨S8x1x128, .f32⟩
  | .local _ .vmem, ⟨4, _⟩ => ⟨S8x1x512, .f32⟩
  | .local _ .vmem, ⟨5, _⟩ => ⟨S8x1x1024, .f32⟩
  | .local _ .vmem, ⟨6, _⟩ => ⟨S8x1x128, .f32⟩
  | .local _ .vmem, ⟨7, _⟩ => ⟨S8x1x1024, .f32⟩
  | .local _ .vmem, ⟨8, _⟩ => ⟨S8x2x1024, .f32⟩
  | .local _ .vmem, ⟨9, _⟩ => ⟨S2x128, .f32⟩
  | .local _ .vmem, ⟨10, _⟩ => ⟨S3x2x128, .f32⟩
  | .local _ .vmem, ⟨11, _⟩ => ⟨S3x2x128, .f32⟩
  | .local _ .vmem, ⟨12, _⟩ => ⟨S1x128, .f32⟩
  | .local _ .vmem, ⟨13, _⟩ => ⟨S1x512, .f32⟩
  | .local _ .vmem, ⟨14, _⟩ => ⟨S1x1024, .f32⟩
  | .local _ .vmem, ⟨15, _⟩ => ⟨S1x16, .f32⟩
  | .local _ .vmem, ⟨16, _⟩ => ⟨S1x1024, .f32⟩
  | .local _ .vmem, ⟨17, _⟩ => ⟨S2x1024, .f32⟩
  | .local _ .vmem, ⟨18, _⟩ => ⟨S2x128, .f32⟩
  | .local _ .vmem, ⟨19, _⟩ => ⟨S3x2x128, .f32⟩
  | .local _ .vmem, ⟨20, _⟩ => ⟨S3x2x128, .f32⟩
  | .local _ .vmem, ⟨21, _⟩ => ⟨S1x128, .f32⟩
  | .local _ .vmem, ⟨22, _⟩ => ⟨S1x512, .f32⟩
  | .local _ .vmem, ⟨23, _⟩ => ⟨S1x1024, .f32⟩
  | .local _ .vmem, ⟨24, _⟩ => ⟨S1x16, .f32⟩
  | .local _ .vmem, ⟨25, _⟩ => ⟨S1x1024, .f32⟩
  | .local _ .vmem, ⟨26, _⟩ => ⟨S2x1024, .f32⟩
  | .local _ .vmem, ⟨27, _⟩ => ⟨S2x128, .f32⟩
  | .local _ .vmem, ⟨28, _⟩ => ⟨S3x2x128, .f32⟩
  | .local _ .vmem, ⟨29, _⟩ => ⟨S3x2x128, .f32⟩
  | .local _ .vmem, ⟨30, _⟩ => ⟨S1x128, .f32⟩
  | .local _ .vmem, ⟨31, _⟩ => ⟨S1x512, .f32⟩
  | .local _ .vmem, ⟨32, _⟩ => ⟨S1x1024, .f32⟩
  | .local _ .vmem, ⟨33, _⟩ => ⟨S1x16, .f32⟩
  | .local _ .vmem, ⟨34, _⟩ => ⟨S1x1024, .f32⟩
  | .local _ .vmem, ⟨35, _⟩ => ⟨S2x1024, .f32⟩
  | .local _ .vmem, ⟨36, _⟩ => ⟨S8x1x128, .f32⟩
  | .local _ .vmem, ⟨37, _⟩ => ⟨S2x128, .f32⟩
  | .local _ .vmem, ⟨38, _⟩ => ⟨S2x128, .f32⟩
  | .local _ .vmem, ⟨39, _⟩ => ⟨S2x128, .f32⟩
  | .local _ .vmem, ⟨40, _⟩ => ⟨S2x128, .f32⟩
  | .local _ .vmem, ⟨41, _⟩ => ⟨S3x2x128, .f32⟩
  | .local _ .vmem, ⟨42, _⟩ => ⟨S3x2x128, .f32⟩
  | .local _ .vmem, ⟨43, _⟩ => ⟨S3x2x128, .f32⟩
  | .local _ .vmem, ⟨44, _⟩ => ⟨S3x2x128, .f32⟩
  | .local _ .vmem, ⟨45, _⟩ => ⟨S3x2x128, .f32⟩
  | .local _ .vmem, ⟨46, _⟩ => ⟨S3x2x128, .f32⟩
  | .local _ .vmem, ⟨47, _⟩ => ⟨S3x2x128, .f32⟩
  | .local _ .vmem, ⟨48, _⟩ => ⟨S3x2x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x512, .f32⟩
  | .local _ .vmem, ⟨54, _⟩ => ⟨S1x512, .f32⟩
  | .local _ .vmem, ⟨55, _⟩ => ⟨S1x512, .f32⟩
  | .local _ .vmem, ⟨56, _⟩ => ⟨S1x512, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S1x16, .f32⟩
  | .local _ .vmem, ⟨62, _⟩ => ⟨S1x16, .f32⟩
  | .local _ .vmem, ⟨63, _⟩ => ⟨S1x16, .f32⟩
  | .local _ .vmem, ⟨64, _⟩ => ⟨S1x16, .f32⟩
  | .local _ .vmem, ⟨65, _⟩ => ⟨S1x1024, .f32⟩
  | .local _ .vmem, ⟨66, _⟩ => ⟨S1x1024, .f32⟩
  | .local _ .vmem, ⟨67, _⟩ => ⟨S1x1024, .f32⟩
  | .local _ .vmem, ⟨68, _⟩ => ⟨S1x1024, .f32⟩
  | .local _ .vmem, ⟨69, _⟩ => ⟨S2x1024, .f32⟩
  | .local _ .vmem, ⟨70, _⟩ => ⟨S2x1024, .f32⟩
  | .local _ .vmem, ⟨71, _⟩ => ⟨S2x1024, .f32⟩
  | .local _ .vmem, ⟨72, _⟩ => ⟨S2x1024, .f32⟩
  | .local _ .vmem, ⟨73, _⟩ => ⟨S1x128, .f32⟩
  | _, _ => ⟨S8x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9_0 : Ref sig .tc := ⟨.hbm, 46, rfl⟩
abbrev main_v9_1 : Ref sig .tc := ⟨.hbm, 47, rfl⟩
abbrev main_v9_2 : Ref sig .tc := ⟨.hbm, 48, rfl⟩
abbrev main_v9_3 : Ref sig .tc := ⟨.hbm, 49, rfl⟩
abbrev main_v9_4 : Ref sig .tc := ⟨.hbm, 50, rfl⟩
abbrev main_v9_5 : Ref sig .tc := ⟨.hbm, 51, rfl⟩
abbrev main_v9_6 : Ref sig .tc := ⟨.hbm, 52, rfl⟩
abbrev main_v9_7 : Ref sig .tc := ⟨.hbm, 53, rfl⟩
abbrev main_v9_8 : Ref sig .tc := ⟨.hbm, 54, rfl⟩
abbrev main_v9_9 : Ref sig .tc := ⟨.hbm, 55, rfl⟩
abbrev main_v9_10 : Ref sig .tc := ⟨.hbm, 56, rfl⟩
abbrev main_v9_11 : Ref sig .tc := ⟨.hbm, 57, rfl⟩
abbrev main_v9_12 : Ref sig .tc := ⟨.hbm, 58, rfl⟩
abbrev main_v9_13 : Ref sig .tc := ⟨.hbm, 59, rfl⟩
abbrev main_v9_14 : Ref sig .tc := ⟨.hbm, 60, rfl⟩
abbrev main_v9_15 : Ref sig .tc := ⟨.hbm, 61, rfl⟩
abbrev main_v9_16 : Ref sig .tc := ⟨.hbm, 62, rfl⟩
abbrev main_v9_17 : Ref sig .tc := ⟨.hbm, 63, rfl⟩
abbrev main_v9_18 : Ref sig .tc := ⟨.hbm, 64, rfl⟩
abbrev main_v9_19 : Ref sig .tc := ⟨.hbm, 65, rfl⟩
abbrev main_v9_20 : Ref sig .tc := ⟨.hbm, 66, rfl⟩
abbrev main_v9_21 : Ref sig .tc := ⟨.hbm, 67, rfl⟩
abbrev main_v9_22 : Ref sig .tc := ⟨.hbm, 68, rfl⟩
abbrev main_v9_23 : Ref sig .tc := ⟨.hbm, 69, rfl⟩
abbrev main_v9_24 : Ref sig .tc := ⟨.hbm, 70, rfl⟩
abbrev main_v9_25 : Ref sig .tc := ⟨.hbm, 71, rfl⟩
abbrev main_v9_26 : Ref sig .tc := ⟨.hbm, 72, rfl⟩
abbrev main_v9_27 : Ref sig .tc := ⟨.hbm, 73, rfl⟩
abbrev main_v9_28 : Ref sig .tc := ⟨.hbm, 74, rfl⟩
abbrev main_v9_29 : Ref sig .tc := ⟨.hbm, 75, rfl⟩
abbrev main_v9_30 : Ref sig .tc := ⟨.hbm, 76, rfl⟩
abbrev main_v9_31 : Ref sig .tc := ⟨.hbm, 77, rfl⟩
abbrev main_v9_32 : Ref sig .tc := ⟨.hbm, 78, rfl⟩
abbrev main_v9_33 : Ref sig .tc := ⟨.hbm, 79, rfl⟩
abbrev main_v9_34 : Ref sig .tc := ⟨.hbm, 80, rfl⟩
abbrev main_v9_35 : Ref sig .tc := ⟨.hbm, 81, rfl⟩
abbrev main_v9_36 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c0_i32_56 : BitVec 32 := 0#32
  c0_i32_56
def k0_mult3 : BitVec 32 :=
  let c0_i32_333 : BitVec 32 := 0#32
  c0_i32_333
abbrev stage0_0 : Fin 1 → Memref sig .tc .vmem S8x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x2x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x2x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x16 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S3x2x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S3x2x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x16 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S8x1x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S2x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S2x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S3x2x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S3x2x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S3x2x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S3x2x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S3x2x128 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S3x2x128 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S3x2x128 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S3x2x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x128 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x512 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x512 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x512 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x512 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x16 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x16 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x16 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x16 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x1024 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x1024 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S2x1024 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S2x1024 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S2x1024 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S2x1024 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x128 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))
-- ==== AdamSmallRefIdeal.lean ====
abbrev S8x2x1024 : Shape := ⟨3, ![8, 2, 1024]⟩
abbrev S8x6x1024 : Shape := ⟨3, ![8, 6, 1024]⟩
abbrev S8x1x128 : Shape := ⟨3, ![8, 1, 128]⟩
abbrev S8x1x512 : Shape := ⟨3, ![8, 1, 512]⟩
abbrev S8x1x1024 : Shape := ⟨3, ![8, 1, 1024]⟩
abbrev S2x128 : Shape := ⟨2, ![2, 128]⟩
abbrev S2x3x128 : Shape := ⟨3, ![2, 3, 128]⟩
abbrev S1x128 : Shape := ⟨2, ![1, 128]⟩
abbrev S512 : Shape := ⟨1, ![512]⟩
abbrev S1x1024 : Shape := ⟨2, ![1, 1024]⟩
abbrev S1x16 : Shape := ⟨2, ![1, 16]⟩
abbrev S2x1024 : Shape := ⟨2, ![2, 1024]⟩
abbrev S_ : Shape := ⟨0, ![]⟩
abbrev S6x1024 : Shape := ⟨2, ![6, 1024]⟩
abbrev S6x128 : Shape := ⟨2, ![6, 128]⟩
abbrev S3x2x128 : Shape := ⟨3, ![3, 2, 128]⟩
abbrev S1x512 : Shape := ⟨2, ![1, 512]⟩

abbrev nBuf : Space → Nat
  | .hbm => 373
  | .vmem => 0
  | .smem => 0
  | _ => 0

abbrev hbmTy0_0 (i : Nat) : BufTy := match i % 128 with
  | 0 => ⟨S8x2x1024, .f32⟩
  | 1 => ⟨S8x6x1024, .f32⟩
  | 2 => ⟨S8x6x1024, .f32⟩
  | 3 => ⟨S8x1x128, .f32⟩
  | 4 => ⟨S8x1x512, .f32⟩
  | 5 => ⟨S8x1x1024, .f32⟩
  | 6 => ⟨S8x1x128, .f32⟩
  | 7 => ⟨S8x1x1024, .f32⟩
  | 8 => ⟨S8x2x1024, .f32⟩
  | 9 => ⟨S2x128, .f32⟩
  | 10 => ⟨S2x3x128, .f32⟩
  | 11 => ⟨S2x3x128, .f32⟩
  | 12 => ⟨S1x128, .f32⟩
  | 13 => ⟨S512, .f32⟩
  | 14 => ⟨S1x1024, .f32⟩
  | 15 => ⟨S1x16, .f32⟩
  | 16 => ⟨S1x1024, .f32⟩
  | 17 => ⟨S2x1024, .f32⟩
  | 18 => ⟨S2x128, .f32⟩
  | 19 => ⟨S2x3x128, .f32⟩
  | 20 => ⟨S2x3x128, .f32⟩
  | 21 => ⟨S1x128, .f32⟩
  | 22 => ⟨S512, .f32⟩
  | 23 => ⟨S1x1024, .f32⟩
  | 24 => ⟨S1x16, .f32⟩
  | 25 => ⟨S1x1024, .f32⟩
  | 26 => ⟨S2x1024, .f32⟩
  | 27 => ⟨S2x128, .f32⟩
  | 28 => ⟨S2x3x128, .f32⟩
  | 29 => ⟨S2x3x128, .f32⟩
  | 30 => ⟨S1x128, .f32⟩
  | 31 => ⟨S512, .f32⟩
  | 32 => ⟨S1x1024, .f32⟩
  | 33 => ⟨S1x16, .f32⟩
  | 34 => ⟨S1x1024, .f32⟩
  | 35 => ⟨S2x1024, .f32⟩
  | 36 => ⟨S8x1x128, .f32⟩
  | 37 => ⟨S_, .f32⟩
  | 38 => ⟨S2x1024, .f32⟩
  | 39 => ⟨S2x128, .f32⟩
  | 40 => ⟨S_, .f32⟩
  | 41 => ⟨S2x128, .f32⟩
  | 42 => ⟨S2x128, .f32⟩
  | 43 => ⟨S_, .f32⟩
  | 44 => ⟨S2x128, .f32⟩
  | 45 => ⟨S2x128, .f32⟩
  | 46 => ⟨S2x128, .f32⟩
  | 47 => ⟨S_, .f32⟩
  | 48 => ⟨S2x128, .f32⟩
  | 49 => ⟨S2x128, .f32⟩
  | 50 => ⟨S2x128, .f32⟩
  | 51 => ⟨S_, .f32⟩
  | 52 => ⟨S2x128, .f32⟩
  | 53 => ⟨S2x128, .f32⟩
  | 54 => ⟨S2x128, .f32⟩
  | 55 => ⟨S_, .f32⟩
  | 56 => ⟨S2x128, .f32⟩
  | 57 => ⟨S2x128, .f32⟩
  | 58 => ⟨S_, .f32⟩
  | 59 => ⟨S2x128, .f32⟩
  | 60 => ⟨S2x128, .f32⟩
  | 61 => ⟨S2x128, .f32⟩
  | 62 => ⟨S_, .f32⟩
  | 63 => ⟨S2x128, .f32⟩
  | 64 => ⟨S2x128, .f32⟩
  | 65 => ⟨S2x128, .f32⟩
  | 66 => ⟨S_, .f32⟩
  | 67 => ⟨S2x128, .f32⟩
  | 68 => ⟨S2x128, .f32⟩
  | 69 => ⟨S2x128, .f32⟩
  | 70 => ⟨S_, .f32⟩
  | 71 => ⟨S2x128, .f32⟩
  | 72 => ⟨S2x128, .f32⟩
  | 73 => ⟨S_, .f32⟩
  | 74 => ⟨S6x1024, .f32⟩
  | 75 => ⟨S6x128, .f32⟩
  | 76 => ⟨S2x3x128, .f32⟩
  | 77 => ⟨S3x2x128, .f32⟩
  | 78 => ⟨S3x2x128, .f32⟩
  | 79 => ⟨S3x2x128, .f32⟩
  | 80 => ⟨S3x2x128, .f32⟩
  | 81 => ⟨S_, .f32⟩
  | 82 => ⟨S3x2x128, .f32⟩
  | 83 => ⟨S3x2x128, .f32⟩
  | 84 => ⟨S_, .f32⟩
  | 85 => ⟨S3x2x128, .f32⟩
  | 86 => ⟨S3x2x128, .f32⟩
  | 87 => ⟨S3x2x128, .f32⟩
  | 88 => ⟨S_, .f32⟩
  | 89 => ⟨S3x2x128, .f32⟩
  | 90 => ⟨S3x2x128, .f32⟩
  | 91 => ⟨S3x2x128, .f32⟩
  | 92 => ⟨S_, .f32⟩
  | 93 => ⟨S3x2x128, .f32⟩
  | 94 => ⟨S3x2x128, .f32⟩
  | 95 => ⟨S3x2x128, .f32⟩
  | 96 => ⟨S_, .f32⟩
  | 97 => ⟨S3x2x128, .f32⟩
  | 98 => ⟨S3x2x128, .f32⟩
  | 99 => ⟨S_, .f32⟩
  | 100 => ⟨S3x2x128, .f32⟩
  | 101 => ⟨S3x2x128, .f32⟩
  | 102 => ⟨S3x2x128, .f32⟩
  | 103 => ⟨S_, .f32⟩
  | 104 => ⟨S3x2x128, .f32⟩
  | 105 => ⟨S3x2x128, .f32⟩
  | 106 => ⟨S3x2x128, .f32⟩
  | 107 => ⟨S_, .f32⟩
  | 108 => ⟨S3x2x128, .f32⟩
  | 109 => ⟨S3x2x128, .f32⟩
  | 110 => ⟨S3x2x128, .f32⟩
  | 111 => ⟨S_, .f32⟩
  | 112 => ⟨S3x2x128, .f32⟩
  | 113 => ⟨S3x2x128, .f32⟩
  | 114 => ⟨S_, .f32⟩
  | 115 => ⟨S6x1024, .f32⟩
  | 116 => ⟨S6x128, .f32⟩
  | 117 => ⟨S2x3x128, .f32⟩
  | 118 => ⟨S3x2x128, .f32⟩
  | 119 => ⟨S3x2x128, .f32⟩
  | 120 => ⟨S3x2x128, .f32⟩
  | 121 => ⟨S3x2x128, .f32⟩
  | 122 => ⟨S_, .f32⟩
  | 123 => ⟨S3x2x128, .f32⟩
  | 124 => ⟨S3x2x128, .f32⟩
  | 125 => ⟨S_, .f32⟩
  | 126 => ⟨S3x2x128, .f32⟩
  | 127 => ⟨S3x2x128, .f32⟩
  | _ => ⟨S8x2x1024, .f32⟩

abbrev hbmTy0_1 (i : Nat) : BufTy := match i % 128 with
  | 0 => ⟨S3x2x128, .f32⟩
  | 1 => ⟨S_, .f32⟩
  | 2 => ⟨S3x2x128, .f32⟩
  | 3 => ⟨S3x2x128, .f32⟩
  | 4 => ⟨S3x2x128, .f32⟩
  | 5 => ⟨S_, .f32⟩
  | 6 => ⟨S3x2x128, .f32⟩
  | 7 => ⟨S3x2x128, .f32⟩
  | 8 => ⟨S3x2x128, .f32⟩
  | 9 => ⟨S_, .f32⟩
  | 10 => ⟨S3x2x128, .f32⟩
  | 11 => ⟨S3x2x128, .f32⟩
  | 12 => ⟨S_, .f32⟩
  | 13 => ⟨S3x2x128, .f32⟩
  | 14 => ⟨S3x2x128, .f32⟩
  | 15 => ⟨S3x2x128, .f32⟩
  | 16 => ⟨S_, .f32⟩
  | 17 => ⟨S3x2x128, .f32⟩
  | 18 => ⟨S3x2x128, .f32⟩
  | 19 => ⟨S3x2x128, .f32⟩
  | 20 => ⟨S_, .f32⟩
  | 21 => ⟨S3x2x128, .f32⟩
  | 22 => ⟨S3x2x128, .f32⟩
  | 23 => ⟨S3x2x128, .f32⟩
  | 24 => ⟨S_, .f32⟩
  | 25 => ⟨S3x2x128, .f32⟩
  | 26 => ⟨S3x2x128, .f32⟩
  | 27 => ⟨S_, .f32⟩
  | 28 => ⟨S1x128, .f32⟩
  | 29 => ⟨S_, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S_, .f32⟩
  | 37 => ⟨S1x128, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S_, .f32⟩
  | 63 => ⟨S1x512, .f32⟩
  | 64 => ⟨S512, .f32⟩
  | 65 => ⟨S1x512, .f32⟩
  | 66 => ⟨S1x512, .f32⟩
  | 67 => ⟨S1x512, .f32⟩
  | 68 => ⟨S1x512, .f32⟩
  | 69 => ⟨S_, .f32⟩
  | 70 => ⟨S1x512, .f32⟩
  | 71 => ⟨S1x512, .f32⟩
  | 72 => ⟨S_, .f32⟩
  | 73 => ⟨S1x512, .f32⟩
  | 74 => ⟨S1x512, .f32⟩
  | 75 => ⟨S1x512, .f32⟩
  | 76 => ⟨S_, .f32⟩
  | 77 => ⟨S1x512, .f32⟩
  | 78 => ⟨S1x512, .f32⟩
  | 79 => ⟨S1x512, .f32⟩
  | 80 => ⟨S_, .f32⟩
  | 81 => ⟨S1x512, .f32⟩
  | 82 => ⟨S1x512, .f32⟩
  | 83 => ⟨S1x512, .f32⟩
  | 84 => ⟨S_, .f32⟩
  | 85 => ⟨S1x512, .f32⟩
  | 86 => ⟨S1x512, .f32⟩
  | 87 => ⟨S_, .f32⟩
  | 88 => ⟨S1x512, .f32⟩
  | 89 => ⟨S1x512, .f32⟩
  | 90 => ⟨S1x512, .f32⟩
  | 91 => ⟨S_, .f32⟩
  | 92 => ⟨S1x512, .f32⟩
  | 93 => ⟨S1x512, .f32⟩
  | 94 => ⟨S1x512, .f32⟩
  | 95 => ⟨S_, .f32⟩
  | 96 => ⟨S1x512, .f32⟩
  | 97 => ⟨S1x512, .f32⟩
  | 98 => ⟨S1x512, .f32⟩
  | 99 => ⟨S_, .f32⟩
  | 100 => ⟨S1x512, .f32⟩
  | 101 => ⟨S1x512, .f32⟩
  | 102 => ⟨S_, .f32⟩
  | 103 => ⟨S1x1024, .f32⟩
  | 104 => ⟨S_, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S8x2x1024, .f32⟩

abbrev hbmTy0_2 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S_, .f32⟩
  | 10 => ⟨S1x128, .f32⟩
  | 11 => ⟨S1x16, .f32⟩
  | 12 => ⟨S_, .f32⟩
  | 13 => ⟨S1x16, .f32⟩
  | 14 => ⟨S1x16, .f32⟩
  | 15 => ⟨S_, .f32⟩
  | 16 => ⟨S1x16, .f32⟩
  | 17 => ⟨S1x16, .f32⟩
  | 18 => ⟨S1x16, .f32⟩
  | 19 => ⟨S_, .f32⟩
  | 20 => ⟨S1x16, .f32⟩
  | 21 => ⟨S1x16, .f32⟩
  | 22 => ⟨S1x16, .f32⟩
  | 23 => ⟨S_, .f32⟩
  | 24 => ⟨S1x16, .f32⟩
  | 25 => ⟨S1x16, .f32⟩
  | 26 => ⟨S1x16, .f32⟩
  | 27 => ⟨S_, .f32⟩
  | 28 => ⟨S1x16, .f32⟩
  | 29 => ⟨S1x16, .f32⟩
  | 30 => ⟨S_, .f32⟩
  | 31 => ⟨S1x16, .f32⟩
  | 32 => ⟨S1x16, .f32⟩
  | 33 => ⟨S1x16, .f32⟩
  | 34 => ⟨S_, .f32⟩
  | 35 => ⟨S1x16, .f32⟩
  | 36 => ⟨S1x16, .f32⟩
  | 37 => ⟨S1x16, .f32⟩
  | 38 => ⟨S_, .f32⟩
  | 39 => ⟨S1x16, .f32⟩
  | 40 => ⟨S1x16, .f32⟩
  | 41 => ⟨S1x16, .f32⟩
  | 42 => ⟨S_, .f32⟩
  | 43 => ⟨S1x16, .f32⟩
  | 44 => ⟨S1x16, .f32⟩
  | 45 => ⟨S_, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S2x1024, .f32⟩
  | 82 => ⟨S_, .f32⟩
  | 83 => ⟨S2x1024, .f32⟩
  | 84 => ⟨S2x1024, .f32⟩
  | 85 => ⟨S_, .f32⟩
  | 86 => ⟨S2x1024, .f32⟩
  | 87 => ⟨S2x1024, .f32⟩
  | 88 => ⟨S2x1024, .f32⟩
  | 89 => ⟨S_, .f32⟩
  | 90 => ⟨S2x1024, .f32⟩
  | 91 => ⟨S2x1024, .f32⟩
  | 92 => ⟨S2x1024, .f32⟩
  | 93 => ⟨S_, .f32⟩
  | 94 => ⟨S2x1024, .f32⟩
  | 95 => ⟨S2x1024, .f32⟩
  | 96 => ⟨S2x1024, .f32⟩
  | 97 => ⟨S_, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S2x1024, .f32⟩
  | 104 => ⟨S_, .f32⟩
  | 105 => ⟨S2x1024, .f32⟩
  | 106 => ⟨S2x1024, .f32⟩
  | 107 => ⟨S2x1024, .f32⟩
  | 108 => ⟨S_, .f32⟩
  | 109 => ⟨S2x1024, .f32⟩
  | 110 => ⟨S2x1024, .f32⟩
  | 111 => ⟨S2x1024, .f32⟩
  | 112 => ⟨S_, .f32⟩
  | 113 => ⟨S2x1024, .f32⟩
  | 114 => ⟨S2x1024, .f32⟩
  | 115 => ⟨S_, .f32⟩
  | 116 => ⟨S1x128, .f32⟩
  | _ => ⟨S8x2x1024, .f32⟩

abbrev hbmTy (i : Nat) : BufTy := match i / 128 with
  | 0 => hbmTy0_0 i
  | 1 => hbmTy0_1 i
  | 2 => hbmTy0_2 i
  | _ => ⟨S8x2x1024, .f32⟩

abbrev bufTy : (tb : Table) → Fin (tcTables nBuf tb) → BufTy
  | .hbm, ⟨i, _⟩ => hbmTy i
  | _, _ => ⟨S8x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_cst : Ref sig .tc := ⟨.hbm, 37, rfl⟩
abbrev main_v0 : Ref sig .tc := ⟨.hbm, 38, rfl⟩
abbrev main_v1 : Ref sig .tc := ⟨.hbm, 39, rfl⟩
abbrev main_cst_0 : Ref sig .tc := ⟨.hbm, 40, rfl⟩
abbrev main_v2 : Ref sig .tc := ⟨.hbm, 41, rfl⟩
abbrev main_v3 : Ref sig .tc := ⟨.hbm, 42, rfl⟩
abbrev main_cst_1 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst_2 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst_3 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_cst_4 : Ref sig .tc := ⟨.hbm, 55, rfl⟩
abbrev main_v13 : Ref sig .tc := ⟨.hbm, 56, rfl⟩
abbrev main_v14 : Ref sig .tc := ⟨.hbm, 57, rfl⟩
abbrev main_cst_5 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_6 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_7 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_8 : Ref sig .tc := ⟨.hbm, 70, rfl⟩
abbrev main_v24 : Ref sig .tc := ⟨.hbm, 71, rfl⟩
abbrev main_v25 : Ref sig .tc := ⟨.hbm, 72, rfl⟩
abbrev main_cst_9 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_cst_10 : Ref sig .tc := ⟨.hbm, 81, rfl⟩
abbrev main_v33 : Ref sig .tc := ⟨.hbm, 82, rfl⟩
abbrev main_v34 : Ref sig .tc := ⟨.hbm, 83, rfl⟩
abbrev main_cst_11 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_12 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_13 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_cst_14 : Ref sig .tc := ⟨.hbm, 96, rfl⟩
abbrev main_v44 : Ref sig .tc := ⟨.hbm, 97, rfl⟩
abbrev main_v45 : Ref sig .tc := ⟨.hbm, 98, rfl⟩
abbrev main_cst_15 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst_16 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_cst_17 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_18 : Ref sig .tc := ⟨.hbm, 111, rfl⟩
abbrev main_v55 : Ref sig .tc := ⟨.hbm, 112, rfl⟩
abbrev main_v56 : Ref sig .tc := ⟨.hbm, 113, rfl⟩
abbrev main_cst_19 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_20 : Ref sig .tc := ⟨.hbm, 122, rfl⟩
abbrev main_v64 : Ref sig .tc := ⟨.hbm, 123, rfl⟩
abbrev main_v65 : Ref sig .tc := ⟨.hbm, 124, rfl⟩
abbrev main_cst_21 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_cst_22 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_23 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_cst_24 : Ref sig .tc := ⟨.hbm, 137, rfl⟩
abbrev main_v75 : Ref sig .tc := ⟨.hbm, 138, rfl⟩
abbrev main_v76 : Ref sig .tc := ⟨.hbm, 139, rfl⟩
abbrev main_cst_25 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_cst_26 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_cst_27 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_cst_28 : Ref sig .tc := ⟨.hbm, 152, rfl⟩
abbrev main_v86 : Ref sig .tc := ⟨.hbm, 153, rfl⟩
abbrev main_v87 : Ref sig .tc := ⟨.hbm, 154, rfl⟩
abbrev main_cst_29 : Ref sig .tc := ⟨.hbm, 155, rfl⟩
abbrev main_v88 : Ref sig .tc := ⟨.hbm, 156, rfl⟩
abbrev main_cst_30 : Ref sig .tc := ⟨.hbm, 157, rfl⟩
abbrev main_v89 : Ref sig .tc := ⟨.hbm, 158, rfl⟩
abbrev main_v90 : Ref sig .tc := ⟨.hbm, 159, rfl⟩
abbrev main_cst_31 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_cst_32 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_33 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_cst_34 : Ref sig .tc := ⟨.hbm, 172, rfl⟩
abbrev main_v100 : Ref sig .tc := ⟨.hbm, 173, rfl⟩
abbrev main_v101 : Ref sig .tc := ⟨.hbm, 174, rfl⟩
abbrev main_cst_35 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_cst_36 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_cst_37 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_cst_38 : Ref sig .tc := ⟨.hbm, 187, rfl⟩
abbrev main_v111 : Ref sig .tc := ⟨.hbm, 188, rfl⟩
abbrev main_v112 : Ref sig .tc := ⟨.hbm, 189, rfl⟩
abbrev main_cst_39 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_cst_40 : Ref sig .tc := ⟨.hbm, 197, rfl⟩
abbrev main_v119 : Ref sig .tc := ⟨.hbm, 198, rfl⟩
abbrev main_v120 : Ref sig .tc := ⟨.hbm, 199, rfl⟩
abbrev main_cst_41 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_cst_42 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_cst_43 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_cst_44 : Ref sig .tc := ⟨.hbm, 212, rfl⟩
abbrev main_v130 : Ref sig .tc := ⟨.hbm, 213, rfl⟩
abbrev main_v131 : Ref sig .tc := ⟨.hbm, 214, rfl⟩
abbrev main_cst_45 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_cst_46 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_cst_47 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_cst_48 : Ref sig .tc := ⟨.hbm, 227, rfl⟩
abbrev main_v141 : Ref sig .tc := ⟨.hbm, 228, rfl⟩
abbrev main_v142 : Ref sig .tc := ⟨.hbm, 229, rfl⟩
abbrev main_cst_49 : Ref sig .tc := ⟨.hbm, 230, rfl⟩
abbrev main_v143 : Ref sig .tc := ⟨.hbm, 231, rfl⟩
abbrev main_cst_50 : Ref sig .tc := ⟨.hbm, 232, rfl⟩
abbrev main_v144 : Ref sig .tc := ⟨.hbm, 233, rfl⟩
abbrev main_v145 : Ref sig .tc := ⟨.hbm, 234, rfl⟩
abbrev main_cst_51 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_cst_52 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_cst_53 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_cst_54 : Ref sig .tc := ⟨.hbm, 247, rfl⟩
abbrev main_v155 : Ref sig .tc := ⟨.hbm, 248, rfl⟩
abbrev main_v156 : Ref sig .tc := ⟨.hbm, 249, rfl⟩
abbrev main_cst_55 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_cst_56 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_cst_57 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_cst_58 : Ref sig .tc := ⟨.hbm, 262, rfl⟩
abbrev main_v166 : Ref sig .tc := ⟨.hbm, 263, rfl⟩
abbrev main_v167 : Ref sig .tc := ⟨.hbm, 264, rfl⟩
abbrev main_cst_59 : Ref sig .tc := ⟨.hbm, 265, rfl⟩
abbrev main_v168 : Ref sig .tc := ⟨.hbm, 266, rfl⟩
abbrev main_v169 : Ref sig .tc := ⟨.hbm, 267, rfl⟩
abbrev main_cst_60 : Ref sig .tc := ⟨.hbm, 268, rfl⟩
abbrev main_v170 : Ref sig .tc := ⟨.hbm, 269, rfl⟩
abbrev main_v171 : Ref sig .tc := ⟨.hbm, 270, rfl⟩
abbrev main_cst_61 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_cst_62 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_cst_63 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_cst_64 : Ref sig .tc := ⟨.hbm, 283, rfl⟩
abbrev main_v181 : Ref sig .tc := ⟨.hbm, 284, rfl⟩
abbrev main_v182 : Ref sig .tc := ⟨.hbm, 285, rfl⟩
abbrev main_cst_65 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_cst_66 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_cst_67 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_cst_68 : Ref sig .tc := ⟨.hbm, 298, rfl⟩
abbrev main_v192 : Ref sig .tc := ⟨.hbm, 299, rfl⟩
abbrev main_v193 : Ref sig .tc := ⟨.hbm, 300, rfl⟩
abbrev main_cst_69 : Ref sig .tc := ⟨.hbm, 301, rfl⟩
abbrev main_v194 : Ref sig .tc := ⟨.hbm, 302, rfl⟩
abbrev main_cst_70 : Ref sig .tc := ⟨.hbm, 303, rfl⟩
abbrev main_v195 : Ref sig .tc := ⟨.hbm, 304, rfl⟩
abbrev main_v196 : Ref sig .tc := ⟨.hbm, 305, rfl⟩
abbrev main_cst_71 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_cst_72 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_cst_73 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_cst_74 : Ref sig .tc := ⟨.hbm, 318, rfl⟩
abbrev main_v206 : Ref sig .tc := ⟨.hbm, 319, rfl⟩
abbrev main_v207 : Ref sig .tc := ⟨.hbm, 320, rfl⟩
abbrev main_cst_75 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_cst_76 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_cst_77 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_cst_78 : Ref sig .tc := ⟨.hbm, 333, rfl⟩
abbrev main_v217 : Ref sig .tc := ⟨.hbm, 334, rfl⟩
abbrev main_v218 : Ref sig .tc := ⟨.hbm, 335, rfl⟩
abbrev main_cst_79 : Ref sig .tc := ⟨.hbm, 336, rfl⟩
abbrev main_v219 : Ref sig .tc := ⟨.hbm, 337, rfl⟩
abbrev main_cst_80 : Ref sig .tc := ⟨.hbm, 338, rfl⟩
abbrev main_v220 : Ref sig .tc := ⟨.hbm, 339, rfl⟩
abbrev main_v221 : Ref sig .tc := ⟨.hbm, 340, rfl⟩
abbrev main_cst_81 : Ref sig .tc := ⟨.hbm, 341, rfl⟩
abbrev main_v222 : Ref sig .tc := ⟨.hbm, 342, rfl⟩
abbrev main_v223 : Ref sig .tc := ⟨.hbm, 343, rfl⟩
abbrev main_v224 : Ref sig .tc := ⟨.hbm, 344, rfl⟩
abbrev main_cst_82 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_cst_83 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_cst_84 : Ref sig .tc := ⟨.hbm, 353, rfl⟩
abbrev main_v231 : Ref sig .tc := ⟨.hbm, 354, rfl⟩
abbrev main_v232 : Ref sig .tc := ⟨.hbm, 355, rfl⟩
abbrev main_cst_85 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_cst_86 : Ref sig .tc := ⟨.hbm, 360, rfl⟩
abbrev main_v236 : Ref sig .tc := ⟨.hbm, 361, rfl⟩
abbrev main_v237 : Ref sig .tc := ⟨.hbm, 362, rfl⟩
abbrev main_v238 : Ref sig .tc := ⟨.hbm, 363, rfl⟩
abbrev main_cst_87 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_cst_88 : Ref sig .tc := ⟨.hbm, 368, rfl⟩
abbrev main_v242 : Ref sig .tc := ⟨.hbm, 369, rfl⟩
abbrev main_v243 : Ref sig .tc := ⟨.hbm, 370, rfl⟩
abbrev main_cst_89 : Ref sig .tc := ⟨.hbm, 371, rfl⟩
abbrev main_v244 : Ref sig .tc := ⟨.hbm, 372, rfl⟩

abbrev nD : Nat := 1
abbrev τ : Topo := Topo.v7x

variable {F : FTy → Type} [FloatOps F]
-- ==== Proof.Body.lean ====
/- What the two runs of the attention backward body share: its branch on the first grid point, the rows of the key and value gradients it reaches there and later, and the names of the staging buffers. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Tactic
public import Idealize.ShloMosaic.Lib.Pipeline.FrameBody
public import Idealize.ShloMosaic.Lib.WordCmp
public import Idealize.ShloMosaic.Lib.Ring

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 6, through which its contents are stated (`View.read_writes_of_cover`: the
    choice does not matter). -/
abbrev VO0_6 : View sig .tc .vmem S128x1024 .bf16 := (Memref.whole cc0_stg6_0 : Memref sig .tc .vmem S128x1024 .bf16).view
/-- One staging buffer of output window 7, through which its contents are stated (`View.read_writes_of_cover`: the
    choice does not matter). -/
abbrev VO0_7 : View sig .tc .vmem S8x2048x64 .f32 := (Memref.whole cc0_stg7_0 : Memref sig .tc .vmem S8x2048x64 .f32).view
/-- One staging buffer of output window 8, through which its contents are stated (`View.read_writes_of_cover`: the
    choice does not matter). -/
abbrev VO0_8 : View sig .tc .vmem S1x1024 .f32 := (Memref.whole cc0_stg8_0 : Memref sig .tc .vmem S1x1024 .f32).view
/-- One staging buffer of output window 9, through which its contents are stated (`View.read_writes_of_cover`: the
    choice does not matter). -/
abbrev VO0_9 : View sig .tc .vmem S1x128 .f32 := (Memref.whole cc0_stg9_0 : Memref sig .tc .vmem S1x128 .f32).view
/-- Each window's current staging memref at point `t`, spelled as the pipeline passes it (`bodyAt0`), and its wholeness. -/
abbrev ms0_0 (t : Fin cfg0.N) : Memref sig .tc .vmem S16x128x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x2048x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)

/-! ## The rows of the accumulated key and value gradients -/

/-- The branch is taken exactly at the first coordinate. -/
theorem cond0_0_iff : ∀ i : grid0.Coords, cond0_0 i ↔ (i 0).val = 0 := by decide +kernel

theorem off1_form : ∀ i : grid0.Coords, k0_off1 i = ![0, 128 * ((i 0).val - 1), 0] := by decide +kernel
theorem off3_form : ∀ i : grid0.Coords, k0_off3 i = ![4, 128 * ((i 0).val - 1), 0] := by decide +kernel
theorem off5_form : ∀ i : grid0.Coords, k0_off5 i = ![1, 128 * ((i 0).val - 1), 0] := by decide +kernel
theorem off7_form : ∀ i : grid0.Coords, k0_off7 i = ![5, 128 * ((i 0).val - 1), 0] := by decide +kernel
theorem off9_form : ∀ i : grid0.Coords, k0_off9 i = ![2, 128 * ((i 0).val - 1), 0] := by decide +kernel
theorem off11_form : ∀ i : grid0.Coords, k0_off11 i = ![6, 128 * ((i 0).val - 1), 0] := by decide +kernel
theorem off13_form : ∀ i : grid0.Coords, k0_off13 i = ![3, 128 * ((i 0).val - 1), 0] := by decide +kernel
theorem off15_form : ∀ i : grid0.Coords, k0_off15 i = ![7, 128 * ((i 0).val - 1), 0] := by decide +kernel

end Cert.KernelIdeal.Attn

end
-- ==== Proof.RunA.lean ====
/- The attention backward body run at the first grid point, where it zeroes the accumulated outputs. -/
module

public import proofs.«01_k».proof.Proof.Body

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1180000 in
/-- The body at the first grid point: the pieces its stores leave in each output, and the triple that says so, on whole staging buffers, whatever the outputs held before. -/
noncomputable def kernelRun0_A (c : Dev nD) (i : grid0.Coords) (arg1 : Memref sig .tc .vmem S16x128x64 .bf16) (harg1 : arg1.IsWhole) (arg2 : Memref sig .tc .vmem S8x128x64 .bf16) (harg2 : arg2.IsWhole) (arg3 : Memref sig .tc .vmem S8x128x64 .bf16) (harg3 : arg3.IsWhole) (arg4 : Memref sig .tc .vmem S16x128x256 .bf16) (harg4 : arg4.IsWhole) (arg5 : Memref sig .tc .vmem S128x128 .f32) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S8x2048x64 .f32) (harg8 : arg8.IsWhole) (arg9 : Memref sig .tc .vmem S1x1024 .f32) (harg9 : arg9.IsWhole) (arg10 : Memref sig .tc .vmem S1x128 .f32) (harg10 : arg10.IsWhole) (hc0 : cond0_0 i)
    (x0 : Vec F S16x128x64 .bf16) (x1 : Vec F S8x128x64 .bf16) (x2 : Vec F S8x128x64 .bf16) (x3 : Vec F S16x128x256 .bf16) (x4 : Vec F S128x128 .f32) (x5 : Vec F S128x1024 .bf16) :
    Σ' (L6 : List (View.Piece (Elt F) S128x1024 .bf16)), Σ' (L7 : List (View.Piece (Elt F) S8x2048x64 .f32)), Σ' (L8 : List (View.Piece (Elt F) S1x1024 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    have hi : (i 0).val = 0 := (cond0_0_iff i).mp hc0
    letI : ClosedOff (k0_off1 i) := ⟨![0, 0, 0], by rw [off1_form, hi]⟩
    letI : ClosedOff (k0_off2 i) := ⟨![0, 0, 0], by rw [k0_off2_eq, hi]⟩
    letI : ClosedOff (k0_off3 i) := ⟨![4, 0, 0], by rw [off3_form, hi]⟩
    letI : ClosedOff (k0_off4 i) := ⟨![4, 0, 0], by rw [k0_off4_eq, hi]⟩
    letI : ClosedOff (k0_off5 i) := ⟨![1, 0, 0], by rw [off5_form, hi]⟩
    letI : ClosedOff (k0_off6 i) := ⟨![1, 0, 0], by rw [k0_off6_eq, hi]⟩
    letI : ClosedOff (k0_off7 i) := ⟨![5, 0, 0], by rw [off7_form, hi]⟩
    letI : ClosedOff (k0_off8 i) := ⟨![5, 0, 0], by rw [k0_off8_eq, hi]⟩
    letI : ClosedOff (k0_off9 i) := ⟨![2, 0, 0], by rw [off9_form, hi]⟩
    letI : ClosedOff (k0_off10 i) := ⟨![2, 0, 0], by rw [k0_off10_eq, hi]⟩
    letI : ClosedOff (k0_off11 i) := ⟨![6, 0, 0], by rw [off11_form, hi]⟩
    letI : ClosedOff (k0_off12 i) := ⟨![6, 0, 0], by rw [k0_off12_eq, hi]⟩
    letI : ClosedOff (k0_off13 i) := ⟨![3, 0, 0], by rw [off13_form, hi]⟩
    letI : ClosedOff (k0_off14 i) := ⟨![3, 0, 0], by rw [k0_off14_eq, hi]⟩
    letI : ClosedOff (k0_off15 i) := ⟨![7, 0, 0], by rw [off15_form, hi]⟩
    letI : ClosedOff (k0_off16 i) := ⟨![7, 0, 0], by rw [k0_off16_eq, hi]⟩
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact H9

end Cert.KernelIdeal.Attn

end
-- ==== Proof.RunB.lean ====
/- The attention backward body run at a later grid point, over what the point before left. -/
module

public import proofs.«01_k».proof.Proof.RunA

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1156000 in
/-- The body at a later grid point `i 0 = n + 1`: the pieces its stores leave in each output, over what the point before left in the three accumulated ones, and the triple that says so. -/
noncomputable def kernelRun0_B (c : Dev nD) (i : grid0.Coords) (arg1 : Memref sig .tc .vmem S16x128x64 .bf16) (harg1 : arg1.IsWhole) (arg2 : Memref sig .tc .vmem S8x128x64 .bf16) (harg2 : arg2.IsWhole) (arg3 : Memref sig .tc .vmem S8x128x64 .bf16) (harg3 : arg3.IsWhole) (arg4 : Memref sig .tc .vmem S16x128x256 .bf16) (harg4 : arg4.IsWhole) (arg5 : Memref sig .tc .vmem S128x128 .f32) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S8x2048x64 .f32) (harg8 : arg8.IsWhole) (arg9 : Memref sig .tc .vmem S1x1024 .f32) (harg9 : arg9.IsWhole) (arg10 : Memref sig .tc .vmem S1x128 .f32) (harg10 : arg10.IsWhole) (hc0 : ¬cond0_0 i) (n : ℕ) (hi : (i 0).val = n + 1)
    (x0 : Vec F S16x128x64 .bf16) (x1 : Vec F S8x128x64 .bf16) (x2 : Vec F S8x128x64 .bf16) (x3 : Vec F S16x128x256 .bf16) (x4 : Vec F S128x128 .f32) (x5 : Vec F S128x1024 .bf16) (xo7 : Vec F S8x2048x64 .f32) (xo8 : Vec F S1x1024 .f32) (xo9 : Vec F S1x128 .f32) :
    Σ' (L6 : List (View.Piece (Elt F) S128x1024 .bf16)), Σ' (L7 : List (View.Piece (Elt F) S8x2048x64 .f32)), Σ' (L8 : List (View.Piece (Elt F) S1x1024 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread xo7) L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    letI : ClosedOff (k0_off1 i) := ⟨![0, 128 * n, 0], by rw [off1_form, hi, Nat.add_sub_cancel]⟩
    letI : ClosedOff (k0_off2 i) := ⟨![0, 128 * (n + 1), 0], by rw [k0_off2_eq, hi]⟩
    letI : ClosedOff (k0_off3 i) := ⟨![4, 128 * n, 0], by rw [off3_form, hi, Nat.add_sub_cancel]⟩
    letI : ClosedOff (k0_off4 i) := ⟨![4, 128 * (n + 1), 0], by rw [k0_off4_eq, hi]⟩
    letI : ClosedOff (k0_off5 i) := ⟨![1, 128 * n, 0], by rw [off5_form, hi, Nat.add_sub_cancel]⟩
    letI : ClosedOff (k0_off6 i) := ⟨![1, 128 * (n + 1), 0], by rw [k0_off6_eq, hi]⟩
    letI : ClosedOff (k0_off7 i) := ⟨![5, 128 * n, 0], by rw [off7_form, hi, Nat.add_sub_cancel]⟩
    letI : ClosedOff (k0_off8 i) := ⟨![5, 128 * (n + 1), 0], by rw [k0_off8_eq, hi]⟩
    letI : ClosedOff (k0_off9 i) := ⟨![2, 128 * n, 0], by rw [off9_form, hi, Nat.add_sub_cancel]⟩
    letI : ClosedOff (k0_off10 i) := ⟨![2, 128 * (n + 1), 0], by rw [k0_off10_eq, hi]⟩
    letI : ClosedOff (k0_off11 i) := ⟨![6, 128 * n, 0], by rw [off11_form, hi, Nat.add_sub_cancel]⟩
    letI : ClosedOff (k0_off12 i) := ⟨![6, 128 * (n + 1), 0], by rw [k0_off12_eq, hi]⟩
    letI : ClosedOff (k0_off13 i) := ⟨![3, 128 * n, 0], by rw [off13_form, hi, Nat.add_sub_cancel]⟩
    letI : ClosedOff (k0_off14 i) := ⟨![3, 128 * (n + 1), 0], by rw [k0_off14_eq, hi]⟩
    letI : ClosedOff (k0_off15 i) := ⟨![7, 128 * n, 0], by rw [off15_form, hi, Nat.add_sub_cancel]⟩
    letI : ClosedOff (k0_off16 i) := ⟨![7, 128 * (n + 1), 0], by rw [k0_off16_eq, hi]⟩
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexact H7
    isplitl [H8]; · iexists _; iexact H8
    iexists _; iexact H9

end Cert.KernelIdeal.Attn

end
-- ==== Proof.Run.lean ====
/- The attention backward call point by point: what each grid point leaves in the outputs, the proof data of its pipeline, the body obligation, and the run of the whole program. -/
module

public import proofs.«01_k».proof.Proof.RunB
public import Idealize.ShloMosaic.Lib.Pipeline.Value

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one grid coordinate of a point is its number. -/
theorem coord_val (t : Fin cfg0.N) : (grid0.coords t 0).val = t.val :=
  (by decide +kernel : ∀ t : Fin grid0.N, (grid0.coords t 0).val = t.val) t

theorem cond_zero (t : Fin cfg0.N) (h : t.val = 0) : cond0_0 (grid0.coords t) :=
  (cond0_0_iff _).mpr ((coord_val t).trans h)

theorem cond_later (t : Fin cfg0.N) (h : t.val ≠ 0) : ¬cond0_0 (grid0.coords t) :=
  fun h' => h ((coord_val t).symm.trans ((cond0_0_iff _).mp h'))

theorem coord_succ (t : Fin cfg0.N) (h : t.val ≠ 0) : (grid0.coords t 0).val = (t.val - 1) + 1 := by
  rw [coord_val]; omega

/-- What the four outputs hold, in window order. -/
abbrev Outs (F : FTy → Type) [FloatOps F] := Vec F S128x1024 .bf16 × Vec F S8x2048x64 .f32 × Vec F S1x1024 .f32 × Vec F S1x128 .f32

/-- The first point's run at the point's buffers and blocks. -/
abbrev runA (c : Dev nD) (t : Fin cfg0.N) (h : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (cond_zero t h) (iblk m c 0 t) (iblk m c 1 t) (iblk m c 2 t) (iblk m c 3 t) (iblk m c 4 t) (iblk m c 5 t)

/-- A later point's run over what the outputs held, `o`. -/
abbrev runB (c : Dev nD) (t : Fin cfg0.N) (h : t.val ≠ 0) (o : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (cond_later t h) (t.val - 1) (coord_succ t h) (iblk m c 0 t) (iblk m c 1 t) (iblk m c 2 t) (iblk m c 3 t) (iblk m c 4 t) (iblk m c 5 t) o.2.1 o.2.2.1 o.2.2.2

theorem coverA6 (c : Dev nD) (t : Fin cfg0.N) (h : t.val = 0) (y : S128x1024.Idx) :
    ∃ pc ∈ (runA m c t h).1, y ∈ pc.1.set :=
  View.cover_of_tiledL (runA m c t h).1 S128x128.size (by sl_kernel_rfl) y

theorem coverA7 (c : Dev nD) (t : Fin cfg0.N) (h : t.val = 0) (y : S8x2048x64.Idx) :
    ∃ pc ∈ (runA m c t h).2.1, y ∈ pc.1.set :=
  View.cover_of_wholeMem _ (by unfold runA kernelRun0_A; sl_whole_mem) y

theorem coverA8 (c : Dev nD) (t : Fin cfg0.N) (h : t.val = 0) (y : S1x1024.Idx) :
    ∃ pc ∈ (runA m c t h).2.2.1, y ∈ pc.1.set :=
  View.cover_of_tiledBy _ ![1, 128] (by sl_kernel_rfl) y

theorem coverA9 (c : Dev nD) (t : Fin cfg0.N) (h : t.val = 0) (y : S1x128.Idx) :
    ∃ pc ∈ (runA m c t h).2.2.2.1, y ∈ pc.1.set :=
  View.cover_of_tiledL _ S1x128.size (by sl_kernel_rfl) y

theorem coverB6 (c : Dev nD) (t : Fin cfg0.N) (h : t.val ≠ 0) (o : Outs F) (y : S128x1024.Idx) :
    ∃ pc ∈ (runB m c t h o).1, y ∈ pc.1.set :=
  View.cover_of_tiledL (runB m c t h o).1 S128x128.size (by sl_kernel_rfl) y

theorem coverB8 (c : Dev nD) (t : Fin cfg0.N) (h : t.val ≠ 0) (o : Outs F) (y : S1x1024.Idx) :
    ∃ pc ∈ (runB m c t h o).2.2.1, y ∈ pc.1.set :=
  View.cover_of_tiledBy _ ![1, 128] (by sl_kernel_rfl) y

theorem coverB9 (c : Dev nD) (t : Fin cfg0.N) (h : t.val ≠ 0) (o : Outs F) (y : S1x128.Idx) :
    ∃ pc ∈ (runB m c t h o).2.2.2.1, y ∈ pc.1.set :=
  View.cover_of_tiledL _ S1x128.size (by sl_kernel_rfl) y

/-- What the first point leaves in the outputs: its pieces read back. -/
def leftA (c : Dev nD) (t : Fin cfg0.N) (h : t.val = 0) : Outs F :=
  (VO0_6.read (Elt F) (VO0_6.writes (Elt F) VO0_6.junk (runA m c t h).1),
   VO0_7.read (Elt F) (VO0_7.writes (Elt F) VO0_7.junk (runA m c t h).2.1),
   VO0_8.read (Elt F) (VO0_8.writes (Elt F) VO0_8.junk (runA m c t h).2.2.1),
   VO0_9.read (Elt F) (VO0_9.writes (Elt F) VO0_9.junk (runA m c t h).2.2.2.1))

/-- What a later point leaves in the outputs over `o`; its stores do not cover the key and value gradients. -/
def leftB (c : Dev nD) (t : Fin cfg0.N) (h : t.val ≠ 0) (o : Outs F) : Outs F :=
  (VO0_6.read (Elt F) (VO0_6.writes (Elt F) VO0_6.junk (runB m c t h o).1),
   (ms0_7 t).view.read (Elt F) ((ms0_7 t).view.writes (Elt F) ((hs0_7 t).unread o.2.1) (runB m c t h o).2.1),
   VO0_8.read (Elt F) (VO0_8.writes (Elt F) VO0_8.junk (runB m c t h o).2.2.1),
   VO0_9.read (Elt F) (VO0_9.writes (Elt F) VO0_9.junk (runB m c t h o).2.2.2.1))

/-- What the outputs hold after point `n`, by recursion on the points. -/
def outs (c : Dev nD) : (n : ℕ) → n < cfg0.N → Outs F
  | 0, hn => leftA m c ⟨0, hn⟩ rfl
  | n + 1, hn => leftB m c ⟨n + 1, hn⟩ (Nat.succ_ne_zero n) (outs c n (Nat.lt_of_succ_lt hn))

/-- What the outputs hold before a later point. -/
abbrev outsBefore (c : Dev nD) (t : Fin cfg0.N) : Outs F := outs m c (t.val - 1) (Nat.lt_of_le_of_lt (Nat.sub_le _ _) t.isLt)

theorem outs_A (c : Dev nD) (t : Fin cfg0.N) (h : t.val = 0) : outs m c t.val t.isLt = leftA m c t h := by
  obtain ⟨n, hn⟩ := t
  cases n with
  | zero => rfl
  | succ n => exact absurd h (Nat.succ_ne_zero n)

theorem outs_B (c : Dev nD) (t : Fin cfg0.N) (h : t.val ≠ 0) : outs m c t.val t.isLt = leftB m c t h (outsBefore m c t) := by
  obtain ⟨n, hn⟩ := t
  cases n with
  | zero => exact absurd rfl h
  | succ n => rfl

/-- The proof data of the pipeline: the arrays as the region finds them, the inputs' blocks left in place, the outputs at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).1
    | ⟨7, _⟩ => (outs m c t.val t.isLt).2.1
    | ⟨8, _⟩ => (outs m c t.val t.isLt).2.2.1
    | ⟨9, _⟩ => (outs m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outs m c t.val t.isLt).1 := by dsimp only [dats]
theorem after7 (c : Dev nD) (t : Fin cfg0.N) : (dats m 0 c).after 7 t = (outs m c t.val t.isLt).2.1 := by dsimp only [dats]
theorem after8 (c : Dev nD) (t : Fin cfg0.N) : (dats m 0 c).after 8 t = (outs m c t.val t.isLt).2.2.1 := by dsimp only [dats]
theorem after9 (c : Dev nD) (t : Fin cfg0.N) : (dats m 0 c).after 9 t = (outs m c t.val t.isLt).2.2.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At a later point output 7's buffer holds what the point before left: it is written back only at the last point. -/
theorem before7 (c : Dev nD) (t : Fin cfg0.N) (h : t.val ≠ 0) (d) : (dats m 0 c).before 7 t d = (outsBefore m c t).2.1 := by
  have hN : t.val < 16 := lt_of_lt_of_eq t.isLt (show cfg0.N = 16 from N_0)
  rw [Dat.before_out_kept _ 7 rfl t h (Bool.eq_false_iff.mpr fun h' => by have := (flush0_7 _).mp h'; dsimp only at this; omega)
    (fun _ => rfl) (fun _ _ => rfl)]
  dsimp only [dats]

/-- At a later point output 8's buffer holds what the point before left: it is written back only at the last point. -/
theorem before8 (c : Dev nD) (t : Fin cfg0.N) (h : t.val ≠ 0) (d) : (dats m 0 c).before 8 t d = (outsBefore m c t).2.2.1 := by
  have hN : t.val < 16 := lt_of_lt_of_eq t.isLt (show cfg0.N = 16 from N_0)
  rw [Dat.before_out_kept _ 8 rfl t h (Bool.eq_false_iff.mpr fun h' => by have := (flush0_8 _).mp h'; dsimp only at this; omega)
    (fun _ => rfl) (fun _ _ => rfl)]
  dsimp only [dats]

/-- At a later point output 9's buffer holds what the point before left: it is written back only at the last point. -/
theorem before9 (c : Dev nD) (t : Fin cfg0.N) (h : t.val ≠ 0) (d) : (dats m 0 c).before 9 t d = (outsBefore m c t).2.2.2 := by
  have hN : t.val < 16 := lt_of_lt_of_eq t.isLt (show cfg0.N = 16 from N_0)
  rw [Dat.before_out_kept _ 9 rfl t h (Bool.eq_false_iff.mpr fun h' => by have := (flush0_9 _).mp h'; dsimp only at this; omega)
    (fun _ => rfl) (fun _ _ => rfl)]
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at any point: the inputs hold their blocks, the accumulated outputs what the point before left, so the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  by_cases h : t.val = 0
  · rw [outs_A m c t h]
    unfold leftA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverA6 m c t h)
    isplitl [H7]
    · unfold owns; iexists _; isplitr
      swap; · iexact H7
      ipureintro; exact View.read_writes_of_cover _ _ _ _ _ (coverA7 m c t h)
    isplitl [H8]
    · unfold owns; iexists _; isplitr
      swap; · iexact H8
      ipureintro; exact View.read_writes_of_cover _ _ _ _ _ (coverA8 m c t h)
    unfold owns; iexists _; isplitr
    swap; · iexact H9
    ipureintro; exact View.read_writes_of_cover _ _ _ _ _ (coverA9 m c t h)
  · rw [outs_B m c t h]
    simp only [before7 m c t h, before8 m c t h, before9 m c t h]
    unfold leftB; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB m c t h (outsBefore m c t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    iintro ⟨H0, H1, H2, H3, H4, H5, ⟨%e6, H6⟩, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverB6 m c t h (outsBefore m c t))
    isplitl [H7]
    · unfold owns; iexists _; isplitr
      swap; · iexact H7
      ipureintro; exact rfl
    isplitl [H8]
    · unfold owns; iexists _; isplitr
      swap; · iexact H8
      ipureintro; exact View.read_writes_of_cover _ _ _ _ _ (coverB8 m c t h (outsBefore m c t))
    unfold owns; iexists _; isplitr
    swap; · iexact H9
    ipureintro; exact View.read_writes_of_cover _ _ _ _ _ (coverB9 m c t h (outsBefore m c t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what the proof data computes, every other buffer as the region found it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The argument arrays after a run are as launched. -/
abbrev Unchanged (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

theorem unchanged_of (r : PUnit × MemSt nD τ sig (Elt F)) (h : Pipeline.FramePost cfgs (dats m) 0 (V m) r) (c : Dev nD) : Unchanged m r c :=
  ⟨((h c).1 0).trans (((dats m 0 c).arrAt_in 0 rfl _).trans ((A_eq m c 0).trans (V_main_arg0 m c))),
   ((h c).1 2).trans (((dats m 0 c).arrAt_in 2 rfl _).trans ((A_eq m c 2).trans (V_main_arg1 m c))),
   ((h c).2 main_arg2 (Pipeline.mem_restRefs_of main_arg2 (by decide) (by decide))).trans (V_main_arg2 m c),
   ((h c).1 5).trans (((dats m 0 c).arrAt_in 5 rfl _).trans ((A_eq m c 5).trans (V_main_arg3 m c)))⟩

/-- The frame: the run ends with the arguments unchanged and every counter at zero. -/
theorem frame : θ_run defs (onTc (τ := τ) (main (F := F))) ⟨m, fun _ => 0, ρ⟩ (fun r => (∀ c : Dev nD, Unchanged m r c) ∧ r.2.sem = fun _ => 0) :=
  (θ_run defs _ _).mono (fun r h => ⟨unchanged_of m r h.1, h.2⟩) (run_main_quiescent m ρ)

end Cert.KernelIdeal.Attn

end
-- ==== Proof.AttnFrames.lean ====
/- The attention's backward program: the frames of the text as printed, of the one read at the extended reals and of the
   reference. -/
module

public import proofs.«01_k».proof.Defs
public import proofs.«01_k».proof.Proof.Gen.Kernel
public import proofs.«01_k».proof.Proof.Run
public import proofs.«01_k».proof.Proof.Gen.ReferenceIdeal.Run
public import Idealize.ShloMosaic.Lib.Claim

@[expose] public section

set_option maxRecDepth 16384

noncomputable section

namespace Cert.Proof.Attn

open Idealize.ShloMosaic Idealize.ShloMosaic.TcCoe Idealize.SL.Sem

/-- The frame's statement of the text read at the extended reals, at the device's own values. -/
def Framed : Prop := ∀ (m : (ℓ : Loc Cert.KernelIdeal.nD Cert.KernelIdeal.τ Cert.KernelIdeal.sig) → Buf (Elt Bits) ℓ) (ρ : Dev Cert.KernelIdeal.nD → PrngReg), True →
  θ_run (Cert.KernelIdeal.defs (F := Bits)) (onTc (τ := Cert.KernelIdeal.τ) (Cert.KernelIdeal.main (F := Bits))) ⟨m, fun _ => 0, ρ⟩
    (fun r => (∀ c, Cert.KernelIdeal.Attn.Unchanged m r c) ∧ r.2.sem = fun _ => 0)

/-- It is the program as printed: the two texts are one. -/
theorem framed_eq : Cert.quiescent_Kernel = Framed := by
  chain_rfl

theorem frame_kernel : Cert.quiescent_Kernel :=
  framed_eq.mpr fun m ρ _ => Cert.KernelIdeal.Attn.frame (F := Bits) m ρ

theorem frame_ideal : Cert.quiescent_KernelIdeal := fun m ρ _ => Cert.KernelIdeal.Attn.frame (F := Ideal) m ρ

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

end Cert.Proof.Attn

end
-- ==== Proof.Reals.lean ====
/- Real numbers among the extended reals: sums and products of them, the comparison a precondition makes, and the logistic
   function's values. -/
module

public import Idealize.ShloMosaic.PureOps
public import Idealize.ShloMosaic.Lib.IdealHost

@[expose] public section

noncomputable section

namespace Cert.Proof

open Idealize.ShloMosaic

/-- Neither infinity. -/
def IsReal (x : EReal) : Prop := ∃ r : ℝ, x = (r : EReal)

theorem isReal_zero : IsReal 0 := ⟨0, by simp⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type} (s : Finset ι) (f : ι → EReal) (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))

/-- The pattern of all ones in the exponent is plus infinity. -/
theorem ofBits_inf_f32 : Ideal.ofBits .f32 0x7F800000#32 = ⊤ := by
  simp [Ideal.ofBits, Ideal.ieee]

/-- `|x| < ∞` says that `x` is real. -/
theorem isReal_of_cmp {x : EReal} (h : Ideal.cmp .olt (max x (-x)) (Ideal.ofBits .f32 0x7F800000#32) = 1#1) : IsReal x := by
  rw [ofBits_inf_f32] at h
  have hlt : max x (-x) < ⊤ := by
    by_contra hc
    rw [Ideal.cmp, decide_eq_false hc] at h
    exact absurd h (by decide)
  induction x using EReal.rec with
  | bot => simp at hlt
  | top => simp at hlt
  | coe r => exact ⟨r, rfl⟩

theorem exp_bot : Ideal.exp ⊥ = 0 := rfl

theorem exp_top : Ideal.exp ⊤ = ⊤ := rfl

theorem logistic_top : Ideal.logistic ⊤ = 1 := by
  simp [Ideal.logistic, exp_bot, Ideal.div]

theorem logistic_bot : Ideal.logistic ⊥ = 0 := by
  have h : (1 : EReal) + ⊤ = ⊤ := by exact_mod_cast EReal.coe_add_top 1
  simp [Ideal.logistic, exp_top, Ideal.div, h]

theorem logistic_coe (r : ℝ) : Ideal.logistic (r : EReal) = ((1 / (1 + Real.exp (-r)) : ℝ) : EReal) := by
  have h : (1 + Real.exp (-r) : ℝ) ≠ 0 := by positivity
  have e : (1 : EReal) + Ideal.exp (-(r : EReal)) = ((1 + Real.exp (-r) : ℝ) : EReal) := by
    rw [← EReal.coe_neg]
    show (1 : EReal) + ((Real.exp (-r) : ℝ) : EReal) = _
    rw [EReal.coe_add, EReal.coe_one]
  rw [Ideal.logistic, e, Ideal.div, if_neg (by exact_mod_cast h), one_mul, one_div, EReal.coe_inv]

end Cert.Proof

end
-- ==== Proof.FfnHidden.lean ====
/- The gradient of the feed-forward's gate and up projections (`_ffn_bwd_hidden`): the array the kernel leaves and the
   reference's result are one function `grad` of the arguments, where the output's gradient, the up projection and the
   down projection's weights are real numbers. -/
module

public import proofs.«01_k».proof.Defs
public import proofs.«01_k».proof.Proof.Gen.FfnHidden
public import proofs.«01_k».proof.Proof.Gen.FfnHiddenIdeal.Value
public import proofs.«01_k».proof.Proof.Gen.FfnHiddenRefIdeal.Read
public import proofs.«01_k».proof.Proof.Reals
public import Idealize.ShloMosaic.Lib.Pointwise
public import Idealize.ShloMosaic.Lib.Claim

@[expose] public section

set_option maxRecDepth 16384

noncomputable section

namespace Cert.Proof.FfnHidden

/-- The side conditions of the precondition's operations. -/
instance pre_facts : Cert.Pre_hidden_finite.Facts where
  bitsLt_bf16_f32 := by decide
  bcast_S_S2048x1024 := by decide
  slices_S2x4x2048x704_S1x4x2048x704_1_0_0_0 := by decide
  shapeCasts_S1x4x2048x704_S4x2048x704 := by decide
  bcast_S_S4x2048x704 := by decide
  bcast_S_S4x704x1024 := by decide

open Cert.FfnHiddenIdeal Cert.FfnHiddenIdeal.Gen Cert.FfnHiddenIdeal.Value
open Idealize.ShloMosaic Idealize.ShloMosaic.TcCoe Idealize.SL.Sem

/-- The hidden features' gradient from the output's. -/
def hid (dz : Vec Ideal S2048x1024 .bf16) (w : Vec Ideal S4x704x1024 .bf16) (j : Fin 4) (s : Fin 2048) (k : Fin 704) : EReal :=
  ∑ d : Fin 1024, dz (ix2 s d) * w (ix3 j k d)

/-- The gate's gradient from the hidden features' gradient `d`, the up projection `u` and the gate `x`. -/
def gate (d u x : EReal) : EReal := d * u * (Ideal.logistic x * (1 + x * (1 - Ideal.logistic x)))

/-- The up projection's gradient. -/
def up (d x : EReal) : EReal := d * (x * Ideal.logistic x)

/-- The gate's gradient and the up projection's. -/
def grad (dz : Vec Ideal S2048x1024 .bf16) (gu : Vec Ideal S2x4x2048x704 .bf16) (w : Vec Ideal S4x704x1024 .bf16) : Vec Ideal S2x4x2048x704 .bf16 :=
  fun i => if (i 0).val = 0 then gate (hid dz w (i 1) (i 2) (i 3)) (gu (ix4 1 (i 1) (i 2) (i 3))) (gu (ix4 0 (i 1) (i 2) (i 3)))
    else up (hid dz w (i 1) (i 2) (i 3)) (gu (ix4 0 (i 1) (i 2) (i 3)))

theorem pay2_apply (v : Vec Ideal S1x1x512x704 .bf16) (r : Fin 512) (k : Fin 704) : k0_pay2 v (ix2 r k) = v (ix4 (0 : Fin 1) (0 : Fin 1) r k) := by
  pointwise [k0_pay2]

theorem pay3_apply (v : Vec Ideal S1x1x512x704 .bf16) (r : Fin 512) (k : Fin 704) : k0_pay3 v (ix2 r k) = Ideal.logistic (v (ix4 (0 : Fin 1) (0 : Fin 1) r k)) := by
  pointwise [k0_pay3, pay2_apply]

theorem pay1_apply (v0 : Vec Ideal S512x1024 .bf16) (v1 : Vec Ideal S1x704x1024 .bf16) (r : Fin 512) (k : Fin 704) :
    k0_pay1 v0 v1 (ix2 r k) = ∑ d : Fin 1024, v0 (ix2 r d) * v1 (ix3 (0 : Fin 1) k d) := by
  pointwise [k0_pay1]

theorem pay4_apply (v0 : Vec Ideal S512x1024 .bf16) (v1 : Vec Ideal S1x704x1024 .bf16) (v4 v7 : Vec Ideal S1x1x512x704 .bf16) (r : Fin 512) (k : Fin 704) :
    k0_pay4 v0 v1 v4 v7 (ix4 (0 : Fin 1) (0 : Fin 1) r k)
      = gate (∑ d : Fin 1024, v0 (ix2 r d) * v1 (ix3 (0 : Fin 1) k d)) (v7 (ix4 (0 : Fin 1) (0 : Fin 1) r k)) (v4 (ix4 (0 : Fin 1) (0 : Fin 1) r k)) := by
  pointwise [k0_pay4, pay3_apply, pay2_apply, pay1_apply, gate]

theorem gate_not_mem (r : Fin 512) (k : Fin 704) : (ix4 (0 : Fin 2) (0 : Fin 1) r k : S2x1x512x704.Idx) ∉ r0_3.set := by
  intro hm
  obtain ⟨y, hy⟩ := r0_3.exists_idx_of_mem hm
  have h := congrArg Fin.val (congrFun hy (0 : Fin 4))
  exact Nat.succ_ne_zero _ ((Nat.add_comm _ 1).trans h)

theorem gate_emb (r : Fin 512) (k : Fin 704) : r0_2.emb (ix4 (0 : Fin 1) (0 : Fin 1) r k) = (ix4 (0 : Fin 2) (0 : Fin 1) r k : S2x1x512x704.Idx) := by
  funext a; apply Fin.ext
  match a with
  | ⟨0, _⟩ => rfl
  | ⟨1, _⟩ => rfl
  | ⟨2, _⟩ => show 0 + 1 * r.val = r.val; omega
  | ⟨3, _⟩ => show 0 + 1 * k.val = k.val; omega

theorem up_emb (r : Fin 512) (k : Fin 704) : r0_3.emb (ix4 (0 : Fin 1) (0 : Fin 1) r k) = (ix4 (1 : Fin 2) (0 : Fin 1) r k : S2x1x512x704.Idx) := by
  funext a; apply Fin.ext
  match a with
  | ⟨0, _⟩ => rfl
  | ⟨1, _⟩ => rfl
  | ⟨2, _⟩ => show 0 + 1 * r.val = r.val; omega
  | ⟨3, _⟩ => show 0 + 1 * k.val = k.val; omega

theorem block_gate (x0 : Vec Ideal S512x1024 .bf16) (x1 : Vec Ideal S2x1x512x704 .bf16) (x2 : Vec Ideal S1x704x1024 .bf16) (r : Fin 512) (k : Fin 704) :
    out0_3 x0 x1 x2 (ix4 (0 : Fin 2) (0 : Fin 1) r k)
      = gate (∑ d : Fin 1024, x0 (ix2 r d) * x2 (ix3 (0 : Fin 1) k d)) (x1 (ix4 (1 : Fin 2) (0 : Fin 1) r k)) (x1 (ix4 (0 : Fin 2) (0 : Fin 1) r k)) := by
  have h0 : View.ld x0 r0_0 = x0 := View.ld_unit_zero (funext fun a => by fin_cases a <;> rfl) _ _
  have h2 : View.ld x2 r0_1 = x2 := View.ld_unit_zero (funext fun a => by fin_cases a <;> rfl) _ _
  have e := pay4_apply (View.ld x0 r0_0) (View.ld x2 r0_1) (View.ld x1 r0_2) (View.ld x1 r0_3) r k
  rw [show View.ld x1 r0_2 (ix4 (0 : Fin 1) (0 : Fin 1) r k) = x1 (ix4 (0 : Fin 2) (0 : Fin 1) r k) from congrArg x1 (gate_emb r k),
    show View.ld x1 r0_3 (ix4 (0 : Fin 1) (0 : Fin 1) r k) = x1 (ix4 (1 : Fin 2) (0 : Fin 1) r k) from congrArg x1 (up_emb r k), h0, h2] at e
  rw [← e]
  unfold out0_3
  rw [h0, h2]
  refine (View.canon_cons_of_not_mem (⟨r0_3, k0_pay5 x0 x2 (View.ld x1 r0_2)⟩ : View.Piece (Elt Ideal) S2x1x512x704 .bf16) _ (gate_not_mem r k)).trans ?_
  rw [← gate_emb, View.canon_cons_emb]

theorem block_up (x0 : Vec Ideal S512x1024 .bf16) (x1 : Vec Ideal S2x1x512x704 .bf16) (x2 : Vec Ideal S1x704x1024 .bf16) (r : Fin 512) (k : Fin 704) :
    out0_3 x0 x1 x2 (ix4 (1 : Fin 2) (0 : Fin 1) r k) = up (∑ d : Fin 1024, x0 (ix2 r d) * x2 (ix3 (0 : Fin 1) k d)) (x1 (ix4 (0 : Fin 2) (0 : Fin 1) r k)) := by
  unfold out0_3
  rw [← up_emb, View.canon_cons_emb]
  pointwise [up, k0_pay5, k0_pay3, k0_pay2, k0_pay1]

variable (m : (ℓ : Loc nD τ sig) → Buf (Elt Ideal) ℓ) (ρ : Dev nD → PrngReg)

/-- The windows' block indices: a point is a block of features and a block of rows, the rows innermost. -/
theorem points : ∀ t : Fin cfg0.N,
    (win0_0.index t (0 : Fin 2) = t.val % 4 ∧ win0_0.index t (1 : Fin 2) = 0)
    ∧ (win0_1.index t (0 : Fin 4) = 0 ∧ win0_1.index t (1 : Fin 4) = t.val / 4 ∧ win0_1.index t (2 : Fin 4) = t.val % 4 ∧ win0_1.index t (3 : Fin 4) = 0)
    ∧ (win0_2.index t (0 : Fin 3) = t.val / 4 ∧ win0_2.index t (1 : Fin 3) = 0 ∧ win0_2.index t (2 : Fin 3) = 0)
    ∧ (win0_3.index t (0 : Fin 4) = 0 ∧ win0_3.index t (1 : Fin 4) = t.val / 4 ∧ win0_3.index t (2 : Fin 4) = t.val % 4 ∧ win0_3.index t (3 : Fin 4) = 0) :=
  (by decide +kernel : ∀ t : Fin grid0.N, _)

/-- Row `r` of point `t`'s block of rows. -/
def row (t : Fin cfg0.N) (r : Fin 512) : Fin 2048 := ⟨t.val % 4 * 512 + r.val, by have h := r.isLt; omega⟩

/-- Point `t`'s block of features. -/
def col (t : Fin cfg0.N) : Fin 4 := ⟨t.val / 4, by have h : t.val < 16 := t.isLt; omega⟩

theorem emb0 (t : Fin cfg0.N) (r : Fin 512) (k : Fin 1024) :
    ((cfg0.win 0).blk t).view.emb (ix2 r k) = ix2 (row t r) k := by
  obtain ⟨⟨h0, h1⟩, -, -, -⟩ := points t
  funext a; apply Fin.ext
  match a with
  | ⟨0, _⟩ => show win0_0.index t (0 : Fin 2) * 512 + 1 * r.val = t.val % 4 * 512 + r.val; omega
  | ⟨1, _⟩ => show win0_0.index t (1 : Fin 2) * 1024 + 1 * k.val = k.val; omega

theorem emb1 (t : Fin cfg0.N) (g : Fin 2) (r : Fin 512) (k : Fin 704) :
    ((cfg0.win 1).blk t).view.emb (ix4 g (0 : Fin 1) r k) = ix4 g (col t) (row t r) k := by
  obtain ⟨-, ⟨h0, h1, h2, h3⟩, -, -⟩ := points t
  funext a; apply Fin.ext
  match a with
  | ⟨0, _⟩ => show win0_1.index t (0 : Fin 4) * 2 + 1 * g.val = g.val; omega
  | ⟨1, _⟩ => show win0_1.index t (1 : Fin 4) * 1 + 1 * 0 = t.val / 4; omega
  | ⟨2, _⟩ => show win0_1.index t (2 : Fin 4) * 512 + 1 * r.val = t.val % 4 * 512 + r.val; omega
  | ⟨3, _⟩ => show win0_1.index t (3 : Fin 4) * 704 + 1 * k.val = k.val; omega

theorem emb2 (t : Fin cfg0.N) (r : Fin 704) (k : Fin 1024) :
    ((cfg0.win 2).blk t).view.emb (ix3 (0 : Fin 1) r k) = ix3 (col t) r k := by
  obtain ⟨-, -, ⟨h0, h1, h2⟩, -⟩ := points t
  funext a; apply Fin.ext
  match a with
  | ⟨0, _⟩ => show win0_2.index t (0 : Fin 3) * 1 + 1 * 0 = t.val / 4; omega
  | ⟨1, _⟩ => show win0_2.index t (1 : Fin 3) * 704 + 1 * r.val = r.val; omega
  | ⟨2, _⟩ => show win0_2.index t (2 : Fin 3) * 1024 + 1 * k.val = k.val; omega

theorem emb3 (t : Fin cfg0.N) (g : Fin 2) (r : Fin 512) (k : Fin 704) :
    ((cfg0.win 3).blk t).view.emb (ix4 g (0 : Fin 1) r k) = ix4 g (col t) (row t r) k := by
  obtain ⟨-, -, -, ⟨h0, h1, h2, h3⟩⟩ := points t
  funext a; apply Fin.ext
  match a with
  | ⟨0, _⟩ => show win0_3.index t (0 : Fin 4) * 2 + 1 * g.val = g.val; omega
  | ⟨1, _⟩ => show win0_3.index t (1 : Fin 4) * 1 + 1 * 0 = t.val / 4; omega
  | ⟨2, _⟩ => show win0_3.index t (2 : Fin 4) * 512 + 1 * r.val = t.val % 4 * 512 + r.val; omega
  | ⟨3, _⟩ => show win0_3.index t (3 : Fin 4) * 704 + 1 * k.val = k.val; omega

/-- What point `t` writes back is its block of `grad` of the arguments. -/
theorem flushed_eq (c : Dev nD) (t : Fin cfg0.N) :
    (dats m 0 c).flushed 3 t
      = ((cfg0.win 3).blk t).view.read (Elt Ideal) (grad (V m c main_arg0) (V m c main_arg1) (V m c main_arg2)) := by
  rw [flushed3]
  funext j
  obtain ⟨g, z, r, k, rfl⟩ : ∃ (g : Fin 2) (z : Fin 1) (r : Fin 512) (k : Fin 704), j = ix4 g z r k := ⟨j 0, j 1, j 2, j 3, eq_ix4 j⟩
  obtain rfl : z = 0 := Subsingleton.elim _ _
  show out0_3 (iblk m c 0 t) (iblk m c 1 t) (iblk m c 2 t) (ix4 g (0 : Fin 1) r k) = grad (V m c main_arg0) (V m c main_arg1) (V m c main_arg2) (((cfg0.win 3).blk t).view.emb (ix4 g (0 : Fin 1) r k))
  have h0 : ∀ (r : Fin 512) (k : Fin 1024), (iblk m c 0 t : Vec Ideal S512x1024 .bf16) (ix2 r k) = (V m c main_arg0 : Vec Ideal S2048x1024 .bf16) (ix2 (row t r) k) :=
    fun r k => congrArg (V m c main_arg0) (emb0 t r k)
  have h1 : ∀ (g : Fin 2) (r : Fin 512) (k : Fin 704), (iblk m c 1 t : Vec Ideal S2x1x512x704 .bf16) (ix4 g (0 : Fin 1) r k) = (V m c main_arg1 : Vec Ideal S2x4x2048x704 .bf16) (ix4 g (col t) (row t r) k) :=
    fun g r k => congrArg (V m c main_arg1) (emb1 t g r k)
  have h2 : ∀ (r : Fin 704) (k : Fin 1024), (iblk m c 2 t : Vec Ideal S1x704x1024 .bf16) (ix3 (0 : Fin 1) r k) = (V m c main_arg2 : Vec Ideal S4x704x1024 .bf16) (ix3 (col t) r k) :=
    fun r k => congrArg (V m c main_arg2) (emb2 t r k)
  refine Eq.trans ?_ (congrArg (grad (V m c main_arg0) (V m c main_arg1) (V m c main_arg2)) (emb3 t g r k)).symm
  match g with
  | ⟨0, _⟩ =>
    refine (block_gate _ _ _ r k).trans ?_
    simp only [h0, h1, h2]
    rfl
  | ⟨1, _⟩ =>
    refine (block_up _ _ _ r k).trans ?_
    simp only [h0, h1, h2]
    rfl

theorem covered (i : S2x4x2048x704.Idx) : ∃ t : Fin cfg0.N, (cfg0.win 3).flush t = true ∧ i ∈ ((cfg0.win 3).blk t).view.set := by
  obtain ⟨g, j, a, b, rfl⟩ : ∃ (g : Fin 2) (j : Fin 4) (a : Fin 2048) (b : Fin 704), i = ix4 g j a b := ⟨i 0, i 1, i 2, i 3, eq_ix4 i⟩
  have ha := a.isLt
  have hj := j.isLt
  let t : Fin cfg0.N := ⟨j.val * 4 + a.val / 512, show j.val * 4 + a.val / 512 < 16 by omega⟩
  refine ⟨t, (by decide +kernel : ∀ t : Fin grid0.N, win0_3.flush t = true) t, ?_⟩
  have h := ((cfg0.win 3).blk t).view.emb_mem_set (ix4 g (0 : Fin 1) (⟨a.val % 512, by omega⟩ : Fin 512) b)
  rw [emb3] at h
  have e : row t ⟨a.val % 512, by omega⟩ = a := Fin.ext (show (j.val * 4 + a.val / 512) % 4 * 512 + a.val % 512 = a.val by omega)
  have e' : col t = j := Fin.ext (show (j.val * 4 + a.val / 512) / 4 = j.val by omega)
  rwa [e, e'] at h

/-- The kernel's run: its result array is `grad` of the arguments. -/
theorem run : θ_run defs (onTc (τ := τ) (main (F := Ideal))) ⟨m, fun _ => 0, ρ⟩ fun r => ∀ c : Dev nD,
      r.2.mem ((c : Thread nD τ).loc main_v0)
        = grad (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3
    (grad (V m c main_arg0) (V m c main_arg1) (V m c main_arg2)) (fun t _ => flushed_eq m c t) covered), (h c).2⟩) (run_blocks m ρ)

/-- The derivative of `x · logistic x` as the reference spells it, for real `d` and `u`. -/
theorem gate_eq {d u : EReal} (hd : IsReal d) (hu : IsReal u) (x : EReal) :
    d * u * Ideal.logistic x + x * (d * u) * (Ideal.logistic x * (1 - Ideal.logistic x)) = gate d u x := by
  unfold gate
  obtain ⟨y, hy⟩ := hd.mul hu
  rw [hy]
  induction x using EReal.rec with
  | bot => simp [logistic_bot]
  | top =>
    rw [logistic_top, show (1 : EReal) - 1 = 0 by rw [← EReal.coe_one, ← EReal.coe_sub]; simp]
    simp
  | coe r =>
    rw [logistic_coe]
    norm_cast
    ring

/-- The reference's result is the same function. -/
theorem reference_eq (dz : Vec Ideal S2048x1024 .bf16) (gu : Vec Ideal S2x4x2048x704 .bf16) (w : Vec Ideal S4x704x1024 .bf16)
    (hdz : ∀ i, IsReal (dz i)) (hup : ∀ j s k, IsReal (gu (ix4 1 j s k))) (hw : ∀ i, IsReal (w i)) :
    Cert.FfnHiddenRefIdeal.Read.val_main_v27 (F := Ideal) dz gu w = grad dz gu w := by
  funext i
  obtain ⟨g, j, a, b, rfl⟩ : ∃ (g : Fin 2) (j : Fin 4) (a : Fin 2048) (b : Fin 704), i = ix4 g j a b := ⟨i 0, i 1, i 2, i 3, eq_ix4 i⟩
  have hd : IsReal (hid dz w j a b) := isReal_sum _ _ fun d _ => (hdz _).mul (hw _)
  match g with
  | ⟨0, _⟩ =>
    refine Eq.trans ?_ (gate_eq hd (hup j a b) (gu (ix4 0 j a b)))
    pointwise [hid, Cert.FfnHiddenRefIdeal.Read.val_main_v27, Cert.FfnHiddenRefIdeal.Read.val_main_v26, Cert.FfnHiddenRefIdeal.Read.val_main_v25, Cert.FfnHiddenRefIdeal.Read.val_main_v24, Cert.FfnHiddenRefIdeal.Read.val_main_v23, Cert.FfnHiddenRefIdeal.Read.val_main_v22, Cert.FfnHiddenRefIdeal.Read.val_main_v21, Cert.FfnHiddenRefIdeal.Read.val_main_v20, Cert.FfnHiddenRefIdeal.Read.val_main_v19, Cert.FfnHiddenRefIdeal.Read.val_main_v18, Cert.FfnHiddenRefIdeal.Read.val_main_v17, Cert.FfnHiddenRefIdeal.Read.val_main_v16, Cert.FfnHiddenRefIdeal.Read.val_main_v15, Cert.FfnHiddenRefIdeal.Read.val_main_call1_v2, Cert.FfnHiddenRefIdeal.Read.val_main_call1_v1, Cert.FfnHiddenRefIdeal.Read.val_main_call1_v0, Cert.FfnHiddenRefIdeal.Read.val_main_v12_0, Cert.FfnHiddenRefIdeal.Read.val_main_v12_1, Cert.FfnHiddenRefIdeal.Read.val_main_v12_2, Cert.FfnHiddenRefIdeal.Read.val_main_call0_cst, Cert.FfnHiddenRefIdeal.Read.val_main_call0_cst_0, Cert.FfnHiddenRefIdeal.Read.val_main_call0_cst_1, Cert.FfnHiddenRefIdeal.Read.val_main_call0_v7, Cert.FfnHiddenRefIdeal.Read.val_main_call0_v6, Cert.FfnHiddenRefIdeal.Read.val_main_call0_v4, Cert.FfnHiddenRefIdeal.Read.val_main_call0_v3, Cert.FfnHiddenRefIdeal.Read.val_main_call0_v2, Cert.FfnHiddenRefIdeal.Read.val_main_call0_v1, Cert.FfnHiddenRefIdeal.Read.val_main_call0_v0, Cert.FfnHiddenRefIdeal.Read.val_main_v11, Cert.FfnHiddenRefIdeal.Read.val_main_v10, Cert.FfnHiddenRefIdeal.Read.val_main_v9, Cert.FfnHiddenRefIdeal.Read.val_main_v8, Cert.FfnHiddenRefIdeal.Read.val_main_v7, Cert.FfnHiddenRefIdeal.Read.val_main_v6, Cert.FfnHiddenRefIdeal.Read.val_main_v5, Cert.FfnHiddenRefIdeal.Read.val_main_v4, Cert.FfnHiddenRefIdeal.Read.val_main_v3, Cert.FfnHiddenRefIdeal.Read.val_main_v2, Cert.FfnHiddenRefIdeal.Read.val_main_v1, Cert.FfnHiddenRefIdeal.Read.val_main_v0]
    rfl
  | ⟨1, _⟩ =>
    show _ = up (hid dz w j a b) (gu (ix4 0 j a b))
    pointwise [hid, up, Cert.FfnHiddenRefIdeal.Read.val_main_v27, Cert.FfnHiddenRefIdeal.Read.val_main_v26, Cert.FfnHiddenRefIdeal.Read.val_main_v25, Cert.FfnHiddenRefIdeal.Read.val_main_v24, Cert.FfnHiddenRefIdeal.Read.val_main_v23, Cert.FfnHiddenRefIdeal.Read.val_main_v22, Cert.FfnHiddenRefIdeal.Read.val_main_v21, Cert.FfnHiddenRefIdeal.Read.val_main_v20, Cert.FfnHiddenRefIdeal.Read.val_main_v19, Cert.FfnHiddenRefIdeal.Read.val_main_v18, Cert.FfnHiddenRefIdeal.Read.val_main_v17, Cert.FfnHiddenRefIdeal.Read.val_main_v16, Cert.FfnHiddenRefIdeal.Read.val_main_v15, Cert.FfnHiddenRefIdeal.Read.val_main_call1_v2, Cert.FfnHiddenRefIdeal.Read.val_main_call1_v1, Cert.FfnHiddenRefIdeal.Read.val_main_call1_v0, Cert.FfnHiddenRefIdeal.Read.val_main_v12_0, Cert.FfnHiddenRefIdeal.Read.val_main_v12_1, Cert.FfnHiddenRefIdeal.Read.val_main_v12_2, Cert.FfnHiddenRefIdeal.Read.val_main_call0_cst, Cert.FfnHiddenRefIdeal.Read.val_main_call0_cst_0, Cert.FfnHiddenRefIdeal.Read.val_main_call0_cst_1, Cert.FfnHiddenRefIdeal.Read.val_main_call0_v7, Cert.FfnHiddenRefIdeal.Read.val_main_call0_v6, Cert.FfnHiddenRefIdeal.Read.val_main_call0_v4, Cert.FfnHiddenRefIdeal.Read.val_main_call0_v3, Cert.FfnHiddenRefIdeal.Read.val_main_call0_v2, Cert.FfnHiddenRefIdeal.Read.val_main_call0_v1, Cert.FfnHiddenRefIdeal.Read.val_main_call0_v0, Cert.FfnHiddenRefIdeal.Read.val_main_v11, Cert.FfnHiddenRefIdeal.Read.val_main_v10, Cert.FfnHiddenRefIdeal.Read.val_main_v9, Cert.FfnHiddenRefIdeal.Read.val_main_v8, Cert.FfnHiddenRefIdeal.Read.val_main_v7, Cert.FfnHiddenRefIdeal.Read.val_main_v6, Cert.FfnHiddenRefIdeal.Read.val_main_v5, Cert.FfnHiddenRefIdeal.Read.val_main_v4, Cert.FfnHiddenRefIdeal.Read.val_main_v3, Cert.FfnHiddenRefIdeal.Read.val_main_v2, Cert.FfnHiddenRefIdeal.Read.val_main_v1, Cert.FfnHiddenRefIdeal.Read.val_main_v0]
    rw [mul_comm]
    rfl

/-- The program as printed and the one read at the extended reals have the same bodies. -/
theorem bodies_eq : @Cert.FfnHidden.defs₀ Bits _ _ = @Cert.FfnHiddenIdeal.defs₀ Bits _ _ := by
  unfold Cert.FfnHidden.defs₀ Cert.FfnHiddenIdeal.defs₀
  refine congrArg Defs.onTc (funext fun l => funext fun x => ?_)
  match l, x with
  | 0, (t, s) => rfl

/-- The kernel's frame, of the program as printed: the run of the same text at the device's own values. -/
theorem frame_kernel : Cert.quiescent_FfnHidden := by
  intro m ρ _
  have h : Cert.FfnHidden.defs (F := Bits) = Cert.FfnHiddenIdeal.defs (F := Bits) := congrArg (Pipeline.defs _) bodies_eq
  rw [h]
  exact Cert.FfnHiddenIdeal.Gen.frame (F := Bits) m ρ

theorem frame_ideal : Cert.quiescent_FfnHiddenIdeal := fun m ρ _ => Cert.FfnHiddenIdeal.Gen.frame (F := Ideal) m ρ

theorem frame_reference : Cert.quiescent_FfnHiddenRefIdeal := fun m ρ _ =>
  (θ_run Cert.FfnHiddenRefIdeal.defs _ _).mono (fun r h => ⟨fun c => (h c).2, sem_eq_zero_of_no_sems (by decide) r.2⟩)
    (Cert.FfnHiddenRefIdeal.Value.run (F := Ideal) m ρ)

theorem frame_ideal_finite : Cert.quiescent_FfnHiddenIdeal_pre_hidden_finite :=
  fun m ρ _ => Cert.FfnHiddenIdeal.Gen.frame (F := Ideal) m ρ

theorem frame_reference_finite : Cert.quiescent_FfnHiddenRefIdeal_pre_hidden_finite :=
  fun m ρ _ => frame_reference m ρ trivial

/-- The precondition read element by element. -/
theorem finite_of_pre (dz : Vec Ideal S2048x1024 .bf16) (gu : Vec Ideal S2x4x2048x704 .bf16) (w : Vec Ideal S4x704x1024 .bf16)
    (h : (Cert.Pre_hidden_finite.fn (F := Ideal) dz gu w).1 = (fun _ => 1#1) ∧ (Cert.Pre_hidden_finite.fn (F := Ideal) dz gu w).2.1 = (fun _ => 1#1)
      ∧ (Cert.Pre_hidden_finite.fn (F := Ideal) dz gu w).2.2 = (fun _ => 1#1)) :
    (∀ i, IsReal (dz i)) ∧ (∀ j s k, IsReal (gu (ix4 1 j s k))) ∧ (∀ i, IsReal (w i)) := by
  refine ⟨fun i => isReal_of_cmp (congrFun h.1 i), fun j s k => isReal_of_cmp ?_, fun i => isReal_of_cmp (congrFun h.2.2 i)⟩
  have h' := congrFun h.2.1 (ix3 j s k)
  unfold Cert.Pre_hidden_finite.fn at h'
  pointwise at h'
  exact h'

theorem algebraic : Cert.algebraic_FfnHiddenIdeal_FfnHiddenRefIdeal_pre_hidden_finite := by
  intro m ρ m' ρ' hpre hagree
  refine ⟨_, run m ρ, (θ_run Cert.FfnHiddenRefIdeal.defs _ _).mono (fun r h c => ⟨((h c).1.trans (Cert.FfnHiddenRefIdeal.Read.val_main_v27_eq m' c)).trans ?_, (h c).2⟩)
    (Cert.FfnHiddenRefIdeal.Value.run (F := Ideal) m' ρ')⟩
  obtain ⟨hdz, hup, hw⟩ := finite_of_pre _ _ _ (hpre c)
  rw [(hagree c).1, (hagree c).2.1, (hagree c).2.2]
  exact reference_eq _ _ _ hdz hup hw

end Cert.Proof.FfnHidden

end
-- ==== Proof.FfnDownGrad.lean ====
/- The gradient of the feed-forward's down projection (`_wgrad` of the hidden features and the output's gradient): the array
   the kernel leaves and the reference's result are one function `grad` of the arguments. -/
module

public import proofs.«01_k».proof.Defs
public import proofs.«01_k».proof.Proof.Gen.FfnDownGrad
public import proofs.«01_k».proof.Proof.Gen.FfnDownGradIdeal.Value
public import proofs.«01_k».proof.Proof.Gen.FfnDownGradRefIdeal.Read
public import Idealize.ShloMosaic.Lib.Pointwise
public import Idealize.ShloMosaic.Lib.Claim

@[expose] public section

set_option maxRecDepth 16384

noncomputable section

namespace Cert.Proof.FfnDownGrad

open Cert.FfnDownGradIdeal Cert.FfnDownGradIdeal.Gen Cert.FfnDownGradIdeal.Value
open Idealize.ShloMosaic Idealize.ShloMosaic.TcCoe Idealize.SL.Sem

/-- For each block of features the transposed product of the hidden features with the output's gradient. -/
def grad (h : Vec Ideal S4x2048x704 .bf16) (dz : Vec Ideal S2048x1024 .bf16) : Vec Ideal S4x704x1024 .bf16 :=
  fun i => ∑ s : Fin 2048, h (ix3 (i 0) s (i 1)) * dz (ix2 s (i 2))

/-- The same of one block of features. -/
theorem block_apply (x0 : Vec Ideal S1x2048x704 .bf16) (x1 : Vec Ideal S1x2048x1024 .bf16) (r : Fin 704) (c : Fin 1024) :
    out0_2 x0 x1 (ix3 (0 : Fin 1) r c) = ∑ s : Fin 2048, x0 (ix3 (0 : Fin 1) s r) * x1 (ix3 (0 : Fin 1) s c) := by
  unfold out0_2
  rw [View.canon_unit_zero (funext fun a => by fin_cases a <;> rfl)]
  pointwise [k0_pay1]

variable (m : (ℓ : Loc nD τ sig) → Buf (Elt Ideal) ℓ) (ρ : Dev nD → PrngReg)

/-- The windows' block indices: point `t` takes block `t` of features. -/
theorem points : ∀ t : Fin cfg0.N,
    (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

theorem emb0 (t : Fin cfg0.N) (s : Fin 2048) (k : Fin 704) :
    ((cfg0.win 0).blk t).view.emb (ix3 (0 : Fin 1) s k) = ix3 (⟨t.val, t.isLt⟩ : Fin 4) s k := by
  obtain ⟨⟨h0, h1, h2⟩, -, -⟩ := points t
  funext a; apply Fin.ext
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 704 + 1 * k.val = k.val; omega

theorem emb1 (t : Fin cfg0.N) (s : Fin 2048) (k : Fin 1024) :
    ((cfg0.win 1).blk t).view.emb (ix3 (0 : Fin 1) s k) = ix3 (0 : Fin 1) s k := by
  obtain ⟨-, ⟨h0, h1, h2⟩, -⟩ := points t
  funext a; apply Fin.ext
  match a with
  | ⟨0, _⟩ => show win0_1.index t (0 : Fin 3) * 1 + 1 * 0 = 0; omega
  | ⟨1, _⟩ => show win0_1.index t (1 : Fin 3) * 2048 + 1 * s.val = s.val; omega
  | ⟨2, _⟩ => show win0_1.index t (2 : Fin 3) * 1024 + 1 * k.val = k.val; omega

theorem emb2 (t : Fin cfg0.N) (r : Fin 704) (k : Fin 1024) :
    ((cfg0.win 2).blk t).view.emb (ix3 (0 : Fin 1) r k) = ix3 (⟨t.val, t.isLt⟩ : Fin 4) r k := by
  obtain ⟨-, -, ⟨h0, h1, h2⟩⟩ := points t
  funext a; apply Fin.ext
  match a with
  | ⟨0, _⟩ => show win0_2.index t (0 : Fin 3) * 1 + 1 * 0 = t.val; omega
  | ⟨1, _⟩ => show win0_2.index t (1 : Fin 3) * 704 + 1 * r.val = r.val; omega
  | ⟨2, _⟩ => show win0_2.index t (2 : Fin 3) * 1024 + 1 * k.val = k.val; omega

/-- The second operand reaches the kernel with a leading axis of one. -/
theorem V_main_v0 (c : Dev nD) (s : Fin 2048) (k : Fin 1024) :
    (V m c main_v0 : Vec Ideal S1x2048x1024 .bf16) (ix3 (0 : Fin 1) s k) = (V m c main_arg1 : Vec Ideal S2048x1024 .bf16) (ix2 s k) := by
  have h : (V m c main_v0 : Vec Ideal S1x2048x1024 .bf16) = broadcastInDim S1x2048x1024 ![1, 2] bcast_S2048x1024_S1x2048x1024_1_2 (V m c main_arg1 : Vec Ideal S2048x1024 .bf16) := rfl
  rw [h]
  pointwise []

/-- What point `t` writes back is its block of `grad` of the arguments. -/
theorem flushed_eq (c : Dev nD) (t : Fin cfg0.N) :
    (dats m 0 c).flushed 2 t = ((cfg0.win 2).blk t).view.read (Elt Ideal) (grad (V m c main_arg0) (V m c main_arg1)) := by
  rw [flushed2]
  funext j
  obtain ⟨z, r, k, rfl⟩ : ∃ (z : Fin 1) (r : Fin 704) (k : Fin 1024), j = ix3 z r k := ⟨j 0, j 1, j 2, eq_ix3 j⟩
  obtain rfl : z = 0 := Subsingleton.elim _ _
  show out0_2 (iblk m c 0 t) (iblk m c 1 t) (ix3 (0 : Fin 1) r k) = grad (V m c main_arg0) (V m c main_arg1) (((cfg0.win 2).blk t).view.emb (ix3 (0 : Fin 1) r k))
  have h0 : ∀ (s : Fin 2048) (k : Fin 704), (iblk m c 0 t : Vec Ideal S1x2048x704 .bf16) (ix3 (0 : Fin 1) s k) = (V m c main_arg0 : Vec Ideal S4x2048x704 .bf16) (ix3 (⟨t.val, t.isLt⟩ : Fin 4) s k) :=
    fun s k => congrArg (V m c main_arg0) (emb0 t s k)
  have h1 : ∀ (s : Fin 2048) (k : Fin 1024), (iblk m c 1 t : Vec Ideal S1x2048x1024 .bf16) (ix3 (0 : Fin 1) s k) = (V m c main_arg1 : Vec Ideal S2048x1024 .bf16) (ix2 s k) :=
    fun s k => (congrArg (V m c main_v0) (emb1 t s k)).trans (V_main_v0 m c s k)
  refine (block_apply _ _ r k).trans ?_
  simp only [h0, h1]
  exact (congrArg (grad (V m c main_arg0) (V m c main_arg1)) (emb2 t r k)).symm

theorem covered (i : S4x704x1024.Idx) : ∃ t : Fin cfg0.N, (cfg0.win 2).flush t = true ∧ i ∈ ((cfg0.win 2).blk t).view.set := by
  obtain ⟨a, b, k, rfl⟩ : ∃ (a : Fin 4) (b : Fin 704) (k : Fin 1024), i = ix3 a b k := ⟨i 0, i 1, i 2, eq_ix3 i⟩
  let t : Fin cfg0.N := ⟨a.val, a.isLt⟩
  refine ⟨t, (by decide +kernel : ∀ t : Fin grid0.N, win0_2.flush t = true) t, ?_⟩
  have h := ((cfg0.win 2).blk t).view.emb_mem_set (ix3 (0 : Fin 1) b k)
  rwa [emb2] at h

/-- The kernel's run: its result array is `grad` of the arguments. -/
theorem run : θ_run defs (onTc (τ := τ) (main (F := Ideal))) ⟨m, fun _ => 0, ρ⟩ fun r => ∀ c : Dev nD,
      r.2.mem ((c : Thread nD τ).loc main_v1) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans ((dats m 0 c).arrAt_eq_of_cover 2
    (grad (V m c main_arg0) (V m c main_arg1)) (fun t _ => flushed_eq m c t) covered)).trans (by rw [V_main_arg0, V_main_arg1]), (h c).2⟩) (run_blocks m ρ)

/-- The reference's result, one product over all the features, is the same function. -/
theorem reference_eq (h : Vec Ideal S4x2048x704 .bf16) (dz : Vec Ideal S2048x1024 .bf16) :
    Cert.FfnDownGradRefIdeal.Read.val_main_v9 (F := Ideal) h dz = grad h dz := by
  funext i
  obtain ⟨a, b, k, rfl⟩ : ∃ (a : Fin 4) (b : Fin 704) (k : Fin 1024), i = ix3 a b k := ⟨i 0, i 1, i 2, eq_ix3 i⟩
  pointwise [grad, Cert.FfnDownGradRefIdeal.Read.val_main_v9, Cert.FfnDownGradRefIdeal.Read.val_main_v8, Cert.FfnDownGradRefIdeal.Read.val_main_v7, Cert.FfnDownGradRefIdeal.Read.val_main_v6, Cert.FfnDownGradRefIdeal.Read.val_main_v5, Cert.FfnDownGradRefIdeal.Read.val_main_v2, Cert.FfnDownGradRefIdeal.Read.val_main_v1, Cert.FfnDownGradRefIdeal.Read.val_main_v0]
  exact Finset.sum_congr rfl fun s _ => mul_comm _ _

/-- The program as printed and the one read at the extended reals have the same bodies. -/
theorem bodies_eq : @Cert.FfnDownGrad.defs₀ Bits _ _ = @Cert.FfnDownGradIdeal.defs₀ Bits _ _ := by
  unfold Cert.FfnDownGrad.defs₀ Cert.FfnDownGradIdeal.defs₀
  refine congrArg Defs.onTc (funext fun l => funext fun x => ?_)
  match l, x with
  | 0, (t, s) => rfl

/-- The kernel's frame, of the program as printed: the run of the same text at the device's own values. -/
theorem frame_kernel : Cert.quiescent_FfnDownGrad := by
  intro m ρ _
  have h : Cert.FfnDownGrad.defs (F := Bits) = Cert.FfnDownGradIdeal.defs (F := Bits) := congrArg (Pipeline.defs _) bodies_eq
  rw [h]
  exact Cert.FfnDownGradIdeal.Gen.frame (F := Bits) m ρ

theorem frame_ideal : Cert.quiescent_FfnDownGradIdeal := fun m ρ _ => Cert.FfnDownGradIdeal.Gen.frame (F := Ideal) m ρ

theorem frame_reference : Cert.quiescent_FfnDownGradRefIdeal := fun m ρ _ =>
  (θ_run Cert.FfnDownGradRefIdeal.defs _ _).mono (fun r h => ⟨fun c => (h c).2, sem_eq_zero_of_no_sems (by decide) r.2⟩)
    (Cert.FfnDownGradRefIdeal.Value.run (F := Ideal) m ρ)

theorem algebraic : Cert.algebraic_FfnDownGradIdeal_FfnDownGradRefIdeal := by
  intro m ρ m' ρ' _ hagree
  refine ⟨_, run m ρ, (θ_run Cert.FfnDownGradRefIdeal.defs _ _).mono (fun r h c => ⟨(h c).1.trans ?_, (h c).2⟩)
    (Cert.FfnDownGradRefIdeal.Value.run (F := Ideal) m' ρ')⟩
  show Cert.FfnDownGradRefIdeal.Read.val_main_v9 (F := Ideal) _ _ = _
  rw [reference_eq, (hagree c).1, (hagree c).2]

end Cert.Proof.FfnDownGrad

end
-- ==== Proof.FfnUpGrad.lean ====
/- The gradient of the feed-forward's gate and up projections (`_wgrad` of the hidden layer's gradient and the input): the array
   the kernel leaves and the reference's result are one function `grad` of the arguments. -/
module

public import proofs.«01_k».proof.Defs
public import proofs.«01_k».proof.Proof.Gen.FfnUpGrad
public import proofs.«01_k».proof.Proof.Gen.FfnUpGradIdeal.Value
public import proofs.«01_k».proof.Proof.Gen.FfnUpGradRefIdeal.Read
public import Idealize.ShloMosaic.Lib.Pointwise
public import Idealize.ShloMosaic.Lib.Claim

@[expose] public section

set_option maxRecDepth 16384

noncomputable section

namespace Cert.Proof.FfnUpGrad

open Cert.FfnUpGradIdeal Cert.FfnUpGradIdeal.Gen Cert.FfnUpGradIdeal.Value
open Idealize.ShloMosaic Idealize.ShloMosaic.TcCoe Idealize.SL.Sem

/-- Block `a` of the eight is of projection `half a` (gate, up) … -/
def half (a : Fin 8) : Fin 2 := ⟨a.val / 4, by have h := a.isLt; omega⟩

/-- … and of its block of features `quarter a`. -/
def quarter (a : Fin 8) : Fin 4 := ⟨a.val % 4, by have h := a.isLt; omega⟩

/-- For each projection and block of features the transposed product of the projection's gradient with the input. -/
def grad (dgu : Vec Ideal S2x4x2048x704 .bf16) (x : Vec Ideal S2048x1024 .bf16) : Vec Ideal S8x704x1024 .bf16 :=
  fun i => ∑ s : Fin 2048, dgu (ix4 (half (i 0)) (quarter (i 0)) s (i 1)) * x (ix2 s (i 2))

/-- The same of one block of features. -/
theorem block_apply (x0 : Vec Ideal S1x2048x704 .bf16) (x1 : Vec Ideal S1x2048x1024 .bf16) (r : Fin 704) (c : Fin 1024) :
    out0_2 x0 x1 (ix3 (0 : Fin 1) r c) = ∑ s : Fin 2048, x0 (ix3 (0 : Fin 1) s r) * x1 (ix3 (0 : Fin 1) s c) := by
  unfold out0_2
  rw [View.canon_unit_zero (funext fun a => by fin_cases a <;> rfl)]
  pointwise [k0_pay1]

variable (m : (ℓ : Loc nD τ sig) → Buf (Elt Ideal) ℓ) (ρ : Dev nD → PrngReg)

/-- The windows' block indices: point `t` takes block `t` of features. -/
theorem points : ∀ t : Fin cfg0.N,
    (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

theorem emb0 (t : Fin cfg0.N) (s : Fin 2048) (k : Fin 704) :
    ((cfg0.win 0).blk t).view.emb (ix3 (0 : Fin 1) s k) = ix3 (⟨t.val, t.isLt⟩ : Fin 8) s k := by
  obtain ⟨⟨h0, h1, h2⟩, -, -⟩ := points t
  funext a; apply Fin.ext
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 704 + 1 * k.val = k.val; omega

theorem emb1 (t : Fin cfg0.N) (s : Fin 2048) (k : Fin 1024) :
    ((cfg0.win 1).blk t).view.emb (ix3 (0 : Fin 1) s k) = ix3 (0 : Fin 1) s k := by
  obtain ⟨-, ⟨h0, h1, h2⟩, -⟩ := points t
  funext a; apply Fin.ext
  match a with
  | ⟨0, _⟩ => show win0_1.index t (0 : Fin 3) * 1 + 1 * 0 = 0; omega
  | ⟨1, _⟩ => show win0_1.index t (1 : Fin 3) * 2048 + 1 * s.val = s.val; omega
  | ⟨2, _⟩ => show win0_1.index t (2 : Fin 3) * 1024 + 1 * k.val = k.val; omega

theorem emb2 (t : Fin cfg0.N) (r : Fin 704) (k : Fin 1024) :
    ((cfg0.win 2).blk t).view.emb (ix3 (0 : Fin 1) r k) = ix3 (⟨t.val, t.isLt⟩ : Fin 8) r k := by
  obtain ⟨-, -, ⟨h0, h1, h2⟩⟩ := points t
  funext a; apply Fin.ext
  match a with
  | ⟨0, _⟩ => show win0_2.index t (0 : Fin 3) * 1 + 1 * 0 = t.val; omega
  | ⟨1, _⟩ => show win0_2.index t (1 : Fin 3) * 704 + 1 * r.val = r.val; omega
  | ⟨2, _⟩ => show win0_2.index t (2 : Fin 3) * 1024 + 1 * k.val = k.val; omega

theorem merged_apply (y : Vec Ideal S2x4x2048x704 .bf16) (a : Fin 8) (s : Fin 2048) (k : Fin 704) :
    shapeCast S8x2048x704 y shapeCasts_S2x4x2048x704_S8x2048x704 (ix3 a s k) = y (ix4 (half a) (quarter a) s k) := by
  pointwise [half, quarter]

/-- The first operand reaches the kernel with the projections and the blocks of features along one axis. -/
theorem V_main_v0 (c : Dev nD) (a : Fin 8) (s : Fin 2048) (k : Fin 704) :
    (V m c main_v0 : Vec Ideal S8x2048x704 .bf16) (ix3 a s k) = (V m c main_arg0 : Vec Ideal S2x4x2048x704 .bf16) (ix4 (half a) (quarter a) s k) :=
  merged_apply _ a s k

/-- The second operand reaches the kernel with a leading axis of one. -/
theorem V_main_v1 (c : Dev nD) (s : Fin 2048) (k : Fin 1024) :
    (V m c main_v1 : Vec Ideal S1x2048x1024 .bf16) (ix3 (0 : Fin 1) s k) = (V m c main_arg1 : Vec Ideal S2048x1024 .bf16) (ix2 s k) := by
  have h : (V m c main_v1 : Vec Ideal S1x2048x1024 .bf16) = broadcastInDim S1x2048x1024 ![1, 2] bcast_S2048x1024_S1x2048x1024_1_2 (V m c main_arg1 : Vec Ideal S2048x1024 .bf16) := rfl
  rw [h]
  pointwise []

/-- What point `t` writes back is its block of `grad` of the arguments. -/
theorem flushed_eq (c : Dev nD) (t : Fin cfg0.N) :
    (dats m 0 c).flushed 2 t = ((cfg0.win 2).blk t).view.read (Elt Ideal) (grad (V m c main_arg0) (V m c main_arg1)) := by
  rw [flushed2]
  funext j
  obtain ⟨z, r, k, rfl⟩ : ∃ (z : Fin 1) (r : Fin 704) (k : Fin 1024), j = ix3 z r k := ⟨j 0, j 1, j 2, eq_ix3 j⟩
  obtain rfl : z = 0 := Subsingleton.elim _ _
  show out0_2 (iblk m c 0 t) (iblk m c 1 t) (ix3 (0 : Fin 1) r k) = grad (V m c main_arg0) (V m c main_arg1) (((cfg0.win 2).blk t).view.emb (ix3 (0 : Fin 1) r k))
  have h0 : ∀ (s : Fin 2048) (k : Fin 704), (iblk m c 0 t : Vec Ideal S1x2048x704 .bf16) (ix3 (0 : Fin 1) s k) = (V m c main_arg0 : Vec Ideal S2x4x2048x704 .bf16) (ix4 (half ⟨t.val, t.isLt⟩) (quarter ⟨t.val, t.isLt⟩) s k) :=
    fun s k => (congrArg (V m c main_v0) (emb0 t s k)).trans (V_main_v0 m c _ s k)
  have h1 : ∀ (s : Fin 2048) (k : Fin 1024), (iblk m c 1 t : Vec Ideal S1x2048x1024 .bf16) (ix3 (0 : Fin 1) s k) = (V m c main_arg1 : Vec Ideal S2048x1024 .bf16) (ix2 s k) :=
    fun s k => (congrArg (V m c main_v1) (emb1 t s k)).trans (V_main_v1 m c s k)
  refine (block_apply _ _ r k).trans ?_
  simp only [h0, h1]
  exact (congrArg (grad (V m c main_arg0) (V m c main_arg1)) (emb2 t r k)).symm

theorem covered (i : S8x704x1024.Idx) : ∃ t : Fin cfg0.N, (cfg0.win 2).flush t = true ∧ i ∈ ((cfg0.win 2).blk t).view.set := by
  obtain ⟨a, b, k, rfl⟩ : ∃ (a : Fin 8) (b : Fin 704) (k : Fin 1024), i = ix3 a b k := ⟨i 0, i 1, i 2, eq_ix3 i⟩
  let t : Fin cfg0.N := ⟨a.val, a.isLt⟩
  refine ⟨t, (by decide +kernel : ∀ t : Fin grid0.N, win0_2.flush t = true) t, ?_⟩
  have h := ((cfg0.win 2).blk t).view.emb_mem_set (ix3 (0 : Fin 1) b k)
  rwa [emb2] at h

/-- The kernel's run: its result array is `grad` of the arguments. -/
theorem run : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans ((dats m 0 c).arrAt_eq_of_cover 2
    (grad (V m c main_arg0) (V m c main_arg1)) (fun t _ => flushed_eq m c t) covered)).trans (by rw [V_main_arg0, V_main_arg1]), (h c).2⟩) (run_blocks m ρ)

/-- The reference's result, one product over all the features, is the same function. -/
theorem reference_eq (dgu : Vec Ideal S2x4x2048x704 .bf16) (x : Vec Ideal S2048x1024 .bf16) :
    Cert.FfnUpGradRefIdeal.Read.val_main_v18 (F := Ideal) dgu x = grad dgu x := by
  funext i
  obtain ⟨a, b, k, rfl⟩ : ∃ (a : Fin 8) (b : Fin 704) (k : Fin 1024), i = ix3 a b k := ⟨i 0, i 1, i 2, eq_ix3 i⟩
  pointwise [grad, Cert.FfnUpGradRefIdeal.Read.val_main_v18, Cert.FfnUpGradRefIdeal.Read.val_main_v17, Cert.FfnUpGradRefIdeal.Read.val_main_v16, Cert.FfnUpGradRefIdeal.Read.val_main_v15, Cert.FfnUpGradRefIdeal.Read.val_main_v14, Cert.FfnUpGradRefIdeal.Read.val_main_v11, Cert.FfnUpGradRefIdeal.Read.val_main_v10, Cert.FfnUpGradRefIdeal.Read.val_main_v9, Cert.FfnUpGradRefIdeal.Read.val_main_v8, Cert.FfnUpGradRefIdeal.Read.val_main_v7, Cert.FfnUpGradRefIdeal.Read.val_main_v6, Cert.FfnUpGradRefIdeal.Read.val_main_v5, Cert.FfnUpGradRefIdeal.Read.val_main_v4, Cert.FfnUpGradRefIdeal.Read.val_main_v3, Cert.FfnUpGradRefIdeal.Read.val_main_v2, Cert.FfnUpGradRefIdeal.Read.val_main_v1, Cert.FfnUpGradRefIdeal.Read.val_main_v0]
  refine Finset.sum_congr rfl fun s _ => congrArg₂ (· * ·) ?_ rfl
  have ha := a.isLt
  have hb := b.isLt
  split
  all_goals refine congrArg dgu ?_
  all_goals congr 1 <;> apply Fin.ext <;> simp only [half, quarter, Fin.val_zero, Fin.val_one] <;> omega

/-- The program as printed and the one read at the extended reals have the same bodies. -/
theorem bodies_eq : @Cert.FfnUpGrad.defs₀ Bits _ _ = @Cert.FfnUpGradIdeal.defs₀ Bits _ _ := by
  unfold Cert.FfnUpGrad.defs₀ Cert.FfnUpGradIdeal.defs₀
  refine congrArg Defs.onTc (funext fun l => funext fun x => ?_)
  match l, x with
  | 0, (t, s) => rfl

/-- The kernel's frame, of the program as printed: the run of the same text at the device's own values. -/
theorem frame_kernel : Cert.quiescent_FfnUpGrad := by
  intro m ρ _
  have h : Cert.FfnUpGrad.defs (F := Bits) = Cert.FfnUpGradIdeal.defs (F := Bits) := congrArg (Pipeline.defs _) bodies_eq
  rw [h]
  exact Cert.FfnUpGradIdeal.Gen.frame (F := Bits) m ρ

theorem frame_ideal : Cert.quiescent_FfnUpGradIdeal := fun m ρ _ => Cert.FfnUpGradIdeal.Gen.frame (F := Ideal) m ρ

theorem frame_reference : Cert.quiescent_FfnUpGradRefIdeal := fun m ρ _ =>
  (θ_run Cert.FfnUpGradRefIdeal.defs _ _).mono (fun r h => ⟨fun c => (h c).2, sem_eq_zero_of_no_sems (by decide) r.2⟩)
    (Cert.FfnUpGradRefIdeal.Value.run (F := Ideal) m ρ)

theorem algebraic : Cert.algebraic_FfnUpGradIdeal_FfnUpGradRefIdeal := by
  intro m ρ m' ρ' _ hagree
  refine ⟨_, run m ρ, (θ_run Cert.FfnUpGradRefIdeal.defs _ _).mono (fun r h c => ⟨(h c).1.trans ?_, (h c).2⟩)
    (Cert.FfnUpGradRefIdeal.Value.run (F := Ideal) m' ρ')⟩
  show Cert.FfnUpGradRefIdeal.Read.val_main_v18 (F := Ideal) _ _ = _
  rw [reference_eq, (hagree c).1, (hagree c).2]

end Cert.Proof.FfnUpGrad

end
-- ==== Proof.Sums.lean ====
/- A sum over an axis cut into blocks of one size. -/
module

public import Mathlib.Algebra.BigOperators.Fin
public import Mathlib.Logic.Equiv.Fin.Basic

@[expose] public section

namespace Cert.Proof

theorem block_lt {a b n : Nat} (h : a * b = n) (j : Fin a) (k : Fin b) : j.val * b + k.val < n := by
  have h1 : (j.val + 1) * b ≤ a * b := Nat.mul_le_mul_right b j.isLt
  have h2 := k.isLt
  rw [Nat.add_mul, Nat.one_mul] at h1
  omega

/-- The sum over an axis of `a * b` places is the sum over its `a` blocks of `b` places. -/
theorem sum_blocks {M : Type*} [AddCommMonoid M] (a b : Nat) {n : Nat} (h : a * b = n) (f : Fin n → M) :
    ∑ x : Fin n, f x = ∑ j : Fin a, ∑ k : Fin b, f ⟨j.val * b + k.val, block_lt h j k⟩ := by
  subst h
  rw [← Equiv.sum_comp finProdFinEquiv f, Fintype.sum_prod_type]
  refine Finset.sum_congr rfl fun j _ => Finset.sum_congr rfl fun k _ => congrArg f (Fin.ext ?_)
  show k.val + b * j.val = j.val * b + k.val
  rw [Nat.mul_comm, Nat.add_comm]

end Cert.Proof
-- ==== Proof.FfnInput.lean ====
/- The gradient of the feed-forward's input (`_ffn_bwd_input`): the array the kernel leaves and the reference's result are
   one function `grad` of the arguments. -/
module

public import proofs.«01_k».proof.Defs
public import proofs.«01_k».proof.Proof.Gen.FfnInput
public import proofs.«01_k».proof.Proof.Gen.FfnInputIdeal.Value
public import proofs.«01_k».proof.Proof.Gen.FfnInputRefIdeal.Read
public import proofs.«01_k».proof.Proof.Sums
public import Idealize.ShloMosaic.Lib.Pointwise
public import Idealize.ShloMosaic.Lib.Claim

@[expose] public section

set_option maxRecDepth 16384

noncomputable section

namespace Cert.Proof.FfnInput

open Cert.FfnInputIdeal Cert.FfnInputIdeal.Gen Cert.FfnInputIdeal.Value
open Idealize.ShloMosaic Idealize.ShloMosaic.TcCoe Idealize.SL.Sem

/-- The residual's share of the gradient, and for each of the two projections (gate, up) and each block of features the
    product of the projection's gradient with its weights. -/
def grad (dz : Vec Ideal S2048x1024 .f32) (dgu : Vec Ideal S2x4x2048x704 .bf16) (w : Vec Ideal S2x4x704x1024 .bf16) : Vec Ideal S2048x1024 .f32 :=
  fun i => Ideal.ofBits .f32 0x3FB504F3#32 * dz i + ∑ g : Fin 2, ∑ j : Fin 4, ∑ k : Fin 704, dgu (ix4 g j (i 0) k) * w (ix4 g j k (i 1))

/-- The same of one block of 512 rows. -/
theorem block_apply (x0 : Vec Ideal S512x1024 .f32) (x1 : Vec Ideal S2x4x512x704 .bf16) (x2 : Vec Ideal S2x4x704x1024 .bf16) (r : Fin 512) (c : Fin 1024) :
    out0_3 x0 x1 x2 (ix2 r c)
      = Ideal.ofBits .f32 0x3FB504F3#32 * x0 (ix2 r c) + ∑ g : Fin 2, ∑ j : Fin 4, ∑ k : Fin 704, x1 (ix4 g j r k) * x2 (ix4 g j k c) := by
  unfold out0_3
  rw [View.canon_unit_zero (funext fun a => by fin_cases a <;> rfl)]
  pointwise [k0_pay1, k0_pay2, k0_pay3, k0_pay4, k0_pay5]
  simp only [Fin.sum_univ_two, Fin.sum_univ_four, add_assoc]

variable (m : (ℓ : Loc nD τ sig) → Buf (Elt Ideal) ℓ) (ρ : Dev nD → PrngReg)

/-- The windows' block indices: the three arrays with rows move with the point, the weights stay. -/
theorem points : ∀ t : Fin cfg0.N,
    (win0_0.index t (0 : Fin 2) = t.val ∧ win0_0.index t (1 : Fin 2) = 0)
    ∧ (win0_1.index t (0 : Fin 4) = 0 ∧ win0_1.index t (1 : Fin 4) = 0 ∧ win0_1.index t (2 : Fin 4) = t.val ∧ win0_1.index t (3 : Fin 4) = 0)
    ∧ (win0_2.index t (0 : Fin 4) = 0 ∧ win0_2.index t (1 : Fin 4) = 0 ∧ win0_2.index t (2 : Fin 4) = 0 ∧ win0_2.index t (3 : Fin 4) = 0)
    ∧ (win0_3.index t (0 : Fin 2) = t.val ∧ win0_3.index t (1 : Fin 2) = 0) :=
  (by decide +kernel : ∀ t : Fin grid0.N, _)

theorem row_lt (t : Fin cfg0.N) (r : Fin 512) : t.val * 512 + r.val < 2048 := by
  have h1 : t.val < 4 := t.isLt
  have h2 := r.isLt
  omega

/-- Row `r` of point `t`'s block. -/
def row (t : Fin cfg0.N) (r : Fin 512) : Fin 2048 := ⟨t.val * 512 + r.val, row_lt t r⟩

theorem emb0 (t : Fin cfg0.N) (r : Fin 512) (k : Fin 1024) :
    ((cfg0.win 0).blk t).view.emb (ix2 r k) = ix2 (row t r) k := by
  obtain ⟨⟨h0, h1⟩, -, -, -⟩ := points t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (g : Fin 2) (j : Fin 4) (r : Fin 512) (k : Fin 704) :
    ((cfg0.win 1).blk t).view.emb (ix4 g j r k) = ix4 g j (row t r) k := by
  obtain ⟨-, ⟨h0, h1, h2, h3⟩, -, -⟩ := points t
  funext a; apply Fin.ext
  match a with
  | ⟨0, _⟩ => show win0_1.index t (0 : Fin 4) * 2 + 1 * g.val = g.val; omega
  | ⟨1, _⟩ => show win0_1.index t (1 : Fin 4) * 4 + 1 * j.val = j.val; omega
  | ⟨2, _⟩ => show win0_1.index t (2 : Fin 4) * 512 + 1 * r.val = t.val * 512 + r.val; omega
  | ⟨3, _⟩ => show win0_1.index t (3 : Fin 4) * 704 + 1 * k.val = k.val; omega

theorem emb2 (t : Fin cfg0.N) (g : Fin 2) (j : Fin 4) (r : Fin 704) (k : Fin 1024) :
    ((cfg0.win 2).blk t).view.emb (ix4 g j r k) = ix4 g j r k := by
  obtain ⟨-, -, ⟨h0, h1, h2, h3⟩, -⟩ := points t
  funext a; apply Fin.ext
  match a with
  | ⟨0, _⟩ => show win0_2.index t (0 : Fin 4) * 2 + 1 * g.val = g.val; omega
  | ⟨1, _⟩ => show win0_2.index t (1 : Fin 4) * 4 + 1 * j.val = j.val; omega
  | ⟨2, _⟩ => show win0_2.index t (2 : Fin 4) * 704 + 1 * r.val = r.val; omega
  | ⟨3, _⟩ => show win0_2.index t (3 : Fin 4) * 1024 + 1 * k.val = k.val; omega

theorem emb3 (t : Fin cfg0.N) (r : Fin 512) (k : Fin 1024) :
    ((cfg0.win 3).blk t).view.emb (ix2 r k) = ix2 (row t r) k := by
  obtain ⟨-, -, -, ⟨h0, h1⟩⟩ := points t
  funext a; apply Fin.ext
  match a with
  | ⟨0, _⟩ => show win0_3.index t (0 : Fin 2) * 512 + 1 * r.val = t.val * 512 + r.val; omega
  | ⟨1, _⟩ => show win0_3.index t (1 : Fin 2) * 1024 + 1 * k.val = k.val; omega

/-- What point `t` writes back is its block of `grad` of the arguments. -/
theorem flushed_eq (c : Dev nD) (t : Fin cfg0.N) :
    (dats m 0 c).flushed 3 t
      = ((cfg0.win 3).blk t).view.read (Elt Ideal) (grad (V m c main_arg0) (V m c main_arg1) (V m c main_arg2)) := by
  rw [flushed3]
  funext j
  obtain ⟨r, k, rfl⟩ : ∃ (r : Fin 512) (k : Fin 1024), j = ix2 r k := ⟨j 0, j 1, eq_ix2 j⟩
  show out0_3 (iblk m c 0 t) (iblk m c 1 t) (iblk m c 2 t) (ix2 r k) = grad (V m c main_arg0) (V m c main_arg1) (V m c main_arg2) (((cfg0.win 3).blk t).view.emb (ix2 r k))
  have h0 : ∀ (r : Fin 512) (k : Fin 1024), (iblk m c 0 t : Vec Ideal S512x1024 .f32) (ix2 r k) = (V m c main_arg0 : Vec Ideal S2048x1024 .f32) (ix2 (row t r) k) :=
    fun r k => congrArg (V m c main_arg0) (emb0 t r k)
  have h1 : ∀ (g : Fin 2) (j : Fin 4) (r : Fin 512) (k : Fin 704), (iblk m c 1 t : Vec Ideal S2x4x512x704 .bf16) (ix4 g j r k) = (V m c main_arg1 : Vec Ideal S2x4x2048x704 .bf16) (ix4 g j (row t r) k) :=
    fun g j r k => congrArg (V m c main_arg1) (emb1 t g j r k)
  have h2 : ∀ (g : Fin 2) (j : Fin 4) (r : Fin 704) (k : Fin 1024), (iblk m c 2 t : Vec Ideal S2x4x704x1024 .bf16) (ix4 g j r k) = (V m c main_arg2 : Vec Ideal S2x4x704x1024 .bf16) (ix4 g j r k) :=
    fun g j r k => congrArg (V m c main_arg2) (emb2 t g j r k)
  refine (block_apply _ _ _ r k).trans ?_
  simp only [h0, h1, h2]
  exact (congrArg (grad (V m c main_arg0) (V m c main_arg1) (V m c main_arg2)) (emb3 t r k)).symm

theorem covered (i : S2048x1024.Idx) : ∃ t : Fin cfg0.N, (cfg0.win 3).flush t = true ∧ i ∈ ((cfg0.win 3).blk t).view.set := by
  obtain ⟨a, b, rfl⟩ : ∃ (a : Fin 2048) (b : Fin 1024), i = ix2 a b := ⟨i 0, i 1, eq_ix2 i⟩
  have ha := a.isLt
  let t : Fin cfg0.N := ⟨a.val / 512, show a.val / 512 < 4 by omega⟩
  refine ⟨t, (by decide +kernel : ∀ t : Fin grid0.N, win0_3.flush t = true) t, ?_⟩
  have h := ((cfg0.win 3).blk t).view.emb_mem_set (ix2 (⟨a.val % 512, by omega⟩ : Fin 512) b)
  rw [emb3] at h
  have e : row t ⟨a.val % 512, by omega⟩ = a := Fin.ext (show a.val / 512 * 512 + a.val % 512 = a.val by omega)
  rwa [e] at h

/-- The kernel's run: its result array is `grad` of the arguments. -/
theorem run : θ_run defs (onTc (τ := τ) (main (F := Ideal))) ⟨m, fun _ => 0, ρ⟩ fun r => ∀ c : Dev nD,
      r.2.mem ((c : Thread nD τ).loc main_v0)
        = grad (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3
    (grad (V m c main_arg0) (V m c main_arg1) (V m c main_arg2)) (fun t _ => flushed_eq m c t) covered), (h c).2⟩) (run_blocks m ρ)

/-- The reference's result, a product over all features of both projections, is the same function. -/
theorem reference_eq (dz : Vec Ideal S2048x1024 .f32) (dgu : Vec Ideal S2x4x2048x704 .bf16) (w : Vec Ideal S2x4x704x1024 .bf16) :
    Cert.FfnInputRefIdeal.Read.val_main_v21 (F := Ideal) dz dgu w = grad dz dgu w := by
  funext i
  obtain ⟨a, b, rfl⟩ : ∃ (a : Fin 2048) (b : Fin 1024), i = ix2 a b := ⟨i 0, i 1, eq_ix2 i⟩
  pointwise [grad, Cert.FfnInputRefIdeal.Read.val_main_v21, Cert.FfnInputRefIdeal.Read.val_main_v20, Cert.FfnInputRefIdeal.Read.val_main_v19, Cert.FfnInputRefIdeal.Read.val_main_cst_1, Cert.FfnInputRefIdeal.Read.val_main_v18, Cert.FfnInputRefIdeal.Read.val_main_v13, Cert.FfnInputRefIdeal.Read.val_main_v12, Cert.FfnInputRefIdeal.Read.val_main_v11, Cert.FfnInputRefIdeal.Read.val_main_v10, Cert.FfnInputRefIdeal.Read.val_main_v9, Cert.FfnInputRefIdeal.Read.val_main_v8, Cert.FfnInputRefIdeal.Read.val_main_v7, Cert.FfnInputRefIdeal.Read.val_main_v6, Cert.FfnInputRefIdeal.Read.val_main_v5, Cert.FfnInputRefIdeal.Read.val_main_v4, Cert.FfnInputRefIdeal.Read.val_main_v3, Cert.FfnInputRefIdeal.Read.val_main_v2, Cert.FfnInputRefIdeal.Read.val_main_v1, Cert.FfnInputRefIdeal.Read.val_main_v0]
  rw [add_comm, Fin.sum_univ_two, sum_blocks 4 704 rfl, sum_blocks 4 704 rfl]
  refine congrArg₂ (· + ·) rfl (congrArg₂ (· + ·) ?_ ?_) <;>
    refine Finset.sum_congr rfl fun j _ => Finset.sum_congr rfl fun k _ => congrArg₂ (· * ·) (congrArg dgu ?_) (congrArg w ?_)
  all_goals congr 1 <;> apply Fin.ext <;> show _ = _ <;> dsimp only <;> omega

/-- The program as printed and the one read at the extended reals have the same bodies. -/
theorem bodies_eq : @Cert.FfnInput.defs₀ Bits _ _ = @Cert.FfnInputIdeal.defs₀ Bits _ _ := by
  unfold Cert.FfnInput.defs₀ Cert.FfnInputIdeal.defs₀
  refine congrArg Defs.onTc (funext fun l => funext fun x => ?_)
  match l, x with
  | 0, (t, s) => rfl

/-- The kernel's frame, of the program as printed: the run of the same text at the device's own values. -/
theorem frame_kernel : Cert.quiescent_FfnInput := by
  intro m ρ _
  have h : Cert.FfnInput.defs (F := Bits) = Cert.FfnInputIdeal.defs (F := Bits) := congrArg (Pipeline.defs _) bodies_eq
  rw [h]
  exact Cert.FfnInputIdeal.Gen.frame (F := Bits) m ρ

theorem frame_ideal : Cert.quiescent_FfnInputIdeal := fun m ρ _ => Cert.FfnInputIdeal.Gen.frame (F := Ideal) m ρ

theorem frame_reference : Cert.quiescent_FfnInputRefIdeal := fun m ρ _ =>
  (θ_run Cert.FfnInputRefIdeal.defs _ _).mono (fun r h => ⟨fun c => (h c).2, sem_eq_zero_of_no_sems (by decide) r.2⟩)
    (Cert.FfnInputRefIdeal.Value.run (F := Ideal) m ρ)

theorem algebraic : Cert.algebraic_FfnInputIdeal_FfnInputRefIdeal := by
  intro m ρ m' ρ' _ hagree
  refine ⟨_, run m ρ, (θ_run Cert.FfnInputRefIdeal.defs _ _).mono (fun r h c => ⟨(h c).1.trans ?_, (h c).2⟩)
    (Cert.FfnInputRefIdeal.Value.run (F := Ideal) m' ρ')⟩
  show Cert.FfnInputRefIdeal.Read.val_main_v21 (F := Ideal) _ _ _ = _
  rw [reference_eq, (hagree c).1, (hagree c).2.1, (hagree c).2.2]

end Cert.Proof.FfnInput

end
-- ==== Proof.FfnFwdHidden.lean ====
/- The feed-forward's gate and up projections (the first call of `_ffn_fwd`): the two arrays the kernel leaves and the
   reference's two results are the functions `proj` and `hidden` of the arguments. -/
module

public import proofs.«01_k».proof.Defs
public import proofs.«01_k».proof.Proof.Gen.FfnFwdHidden
public import proofs.«01_k».proof.Proof.Gen.FfnFwdHiddenIdeal.Value
public import proofs.«01_k».proof.Proof.Gen.FfnFwdHiddenRefIdeal.Read
public import Idealize.ShloMosaic.Lib.Pointwise
public import Idealize.ShloMosaic.Lib.Claim

@[expose] public section

set_option maxRecDepth 16384

noncomputable section

namespace Cert.Proof.FfnFwdHidden

open Cert.FfnFwdHiddenIdeal Cert.FfnFwdHiddenIdeal.Gen Cert.FfnFwdHiddenIdeal.Value
open Idealize.ShloMosaic Idealize.ShloMosaic.TcCoe Idealize.SL.Sem

/-- The gate's projection (`g = 0`) and the up projection (`g = 1`), by blocks of features. -/
def proj (x : Vec Ideal S2048x1024 .bf16) (w : Vec Ideal S2x4x704x1024 .bf16) : Vec Ideal S2x4x2048x704 .bf16 :=
  fun i => ∑ d : Fin 1024, x (ix2 (i 2) d) * w (ix4 (i 0) (i 1) (i 3) d)

/-- The gate `a`, weighed by its logistic, times the up projection `b`. -/
def glu (a b : EReal) : EReal := a * Ideal.logistic a * b

/-- The hidden features. -/
def hidden (x : Vec Ideal S2048x1024 .bf16) (w : Vec Ideal S2x4x704x1024 .bf16) : Vec Ideal S4x2048x704 .bf16 :=
  fun i => glu (proj x w (ix4 0 (i 0) (i 1) (i 2))) (proj x w (ix4 1 (i 0) (i 1) (i 2)))

theorem pay1_apply (v0 : Vec Ideal S512x1024 .bf16) (v1 : Vec Ideal S1x1x704x1024 .bf16) (r : Fin 512) (k : Fin 704) :
    k0_pay1 v0 v1 (ix2 r k) = ∑ d : Fin 1024, v0 (ix2 r d) * v1 (ix4 (0 : Fin 1) (0 : Fin 1) k d) := by
  pointwise [k0_pay1]

theorem pay3_apply (v0 : Vec Ideal S512x1024 .bf16) (v1 : Vec Ideal S1x1x704x1024 .bf16) (r : Fin 512) (k : Fin 704) :
    k0_pay3 v0 v1 (ix4 (0 : Fin 1) (0 : Fin 1) r k) = ∑ d : Fin 1024, v0 (ix2 r d) * v1 (ix4 (0 : Fin 1) (0 : Fin 1) k d) := by
  pointwise [k0_pay3, pay1_apply]

theorem pay5_apply (v0 : Vec Ideal S512x1024 .bf16) (v1 v4 : Vec Ideal S1x1x704x1024 .bf16) (r : Fin 512) (k : Fin 704) :
    k0_pay5 v0 v1 v4 (ix3 (0 : Fin 1) r k) = glu (k0_pay1 v0 v1 (ix2 r k)) (k0_pay1 v0 v4 (ix2 r k)) := by
  show _ = glu (k0_pay1 v0 v1 (ix2 r k)) (k0_pay2 v0 v4 (ix2 r k))
  pointwise [k0_pay5, glu]

theorem gate_not_mem (r : Fin 512) (k : Fin 704) : (ix4 (0 : Fin 2) (0 : Fin 1) r k : S2x1x512x704.Idx) ∉ r0_4.set := by
  intro hm
  obtain ⟨y, hy⟩ := r0_4.exists_idx_of_mem hm
  have h := congrArg Fin.val (congrFun hy (0 : Fin 4))
  exact Nat.succ_ne_zero _ ((Nat.add_comm _ 1).trans h)

theorem gate_emb (r : Fin 512) (k : Fin 704) : r0_3.emb (ix4 (0 : Fin 1) (0 : Fin 1) r k) = (ix4 (0 : Fin 2) (0 : Fin 1) r k : S2x1x512x704.Idx) := by
  funext a; apply Fin.ext
  match a with
  | ⟨0, _⟩ => rfl
  | ⟨1, _⟩ => rfl
  | ⟨2, _⟩ => show 0 + 1 * r.val = r.val; omega
  | ⟨3, _⟩ => show 0 + 1 * k.val = k.val; omega

theorem up_emb (r : Fin 512) (k : Fin 704) : r0_4.emb (ix4 (0 : Fin 1) (0 : Fin 1) r k) = (ix4 (1 : Fin 2) (0 : Fin 1) r k : S2x1x512x704.Idx) := by
  funext a; apply Fin.ext
  match a with
  | ⟨0, _⟩ => rfl
  | ⟨1, _⟩ => rfl
  | ⟨2, _⟩ => show 0 + 1 * r.val = r.val; omega
  | ⟨3, _⟩ => show 0 + 1 * k.val = k.val; omega

/-- The two loads of the weights: the gate's and the up projection's. -/
theorem gate_load (x1 : Vec Ideal S2x1x704x1024 .bf16) (k : Fin 704) (d : Fin 1024) :
    View.ld x1 r0_1 (ix4 (0 : Fin 1) (0 : Fin 1) k d) = x1 (ix4 (0 : Fin 2) (0 : Fin 1) k d) := by
  refine congrArg x1 (funext fun a => Fin.ext ?_)
  match a with
  | ⟨0, _⟩ => rfl
  | ⟨1, _⟩ => rfl
  | ⟨2, _⟩ => show 0 + 1 * k.val = k.val; omega
  | ⟨3, _⟩ => show 0 + 1 * d.val = d.val; omega

theorem up_load (x1 : Vec Ideal S2x1x704x1024 .bf16) (k : Fin 704) (d : Fin 1024) :
    View.ld x1 r0_2 (ix4 (0 : Fin 1) (0 : Fin 1) k d) = x1 (ix4 (1 : Fin 2) (0 : Fin 1) k d) := by
  refine congrArg x1 (funext fun a => Fin.ext ?_)
  match a with
  | ⟨0, _⟩ => rfl
  | ⟨1, _⟩ => rfl
  | ⟨2, _⟩ => show 0 + 1 * k.val = k.val; omega
  | ⟨3, _⟩ => show 0 + 1 * d.val = d.val; omega

theorem rows_load (x0 : Vec Ideal S512x1024 .bf16) : View.ld x0 r0_0 = x0 := View.ld_unit_zero (funext fun a => by fin_cases a <;> rfl) _ _

theorem block_gate (x0 : Vec Ideal S512x1024 .bf16) (x1 : Vec Ideal S2x1x704x1024 .bf16) (r : Fin 512) (k : Fin 704) :
    out0_2 x0 x1 (ix4 (0 : Fin 2) (0 : Fin 1) r k) = ∑ d : Fin 1024, x0 (ix2 r d) * x1 (ix4 (0 : Fin 2) (0 : Fin 1) k d) := by
  unfold out0_2
  rw [rows_load]
  refine (View.canon_cons_of_not_mem (⟨r0_4, k0_pay4 x0 (View.ld x1 r0_2)⟩ : View.Piece (Elt Ideal) S2x1x512x704 .bf16) _ (gate_not_mem r k)).trans ?_
  rw [← gate_emb, View.canon_cons_emb]
  exact (pay3_apply _ _ r k).trans (Finset.sum_congr rfl fun d _ => congrArg (x0 (ix2 r d) * ·) (gate_load x1 k d))

theorem block_up (x0 : Vec Ideal S512x1024 .bf16) (x1 : Vec Ideal S2x1x704x1024 .bf16) (r : Fin 512) (k : Fin 704) :
    out0_2 x0 x1 (ix4 (1 : Fin 2) (0 : Fin 1) r k) = ∑ d : Fin 1024, x0 (ix2 r d) * x1 (ix4 (1 : Fin 2) (0 : Fin 1) k d) := by
  unfold out0_2
  rw [rows_load, ← up_emb, View.canon_cons_emb]
  exact (pay3_apply _ _ r k).trans (Finset.sum_congr rfl fun d _ => congrArg (x0 (ix2 r d) * ·) (up_load x1 k d))

theorem block_hidden (x0 : Vec Ideal S512x1024 .bf16) (x1 : Vec Ideal S2x1x704x1024 .bf16) (r : Fin 512) (k : Fin 704) :
    out0_3 x0 x1 (ix3 (0 : Fin 1) r k) = glu (∑ d : Fin 1024, x0 (ix2 r d) * x1 (ix4 (0 : Fin 2) (0 : Fin 1) k d))
      (∑ d : Fin 1024, x0 (ix2 r d) * x1 (ix4 (1 : Fin 2) (0 : Fin 1) k d)) := by
  unfold out0_3
  rw [View.canon_unit_zero (funext fun a => by fin_cases a <;> rfl), rows_load]
  refine (pay5_apply _ _ _ r k).trans ?_
  rw [pay1_apply, pay1_apply]
  exact congrArg₂ glu (Finset.sum_congr rfl fun d _ => congrArg (x0 (ix2 r d) * ·) (gate_load x1 k d))
    (Finset.sum_congr rfl fun d _ => congrArg (x0 (ix2 r d) * ·) (up_load x1 k d))

variable (m : (ℓ : Loc nD τ sig) → Buf (Elt Ideal) ℓ) (ρ : Dev nD → PrngReg)

/-- The windows' block indices: a point is a block of features and a block of rows, the rows innermost. -/
theorem points : ∀ t : Fin cfg0.N,
    (win0_0.index t (0 : Fin 2) = t.val % 4 ∧ win0_0.index t (1 : Fin 2) = 0)
    ∧ (win0_1.index t (0 : Fin 4) = 0 ∧ win0_1.index t (1 : Fin 4) = t.val / 4 ∧ win0_1.index t (2 : Fin 4) = 0 ∧ win0_1.index t (3 : Fin 4) = 0)
    ∧ (win0_2.index t (0 : Fin 4) = 0 ∧ win0_2.index t (1 : Fin 4) = t.val / 4 ∧ win0_2.index t (2 : Fin 4) = t.val % 4 ∧ win0_2.index t (3 : Fin 4) = 0)
    ∧ (win0_3.index t (0 : Fin 3) = t.val / 4 ∧ win0_3.index t (1 : Fin 3) = t.val % 4 ∧ win0_3.index t (2 : Fin 3) = 0) :=
  (by decide +kernel : ∀ t : Fin grid0.N, _)

/-- Row `r` of point `t`'s block of rows. -/
def row (t : Fin cfg0.N) (r : Fin 512) : Fin 2048 := ⟨t.val % 4 * 512 + r.val, by have h := r.isLt; omega⟩

/-- Point `t`'s block of features. -/
def col (t : Fin cfg0.N) : Fin 4 := ⟨t.val / 4, by have h : t.val < 16 := t.isLt; omega⟩

theorem emb0 (t : Fin cfg0.N) (r : Fin 512) (k : Fin 1024) :
    ((cfg0.win 0).blk t).view.emb (ix2 r k) = ix2 (row t r) k := by
  obtain ⟨⟨h0, h1⟩, -, -, -⟩ := points t
  funext a; apply Fin.ext
  match a with
  | ⟨0, _⟩ => show win0_0.index t (0 : Fin 2) * 512 + 1 * r.val = t.val % 4 * 512 + r.val; omega
  | ⟨1, _⟩ => show win0_0.index t (1 : Fin 2) * 1024 + 1 * k.val = k.val; omega

theorem emb1 (t : Fin cfg0.N) (g : Fin 2) (r : Fin 704) (k : Fin 1024) :
    ((cfg0.win 1).blk t).view.emb (ix4 g (0 : Fin 1) r k) = ix4 g (col t) r k := by
  obtain ⟨-, ⟨h0, h1, h2, h3⟩, -, -⟩ := points t
  funext a; apply Fin.ext
  match a with
  | ⟨0, _⟩ => show win0_1.index t (0 : Fin 4) * 2 + 1 * g.val = g.val; omega
  | ⟨1, _⟩ => show win0_1.index t (1 : Fin 4) * 1 + 1 * 0 = t.val / 4; omega
  | ⟨2, _⟩ => show win0_1.index t (2 : Fin 4) * 704 + 1 * r.val = r.val; omega
  | ⟨3, _⟩ => show win0_1.index t (3 : Fin 4) * 1024 + 1 * k.val = k.val; omega

theorem emb2 (t : Fin cfg0.N) (g : Fin 2) (r : Fin 512) (k : Fin 704) :
    ((cfg0.win 2).blk t).view.emb (ix4 g (0 : Fin 1) r k) = ix4 g (col t) (row t r) k := by
  obtain ⟨-, -, ⟨h0, h1, h2, h3⟩, -⟩ := points t
  funext a; apply Fin.ext
  match a with
  | ⟨0, _⟩ => show win0_2.index t (0 : Fin 4) * 2 + 1 * g.val = g.val; omega
  | ⟨1, _⟩ => show win0_2.index t (1 : Fin 4) * 1 + 1 * 0 = t.val / 4; omega
  | ⟨2, _⟩ => show win0_2.index t (2 : Fin 4) * 512 + 1 * r.val = t.val % 4 * 512 + r.val; omega
  | ⟨3, _⟩ => show win0_2.index t (3 : Fin 4) * 704 + 1 * k.val = k.val; omega

theorem emb3 (t : Fin cfg0.N) (r : Fin 512) (k : Fin 704) :
    ((cfg0.win 3).blk t).view.emb (ix3 (0 : Fin 1) r k) = ix3 (col t) (row t r) k := by
  obtain ⟨-, -, -, ⟨h0, h1, h2⟩⟩ := points t
  funext a; apply Fin.ext
  match a with
  | ⟨0, _⟩ => show win0_3.index t (0 : Fin 3) * 1 + 1 * 0 = t.val / 4; omega
  | ⟨1, _⟩ => show win0_3.index t (1 : Fin 3) * 512 + 1 * r.val = t.val % 4 * 512 + r.val; omega
  | ⟨2, _⟩ => show win0_3.index t (2 : Fin 3) * 704 + 1 * k.val = k.val; omega

theorem rows_block (c : Dev nD) (t : Fin cfg0.N) (r : Fin 512) (k : Fin 1024) :
    (iblk m c 0 t : Vec Ideal S512x1024 .bf16) (ix2 r k) = (V m c main_arg0 : Vec Ideal S2048x1024 .bf16) (ix2 (row t r) k) :=
  congrArg (V m c main_arg0) (emb0 t r k)

theorem weights_block (c : Dev nD) (t : Fin cfg0.N) (g : Fin 2) (r : Fin 704) (k : Fin 1024) :
    (iblk m c 1 t : Vec Ideal S2x1x704x1024 .bf16) (ix4 g (0 : Fin 1) r k) = (V m c main_arg1 : Vec Ideal S2x4x704x1024 .bf16) (ix4 g (col t) r k) :=
  congrArg (V m c main_arg1) (emb1 t g r k)

/-- What point `t` writes back of the projections is its block of `proj` of the arguments … -/
theorem flushed_proj (c : Dev nD) (t : Fin cfg0.N) :
    (dats m 0 c).flushed 2 t = ((cfg0.win 2).blk t).view.read (Elt Ideal) (proj (V m c main_arg0) (V m c main_arg1)) := by
  rw [flushed2]
  funext j
  obtain ⟨g, z, r, k, rfl⟩ : ∃ (g : Fin 2) (z : Fin 1) (r : Fin 512) (k : Fin 704), j = ix4 g z r k := ⟨j 0, j 1, j 2, j 3, eq_ix4 j⟩
  obtain rfl : z = 0 := Subsingleton.elim _ _
  show out0_2 (iblk m c 0 t) (iblk m c 1 t) (ix4 g (0 : Fin 1) r k) = proj (V m c main_arg0) (V m c main_arg1) (((cfg0.win 2).blk t).view.emb (ix4 g (0 : Fin 1) r k))
  refine Eq.trans ?_ (congrArg (proj (V m c main_arg0) (V m c main_arg1)) (emb2 t g r k)).symm
  match g with
  | ⟨0, _⟩ =>
    refine (block_gate _ _ r k).trans ?_
    simp only [rows_block, weights_block]
    rfl
  | ⟨1, _⟩ =>
    refine (block_up _ _ r k).trans ?_
    simp only [rows_block, weights_block]
    rfl

/-- … and of the hidden features its block of `hidden`. -/
theorem flushed_hidden (c : Dev nD) (t : Fin cfg0.N) :
    (dats m 0 c).flushed 3 t = ((cfg0.win 3).blk t).view.read (Elt Ideal) (hidden (V m c main_arg0) (V m c main_arg1)) := by
  rw [flushed3]
  funext j
  obtain ⟨z, r, k, rfl⟩ : ∃ (z : Fin 1) (r : Fin 512) (k : Fin 704), j = ix3 z r k := ⟨j 0, j 1, j 2, eq_ix3 j⟩
  obtain rfl : z = 0 := Subsingleton.elim _ _
  show out0_3 (iblk m c 0 t) (iblk m c 1 t) (ix3 (0 : Fin 1) r k) = hidden (V m c main_arg0) (V m c main_arg1) (((cfg0.win 3).blk t).view.emb (ix3 (0 : Fin 1) r k))
  refine Eq.trans ?_ (congrArg (hidden (V m c main_arg0) (V m c main_arg1)) (emb3 t r k)).symm
  refine (block_hidden _ _ r k).trans ?_
  simp only [rows_block, weights_block]
  rfl

theorem covered_proj (i : S2x4x2048x704.Idx) : ∃ t : Fin cfg0.N, (cfg0.win 2).flush t = true ∧ i ∈ ((cfg0.win 2).blk t).view.set := by
  obtain ⟨g, j, a, b, rfl⟩ : ∃ (g : Fin 2) (j : Fin 4) (a : Fin 2048) (b : Fin 704), i = ix4 g j a b := ⟨i 0, i 1, i 2, i 3, eq_ix4 i⟩
  have ha := a.isLt
  have hj := j.isLt
  let t : Fin cfg0.N := ⟨j.val * 4 + a.val / 512, show j.val * 4 + a.val / 512 < 16 by omega⟩
  refine ⟨t, (by decide +kernel : ∀ t : Fin grid0.N, win0_2.flush t = true) t, ?_⟩
  have h := ((cfg0.win 2).blk t).view.emb_mem_set (ix4 g (0 : Fin 1) (⟨a.val % 512, by omega⟩ : Fin 512) b)
  rw [emb2] at h
  have e : row t ⟨a.val % 512, by omega⟩ = a := Fin.ext (show (j.val * 4 + a.val / 512) % 4 * 512 + a.val % 512 = a.val by omega)
  have e' : col t = j := Fin.ext (show (j.val * 4 + a.val / 512) / 4 = j.val by omega)
  rwa [e, e'] at h

theorem covered_hidden (i : S4x2048x704.Idx) : ∃ t : Fin cfg0.N, (cfg0.win 3).flush t = true ∧ i ∈ ((cfg0.win 3).blk t).view.set := by
  obtain ⟨j, a, b, rfl⟩ : ∃ (j : Fin 4) (a : Fin 2048) (b : Fin 704), i = ix3 j a b := ⟨i 0, i 1, i 2, eq_ix3 i⟩
  have ha := a.isLt
  have hj := j.isLt
  let t : Fin cfg0.N := ⟨j.val * 4 + a.val / 512, show j.val * 4 + a.val / 512 < 16 by omega⟩
  refine ⟨t, (by decide +kernel : ∀ t : Fin grid0.N, win0_3.flush t = true) t, ?_⟩
  have h := ((cfg0.win 3).blk t).view.emb_mem_set (ix3 (0 : Fin 1) (⟨a.val % 512, by omega⟩ : Fin 512) b)
  rw [emb3] at h
  have e : row t ⟨a.val % 512, by omega⟩ = a := Fin.ext (show (j.val * 4 + a.val / 512) % 4 * 512 + a.val % 512 = a.val by omega)
  have e' : col t = j := Fin.ext (show (j.val * 4 + a.val / 512) / 4 = j.val by omega)
  rwa [e, e'] at h

/-- The kernel's run: its result arrays are `proj` and `hidden` of the arguments. -/
theorem run : θ_run defs (onTc (τ := τ) (main (F := Ideal))) ⟨m, fun _ => 0, ρ⟩ fun r => ∀ c : Dev nD,
      r.2.mem ((c : Thread nD τ).loc main_v0_0) = proj (m ((c : Thread nD τ).loc main_arg0)) (m ((c : Thread nD τ).loc main_arg1))
      ∧ r.2.mem ((c : Thread nD τ).loc main_v0_1) = hidden (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2
      (proj (V m c main_arg0) (V m c main_arg1)) (fun t _ => flushed_proj m c t) covered_proj),
    (h c).2.1.trans ((dats m 0 c).arrAt_eq_of_cover 3
      (hidden (V m c main_arg0) (V m c main_arg1)) (fun t _ => flushed_hidden m c t) covered_hidden), (h c).2.2⟩) (run_blocks m ρ)

/-- The reference's product over all features at once, at block `j`'s feature `k` of the gate and of the up projection. -/
theorem product_eq (x : Vec Ideal S2048x1024 .bf16) (w : Vec Ideal S2x4x704x1024 .bf16) (g : Fin 2) (j : Fin 4) (s : Fin 2048) (k : Fin 704)
    (n : Fin 5632) (hn : n.val = g.val * 2816 + j.val * 704 + k.val) :
    Cert.FfnFwdHiddenRefIdeal.Read.val_main_v4 (F := Ideal) x w (ix2 s n) = proj x w (ix4 g j s k) := by
  pointwise [proj, Cert.FfnFwdHiddenRefIdeal.Read.val_main_v4, Cert.FfnFwdHiddenRefIdeal.Read.val_main_v3, Cert.FfnFwdHiddenRefIdeal.Read.val_main_v2, Cert.FfnFwdHiddenRefIdeal.Read.val_main_v1, Cert.FfnFwdHiddenRefIdeal.Read.val_main_v0]
  have hg := g.isLt
  have hj := j.isLt
  have hk := k.isLt
  have e : ∀ (p : Fin 2) (q : Fin 4) (o : Fin 704) (d : Fin 1024), p.val = g.val → q.val = j.val → o.val = k.val → w (ix4 p q o d) = w (ix4 g j k d) := by
    intro p q o d h1 h2 h3
    rw [Fin.ext h1, Fin.ext h2, Fin.ext h3]
  exact Finset.sum_congr rfl fun d _ => congrArg (x (ix2 s d) * ·) (e _ _ _ d (by show n.val / 2816 = _; omega) (by show n.val / 704 % 4 = _; omega)
    (by show n.val % 704 = _; omega))

/-- The reference's results are the same functions. -/
theorem proj_eq (x : Vec Ideal S2048x1024 .bf16) (w : Vec Ideal S2x4x704x1024 .bf16) :
    Cert.FfnFwdHiddenRefIdeal.Read.val_main_v18 (F := Ideal) x w = proj x w := by
  funext i
  obtain ⟨g, j, a, b, rfl⟩ : ∃ (g : Fin 2) (j : Fin 4) (a : Fin 2048) (b : Fin 704), i = ix4 g j a b := ⟨i 0, i 1, i 2, i 3, eq_ix4 i⟩
  match g with
  | ⟨0, _⟩ =>
    refine Eq.trans ?_ (product_eq x w 0 j a b ⟨j.val * 704 + b.val, by have h := j.isLt; have h' := b.isLt; omega⟩ (show j.val * 704 + b.val = 0 * 2816 + j.val * 704 + b.val by omega))
    pointwise [Cert.FfnFwdHiddenRefIdeal.Read.val_main_v18, Cert.FfnFwdHiddenRefIdeal.Read.val_main_v17, Cert.FfnFwdHiddenRefIdeal.Read.val_main_v16, Cert.FfnFwdHiddenRefIdeal.Read.val_main_v15, Cert.FfnFwdHiddenRefIdeal.Read.val_main_v14, Cert.FfnFwdHiddenRefIdeal.Read.val_main_v13, Cert.FfnFwdHiddenRefIdeal.Read.val_main_v12, Cert.FfnFwdHiddenRefIdeal.Read.val_main_v11, Cert.FfnFwdHiddenRefIdeal.Read.val_main_v10, Cert.FfnFwdHiddenRefIdeal.Read.val_main_v9]
  | ⟨1, _⟩ =>
    refine Eq.trans ?_ (product_eq x w 1 j a b ⟨2816 + (j.val * 704 + b.val), by have h := j.isLt; have h' := b.isLt; omega⟩ (show 2816 + (j.val * 704 + b.val) = 1 * 2816 + j.val * 704 + b.val by omega))
    pointwise [Cert.FfnFwdHiddenRefIdeal.Read.val_main_v18, Cert.FfnFwdHiddenRefIdeal.Read.val_main_v17, Cert.FfnFwdHiddenRefIdeal.Read.val_main_v16, Cert.FfnFwdHiddenRefIdeal.Read.val_main_v15, Cert.FfnFwdHiddenRefIdeal.Read.val_main_v14, Cert.FfnFwdHiddenRefIdeal.Read.val_main_v13, Cert.FfnFwdHiddenRefIdeal.Read.val_main_v12, Cert.FfnFwdHiddenRefIdeal.Read.val_main_v11, Cert.FfnFwdHiddenRefIdeal.Read.val_main_v10, Cert.FfnFwdHiddenRefIdeal.Read.val_main_v9]

theorem hidden_eq (x : Vec Ideal S2048x1024 .bf16) (w : Vec Ideal S2x4x704x1024 .bf16) :
    Cert.FfnFwdHiddenRefIdeal.Read.val_main_v21 (F := Ideal) x w = hidden x w := by
  funext i
  obtain ⟨j, a, b, rfl⟩ : ∃ (j : Fin 4) (a : Fin 2048) (b : Fin 704), i = ix3 j a b := ⟨i 0, i 1, i 2, eq_ix3 i⟩
  show _ = glu (proj x w (ix4 0 j a b)) (proj x w (ix4 1 j a b))
  rw [← product_eq x w 0 j a b ⟨j.val * 704 + b.val, by have h := j.isLt; have h' := b.isLt; omega⟩ (show j.val * 704 + b.val = 0 * 2816 + j.val * 704 + b.val by omega),
    ← product_eq x w 1 j a b ⟨2816 + (j.val * 704 + b.val), by have h := j.isLt; have h' := b.isLt; omega⟩ (show 2816 + (j.val * 704 + b.val) = 1 * 2816 + j.val * 704 + b.val by omega)]
  pointwise [glu, Cert.FfnFwdHiddenRefIdeal.Read.val_main_v21, Cert.FfnFwdHiddenRefIdeal.Read.val_main_v20, Cert.FfnFwdHiddenRefIdeal.Read.val_main_v19, Cert.FfnFwdHiddenRefIdeal.Read.val_main_v8, Cert.FfnFwdHiddenRefIdeal.Read.val_main_v7, Cert.FfnFwdHiddenRefIdeal.Read.val_main_v6, Cert.FfnFwdHiddenRefIdeal.Read.val_main_v5, Cert.FfnFwdHiddenRefIdeal.Read.val_main_call0_v5, Cert.FfnFwdHiddenRefIdeal.Read.val_main_call0_v4, Cert.FfnFwdHiddenRefIdeal.Read.val_main_call0_v3, Cert.FfnFwdHiddenRefIdeal.Read.val_main_call0_v2, Cert.FfnFwdHiddenRefIdeal.Read.val_main_call0_v1, Cert.FfnFwdHiddenRefIdeal.Read.val_main_call0_v0, Cert.FfnFwdHiddenRefIdeal.Read.val_main_call0_cst, Cert.FfnFwdHiddenRefIdeal.Read.val_main_call0_cst_0]
  rfl

/-- The program as printed and the one read at the extended reals have the same bodies. -/
theorem bodies_eq : @Cert.FfnFwdHidden.defs₀ Bits _ _ = @Cert.FfnFwdHiddenIdeal.defs₀ Bits _ _ := by
  unfold Cert.FfnFwdHidden.defs₀ Cert.FfnFwdHiddenIdeal.defs₀
  refine congrArg Defs.onTc (funext fun l => funext fun x => ?_)
  match l, x with
  | 0, (t, s) => rfl

/-- The kernel's frame, of the program as printed: the run of the same text at the device's own values. -/
theorem frame_kernel : Cert.quiescent_FfnFwdHidden := by
  intro m ρ _
  have h : Cert.FfnFwdHidden.defs (F := Bits) = Cert.FfnFwdHiddenIdeal.defs (F := Bits) := congrArg (Pipeline.defs _) bodies_eq
  rw [h]
  exact Cert.FfnFwdHiddenIdeal.Gen.frame (F := Bits) m ρ

theorem frame_ideal : Cert.quiescent_FfnFwdHiddenIdeal := fun m ρ _ => Cert.FfnFwdHiddenIdeal.Gen.frame (F := Ideal) m ρ

theorem frame_reference : Cert.quiescent_FfnFwdHiddenRefIdeal := fun m ρ _ =>
  (θ_run Cert.FfnFwdHiddenRefIdeal.defs _ _).mono (fun r h => ⟨fun c => (h c).2.2, sem_eq_zero_of_no_sems (by decide) r.2⟩)
    (Cert.FfnFwdHiddenRefIdeal.Value.run (F := Ideal) m ρ)

theorem algebraic : Cert.algebraic_FfnFwdHiddenIdeal_FfnFwdHiddenRefIdeal := by
  intro m ρ m' ρ' _ hagree
  refine ⟨_, _, run m ρ, (θ_run Cert.FfnFwdHiddenRefIdeal.defs _ _).mono (fun r h c => ⟨((h c).1.trans (Cert.FfnFwdHiddenRefIdeal.Read.val_main_v18_eq _ _)).trans ?_,
      ((h c).2.1.trans (Cert.FfnFwdHiddenRefIdeal.Read.val_main_v21_eq _ _)).trans ?_, (h c).2.2⟩)
    (Cert.FfnFwdHiddenRefIdeal.Value.run (F := Ideal) m' ρ')⟩
  · rw [proj_eq, (hagree c).1, (hagree c).2]
  · rw [hidden_eq, (hagree c).1, (hagree c).2]

end Cert.Proof.FfnFwdHidden

end
-- ==== Proof.LayerNorm.lean ====
/- The layer norm of a row of 1024 features. -/
module

public import Idealize.ShloMosaic.PureOps.Ideal

@[expose] public section

noncomputable section

namespace Cert.Proof

open Idealize.ShloMosaic

/-- A row's mean. -/
def mean (z : Fin 1024 → EReal) : EReal := Ideal.div (∑ c : Fin 1024, z c) (Ideal.ofBits .f32 0x44800000#32)

/-- The row less its mean, divided by the square root of its variance (a small constant added), scaled and shifted. -/
def layerNorm (z : Fin 1024 → EReal) (s b : EReal) (c : Fin 1024) : EReal :=
  (z c - mean z) * Ideal.rsqrt (mean (fun k => (z k - mean z) * (z k - mean z)) + Ideal.ofBits .f32 0x3727C5AC#32) * s + b

end Cert.Proof

end
-- ==== Proof.FfnFwdDown.lean ====
/- The feed-forward's down projection, its residual and the layer norm after it (the second call of `_ffn_fwd`): the three
   arrays the kernel leaves and the reference's three results are the functions `pre` and `norm` of the arguments (the third
   is the second in the narrower format). -/
module

public import proofs.«01_k».proof.Defs
public import proofs.«01_k».proof.Proof.Gen.FfnFwdDown
public import proofs.«01_k».proof.Proof.Gen.FfnFwdDownIdeal.Value
public import proofs.«01_k».proof.Proof.Gen.FfnFwdDownRefIdeal.Read
public import proofs.«01_k».proof.Proof.Sums
public import proofs.«01_k».proof.Proof.LayerNorm
public import Idealize.ShloMosaic.Lib.Pointwise
public import Idealize.ShloMosaic.Lib.Claim

@[expose] public section

set_option maxRecDepth 16384

noncomputable section

namespace Cert.Proof.FfnFwdDown

open Cert.FfnFwdDownIdeal Cert.FfnFwdDownIdeal.Gen Cert.FfnFwdDownIdeal.Value
open Idealize.ShloMosaic Idealize.ShloMosaic.TcCoe Idealize.SL.Sem

/-- The residual and the down projection, before the layer norm. -/
def pre (x : Vec Ideal S2048x1024 .f32) (h : Vec Ideal S4x2048x704 .bf16) (w : Vec Ideal S4x704x1024 .bf16) (s : Fin 2048) (c : Fin 1024) : EReal :=
  Ideal.ofBits .f32 0x3FB504F3#32 * x (ix2 s c) + ∑ j : Fin 4, ∑ k : Fin 704, h (ix3 j s k) * w (ix3 j k c)

def preArr (x : Vec Ideal S2048x1024 .f32) (h : Vec Ideal S4x2048x704 .bf16) (w : Vec Ideal S4x704x1024 .bf16) : Vec Ideal S2048x1024 .f32 :=
  fun i => pre x h w (i 0) (i 1)

def norm (x : Vec Ideal S2048x1024 .f32) (h : Vec Ideal S4x2048x704 .bf16) (w : Vec Ideal S4x704x1024 .bf16) (sc b : Vec Ideal S1x1024 .f32) (i : S2048x1024.Idx) : EReal :=
  layerNorm (pre x h w (i 0)) (sc (ix2 0 (i 1))) (b (ix2 0 (i 1))) (i 1)

/-- The same of one block of 512 rows. -/
def preBlock (x0 : Vec Ideal S512x1024 .f32) (x1 : Vec Ideal S4x512x704 .bf16) (x2 : Vec Ideal S4x704x1024 .bf16) (r : Fin 512) (c : Fin 1024) : EReal :=
  Ideal.ofBits .f32 0x3FB504F3#32 * x0 (ix2 r c) + ∑ j : Fin 4, ∑ k : Fin 704, x1 (ix3 j r k) * x2 (ix3 j k c)

theorem pay4_apply (x0 : Vec Ideal S512x1024 .f32) (x1 : Vec Ideal S4x512x704 .bf16) (x2 : Vec Ideal S4x704x1024 .bf16) (x3 x4 : Vec Ideal S1x1024 .f32) (r : Fin 512) (c : Fin 1024) :
    k0_pay4 x0 x1 x2 x3 x4 (ix2 r c) = preBlock x0 x1 x2 r c := by
  pointwise [k0_pay4, k0_pay3, preBlock]
  simp only [Fin.sum_univ_four, add_assoc]

theorem pay1_apply (z : Vec Ideal S512x1024 .f32) (sc b : Vec Ideal S1x1024 .f32) (r : Fin 512) (c : Fin 1024) :
    k0_pay1 z sc b (ix2 r c) = layerNorm (fun c => z (ix2 r c)) (sc (ix2 (0 : Fin 1) c)) (b (ix2 (0 : Fin 1) c)) c := by
  pointwise [k0_pay1, layerNorm, mean]

theorem block_pre (x0 : Vec Ideal S512x1024 .f32) (x1 : Vec Ideal S4x512x704 .bf16) (x2 : Vec Ideal S4x704x1024 .bf16) (x3 x4 : Vec Ideal S1x1024 .f32) (r : Fin 512) (c : Fin 1024) :
    out0_5 x0 x1 x2 x3 x4 (ix2 r c) = preBlock x0 x1 x2 r c := by
  unfold out0_5
  rw [View.canon_unit_zero (funext fun a => by fin_cases a <;> rfl)]
  exact pay4_apply x0 x1 x2 x3 x4 r c

theorem vec_load (x : Vec Ideal S1x1024 .f32) : View.ld x r0_9 = x := View.ld_unit_zero (funext fun a => by fin_cases a <;> rfl) _ _

theorem block_norm (x0 : Vec Ideal S512x1024 .f32) (x1 : Vec Ideal S4x512x704 .bf16) (x2 : Vec Ideal S4x704x1024 .bf16) (x3 x4 : Vec Ideal S1x1024 .f32) (r : Fin 512) (c : Fin 1024) :
    out0_6 x0 x1 x2 x3 x4 (ix2 r c) = layerNorm (preBlock x0 x1 x2 r) (x3 (ix2 (0 : Fin 1) c)) (x4 (ix2 (0 : Fin 1) c)) c := by
  unfold out0_6
  rw [View.canon_unit_zero (funext fun a => by fin_cases a <;> rfl), vec_load, vec_load]
  refine (pay1_apply _ _ _ r c).trans ?_
  simp only [pay4_apply]

theorem block_norm_narrow (x0 : Vec Ideal S512x1024 .f32) (x1 : Vec Ideal S4x512x704 .bf16) (x2 : Vec Ideal S4x704x1024 .bf16) (x3 x4 : Vec Ideal S1x1024 .f32) (r : Fin 512) (c : Fin 1024) :
    out0_7 x0 x1 x2 x3 x4 (ix2 r c) = layerNorm (preBlock x0 x1 x2 r) (x3 (ix2 (0 : Fin 1) c)) (x4 (ix2 (0 : Fin 1) c)) c := by
  unfold out0_7
  rw [View.canon_unit_zero (funext fun a => by fin_cases a <;> rfl), vec_load, vec_load]
  show k0_pay1 (k0_pay4 x0 x1 x2 x3 x4) x3 x4 (ix2 r c) = _
  refine (pay1_apply _ _ _ r c).trans ?_
  simp only [pay4_apply]

variable (m : (ℓ : Loc nD τ sig) → Buf (Elt Ideal) ℓ) (ρ : Dev nD → PrngReg)

/-- The windows' block indices: the arrays with rows move with the point, the weights, the scale and the bias stay. -/
theorem points : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The three arrays written move alike. -/
theorem out_points : ∀ t : Fin cfg0.N, (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

/-- Row `r` of point `t`'s block. -/
def row (t : Fin cfg0.N) (r : Fin 512) : Fin 2048 := ⟨t.val * 512 + r.val, by have h1 : t.val < 4 := t.isLt; have h2 := r.isLt; omega⟩

theorem emb0 (t : Fin cfg0.N) (r : Fin 512) (k : Fin 1024) :
    ((cfg0.win 0).blk t).view.emb (ix2 r k) = ix2 (row t r) k := by
  obtain ⟨⟨h0, h1⟩, -⟩ := points t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (j : Fin 4) (r : Fin 512) (k : Fin 704) :
    ((cfg0.win 1).blk t).view.emb (ix3 j r k) = ix3 j (row t r) k := by
  obtain ⟨-, ⟨h0, h1, h2⟩, -⟩ := points t
  funext a; apply Fin.ext
  match a with
  | ⟨0, _⟩ => show win0_1.index t (0 : Fin 3) * 4 + 1 * j.val = j.val; omega
  | ⟨1, _⟩ => show win0_1.index t (1 : Fin 3) * 512 + 1 * r.val = t.val * 512 + r.val; omega
  | ⟨2, _⟩ => show win0_1.index t (2 : Fin 3) * 704 + 1 * k.val = k.val; omega

theorem emb2 (t : Fin cfg0.N) (j : Fin 4) (r : Fin 704) (k : Fin 1024) :
    ((cfg0.win 2).blk t).view.emb (ix3 j r k) = ix3 j r k := by
  obtain ⟨-, -, ⟨h0, h1, h2⟩, -⟩ := points t
  funext a; apply Fin.ext
  match a with
  | ⟨0, _⟩ => show win0_2.index t (0 : Fin 3) * 4 + 1 * j.val = j.val; omega
  | ⟨1, _⟩ => show win0_2.index t (1 : Fin 3) * 704 + 1 * r.val = r.val; omega
  | ⟨2, _⟩ => show win0_2.index t (2 : Fin 3) * 1024 + 1 * k.val = k.val; omega

theorem emb3 (t : Fin cfg0.N) (k : Fin 1024) : ((cfg0.win 3).blk t).view.emb (ix2 (0 : Fin 1) k) = ix2 (0 : Fin 1) k := by
  obtain ⟨-, -, -, ⟨h0, h1⟩, -⟩ := points t
  funext a; apply Fin.ext
  match a with
  | ⟨0, _⟩ => show win0_3.index t (0 : Fin 2) * 1 + 1 * 0 = 0; omega
  | ⟨1, _⟩ => show win0_3.index t (1 : Fin 2) * 1024 + 1 * k.val = k.val; omega

theorem emb4 (t : Fin cfg0.N) (k : Fin 1024) : ((cfg0.win 4).blk t).view.emb (ix2 (0 : Fin 1) k) = ix2 (0 : Fin 1) k := by
  obtain ⟨-, -, -, -, ⟨h0, h1⟩⟩ := points t
  funext a; apply Fin.ext
  match a with
  | ⟨0, _⟩ => show win0_4.index t (0 : Fin 2) * 1 + 1 * 0 = 0; omega
  | ⟨1, _⟩ => show win0_4.index t (1 : Fin 2) * 1024 + 1 * k.val = k.val; omega

theorem emb5 (t : Fin cfg0.N) (r : Fin 512) (k : Fin 1024) :
    ((cfg0.win 5).blk t).view.emb (ix2 r k) = ix2 (row t r) k := by
  obtain ⟨⟨h0, h1⟩, -, -⟩ := out_points t
  funext a; apply Fin.ext
  match a with
  | ⟨0, _⟩ => show win0_5.index t (0 : Fin 2) * 512 + 1 * r.val = t.val * 512 + r.val; omega
  | ⟨1, _⟩ => show win0_5.index t (1 : Fin 2) * 1024 + 1 * k.val = k.val; omega

theorem covered5 (i : S2048x1024.Idx) : ∃ t : Fin cfg0.N, (cfg0.win 5).flush t = true ∧ i ∈ ((cfg0.win 5).blk t).view.set := by
  obtain ⟨a, b, rfl⟩ : ∃ (a : Fin 2048) (b : Fin 1024), i = ix2 a b := ⟨i 0, i 1, eq_ix2 i⟩
  have ha := a.isLt
  let t : Fin cfg0.N := ⟨a.val / 512, show a.val / 512 < 4 by omega⟩
  refine ⟨t, (by decide +kernel : ∀ t : Fin grid0.N, win0_5.flush t = true) t, ?_⟩
  have h := ((cfg0.win 5).blk t).view.emb_mem_set (ix2 (⟨a.val % 512, by omega⟩ : Fin 512) b)
  rw [emb5] at h
  have e : row t ⟨a.val % 512, by omega⟩ = a := Fin.ext (show a.val / 512 * 512 + a.val % 512 = a.val by omega)
  rwa [e] at h

theorem emb6 (t : Fin cfg0.N) (r : Fin 512) (k : Fin 1024) :
    ((cfg0.win 6).blk t).view.emb (ix2 r k) = ix2 (row t r) k := by
  obtain ⟨-, ⟨h0, h1⟩, -⟩ := out_points t
  funext a; apply Fin.ext
  match a with
  | ⟨0, _⟩ => show win0_6.index t (0 : Fin 2) * 512 + 1 * r.val = t.val * 512 + r.val; omega
  | ⟨1, _⟩ => show win0_6.index t (1 : Fin 2) * 1024 + 1 * k.val = k.val; omega

theorem covered6 (i : S2048x1024.Idx) : ∃ t : Fin cfg0.N, (cfg0.win 6).flush t = true ∧ i ∈ ((cfg0.win 6).blk t).view.set := by
  obtain ⟨a, b, rfl⟩ : ∃ (a : Fin 2048) (b : Fin 1024), i = ix2 a b := ⟨i 0, i 1, eq_ix2 i⟩
  have ha := a.isLt
  let t : Fin cfg0.N := ⟨a.val / 512, show a.val / 512 < 4 by omega⟩
  refine ⟨t, (by decide +kernel : ∀ t : Fin grid0.N, win0_6.flush t = true) t, ?_⟩
  have h := ((cfg0.win 6).blk t).view.emb_mem_set (ix2 (⟨a.val % 512, by omega⟩ : Fin 512) b)
  rw [emb6] at h
  have e : row t ⟨a.val % 512, by omega⟩ = a := Fin.ext (show a.val / 512 * 512 + a.val % 512 = a.val by omega)
  rwa [e] at h

theorem emb7 (t : Fin cfg0.N) (r : Fin 512) (k : Fin 1024) :
    ((cfg0.win 7).blk t).view.emb (ix2 r k) = ix2 (row t r) k := by
  obtain ⟨-, -, ⟨h0, h1⟩⟩ := out_points t
  funext a; apply Fin.ext
  match a with
  | ⟨0, _⟩ => show win0_7.index t (0 : Fin 2) * 512 + 1 * r.val = t.val * 512 + r.val; omega
  | ⟨1, _⟩ => show win0_7.index t (1 : Fin 2) * 1024 + 1 * k.val = k.val; omega

theorem covered7 (i : S2048x1024.Idx) : ∃ t : Fin cfg0.N, (cfg0.win 7).flush t = true ∧ i ∈ ((cfg0.win 7).blk t).view.set := by
  obtain ⟨a, b, rfl⟩ : ∃ (a : Fin 2048) (b : Fin 1024), i = ix2 a b := ⟨i 0, i 1, eq_ix2 i⟩
  have ha := a.isLt
  let t : Fin cfg0.N := ⟨a.val / 512, show a.val / 512 < 4 by omega⟩
  refine ⟨t, (by decide +kernel : ∀ t : Fin grid0.N, win0_7.flush t = true) t, ?_⟩
  have h := ((cfg0.win 7).blk t).view.emb_mem_set (ix2 (⟨a.val % 512, by omega⟩ : Fin 512) b)
  rw [emb7] at h
  have e : row t ⟨a.val % 512, by omega⟩ = a := Fin.ext (show a.val / 512 * 512 + a.val % 512 = a.val by omega)
  rwa [e] at h

theorem pre_block (c : Dev nD) (t : Fin cfg0.N) (r : Fin 512) :
    preBlock (iblk m c 0 t) (iblk m c 1 t) (iblk m c 2 t) r = pre (V m c main_arg0) (V m c main_arg1) (V m c main_arg2) (row t r) := by
  funext k
  have h0 : ∀ (r : Fin 512) (k : Fin 1024), (iblk m c 0 t : Vec Ideal S512x1024 .f32) (ix2 r k) = (V m c main_arg0 : Vec Ideal S2048x1024 .f32) (ix2 (row t r) k) :=
    fun r k => congrArg (V m c main_arg0) (emb0 t r k)
  have h1 : ∀ (j : Fin 4) (r : Fin 512) (k : Fin 704), (iblk m c 1 t : Vec Ideal S4x512x704 .bf16) (ix3 j r k) = (V m c main_arg1 : Vec Ideal S4x2048x704 .bf16) (ix3 j (row t r) k) :=
    fun j r k => congrArg (V m c main_arg1) (emb1 t j r k)
  have h2 : ∀ (j : Fin 4) (r : Fin 704) (k : Fin 1024), (iblk m c 2 t : Vec Ideal S4x704x1024 .bf16) (ix3 j r k) = (V m c main_arg2 : Vec Ideal S4x704x1024 .bf16) (ix3 j r k) :=
    fun j r k => congrArg (V m c main_arg2) (emb2 t j r k)
  unfold preBlock pre
  simp only [h0, h1, h2]

theorem scale_block (c : Dev nD) (t : Fin cfg0.N) (k : Fin 1024) :
    (iblk m c 3 t : Vec Ideal S1x1024 .f32) (ix2 (0 : Fin 1) k) = (V m c main_arg3 : Vec Ideal S1x1024 .f32) (ix2 (0 : Fin 1) k) :=
  congrArg (V m c main_arg3) (emb3 t k)

theorem bias_block (c : Dev nD) (t : Fin cfg0.N) (k : Fin 1024) :
    (iblk m c 4 t : Vec Ideal S1x1024 .f32) (ix2 (0 : Fin 1) k) = (V m c main_arg4 : Vec Ideal S1x1024 .f32) (ix2 (0 : Fin 1) k) :=
  congrArg (V m c main_arg4) (emb4 t k)

/-- What point `t` writes back is its block of the functions of the arguments. -/
theorem flushed_pre (c : Dev nD) (t : Fin cfg0.N) :
    (dats m 0 c).flushed 5 t = ((cfg0.win 5).blk t).view.read (Elt Ideal) (preArr (V m c main_arg0) (V m c main_arg1) (V m c main_arg2)) := by
  rw [flushed5]
  funext j
  obtain ⟨r, k, rfl⟩ : ∃ (r : Fin 512) (k : Fin 1024), j = ix2 r k := ⟨j 0, j 1, eq_ix2 j⟩
  show out0_5 (iblk m c 0 t) (iblk m c 1 t) (iblk m c 2 t) (iblk m c 3 t) (iblk m c 4 t) (ix2 r k) = preArr (V m c main_arg0) (V m c main_arg1) (V m c main_arg2) (((cfg0.win 5).blk t).view.emb (ix2 r k))
  refine ((block_pre _ _ _ _ _ r k).trans (congrFun (pre_block m c t r) k)).trans ?_
  exact (congrArg (preArr (V m c main_arg0) (V m c main_arg1) (V m c main_arg2)) (emb5 t r k)).symm

theorem flushed_norm (c : Dev nD) (t : Fin cfg0.N) :
    (dats m 0 c).flushed 6 t = ((cfg0.win 6).blk t).view.read (Elt Ideal) (norm (V m c main_arg0) (V m c main_arg1) (V m c main_arg2) (V m c main_arg3) (V m c main_arg4)) := by
  rw [flushed6]
  funext j
  obtain ⟨r, k, rfl⟩ : ∃ (r : Fin 512) (k : Fin 1024), j = ix2 r k := ⟨j 0, j 1, eq_ix2 j⟩
  show out0_6 (iblk m c 0 t) (iblk m c 1 t) (iblk m c 2 t) (iblk m c 3 t) (iblk m c 4 t) (ix2 r k) = norm (V m c main_arg0) (V m c main_arg1) (V m c main_arg2) (V m c main_arg3) (V m c main_arg4) (((cfg0.win 6).blk t).view.emb (ix2 r k))
  refine (block_norm _ _ _ _ _ r k).trans ?_
  rw [pre_block, scale_block, bias_block]
  exact (congrArg (norm (V m c main_arg0) (V m c main_arg1) (V m c main_arg2) (V m c main_arg3) (V m c main_arg4)) (emb6 t r k)).symm

theorem flushed_norm_narrow (c : Dev nD) (t : Fin cfg0.N) :
    (dats m 0 c).flushed 7 t = ((cfg0.win 7).blk t).view.read (Elt Ideal) (norm (V m c main_arg0) (V m c main_arg1) (V m c main_arg2) (V m c main_arg3) (V m c main_arg4)) := by
  rw [flushed7]
  funext j
  obtain ⟨r, k, rfl⟩ : ∃ (r : Fin 512) (k : Fin 1024), j = ix2 r k := ⟨j 0, j 1, eq_ix2 j⟩
  show out0_7 (iblk m c 0 t) (iblk m c 1 t) (iblk m c 2 t) (iblk m c 3 t) (iblk m c 4 t) (ix2 r k) = norm (V m c main_arg0) (V m c main_arg1) (V m c main_arg2) (V m c main_arg3) (V m c main_arg4) (((cfg0.win 7).blk t).view.emb (ix2 r k))
  refine (block_norm_narrow _ _ _ _ _ r k).trans ?_
  rw [pre_block, scale_block, bias_block]
  exact (congrArg (norm (V m c main_arg0) (V m c main_arg1) (V m c main_arg2) (V m c main_arg3) (V m c main_arg4)) (emb7 t r k)).symm

/-- The kernel's run: its result arrays are these functions of the arguments. -/
theorem run : θ_run defs (onTc (τ := τ) (main (F := Ideal))) ⟨m, fun _ => 0, ρ⟩ fun r => ∀ c : Dev nD,
      r.2.mem ((c : Thread nD τ).loc main_v0_0) = preArr (m ((c : Thread nD τ).loc main_arg0)) (m ((c : Thread nD τ).loc main_arg1)) (m ((c : Thread nD τ).loc main_arg2))
      ∧ r.2.mem ((c : Thread nD τ).loc main_v0_1) = norm (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = norm (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5
      (preArr (V m c main_arg0) (V m c main_arg1) (V m c main_arg2)) (fun t _ => flushed_pre m c t) covered5),
    (h c).2.1.trans ((dats m 0 c).arrAt_eq_of_cover 6
      (norm (V m c main_arg0) (V m c main_arg1) (V m c main_arg2) (V m c main_arg3) (V m c main_arg4)) (fun t _ => flushed_norm m c t) covered6),
    (h c).2.2.1.trans ((dats m 0 c).arrAt_eq_of_cover 7
      (norm (V m c main_arg0) (V m c main_arg1) (V m c main_arg2) (V m c main_arg3) (V m c main_arg4)) (fun t _ => flushed_norm_narrow m c t) covered7), (h c).2.2.2⟩) (run_blocks m ρ)

/-- The reference's results are the same functions. -/
theorem pre_eq (x : Vec Ideal S2048x1024 .f32) (h : Vec Ideal S4x2048x704 .bf16) (w : Vec Ideal S4x704x1024 .bf16) (a : Fin 2048) (b : Fin 1024) :
    Cert.FfnFwdDownRefIdeal.Read.val_main_v8 (F := Ideal) x h w (ix2 a b) = pre x h w a b := by
  pointwise [pre, Cert.FfnFwdDownRefIdeal.Read.val_main_v8, Cert.FfnFwdDownRefIdeal.Read.val_main_v7, Cert.FfnFwdDownRefIdeal.Read.val_main_v6, Cert.FfnFwdDownRefIdeal.Read.val_main_v5, Cert.FfnFwdDownRefIdeal.Read.val_main_v4, Cert.FfnFwdDownRefIdeal.Read.val_main_v3, Cert.FfnFwdDownRefIdeal.Read.val_main_v2, Cert.FfnFwdDownRefIdeal.Read.val_main_v1, Cert.FfnFwdDownRefIdeal.Read.val_main_v0, Cert.FfnFwdDownRefIdeal.Read.val_main_cst]
  rw [sum_blocks 4 704 rfl]
  have e : ∀ (j p : Fin 4) (k q : Fin 704), p.val * 704 + q.val = j.val * 704 + k.val → h (ix3 p a q) * w (ix3 p q b) = h (ix3 j a k) * w (ix3 j k b) := by
    intro j p k q hpq
    have hk := k.isLt
    have hq := q.isLt
    have e1 : p = j := Fin.ext (by omega)
    have e2 : q = k := Fin.ext (by omega)
    rw [e1, e2]
  exact congrArg (_ + ·) (Finset.sum_congr rfl fun j _ => Finset.sum_congr rfl fun k _ =>
    e j _ k _ (by show (j.val * 704 + k.val) / 704 * 704 + (j.val * 704 + k.val) % 704 = _; omega))

theorem norm_eq (x : Vec Ideal S2048x1024 .f32) (h : Vec Ideal S4x2048x704 .bf16) (w : Vec Ideal S4x704x1024 .bf16) (sc b : Vec Ideal S1x1024 .f32) :
    Cert.FfnFwdDownRefIdeal.Read.val_main_v30 (F := Ideal) x h w sc b = norm x h w sc b := by
  funext i
  obtain ⟨a, c, rfl⟩ : ∃ (a : Fin 2048) (c : Fin 1024), i = ix2 a c := ⟨i 0, i 1, eq_ix2 i⟩
  pointwise [norm, layerNorm, mean, pre_eq, Cert.FfnFwdDownRefIdeal.Read.val_main_v30, Cert.FfnFwdDownRefIdeal.Read.val_main_v29, Cert.FfnFwdDownRefIdeal.Read.val_main_v28, Cert.FfnFwdDownRefIdeal.Read.val_main_v27, Cert.FfnFwdDownRefIdeal.Read.val_main_v26, Cert.FfnFwdDownRefIdeal.Read.val_main_v25, Cert.FfnFwdDownRefIdeal.Read.val_main_v24, Cert.FfnFwdDownRefIdeal.Read.val_main_v23, Cert.FfnFwdDownRefIdeal.Read.val_main_v22, Cert.FfnFwdDownRefIdeal.Read.val_main_v21, Cert.FfnFwdDownRefIdeal.Read.val_main_v20, Cert.FfnFwdDownRefIdeal.Read.val_main_v19, Cert.FfnFwdDownRefIdeal.Read.val_main_v18, Cert.FfnFwdDownRefIdeal.Read.val_main_v17, Cert.FfnFwdDownRefIdeal.Read.val_main_v16, Cert.FfnFwdDownRefIdeal.Read.val_main_v15, Cert.FfnFwdDownRefIdeal.Read.val_main_v14, Cert.FfnFwdDownRefIdeal.Read.val_main_v13, Cert.FfnFwdDownRefIdeal.Read.val_main_v12, Cert.FfnFwdDownRefIdeal.Read.val_main_v11, Cert.FfnFwdDownRefIdeal.Read.val_main_v10, Cert.FfnFwdDownRefIdeal.Read.val_main_v9, Cert.FfnFwdDownRefIdeal.Read.val_main_cst_0, Cert.FfnFwdDownRefIdeal.Read.val_main_cst_1, Cert.FfnFwdDownRefIdeal.Read.val_main_cst_2, Cert.FfnFwdDownRefIdeal.Read.val_main_cst_3, Cert.FfnFwdDownRefIdeal.Read.val_main_cst_4]

/-- The program as printed and the one read at the extended reals have the same bodies. -/
theorem bodies_eq : @Cert.FfnFwdDown.defs₀ Bits _ _ = @Cert.FfnFwdDownIdeal.defs₀ Bits _ _ := by
  unfold Cert.FfnFwdDown.defs₀ Cert.FfnFwdDownIdeal.defs₀
  refine congrArg Defs.onTc (funext fun l => funext fun x => ?_)
  match l, x with
  | 0, (t, s) => rfl

/-- The kernel's frame, of the program as printed: the run of the same text at the device's own values. -/
theorem frame_kernel : Cert.quiescent_FfnFwdDown := by
  intro m ρ _
  have h : Cert.FfnFwdDown.defs (F := Bits) = Cert.FfnFwdDownIdeal.defs (F := Bits) := congrArg (Pipeline.defs _) bodies_eq
  rw [h]
  exact Cert.FfnFwdDownIdeal.Gen.frame (F := Bits) m ρ

theorem frame_ideal : Cert.quiescent_FfnFwdDownIdeal := fun m ρ _ => Cert.FfnFwdDownIdeal.Gen.frame (F := Ideal) m ρ

theorem frame_reference : Cert.quiescent_FfnFwdDownRefIdeal := fun m ρ _ =>
  (θ_run Cert.FfnFwdDownRefIdeal.defs _ _).mono (fun r h => ⟨fun c => (h c).2.2.2, sem_eq_zero_of_no_sems (by decide) r.2⟩)
    (Cert.FfnFwdDownRefIdeal.Value.run (F := Ideal) m ρ)

theorem algebraic : Cert.algebraic_FfnFwdDownIdeal_FfnFwdDownRefIdeal := by
  intro m ρ m' ρ' _ hagree
  refine ⟨_, _, _, run m ρ, (θ_run Cert.FfnFwdDownRefIdeal.defs _ _).mono (fun r h c => ⟨((h c).1.trans (Cert.FfnFwdDownRefIdeal.Read.val_main_v8_eq _ _ _)).trans ?_,
      ((h c).2.1.trans (Cert.FfnFwdDownRefIdeal.Read.val_main_v30_eq m' c)).trans ?_, ((h c).2.2.1.trans (Cert.FfnFwdDownRefIdeal.Read.val_main_v31_eq m' c)).trans ?_, (h c).2.2.2⟩)
    (Cert.FfnFwdDownRefIdeal.Value.run (F := Ideal) m' ρ')⟩
  · rw [(hagree c).1, (hagree c).2.1, (hagree c).2.2.1]
    exact funext fun i => (congrArg _ (eq_ix2 i)).trans (pre_eq _ _ _ (i 0) (i 1))
  · rw [norm_eq, (hagree c).1, (hagree c).2.1, (hagree c).2.2.1, (hagree c).2.2.2.1, (hagree c).2.2.2.2]
  · rw [← (hagree c).1, ← (hagree c).2.1, ← (hagree c).2.2.1, ← (hagree c).2.2.2.1, ← (hagree c).2.2.2.2]
    exact norm_eq _ _ _ _ _

end Cert.Proof.FfnFwdDown

end
-- ==== Proof.InProj.lean ====
/- The recurrent layer's input projection (`_inproj_fwd`): the array the kernel leaves and the reference's result are one
   function `proj` of the arguments. -/
module

public import proofs.«01_k».proof.Defs
public import proofs.«01_k».proof.Proof.Gen.InProj
public import proofs.«01_k».proof.Proof.Gen.InProjIdeal.Value
public import proofs.«01_k».proof.Proof.Gen.InProjRefIdeal.Read
public import Idealize.ShloMosaic.Lib.Pointwise
public import Idealize.ShloMosaic.Lib.Claim

@[expose] public section

set_option maxRecDepth 16384

noncomputable section

namespace Cert.Proof.InProj

open Cert.InProjIdeal Cert.InProjIdeal.Gen Cert.InProjIdeal.Value
open Idealize.ShloMosaic Idealize.ShloMosaic.TcCoe Idealize.SL.Sem

/-- Column `k` of projection `g` (q, f, v, g) lies with device `owner g k` … -/
def owner (g : Fin 4) (k : Fin 1024) : Fin 8 := ⟨2 * g.val + k.val / 512, by have h := g.isLt; have h' := k.isLt; omega⟩

/-- … at its place `place k`. -/
def place (k : Fin 1024) : Fin 512 := ⟨k.val % 512, by omega⟩

/-- The product of the input with the weights that the eight devices' columns make up. -/
def proj (x : Vec Ideal S2048x1024 .bf16) (w : Vec Ideal S8x1024x512 .bf16) : Vec Ideal S4x2048x1024 .f32 :=
  fun i => ∑ d : Fin 1024, x (ix2 (i 1) d) * w (ix3 (owner (i 0) (i 2)) d (place (i 2)))

/-- The same of one block of rows. -/
def projBlock (x0 : Vec Ideal S256x1024 .bf16) (x1 : Vec Ideal S8x1024x512 .bf16) : Vec Ideal S4x256x1024 .f32 :=
  fun i => ∑ d : Fin 1024, x0 (ix2 (i 1) d) * x1 (ix3 (owner (i 0) (i 2)) d (place (i 2)))

/-- A device's product, whichever of the eight. -/
theorem pay_apply (v0 : Vec Ideal S256x1024 .bf16) (v1 : Vec Ideal S1x1024x512 .bf16) (r : Fin 256) (k : Fin 512) :
    k0_pay1 v0 v1 (ix3 (0 : Fin 1) r k) = ∑ d : Fin 1024, v0 (ix2 r d) * v1 (ix3 (0 : Fin 1) d k) := by
  pointwise [k0_pay1]

/-- Device `j`'s product, stored at columns `o` of projection `g`, is `projBlock` there. -/
theorem piece_eq (x0 : Vec Ideal S256x1024 .bf16) (x1 : Vec Ideal S8x1024x512 .bf16) (j g o : Nat) (hj : j = 2 * g + o / 512) (ho : o % 512 = 0)
    (b1 : ∀ a, (![j, 0, 0] : Fin 3 → Nat) a + S1x1024x512.size a ≤ S8x1024x512.size a)
    (b2 : ∀ a, (![g, 0, o] : Fin 3 → Nat) a + S1x256x512.size a ≤ S4x256x1024.size a) (y : S1x256x512.Idx) :
    k0_pay1 x0 (View.ld x1 (Rect.unit (s := S8x1024x512) ![j, 0, 0] S1x1024x512.size b1)) y
      = projBlock x0 x1 ((Rect.unit (s := S4x256x1024) ![g, 0, o] S1x256x512.size b2).emb y) := by
  obtain ⟨z, r, k, rfl⟩ : ∃ (z : Fin 1) (r : Fin 256) (k : Fin 512), y = ix3 z r k := ⟨y 0, y 1, y 2, eq_ix3 y⟩
  obtain rfl : z = 0 := Subsingleton.elim _ _
  refine (pay_apply _ _ r k).trans (Finset.sum_congr rfl fun d _ => congrArg₂ (· * ·) (congrArg x0 ?_) (congrArg x1 ?_))
  · funext a; apply Fin.ext
    match a with
    | ⟨0, _⟩ => show r.val = 0 + 1 * r.val; omega
    | ⟨1, _⟩ => rfl
  · have hk := k.isLt
    funext a; apply Fin.ext
    match a with
    | ⟨0, _⟩ => show j + 1 * 0 = 2 * (g + 1 * 0) + (o + 1 * k.val) / 512; omega
    | ⟨1, _⟩ => show 0 + 1 * d.val = d.val; omega
    | ⟨2, _⟩ => show 0 + 1 * k.val = (o + 1 * k.val) % 512; omega

theorem block_eq (x0 : Vec Ideal S256x1024 .bf16) (x1 : Vec Ideal S8x1024x512 .bf16) : out0_2 x0 x1 = projBlock x0 x1 := by
  funext y
  have h0 : View.ld x0 r0_0 = x0 := View.ld_unit_zero (funext fun a => by fin_cases a <;> rfl) _ _
  unfold out0_2
  rw [h0]
  refine View.canon_apply_of_pieces (projBlock x0 x1) _ ?_ y (cover0_2 _ _ _ _ _ _ _ _ y)
  simp only [List.forall_mem_cons]
  exact ⟨piece_eq x0 x1 7 3 512 rfl rfl _ _, piece_eq x0 x1 6 3 0 rfl rfl _ _, piece_eq x0 x1 5 2 512 rfl rfl _ _, piece_eq x0 x1 4 2 0 rfl rfl _ _,
    piece_eq x0 x1 3 1 512 rfl rfl _ _, piece_eq x0 x1 2 1 0 rfl rfl _ _, piece_eq x0 x1 1 0 512 rfl rfl _ _, piece_eq x0 x1 0 0 0 rfl rfl _ _,
    fun p hp => absurd hp List.not_mem_nil⟩

variable (m : (ℓ : Loc nD τ sig) → Buf (Elt Ideal) ℓ) (ρ : Dev nD → PrngReg)

/-- The windows' block indices: the two arrays with rows move with the point, the weights stay. -/
theorem points : ∀ t : Fin cfg0.N,
    (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = t.val ∧ win0_2.index t (2 : Fin 3) = 0) :=
  (by decide +kernel : ∀ t : Fin grid0.N, _)

/-- Row `r` of point `t`'s block. -/
def row (t : Fin cfg0.N) (r : Fin 256) : Fin 2048 := ⟨t.val * 256 + r.val, by have h1 : t.val < 8 := t.isLt; have h2 := r.isLt; omega⟩

theorem emb0 (t : Fin cfg0.N) (r : Fin 256) (k : Fin 1024) :
    ((cfg0.win 0).blk t).view.emb (ix2 r k) = ix2 (row t r) k := by
  obtain ⟨⟨h0, h1⟩, -, -⟩ := points t
  funext a; apply Fin.ext
  match a with
  | ⟨0, _⟩ => show win0_0.index t (0 : Fin 2) * 256 + 1 * r.val = t.val * 256 + r.val; omega
  | ⟨1, _⟩ => show win0_0.index t (1 : Fin 2) * 1024 + 1 * k.val = k.val; omega

theorem emb1 (t : Fin cfg0.N) (j : Fin 8) (d : Fin 1024) (k : Fin 512) :
    ((cfg0.win 1).blk t).view.emb (ix3 j d k) = ix3 j d k := by
  obtain ⟨-, ⟨h0, h1, h2⟩, -⟩ := points t
  funext a; apply Fin.ext
  match a with
  | ⟨0, _⟩ => show win0_1.index t (0 : Fin 3) * 8 + 1 * j.val = j.val; omega
  | ⟨1, _⟩ => show win0_1.index t (1 : Fin 3) * 1024 + 1 * d.val = d.val; omega
  | ⟨2, _⟩ => show win0_1.index t (2 : Fin 3) * 512 + 1 * k.val = k.val; omega

theorem emb2 (t : Fin cfg0.N) (g : Fin 4) (r : Fin 256) (k : Fin 1024) :
    ((cfg0.win 2).blk t).view.emb (ix3 g r k) = ix3 g (row t r) k := by
  obtain ⟨-, -, ⟨h0, h1, h2⟩⟩ := points t
  funext a; apply Fin.ext
  match a with
  | ⟨0, _⟩ => show win0_2.index t (0 : Fin 3) * 4 + 1 * g.val = g.val; omega
  | ⟨1, _⟩ => show win0_2.index t (1 : Fin 3) * 256 + 1 * r.val = t.val * 256 + r.val; omega
  | ⟨2, _⟩ => show win0_2.index t (2 : Fin 3) * 1024 + 1 * k.val = k.val; omega

/-- What point `t` writes back is its block of `proj` of the arguments. -/
theorem flushed_eq (c : Dev nD) (t : Fin cfg0.N) :
    (dats m 0 c).flushed 2 t = ((cfg0.win 2).blk t).view.read (Elt Ideal) (proj (V m c main_arg0) (V m c main_arg1)) := by
  rw [flushed2]
  funext j
  obtain ⟨g, r, k, rfl⟩ : ∃ (g : Fin 4) (r : Fin 256) (k : Fin 1024), j = ix3 g r k := ⟨j 0, j 1, j 2, eq_ix3 j⟩
  show out0_2 (iblk m c 0 t) (iblk m c 1 t) (ix3 g r k) = proj (V m c main_arg0) (V m c main_arg1) (((cfg0.win 2).blk t).view.emb (ix3 g r k))
  have h0 : ∀ (r : Fin 256) (k : Fin 1024), (iblk m c 0 t : Vec Ideal S256x1024 .bf16) (ix2 r k) = (V m c main_arg0 : Vec Ideal S2048x1024 .bf16) (ix2 (row t r) k) :=
    fun r k => congrArg (V m c main_arg0) (emb0 t r k)
  have h1 : ∀ (j : Fin 8) (d : Fin 1024) (k : Fin 512), (iblk m c 1 t : Vec Ideal S8x1024x512 .bf16) (ix3 j d k) = (V m c main_arg1 : Vec Ideal S8x1024x512 .bf16) (ix3 j d k) :=
    fun j d k => congrArg (V m c main_arg1) (emb1 t j d k)
  refine (congrFun (block_eq _ _) _).trans ?_
  refine Eq.trans ?_ (congrArg (proj (V m c main_arg0) (V m c main_arg1)) (emb2 t g r k)).symm
  exact Finset.sum_congr rfl fun d _ => congrArg₂ (· * ·) (h0 r d) (h1 _ d _)

theorem covered (i : S4x2048x1024.Idx) : ∃ t : Fin cfg0.N, (cfg0.win 2).flush t = true ∧ i ∈ ((cfg0.win 2).blk t).view.set := by
  obtain ⟨g, a, b, rfl⟩ : ∃ (g : Fin 4) (a : Fin 2048) (b : Fin 1024), i = ix3 g a b := ⟨i 0, i 1, i 2, eq_ix3 i⟩
  have ha := a.isLt
  let t : Fin cfg0.N := ⟨a.val / 256, show a.val / 256 < 8 by omega⟩
  refine ⟨t, (by decide +kernel : ∀ t : Fin grid0.N, win0_2.flush t = true) t, ?_⟩
  have h := ((cfg0.win 2).blk t).view.emb_mem_set (ix3 g (⟨a.val % 256, by omega⟩ : Fin 256) b)
  rw [emb2] at h
  have e : row t ⟨a.val % 256, by omega⟩ = a := Fin.ext (show a.val / 256 * 256 + a.val % 256 = a.val by omega)
  rwa [e] at h

/-- The kernel's run: its result array is `proj` of the arguments. -/
theorem run : θ_run defs (onTc (τ := τ) (main (F := Ideal))) ⟨m, fun _ => 0, ρ⟩ fun r => ∀ c : Dev nD,
      r.2.mem ((c : Thread nD τ).loc main_v0) = proj (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans ((dats m 0 c).arrAt_eq_of_cover 2
    (proj (V m c main_arg0) (V m c main_arg1)) (fun t _ => flushed_eq m c t) covered)).trans (by rw [V_main_arg0, V_main_arg1]), (h c).2⟩) (run_blocks m ρ)

/-- The reference's result, one product with all the columns, is the same function. -/
theorem reference_eq (x : Vec Ideal S2048x1024 .bf16) (w : Vec Ideal S8x1024x512 .bf16) :
    Cert.InProjRefIdeal.Read.val_main_v13 (F := Ideal) x w = proj x w := by
  funext i
  obtain ⟨g, a, k, rfl⟩ : ∃ (g : Fin 4) (a : Fin 2048) (k : Fin 1024), i = ix3 g a k := ⟨i 0, i 1, i 2, eq_ix3 i⟩
  pointwise [proj, Cert.InProjRefIdeal.Read.val_main_v13, Cert.InProjRefIdeal.Read.val_main_v12, Cert.InProjRefIdeal.Read.val_main_v11, Cert.InProjRefIdeal.Read.val_main_v10, Cert.InProjRefIdeal.Read.val_main_v9, Cert.InProjRefIdeal.Read.val_main_v8, Cert.InProjRefIdeal.Read.val_main_v7, Cert.InProjRefIdeal.Read.val_main_v6, Cert.InProjRefIdeal.Read.val_main_v5, Cert.InProjRefIdeal.Read.val_main_v4, Cert.InProjRefIdeal.Read.val_main_v3, Cert.InProjRefIdeal.Read.val_main_v2, Cert.InProjRefIdeal.Read.val_main_v1, Cert.InProjRefIdeal.Read.val_main_v0]
  have e : ∀ (p : Fin 8) (q : Fin 512), p.val * 512 + q.val = g.val * 1024 + k.val →
      ∑ s, x (ix2 a s) * w (ix3 p s q) = ∑ s, x (ix2 a s) * w (ix3 (owner g k) s (place k)) := by
    intro p q h
    have hk := k.isLt
    have hq := q.isLt
    have e1 : p = owner g k := Fin.ext (show p.val = 2 * g.val + k.val / 512 by omega)
    have e2 : q = place k := Fin.ext (show q.val = k.val % 512 by omega)
    rw [e1, e2]
  have hg := g.isLt
  have hk := k.isLt
  split_ifs with h1 h2 h3
  · exact e _ _ (show k.val / 512 * 512 + k.val % 512 = _ by omega)
  · exact e _ _ (show (1024 + k.val) / 512 * 512 + (1024 + k.val) % 512 = _ by omega)
  · exact e _ _ (show (2048 + k.val) / 512 * 512 + (2048 + k.val) % 512 = _ by omega)
  · exact e _ _ (show (3072 + k.val) / 512 * 512 + (3072 + k.val) % 512 = _ by omega)

/-- The program as printed and the one read at the extended reals have the same bodies. -/
theorem bodies_eq : @Cert.InProj.defs₀ Bits _ _ = @Cert.InProjIdeal.defs₀ Bits _ _ := by
  unfold Cert.InProj.defs₀ Cert.InProjIdeal.defs₀
  refine congrArg Defs.onTc (funext fun l => funext fun x => ?_)
  match l, x with
  | 0, (t, s) => rfl

/-- The kernel's frame, of the program as printed: the run of the same text at the device's own values. -/
theorem frame_kernel : Cert.quiescent_InProj := by
  intro m ρ _
  have h : Cert.InProj.defs (F := Bits) = Cert.InProjIdeal.defs (F := Bits) := congrArg (Pipeline.defs _) bodies_eq
  rw [h]
  exact Cert.InProjIdeal.Gen.frame (F := Bits) m ρ

theorem frame_ideal : Cert.quiescent_InProjIdeal := fun m ρ _ => Cert.InProjIdeal.Gen.frame (F := Ideal) m ρ

theorem frame_reference : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem algebraic : Cert.algebraic_InProjIdeal_InProjRefIdeal := by
  intro m ρ m' ρ' _ hagree
  refine ⟨_, run m ρ, (θ_run Cert.InProjRefIdeal.defs _ _).mono (fun r h c => ⟨((h c).1.trans (Cert.InProjRefIdeal.Read.val_main_v13_eq _ _)).trans ?_, (h c).2⟩)
    (Cert.InProjRefIdeal.Value.run (F := Ideal) m' ρ')⟩
  rw [reference_eq, (hagree c).1, (hagree c).2]

end Cert.Proof.InProj

end
-- ==== Proof.InInput.lean ====
/- The gradient of the step's input (`_inproj_bwd`): the array the kernel leaves and the reference's result are one function
   `grad` of the arguments. -/
module

public import proofs.«01_k».proof.Defs
public import proofs.«01_k».proof.Proof.Gen.InInput
public import proofs.«01_k».proof.Proof.Gen.InInputIdeal.Value
public import proofs.«01_k».proof.Proof.Gen.InInputRefIdeal.Read
public import proofs.«01_k».proof.Proof.Sums
public import Idealize.ShloMosaic.Lib.Pointwise
public import Idealize.ShloMosaic.Lib.Claim

@[expose] public section

set_option maxRecDepth 16384

noncomputable section

namespace Cert.Proof.InInput

open Cert.InInputIdeal Cert.InInputIdeal.Gen Cert.InInputIdeal.Value
open Idealize.ShloMosaic Idealize.ShloMosaic.TcCoe Idealize.SL.Sem

/-- Device `j`'s columns lie in projection `part j` of the four (q, f, v, g) … -/
def part (j : Fin 8) : Fin 4 := ⟨j.val / 2, by have h := j.isLt; omega⟩

/-- … in its first half or its second. -/
def col (j : Fin 8) (k : Fin 512) : Fin 1024 := ⟨j.val % 2 * 512 + k.val, by have h := k.isLt; omega⟩

/-- The residual's share of the gradient, and for each device's columns the product of the projections' gradients with the
    transposed weights. -/
def grad (dz : Vec Ideal S2048x1024 .f32) (d : Vec Ideal S4x2048x1024 .bf16) (w : Vec Ideal S8x1024x512 .bf16) : Vec Ideal S2048x1024 .f32 :=
  fun i => Ideal.ofBits .f32 0x3FB504F3#32 * dz i + ∑ j : Fin 8, ∑ k : Fin 512, d (ix3 (part j) (i 0) (col j k)) * w (ix3 j (i 1) k)

/-- The same of one block of 512 rows. -/
theorem block_apply (x0 : Vec Ideal S512x1024 .f32) (x1 : Vec Ideal S4x512x1024 .bf16) (x2 : Vec Ideal S8x1024x512 .bf16) (r : Fin 512) (c : Fin 1024) :
    out0_3 x0 x1 x2 (ix2 r c)
      = Ideal.ofBits .f32 0x3FB504F3#32 * x0 (ix2 r c) + ∑ j : Fin 8, ∑ k : Fin 512, x1 (ix3 (part j) r (col j k)) * x2 (ix3 j c k) := by
  unfold out0_3
  rw [View.canon_unit_zero (funext fun a => by fin_cases a <;> rfl)]
  pointwise [k0_pay1, k0_pay2]
  simp only [Fin.sum_univ_eight, add_assoc]
  congr 1

variable (m : (ℓ : Loc nD τ sig) → Buf (Elt Ideal) ℓ) (ρ : Dev nD → PrngReg)

/-- The windows' block indices: the three arrays with rows move with the point, the weights stay. -/
theorem points : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = t.val ∧ win0_3.index t (1 : Fin 2) = 0) :=
  (by decide +kernel : ∀ t : Fin grid0.N, _)

/-- Row `r` of point `t`'s block. -/
def row (t : Fin cfg0.N) (r : Fin 512) : Fin 2048 := ⟨t.val * 512 + r.val, by have h1 : t.val < 4 := t.isLt; have h2 := r.isLt; omega⟩

theorem emb0 (t : Fin cfg0.N) (r : Fin 512) (k : Fin 1024) :
    ((cfg0.win 0).blk t).view.emb (ix2 r k) = ix2 (row t r) k := by
  obtain ⟨⟨h0, h1⟩, -, -, -⟩ := points t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (g : Fin 4) (r : Fin 512) (k : Fin 1024) :
    ((cfg0.win 1).blk t).view.emb (ix3 g r k) = ix3 g (row t r) k := by
  obtain ⟨-, ⟨h0, h1, h2⟩, -, -⟩ := points t
  funext a; apply Fin.ext
  match a with
  | ⟨0, _⟩ => show win0_1.index t (0 : Fin 3) * 4 + 1 * g.val = g.val; omega
  | ⟨1, _⟩ => show win0_1.index t (1 : Fin 3) * 512 + 1 * r.val = t.val * 512 + r.val; omega
  | ⟨2, _⟩ => show win0_1.index t (2 : Fin 3) * 1024 + 1 * k.val = k.val; omega

theorem emb2 (t : Fin cfg0.N) (j : Fin 8) (r : Fin 1024) (k : Fin 512) :
    ((cfg0.win 2).blk t).view.emb (ix3 j r k) = ix3 j r k := by
  obtain ⟨-, -, ⟨h0, h1, h2⟩, -⟩ := points t
  funext a; apply Fin.ext
  match a with
  | ⟨0, _⟩ => show win0_2.index t (0 : Fin 3) * 8 + 1 * j.val = j.val; omega
  | ⟨1, _⟩ => show win0_2.index t (1 : Fin 3) * 1024 + 1 * r.val = r.val; omega
  | ⟨2, _⟩ => show win0_2.index t (2 : Fin 3) * 512 + 1 * k.val = k.val; omega

theorem emb3 (t : Fin cfg0.N) (r : Fin 512) (k : Fin 1024) :
    ((cfg0.win 3).blk t).view.emb (ix2 r k) = ix2 (row t r) k := by
  obtain ⟨-, -, -, ⟨h0, h1⟩⟩ := points t
  funext a; apply Fin.ext
  match a with
  | ⟨0, _⟩ => show win0_3.index t (0 : Fin 2) * 512 + 1 * r.val = t.val * 512 + r.val; omega
  | ⟨1, _⟩ => show win0_3.index t (1 : Fin 2) * 1024 + 1 * k.val = k.val; omega

/-- What point `t` writes back is its block of `grad` of the arguments. -/
theorem flushed_eq (c : Dev nD) (t : Fin cfg0.N) :
    (dats m 0 c).flushed 3 t
      = ((cfg0.win 3).blk t).view.read (Elt Ideal) (grad (V m c main_arg0) (V m c main_arg1) (V m c main_arg2)) := by
  rw [flushed3]
  funext j
  obtain ⟨r, k, rfl⟩ : ∃ (r : Fin 512) (k : Fin 1024), j = ix2 r k := ⟨j 0, j 1, eq_ix2 j⟩
  show out0_3 (iblk m c 0 t) (iblk m c 1 t) (iblk m c 2 t) (ix2 r k) = grad (V m c main_arg0) (V m c main_arg1) (V m c main_arg2) (((cfg0.win 3).blk t).view.emb (ix2 r k))
  have h0 : ∀ (r : Fin 512) (k : Fin 1024), (iblk m c 0 t : Vec Ideal S512x1024 .f32) (ix2 r k) = (V m c main_arg0 : Vec Ideal S2048x1024 .f32) (ix2 (row t r) k) :=
    fun r k => congrArg (V m c main_arg0) (emb0 t r k)
  have h1 : ∀ (g : Fin 4) (r : Fin 512) (k : Fin 1024), (iblk m c 1 t : Vec Ideal S4x512x1024 .bf16) (ix3 g r k) = (V m c main_arg1 : Vec Ideal S4x2048x1024 .bf16) (ix3 g (row t r) k) :=
    fun g r k => congrArg (V m c main_arg1) (emb1 t g r k)
  have h2 : ∀ (j : Fin 8) (r : Fin 1024) (k : Fin 512), (iblk m c 2 t : Vec Ideal S8x1024x512 .bf16) (ix3 j r k) = (V m c main_arg2 : Vec Ideal S8x1024x512 .bf16) (ix3 j r k) :=
    fun j r k => congrArg (V m c main_arg2) (emb2 t j r k)
  refine (block_apply _ _ _ r k).trans ?_
  simp only [h0, h1, h2]
  exact (congrArg (grad (V m c main_arg0) (V m c main_arg1) (V m c main_arg2)) (emb3 t r k)).symm

theorem covered (i : S2048x1024.Idx) : ∃ t : Fin cfg0.N, (cfg0.win 3).flush t = true ∧ i ∈ ((cfg0.win 3).blk t).view.set := by
  obtain ⟨a, b, rfl⟩ : ∃ (a : Fin 2048) (b : Fin 1024), i = ix2 a b := ⟨i 0, i 1, eq_ix2 i⟩
  have ha := a.isLt
  let t : Fin cfg0.N := ⟨a.val / 512, show a.val / 512 < 4 by omega⟩
  refine ⟨t, (by decide +kernel : ∀ t : Fin grid0.N, win0_3.flush t = true) t, ?_⟩
  have h := ((cfg0.win 3).blk t).view.emb_mem_set (ix2 (⟨a.val % 512, by omega⟩ : Fin 512) b)
  rw [emb3] at h
  have e : row t ⟨a.val % 512, by omega⟩ = a := Fin.ext (show a.val / 512 * 512 + a.val % 512 = a.val by omega)
  rwa [e] at h

/-- The kernel's run: its result array is `grad` of the arguments. -/
theorem run : θ_run defs (onTc (τ := τ) (main (F := Ideal))) ⟨m, fun _ => 0, ρ⟩ fun r => ∀ c : Dev nD,
      r.2.mem ((c : Thread nD τ).loc main_v0)
        = grad (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3
    (grad (V m c main_arg0) (V m c main_arg1) (V m c main_arg2)) (fun t _ => flushed_eq m c t) covered), (h c).2⟩) (run_blocks m ρ)

/-- The reference's result, a product over all columns, is the same function. -/
theorem reference_eq (dz : Vec Ideal S2048x1024 .f32) (d : Vec Ideal S4x2048x1024 .bf16) (w : Vec Ideal S8x1024x512 .bf16) :
    Cert.InInputRefIdeal.Read.val_main_v23 (F := Ideal) dz d w = grad dz d w := by
  funext i
  obtain ⟨a, b, rfl⟩ : ∃ (a : Fin 2048) (b : Fin 1024), i = ix2 a b := ⟨i 0, i 1, eq_ix2 i⟩
  pointwise [grad, Cert.InInputRefIdeal.Read.val_main_v23, Cert.InInputRefIdeal.Read.val_main_v22, Cert.InInputRefIdeal.Read.val_main_v21, Cert.InInputRefIdeal.Read.val_main_v20, Cert.InInputRefIdeal.Read.val_main_v15, Cert.InInputRefIdeal.Read.val_main_v14, Cert.InInputRefIdeal.Read.val_main_v13, Cert.InInputRefIdeal.Read.val_main_v12, Cert.InInputRefIdeal.Read.val_main_v11, Cert.InInputRefIdeal.Read.val_main_v10, Cert.InInputRefIdeal.Read.val_main_v9, Cert.InInputRefIdeal.Read.val_main_v8, Cert.InInputRefIdeal.Read.val_main_v7, Cert.InInputRefIdeal.Read.val_main_v6, Cert.InInputRefIdeal.Read.val_main_v5, Cert.InInputRefIdeal.Read.val_main_v4, Cert.InInputRefIdeal.Read.val_main_v3, Cert.InInputRefIdeal.Read.val_main_v2, Cert.InInputRefIdeal.Read.val_main_v1, Cert.InInputRefIdeal.Read.val_main_v0, Cert.InInputRefIdeal.Read.val_main_cst_1]
  rw [add_comm]
  congr 1
  rw [sum_blocks 8 512 rfl]
  refine Finset.sum_congr rfl fun j _ => Finset.sum_congr rfl fun k _ => ?_
  have hj := j.isLt
  have hk := k.isLt
  have e : ∀ (p : Fin 4) (q : Fin 1024), p.val * 1024 + q.val = j.val * 512 + k.val → d (ix3 p a q) = d (ix3 (part j) a (col j k)) := by
    intro p q h
    have hq := q.isLt
    have e1 : p = part j := Fin.ext (show p.val = j.val / 2 by omega)
    have e2 : q = col j k := Fin.ext (show q.val = j.val % 2 * 512 + k.val by omega)
    rw [e1, e2]
  have ew : ∀ (p : Fin 8) (q : Fin 512), p.val * 512 + q.val = j.val * 512 + k.val → w (ix3 p b q) = w (ix3 j b k) := by
    intro p q h
    have hq := q.isLt
    have e1 : p = j := Fin.ext (by omega)
    have e2 : q = k := Fin.ext (by omega)
    rw [e1, e2]
  refine congrArg₂ _ ?_ (ew _ _ (show (j.val * 512 + k.val) / 512 * 512 + (j.val * 512 + k.val) % 512 = _ by omega))
  by_cases h1 : j.val * 512 + k.val < 1024
  · rw [dif_pos h1]
    exact e 0 _ (by show 0 * 1024 + (j.val * 512 + k.val) = _; omega)
  rw [dif_neg h1]
  by_cases h2 : j.val * 512 + k.val - 1024 < 1024
  · rw [dif_pos h2]
    exact e 1 _ (by show 1 * 1024 + (j.val * 512 + k.val - 1024) = _; omega)
  rw [dif_neg h2]
  by_cases h3 : j.val * 512 + k.val - 1024 - 1024 < 1024
  · rw [dif_pos h3]
    exact e 2 _ (by show 2 * 1024 + (j.val * 512 + k.val - 1024 - 1024) = _; omega)
  rw [dif_neg h3]
  exact e 3 _ (by show 3 * 1024 + (j.val * 512 + k.val - 1024 - 1024 - 1024) = _; omega)

/-- The program as printed and the one read at the extended reals have the same bodies. -/
theorem bodies_eq : @Cert.InInput.defs₀ Bits _ _ = @Cert.InInputIdeal.defs₀ Bits _ _ := by
  unfold Cert.InInput.defs₀ Cert.InInputIdeal.defs₀
  refine congrArg Defs.onTc (funext fun l => funext fun x => ?_)
  match l, x with
  | 0, (t, s) => rfl

/-- The kernel's frame, of the program as printed: the run of the same text at the device's own values. -/
theorem frame_kernel : Cert.quiescent_InInput := by
  intro m ρ _
  have h : Cert.InInput.defs (F := Bits) = Cert.InInputIdeal.defs (F := Bits) := congrArg (Pipeline.defs _) bodies_eq
  rw [h]
  exact Cert.InInputIdeal.Gen.frame (F := Bits) m ρ

theorem frame_ideal : Cert.quiescent_InInputIdeal := fun m ρ _ => Cert.InInputIdeal.Gen.frame (F := Ideal) m ρ

theorem frame_reference : Cert.quiescent_InInputRefIdeal := fun m ρ _ =>
  (θ_run Cert.InInputRefIdeal.defs _ _).mono (fun r h => ⟨fun c => (h c).2, sem_eq_zero_of_no_sems (by decide) r.2⟩)
    (Cert.InInputRefIdeal.Value.run (F := Ideal) m ρ)

theorem algebraic : Cert.algebraic_InInputIdeal_InInputRefIdeal := by
  intro m ρ m' ρ' _ hagree
  refine ⟨_, run m ρ, (θ_run Cert.InInputRefIdeal.defs _ _).mono (fun r h c => ⟨((h c).1.trans (Cert.InInputRefIdeal.Read.val_main_v23_eq _ _ _)).trans ?_, (h c).2⟩)
    (Cert.InInputRefIdeal.Value.run (F := Ideal) m' ρ')⟩
  rw [reference_eq, (hagree c).1, (hagree c).2.1, (hagree c).2.2]

end Cert.Proof.InInput

end
-- ==== Proof.InGrad.lean ====
/- The gradient of the recurrent layer's input projection (`_mm_tn` of the input and the projections' gradients): the array
   the kernel leaves and the reference's result are one function `grad` of the arguments. -/
module

public import proofs.«01_k».proof.Defs
public import proofs.«01_k».proof.Proof.Gen.InGrad
public import proofs.«01_k».proof.Proof.Gen.InGradIdeal.Value
public import proofs.«01_k».proof.Proof.Gen.InGradRefIdeal.Read
public import Idealize.ShloMosaic.Lib.Pointwise
public import Idealize.ShloMosaic.Lib.Claim

@[expose] public section

set_option maxRecDepth 16384

noncomputable section

namespace Cert.Proof.InGrad

open Cert.InGradIdeal Cert.InGradIdeal.Gen Cert.InGradIdeal.Value
open Idealize.ShloMosaic Idealize.ShloMosaic.TcCoe Idealize.SL.Sem

/-- Device `a`'s columns lie in projection `part a` of the four (q, f, v, g) … -/
def part (a : Fin 8) : Fin 4 := ⟨a.val / 2, by have h := a.isLt; omega⟩

/-- … in its first half or its second. -/
def col (a : Fin 8) (k : Fin 512) : Fin 1024 := ⟨a.val % 2 * 512 + k.val, by have h := k.isLt; omega⟩

/-- For each device's columns the transposed product of the input with the projections' gradients. -/
def grad (x : Vec Ideal S2048x1024 .bf16) (d : Vec Ideal S4x2048x1024 .bf16) : Vec Ideal S8x1024x512 .bf16 :=
  fun i => ∑ s : Fin 2048, x (ix2 s (i 1)) * d (ix3 (part (i 0)) s (col (i 0) (i 2)))

/-- The same of one device's columns. -/
theorem block_apply (x0 : Vec Ideal S1x2048x1024 .bf16) (x1 : Vec Ideal S1x2048x512 .bf16) (r : Fin 1024) (c : Fin 512) :
    out0_2 x0 x1 (ix3 (0 : Fin 1) r c) = ∑ s : Fin 2048, x0 (ix3 (0 : Fin 1) s r) * x1 (ix3 (0 : Fin 1) s c) := by
  unfold out0_2
  rw [View.canon_unit_zero (funext fun a => by fin_cases a <;> rfl)]
  pointwise [k0_pay1]

variable (m : (ℓ : Loc nD τ sig) → Buf (Elt Ideal) ℓ) (ρ : Dev nD → PrngReg)

/-- The windows' block indices: point `t` takes device `t`'s columns. -/
theorem points : ∀ t : Fin cfg0.N,
    (win0_0.index t (0 : Fin 3) = 0 ∧ win0_0.index t (1 : Fin 3) = 0 ∧ win0_0.index t (2 : Fin 3) = 0)
    ∧ (win0_1.index t (0 : Fin 3) = t.val / 2 ∧ win0_1.index t (1 : Fin 3) = 0 ∧ win0_1.index t (2 : Fin 3) = t.val % 2)
    ∧ (win0_2.index t (0 : Fin 3) = t.val ∧ win0_2.index t (1 : Fin 3) = 0 ∧ win0_2.index t (2 : Fin 3) = 0) :=
  (by decide +kernel : ∀ t : Fin grid0.N, _)

/-- Point `t`'s device. -/
def dev (t : Fin cfg0.N) : Fin 8 := ⟨t.val, t.isLt⟩

theorem emb0 (t : Fin cfg0.N) (s : Fin 2048) (k : Fin 1024) :
    ((cfg0.win 0).blk t).view.emb (ix3 (0 : Fin 1) s k) = ix3 (0 : Fin 1) s k := by
  obtain ⟨⟨h0, h1, h2⟩, -, -⟩ := points t
  funext a; apply Fin.ext
  match a with
  | ⟨0, _⟩ => show win0_0.index t (0 : Fin 3) * 1 + 1 * 0 = 0; omega
  | ⟨1, _⟩ => show win0_0.index t (1 : Fin 3) * 2048 + 1 * s.val = s.val; omega
  | ⟨2, _⟩ => show win0_0.index t (2 : Fin 3) * 1024 + 1 * k.val = k.val; omega

theorem emb1 (t : Fin cfg0.N) (s : Fin 2048) (k : Fin 512) :
    ((cfg0.win 1).blk t).view.emb (ix3 (0 : Fin 1) s k) = ix3 (part (dev t)) s (col (dev t) k) := by
  obtain ⟨-, ⟨h0, h1, h2⟩, -⟩ := points t
  funext a; apply Fin.ext
  match a with
  | ⟨0, _⟩ => show win0_1.index t (0 : Fin 3) * 1 + 1 * 0 = t.val / 2; omega
  | ⟨1, _⟩ => show win0_1.index t (1 : Fin 3) * 2048 + 1 * s.val = s.val; omega
  | ⟨2, _⟩ => show win0_1.index t (2 : Fin 3) * 512 + 1 * k.val = t.val % 2 * 512 + k.val; omega

theorem emb2 (t : Fin cfg0.N) (r : Fin 1024) (k : Fin 512) :
    ((cfg0.win 2).blk t).view.emb (ix3 (0 : Fin 1) r k) = ix3 (dev t) r k := by
  obtain ⟨-, -, ⟨h0, h1, h2⟩⟩ := points t
  funext a; apply Fin.ext
  match a with
  | ⟨0, _⟩ => show win0_2.index t (0 : Fin 3) * 1 + 1 * 0 = t.val; omega
  | ⟨1, _⟩ => show win0_2.index t (1 : Fin 3) * 1024 + 1 * r.val = r.val; omega
  | ⟨2, _⟩ => show win0_2.index t (2 : Fin 3) * 512 + 1 * k.val = k.val; omega

/-- The first operand reaches the kernel with a leading axis of one. -/
theorem V_main_v0 (c : Dev nD) (s : Fin 2048) (k : Fin 1024) :
    (V m c main_v0 : Vec Ideal S1x2048x1024 .bf16) (ix3 (0 : Fin 1) s k) = (V m c main_arg0 : Vec Ideal S2048x1024 .bf16) (ix2 s k) := by
  have h : (V m c main_v0 : Vec Ideal S1x2048x1024 .bf16) = broadcastInDim S1x2048x1024 ![1, 2] bcast_S2048x1024_S1x2048x1024_1_2 (V m c main_arg0 : Vec Ideal S2048x1024 .bf16) := rfl
  rw [h]
  pointwise []

/-- What point `t` writes back is its block of `grad` of the arguments. -/
theorem flushed_eq (c : Dev nD) (t : Fin cfg0.N) :
    (dats m 0 c).flushed 2 t = ((cfg0.win 2).blk t).view.read (Elt Ideal) (grad (V m c main_arg0) (V m c main_arg1)) := by
  rw [flushed2]
  funext j
  obtain ⟨z, r, k, rfl⟩ : ∃ (z : Fin 1) (r : Fin 1024) (k : Fin 512), j = ix3 z r k := ⟨j 0, j 1, j 2, eq_ix3 j⟩
  obtain rfl : z = 0 := Subsingleton.elim _ _
  show out0_2 (iblk m c 0 t) (iblk m c 1 t) (ix3 (0 : Fin 1) r k) = grad (V m c main_arg0) (V m c main_arg1) (((cfg0.win 2).blk t).view.emb (ix3 (0 : Fin 1) r k))
  have h0 : ∀ (s : Fin 2048) (k : Fin 1024), (iblk m c 0 t : Vec Ideal S1x2048x1024 .bf16) (ix3 (0 : Fin 1) s k) = (V m c main_arg0 : Vec Ideal S2048x1024 .bf16) (ix2 s k) :=
    fun s k => (congrArg (V m c main_v0) (emb0 t s k)).trans (V_main_v0 m c s k)
  have h1 : ∀ (s : Fin 2048) (k : Fin 512), (iblk m c 1 t : Vec Ideal S1x2048x512 .bf16) (ix3 (0 : Fin 1) s k) = (V m c main_arg1 : Vec Ideal S4x2048x1024 .bf16) (ix3 (part (dev t)) s (col (dev t) k)) :=
    fun s k => congrArg (V m c main_arg1) (emb1 t s k)
  refine (block_apply _ _ r k).trans ?_
  simp only [h0, h1]
  exact (congrArg (grad (V m c main_arg0) (V m c main_arg1)) (emb2 t r k)).symm

theorem covered (i : S8x1024x512.Idx) : ∃ t : Fin cfg0.N, (cfg0.win 2).flush t = true ∧ i ∈ ((cfg0.win 2).blk t).view.set := by
  obtain ⟨a, b, k, rfl⟩ : ∃ (a : Fin 8) (b : Fin 1024) (k : Fin 512), i = ix3 a b k := ⟨i 0, i 1, i 2, eq_ix3 i⟩
  let t : Fin cfg0.N := ⟨a.val, a.isLt⟩
  refine ⟨t, (by decide +kernel : ∀ t : Fin grid0.N, win0_2.flush t = true) t, ?_⟩
  have h := ((cfg0.win 2).blk t).view.emb_mem_set (ix3 (0 : Fin 1) b k)
  rwa [emb2] at h

/-- The kernel's run: its result array is `grad` of the arguments. -/
theorem run : θ_run defs (onTc (τ := τ) (main (F := Ideal))) ⟨m, fun _ => 0, ρ⟩ fun r => ∀ c : Dev nD,
      r.2.mem ((c : Thread nD τ).loc main_v1) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans ((dats m 0 c).arrAt_eq_of_cover 2
    (grad (V m c main_arg0) (V m c main_arg1)) (fun t _ => flushed_eq m c t) covered)).trans (by rw [V_main_arg0, V_main_arg1]), (h c).2⟩) (run_blocks m ρ)

/-- The reference's result, one product over all the columns, is the same function. -/
theorem reference_eq (x : Vec Ideal S2048x1024 .bf16) (d : Vec Ideal S4x2048x1024 .bf16) :
    Cert.InGradRefIdeal.Read.val_main_v20 (F := Ideal) x d = grad x d := by
  funext i
  obtain ⟨a, b, k, rfl⟩ : ∃ (a : Fin 8) (b : Fin 1024) (k : Fin 512), i = ix3 a b k := ⟨i 0, i 1, i 2, eq_ix3 i⟩
  pointwise [grad, Cert.InGradRefIdeal.Read.val_main_v20, Cert.InGradRefIdeal.Read.val_main_v19, Cert.InGradRefIdeal.Read.val_main_v18, Cert.InGradRefIdeal.Read.val_main_v17, Cert.InGradRefIdeal.Read.val_main_v16, Cert.InGradRefIdeal.Read.val_main_v15, Cert.InGradRefIdeal.Read.val_main_v13, Cert.InGradRefIdeal.Read.val_main_v12, Cert.InGradRefIdeal.Read.val_main_v11, Cert.InGradRefIdeal.Read.val_main_v10, Cert.InGradRefIdeal.Read.val_main_v9, Cert.InGradRefIdeal.Read.val_main_v8, Cert.InGradRefIdeal.Read.val_main_v7, Cert.InGradRefIdeal.Read.val_main_v6, Cert.InGradRefIdeal.Read.val_main_v5, Cert.InGradRefIdeal.Read.val_main_v4, Cert.InGradRefIdeal.Read.val_main_v3, Cert.InGradRefIdeal.Read.val_main_v2, Cert.InGradRefIdeal.Read.val_main_v1, Cert.InGradRefIdeal.Read.val_main_v0]
  have e : ∀ (s : Fin 2048) (p : Fin 4) (q : Fin 1024), p.val * 1024 + q.val = a.val * 512 + k.val →
      d (ix3 p s q) = d (ix3 (part a) s (col a k)) := by
    intro s p q h
    have hk := k.isLt
    have hq := q.isLt
    obtain rfl : p = part a := Fin.ext (show p.val = a.val / 2 by omega)
    obtain rfl : q = col a k := Fin.ext (show q.val = a.val % 2 * 512 + k.val by
      have : (part a).val = a.val / 2 := rfl
      omega)
    rfl
  refine Finset.sum_congr rfl fun s _ => ?_
  rw [mul_comm]
  congr 1
  have ha := a.isLt
  have hk := k.isLt
  by_cases h1 : a.val * 512 + k.val < 1024
  · rw [dif_pos h1]
    exact e s 0 _ (by show 0 * 1024 + (a.val * 512 + k.val) = _; omega)
  rw [dif_neg h1]
  by_cases h2 : a.val * 512 + k.val - 1024 < 1024
  · rw [dif_pos h2]
    exact e s 1 _ (by show 1 * 1024 + (a.val * 512 + k.val - 1024) = _; omega)
  rw [dif_neg h2]
  by_cases h3 : a.val * 512 + k.val - 1024 - 1024 < 1024
  · rw [dif_pos h3]
    exact e s 2 _ (by show 2 * 1024 + (a.val * 512 + k.val - 1024 - 1024) = _; omega)
  rw [dif_neg h3]
  exact e s 3 _ (by show 3 * 1024 + (a.val * 512 + k.val - 1024 - 1024 - 1024) = _; omega)

/-- The program as printed and the one read at the extended reals have the same bodies. -/
theorem bodies_eq : @Cert.InGrad.defs₀ Bits _ _ = @Cert.InGradIdeal.defs₀ Bits _ _ := by
  unfold Cert.InGrad.defs₀ Cert.InGradIdeal.defs₀
  refine congrArg Defs.onTc (funext fun l => funext fun x => ?_)
  match l, x with
  | 0, (t, s) => rfl

/-- The kernel's frame, of the program as printed: the run of the same text at the device's own values. -/
theorem frame_kernel : Cert.quiescent_InGrad := by
  intro m ρ _
  have h : Cert.InGrad.defs (F := Bits) = Cert.InGradIdeal.defs (F := Bits) := congrArg (Pipeline.defs _) bodies_eq
  rw [h]
  exact Cert.InGradIdeal.Gen.frame (F := Bits) m ρ

theorem frame_ideal : Cert.quiescent_InGradIdeal := fun m ρ _ => Cert.InGradIdeal.Gen.frame (F := Ideal) m ρ

theorem frame_reference : Cert.quiescent_InGradRefIdeal := fun m ρ _ =>
  (θ_run Cert.InGradRefIdeal.defs _ _).mono (fun r h => ⟨fun c => (h c).2, sem_eq_zero_of_no_sems (by decide) r.2⟩)
    (Cert.InGradRefIdeal.Value.run (F := Ideal) m ρ)

theorem algebraic : Cert.algebraic_InGradIdeal_InGradRefIdeal := by
  intro m ρ m' ρ' _ hagree
  refine ⟨_, run m ρ, (θ_run Cert.InGradRefIdeal.defs _ _).mono (fun r h c => ⟨((h c).1.trans (Cert.InGradRefIdeal.Read.val_main_v20_eq _ _)).trans ?_, (h c).2⟩)
    (Cert.InGradRefIdeal.Value.run (F := Ideal) m' ρ')⟩
  rw [reference_eq, (hagree c).1, (hagree c).2]

end Cert.Proof.InGrad

end
-- ==== Proof.SquareGrad.lean ====
/- The gradients of the projections of 1024 features to 1024 (`_wgrad` of both mixers' output projections, the queries' and the
   per-layer embedding's gates): the array the kernel leaves and the reference's result are one function `grad` of the
   arguments. -/
module

public import proofs.«01_k».proof.Defs
public import proofs.«01_k».proof.Proof.Gen.SquareGrad
public import proofs.«01_k».proof.Proof.Gen.SquareGradIdeal.Value
public import proofs.«01_k».proof.Proof.Gen.SquareGradRefIdeal.Read
public import Idealize.ShloMosaic.Lib.Pointwise
public import Idealize.ShloMosaic.Lib.Claim

@[expose] public section

set_option maxRecDepth 16384

noncomputable section

namespace Cert.Proof.SquareGrad

open Cert.SquareGradIdeal Cert.SquareGradIdeal.Gen Cert.SquareGradIdeal.Value
open Idealize.ShloMosaic Idealize.ShloMosaic.TcCoe Idealize.SL.Sem

/-- The transposed product of the projection's input with the gradient of its output. -/
def grad (x d : Vec Ideal S2048x1024 .bf16) : Vec Ideal S1x1024x1024 .bf16 :=
  fun i => ∑ s : Fin 2048, x (ix2 s (i 1)) * d (ix2 s (i 2))

theorem block_apply (x0 x1 : Vec Ideal S1x2048x1024 .bf16) (r c : Fin 1024) :
    out0_2 x0 x1 (ix3 (0 : Fin 1) r c) = ∑ s : Fin 2048, x0 (ix3 (0 : Fin 1) s r) * x1 (ix3 (0 : Fin 1) s c) := by
  unfold out0_2
  rw [View.canon_unit_zero (funext fun a => by fin_cases a <;> rfl)]
  pointwise [k0_pay1]

variable (m : (ℓ : Loc nD τ sig) → Buf (Elt Ideal) ℓ) (ρ : Dev nD → PrngReg)

/-- The one point takes each array whole. -/
theorem points : ∀ t : Fin cfg0.N, ∀ a : Fin 3, win0_0.index t a = 0 ∧ win0_1.index t a = 0 ∧ win0_2.index t a = 0 :=
  (by decide +kernel : ∀ t : Fin grid0.N, _)

theorem emb0 (t : Fin cfg0.N) (y : S1x2048x1024.Idx) : ((cfg0.win 0).blk t).view.emb y = y :=
  funext fun a => Fin.ext (by
    have h := (points t a).1
    show win0_0.index t a * _ + 1 * (y a).val = (y a).val
    rw [h]; omega)

theorem emb1 (t : Fin cfg0.N) (y : S1x2048x1024.Idx) : ((cfg0.win 1).blk t).view.emb y = y :=
  funext fun a => Fin.ext (by
    have h := (points t a).2.1
    show win0_1.index t a * _ + 1 * (y a).val = (y a).val
    rw [h]; omega)

theorem emb2 (t : Fin cfg0.N) (y : S1x1024x1024.Idx) : ((cfg0.win 2).blk t).view.emb y = y :=
  funext fun a => Fin.ext (by
    have h := (points t a).2.2
    show win0_2.index t a * _ + 1 * (y a).val = (y a).val
    rw [h]; omega)

/-- The operands reach the kernel with a leading axis of one. -/
theorem V_main_v0 (c : Dev nD) (s : Fin 2048) (k : Fin 1024) :
    (V m c main_v0 : Vec Ideal S1x2048x1024 .bf16) (ix3 (0 : Fin 1) s k) = (V m c main_arg0 : Vec Ideal S2048x1024 .bf16) (ix2 s k) := by
  have h : (V m c main_v0 : Vec Ideal S1x2048x1024 .bf16) = broadcastInDim S1x2048x1024 ![1, 2] bcast_S2048x1024_S1x2048x1024_1_2 (V m c main_arg0 : Vec Ideal S2048x1024 .bf16) := rfl
  rw [h]
  pointwise []

theorem V_main_v1 (c : Dev nD) (s : Fin 2048) (k : Fin 1024) :
    (V m c main_v1 : Vec Ideal S1x2048x1024 .bf16) (ix3 (0 : Fin 1) s k) = (V m c main_arg1 : Vec Ideal S2048x1024 .bf16) (ix2 s k) := by
  have h : (V m c main_v1 : Vec Ideal S1x2048x1024 .bf16) = broadcastInDim S1x2048x1024 ![1, 2] bcast_S2048x1024_S1x2048x1024_1_2 (V m c main_arg1 : Vec Ideal S2048x1024 .bf16) := rfl
  rw [h]
  pointwise []

/-- What the point writes back is `grad` of the arguments. -/
theorem flushed_eq (c : Dev nD) (t : Fin cfg0.N) :
    (dats m 0 c).flushed 2 t = ((cfg0.win 2).blk t).view.read (Elt Ideal) (grad (V m c main_arg0) (V m c main_arg1)) := by
  rw [flushed2]
  funext j
  obtain ⟨z, r, k, rfl⟩ : ∃ (z : Fin 1) (r k : Fin 1024), j = ix3 z r k := ⟨j 0, j 1, j 2, eq_ix3 j⟩
  obtain rfl : z = 0 := Subsingleton.elim _ _
  show out0_2 (iblk m c 0 t) (iblk m c 1 t) (ix3 (0 : Fin 1) r k) = grad (V m c main_arg0) (V m c main_arg1) (((cfg0.win 2).blk t).view.emb (ix3 (0 : Fin 1) r k))
  have h0 : ∀ (s : Fin 2048) (k : Fin 1024), (iblk m c 0 t : Vec Ideal S1x2048x1024 .bf16) (ix3 (0 : Fin 1) s k) = (V m c main_arg0 : Vec Ideal S2048x1024 .bf16) (ix2 s k) :=
    fun s k => (congrArg (V m c main_v0) (emb0 t _)).trans (V_main_v0 m c s k)
  have h1 : ∀ (s : Fin 2048) (k : Fin 1024), (iblk m c 1 t : Vec Ideal S1x2048x1024 .bf16) (ix3 (0 : Fin 1) s k) = (V m c main_arg1 : Vec Ideal S2048x1024 .bf16) (ix2 s k) :=
    fun s k => (congrArg (V m c main_v1) (emb1 t _)).trans (V_main_v1 m c s k)
  refine (block_apply _ _ r k).trans ?_
  simp only [h0, h1]
  exact (congrArg (grad (V m c main_arg0) (V m c main_arg1)) (emb2 t (ix3 (0 : Fin 1) r k))).symm

theorem covered (i : S1x1024x1024.Idx) : ∃ t : Fin cfg0.N, (cfg0.win 2).flush t = true ∧ i ∈ ((cfg0.win 2).blk t).view.set := by
  let t : Fin cfg0.N := ⟨0, show 0 < 1 by omega⟩
  refine ⟨t, (by decide +kernel : ∀ t : Fin grid0.N, win0_2.flush t = true) t, ?_⟩
  have h := ((cfg0.win 2).blk t).view.emb_mem_set i
  rwa [emb2] at h

/-- The kernel's run: its result array is `grad` of the arguments. -/
theorem run : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans ((dats m 0 c).arrAt_eq_of_cover 2
    (grad (V m c main_arg0) (V m c main_arg1)) (fun t _ => flushed_eq m c t) covered)).trans (by rw [V_main_arg0, V_main_arg1]), (h c).2⟩) (run_blocks m ρ)

/-- The reference's result is the same function. -/
theorem reference_eq (x d : Vec Ideal S2048x1024 .bf16) :
    Cert.SquareGradRefIdeal.Read.val_main_v7 (F := Ideal) x d = grad x d := by
  funext i
  obtain ⟨z, b, k, rfl⟩ : ∃ (z : Fin 1) (b k : Fin 1024), i = ix3 z b k := ⟨i 0, i 1, i 2, eq_ix3 i⟩
  pointwise [grad, Cert.SquareGradRefIdeal.Read.val_main_v7, Cert.SquareGradRefIdeal.Read.val_main_v6, Cert.SquareGradRefIdeal.Read.val_main_v5, Cert.SquareGradRefIdeal.Read.val_main_v4, Cert.SquareGradRefIdeal.Read.val_main_v3, Cert.SquareGradRefIdeal.Read.val_main_v2, Cert.SquareGradRefIdeal.Read.val_main_v0]
  exact Finset.sum_congr rfl fun s _ => mul_comm _ _

/-- The program as printed and the one read at the extended reals have the same bodies. -/
theorem bodies_eq : @Cert.SquareGrad.defs₀ Bits _ _ = @Cert.SquareGradIdeal.defs₀ Bits _ _ := by
  unfold Cert.SquareGrad.defs₀ Cert.SquareGradIdeal.defs₀
  refine congrArg Defs.onTc (funext fun l => funext fun x => ?_)
  match l, x with
  | 0, (t, s) => rfl

/-- The kernel's frame, of the program as printed: the run of the same text at the device's own values. -/
theorem frame_kernel : Cert.quiescent_SquareGrad := by
  intro m ρ _
  have h : Cert.SquareGrad.defs (F := Bits) = Cert.SquareGradIdeal.defs (F := Bits) := congrArg (Pipeline.defs _) bodies_eq
  rw [h]
  exact Cert.SquareGradIdeal.Gen.frame (F := Bits) m ρ

theorem frame_ideal : Cert.quiescent_SquareGradIdeal := fun m ρ _ => Cert.SquareGradIdeal.Gen.frame (F := Ideal) m ρ

theorem frame_reference : Cert.quiescent_SquareGradRefIdeal := fun m ρ _ =>
  (θ_run Cert.SquareGradRefIdeal.defs _ _).mono (fun r h => ⟨fun c => (h c).2, sem_eq_zero_of_no_sems (by decide) r.2⟩)
    (Cert.SquareGradRefIdeal.Value.run (F := Ideal) m ρ)

theorem algebraic : Cert.algebraic_SquareGradIdeal_SquareGradRefIdeal := by
  intro m ρ m' ρ' _ hagree
  refine ⟨_, run m ρ, (θ_run Cert.SquareGradRefIdeal.defs _ _).mono (fun r h c => ⟨((h c).1.trans (Cert.SquareGradRefIdeal.Read.val_main_v7_eq _ _)).trans ?_, (h c).2⟩)
    (Cert.SquareGradRefIdeal.Value.run (F := Ideal) m' ρ')⟩
  rw [reference_eq, (hagree c).1, (hagree c).2]

end Cert.Proof.SquareGrad

end
-- ==== Proof.KvGrad.lean ====
/- The gradient of the keys' and values' projections (`_wgrad`, 1024 features to 512): the array the kernel leaves and the
   reference's result are one function `grad` of the arguments. -/
module

public import proofs.«01_k».proof.Defs
public import proofs.«01_k».proof.Proof.Gen.KvGrad
public import proofs.«01_k».proof.Proof.Gen.KvGradIdeal.Value
public import proofs.«01_k».proof.Proof.Gen.KvGradRefIdeal.Read
public import Idealize.ShloMosaic.Lib.Pointwise
public import Idealize.ShloMosaic.Lib.Claim

@[expose] public section

set_option maxRecDepth 16384

noncomputable section

namespace Cert.Proof.KvGrad

open Cert.KvGradIdeal Cert.KvGradIdeal.Gen Cert.KvGradIdeal.Value
open Idealize.ShloMosaic Idealize.ShloMosaic.TcCoe Idealize.SL.Sem

/-- The transposed product of the projection's input with the gradient of its output. -/
def grad (x : Vec Ideal S2048x1024 .bf16) (d : Vec Ideal S2048x512 .bf16) : Vec Ideal S1x1024x512 .bf16 :=
  fun i => ∑ s : Fin 2048, x (ix2 s (i 1)) * d (ix2 s (i 2))

theorem block_apply (x0 : Vec Ideal S1x2048x1024 .bf16) (x1 : Vec Ideal S1x2048x512 .bf16) (r : Fin 1024) (c : Fin 512) :
    out0_2 x0 x1 (ix3 (0 : Fin 1) r c) = ∑ s : Fin 2048, x0 (ix3 (0 : Fin 1) s r) * x1 (ix3 (0 : Fin 1) s c) := by
  unfold out0_2
  rw [View.canon_unit_zero (funext fun a => by fin_cases a <;> rfl)]
  pointwise [k0_pay1]

variable (m : (ℓ : Loc nD τ sig) → Buf (Elt Ideal) ℓ) (ρ : Dev nD → PrngReg)

/-- The one point takes each array whole. -/
theorem points : ∀ t : Fin cfg0.N, ∀ a : Fin 3, win0_0.index t a = 0 ∧ win0_1.index t a = 0 ∧ win0_2.index t a = 0 :=
  (by decide +kernel : ∀ t : Fin grid0.N, _)

theorem emb0 (t : Fin cfg0.N) (y : S1x2048x1024.Idx) : ((cfg0.win 0).blk t).view.emb y = y :=
  funext fun a => Fin.ext (by
    have h := (points t a).1
    show win0_0.index t a * _ + 1 * (y a).val = (y a).val
    rw [h]; omega)

theorem emb1 (t : Fin cfg0.N) (y : S1x2048x512.Idx) : ((cfg0.win 1).blk t).view.emb y = y :=
  funext fun a => Fin.ext (by
    have h := (points t a).2.1
    show win0_1.index t a * _ + 1 * (y a).val = (y a).val
    rw [h]; omega)

theorem emb2 (t : Fin cfg0.N) (y : S1x1024x512.Idx) : ((cfg0.win 2).blk t).view.emb y = y :=
  funext fun a => Fin.ext (by
    have h := (points t a).2.2
    show win0_2.index t a * _ + 1 * (y a).val = (y a).val
    rw [h]; omega)

/-- The operands reach the kernel with a leading axis of one. -/
theorem V_main_v0 (c : Dev nD) (s : Fin 2048) (k : Fin 1024) :
    (V m c main_v0 : Vec Ideal S1x2048x1024 .bf16) (ix3 (0 : Fin 1) s k) = (V m c main_arg0 : Vec Ideal S2048x1024 .bf16) (ix2 s k) := by
  have h : (V m c main_v0 : Vec Ideal S1x2048x1024 .bf16) = broadcastInDim S1x2048x1024 ![1, 2] bcast_S2048x1024_S1x2048x1024_1_2 (V m c main_arg0 : Vec Ideal S2048x1024 .bf16) := rfl
  rw [h]
  pointwise []

theorem V_main_v1 (c : Dev nD) (s : Fin 2048) (k : Fin 512) :
    (V m c main_v1 : Vec Ideal S1x2048x512 .bf16) (ix3 (0 : Fin 1) s k) = (V m c main_arg1 : Vec Ideal S2048x512 .bf16) (ix2 s k) := by
  have h : (V m c main_v1 : Vec Ideal S1x2048x512 .bf16) = broadcastInDim S1x2048x512 ![1, 2] bcast_S2048x512_S1x2048x512_1_2 (V m c main_arg1 : Vec Ideal S2048x512 .bf16) := rfl
  rw [h]
  pointwise []

/-- What the point writes back is `grad` of the arguments. -/
theorem flushed_eq (c : Dev nD) (t : Fin cfg0.N) :
    (dats m 0 c).flushed 2 t = ((cfg0.win 2).blk t).view.read (Elt Ideal) (grad (V m c main_arg0) (V m c main_arg1)) := by
  rw [flushed2]
  funext j
  obtain ⟨z, r, k, rfl⟩ : ∃ (z : Fin 1) (r : Fin 1024) (k : Fin 512), j = ix3 z r k := ⟨j 0, j 1, j 2, eq_ix3 j⟩
  obtain rfl : z = 0 := Subsingleton.elim _ _
  show out0_2 (iblk m c 0 t) (iblk m c 1 t) (ix3 (0 : Fin 1) r k) = grad (V m c main_arg0) (V m c main_arg1) (((cfg0.win 2).blk t).view.emb (ix3 (0 : Fin 1) r k))
  have h0 : ∀ (s : Fin 2048) (k : Fin 1024), (iblk m c 0 t : Vec Ideal S1x2048x1024 .bf16) (ix3 (0 : Fin 1) s k) = (V m c main_arg0 : Vec Ideal S2048x1024 .bf16) (ix2 s k) :=
    fun s k => (congrArg (V m c main_v0) (emb0 t _)).trans (V_main_v0 m c s k)
  have h1 : ∀ (s : Fin 2048) (k : Fin 512), (iblk m c 1 t : Vec Ideal S1x2048x512 .bf16) (ix3 (0 : Fin 1) s k) = (V m c main_arg1 : Vec Ideal S2048x512 .bf16) (ix2 s k) :=
    fun s k => (congrArg (V m c main_v1) (emb1 t _)).trans (V_main_v1 m c s k)
  refine (block_apply _ _ r k).trans ?_
  simp only [h0, h1]
  exact (congrArg (grad (V m c main_arg0) (V m c main_arg1)) (emb2 t (ix3 (0 : Fin 1) r k))).symm

theorem covered (i : S1x1024x512.Idx) : ∃ t : Fin cfg0.N, (cfg0.win 2).flush t = true ∧ i ∈ ((cfg0.win 2).blk t).view.set := by
  let t : Fin cfg0.N := ⟨0, show 0 < 1 by omega⟩
  refine ⟨t, (by decide +kernel : ∀ t : Fin grid0.N, win0_2.flush t = true) t, ?_⟩
  have h := ((cfg0.win 2).blk t).view.emb_mem_set i
  rwa [emb2] at h

/-- The kernel's run: its result array is `grad` of the arguments. -/
theorem run : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans ((dats m 0 c).arrAt_eq_of_cover 2
    (grad (V m c main_arg0) (V m c main_arg1)) (fun t _ => flushed_eq m c t) covered)).trans (by rw [V_main_arg0, V_main_arg1]), (h c).2⟩) (run_blocks m ρ)

/-- The reference's result is the same function. -/
theorem reference_eq (x : Vec Ideal S2048x1024 .bf16) (d : Vec Ideal S2048x512 .bf16) :
    Cert.KvGradRefIdeal.Read.val_main_v7 (F := Ideal) x d = grad x d := by
  funext i
  obtain ⟨z, b, k, rfl⟩ : ∃ (z : Fin 1) (b : Fin 1024) (k : Fin 512), i = ix3 z b k := ⟨i 0, i 1, i 2, eq_ix3 i⟩
  pointwise [grad, Cert.KvGradRefIdeal.Read.val_main_v7, Cert.KvGradRefIdeal.Read.val_main_v6, Cert.KvGradRefIdeal.Read.val_main_v5, Cert.KvGradRefIdeal.Read.val_main_v4, Cert.KvGradRefIdeal.Read.val_main_v3, Cert.KvGradRefIdeal.Read.val_main_v2, Cert.KvGradRefIdeal.Read.val_main_v0]
  exact Finset.sum_congr rfl fun s _ => mul_comm _ _

/-- The program as printed and the one read at the extended reals have the same bodies. -/
theorem bodies_eq : @Cert.KvGrad.defs₀ Bits _ _ = @Cert.KvGradIdeal.defs₀ Bits _ _ := by
  unfold Cert.KvGrad.defs₀ Cert.KvGradIdeal.defs₀
  refine congrArg Defs.onTc (funext fun l => funext fun x => ?_)
  match l, x with
  | 0, (t, s) => rfl

/-- The kernel's frame, of the program as printed: the run of the same text at the device's own values. -/
theorem frame_kernel : Cert.quiescent_KvGrad := by
  intro m ρ _
  have h : Cert.KvGrad.defs (F := Bits) = Cert.KvGradIdeal.defs (F := Bits) := congrArg (Pipeline.defs _) bodies_eq
  rw [h]
  exact Cert.KvGradIdeal.Gen.frame (F := Bits) m ρ

theorem frame_ideal : Cert.quiescent_KvGradIdeal := fun m ρ _ => Cert.KvGradIdeal.Gen.frame (F := Ideal) m ρ

theorem frame_reference : Cert.quiescent_KvGradRefIdeal := fun m ρ _ =>
  (θ_run Cert.KvGradRefIdeal.defs _ _).mono (fun r h => ⟨fun c => (h c).2, sem_eq_zero_of_no_sems (by decide) r.2⟩)
    (Cert.KvGradRefIdeal.Value.run (F := Ideal) m ρ)

theorem algebraic : Cert.algebraic_KvGradIdeal_KvGradRefIdeal := by
  intro m ρ m' ρ' _ hagree
  refine ⟨_, run m ρ, (θ_run Cert.KvGradRefIdeal.defs _ _).mono (fun r h c => ⟨((h c).1.trans (Cert.KvGradRefIdeal.Read.val_main_v7_eq _ _)).trans ?_, (h c).2⟩)
    (Cert.KvGradRefIdeal.Value.run (F := Ideal) m' ρ')⟩
  rw [reference_eq, (hagree c).1, (hagree c).2]

end Cert.Proof.KvGrad

end
-- ==== Proof.PleUpGrad.lean ====
/- The gradient of the per-layer embedding's up projection (`_wgrad`, 256 features to 1024): the array the kernel leaves and
   the reference's result are one function `grad` of the arguments. -/
module

public import proofs.«01_k».proof.Defs
public import proofs.«01_k».proof.Proof.Gen.PleUpGrad
public import proofs.«01_k».proof.Proof.Gen.PleUpGradIdeal.Value
public import proofs.«01_k».proof.Proof.Gen.PleUpGradRefIdeal.Read
public import Idealize.ShloMosaic.Lib.Pointwise
public import Idealize.ShloMosaic.Lib.Claim

@[expose] public section

set_option maxRecDepth 16384

noncomputable section

namespace Cert.Proof.PleUpGrad

open Cert.PleUpGradIdeal Cert.PleUpGradIdeal.Gen Cert.PleUpGradIdeal.Value
open Idealize.ShloMosaic Idealize.ShloMosaic.TcCoe Idealize.SL.Sem

/-- The transposed product of the projection's input with the gradient of its output. -/
def grad (x : Vec Ideal S2048x256 .bf16) (d : Vec Ideal S2048x1024 .bf16) : Vec Ideal S1x256x1024 .bf16 :=
  fun i => ∑ s : Fin 2048, x (ix2 s (i 1)) * d (ix2 s (i 2))

theorem block_apply (x0 : Vec Ideal S1x2048x256 .bf16) (x1 : Vec Ideal S1x2048x1024 .bf16) (r : Fin 256) (c : Fin 1024) :
    out0_2 x0 x1 (ix3 (0 : Fin 1) r c) = ∑ s : Fin 2048, x0 (ix3 (0 : Fin 1) s r) * x1 (ix3 (0 : Fin 1) s c) := by
  unfold out0_2
  rw [View.canon_unit_zero (funext fun a => by fin_cases a <;> rfl)]
  pointwise [k0_pay1]

variable (m : (ℓ : Loc nD τ sig) → Buf (Elt Ideal) ℓ) (ρ : Dev nD → PrngReg)

/-- The one point takes each array whole. -/
theorem points : ∀ t : Fin cfg0.N, ∀ a : Fin 3, win0_0.index t a = 0 ∧ win0_1.index t a = 0 ∧ win0_2.index t a = 0 :=
  (by decide +kernel : ∀ t : Fin grid0.N, _)

theorem emb0 (t : Fin cfg0.N) (y : S1x2048x256.Idx) : ((cfg0.win 0).blk t).view.emb y = y :=
  funext fun a => Fin.ext (by
    have h := (points t a).1
    show win0_0.index t a * _ + 1 * (y a).val = (y a).val
    rw [h]; omega)

theorem emb1 (t : Fin cfg0.N) (y : S1x2048x1024.Idx) : ((cfg0.win 1).blk t).view.emb y = y :=
  funext fun a => Fin.ext (by
    have h := (points t a).2.1
    show win0_1.index t a * _ + 1 * (y a).val = (y a).val
    rw [h]; omega)

theorem emb2 (t : Fin cfg0.N) (y : S1x256x1024.Idx) : ((cfg0.win 2).blk t).view.emb y = y :=
  funext fun a => Fin.ext (by
    have h := (points t a).2.2
    show win0_2.index t a * _ + 1 * (y a).val = (y a).val
    rw [h]; omega)

/-- The operands reach the kernel with a leading axis of one. -/
theorem V_main_v0 (c : Dev nD) (s : Fin 2048) (k : Fin 256) :
    (V m c main_v0 : Vec Ideal S1x2048x256 .bf16) (ix3 (0 : Fin 1) s k) = (V m c main_arg0 : Vec Ideal S2048x256 .bf16) (ix2 s k) := by
  have h : (V m c main_v0 : Vec Ideal S1x2048x256 .bf16) = broadcastInDim S1x2048x256 ![1, 2] bcast_S2048x256_S1x2048x256_1_2 (V m c main_arg0 : Vec Ideal S2048x256 .bf16) := rfl
  rw [h]
  pointwise []

theorem V_main_v1 (c : Dev nD) (s : Fin 2048) (k : Fin 1024) :
    (V m c main_v1 : Vec Ideal S1x2048x1024 .bf16) (ix3 (0 : Fin 1) s k) = (V m c main_arg1 : Vec Ideal S2048x1024 .bf16) (ix2 s k) := by
  have h : (V m c main_v1 : Vec Ideal S1x2048x1024 .bf16) = broadcastInDim S1x2048x1024 ![1, 2] bcast_S2048x1024_S1x2048x1024_1_2 (V m c main_arg1 : Vec Ideal S2048x1024 .bf16) := rfl
  rw [h]
  pointwise []

/-- What the point writes back is `grad` of the arguments. -/
theorem flushed_eq (c : Dev nD) (t : Fin cfg0.N) :
    (dats m 0 c).flushed 2 t = ((cfg0.win 2).blk t).view.read (Elt Ideal) (grad (V m c main_arg0) (V m c main_arg1)) := by
  rw [flushed2]
  funext j
  obtain ⟨z, r, k, rfl⟩ : ∃ (z : Fin 1) (r : Fin 256) (k : Fin 1024), j = ix3 z r k := ⟨j 0, j 1, j 2, eq_ix3 j⟩
  obtain rfl : z = 0 := Subsingleton.elim _ _
  show out0_2 (iblk m c 0 t) (iblk m c 1 t) (ix3 (0 : Fin 1) r k) = grad (V m c main_arg0) (V m c main_arg1) (((cfg0.win 2).blk t).view.emb (ix3 (0 : Fin 1) r k))
  have h0 : ∀ (s : Fin 2048) (k : Fin 256), (iblk m c 0 t : Vec Ideal S1x2048x256 .bf16) (ix3 (0 : Fin 1) s k) = (V m c main_arg0 : Vec Ideal S2048x256 .bf16) (ix2 s k) :=
    fun s k => (congrArg (V m c main_v0) (emb0 t _)).trans (V_main_v0 m c s k)
  have h1 : ∀ (s : Fin 2048) (k : Fin 1024), (iblk m c 1 t : Vec Ideal S1x2048x1024 .bf16) (ix3 (0 : Fin 1) s k) = (V m c main_arg1 : Vec Ideal S2048x1024 .bf16) (ix2 s k) :=
    fun s k => (congrArg (V m c main_v1) (emb1 t _)).trans (V_main_v1 m c s k)
  refine (block_apply _ _ r k).trans ?_
  simp only [h0, h1]
  exact (congrArg (grad (V m c main_arg0) (V m c main_arg1)) (emb2 t (ix3 (0 : Fin 1) r k))).symm

theorem covered (i : S1x256x1024.Idx) : ∃ t : Fin cfg0.N, (cfg0.win 2).flush t = true ∧ i ∈ ((cfg0.win 2).blk t).view.set := by
  let t : Fin cfg0.N := ⟨0, show 0 < 1 by omega⟩
  refine ⟨t, (by decide +kernel : ∀ t : Fin grid0.N, win0_2.flush t = true) t, ?_⟩
  have h := ((cfg0.win 2).blk t).view.emb_mem_set i
  rwa [emb2] at h

/-- The kernel's run: its result array is `grad` of the arguments. -/
theorem run : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans ((dats m 0 c).arrAt_eq_of_cover 2
    (grad (V m c main_arg0) (V m c main_arg1)) (fun t _ => flushed_eq m c t) covered)).trans (by rw [V_main_arg0, V_main_arg1]), (h c).2⟩) (run_blocks m ρ)

/-- The reference's result is the same function. -/
theorem reference_eq (x : Vec Ideal S2048x256 .bf16) (d : Vec Ideal S2048x1024 .bf16) :
    Cert.PleUpGradRefIdeal.Read.val_main_v7 (F := Ideal) x d = grad x d := by
  funext i
  obtain ⟨z, b, k, rfl⟩ : ∃ (z : Fin 1) (b : Fin 256) (k : Fin 1024), i = ix3 z b k := ⟨i 0, i 1, i 2, eq_ix3 i⟩
  pointwise [grad, Cert.PleUpGradRefIdeal.Read.val_main_v7, Cert.PleUpGradRefIdeal.Read.val_main_v6, Cert.PleUpGradRefIdeal.Read.val_main_v5, Cert.PleUpGradRefIdeal.Read.val_main_v4, Cert.PleUpGradRefIdeal.Read.val_main_v3, Cert.PleUpGradRefIdeal.Read.val_main_v2, Cert.PleUpGradRefIdeal.Read.val_main_v0]
  exact Finset.sum_congr rfl fun s _ => mul_comm _ _

/-- The program as printed and the one read at the extended reals have the same bodies. -/
theorem bodies_eq : @Cert.PleUpGrad.defs₀ Bits _ _ = @Cert.PleUpGradIdeal.defs₀ Bits _ _ := by
  unfold Cert.PleUpGrad.defs₀ Cert.PleUpGradIdeal.defs₀
  refine congrArg Defs.onTc (funext fun l => funext fun x => ?_)
  match l, x with
  | 0, (t, s) => rfl

/-- The kernel's frame, of the program as printed: the run of the same text at the device's own values. -/
theorem frame_kernel : Cert.quiescent_PleUpGrad := by
  intro m ρ _
  have h : Cert.PleUpGrad.defs (F := Bits) = Cert.PleUpGradIdeal.defs (F := Bits) := congrArg (Pipeline.defs _) bodies_eq
  rw [h]
  exact Cert.PleUpGradIdeal.Gen.frame (F := Bits) m ρ

theorem frame_ideal : Cert.quiescent_PleUpGradIdeal := fun m ρ _ => Cert.PleUpGradIdeal.Gen.frame (F := Ideal) m ρ

theorem frame_reference : Cert.quiescent_PleUpGradRefIdeal := fun m ρ _ =>
  (θ_run Cert.PleUpGradRefIdeal.defs _ _).mono (fun r h => ⟨fun c => (h c).2, sem_eq_zero_of_no_sems (by decide) r.2⟩)
    (Cert.PleUpGradRefIdeal.Value.run (F := Ideal) m ρ)

theorem algebraic : Cert.algebraic_PleUpGradIdeal_PleUpGradRefIdeal := by
  intro m ρ m' ρ' _ hagree
  refine ⟨_, run m ρ, (θ_run Cert.PleUpGradRefIdeal.defs _ _).mono (fun r h c => ⟨((h c).1.trans (Cert.PleUpGradRefIdeal.Read.val_main_v7_eq _ _)).trans ?_, (h c).2⟩)
    (Cert.PleUpGradRefIdeal.Value.run (F := Ideal) m' ρ')⟩
  rw [reference_eq, (hagree c).1, (hagree c).2]

end Cert.Proof.PleUpGrad

end
-- ==== Proof.AdamW.lean ====
/- AdamW's step, at the extended reals: the functions the optimiser's calls compute, and what their kernel's body stores in
   a block, for every size of block. -/
module

public import Idealize.ShloMosaic.PureOps.Ideal
public import Idealize.ShloMosaic.Lib.Pointwise
public import Idealize.ShloMosaic.Lib.Pipeline.Frame
public import Idealize.ShloMosaic.Lib.Pipeline.Value
public import Idealize.ShloMosaic.Lib.ValueLayout

@[expose] public section

noncomputable section

namespace Cert.Proof.AdamW

open Idealize.ShloMosaic

/-- The gradient of a one-layer weight: the sum of the eight devices' parts. -/
def grad {R C : ℕ} (p : Vec Ideal ⟨3, ![8, R, C]⟩ .bf16) : Vec Ideal ⟨3, ![1, R, C]⟩ .f32 := fun i => ∑ s : Fin 8, p (ix3 s (i 1) (i 2))

/-- The gradient of a two-layer weight, each layer's parts in an array of its own. -/
def grad2 {R C : ℕ} (p q : Vec Ideal ⟨3, ![8, R, C]⟩ .bf16) : Vec Ideal ⟨3, ![2, R, C]⟩ .f32 :=
  fun i => if (i 0).val = 0 then ∑ s : Fin 8, p (ix3 s (i 1) (i 2)) else ∑ s : Fin 8, q (ix3 s (i 1) (i 2))

theorem grad2_zero {R C : ℕ} (p q : Vec Ideal ⟨3, ![8, R, C]⟩ .bf16) (r : Fin R) (k : Fin C) :
    grad2 p q (ix3 (0 : Fin 2) r k) = ∑ s : Fin 8, p (ix3 s r k) := if_pos rfl

theorem grad2_one {R C : ℕ} (p q : Vec Ideal ⟨3, ![8, R, C]⟩ .bf16) (r : Fin R) (k : Fin C) :
    grad2 p q (ix3 (1 : Fin 2) r k) = ∑ s : Fin 8, q (ix3 s r k) := if_neg Nat.one_ne_zero

/-- The new first moment, of the old one and the gradient. -/
def newM {S : Shape} (m g : Vec Ideal S .f32) : Vec Ideal S .f32 :=
  fun i => Ideal.ofBits .f32 0x3F666666#32 * m i + Ideal.ofBits .f32 0x3DCCCCCD#32 * g i

/-- The new second moment. -/
def newV {S : Shape} (v g : Vec Ideal S .f32) : Vec Ideal S .f32 :=
  fun i => Ideal.ofBits .f32 0x3F7FBE77#32 * v i + Ideal.ofBits .f32 0x3A83126F#32 * (g i * g i)

/-- The change of the weight. -/
def delta {S : Shape} (w m v g : Vec Ideal S .f32) : Vec Ideal S .f32 := fun i =>
  Ideal.ofBits .f32 0xBA83126F#32 * (Ideal.div (Ideal.div (newM m g i) (Ideal.ofBits .f32 0x3F26BD02#32))
    (Ideal.sqrt (Ideal.div (newV v g i) (Ideal.ofBits .f32 0x3C231ACC#32)) + Ideal.ofBits .f32 0x322BCC77#32)
    + Ideal.ofBits .f32 0x3C23D70A#32 * w i)

variable {R C : ℕ}

/-- A block with its leading axis dropped. -/
def flat {e : EltTy} (v : Vec Ideal ⟨3, ![1, R, C]⟩ e) : Vec Ideal ⟨2, ![R, C]⟩ e := fun j => v (ix3 0 (j 0) (j 1))

theorem cast_flat {e : EltTy} (v : Vec Ideal ⟨3, ![1, R, C]⟩ e) (h : (⟨3, ![1, R, C]⟩ : Shape).ShapeCasts ⟨2, ![R, C]⟩) :
    shapeCast ⟨2, ![R, C]⟩ v h = flat v := by
  funext j
  rw [eq_ix2 j]
  exact ValueIdx.shapeCast_1ab_ab_apply v h (j 0) (j 1)

theorem cast_of_flat {e : EltTy} (v : Vec Ideal ⟨3, ![1, R, C]⟩ e) (h : (⟨2, ![R, C]⟩ : Shape).ShapeCasts ⟨3, ![1, R, C]⟩) :
    shapeCast ⟨3, ![1, R, C]⟩ (flat v) h = v := by
  funext j
  obtain ⟨z, a, b, rfl⟩ : ∃ (z : Fin 1) (a : Fin R) (b : Fin C), j = ix3 z a b := ⟨j 0, j 1, j 2, eq_ix3 j⟩
  obtain rfl : z = 0 := Subsingleton.elim _ _
  exact ValueIdx.shapeCast_ab_1ab_apply (flat v) h 0 a b

/-- A load of one device's part. -/
theorem part_load (x : Vec Ideal ⟨3, ![8, R, C]⟩ .bf16) (s : Fin 8)
    (h : ∀ a, (![s.val, 0, 0] : Fin 3 → Nat) a + (⟨3, ![1, R, C]⟩ : Shape).size a ≤ (⟨3, ![8, R, C]⟩ : Shape).size a) (r : Fin R) (k : Fin C) :
    View.ld x (Rect.unit (s := ⟨3, ![8, R, C]⟩) ![s.val, 0, 0] (⟨3, ![1, R, C]⟩ : Shape).size h) (ix3 (0 : Fin 1) r k) = x (ix3 s r k) := by
  refine congrArg x (funext fun a => Fin.ext ?_)
  match a with
  | ⟨0, _⟩ => show s.val + 1 * 0 = s.val; omega
  | ⟨1, _⟩ => show 0 + 1 * r.val = r.val; omega
  | ⟨2, _⟩ => show 0 + 1 * k.val = k.val; omega

/-- The sum of eight blocks, each with its leading axis dropped, is the sum of the eight parts they were loaded from. -/
theorem total_eq (x : Vec Ideal ⟨3, ![8, R, C]⟩ .bf16) (h : (⟨3, ![1, R, C]⟩ : Shape).ShapeCasts ⟨2, ![R, C]⟩) (hb : FTy.bits .bf16 < FTy.bits .f32)
    (l : ∀ s : Fin 8, ∀ a, (![s.val, 0, 0] : Fin 3 → Nat) a + (⟨3, ![1, R, C]⟩ : Shape).size a ≤ (⟨3, ![8, R, C]⟩ : Shape).size a) :
    let part : Fin 8 → FVec Ideal ⟨2, ![R, C]⟩ .f32 := fun s =>
      extf .f32 (shapeCast ⟨2, ![R, C]⟩ (View.ld x (Rect.unit (s := ⟨3, ![8, R, C]⟩) ![s.val, 0, 0] (⟨3, ![1, R, C]⟩ : Shape).size (l s))) h) hb
    addf (addf (addf (addf (addf (addf (addf (part 0) (part 1)) (part 2)) (part 3)) (part 4)) (part 5)) (part 6)) (part 7) = flat (grad x) := by
  intro part
  have e : ∀ (s : Fin 8) (r : Fin R) (k : Fin C), part s (ix2 r k) = x (ix3 s r k) := fun s r k =>
    (ValueIdx.shapeCast_1ab_ab_apply _ h r k).trans (part_load x s (l s) r k)
  clear_value part
  funext j
  obtain ⟨r, k, rfl⟩ : ∃ (r : Fin R) (k : Fin C), j = ix2 r k := ⟨j 0, j 1, eq_ix2 j⟩
  show part 0 (ix2 r k) + part 1 (ix2 r k) + part 2 (ix2 r k) + part 3 (ix2 r k) + part 4 (ix2 r k) + part 5 (ix2 r k) + part 6 (ix2 r k) + part 7 (ix2 r k)
    = ∑ s : Fin 8, x (ix3 s r k)
  rw [Fin.sum_univ_eight, e, e, e, e, e, e, e, e]

variable (w m v g : Vec Ideal ⟨3, ![1, R, C]⟩ .f32) (h : (⟨3, ![1, R, C]⟩ : Shape).ShapeCasts ⟨2, ![R, C]⟩) (h' : (⟨2, ![R, C]⟩ : Shape).ShapeCasts ⟨3, ![1, R, C]⟩)

/-- The first moments the body computes … -/
def bodyM : FVec Ideal ⟨2, ![R, C]⟩ .f32 :=
  addf (mulf (broadcast ⟨2, ![R, C]⟩ (Scalar.ofBits .f32 0x3F666666#32)) (shapeCast ⟨2, ![R, C]⟩ m h))
    (mulf (broadcast ⟨2, ![R, C]⟩ (Scalar.ofBits .f32 0x3DCCCCCD#32)) (flat g))

theorem bodyM_eq : bodyM m g h = flat (newM m g) := by
  unfold bodyM
  rw [cast_flat]
  rfl

/-- … the second moments … -/
def bodyV : FVec Ideal ⟨2, ![R, C]⟩ .f32 :=
  addf (mulf (broadcast ⟨2, ![R, C]⟩ (Scalar.ofBits .f32 0x3F7FBE77#32)) (shapeCast ⟨2, ![R, C]⟩ v h))
    (mulf (broadcast ⟨2, ![R, C]⟩ (Scalar.ofBits .f32 0x3A83126F#32)) (mulf (flat g) (flat g)))

theorem bodyV_eq : bodyV v g h = flat (newV v g) := by
  unfold bodyV
  rw [cast_flat]
  rfl

/-- … and the change. -/
def bodyD : FVec Ideal ⟨2, ![R, C]⟩ .f32 :=
  mulf (broadcast ⟨2, ![R, C]⟩ (Scalar.ofBits .f32 0xBA83126F#32))
    (addf (divf (divf (bodyM m g h) (broadcast ⟨2, ![R, C]⟩ (Scalar.ofBits .f32 0x3F26BD02#32)))
        (addf (sqrt (divf (bodyV v g h) (broadcast ⟨2, ![R, C]⟩ (Scalar.ofBits .f32 0x3C231ACC#32)))) (broadcast ⟨2, ![R, C]⟩ (Scalar.ofBits .f32 0x322BCC77#32))))
      (mulf (broadcast ⟨2, ![R, C]⟩ (Scalar.ofBits .f32 0x3C23D70A#32)) (shapeCast ⟨2, ![R, C]⟩ w h)))

theorem bodyD_eq : bodyD w m v g h = flat (delta w m v g) := by
  unfold bodyD
  rw [cast_flat, bodyM_eq, bodyV_eq]
  rfl

/-- What the body stores. -/
theorem storeM_eq : shapeCast ⟨3, ![1, R, C]⟩ (bodyM m g h) h' = newM m g := by rw [bodyM_eq, cast_of_flat]

theorem storeV_eq : shapeCast ⟨3, ![1, R, C]⟩ (bodyV v g h) h' = newV v g := by rw [bodyV_eq, cast_of_flat]

theorem storeD_eq : shapeCast ⟨3, ![1, R, C]⟩ (bodyD w m v g h) h' = delta w m v g := by rw [bodyD_eq, cast_of_flat]

end Cert.Proof.AdamW

end
-- ==== Proof.AdamIn.lean ====
/- The optimiser's step for one device's shard of the input weights: the four arrays the kernel leaves and the reference's four results are the
   gradient, the change and the two moments of AdamW. -/
module

public import proofs.«01_k».proof.Defs
public import proofs.«01_k».proof.Proof.Gen.AdamIn
public import proofs.«01_k».proof.Proof.Gen.AdamInIdeal.Value
public import proofs.«01_k».proof.Proof.Gen.AdamInRefIdeal.Read
public import proofs.«01_k».proof.Proof.AdamW
public import Idealize.ShloMosaic.Lib.Pointwise
public import Idealize.ShloMosaic.Lib.Claim

@[expose] public section

set_option maxRecDepth 16384

noncomputable section

namespace Cert.Proof.AdamIn

open Cert.AdamInIdeal Cert.AdamInIdeal.Gen Cert.AdamInIdeal.Value
open Idealize.ShloMosaic Idealize.ShloMosaic.TcCoe Idealize.SL.Sem

/-- The eight loads' sum. -/
theorem total_eq (x : Vec Ideal S8x256x512 .bf16) :
    k0_pay3 (View.ld x (Rect.unit (s := S8x256x512) ![0, 0, 0] S1x256x512.size inb_S8x256x512_S1x256x512_0_0_0))
    (View.ld x (Rect.unit (s := S8x256x512) ![1, 0, 0] S1x256x512.size inb_S8x256x512_S1x256x512_1_0_0))
    (View.ld x (Rect.unit (s := S8x256x512) ![2, 0, 0] S1x256x512.size inb_S8x256x512_S1x256x512_2_0_0))
    (View.ld x (Rect.unit (s := S8x256x512) ![3, 0, 0] S1x256x512.size inb_S8x256x512_S1x256x512_3_0_0))
    (View.ld x (Rect.unit (s := S8x256x512) ![4, 0, 0] S1x256x512.size inb_S8x256x512_S1x256x512_4_0_0))
    (View.ld x (Rect.unit (s := S8x256x512) ![5, 0, 0] S1x256x512.size inb_S8x256x512_S1x256x512_5_0_0))
    (View.ld x (Rect.unit (s := S8x256x512) ![6, 0, 0] S1x256x512.size inb_S8x256x512_S1x256x512_6_0_0))
    (View.ld x (Rect.unit (s := S8x256x512) ![7, 0, 0] S1x256x512.size inb_S8x256x512_S1x256x512_7_0_0)) = AdamW.flat (AdamW.grad x) :=
  AdamW.total_eq x _ _ (by decide : ∀ s : Fin 8, ∀ a : Fin 3, (![s.val, 0, 0] : Fin 3 → Nat) a + S1x256x512.size a ≤ S8x256x512.size a)

theorem zeros : (![0, 0, 0] : Fin 3 → Nat) = fun _ => 0 := funext fun a => by fin_cases a <;> rfl

variable (m : (ℓ : Loc nD τ sig) → Buf (Elt Ideal) ℓ) (ρ : Dev nD → PrngReg)

/-- What a point writes back: the functions of its blocks. -/
theorem body4 (c : Dev nD) (t : Fin cfg0.N) :
    (dats m 0 c).flushed 4 t = (cfg0.win 4).cut (grid0.coords t) (AdamW.grad (iblk m c 1 t)) := by
  rw [flushed4_A]
  unfold out0_A_4
  rw [View.read_writes_eq_canon _ _ _ (fun y => cover0_A_4 ..)]
  unfold kernelRun0_A
  dsimp only
  sl_unfold_words
  rw [View.canon_unit_zero zeros]
  simp only [View.readAt_eq_ld, (hs0_1 t).read_unread]
  exact congrArg _ ((congrArg k0_pay4 (total_eq _)).trans (AdamW.cast_of_flat _ _))

theorem body5 (c : Dev nD) (t : Fin cfg0.N) :
    (dats m 0 c).flushed 5 t = (cfg0.win 5).cut (grid0.coords t) (AdamW.delta (iblk m c 0 t) (iblk m c 2 t) (iblk m c 3 t) (AdamW.grad (iblk m c 1 t))) := by
  rw [flushed5_A]
  unfold out0_A_5
  rw [View.read_writes_eq_canon _ _ _ (fun y => cover0_A_5 ..)]
  unfold kernelRun0_A
  dsimp only
  sl_unfold_words
  rw [View.canon_unit_zero zeros]
  simp only [View.readAt_eq_ld, (hs0_0 t).read_unread, (hs0_1 t).read_unread, (hs0_2 t).read_unread, (hs0_3 t).read_unread, View.ld_unit_zero (S := S1x256x512) zeros]
  exact congrArg _ ((congrArg (fun g => k0_pay7 g (iblk m c 0 t) (iblk m c 2 t) (iblk m c 3 t)) (total_eq _)).trans (AdamW.storeD_eq (iblk m c 0 t) (iblk m c 2 t) (iblk m c 3 t) _ _ _))

theorem body6 (c : Dev nD) (t : Fin cfg0.N) :
    (dats m 0 c).flushed 6 t = (cfg0.win 6).cut (grid0.coords t) (AdamW.newM (iblk m c 2 t) (AdamW.grad (iblk m c 1 t))) := by
  rw [flushed6_A]
  unfold out0_A_6
  rw [View.read_writes_eq_canon _ _ _ (fun y => cover0_A_6 ..)]
  unfold kernelRun0_A
  dsimp only
  sl_unfold_words
  rw [View.canon_unit_zero zeros]
  simp only [View.readAt_eq_ld, (hs0_1 t).read_unread, (hs0_2 t).read_unread, View.ld_unit_zero (S := S1x256x512) zeros]
  exact congrArg _ ((congrArg (fun g => k0_pay1 (k0_pay5 g (iblk m c 2 t))) (total_eq _)).trans (AdamW.storeM_eq (iblk m c 2 t) _ _ _))

theorem body7 (c : Dev nD) (t : Fin cfg0.N) :
    (dats m 0 c).flushed 7 t = (cfg0.win 7).cut (grid0.coords t) (AdamW.newV (iblk m c 3 t) (AdamW.grad (iblk m c 1 t))) := by
  rw [flushed7_A]
  unfold out0_A_7
  rw [View.read_writes_eq_canon _ _ _ (fun y => cover0_A_7 ..)]
  unfold kernelRun0_A
  dsimp only
  sl_unfold_words
  rw [View.canon_unit_zero zeros]
  simp only [View.readAt_eq_ld, (hs0_1 t).read_unread, (hs0_3 t).read_unread, View.ld_unit_zero (S := S1x256x512) zeros]
  exact congrArg _ ((congrArg (fun g => k0_pay2 (k0_pay6 g (iblk m c 3 t))) (total_eq _)).trans (AdamW.storeV_eq (iblk m c 3 t) _ _ _))

/-- The block indices of the parts' window and of a result's: a point is a block of rows. -/
theorem points : ∀ t : Fin cfg0.N,
    (win0_1.index t (0 : Fin 3) = 0 ∧ win0_1.index t (1 : Fin 3) = t.val ∧ win0_1.index t (2 : Fin 3) = 0)
    ∧ (win0_4.index t (0 : Fin 3) = 0 ∧ win0_4.index t (1 : Fin 3) = t.val ∧ win0_4.index t (2 : Fin 3) = 0) :=
  (by decide +kernel : ∀ t : Fin grid0.N, _)

/-- Row `r` of point `t`'s block of rows. -/
def row (t : Fin cfg0.N) (r : Fin 256) : Fin 1024 := ⟨t.val * 256 + r.val, by have h := r.isLt; have h' : t.val < 4 := t.isLt; omega⟩

theorem emb1 (t : Fin cfg0.N) (s : Fin 8) (r : Fin 256) (k : Fin 512) :
    ((cfg0.win 1).blk t).view.emb (ix3 s r k) = ix3 s (row t r) k := by
  obtain ⟨⟨h0, h1, h2⟩, -⟩ := points t
  funext a; apply Fin.ext
  match a with
  | ⟨0, _⟩ => show win0_1.index t (0 : Fin 3) * 8 + 1 * s.val = s.val; omega
  | ⟨1, _⟩ => show win0_1.index t (1 : Fin 3) * 256 + 1 * r.val = t.val * 256 + r.val; omega
  | ⟨2, _⟩ => show win0_1.index t (2 : Fin 3) * 512 + 1 * k.val = k.val; omega

/-- A result's window; those of the weights and the moments are the same. -/
theorem emb4 (t : Fin cfg0.N) (r : Fin 256) (k : Fin 512) :
    ((cfg0.win 4).blk t).view.emb (ix3 (0 : Fin 1) r k) = ix3 (0 : Fin 1) (row t r) k := by
  obtain ⟨-, ⟨h0, h1, h2⟩⟩ := points t
  funext a; apply Fin.ext
  match a with
  | ⟨0, _⟩ => show win0_4.index t (0 : Fin 3) * 1 + 1 * 0 = 0; omega
  | ⟨1, _⟩ => show win0_4.index t (1 : Fin 3) * 256 + 1 * r.val = t.val * 256 + r.val; omega
  | ⟨2, _⟩ => show win0_4.index t (2 : Fin 3) * 512 + 1 * k.val = k.val; omega

/-- The gradient of a block of the parts is the block of the gradient … -/
theorem flushed_grad (c : Dev nD) (t : Fin cfg0.N) :
    AdamW.grad (iblk m c 1 t : Vec Ideal S8x256x512 .bf16) = ((cfg0.win 4).blk t).view.read (Elt Ideal) (AdamW.grad (V m c main_arg3)) := by
  funext j
  obtain ⟨z, r, k, rfl⟩ : ∃ (z : Fin 1) (r : Fin 256) (k : Fin 512), j = ix3 z r k := ⟨j 0, j 1, j 2, eq_ix3 j⟩
  obtain rfl : z = 0 := Subsingleton.elim _ _
  show _ = AdamW.grad (V m c main_arg3) (((cfg0.win 4).blk t).view.emb (ix3 (0 : Fin 1) r k))
  rw [emb4]
  exact Finset.sum_congr rfl fun s _ => congrArg (V m c main_arg3) (emb1 t s r k)

/-- … and so of the three others, computed element by element. -/
theorem flushed_delta (c : Dev nD) (t : Fin cfg0.N) :
    (dats m 0 c).flushed 5 t = ((cfg0.win 5).blk t).view.read (Elt Ideal) (AdamW.delta (V m c main_arg0) (V m c main_arg1) (V m c main_arg2) (AdamW.grad (V m c main_arg3))) := by
  rw [body5, flushed_grad]
  rfl

theorem flushed_newM (c : Dev nD) (t : Fin cfg0.N) :
    (dats m 0 c).flushed 6 t = ((cfg0.win 6).blk t).view.read (Elt Ideal) (AdamW.newM (V m c main_arg1) (AdamW.grad (V m c main_arg3))) := by
  rw [body6, flushed_grad]
  rfl

theorem flushed_newV (c : Dev nD) (t : Fin cfg0.N) :
    (dats m 0 c).flushed 7 t = ((cfg0.win 7).blk t).view.read (Elt Ideal) (AdamW.newV (V m c main_arg2) (AdamW.grad (V m c main_arg3))) := by
  rw [body7, flushed_grad]
  rfl

/-- Every index lies in one point's block. -/
theorem covered (i : S1x1024x512.Idx) : ∃ t : Fin cfg0.N, i ∈ ((cfg0.win 4).blk t).view.set := by
  obtain ⟨z, a, b, rfl⟩ : ∃ (z : Fin 1) (a : Fin 1024) (b : Fin 512), i = ix3 z a b := ⟨i 0, i 1, i 2, eq_ix3 i⟩
  obtain rfl : z = 0 := Subsingleton.elim _ _
  have ha := a.isLt
  let t : Fin cfg0.N := ⟨a.val / 256, show a.val / 256 < 4 by omega⟩
  have h := ((cfg0.win 4).blk t).view.emb_mem_set (ix3 (0 : Fin 1) (⟨a.val % 256, by omega⟩ : Fin 256) b)
  have e : row t ⟨a.val % 256, by omega⟩ = a := Fin.ext (show a.val / 256 * 256 + a.val % 256 = a.val by omega)
  rw [emb4, e] at h
  exact ⟨t, h⟩

theorem flushes : ∀ t : Fin cfg0.N, (cfg0.win 4).flush t = true ∧ (cfg0.win 5).flush t = true ∧ (cfg0.win 6).flush t = true ∧ (cfg0.win 7).flush t = true :=
  (by decide +kernel : ∀ t : Fin grid0.N, win0_4.flush t = true ∧ win0_5.flush t = true ∧ win0_6.flush t = true ∧ win0_7.flush t = true)

/-- The kernel's run: its result arrays are those functions of the arguments. -/
theorem run : θ_run defs (onTc (τ := τ) (main (F := Ideal))) ⟨m, fun _ => 0, ρ⟩ fun r => ∀ c : Dev nD,
      r.2.mem ((c : Thread nD τ).loc main_v0_0) = AdamW.grad (m ((c : Thread nD τ).loc main_arg3))
      ∧ r.2.mem ((c : Thread nD τ).loc main_v0_1) = AdamW.delta (m ((c : Thread nD τ).loc main_arg0)) (m ((c : Thread nD τ).loc main_arg1)) (m ((c : Thread nD τ).loc main_arg2)) (AdamW.grad (m ((c : Thread nD τ).loc main_arg3)))
      ∧ r.2.mem ((c : Thread nD τ).loc main_v0_2) = AdamW.newM (m ((c : Thread nD τ).loc main_arg1)) (AdamW.grad (m ((c : Thread nD τ).loc main_arg3)))
      ∧ r.2.mem ((c : Thread nD τ).loc main_v0_3) = AdamW.newV (m ((c : Thread nD τ).loc main_arg2)) (AdamW.grad (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => (body4 m c t).trans (flushed_grad m c t)) fun i => (covered i).imp fun t h => ⟨(flushes t).1, h⟩),
    (h c).2.1.trans ((dats m 0 c).arrAt_eq_of_cover 5 _ (fun t _ => flushed_delta m c t) fun i => (covered i).imp fun t h => ⟨(flushes t).2.1, h⟩),
    (h c).2.2.1.trans ((dats m 0 c).arrAt_eq_of_cover 6 _ (fun t _ => flushed_newM m c t) fun i => (covered i).imp fun t h => ⟨(flushes t).2.2.1, h⟩),
    (h c).2.2.2.1.trans ((dats m 0 c).arrAt_eq_of_cover 7 _ (fun t _ => flushed_newV m c t) fun i => (covered i).imp fun t h => ⟨(flushes t).2.2.2, h⟩), (h c).2.2.2.2⟩) (run_blocks m ρ)

/-- The reference's results are the same functions. -/
theorem grad_eq (p : Vec Ideal S8x1024x512 .bf16) : Cert.AdamInRefIdeal.Read.val_main_v2 (F := Ideal) p = AdamW.grad p := by
  funext i
  obtain ⟨z, a, b, rfl⟩ : ∃ (z : Fin 1) (a : Fin 1024) (b : Fin 512), i = ix3 z a b := ⟨i 0, i 1, i 2, eq_ix3 i⟩
  pointwise [AdamW.grad, Cert.AdamInRefIdeal.Read.val_main_v2, Cert.AdamInRefIdeal.Read.val_main_v1, Cert.AdamInRefIdeal.Read.val_main_v0, Cert.AdamInRefIdeal.Read.val_main_cst]

theorem newM_eq (m : Vec Ideal S1x1024x512 .f32) (p : Vec Ideal S8x1024x512 .bf16) : Cert.AdamInRefIdeal.Read.val_main_v7 (F := Ideal) m p = AdamW.newM m (AdamW.grad p) := by
  rw [← grad_eq]
  rfl

theorem newV_eq (v : Vec Ideal S1x1024x512 .f32) (p : Vec Ideal S8x1024x512 .bf16) : Cert.AdamInRefIdeal.Read.val_main_v13 (F := Ideal) v p = AdamW.newV v (AdamW.grad p) := by
  rw [← grad_eq]
  rfl

theorem delta_eq (w m v : Vec Ideal S1x1024x512 .f32) (p : Vec Ideal S8x1024x512 .bf16) :
    Cert.AdamInRefIdeal.Read.val_main_v26 (F := Ideal) w m v p = AdamW.delta w m v (AdamW.grad p) := by
  rw [← grad_eq]
  rfl

/-- The program as printed and the one read at the extended reals have the same bodies. -/
theorem bodies_eq : @Cert.AdamIn.defs₀ Bits _ _ = @Cert.AdamInIdeal.defs₀ Bits _ _ := by
  unfold Cert.AdamIn.defs₀ Cert.AdamInIdeal.defs₀
  refine congrArg Defs.onTc (funext fun l => funext fun x => ?_)
  match l, x with
  | 0, (t, s) => rfl

/-- The kernel's frame, of the program as printed: the run of the same text at the device's own values. -/
theorem frame_kernel : Cert.quiescent_AdamIn := by
  intro m ρ _
  have h : Cert.AdamIn.defs (F := Bits) = Cert.AdamInIdeal.defs (F := Bits) := congrArg (Pipeline.defs _) bodies_eq
  rw [h]
  exact Cert.AdamInIdeal.Gen.frame (F := Bits) m ρ

theorem frame_ideal : Cert.quiescent_AdamInIdeal := fun m ρ _ => Cert.AdamInIdeal.Gen.frame (F := Ideal) m ρ

theorem frame_reference : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

theorem algebraic : Cert.algebraic_AdamInIdeal_AdamInRefIdeal := by
  intro m ρ m' ρ' _ hagree
  refine ⟨_, _, _, _, run m ρ, (θ_run Cert.AdamInRefIdeal.defs _ _).mono (fun r h c => ⟨((h c).1.trans (Cert.AdamInRefIdeal.Read.val_main_v2_eq _)).trans ?_,
      ((h c).2.1.trans (Cert.AdamInRefIdeal.Read.val_main_v26_eq _ _ _ _)).trans ?_, ((h c).2.2.1.trans (Cert.AdamInRefIdeal.Read.val_main_v7_eq _ _)).trans ?_,
      ((h c).2.2.2.1.trans (Cert.AdamInRefIdeal.Read.val_main_v13_eq _ _)).trans ?_, (h c).2.2.2.2⟩)
    (Cert.AdamInRefIdeal.Value.run (F := Ideal) m' ρ')⟩
  · rw [grad_eq, (hagree c).2.2.2]
  · rw [delta_eq, (hagree c).1, (hagree c).2.1, (hagree c).2.2.1, (hagree c).2.2.2]
  · rw [newM_eq, (hagree c).2.1, (hagree c).2.2.2]
  · rw [newV_eq, (hagree c).2.2.1, (hagree c).2.2.2]

end Cert.Proof.AdamIn

end
-- ==== Proof.AdamSquare.lean ====
/- The optimiser's step for one device's shard of a square weight: the four arrays the kernel leaves and the reference's four results are the
   gradient, the change and the two moments of AdamW. -/
module

public import proofs.«01_k».proof.Defs
public import proofs.«01_k».proof.Proof.Gen.AdamSquare
public import proofs.«01_k».proof.Proof.Gen.AdamSquareIdeal.Value
public import proofs.«01_k».proof.Proof.Gen.AdamSquareRefIdeal.Read
public import proofs.«01_k».proof.Proof.AdamW
public import Idealize.ShloMosaic.Lib.Pointwise
public import Idealize.ShloMosaic.Lib.Claim

@[expose] public section

set_option maxRecDepth 16384

noncomputable section

namespace Cert.Proof.AdamSquare

open Cert.AdamSquareIdeal Cert.AdamSquareIdeal.Gen Cert.AdamSquareIdeal.Value
open Idealize.ShloMosaic Idealize.ShloMosaic.TcCoe Idealize.SL.Sem

/-- The eight loads' sum. -/
theorem total_eq (x : Vec Ideal S8x128x1024 .bf16) :
    k0_pay3 (View.ld x (Rect.unit (s := S8x128x1024) ![0, 0, 0] S1x128x1024.size inb_S8x128x1024_S1x128x1024_0_0_0))
    (View.ld x (Rect.unit (s := S8x128x1024) ![1, 0, 0] S1x128x1024.size inb_S8x128x1024_S1x128x1024_1_0_0))
    (View.ld x (Rect.unit (s := S8x128x1024) ![2, 0, 0] S1x128x1024.size inb_S8x128x1024_S1x128x1024_2_0_0))
    (View.ld x (Rect.unit (s := S8x128x1024) ![3, 0, 0] S1x128x1024.size inb_S8x128x1024_S1x128x1024_3_0_0))
    (View.ld x (Rect.unit (s := S8x128x1024) ![4, 0, 0] S1x128x1024.size inb_S8x128x1024_S1x128x1024_4_0_0))
    (View.ld x (Rect.unit (s := S8x128x1024) ![5, 0, 0] S1x128x1024.size inb_S8x128x1024_S1x128x1024_5_0_0))
    (View.ld x (Rect.unit (s := S8x128x1024) ![6, 0, 0] S1x128x1024.size inb_S8x128x1024_S1x128x1024_6_0_0))
    (View.ld x (Rect.unit (s := S8x128x1024) ![7, 0, 0] S1x128x1024.size inb_S8x128x1024_S1x128x1024_7_0_0)) = AdamW.flat (AdamW.grad x) :=
  AdamW.total_eq x _ _ (by decide : ∀ s : Fin 8, ∀ a : Fin 3, (![s.val, 0, 0] : Fin 3 → Nat) a + S1x128x1024.size a ≤ S8x128x1024.size a)

theorem zeros : (![0, 0, 0] : Fin 3 → Nat) = fun _ => 0 := funext fun a => by fin_cases a <;> rfl

variable (m : (ℓ : Loc nD τ sig) → Buf (Elt Ideal) ℓ) (ρ : Dev nD → PrngReg)

/-- What a point writes back: the functions of its blocks. -/
theorem body4 (c : Dev nD) (t : Fin cfg0.N) :
    (dats m 0 c).flushed 4 t = (cfg0.win 4).cut (grid0.coords t) (AdamW.grad (iblk m c 1 t)) := by
  rw [flushed4_A]
  unfold out0_A_4
  rw [View.read_writes_eq_canon _ _ _ (fun y => cover0_A_4 ..)]
  unfold kernelRun0_A
  dsimp only
  sl_unfold_words
  rw [View.canon_unit_zero zeros]
  simp only [View.readAt_eq_ld, (hs0_1 t).read_unread]
  exact congrArg _ ((congrArg k0_pay4 (total_eq _)).trans (AdamW.cast_of_flat _ _))

theorem body5 (c : Dev nD) (t : Fin cfg0.N) :
    (dats m 0 c).flushed 5 t = (cfg0.win 5).cut (grid0.coords t) (AdamW.delta (iblk m c 0 t) (iblk m c 2 t) (iblk m c 3 t) (AdamW.grad (iblk m c 1 t))) := by
  rw [flushed5_A]
  unfold out0_A_5
  rw [View.read_writes_eq_canon _ _ _ (fun y => cover0_A_5 ..)]
  unfold kernelRun0_A
  dsimp only
  sl_unfold_words
  rw [View.canon_unit_zero zeros]
  simp only [View.readAt_eq_ld, (hs0_0 t).read_unread, (hs0_1 t).read_unread, (hs0_2 t).read_unread, (hs0_3 t).read_unread, View.ld_unit_zero (S := S1x128x1024) zeros]
  exact congrArg _ ((congrArg (fun g => k0_pay7 g (iblk m c 0 t) (iblk m c 2 t) (iblk m c 3 t)) (total_eq _)).trans (AdamW.storeD_eq (iblk m c 0 t) (iblk m c 2 t) (iblk m c 3 t) _ _ _))

theorem body6 (c : Dev nD) (t : Fin cfg0.N) :
    (dats m 0 c).flushed 6 t = (cfg0.win 6).cut (grid0.coords t) (AdamW.newM (iblk m c 2 t) (AdamW.grad (iblk m c 1 t))) := by
  rw [flushed6_A]
  unfold out0_A_6
  rw [View.read_writes_eq_canon _ _ _ (fun y => cover0_A_6 ..)]
  unfold kernelRun0_A
  dsimp only
  sl_unfold_words
  rw [View.canon_unit_zero zeros]
  simp only [View.readAt_eq_ld, (hs0_1 t).read_unread, (hs0_2 t).read_unread, View.ld_unit_zero (S := S1x128x1024) zeros]
  exact congrArg _ ((congrArg (fun g => k0_pay1 (k0_pay5 g (iblk m c 2 t))) (total_eq _)).trans (AdamW.storeM_eq (iblk m c 2 t) _ _ _))

theorem body7 (c : Dev nD) (t : Fin cfg0.N) :
    (dats m 0 c).flushed 7 t = (cfg0.win 7).cut (grid0.coords t) (AdamW.newV (iblk m c 3 t) (AdamW.grad (iblk m c 1 t))) := by
  rw [flushed7_A]
  unfold out0_A_7
  rw [View.read_writes_eq_canon _ _ _ (fun y => cover0_A_7 ..)]
  unfold kernelRun0_A
  dsimp only
  sl_unfold_words
  rw [View.canon_unit_zero zeros]
  simp only [View.readAt_eq_ld, (hs0_1 t).read_unread, (hs0_3 t).read_unread, View.ld_unit_zero (S := S1x128x1024) zeros]
  exact congrArg _ ((congrArg (fun g => k0_pay2 (k0_pay6 g (iblk m c 3 t))) (total_eq _)).trans (AdamW.storeV_eq (iblk m c 3 t) _ _ _))

/-- The block indices of the parts' window and of a result's: a point is a block of rows. -/
theorem points : ∀ t : Fin cfg0.N,
    (win0_1.index t (0 : Fin 3) = 0 ∧ win0_1.index t (1 : Fin 3) = t.val ∧ win0_1.index t (2 : Fin 3) = 0)
    ∧ (win0_4.index t (0 : Fin 3) = 0 ∧ win0_4.index t (1 : Fin 3) = t.val ∧ win0_4.index t (2 : Fin 3) = 0) :=
  (by decide +kernel : ∀ t : Fin grid0.N, _)

/-- Row `r` of point `t`'s block of rows. -/
def row (t : Fin cfg0.N) (r : Fin 128) : Fin 128 := ⟨t.val * 128 + r.val, by have h := r.isLt; have h' : t.val < 1 := t.isLt; omega⟩

theorem emb1 (t : Fin cfg0.N) (s : Fin 8) (r : Fin 128) (k : Fin 1024) :
    ((cfg0.win 1).blk t).view.emb (ix3 s r k) = ix3 s (row t r) k := by
  obtain ⟨⟨h0, h1, h2⟩, -⟩ := points t
  funext a; apply Fin.ext
  match a with
  | ⟨0, _⟩ => show win0_1.index t (0 : Fin 3) * 8 + 1 * s.val = s.val; omega
  | ⟨1, _⟩ => show win0_1.index t (1 : Fin 3) * 128 + 1 * r.val = t.val * 128 + r.val; omega
  | ⟨2, _⟩ => show win0_1.index t (2 : Fin 3) * 1024 + 1 * k.val = k.val; omega

/-- A result's window; those of the weights and the moments are the same. -/
theorem emb4 (t : Fin cfg0.N) (r : Fin 128) (k : Fin 1024) :
    ((cfg0.win 4).blk t).view.emb (ix3 (0 : Fin 1) r k) = ix3 (0 : Fin 1) (row t r) k := by
  obtain ⟨-, ⟨h0, h1, h2⟩⟩ := points t
  funext a; apply Fin.ext
  match a with
  | ⟨0, _⟩ => show win0_4.index t (0 : Fin 3) * 1 + 1 * 0 = 0; omega
  | ⟨1, _⟩ => show win0_4.index t (1 : Fin 3) * 128 + 1 * r.val = t.val * 128 + r.val; omega
  | ⟨2, _⟩ => show win0_4.index t (2 : Fin 3) * 1024 + 1 * k.val = k.val; omega

/-- The gradient of a block of the parts is the block of the gradient … -/
theorem flushed_grad (c : Dev nD) (t : Fin cfg0.N) :
    AdamW.grad (iblk m c 1 t : Vec Ideal S8x128x1024 .bf16) = ((cfg0.win 4).blk t).view.read (Elt Ideal) (AdamW.grad (V m c main_arg3)) := by
  funext j
  obtain ⟨z, r, k, rfl⟩ : ∃ (z : Fin 1) (r : Fin 128) (k : Fin 1024), j = ix3 z r k := ⟨j 0, j 1, j 2, eq_ix3 j⟩
  obtain rfl : z = 0 := Subsingleton.elim _ _
  show _ = AdamW.grad (V m c main_arg3) (((cfg0.win 4).blk t).view.emb (ix3 (0 : Fin 1) r k))
  rw [emb4]
  exact Finset.sum_congr rfl fun s _ => congrArg (V m c main_arg3) (emb1 t s r k)

/-- … and so of the three others, computed element by element. -/
theorem flushed_delta (c : Dev nD) (t : Fin cfg0.N) :
    (dats m 0 c).flushed 5 t = ((cfg0.win 5).blk t).view.read (Elt Ideal) (AdamW.delta (V m c main_arg0) (V m c main_arg1) (V m c main_arg2) (AdamW.grad (V m c main_arg3))) := by
  rw [body5, flushed_grad]
  rfl

theorem flushed_newM (c : Dev nD) (t : Fin cfg0.N) :
    (dats m 0 c).flushed 6 t = ((cfg0.win 6).blk t).view.read (Elt Ideal) (AdamW.newM (V m c main_arg1) (AdamW.grad (V m c main_arg3))) := by
  rw [body6, flushed_grad]
  rfl

theorem flushed_newV (c : Dev nD) (t : Fin cfg0.N) :
    (dats m 0 c).flushed 7 t = ((cfg0.win 7).blk t).view.read (Elt Ideal) (AdamW.newV (V m c main_arg2) (AdamW.grad (V m c main_arg3))) := by
  rw [body7, flushed_grad]
  rfl

/-- Every index lies in one point's block. -/
theorem covered (i : S1x128x1024.Idx) : ∃ t : Fin cfg0.N, i ∈ ((cfg0.win 4).blk t).view.set := by
  obtain ⟨z, a, b, rfl⟩ : ∃ (z : Fin 1) (a : Fin 128) (b : Fin 1024), i = ix3 z a b := ⟨i 0, i 1, i 2, eq_ix3 i⟩
  obtain rfl : z = 0 := Subsingleton.elim _ _
  have ha := a.isLt
  let t : Fin cfg0.N := ⟨a.val / 128, show a.val / 128 < 1 by omega⟩
  have h := ((cfg0.win 4).blk t).view.emb_mem_set (ix3 (0 : Fin 1) (⟨a.val % 128, by omega⟩ : Fin 128) b)
  have e : row t ⟨a.val % 128, by omega⟩ = a := Fin.ext (show a.val / 128 * 128 + a.val % 128 = a.val by omega)
  rw [emb4, e] at h
  exact ⟨t, h⟩

theorem flushes : ∀ t : Fin cfg0.N, (cfg0.win 4).flush t = true ∧ (cfg0.win 5).flush t = true ∧ (cfg0.win 6).flush t = true ∧ (cfg0.win 7).flush t = true :=
  (by decide +kernel : ∀ t : Fin grid0.N, win0_4.flush t = true ∧ win0_5.flush t = true ∧ win0_6.flush t = true ∧ win0_7.flush t = true)

/-- The kernel's run: its result arrays are those functions of the arguments. -/
theorem run : θ_run defs (onTc (τ := τ) (main (F := Ideal))) ⟨m, fun _ => 0, ρ⟩ fun r => ∀ c : Dev nD,
      r.2.mem ((c : Thread nD τ).loc main_v0_0) = AdamW.grad (m ((c : Thread nD τ).loc main_arg3))
      ∧ r.2.mem ((c : Thread nD τ).loc main_v0_1) = AdamW.delta (m ((c : Thread nD τ).loc main_arg0)) (m ((c : Thread nD τ).loc main_arg1)) (m ((c : Thread nD τ).loc main_arg2)) (AdamW.grad (m ((c : Thread nD τ).loc main_arg3)))
      ∧ r.2.mem ((c : Thread nD τ).loc main_v0_2) = AdamW.newM (m ((c : Thread nD τ).loc main_arg1)) (AdamW.grad (m ((c : Thread nD τ).loc main_arg3)))
      ∧ r.2.mem ((c : Thread nD τ).loc main_v0_3) = AdamW.newV (m ((c : Thread nD τ).loc main_arg2)) (AdamW.grad (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => (body4 m c t).trans (flushed_grad m c t)) fun i => (covered i).imp fun t h => ⟨(flushes t).1, h⟩),
    (h c).2.1.trans ((dats m 0 c).arrAt_eq_of_cover 5 _ (fun t _ => flushed_delta m c t) fun i => (covered i).imp fun t h => ⟨(flushes t).2.1, h⟩),
    (h c).2.2.1.trans ((dats m 0 c).arrAt_eq_of_cover 6 _ (fun t _ => flushed_newM m c t) fun i => (covered i).imp fun t h => ⟨(flushes t).2.2.1, h⟩),
    (h c).2.2.2.1.trans ((dats m 0 c).arrAt_eq_of_cover 7 _ (fun t _ => flushed_newV m c t) fun i => (covered i).imp fun t h => ⟨(flushes t).2.2.2, h⟩), (h c).2.2.2.2⟩) (run_blocks m ρ)

/-- The reference's results are the same functions. -/
theorem grad_eq (p : Vec Ideal S8x128x1024 .bf16) : Cert.AdamSquareRefIdeal.Read.val_main_v2 (F := Ideal) p = AdamW.grad p := by
  funext i
  obtain ⟨z, a, b, rfl⟩ : ∃ (z : Fin 1) (a : Fin 128) (b : Fin 1024), i = ix3 z a b := ⟨i 0, i 1, i 2, eq_ix3 i⟩
  pointwise [AdamW.grad, Cert.AdamSquareRefIdeal.Read.val_main_v2, Cert.AdamSquareRefIdeal.Read.val_main_v1, Cert.AdamSquareRefIdeal.Read.val_main_v0, Cert.AdamSquareRefIdeal.Read.val_main_cst]

theorem newM_eq (m : Vec Ideal S1x128x1024 .f32) (p : Vec Ideal S8x128x1024 .bf16) : Cert.AdamSquareRefIdeal.Read.val_main_v7 (F := Ideal) m p = AdamW.newM m (AdamW.grad p) := by
  rw [← grad_eq]
  rfl

theorem newV_eq (v : Vec Ideal S1x128x1024 .f32) (p : Vec Ideal S8x128x1024 .bf16) : Cert.AdamSquareRefIdeal.Read.val_main_v13 (F := Ideal) v p = AdamW.newV v (AdamW.grad p) := by
  rw [← grad_eq]
  rfl

theorem delta_eq (w m v : Vec Ideal S1x128x1024 .f32) (p : Vec Ideal S8x128x1024 .bf16) :
    Cert.AdamSquareRefIdeal.Read.val_main_v26 (F := Ideal) w m v p = AdamW.delta w m v (AdamW.grad p) := by
  rw [← grad_eq]
  rfl

/-- The program as printed and the one read at the extended reals have the same bodies. -/
theorem bodies_eq : @Cert.AdamSquare.defs₀ Bits _ _ = @Cert.AdamSquareIdeal.defs₀ Bits _ _ := by
  unfold Cert.AdamSquare.defs₀ Cert.AdamSquareIdeal.defs₀
  refine congrArg Defs.onTc (funext fun l => funext fun x => ?_)
  match l, x with
  | 0, (t, s) => rfl

/-- The kernel's frame, of the program as printed: the run of the same text at the device's own values. -/
theorem frame_kernel : Cert.quiescent_AdamSquare := by
  intro m ρ _
  have h : Cert.AdamSquare.defs (F := Bits) = Cert.AdamSquareIdeal.defs (F := Bits) := congrArg (Pipeline.defs _) bodies_eq
  rw [h]
  exact Cert.AdamSquareIdeal.Gen.frame (F := Bits) m ρ

theorem frame_ideal : Cert.quiescent_AdamSquareIdeal := fun m ρ _ => Cert.AdamSquareIdeal.Gen.frame (F := Ideal) m ρ

theorem frame_reference : Cert.quiescent_AdamSquareRefIdeal := fun m ρ _ =>
  (θ_run Cert.AdamSquareRefIdeal.defs _ _).mono (fun r h => ⟨fun c => (h c).2.2.2.2, sem_eq_zero_of_no_sems (by decide) r.2⟩)
    (Cert.AdamSquareRefIdeal.Value.run (F := Ideal) m ρ)

theorem algebraic : Cert.algebraic_AdamSquareIdeal_AdamSquareRefIdeal := by
  intro m ρ m' ρ' _ hagree
  refine ⟨_, _, _, _, run m ρ, (θ_run Cert.AdamSquareRefIdeal.defs _ _).mono (fun r h c => ⟨((h c).1.trans (Cert.AdamSquareRefIdeal.Read.val_main_v2_eq _)).trans ?_,
      ((h c).2.1.trans (Cert.AdamSquareRefIdeal.Read.val_main_v26_eq _ _ _ _)).trans ?_, ((h c).2.2.1.trans (Cert.AdamSquareRefIdeal.Read.val_main_v7_eq _ _)).trans ?_,
      ((h c).2.2.2.1.trans (Cert.AdamSquareRefIdeal.Read.val_main_v13_eq _ _)).trans ?_, (h c).2.2.2.2⟩)
    (Cert.AdamSquareRefIdeal.Value.run (F := Ideal) m' ρ')⟩
  · rw [grad_eq, (hagree c).2.2.2]
  · rw [delta_eq, (hagree c).1, (hagree c).2.1, (hagree c).2.2.1, (hagree c).2.2.2]
  · rw [newM_eq, (hagree c).2.1, (hagree c).2.2.2]
  · rw [newV_eq, (hagree c).2.2.1, (hagree c).2.2.2]

end Cert.Proof.AdamSquare

end
-- ==== Proof.AdamKv.lean ====
/- The optimiser's step for one device's shard of the keys' and values' weights: the four arrays the kernel leaves and the reference's four results are the
   gradient, the change and the two moments of AdamW. -/
module

public import proofs.«01_k».proof.Defs
public import proofs.«01_k».proof.Proof.Gen.AdamKv
public import proofs.«01_k».proof.Proof.Gen.AdamKvIdeal.Value
public import proofs.«01_k».proof.Proof.Gen.AdamKvRefIdeal.Read
public import proofs.«01_k».proof.Proof.AdamW
public import Idealize.ShloMosaic.Lib.Pointwise
public import Idealize.ShloMosaic.Lib.Claim

@[expose] public section

set_option maxRecDepth 16384

noncomputable section

namespace Cert.Proof.AdamKv

open Cert.AdamKvIdeal Cert.AdamKvIdeal.Gen Cert.AdamKvIdeal.Value
open Idealize.ShloMosaic Idealize.ShloMosaic.TcCoe Idealize.SL.Sem

/-- The eight loads' sum. -/
theorem total_eq (x : Vec Ideal S8x128x512 .bf16) :
    k0_pay3 (View.ld x (Rect.unit (s := S8x128x512) ![0, 0, 0] S1x128x512.size inb_S8x128x512_S1x128x512_0_0_0))
    (View.ld x (Rect.unit (s := S8x128x512) ![1, 0, 0] S1x128x512.size inb_S8x128x512_S1x128x512_1_0_0))
    (View.ld x (Rect.unit (s := S8x128x512) ![2, 0, 0] S1x128x512.size inb_S8x128x512_S1x128x512_2_0_0))
    (View.ld x (Rect.unit (s := S8x128x512) ![3, 0, 0] S1x128x512.size inb_S8x128x512_S1x128x512_3_0_0))
    (View.ld x (Rect.unit (s := S8x128x512) ![4, 0, 0] S1x128x512.size inb_S8x128x512_S1x128x512_4_0_0))
    (View.ld x (Rect.unit (s := S8x128x512) ![5, 0, 0] S1x128x512.size inb_S8x128x512_S1x128x512_5_0_0))
    (View.ld x (Rect.unit (s := S8x128x512) ![6, 0, 0] S1x128x512.size inb_S8x128x512_S1x128x512_6_0_0))
    (View.ld x (Rect.unit (s := S8x128x512) ![7, 0, 0] S1x128x512.size inb_S8x128x512_S1x128x512_7_0_0)) = AdamW.flat (AdamW.grad x) :=
  AdamW.total_eq x _ _ (by decide : ∀ s : Fin 8, ∀ a : Fin 3, (![s.val, 0, 0] : Fin 3 → Nat) a + S1x128x512.size a ≤ S8x128x512.size a)

theorem zeros : (![0, 0, 0] : Fin 3 → Nat) = fun _ => 0 := funext fun a => by fin_cases a <;> rfl

variable (m : (ℓ : Loc nD τ sig) → Buf (Elt Ideal) ℓ) (ρ : Dev nD → PrngReg)

/-- What a point writes back: the functions of its blocks. -/
theorem body4 (c : Dev nD) (t : Fin cfg0.N) :
    (dats m 0 c).flushed 4 t = (cfg0.win 4).cut (grid0.coords t) (AdamW.grad (iblk m c 1 t)) := by
  rw [flushed4_A]
  unfold out0_A_4
  rw [View.read_writes_eq_canon _ _ _ (fun y => cover0_A_4 ..)]
  unfold kernelRun0_A
  dsimp only
  sl_unfold_words
  rw [View.canon_unit_zero zeros]
  simp only [View.readAt_eq_ld, (hs0_1 t).read_unread]
  exact congrArg _ ((congrArg k0_pay4 (total_eq _)).trans (AdamW.cast_of_flat _ _))

theorem body5 (c : Dev nD) (t : Fin cfg0.N) :
    (dats m 0 c).flushed 5 t = (cfg0.win 5).cut (grid0.coords t) (AdamW.delta (iblk m c 0 t) (iblk m c 2 t) (iblk m c 3 t) (AdamW.grad (iblk m c 1 t))) := by
  rw [flushed5_A]
  unfold out0_A_5
  rw [View.read_writes_eq_canon _ _ _ (fun y => cover0_A_5 ..)]
  unfold kernelRun0_A
  dsimp only
  sl_unfold_words
  rw [View.canon_unit_zero zeros]
  simp only [View.readAt_eq_ld, (hs0_0 t).read_unread, (hs0_1 t).read_unread, (hs0_2 t).read_unread, (hs0_3 t).read_unread, View.ld_unit_zero (S := S1x128x512) zeros]
  exact congrArg _ ((congrArg (fun g => k0_pay7 g (iblk m c 0 t) (iblk m c 2 t) (iblk m c 3 t)) (total_eq _)).trans (AdamW.storeD_eq (iblk m c 0 t) (iblk m c 2 t) (iblk m c 3 t) _ _ _))

theorem body6 (c : Dev nD) (t : Fin cfg0.N) :
    (dats m 0 c).flushed 6 t = (cfg0.win 6).cut (grid0.coords t) (AdamW.newM (iblk m c 2 t) (AdamW.grad (iblk m c 1 t))) := by
  rw [flushed6_A]
  unfold out0_A_6
  rw [View.read_writes_eq_canon _ _ _ (fun y => cover0_A_6 ..)]
  unfold kernelRun0_A
  dsimp only
  sl_unfold_words
  rw [View.canon_unit_zero zeros]
  simp only [View.readAt_eq_ld, (hs0_1 t).read_unread, (hs0_2 t).read_unread, View.ld_unit_zero (S := S1x128x512) zeros]
  exact congrArg _ ((congrArg (fun g => k0_pay1 (k0_pay5 g (iblk m c 2 t))) (total_eq _)).trans (AdamW.storeM_eq (iblk m c 2 t) _ _ _))

theorem body7 (c : Dev nD) (t : Fin cfg0.N) :
    (dats m 0 c).flushed 7 t = (cfg0.win 7).cut (grid0.coords t) (AdamW.newV (iblk m c 3 t) (AdamW.grad (iblk m c 1 t))) := by
  rw [flushed7_A]
  unfold out0_A_7
  rw [View.read_writes_eq_canon _ _ _ (fun y => cover0_A_7 ..)]
  unfold kernelRun0_A
  dsimp only
  sl_unfold_words
  rw [View.canon_unit_zero zeros]
  simp only [View.readAt_eq_ld, (hs0_1 t).read_unread, (hs0_3 t).read_unread, View.ld_unit_zero (S := S1x128x512) zeros]
  exact congrArg _ ((congrArg (fun g => k0_pay2 (k0_pay6 g (iblk m c 3 t))) (total_eq _)).trans (AdamW.storeV_eq (iblk m c 3 t) _ _ _))

/-- The block indices of the parts' window and of a result's: a point is a block of rows. -/
theorem points : ∀ t : Fin cfg0.N,
    (win0_1.index t (0 : Fin 3) = 0 ∧ win0_1.index t (1 : Fin 3) = t.val ∧ win0_1.index t (2 : Fin 3) = 0)
    ∧ (win0_4.index t (0 : Fin 3) = 0 ∧ win0_4.index t (1 : Fin 3) = t.val ∧ win0_4.index t (2 : Fin 3) = 0) :=
  (by decide +kernel : ∀ t : Fin grid0.N, _)

/-- Row `r` of point `t`'s block of rows. -/
def row (t : Fin cfg0.N) (r : Fin 128) : Fin 128 := ⟨t.val * 128 + r.val, by have h := r.isLt; have h' : t.val < 1 := t.isLt; omega⟩

theorem emb1 (t : Fin cfg0.N) (s : Fin 8) (r : Fin 128) (k : Fin 512) :
    ((cfg0.win 1).blk t).view.emb (ix3 s r k) = ix3 s (row t r) k := by
  obtain ⟨⟨h0, h1, h2⟩, -⟩ := points t
  funext a; apply Fin.ext
  match a with
  | ⟨0, _⟩ => show win0_1.index t (0 : Fin 3) * 8 + 1 * s.val = s.val; omega
  | ⟨1, _⟩ => show win0_1.index t (1 : Fin 3) * 128 + 1 * r.val = t.val * 128 + r.val; omega
  | ⟨2, _⟩ => show win0_1.index t (2 : Fin 3) * 512 + 1 * k.val = k.val; omega

/-- A result's window; those of the weights and the moments are the same. -/
theorem emb4 (t : Fin cfg0.N) (r : Fin 128) (k : Fin 512) :
    ((cfg0.win 4).blk t).view.emb (ix3 (0 : Fin 1) r k) = ix3 (0 : Fin 1) (row t r) k := by
  obtain ⟨-, ⟨h0, h1, h2⟩⟩ := points t
  funext a; apply Fin.ext
  match a with
  | ⟨0, _⟩ => show win0_4.index t (0 : Fin 3) * 1 + 1 * 0 = 0; omega
  | ⟨1, _⟩ => show win0_4.index t (1 : Fin 3) * 128 + 1 * r.val = t.val * 128 + r.val; omega
  | ⟨2, _⟩ => show win0_4.index t (2 : Fin 3) * 512 + 1 * k.val = k.val; omega

/-- The gradient of a block of the parts is the block of the gradient … -/
theorem flushed_grad (c : Dev nD) (t : Fin cfg0.N) :
    AdamW.grad (iblk m c 1 t : Vec Ideal S8x128x512 .bf16) = ((cfg0.win 4).blk t).view.read (Elt Ideal) (AdamW.grad (V m c main_arg3)) := by
  funext j
  obtain ⟨z, r, k, rfl⟩ : ∃ (z : Fin 1) (r : Fin 128) (k : Fin 512), j = ix3 z r k := ⟨j 0, j 1, j 2, eq_ix3 j⟩
  obtain rfl : z = 0 := Subsingleton.elim _ _
  show _ = AdamW.grad (V m c main_arg3) (((cfg0.win 4).blk t).view.emb (ix3 (0 : Fin 1) r k))
  rw [emb4]
  exact Finset.sum_congr rfl fun s _ => congrArg (V m c main_arg3) (emb1 t s r k)

/-- … and so of the three others, computed element by element. -/
theorem flushed_delta (c : Dev nD) (t : Fin cfg0.N) :
    (dats m 0 c).flushed 5 t = ((cfg0.win 5).blk t).view.read (Elt Ideal) (AdamW.delta (V m c main_v0) (V m c main_v1) (V m c main_v2) (AdamW.grad (V m c main_arg3))) := by
  rw [body5, flushed_grad]
  rfl

theorem flushed_newM (c : Dev nD) (t : Fin cfg0.N) :
    (dats m 0 c).flushed 6 t = ((cfg0.win 6).blk t).view.read (Elt Ideal) (AdamW.newM (V m c main_v1) (AdamW.grad (V m c main_arg3))) := by
  rw [body6, flushed_grad]
  rfl

theorem flushed_newV (c : Dev nD) (t : Fin cfg0.N) :
    (dats m 0 c).flushed 7 t = ((cfg0.win 7).blk t).view.read (Elt Ideal) (AdamW.newV (V m c main_v2) (AdamW.grad (V m c main_arg3))) := by
  rw [body7, flushed_grad]
  rfl

/-- Every index lies in one point's block. -/
theorem covered (i : S1x128x512.Idx) : ∃ t : Fin cfg0.N, i ∈ ((cfg0.win 4).blk t).view.set := by
  obtain ⟨z, a, b, rfl⟩ : ∃ (z : Fin 1) (a : Fin 128) (b : Fin 512), i = ix3 z a b := ⟨i 0, i 1, i 2, eq_ix3 i⟩
  obtain rfl : z = 0 := Subsingleton.elim _ _
  have ha := a.isLt
  let t : Fin cfg0.N := ⟨a.val / 128, show a.val / 128 < 1 by omega⟩
  have h := ((cfg0.win 4).blk t).view.emb_mem_set (ix3 (0 : Fin 1) (⟨a.val % 128, by omega⟩ : Fin 128) b)
  have e : row t ⟨a.val % 128, by omega⟩ = a := Fin.ext (show a.val / 128 * 128 + a.val % 128 = a.val by omega)
  rw [emb4, e] at h
  exact ⟨t, h⟩

theorem flushes : ∀ t : Fin cfg0.N, (cfg0.win 4).flush t = true ∧ (cfg0.win 5).flush t = true ∧ (cfg0.win 6).flush t = true ∧ (cfg0.win 7).flush t = true :=
  (by decide +kernel : ∀ t : Fin grid0.N, win0_4.flush t = true ∧ win0_5.flush t = true ∧ win0_6.flush t = true ∧ win0_7.flush t = true)

/-- A matrix as the one layer of an array: what the host passes the kernel. -/
def layer (x : Vec Ideal S128x512 .f32) : Vec Ideal S1x128x512 .f32 := broadcastInDim S1x128x512 ![1, 2] bcast_S128x512_S1x128x512_1_2 x

theorem entry0 (c : Dev nD) : (V m c main_v0 : Vec Ideal S1x128x512 .f32) = layer (m ((c : Thread nD τ).loc main_arg0)) := by
  have h : (V m c main_v0 : Vec Ideal S1x128x512 .f32) = layer (V m c main_arg0) := rfl
  rw [h, V_main_arg0]

theorem entry1 (c : Dev nD) : (V m c main_v1 : Vec Ideal S1x128x512 .f32) = layer (m ((c : Thread nD τ).loc main_arg1)) := by
  have h : (V m c main_v1 : Vec Ideal S1x128x512 .f32) = layer (V m c main_arg1) := rfl
  rw [h, V_main_arg1]

theorem entry2 (c : Dev nD) : (V m c main_v2 : Vec Ideal S1x128x512 .f32) = layer (m ((c : Thread nD τ).loc main_arg2)) := by
  have h : (V m c main_v2 : Vec Ideal S1x128x512 .f32) = layer (V m c main_arg2) := rfl
  rw [h, V_main_arg2]

/-- The kernel's run: its result arrays are those functions of the arguments. -/
theorem run : θ_run defs (onTc (τ := τ) (main (F := Ideal))) ⟨m, fun _ => 0, ρ⟩ fun r => ∀ c : Dev nD,
      r.2.mem ((c : Thread nD τ).loc main_v3_0) = AdamW.grad (m ((c : Thread nD τ).loc main_arg3))
      ∧ r.2.mem ((c : Thread nD τ).loc main_v3_1) = AdamW.delta (layer (m ((c : Thread nD τ).loc main_arg0))) (layer (m ((c : Thread nD τ).loc main_arg1))) (layer (m ((c : Thread nD τ).loc main_arg2))) (AdamW.grad (m ((c : Thread nD τ).loc main_arg3)))
      ∧ r.2.mem ((c : Thread nD τ).loc main_v3_2) = AdamW.newM (layer (m ((c : Thread nD τ).loc main_arg1))) (AdamW.grad (m ((c : Thread nD τ).loc main_arg3)))
      ∧ r.2.mem ((c : Thread nD τ).loc main_v3_3) = AdamW.newV (layer (m ((c : Thread nD τ).loc main_arg2))) (AdamW.grad (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  rw [← entry0 m c, ← entry1 m c, ← entry2 m c, ← V_main_arg3 m c]
  exact ⟨(h c).1.trans ((dats m 0 c).arrAt_eq_of_cover 4 _ (fun t _ => (body4 m c t).trans (flushed_grad m c t)) fun i => (covered i).imp fun t h => ⟨(flushes t).1, h⟩),
    (h c).2.1.trans ((dats m 0 c).arrAt_eq_of_cover 5 _ (fun t _ => flushed_delta m c t) fun i => (covered i).imp fun t h => ⟨(flushes t).2.1, h⟩),
    (h c).2.2.1.trans ((dats m 0 c).arrAt_eq_of_cover 6 _ (fun t _ => flushed_newM m c t) fun i => (covered i).imp fun t h => ⟨(flushes t).2.2.1, h⟩),
    (h c).2.2.2.1.trans ((dats m 0 c).arrAt_eq_of_cover 7 _ (fun t _ => flushed_newV m c t) fun i => (covered i).imp fun t h => ⟨(flushes t).2.2.2, h⟩), (h c).2.2.2.2⟩

/-- The reference's results are the same functions. -/
theorem grad_eq (p : Vec Ideal S8x128x512 .bf16) : Cert.AdamKvRefIdeal.Read.val_main_v2 (F := Ideal) p = AdamW.grad p := by
  funext i
  obtain ⟨z, a, b, rfl⟩ : ∃ (z : Fin 1) (a : Fin 128) (b : Fin 512), i = ix3 z a b := ⟨i 0, i 1, i 2, eq_ix3 i⟩
  pointwise [AdamW.grad, Cert.AdamKvRefIdeal.Read.val_main_v2, Cert.AdamKvRefIdeal.Read.val_main_v1, Cert.AdamKvRefIdeal.Read.val_main_v0, Cert.AdamKvRefIdeal.Read.val_main_cst]

theorem newM_eq (m : Vec Ideal S128x512 .f32) (p : Vec Ideal S8x128x512 .bf16) : Cert.AdamKvRefIdeal.Read.val_main_v10 (F := Ideal) m p = AdamW.newM (layer m) (AdamW.grad p) := by
  rw [← grad_eq]
  rfl

theorem newV_eq (v : Vec Ideal S128x512 .f32) (p : Vec Ideal S8x128x512 .bf16) : Cert.AdamKvRefIdeal.Read.val_main_v16 (F := Ideal) v p = AdamW.newV (layer v) (AdamW.grad p) := by
  rw [← grad_eq]
  rfl

theorem delta_eq (w m v : Vec Ideal S128x512 .f32) (p : Vec Ideal S8x128x512 .bf16) :
    Cert.AdamKvRefIdeal.Read.val_main_v29 (F := Ideal) w m v p = AdamW.delta (layer w) (layer m) (layer v) (AdamW.grad p) := by
  rw [← grad_eq]
  rfl

/-- The program as printed and the one read at the extended reals have the same bodies. -/
theorem bodies_eq : @Cert.AdamKv.defs₀ Bits _ _ = @Cert.AdamKvIdeal.defs₀ Bits _ _ := by
  unfold Cert.AdamKv.defs₀ Cert.AdamKvIdeal.defs₀
  refine congrArg Defs.onTc (funext fun l => funext fun x => ?_)
  match l, x with
  | 0, (t, s) => rfl

/-- The kernel's frame, of the program as printed: the run of the same text at the device's own values. -/
theorem frame_kernel : Cert.quiescent_AdamKv := by
  intro m ρ _
  have h : Cert.AdamKv.defs (F := Bits) = Cert.AdamKvIdeal.defs (F := Bits) := congrArg (Pipeline.defs _) bodies_eq
  rw [h]
  exact Cert.AdamKvIdeal.Gen.frame (F := Bits) m ρ

theorem frame_ideal : Cert.quiescent_AdamKvIdeal := fun m ρ _ => Cert.AdamKvIdeal.Gen.frame (F := Ideal) m ρ

theorem frame_reference : Cert.quiescent_AdamKvRefIdeal := fun m ρ _ =>
  (θ_run Cert.AdamKvRefIdeal.defs _ _).mono (fun r h => ⟨fun c => (h c).2.2.2.2, sem_eq_zero_of_no_sems (by decide) r.2⟩)
    (Cert.AdamKvRefIdeal.Value.run (F := Ideal) m ρ)

theorem algebraic : Cert.algebraic_AdamKvIdeal_AdamKvRefIdeal := by
  intro m ρ m' ρ' _ hagree
  refine ⟨_, _, _, _, run m ρ, (θ_run Cert.AdamKvRefIdeal.defs _ _).mono (fun r h c => ⟨((h c).1.trans (Cert.AdamKvRefIdeal.Read.val_main_v2_eq _)).trans ?_,
      ((h c).2.1.trans (Cert.AdamKvRefIdeal.Read.val_main_v29_eq _ _ _ _)).trans ?_, ((h c).2.2.1.trans (Cert.AdamKvRefIdeal.Read.val_main_v10_eq _ _)).trans ?_,
      ((h c).2.2.2.1.trans (Cert.AdamKvRefIdeal.Read.val_main_v16_eq _ _)).trans ?_, (h c).2.2.2.2⟩)
    (Cert.AdamKvRefIdeal.Value.run (F := Ideal) m' ρ')⟩
  · rw [grad_eq, (hagree c).2.2.2]
  · rw [delta_eq, (hagree c).1, (hagree c).2.1, (hagree c).2.2.1, (hagree c).2.2.2]
  · rw [newM_eq, (hagree c).2.1, (hagree c).2.2.2]
  · rw [newV_eq, (hagree c).2.2.1, (hagree c).2.2.2]

end Cert.Proof.AdamKv

end
-- ==== Proof.AdamGateUp.lean ====
/- The optimiser's step for one device's shard of the gate's and up projection's weights: the four arrays the kernel leaves and the reference's four results are the
   gradient, the change and the two moments of AdamW, of both layers. -/
module

public import proofs.«01_k».proof.Defs
public import proofs.«01_k».proof.Proof.Gen.AdamGateUp
public import proofs.«01_k».proof.Proof.Gen.AdamGateUpIdeal.Value
public import proofs.«01_k».proof.Proof.Gen.AdamGateUpRefIdeal.Read
public import proofs.«01_k».proof.Proof.AdamW
public import Idealize.ShloMosaic.Lib.Pointwise
public import Idealize.ShloMosaic.Lib.Claim

@[expose] public section

set_option maxRecDepth 16384

noncomputable section

namespace Cert.Proof.AdamGateUp

open Cert.AdamGateUpIdeal Cert.AdamGateUpIdeal.Gen Cert.AdamGateUpIdeal.Value
open Idealize.ShloMosaic Idealize.ShloMosaic.TcCoe Idealize.SL.Sem

/-- The eight loads' sum, in the first layer's case and in the second's. -/
theorem total_A (x : Vec Ideal S8x176x1024 .bf16) :
    k0_pay5 (View.ld x (Rect.unit (s := S8x176x1024) ![0, 0, 0] S1x176x1024.size inb_S8x176x1024_S1x176x1024_0_0_0))
    (View.ld x (Rect.unit (s := S8x176x1024) ![1, 0, 0] S1x176x1024.size inb_S8x176x1024_S1x176x1024_1_0_0))
    (View.ld x (Rect.unit (s := S8x176x1024) ![2, 0, 0] S1x176x1024.size inb_S8x176x1024_S1x176x1024_2_0_0))
    (View.ld x (Rect.unit (s := S8x176x1024) ![3, 0, 0] S1x176x1024.size inb_S8x176x1024_S1x176x1024_3_0_0))
    (View.ld x (Rect.unit (s := S8x176x1024) ![4, 0, 0] S1x176x1024.size inb_S8x176x1024_S1x176x1024_4_0_0))
    (View.ld x (Rect.unit (s := S8x176x1024) ![5, 0, 0] S1x176x1024.size inb_S8x176x1024_S1x176x1024_5_0_0))
    (View.ld x (Rect.unit (s := S8x176x1024) ![6, 0, 0] S1x176x1024.size inb_S8x176x1024_S1x176x1024_6_0_0))
    (View.ld x (Rect.unit (s := S8x176x1024) ![7, 0, 0] S1x176x1024.size inb_S8x176x1024_S1x176x1024_7_0_0)) = AdamW.flat (AdamW.grad x) :=
  AdamW.total_eq x _ _ (by decide : ∀ s : Fin 8, ∀ a : Fin 3, (![s.val, 0, 0] : Fin 3 → Nat) a + S1x176x1024.size a ≤ S8x176x1024.size a)

theorem total_B (x : Vec Ideal S8x176x1024 .bf16) :
    k0_pay10 (View.ld x (Rect.unit (s := S8x176x1024) ![0, 0, 0] S1x176x1024.size inb_S8x176x1024_S1x176x1024_0_0_0))
    (View.ld x (Rect.unit (s := S8x176x1024) ![1, 0, 0] S1x176x1024.size inb_S8x176x1024_S1x176x1024_1_0_0))
    (View.ld x (Rect.unit (s := S8x176x1024) ![2, 0, 0] S1x176x1024.size inb_S8x176x1024_S1x176x1024_2_0_0))
    (View.ld x (Rect.unit (s := S8x176x1024) ![3, 0, 0] S1x176x1024.size inb_S8x176x1024_S1x176x1024_3_0_0))
    (View.ld x (Rect.unit (s := S8x176x1024) ![4, 0, 0] S1x176x1024.size inb_S8x176x1024_S1x176x1024_4_0_0))
    (View.ld x (Rect.unit (s := S8x176x1024) ![5, 0, 0] S1x176x1024.size inb_S8x176x1024_S1x176x1024_5_0_0))
    (View.ld x (Rect.unit (s := S8x176x1024) ![6, 0, 0] S1x176x1024.size inb_S8x176x1024_S1x176x1024_6_0_0))
    (View.ld x (Rect.unit (s := S8x176x1024) ![7, 0, 0] S1x176x1024.size inb_S8x176x1024_S1x176x1024_7_0_0)) = AdamW.flat (AdamW.grad x) :=
  total_A x

theorem zeros : (![0, 0, 0] : Fin 3 → Nat) = fun _ => 0 := funext fun a => by fin_cases a <;> rfl

variable (m : (ℓ : Loc nD τ sig) → Buf (Elt Ideal) ℓ) (ρ : Dev nD → PrngReg)

/-- What a point writes back: the functions of its blocks, the parts being the layer's. -/
theorem body5_A (c : Dev nD) (t : Fin cfg0.N) (h : t.val < 4) :
    (dats m 0 c).flushed 5 t = (cfg0.win 5).cut (grid0.coords t) (AdamW.grad (iblk m c 1 t)) := by
  have ht : t.val < 8 := t.isLt
  rw [flushed5_A m c t (by omega) (by omega)]
  unfold out0_A_5
  rw [View.read_writes_eq_canon _ _ _ (fun y => cover0_A_5 ..)]
  unfold kernelRun0_A
  dsimp only
  sl_unfold_words
  rw [View.canon_unit_zero zeros]
  simp only [View.readAt_eq_ld, (hs0_1 t).read_unread]
  exact congrArg _ ((congrArg k0_pay6 (total_A _)).trans (AdamW.cast_of_flat _ _))

theorem body5_B (c : Dev nD) (t : Fin cfg0.N) (h : 4 ≤ t.val) :
    (dats m 0 c).flushed 5 t = (cfg0.win 5).cut (grid0.coords t) (AdamW.grad (iblk m c 2 t)) := by
  have ht : t.val < 8 := t.isLt
  rw [flushed5_B m c t (by omega) (by omega)]
  unfold out0_B_5
  rw [View.read_writes_eq_canon _ _ _ (fun y => cover0_B_5 ..)]
  unfold kernelRun0_B
  dsimp only
  sl_unfold_words
  rw [View.canon_unit_zero zeros]
  simp only [View.readAt_eq_ld, (hs0_2 t).read_unread]
  exact congrArg _ ((congrArg k0_pay11 (total_B _)).trans (AdamW.cast_of_flat _ _))

theorem body6_A (c : Dev nD) (t : Fin cfg0.N) (h : t.val < 4) :
    (dats m 0 c).flushed 6 t = (cfg0.win 6).cut (grid0.coords t) (AdamW.delta (iblk m c 0 t) (iblk m c 3 t) (iblk m c 4 t) (AdamW.grad (iblk m c 1 t))) := by
  have ht : t.val < 8 := t.isLt
  rw [flushed6_A m c t (by omega) (by omega)]
  unfold out0_A_6
  rw [View.read_writes_eq_canon _ _ _ (fun y => cover0_A_6 ..)]
  unfold kernelRun0_A
  dsimp only
  sl_unfold_words
  rw [View.canon_unit_zero zeros]
  simp only [View.readAt_eq_ld, (hs0_0 t).read_unread, (hs0_1 t).read_unread, (hs0_3 t).read_unread, (hs0_4 t).read_unread, View.ld_unit_zero (S := S1x176x1024) zeros]
  exact congrArg _ ((congrArg (fun g => k0_pay9 g (iblk m c 0 t) (iblk m c 3 t) (iblk m c 4 t)) (total_A _)).trans (AdamW.storeD_eq (iblk m c 0 t) (iblk m c 3 t) (iblk m c 4 t) _ _ _))

theorem body6_B (c : Dev nD) (t : Fin cfg0.N) (h : 4 ≤ t.val) :
    (dats m 0 c).flushed 6 t = (cfg0.win 6).cut (grid0.coords t) (AdamW.delta (iblk m c 0 t) (iblk m c 3 t) (iblk m c 4 t) (AdamW.grad (iblk m c 2 t))) := by
  have ht : t.val < 8 := t.isLt
  rw [flushed6_B m c t (by omega) (by omega)]
  unfold out0_B_6
  rw [View.read_writes_eq_canon _ _ _ (fun y => cover0_B_6 ..)]
  unfold kernelRun0_B
  dsimp only
  sl_unfold_words
  rw [View.canon_unit_zero zeros]
  simp only [View.readAt_eq_ld, (hs0_0 t).read_unread, (hs0_2 t).read_unread, (hs0_3 t).read_unread, (hs0_4 t).read_unread, View.ld_unit_zero (S := S1x176x1024) zeros]
  exact congrArg _ ((congrArg (fun g => k0_pay14 g (iblk m c 0 t) (iblk m c 3 t) (iblk m c 4 t)) (total_B _)).trans (AdamW.storeD_eq (iblk m c 0 t) (iblk m c 3 t) (iblk m c 4 t) _ _ _))

theorem body7_A (c : Dev nD) (t : Fin cfg0.N) (h : t.val < 4) :
    (dats m 0 c).flushed 7 t = (cfg0.win 7).cut (grid0.coords t) (AdamW.newM (iblk m c 3 t) (AdamW.grad (iblk m c 1 t))) := by
  have ht : t.val < 8 := t.isLt
  rw [flushed7_A m c t (by omega) (by omega)]
  unfold out0_A_7
  rw [View.read_writes_eq_canon _ _ _ (fun y => cover0_A_7 ..)]
  unfold kernelRun0_A
  dsimp only
  sl_unfold_words
  rw [View.canon_unit_zero zeros]
  simp only [View.readAt_eq_ld, (hs0_1 t).read_unread, (hs0_3 t).read_unread, View.ld_unit_zero (S := S1x176x1024) zeros]
  exact congrArg _ ((congrArg (fun g => k0_pay1 (k0_pay7 g (iblk m c 3 t))) (total_A _)).trans (AdamW.storeM_eq (iblk m c 3 t) _ _ _))

theorem body7_B (c : Dev nD) (t : Fin cfg0.N) (h : 4 ≤ t.val) :
    (dats m 0 c).flushed 7 t = (cfg0.win 7).cut (grid0.coords t) (AdamW.newM (iblk m c 3 t) (AdamW.grad (iblk m c 2 t))) := by
  have ht : t.val < 8 := t.isLt
  rw [flushed7_B m c t (by omega) (by omega)]
  unfold out0_B_7
  rw [View.read_writes_eq_canon _ _ _ (fun y => cover0_B_7 ..)]
  unfold kernelRun0_B
  dsimp only
  sl_unfold_words
  rw [View.canon_unit_zero zeros]
  simp only [View.readAt_eq_ld, (hs0_2 t).read_unread, (hs0_3 t).read_unread, View.ld_unit_zero (S := S1x176x1024) zeros]
  exact congrArg _ ((congrArg (fun g => k0_pay3 (k0_pay12 g (iblk m c 3 t))) (total_B _)).trans (AdamW.storeM_eq (iblk m c 3 t) _ _ _))

theorem body8_A (c : Dev nD) (t : Fin cfg0.N) (h : t.val < 4) :
    (dats m 0 c).flushed 8 t = (cfg0.win 8).cut (grid0.coords t) (AdamW.newV (iblk m c 4 t) (AdamW.grad (iblk m c 1 t))) := by
  have ht : t.val < 8 := t.isLt
  rw [flushed8_A m c t (by omega) (by omega)]
  unfold out0_A_8
  rw [View.read_writes_eq_canon _ _ _ (fun y => cover0_A_8 ..)]
  unfold kernelRun0_A
  dsimp only
  sl_unfold_words
  rw [View.canon_unit_zero zeros]
  simp only [View.readAt_eq_ld, (hs0_1 t).read_unread, (hs0_4 t).read_unread, View.ld_unit_zero (S := S1x176x1024) zeros]
  exact congrArg _ ((congrArg (fun g => k0_pay2 (k0_pay8 g (iblk m c 4 t))) (total_A _)).trans (AdamW.storeV_eq (iblk m c 4 t) _ _ _))

theorem body8_B (c : Dev nD) (t : Fin cfg0.N) (h : 4 ≤ t.val) :
    (dats m 0 c).flushed 8 t = (cfg0.win 8).cut (grid0.coords t) (AdamW.newV (iblk m c 4 t) (AdamW.grad (iblk m c 2 t))) := by
  have ht : t.val < 8 := t.isLt
  rw [flushed8_B m c t (by omega) (by omega)]
  unfold out0_B_8
  rw [View.read_writes_eq_canon _ _ _ (fun y => cover0_B_8 ..)]
  unfold kernelRun0_B
  dsimp only
  sl_unfold_words
  rw [View.canon_unit_zero zeros]
  simp only [View.readAt_eq_ld, (hs0_2 t).read_unread, (hs0_4 t).read_unread, View.ld_unit_zero (S := S1x176x1024) zeros]
  exact congrArg _ ((congrArg (fun g => k0_pay4 (k0_pay13 g (iblk m c 4 t))) (total_B _)).trans (AdamW.storeV_eq (iblk m c 4 t) _ _ _))

/-- The block indices of the layers' parts' windows and of a result's: a point is a layer and a block of rows. -/
theorem points : ∀ t : Fin cfg0.N,
    (t.val < 4 → win0_1.index t (0 : Fin 3) = 0 ∧ win0_1.index t (1 : Fin 3) = t.val % 4 ∧ win0_1.index t (2 : Fin 3) = 0)
    ∧ (4 ≤ t.val → win0_2.index t (0 : Fin 3) = 0 ∧ win0_2.index t (1 : Fin 3) = t.val % 4 ∧ win0_2.index t (2 : Fin 3) = 0)
    ∧ (win0_5.index t (0 : Fin 3) = t.val / 4 ∧ win0_5.index t (1 : Fin 3) = t.val % 4 ∧ win0_5.index t (2 : Fin 3) = 0) :=
  (by decide +kernel : ∀ t : Fin grid0.N, _)

/-- Row `r` of point `t`'s block of rows. -/
def row (t : Fin cfg0.N) (r : Fin 176) : Fin 704 := ⟨t.val % 4 * 176 + r.val, by have h := r.isLt; omega⟩

/-- Point `t`'s layer. -/
def layerOf (t : Fin cfg0.N) : Fin 2 := ⟨t.val / 4, by have h : t.val < 8 := t.isLt; omega⟩

theorem emb1 (t : Fin cfg0.N) (h : t.val < 4) (s : Fin 8) (r : Fin 176) (k : Fin 1024) :
    ((cfg0.win 1).blk t).view.emb (ix3 s r k) = ix3 s (row t r) k := by
  obtain ⟨h0, h1, h2⟩ := (points t).1 h
  funext a; apply Fin.ext
  match a with
  | ⟨0, _⟩ => show win0_1.index t (0 : Fin 3) * 8 + 1 * s.val = s.val; omega
  | ⟨1, _⟩ => show win0_1.index t (1 : Fin 3) * 176 + 1 * r.val = t.val % 4 * 176 + r.val; omega
  | ⟨2, _⟩ => show win0_1.index t (2 : Fin 3) * 1024 + 1 * k.val = k.val; omega

theorem emb2 (t : Fin cfg0.N) (h : 4 ≤ t.val) (s : Fin 8) (r : Fin 176) (k : Fin 1024) :
    ((cfg0.win 2).blk t).view.emb (ix3 s r k) = ix3 s (row t r) k := by
  obtain ⟨h0, h1, h2⟩ := (points t).2.1 h
  funext a; apply Fin.ext
  match a with
  | ⟨0, _⟩ => show win0_2.index t (0 : Fin 3) * 8 + 1 * s.val = s.val; omega
  | ⟨1, _⟩ => show win0_2.index t (1 : Fin 3) * 176 + 1 * r.val = t.val % 4 * 176 + r.val; omega
  | ⟨2, _⟩ => show win0_2.index t (2 : Fin 3) * 1024 + 1 * k.val = k.val; omega

/-- A result's window; those of the weights and the moments are the same. -/
theorem emb5 (t : Fin cfg0.N) (r : Fin 176) (k : Fin 1024) :
    ((cfg0.win 5).blk t).view.emb (ix3 (0 : Fin 1) r k) = ix3 (layerOf t) (row t r) k := by
  obtain ⟨h0, h1, h2⟩ := (points t).2.2
  funext a; apply Fin.ext
  match a with
  | ⟨0, _⟩ => show win0_5.index t (0 : Fin 3) * 1 + 1 * 0 = t.val / 4; omega
  | ⟨1, _⟩ => show win0_5.index t (1 : Fin 3) * 176 + 1 * r.val = t.val % 4 * 176 + r.val; omega
  | ⟨2, _⟩ => show win0_5.index t (2 : Fin 3) * 1024 + 1 * k.val = k.val; omega

/-- The gradient of a block of the layer's parts is the block of the gradient … -/
theorem grad_A (c : Dev nD) (t : Fin cfg0.N) (h : t.val < 4) :
    AdamW.grad (iblk m c 1 t : Vec Ideal S8x176x1024 .bf16) = ((cfg0.win 5).blk t).view.read (Elt Ideal) (AdamW.grad2 (V m c main_arg3) (V m c main_arg4)) := by
  funext j
  obtain ⟨z, r, k, rfl⟩ : ∃ (z : Fin 1) (r : Fin 176) (k : Fin 1024), j = ix3 z r k := ⟨j 0, j 1, j 2, eq_ix3 j⟩
  obtain rfl : z = 0 := Subsingleton.elim _ _
  show _ = AdamW.grad2 (V m c main_arg3) (V m c main_arg4) (((cfg0.win 5).blk t).view.emb (ix3 (0 : Fin 1) r k))
  have e : layerOf t = 0 := Fin.ext (show t.val / 4 = 0 by omega)
  rw [emb5, e, AdamW.grad2_zero]
  exact Finset.sum_congr rfl fun s _ => congrArg (V m c main_arg3) (emb1 t h s r k)

theorem grad_B (c : Dev nD) (t : Fin cfg0.N) (h : 4 ≤ t.val) :
    AdamW.grad (iblk m c 2 t : Vec Ideal S8x176x1024 .bf16) = ((cfg0.win 5).blk t).view.read (Elt Ideal) (AdamW.grad2 (V m c main_arg3) (V m c main_arg4)) := by
  have ht : t.val < 8 := t.isLt
  funext j
  obtain ⟨z, r, k, rfl⟩ : ∃ (z : Fin 1) (r : Fin 176) (k : Fin 1024), j = ix3 z r k := ⟨j 0, j 1, j 2, eq_ix3 j⟩
  obtain rfl : z = 0 := Subsingleton.elim _ _
  show _ = AdamW.grad2 (V m c main_arg3) (V m c main_arg4) (((cfg0.win 5).blk t).view.emb (ix3 (0 : Fin 1) r k))
  have e : layerOf t = 1 := Fin.ext (show t.val / 4 = 1 by omega)
  rw [emb5, e, AdamW.grad2_one]
  exact Finset.sum_congr rfl fun s _ => congrArg (V m c main_arg4) (emb2 t h s r k)

theorem flushed_grad (c : Dev nD) (t : Fin cfg0.N) :
    (dats m 0 c).flushed 5 t = ((cfg0.win 5).blk t).view.read (Elt Ideal) (AdamW.grad2 (V m c main_arg3) (V m c main_arg4)) := by
  rcases Nat.lt_or_ge t.val 4 with h | h
  · rw [body5_A m c t h, grad_A m c t h]
  · rw [body5_B m c t h, grad_B m c t h]

/-- … and so of the three others, computed element by element. -/
theorem flushed_delta (c : Dev nD) (t : Fin cfg0.N) :
    (dats m 0 c).flushed 6 t = ((cfg0.win 6).blk t).view.read (Elt Ideal) (AdamW.delta (V m c main_v0) (V m c main_v1) (V m c main_v2) (AdamW.grad2 (V m c main_arg3) (V m c main_arg4))) := by
  rcases Nat.lt_or_ge t.val 4 with h | h
  · rw [body6_A m c t h, grad_A m c t h]
    rfl
  · rw [body6_B m c t h, grad_B m c t h]
    rfl

theorem flushed_newM (c : Dev nD) (t : Fin cfg0.N) :
    (dats m 0 c).flushed 7 t = ((cfg0.win 7).blk t).view.read (Elt Ideal) (AdamW.newM (V m c main_v1) (AdamW.grad2 (V m c main_arg3) (V m c main_arg4))) := by
  rcases Nat.lt_or_ge t.val 4 with h | h
  · rw [body7_A m c t h, grad_A m c t h]
    rfl
  · rw [body7_B m c t h, grad_B m c t h]
    rfl

theorem flushed_newV (c : Dev nD) (t : Fin cfg0.N) :
    (dats m 0 c).flushed 8 t = ((cfg0.win 8).blk t).view.read (Elt Ideal) (AdamW.newV (V m c main_v2) (AdamW.grad2 (V m c main_arg3) (V m c main_arg4))) := by
  rcases Nat.lt_or_ge t.val 4 with h | h
  · rw [body8_A m c t h, grad_A m c t h]
    rfl
  · rw [body8_B m c t h, grad_B m c t h]
    rfl

/-- Every index lies in one point's block. -/
theorem covered (i : S2x704x1024.Idx) : ∃ t : Fin cfg0.N, i ∈ ((cfg0.win 5).blk t).view.set := by
  obtain ⟨z, a, b, rfl⟩ : ∃ (z : Fin 2) (a : Fin 704) (b : Fin 1024), i = ix3 z a b := ⟨i 0, i 1, i 2, eq_ix3 i⟩
  have ha := a.isLt
  have hz := z.isLt
  let t : Fin cfg0.N := ⟨z.val * 4 + a.val / 176, show z.val * 4 + a.val / 176 < 8 by omega⟩
  have h := ((cfg0.win 5).blk t).view.emb_mem_set (ix3 (0 : Fin 1) (⟨a.val % 176, by omega⟩ : Fin 176) b)
  have e : row t ⟨a.val % 176, by omega⟩ = a := Fin.ext (show (z.val * 4 + a.val / 176) % 4 * 176 + a.val % 176 = a.val by omega)
  have e' : layerOf t = z := Fin.ext (show (z.val * 4 + a.val / 176) / 4 = z.val by omega)
  rw [emb5, e, e'] at h
  exact ⟨t, h⟩

theorem flushes : ∀ t : Fin cfg0.N, (cfg0.win 5).flush t = true ∧ (cfg0.win 6).flush t = true ∧ (cfg0.win 7).flush t = true ∧ (cfg0.win 8).flush t = true :=
  (by decide +kernel : ∀ t : Fin grid0.N, win0_5.flush t = true ∧ win0_6.flush t = true ∧ win0_7.flush t = true ∧ win0_8.flush t = true)

/-- The matrices transposed: what the host passes the kernel. -/
def turned (x : Vec Ideal S2x1024x704 .f32) : Vec Ideal S2x704x1024 .f32 := transpose S2x704x1024 [0, 2, 1] x transposes_S2x1024x704_S2x704x1024_0_2_1

theorem entry0 (c : Dev nD) : (V m c main_v0 : Vec Ideal S2x704x1024 .f32) = turned (m ((c : Thread nD τ).loc main_arg0)) := by
  have h : (V m c main_v0 : Vec Ideal S2x704x1024 .f32) = turned (V m c main_arg0) := rfl
  rw [h, V_main_arg0]

theorem entry1 (c : Dev nD) : (V m c main_v1 : Vec Ideal S2x704x1024 .f32) = turned (m ((c : Thread nD τ).loc main_arg1)) := by
  have h : (V m c main_v1 : Vec Ideal S2x704x1024 .f32) = turned (V m c main_arg1) := rfl
  rw [h, V_main_arg1]

theorem entry2 (c : Dev nD) : (V m c main_v2 : Vec Ideal S2x704x1024 .f32) = turned (m ((c : Thread nD τ).loc main_arg2)) := by
  have h : (V m c main_v2 : Vec Ideal S2x704x1024 .f32) = turned (V m c main_arg2) := rfl
  rw [h, V_main_arg2]

/-- The kernel's run: its result arrays are those functions of the arguments. -/
theorem run : θ_run defs (onTc (τ := τ) (main (F := Ideal))) ⟨m, fun _ => 0, ρ⟩ fun r => ∀ c : Dev nD,
      r.2.mem ((c : Thread nD τ).loc main_v3_0) = AdamW.grad2 (m ((c : Thread nD τ).loc main_arg3)) (m ((c : Thread nD τ).loc main_arg4))
      ∧ r.2.mem ((c : Thread nD τ).loc main_v3_1) = AdamW.delta (turned (m ((c : Thread nD τ).loc main_arg0))) (turned (m ((c : Thread nD τ).loc main_arg1))) (turned (m ((c : Thread nD τ).loc main_arg2))) (AdamW.grad2 (m ((c : Thread nD τ).loc main_arg3)) (m ((c : Thread nD τ).loc main_arg4)))
      ∧ r.2.mem ((c : Thread nD τ).loc main_v3_2) = AdamW.newM (turned (m ((c : Thread nD τ).loc main_arg1))) (AdamW.grad2 (m ((c : Thread nD τ).loc main_arg3)) (m ((c : Thread nD τ).loc main_arg4)))
      ∧ r.2.mem ((c : Thread nD τ).loc main_v3_3) = AdamW.newV (turned (m ((c : Thread nD τ).loc main_arg2))) (AdamW.grad2 (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_blocks m ρ)
  rw [← entry0 m c, ← entry1 m c, ← entry2 m c, ← V_main_arg3 m c, ← V_main_arg4 m c]
  exact ⟨(h c).1.trans ((dats m 0 c).arrAt_eq_of_cover 5 _ (fun t _ => flushed_grad m c t) fun i => (covered i).imp fun t h => ⟨(flushes t).1, h⟩),
    (h c).2.1.trans ((dats m 0 c).arrAt_eq_of_cover 6 _ (fun t _ => flushed_delta m c t) fun i => (covered i).imp fun t h => ⟨(flushes t).2.1, h⟩),
    (h c).2.2.1.trans ((dats m 0 c).arrAt_eq_of_cover 7 _ (fun t _ => flushed_newM m c t) fun i => (covered i).imp fun t h => ⟨(flushes t).2.2.1, h⟩),
    (h c).2.2.2.1.trans ((dats m 0 c).arrAt_eq_of_cover 8 _ (fun t _ => flushed_newV m c t) fun i => (covered i).imp fun t h => ⟨(flushes t).2.2.2, h⟩), (h c).2.2.2.2⟩

/-- The reference's results are the same functions. -/
theorem grad_eq (p q : Vec Ideal S8x704x1024 .bf16) : Cert.AdamGateUpRefIdeal.Read.val_main_v6 (F := Ideal) p q = AdamW.grad2 p q := by
  funext i
  obtain ⟨z, a, b, rfl⟩ : ∃ (z : Fin 2) (a : Fin 704) (b : Fin 1024), i = ix3 z a b := ⟨i 0, i 1, i 2, eq_ix3 i⟩
  match z with
  | ⟨0, _⟩ =>
    refine Eq.trans ?_ (AdamW.grad2_zero p q a b).symm
    pointwise [Cert.AdamGateUpRefIdeal.Read.val_main_v6, Cert.AdamGateUpRefIdeal.Read.val_main_v5, Cert.AdamGateUpRefIdeal.Read.val_main_v4, Cert.AdamGateUpRefIdeal.Read.val_main_v3, Cert.AdamGateUpRefIdeal.Read.val_main_v2, Cert.AdamGateUpRefIdeal.Read.val_main_v1, Cert.AdamGateUpRefIdeal.Read.val_main_v0, Cert.AdamGateUpRefIdeal.Read.val_main_cst, Cert.AdamGateUpRefIdeal.Read.val_main_cst_0]
  | ⟨1, _⟩ =>
    refine Eq.trans ?_ (AdamW.grad2_one p q a b).symm
    pointwise [Cert.AdamGateUpRefIdeal.Read.val_main_v6, Cert.AdamGateUpRefIdeal.Read.val_main_v5, Cert.AdamGateUpRefIdeal.Read.val_main_v4, Cert.AdamGateUpRefIdeal.Read.val_main_v3, Cert.AdamGateUpRefIdeal.Read.val_main_v2, Cert.AdamGateUpRefIdeal.Read.val_main_v1, Cert.AdamGateUpRefIdeal.Read.val_main_v0, Cert.AdamGateUpRefIdeal.Read.val_main_cst, Cert.AdamGateUpRefIdeal.Read.val_main_cst_0]

theorem newM_eq (m : Vec Ideal S2x1024x704 .f32) (p q : Vec Ideal S8x704x1024 .bf16) : Cert.AdamGateUpRefIdeal.Read.val_main_v14 (F := Ideal) m p q = AdamW.newM (turned m) (AdamW.grad2 p q) := by
  rw [← grad_eq]
  rfl

theorem newV_eq (v : Vec Ideal S2x1024x704 .f32) (p q : Vec Ideal S8x704x1024 .bf16) : Cert.AdamGateUpRefIdeal.Read.val_main_v20 (F := Ideal) v p q = AdamW.newV (turned v) (AdamW.grad2 p q) := by
  rw [← grad_eq]
  rfl

theorem delta_eq (w m v : Vec Ideal S2x1024x704 .f32) (p q : Vec Ideal S8x704x1024 .bf16) :
    Cert.AdamGateUpRefIdeal.Read.val_main_v33 (F := Ideal) w m v p q = AdamW.delta (turned w) (turned m) (turned v) (AdamW.grad2 p q) := by
  rw [← grad_eq]
  rfl

/-- The program as printed and the one read at the extended reals have the same bodies. -/
theorem bodies_eq : @Cert.AdamGateUp.defs₀ Bits _ _ = @Cert.AdamGateUpIdeal.defs₀ Bits _ _ := by
  unfold Cert.AdamGateUp.defs₀ Cert.AdamGateUpIdeal.defs₀
  refine congrArg Defs.onTc (funext fun l => funext fun x => ?_)
  match l, x with
  | 0, (t, s) => rfl

/-- The kernel's frame, of the program as printed: the run of the same text at the device's own values. -/
theorem frame_kernel : Cert.quiescent_AdamGateUp := by
  intro m ρ _
  have h : Cert.AdamGateUp.defs (F := Bits) = Cert.AdamGateUpIdeal.defs (F := Bits) := congrArg (Pipeline.defs _) bodies_eq
  rw [h]
  exact Cert.AdamGateUpIdeal.Gen.frame (F := Bits) m ρ

theorem frame_ideal : Cert.quiescent_AdamGateUpIdeal := fun m ρ _ => Cert.AdamGateUpIdeal.Gen.frame (F := Ideal) m ρ

theorem frame_reference : Cert.quiescent_AdamGateUpRefIdeal := fun m ρ _ =>
  (θ_run Cert.AdamGateUpRefIdeal.defs _ _).mono (fun r h => ⟨fun c => (h c).2.2.2.2, sem_eq_zero_of_no_sems (by decide) r.2⟩)
    (Cert.AdamGateUpRefIdeal.Value.run (F := Ideal) m ρ)

theorem algebraic : Cert.algebraic_AdamGateUpIdeal_AdamGateUpRefIdeal := by
  intro m ρ m' ρ' _ hagree
  refine ⟨_, _, _, _, run m ρ, (θ_run Cert.AdamGateUpRefIdeal.defs _ _).mono (fun r h c => ⟨((h c).1.trans (Cert.AdamGateUpRefIdeal.Read.val_main_v6_eq _ _)).trans ?_,
      ((h c).2.1.trans (Cert.AdamGateUpRefIdeal.Read.val_main_v33_eq _ _ _ _ _)).trans ?_, ((h c).2.2.1.trans (Cert.AdamGateUpRefIdeal.Read.val_main_v14_eq _ _ _)).trans ?_,
      ((h c).2.2.2.1.trans (Cert.AdamGateUpRefIdeal.Read.val_main_v20_eq _ _ _)).trans ?_, (h c).2.2.2.2⟩)
    (Cert.AdamGateUpRefIdeal.Value.run (F := Ideal) m' ρ')⟩
  · rw [grad_eq, (hagree c).2.2.2.1, (hagree c).2.2.2.2]
  · rw [delta_eq, (hagree c).1, (hagree c).2.1, (hagree c).2.2.1, (hagree c).2.2.2.1, (hagree c).2.2.2.2]
  · rw [newM_eq, (hagree c).2.1, (hagree c).2.2.2.1, (hagree c).2.2.2.2]
  · rw [newV_eq, (hagree c).2.2.1, (hagree c).2.2.2.1, (hagree c).2.2.2.2]

end Cert.Proof.AdamGateUp

end
-- ==== Proof.AdamDown.lean ====
/- The optimiser's step for one device's shard of the down projection's weights: the four arrays the kernel leaves and the reference's four results are the
   gradient, the change and the two moments of AdamW, of both layers. -/
module

public import proofs.«01_k».proof.Defs
public import proofs.«01_k».proof.Proof.Gen.AdamDown
public import proofs.«01_k».proof.Proof.Gen.AdamDownIdeal.Value
public import proofs.«01_k».proof.Proof.Gen.AdamDownRefIdeal.Read
public import proofs.«01_k».proof.Proof.AdamW
public import Idealize.ShloMosaic.Lib.Pointwise
public import Idealize.ShloMosaic.Lib.Claim

@[expose] public section

set_option maxRecDepth 16384

noncomputable section

namespace Cert.Proof.AdamDown

open Cert.AdamDownIdeal Cert.AdamDownIdeal.Gen Cert.AdamDownIdeal.Value
open Idealize.ShloMosaic Idealize.ShloMosaic.TcCoe Idealize.SL.Sem

/-- The eight loads' sum, in the first layer's case and in the second's. -/
theorem total_A (x : Vec Ideal S8x176x1024 .bf16) :
    k0_pay5 (View.ld x (Rect.unit (s := S8x176x1024) ![0, 0, 0] S1x176x1024.size inb_S8x176x1024_S1x176x1024_0_0_0))
    (View.ld x (Rect.unit (s := S8x176x1024) ![1, 0, 0] S1x176x1024.size inb_S8x176x1024_S1x176x1024_1_0_0))
    (View.ld x (Rect.unit (s := S8x176x1024) ![2, 0, 0] S1x176x1024.size inb_S8x176x1024_S1x176x1024_2_0_0))
    (View.ld x (Rect.unit (s := S8x176x1024) ![3, 0, 0] S1x176x1024.size inb_S8x176x1024_S1x176x1024_3_0_0))
    (View.ld x (Rect.unit (s := S8x176x1024) ![4, 0, 0] S1x176x1024.size inb_S8x176x1024_S1x176x1024_4_0_0))
    (View.ld x (Rect.unit (s := S8x176x1024) ![5, 0, 0] S1x176x1024.size inb_S8x176x1024_S1x176x1024_5_0_0))
    (View.ld x (Rect.unit (s := S8x176x1024) ![6, 0, 0] S1x176x1024.size inb_S8x176x1024_S1x176x1024_6_0_0))
    (View.ld x (Rect.unit (s := S8x176x1024) ![7, 0, 0] S1x176x1024.size inb_S8x176x1024_S1x176x1024_7_0_0)) = AdamW.flat (AdamW.grad x) :=
  AdamW.total_eq x _ _ (by decide : ∀ s : Fin 8, ∀ a : Fin 3, (![s.val, 0, 0] : Fin 3 → Nat) a + S1x176x1024.size a ≤ S8x176x1024.size a)

theorem total_B (x : Vec Ideal S8x176x1024 .bf16) :
    k0_pay10 (View.ld x (Rect.unit (s := S8x176x1024) ![0, 0, 0] S1x176x1024.size inb_S8x176x1024_S1x176x1024_0_0_0))
    (View.ld x (Rect.unit (s := S8x176x1024) ![1, 0, 0] S1x176x1024.size inb_S8x176x1024_S1x176x1024_1_0_0))
    (View.ld x (Rect.unit (s := S8x176x1024) ![2, 0, 0] S1x176x1024.size inb_S8x176x1024_S1x176x1024_2_0_0))
    (View.ld x (Rect.unit (s := S8x176x1024) ![3, 0, 0] S1x176x1024.size inb_S8x176x1024_S1x176x1024_3_0_0))
    (View.ld x (Rect.unit (s := S8x176x1024) ![4, 0, 0] S1x176x1024.size inb_S8x176x1024_S1x176x1024_4_0_0))
    (View.ld x (Rect.unit (s := S8x176x1024) ![5, 0, 0] S1x176x1024.size inb_S8x176x1024_S1x176x1024_5_0_0))
    (View.ld x (Rect.unit (s := S8x176x1024) ![6, 0, 0] S1x176x1024.size inb_S8x176x1024_S1x176x1024_6_0_0))
    (View.ld x (Rect.unit (s := S8x176x1024) ![7, 0, 0] S1x176x1024.size inb_S8x176x1024_S1x176x1024_7_0_0)) = AdamW.flat (AdamW.grad x) :=
  total_A x

theorem zeros : (![0, 0, 0] : Fin 3 → Nat) = fun _ => 0 := funext fun a => by fin_cases a <;> rfl

variable (m : (ℓ : Loc nD τ sig) → Buf (Elt Ideal) ℓ) (ρ : Dev nD → PrngReg)

/-- What a point writes back: the functions of its blocks, the parts being the layer's. -/
theorem body5_A (c : Dev nD) (t : Fin cfg0.N) (h : t.val < 2) :
    (dats m 0 c).flushed 5 t = (cfg0.win 5).cut (grid0.coords t) (AdamW.grad (iblk m c 1 t)) := by
  have ht : t.val < 4 := t.isLt
  rw [flushed5_A m c t (by omega) (by omega)]
  unfold out0_A_5
  rw [View.read_writes_eq_canon _ _ _ (fun y => cover0_A_5 ..)]
  unfold kernelRun0_A
  dsimp only
  sl_unfold_words
  rw [View.canon_unit_zero zeros]
  simp only [View.readAt_eq_ld, (hs0_1 t).read_unread]
  exact congrArg _ ((congrArg k0_pay6 (total_A _)).trans (AdamW.cast_of_flat _ _))

theorem body5_B (c : Dev nD) (t : Fin cfg0.N) (h : 2 ≤ t.val) :
    (dats m 0 c).flushed 5 t = (cfg0.win 5).cut (grid0.coords t) (AdamW.grad (iblk m c 2 t)) := by
  have ht : t.val < 4 := t.isLt
  rw [flushed5_B m c t (by omega) (by omega)]
  unfold out0_B_5
  rw [View.read_writes_eq_canon _ _ _ (fun y => cover0_B_5 ..)]
  unfold kernelRun0_B
  dsimp only
  sl_unfold_words
  rw [View.canon_unit_zero zeros]
  simp only [View.readAt_eq_ld, (hs0_2 t).read_unread]
  exact congrArg _ ((congrArg k0_pay11 (total_B _)).trans (AdamW.cast_of_flat _ _))

theorem body6_A (c : Dev nD) (t : Fin cfg0.N) (h : t.val < 2) :
    (dats m 0 c).flushed 6 t = (cfg0.win 6).cut (grid0.coords t) (AdamW.delta (iblk m c 0 t) (iblk m c 3 t) (iblk m c 4 t) (AdamW.grad (iblk m c 1 t))) := by
  have ht : t.val < 4 := t.isLt
  rw [flushed6_A m c t (by omega) (by omega)]
  unfold out0_A_6
  rw [View.read_writes_eq_canon _ _ _ (fun y => cover0_A_6 ..)]
  unfold kernelRun0_A
  dsimp only
  sl_unfold_words
  rw [View.canon_unit_zero zeros]
  simp only [View.readAt_eq_ld, (hs0_0 t).read_unread, (hs0_1 t).read_unread, (hs0_3 t).read_unread, (hs0_4 t).read_unread, View.ld_unit_zero (S := S1x176x1024) zeros]
  exact congrArg _ ((congrArg (fun g => k0_pay9 g (iblk m c 0 t) (iblk m c 3 t) (iblk m c 4 t)) (total_A _)).trans (AdamW.storeD_eq (iblk m c 0 t) (iblk m c 3 t) (iblk m c 4 t) _ _ _))

theorem body6_B (c : Dev nD) (t : Fin cfg0.N) (h : 2 ≤ t.val) :
    (dats m 0 c).flushed 6 t = (cfg0.win 6).cut (grid0.coords t) (AdamW.delta (iblk m c 0 t) (iblk m c 3 t) (iblk m c 4 t) (AdamW.grad (iblk m c 2 t))) := by
  have ht : t.val < 4 := t.isLt
  rw [flushed6_B m c t (by omega) (by omega)]
  unfold out0_B_6
  rw [View.read_writes_eq_canon _ _ _ (fun y => cover0_B_6 ..)]
  unfold kernelRun0_B
  dsimp only
  sl_unfold_words
  rw [View.canon_unit_zero zeros]
  simp only [View.readAt_eq_ld, (hs0_0 t).read_unread, (hs0_2 t).read_unread, (hs0_3 t).read_unread, (hs0_4 t).read_unread, View.ld_unit_zero (S := S1x176x1024) zeros]
  exact congrArg _ ((congrArg (fun g => k0_pay14 g (iblk m c 0 t) (iblk m c 3 t) (iblk m c 4 t)) (total_B _)).trans (AdamW.storeD_eq (iblk m c 0 t) (iblk m c 3 t) (iblk m c 4 t) _ _ _))

theorem body7_A (c : Dev nD) (t : Fin cfg0.N) (h : t.val < 2) :
    (dats m 0 c).flushed 7 t = (cfg0.win 7).cut (grid0.coords t) (AdamW.newM (iblk m c 3 t) (AdamW.grad (iblk m c 1 t))) := by
  have ht : t.val < 4 := t.isLt
  rw [flushed7_A m c t (by omega) (by omega)]
  unfold out0_A_7
  rw [View.read_writes_eq_canon _ _ _ (fun y => cover0_A_7 ..)]
  unfold kernelRun0_A
  dsimp only
  sl_unfold_words
  rw [View.canon_unit_zero zeros]
  simp only [View.readAt_eq_ld, (hs0_1 t).read_unread, (hs0_3 t).read_unread, View.ld_unit_zero (S := S1x176x1024) zeros]
  exact congrArg _ ((congrArg (fun g => k0_pay1 (k0_pay7 g (iblk m c 3 t))) (total_A _)).trans (AdamW.storeM_eq (iblk m c 3 t) _ _ _))

theorem body7_B (c : Dev nD) (t : Fin cfg0.N) (h : 2 ≤ t.val) :
    (dats m 0 c).flushed 7 t = (cfg0.win 7).cut (grid0.coords t) (AdamW.newM (iblk m c 3 t) (AdamW.grad (iblk m c 2 t))) := by
  have ht : t.val < 4 := t.isLt
  rw [flushed7_B m c t (by omega) (by omega)]
  unfold out0_B_7
  rw [View.read_writes_eq_canon _ _ _ (fun y => cover0_B_7 ..)]
  unfold kernelRun0_B
  dsimp only
  sl_unfold_words
  rw [View.canon_unit_zero zeros]
  simp only [View.readAt_eq_ld, (hs0_2 t).read_unread, (hs0_3 t).read_unread, View.ld_unit_zero (S := S1x176x1024) zeros]
  exact congrArg _ ((congrArg (fun g => k0_pay3 (k0_pay12 g (iblk m c 3 t))) (total_B _)).trans (AdamW.storeM_eq (iblk m c 3 t) _ _ _))

theorem body8_A (c : Dev nD) (t : Fin cfg0.N) (h : t.val < 2) :
    (dats m 0 c).flushed 8 t = (cfg0.win 8).cut (grid0.coords t) (AdamW.newV (iblk m c 4 t) (AdamW.grad (iblk m c 1 t))) := by
  have ht : t.val < 4 := t.isLt
  rw [flushed8_A m c t (by omega) (by omega)]
  unfold out0_A_8
  rw [View.read_writes_eq_canon _ _ _ (fun y => cover0_A_8 ..)]
  unfold kernelRun0_A
  dsimp only
  sl_unfold_words
  rw [View.canon_unit_zero zeros]
  simp only [View.readAt_eq_ld, (hs0_1 t).read_unread, (hs0_4 t).read_unread, View.ld_unit_zero (S := S1x176x1024) zeros]
  exact congrArg _ ((congrArg (fun g => k0_pay2 (k0_pay8 g (iblk m c 4 t))) (total_A _)).trans (AdamW.storeV_eq (iblk m c 4 t) _ _ _))

theorem body8_B (c : Dev nD) (t : Fin cfg0.N) (h : 2 ≤ t.val) :
    (dats m 0 c).flushed 8 t = (cfg0.win 8).cut (grid0.coords t) (AdamW.newV (iblk m c 4 t) (AdamW.grad (iblk m c 2 t))) := by
  have ht : t.val < 4 := t.isLt
  rw [flushed8_B m c t (by omega) (by omega)]
  unfold out0_B_8
  rw [View.read_writes_eq_canon _ _ _ (fun y => cover0_B_8 ..)]
  unfold kernelRun0_B
  dsimp only
  sl_unfold_words
  rw [View.canon_unit_zero zeros]
  simp only [View.readAt_eq_ld, (hs0_2 t).read_unread, (hs0_4 t).read_unread, View.ld_unit_zero (S := S1x176x1024) zeros]
  exact congrArg _ ((congrArg (fun g => k0_pay4 (k0_pay13 g (iblk m c 4 t))) (total_B _)).trans (AdamW.storeV_eq (iblk m c 4 t) _ _ _))

/-- The block indices of the layers' parts' windows and of a result's: a point is a layer and a block of rows. -/
theorem points : ∀ t : Fin cfg0.N,
    (t.val < 2 → win0_1.index t (0 : Fin 3) = 0 ∧ win0_1.index t (1 : Fin 3) = t.val % 2 ∧ win0_1.index t (2 : Fin 3) = 0)
    ∧ (2 ≤ t.val → win0_2.index t (0 : Fin 3) = 0 ∧ win0_2.index t (1 : Fin 3) = t.val % 2 ∧ win0_2.index t (2 : Fin 3) = 0)
    ∧ (win0_5.index t (0 : Fin 3) = t.val / 2 ∧ win0_5.index t (1 : Fin 3) = t.val % 2 ∧ win0_5.index t (2 : Fin 3) = 0) :=
  (by decide +kernel : ∀ t : Fin grid0.N, _)

/-- Row `r` of point `t`'s block of rows. -/
def row (t : Fin cfg0.N) (r : Fin 176) : Fin 352 := ⟨t.val % 2 * 176 + r.val, by have h := r.isLt; omega⟩

/-- Point `t`'s layer. -/
def layerOf (t : Fin cfg0.N) : Fin 2 := ⟨t.val / 2, by have h : t.val < 4 := t.isLt; omega⟩

theorem emb1 (t : Fin cfg0.N) (h : t.val < 2) (s : Fin 8) (r : Fin 176) (k : Fin 1024) :
    ((cfg0.win 1).blk t).view.emb (ix3 s r k) = ix3 s (row t r) k := by
  obtain ⟨h0, h1, h2⟩ := (points t).1 h
  funext a; apply Fin.ext
  match a with
  | ⟨0, _⟩ => show win0_1.index t (0 : Fin 3) * 8 + 1 * s.val = s.val; omega
  | ⟨1, _⟩ => show win0_1.index t (1 : Fin 3) * 176 + 1 * r.val = t.val % 2 * 176 + r.val; omega
  | ⟨2, _⟩ => show win0_1.index t (2 : Fin 3) * 1024 + 1 * k.val = k.val; omega

theorem emb2 (t : Fin cfg0.N) (h : 2 ≤ t.val) (s : Fin 8) (r : Fin 176) (k : Fin 1024) :
    ((cfg0.win 2).blk t).view.emb (ix3 s r k) = ix3 s (row t r) k := by
  obtain ⟨h0, h1, h2⟩ := (points t).2.1 h
  funext a; apply Fin.ext
  match a with
  | ⟨0, _⟩ => show win0_2.index t (0 : Fin 3) * 8 + 1 * s.val = s.val; omega
  | ⟨1, _⟩ => show win0_2.index t (1 : Fin 3) * 176 + 1 * r.val = t.val % 2 * 176 + r.val; omega
  | ⟨2, _⟩ => show win0_2.index t (2 : Fin 3) * 1024 + 1 * k.val = k.val; omega

/-- A result's window; those of the weights and the moments are the same. -/
theorem emb5 (t : Fin cfg0.N) (r : Fin 176) (k : Fin 1024) :
    ((cfg0.win 5).blk t).view.emb (ix3 (0 : Fin 1) r k) = ix3 (layerOf t) (row t r) k := by
  obtain ⟨h0, h1, h2⟩ := (points t).2.2
  funext a; apply Fin.ext
  match a with
  | ⟨0, _⟩ => show win0_5.index t (0 : Fin 3) * 1 + 1 * 0 = t.val / 2; omega
  | ⟨1, _⟩ => show win0_5.index t (1 : Fin 3) * 176 + 1 * r.val = t.val % 2 * 176 + r.val; omega
  | ⟨2, _⟩ => show win0_5.index t (2 : Fin 3) * 1024 + 1 * k.val = k.val; omega

/-- The gradient of a block of the layer's parts is the block of the gradient … -/
theorem grad_A (c : Dev nD) (t : Fin cfg0.N) (h : t.val < 2) :
    AdamW.grad (iblk m c 1 t : Vec Ideal S8x176x1024 .bf16) = ((cfg0.win 5).blk t).view.read (Elt Ideal) (AdamW.grad2 (V m c main_arg3) (V m c main_arg4)) := by
  funext j
  obtain ⟨z, r, k, rfl⟩ : ∃ (z : Fin 1) (r : Fin 176) (k : Fin 1024), j = ix3 z r k := ⟨j 0, j 1, j 2, eq_ix3 j⟩
  obtain rfl : z = 0 := Subsingleton.elim _ _
  show _ = AdamW.grad2 (V m c main_arg3) (V m c main_arg4) (((cfg0.win 5).blk t).view.emb (ix3 (0 : Fin 1) r k))
  have e : layerOf t = 0 := Fin.ext (show t.val / 2 = 0 by omega)
  rw [emb5, e, AdamW.grad2_zero]
  exact Finset.sum_congr rfl fun s _ => congrArg (V m c main_arg3) (emb1 t h s r k)

theorem grad_B (c : Dev nD) (t : Fin cfg0.N) (h : 2 ≤ t.val) :
    AdamW.grad (iblk m c 2 t : Vec Ideal S8x176x1024 .bf16) = ((cfg0.win 5).blk t).view.read (Elt Ideal) (AdamW.grad2 (V m c main_arg3) (V m c main_arg4)) := by
  have ht : t.val < 4 := t.isLt
  funext j
  obtain ⟨z, r, k, rfl⟩ : ∃ (z : Fin 1) (r : Fin 176) (k : Fin 1024), j = ix3 z r k := ⟨j 0, j 1, j 2, eq_ix3 j⟩
  obtain rfl : z = 0 := Subsingleton.elim _ _
  show _ = AdamW.grad2 (V m c main_arg3) (V m c main_arg4) (((cfg0.win 5).blk t).view.emb (ix3 (0 : Fin 1) r k))
  have e : layerOf t = 1 := Fin.ext (show t.val / 2 = 1 by omega)
  rw [emb5, e, AdamW.grad2_one]
  exact Finset.sum_congr rfl fun s _ => congrArg (V m c main_arg4) (emb2 t h s r k)

theorem flushed_grad (c : Dev nD) (t : Fin cfg0.N) :
    (dats m 0 c).flushed 5 t = ((cfg0.win 5).blk t).view.read (Elt Ideal) (AdamW.grad2 (V m c main_arg3) (V m c main_arg4)) := by
  rcases Nat.lt_or_ge t.val 2 with h | h
  · rw [body5_A m c t h, grad_A m c t h]
  · rw [body5_B m c t h, grad_B m c t h]

/-- … and so of the three others, computed element by element. -/
theorem flushed_delta (c : Dev nD) (t : Fin cfg0.N) :
    (dats m 0 c).flushed 6 t = ((cfg0.win 6).blk t).view.read (Elt Ideal) (AdamW.delta (V m c main_arg0) (V m c main_arg1) (V m c main_arg2) (AdamW.grad2 (V m c main_arg3) (V m c main_arg4))) := by
  rcases Nat.lt_or_ge t.val 2 with h | h
  · rw [body6_A m c t h, grad_A m c t h]
    rfl
  · rw [body6_B m c t h, grad_B m c t h]
    rfl

theorem flushed_newM (c : Dev nD) (t : Fin cfg0.N) :
    (dats m 0 c).flushed 7 t = ((cfg0.win 7).blk t).view.read (Elt Ideal) (AdamW.newM (V m c main_arg1) (AdamW.grad2 (V m c main_arg3) (V m c main_arg4))) := by
  rcases Nat.lt_or_ge t.val 2 with h | h
  · rw [body7_A m c t h, grad_A m c t h]
    rfl
  · rw [body7_B m c t h, grad_B m c t h]
    rfl

theorem flushed_newV (c : Dev nD) (t : Fin cfg0.N) :
    (dats m 0 c).flushed 8 t = ((cfg0.win 8).blk t).view.read (Elt Ideal) (AdamW.newV (V m c main_arg2) (AdamW.grad2 (V m c main_arg3) (V m c main_arg4))) := by
  rcases Nat.lt_or_ge t.val 2 with h | h
  · rw [body8_A m c t h, grad_A m c t h]
    rfl
  · rw [body8_B m c t h, grad_B m c t h]
    rfl

/-- Every index lies in one point's block. -/
theorem covered (i : S2x352x1024.Idx) : ∃ t : Fin cfg0.N, i ∈ ((cfg0.win 5).blk t).view.set := by
  obtain ⟨z, a, b, rfl⟩ : ∃ (z : Fin 2) (a : Fin 352) (b : Fin 1024), i = ix3 z a b := ⟨i 0, i 1, i 2, eq_ix3 i⟩
  have ha := a.isLt
  have hz := z.isLt
  let t : Fin cfg0.N := ⟨z.val * 2 + a.val / 176, show z.val * 2 + a.val / 176 < 4 by omega⟩
  have h := ((cfg0.win 5).blk t).view.emb_mem_set (ix3 (0 : Fin 1) (⟨a.val % 176, by omega⟩ : Fin 176) b)
  have e : row t ⟨a.val % 176, by omega⟩ = a := Fin.ext (show (z.val * 2 + a.val / 176) % 2 * 176 + a.val % 176 = a.val by omega)
  have e' : layerOf t = z := Fin.ext (show (z.val * 2 + a.val / 176) / 2 = z.val by omega)
  rw [emb5, e, e'] at h
  exact ⟨t, h⟩

theorem flushes : ∀ t : Fin cfg0.N, (cfg0.win 5).flush t = true ∧ (cfg0.win 6).flush t = true ∧ (cfg0.win 7).flush t = true ∧ (cfg0.win 8).flush t = true :=
  (by decide +kernel : ∀ t : Fin grid0.N, win0_5.flush t = true ∧ win0_6.flush t = true ∧ win0_7.flush t = true ∧ win0_8.flush t = true)

/-- The kernel's run: its result arrays are those functions of the arguments. -/
theorem run : θ_run defs (onTc (τ := τ) (main (F := Ideal))) ⟨m, fun _ => 0, ρ⟩ fun r => ∀ c : Dev nD,
      r.2.mem ((c : Thread nD τ).loc main_v0_0) = AdamW.grad2 (m ((c : Thread nD τ).loc main_arg3)) (m ((c : Thread nD τ).loc main_arg4))
      ∧ r.2.mem ((c : Thread nD τ).loc main_v0_1) = AdamW.delta (m ((c : Thread nD τ).loc main_arg0)) (m ((c : Thread nD τ).loc main_arg1)) (m ((c : Thread nD τ).loc main_arg2)) (AdamW.grad2 (m ((c : Thread nD τ).loc main_arg3)) (m ((c : Thread nD τ).loc main_arg4)))
      ∧ r.2.mem ((c : Thread nD τ).loc main_v0_2) = AdamW.newM (m ((c : Thread nD τ).loc main_arg1)) (AdamW.grad2 (m ((c : Thread nD τ).loc main_arg3)) (m ((c : Thread nD τ).loc main_arg4)))
      ∧ r.2.mem ((c : Thread nD τ).loc main_v0_3) = AdamW.newV (m ((c : Thread nD τ).loc main_arg2)) (AdamW.grad2 (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t _ => flushed_grad m c t) fun i => (covered i).imp fun t h => ⟨(flushes t).1, h⟩),
    (h c).2.1.trans ((dats m 0 c).arrAt_eq_of_cover 6 _ (fun t _ => flushed_delta m c t) fun i => (covered i).imp fun t h => ⟨(flushes t).2.1, h⟩),
    (h c).2.2.1.trans ((dats m 0 c).arrAt_eq_of_cover 7 _ (fun t _ => flushed_newM m c t) fun i => (covered i).imp fun t h => ⟨(flushes t).2.2.1, h⟩),
    (h c).2.2.2.1.trans ((dats m 0 c).arrAt_eq_of_cover 8 _ (fun t _ => flushed_newV m c t) fun i => (covered i).imp fun t h => ⟨(flushes t).2.2.2, h⟩), (h c).2.2.2.2⟩) (run_blocks m ρ)

/-- The reference's results are the same functions. -/
theorem grad_eq (p q : Vec Ideal S8x352x1024 .bf16) : Cert.AdamDownRefIdeal.Read.val_main_v6 (F := Ideal) p q = AdamW.grad2 p q := by
  funext i
  obtain ⟨z, a, b, rfl⟩ : ∃ (z : Fin 2) (a : Fin 352) (b : Fin 1024), i = ix3 z a b := ⟨i 0, i 1, i 2, eq_ix3 i⟩
  match z with
  | ⟨0, _⟩ =>
    refine Eq.trans ?_ (AdamW.grad2_zero p q a b).symm
    pointwise [Cert.AdamDownRefIdeal.Read.val_main_v6, Cert.AdamDownRefIdeal.Read.val_main_v5, Cert.AdamDownRefIdeal.Read.val_main_v4, Cert.AdamDownRefIdeal.Read.val_main_v3, Cert.AdamDownRefIdeal.Read.val_main_v2, Cert.AdamDownRefIdeal.Read.val_main_v1, Cert.AdamDownRefIdeal.Read.val_main_v0, Cert.AdamDownRefIdeal.Read.val_main_cst, Cert.AdamDownRefIdeal.Read.val_main_cst_0]
  | ⟨1, _⟩ =>
    refine Eq.trans ?_ (AdamW.grad2_one p q a b).symm
    pointwise [Cert.AdamDownRefIdeal.Read.val_main_v6, Cert.AdamDownRefIdeal.Read.val_main_v5, Cert.AdamDownRefIdeal.Read.val_main_v4, Cert.AdamDownRefIdeal.Read.val_main_v3, Cert.AdamDownRefIdeal.Read.val_main_v2, Cert.AdamDownRefIdeal.Read.val_main_v1, Cert.AdamDownRefIdeal.Read.val_main_v0, Cert.AdamDownRefIdeal.Read.val_main_cst, Cert.AdamDownRefIdeal.Read.val_main_cst_0]

theorem newM_eq (m : Vec Ideal S2x352x1024 .f32) (p q : Vec Ideal S8x352x1024 .bf16) : Cert.AdamDownRefIdeal.Read.val_main_v11 (F := Ideal) m p q = AdamW.newM m (AdamW.grad2 p q) := by
  rw [← grad_eq]
  rfl

theorem newV_eq (v : Vec Ideal S2x352x1024 .f32) (p q : Vec Ideal S8x352x1024 .bf16) : Cert.AdamDownRefIdeal.Read.val_main_v17 (F := Ideal) v p q = AdamW.newV v (AdamW.grad2 p q) := by
  rw [← grad_eq]
  rfl

theorem delta_eq (w m v : Vec Ideal S2x352x1024 .f32) (p q : Vec Ideal S8x352x1024 .bf16) :
    Cert.AdamDownRefIdeal.Read.val_main_v30 (F := Ideal) w m v p q = AdamW.delta w m v (AdamW.grad2 p q) := by
  rw [← grad_eq]
  rfl

/-- The program as printed and the one read at the extended reals have the same bodies. -/
theorem bodies_eq : @Cert.AdamDown.defs₀ Bits _ _ = @Cert.AdamDownIdeal.defs₀ Bits _ _ := by
  unfold Cert.AdamDown.defs₀ Cert.AdamDownIdeal.defs₀
  refine congrArg Defs.onTc (funext fun l => funext fun x => ?_)
  match l, x with
  | 0, (t, s) => rfl

/-- The kernel's frame, of the program as printed: the run of the same text at the device's own values. -/
theorem frame_kernel : Cert.quiescent_AdamDown := by
  intro m ρ _
  have h : Cert.AdamDown.defs (F := Bits) = Cert.AdamDownIdeal.defs (F := Bits) := congrArg (Pipeline.defs _) bodies_eq
  rw [h]
  exact Cert.AdamDownIdeal.Gen.frame (F := Bits) m ρ

theorem frame_ideal : Cert.quiescent_AdamDownIdeal := fun m ρ _ => Cert.AdamDownIdeal.Gen.frame (F := Ideal) m ρ

theorem frame_reference : Cert.quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run (F := Ideal) m ρ)

theorem algebraic : Cert.algebraic_AdamDownIdeal_AdamDownRefIdeal := by
  intro m ρ m' ρ' _ hagree
  refine ⟨_, _, _, _, run m ρ, (θ_run Cert.AdamDownRefIdeal.defs _ _).mono (fun r h c => ⟨((h c).1.trans (Cert.AdamDownRefIdeal.Read.val_main_v6_eq _ _)).trans ?_,
      ((h c).2.1.trans (Cert.AdamDownRefIdeal.Read.val_main_v30_eq _ _ _ _ _)).trans ?_, ((h c).2.2.1.trans (Cert.AdamDownRefIdeal.Read.val_main_v11_eq _ _ _)).trans ?_,
      ((h c).2.2.2.1.trans (Cert.AdamDownRefIdeal.Read.val_main_v17_eq _ _ _)).trans ?_, (h c).2.2.2.2⟩)
    (Cert.AdamDownRefIdeal.Value.run (F := Ideal) m' ρ')⟩
  · rw [grad_eq, (hagree c).2.2.2.1, (hagree c).2.2.2.2]
  · rw [delta_eq, (hagree c).1, (hagree c).2.1, (hagree c).2.2.1, (hagree c).2.2.2.1, (hagree c).2.2.2.2]
  · rw [newM_eq, (hagree c).2.1, (hagree c).2.2.2.1, (hagree c).2.2.2.2]
  · rw [newV_eq, (hagree c).2.2.1, (hagree c).2.2.2.1, (hagree c).2.2.2.2]

end Cert.Proof.AdamDown

end
-- ==== Proof.AdamPleUp.lean ====
/- The optimiser's step for one device's shard of the per-layer embedding's up projection: the four arrays the kernel leaves and the reference's four results are the
   gradient, the change and the two moments of AdamW, of both layers. -/
module

public import proofs.«01_k».proof.Defs
public import proofs.«01_k».proof.Proof.Gen.AdamPleUp
public import proofs.«01_k».proof.Proof.Gen.AdamPleUpIdeal.Value
public import proofs.«01_k».proof.Proof.Gen.AdamPleUpRefIdeal.Read
public import proofs.«01_k».proof.Proof.AdamW
public import Idealize.ShloMosaic.Lib.Pointwise
public import Idealize.ShloMosaic.Lib.Claim

@[expose] public section

set_option maxRecDepth 16384

noncomputable section

namespace Cert.Proof.AdamPleUp

open Cert.AdamPleUpIdeal Cert.AdamPleUpIdeal.Gen Cert.AdamPleUpIdeal.Value
open Idealize.ShloMosaic Idealize.ShloMosaic.TcCoe Idealize.SL.Sem

/-- The eight loads' sum, in the first layer's case and in the second's. -/
theorem total_A (x : Vec Ideal S8x256x128 .bf16) :
    k0_pay5 (View.ld x (Rect.unit (s := S8x256x128) ![0, 0, 0] S1x256x128.size inb_S8x256x128_S1x256x128_0_0_0))
    (View.ld x (Rect.unit (s := S8x256x128) ![1, 0, 0] S1x256x128.size inb_S8x256x128_S1x256x128_1_0_0))
    (View.ld x (Rect.unit (s := S8x256x128) ![2, 0, 0] S1x256x128.size inb_S8x256x128_S1x256x128_2_0_0))
    (View.ld x (Rect.unit (s := S8x256x128) ![3, 0, 0] S1x256x128.size inb_S8x256x128_S1x256x128_3_0_0))
    (View.ld x (Rect.unit (s := S8x256x128) ![4, 0, 0] S1x256x128.size inb_S8x256x128_S1x256x128_4_0_0))
    (View.ld x (Rect.unit (s := S8x256x128) ![5, 0, 0] S1x256x128.size inb_S8x256x128_S1x256x128_5_0_0))
    (View.ld x (Rect.unit (s := S8x256x128) ![6, 0, 0] S1x256x128.size inb_S8x256x128_S1x256x128_6_0_0))
    (View.ld x (Rect.unit (s := S8x256x128) ![7, 0, 0] S1x256x128.size inb_S8x256x128_S1x256x128_7_0_0)) = AdamW.flat (AdamW.grad x) :=
  AdamW.total_eq x _ _ (by decide : ∀ s : Fin 8, ∀ a : Fin 3, (![s.val, 0, 0] : Fin 3 → Nat) a + S1x256x128.size a ≤ S8x256x128.size a)

theorem total_B (x : Vec Ideal S8x256x128 .bf16) :
    k0_pay10 (View.ld x (Rect.unit (s := S8x256x128) ![0, 0, 0] S1x256x128.size inb_S8x256x128_S1x256x128_0_0_0))
    (View.ld x (Rect.unit (s := S8x256x128) ![1, 0, 0] S1x256x128.size inb_S8x256x128_S1x256x128_1_0_0))
    (View.ld x (Rect.unit (s := S8x256x128) ![2, 0, 0] S1x256x128.size inb_S8x256x128_S1x256x128_2_0_0))
    (View.ld x (Rect.unit (s := S8x256x128) ![3, 0, 0] S1x256x128.size inb_S8x256x128_S1x256x128_3_0_0))
    (View.ld x (Rect.unit (s := S8x256x128) ![4, 0, 0] S1x256x128.size inb_S8x256x128_S1x256x128_4_0_0))
    (View.ld x (Rect.unit (s := S8x256x128) ![5, 0, 0] S1x256x128.size inb_S8x256x128_S1x256x128_5_0_0))
    (View.ld x (Rect.unit (s := S8x256x128) ![6, 0, 0] S1x256x128.size inb_S8x256x128_S1x256x128_6_0_0))
    (View.ld x (Rect.unit (s := S8x256x128) ![7, 0, 0] S1x256x128.size inb_S8x256x128_S1x256x128_7_0_0)) = AdamW.flat (AdamW.grad x) :=
  total_A x

theorem zeros : (![0, 0, 0] : Fin 3 → Nat) = fun _ => 0 := funext fun a => by fin_cases a <;> rfl

variable (m : (ℓ : Loc nD τ sig) → Buf (Elt Ideal) ℓ) (ρ : Dev nD → PrngReg)

/-- What a point writes back: the functions of its blocks, the parts being the layer's. -/
theorem body5_A (c : Dev nD) (t : Fin cfg0.N) (h : t.val < 1) :
    (dats m 0 c).flushed 5 t = (cfg0.win 5).cut (grid0.coords t) (AdamW.grad (iblk m c 1 t)) := by
  have ht : t.val < 2 := t.isLt
  rw [flushed5_A m c t (by omega) (by omega)]
  unfold out0_A_5
  rw [View.read_writes_eq_canon _ _ _ (fun y => cover0_A_5 ..)]
  unfold kernelRun0_A
  dsimp only
  sl_unfold_words
  rw [View.canon_unit_zero zeros]
  simp only [View.readAt_eq_ld, (hs0_1 t).read_unread]
  exact congrArg _ ((congrArg k0_pay6 (total_A _)).trans (AdamW.cast_of_flat _ _))

theorem body5_B (c : Dev nD) (t : Fin cfg0.N) (h : 1 ≤ t.val) :
    (dats m 0 c).flushed 5 t = (cfg0.win 5).cut (grid0.coords t) (AdamW.grad (iblk m c 2 t)) := by
  have ht : t.val < 2 := t.isLt
  rw [flushed5_B m c t (by omega) (by omega)]
  unfold out0_B_5
  rw [View.read_writes_eq_canon _ _ _ (fun y => cover0_B_5 ..)]
  unfold kernelRun0_B
  dsimp only
  sl_unfold_words
  rw [View.canon_unit_zero zeros]
  simp only [View.readAt_eq_ld, (hs0_2 t).read_unread]
  exact congrArg _ ((congrArg k0_pay11 (total_B _)).trans (AdamW.cast_of_flat _ _))

theorem body6_A (c : Dev nD) (t : Fin cfg0.N) (h : t.val < 1) :
    (dats m 0 c).flushed 6 t = (cfg0.win 6).cut (grid0.coords t) (AdamW.delta (iblk m c 0 t) (iblk m c 3 t) (iblk m c 4 t) (AdamW.grad (iblk m c 1 t))) := by
  have ht : t.val < 2 := t.isLt
  rw [flushed6_A m c t (by omega) (by omega)]
  unfold out0_A_6
  rw [View.read_writes_eq_canon _ _ _ (fun y => cover0_A_6 ..)]
  unfold kernelRun0_A
  dsimp only
  sl_unfold_words
  rw [View.canon_unit_zero zeros]
  simp only [View.readAt_eq_ld, (hs0_0 t).read_unread, (hs0_1 t).read_unread, (hs0_3 t).read_unread, (hs0_4 t).read_unread, View.ld_unit_zero (S := S1x256x128) zeros]
  exact congrArg _ ((congrArg (fun g => k0_pay9 g (iblk m c 0 t) (iblk m c 3 t) (iblk m c 4 t)) (total_A _)).trans (AdamW.storeD_eq (iblk m c 0 t) (iblk m c 3 t) (iblk m c 4 t) _ _ _))

theorem body6_B (c : Dev nD) (t : Fin cfg0.N) (h : 1 ≤ t.val) :
    (dats m 0 c).flushed 6 t = (cfg0.win 6).cut (grid0.coords t) (AdamW.delta (iblk m c 0 t) (iblk m c 3 t) (iblk m c 4 t) (AdamW.grad (iblk m c 2 t))) := by
  have ht : t.val < 2 := t.isLt
  rw [flushed6_B m c t (by omega) (by omega)]
  unfold out0_B_6
  rw [View.read_writes_eq_canon _ _ _ (fun y => cover0_B_6 ..)]
  unfold kernelRun0_B
  dsimp only
  sl_unfold_words
  rw [View.canon_unit_zero zeros]
  simp only [View.readAt_eq_ld, (hs0_0 t).read_unread, (hs0_2 t).read_unread, (hs0_3 t).read_unread, (hs0_4 t).read_unread, View.ld_unit_zero (S := S1x256x128) zeros]
  exact congrArg _ ((congrArg (fun g => k0_pay14 g (iblk m c 0 t) (iblk m c 3 t) (iblk m c 4 t)) (total_B _)).trans (AdamW.storeD_eq (iblk m c 0 t) (iblk m c 3 t) (iblk m c 4 t) _ _ _))

theorem body7_A (c : Dev nD) (t : Fin cfg0.N) (h : t.val < 1) :
    (dats m 0 c).flushed 7 t = (cfg0.win 7).cut (grid0.coords t) (AdamW.newM (iblk m c 3 t) (AdamW.grad (iblk m c 1 t))) := by
  have ht : t.val < 2 := t.isLt
  rw [flushed7_A m c t (by omega) (by omega)]
  unfold out0_A_7
  rw [View.read_writes_eq_canon _ _ _ (fun y => cover0_A_7 ..)]
  unfold kernelRun0_A
  dsimp only
  sl_unfold_words
  rw [View.canon_unit_zero zeros]
  simp only [View.readAt_eq_ld, (hs0_1 t).read_unread, (hs0_3 t).read_unread, View.ld_unit_zero (S := S1x256x128) zeros]
  exact congrArg _ ((congrArg (fun g => k0_pay1 (k0_pay7 g (iblk m c 3 t))) (total_A _)).trans (AdamW.storeM_eq (iblk m c 3 t) _ _ _))

theorem body7_B (c : Dev nD) (t : Fin cfg0.N) (h : 1 ≤ t.val) :
    (dats m 0 c).flushed 7 t = (cfg0.win 7).cut (grid0.coords t) (AdamW.newM (iblk m c 3 t) (AdamW.grad (iblk m c 2 t))) := by
  have ht : t.val < 2 := t.isLt
  rw [flushed7_B m c t (by omega) (by omega)]
  unfold out0_B_7
  rw [View.read_writes_eq_canon _ _ _ (fun y => cover0_B_7 ..)]
  unfold kernelRun0_B
  dsimp only
  sl_unfold_words
  rw [View.canon_unit_zero zeros]
  simp only [View.readAt_eq_ld, (hs0_2 t).read_unread, (hs0_3 t).read_unread, View.ld_unit_zero (S := S1x256x128) zeros]
  exact congrArg _ ((congrArg (fun g => k0_pay3 (k0_pay12 g (iblk m c 3 t))) (total_B _)).trans (AdamW.storeM_eq (iblk m c 3 t) _ _ _))

theorem body8_A (c : Dev nD) (t : Fin cfg0.N) (h : t.val < 1) :
    (dats m 0 c).flushed 8 t = (cfg0.win 8).cut (grid0.coords t) (AdamW.newV (iblk m c 4 t) (AdamW.grad (iblk m c 1 t))) := by
  have ht : t.val < 2 := t.isLt
  rw [flushed8_A m c t (by omega) (by omega)]
  unfold out0_A_8
  rw [View.read_writes_eq_canon _ _ _ (fun y => cover0_A_8 ..)]
  unfold kernelRun0_A
  dsimp only
  sl_unfold_words
  rw [View.canon_unit_zero zeros]
  simp only [View.readAt_eq_ld, (hs0_1 t).read_unread, (hs0_4 t).read_unread, View.ld_unit_zero (S := S1x256x128) zeros]
  exact congrArg _ ((congrArg (fun g => k0_pay2 (k0_pay8 g (iblk m c 4 t))) (total_A _)).trans (AdamW.storeV_eq (iblk m c 4 t) _ _ _))

theorem body8_B (c : Dev nD) (t : Fin cfg0.N) (h : 1 ≤ t.val) :
    (dats m 0 c).flushed 8 t = (cfg0.win 8).cut (grid0.coords t) (AdamW.newV (iblk m c 4 t) (AdamW.grad (iblk m c 2 t))) := by
  have ht : t.val < 2 := t.isLt
  rw [flushed8_B m c t (by omega) (by omega)]
  unfold out0_B_8
  rw [View.read_writes_eq_canon _ _ _ (fun y => cover0_B_8 ..)]
  unfold kernelRun0_B
  dsimp only
  sl_unfold_words
  rw [View.canon_unit_zero zeros]
  simp only [View.readAt_eq_ld, (hs0_2 t).read_unread, (hs0_4 t).read_unread, View.ld_unit_zero (S := S1x256x128) zeros]
  exact congrArg _ ((congrArg (fun g => k0_pay4 (k0_pay13 g (iblk m c 4 t))) (total_B _)).trans (AdamW.storeV_eq (iblk m c 4 t) _ _ _))

/-- The block indices of the layers' parts' windows and of a result's: a point is a layer and a block of rows. -/
theorem points : ∀ t : Fin cfg0.N,
    (t.val < 1 → win0_1.index t (0 : Fin 3) = 0 ∧ win0_1.index t (1 : Fin 3) = t.val % 1 ∧ win0_1.index t (2 : Fin 3) = 0)
    ∧ (1 ≤ t.val → win0_2.index t (0 : Fin 3) = 0 ∧ win0_2.index t (1 : Fin 3) = t.val % 1 ∧ win0_2.index t (2 : Fin 3) = 0)
    ∧ (win0_5.index t (0 : Fin 3) = t.val / 1 ∧ win0_5.index t (1 : Fin 3) = t.val % 1 ∧ win0_5.index t (2 : Fin 3) = 0) :=
  (by decide +kernel : ∀ t : Fin grid0.N, _)

/-- Row `r` of point `t`'s block of rows. -/
def row (t : Fin cfg0.N) (r : Fin 256) : Fin 256 := ⟨t.val % 1 * 256 + r.val, by have h := r.isLt; omega⟩

/-- Point `t`'s layer. -/
def layerOf (t : Fin cfg0.N) : Fin 2 := ⟨t.val / 1, by have h : t.val < 2 := t.isLt; omega⟩

theorem emb1 (t : Fin cfg0.N) (h : t.val < 1) (s : Fin 8) (r : Fin 256) (k : Fin 128) :
    ((cfg0.win 1).blk t).view.emb (ix3 s r k) = ix3 s (row t r) k := by
  obtain ⟨h0, h1, h2⟩ := (points t).1 h
  funext a; apply Fin.ext
  match a with
  | ⟨0, _⟩ => show win0_1.index t (0 : Fin 3) * 8 + 1 * s.val = s.val; omega
  | ⟨1, _⟩ => show win0_1.index t (1 : Fin 3) * 256 + 1 * r.val = t.val % 1 * 256 + r.val; omega
  | ⟨2, _⟩ => show win0_1.index t (2 : Fin 3) * 128 + 1 * k.val = k.val; omega

theorem emb2 (t : Fin cfg0.N) (h : 1 ≤ t.val) (s : Fin 8) (r : Fin 256) (k : Fin 128) :
    ((cfg0.win 2).blk t).view.emb (ix3 s r k) = ix3 s (row t r) k := by
  obtain ⟨h0, h1, h2⟩ := (points t).2.1 h
  funext a; apply Fin.ext
  match a with
  | ⟨0, _⟩ => show win0_2.index t (0 : Fin 3) * 8 + 1 * s.val = s.val; omega
  | ⟨1, _⟩ => show win0_2.index t (1 : Fin 3) * 256 + 1 * r.val = t.val % 1 * 256 + r.val; omega
  | ⟨2, _⟩ => show win0_2.index t (2 : Fin 3) * 128 + 1 * k.val = k.val; omega

/-- A result's window; those of the weights and the moments are the same. -/
theorem emb5 (t : Fin cfg0.N) (r : Fin 256) (k : Fin 128) :
    ((cfg0.win 5).blk t).view.emb (ix3 (0 : Fin 1) r k) = ix3 (layerOf t) (row t r) k := by
  obtain ⟨h0, h1, h2⟩ := (points t).2.2
  funext a; apply Fin.ext
  match a with
  | ⟨0, _⟩ => show win0_5.index t (0 : Fin 3) * 1 + 1 * 0 = t.val / 1; omega
  | ⟨1, _⟩ => show win0_5.index t (1 : Fin 3) * 256 + 1 * r.val = t.val % 1 * 256 + r.val; omega
  | ⟨2, _⟩ => show win0_5.index t (2 : Fin 3) * 128 + 1 * k.val = k.val; omega

/-- The gradient of a block of the layer's parts is the block of the gradient … -/
theorem grad_A (c : Dev nD) (t : Fin cfg0.N) (h : t.val < 1) :
    AdamW.grad (iblk m c 1 t : Vec Ideal S8x256x128 .bf16) = ((cfg0.win 5).blk t).view.read (Elt Ideal) (AdamW.grad2 (V m c main_arg3) (V m c main_arg4)) := by
  funext j
  obtain ⟨z, r, k, rfl⟩ : ∃ (z : Fin 1) (r : Fin 256) (k : Fin 128), j = ix3 z r k := ⟨j 0, j 1, j 2, eq_ix3 j⟩
  obtain rfl : z = 0 := Subsingleton.elim _ _
  show _ = AdamW.grad2 (V m c main_arg3) (V m c main_arg4) (((cfg0.win 5).blk t).view.emb (ix3 (0 : Fin 1) r k))
  have e : layerOf t = 0 := Fin.ext (show t.val / 1 = 0 by omega)
  rw [emb5, e, AdamW.grad2_zero]
  exact Finset.sum_congr rfl fun s _ => congrArg (V m c main_arg3) (emb1 t h s r k)

theorem grad_B (c : Dev nD) (t : Fin cfg0.N) (h : 1 ≤ t.val) :
    AdamW.grad (iblk m c 2 t : Vec Ideal S8x256x128 .bf16) = ((cfg0.win 5).blk t).view.read (Elt Ideal) (AdamW.grad2 (V m c main_arg3) (V m c main_arg4)) := by
  have ht : t.val < 2 := t.isLt
  funext j
  obtain ⟨z, r, k, rfl⟩ : ∃ (z : Fin 1) (r : Fin 256) (k : Fin 128), j = ix3 z r k := ⟨j 0, j 1, j 2, eq_ix3 j⟩
  obtain rfl : z = 0 := Subsingleton.elim _ _
  show _ = AdamW.grad2 (V m c main_arg3) (V m c main_arg4) (((cfg0.win 5).blk t).view.emb (ix3 (0 : Fin 1) r k))
  have e : layerOf t = 1 := Fin.ext (show t.val / 1 = 1 by omega)
  rw [emb5, e, AdamW.grad2_one]
  exact Finset.sum_congr rfl fun s _ => congrArg (V m c main_arg4) (emb2 t h s r k)

theorem flushed_grad (c : Dev nD) (t : Fin cfg0.N) :
    (dats m 0 c).flushed 5 t = ((cfg0.win 5).blk t).view.read (Elt Ideal) (AdamW.grad2 (V m c main_arg3) (V m c main_arg4)) := by
  rcases Nat.lt_or_ge t.val 1 with h | h
  · rw [body5_A m c t h, grad_A m c t h]
  · rw [body5_B m c t h, grad_B m c t h]

/-- … and so of the three others, computed element by element. -/
theorem flushed_delta (c : Dev nD) (t : Fin cfg0.N) :
    (dats m 0 c).flushed 6 t = ((cfg0.win 6).blk t).view.read (Elt Ideal) (AdamW.delta (V m c main_arg0) (V m c main_arg1) (V m c main_arg2) (AdamW.grad2 (V m c main_arg3) (V m c main_arg4))) := by
  rcases Nat.lt_or_ge t.val 1 with h | h
  · rw [body6_A m c t h, grad_A m c t h]
    rfl
  · rw [body6_B m c t h, grad_B m c t h]
    rfl

theorem flushed_newM (c : Dev nD) (t : Fin cfg0.N) :
    (dats m 0 c).flushed 7 t = ((cfg0.win 7).blk t).view.read (Elt Ideal) (AdamW.newM (V m c main_arg1) (AdamW.grad2 (V m c main_arg3) (V m c main_arg4))) := by
  rcases Nat.lt_or_ge t.val 1 with h | h
  · rw [body7_A m c t h, grad_A m c t h]
    rfl
  · rw [body7_B m c t h, grad_B m c t h]
    rfl

theorem flushed_newV (c : Dev nD) (t : Fin cfg0.N) :
    (dats m 0 c).flushed 8 t = ((cfg0.win 8).blk t).view.read (Elt Ideal) (AdamW.newV (V m c main_arg2) (AdamW.grad2 (V m c main_arg3) (V m c main_arg4))) := by
  rcases Nat.lt_or_ge t.val 1 with h | h
  · rw [body8_A m c t h, grad_A m c t h]
    rfl
  · rw [body8_B m c t h, grad_B m c t h]
    rfl

/-- Every index lies in one point's block. -/
theorem covered (i : S2x256x128.Idx) : ∃ t : Fin cfg0.N, i ∈ ((cfg0.win 5).blk t).view.set := by
  obtain ⟨z, a, b, rfl⟩ : ∃ (z : Fin 2) (a : Fin 256) (b : Fin 128), i = ix3 z a b := ⟨i 0, i 1, i 2, eq_ix3 i⟩
  have ha := a.isLt
  have hz := z.isLt
  let t : Fin cfg0.N := ⟨z.val * 1 + a.val / 256, show z.val * 1 + a.val / 256 < 2 by omega⟩
  have h := ((cfg0.win 5).blk t).view.emb_mem_set (ix3 (0 : Fin 1) (⟨a.val % 256, by omega⟩ : Fin 256) b)
  have e : row t ⟨a.val % 256, by omega⟩ = a := Fin.ext (show (z.val * 1 + a.val / 256) % 1 * 256 + a.val % 256 = a.val by omega)
  have e' : layerOf t = z := Fin.ext (show (z.val * 1 + a.val / 256) / 1 = z.val by omega)
  rw [emb5, e, e'] at h
  exact ⟨t, h⟩

theorem flushes : ∀ t : Fin cfg0.N, (cfg0.win 5).flush t = true ∧ (cfg0.win 6).flush t = true ∧ (cfg0.win 7).flush t = true ∧ (cfg0.win 8).flush t = true :=
  (by decide +kernel : ∀ t : Fin grid0.N, win0_5.flush t = true ∧ win0_6.flush t = true ∧ win0_7.flush t = true ∧ win0_8.flush t = true)

/-- The kernel's run: its result arrays are those functions of the arguments. -/
theorem run : θ_run defs (onTc (τ := τ) (main (F := Ideal))) ⟨m, fun _ => 0, ρ⟩ fun r => ∀ c : Dev nD,
      r.2.mem ((c : Thread nD τ).loc main_v0_0) = AdamW.grad2 (m ((c : Thread nD τ).loc main_arg3)) (m ((c : Thread nD τ).loc main_arg4))
      ∧ r.2.mem ((c : Thread nD τ).loc main_v0_1) = AdamW.delta (m ((c : Thread nD τ).loc main_arg0)) (m ((c : Thread nD τ).loc main_arg1)) (m ((c : Thread nD τ).loc main_arg2)) (AdamW.grad2 (m ((c : Thread nD τ).loc main_arg3)) (m ((c : Thread nD τ).loc main_arg4)))
      ∧ r.2.mem ((c : Thread nD τ).loc main_v0_2) = AdamW.newM (m ((c : Thread nD τ).loc main_arg1)) (AdamW.grad2 (m ((c : Thread nD τ).loc main_arg3)) (m ((c : Thread nD τ).loc main_arg4)))
      ∧ r.2.mem ((c : Thread nD τ).loc main_v0_3) = AdamW.newV (m ((c : Thread nD τ).loc main_arg2)) (AdamW.grad2 (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t _ => flushed_grad m c t) fun i => (covered i).imp fun t h => ⟨(flushes t).1, h⟩),
    (h c).2.1.trans ((dats m 0 c).arrAt_eq_of_cover 6 _ (fun t _ => flushed_delta m c t) fun i => (covered i).imp fun t h => ⟨(flushes t).2.1, h⟩),
    (h c).2.2.1.trans ((dats m 0 c).arrAt_eq_of_cover 7 _ (fun t _ => flushed_newM m c t) fun i => (covered i).imp fun t h => ⟨(flushes t).2.2.1, h⟩),
    (h c).2.2.2.1.trans ((dats m 0 c).arrAt_eq_of_cover 8 _ (fun t _ => flushed_newV m c t) fun i => (covered i).imp fun t h => ⟨(flushes t).2.2.2, h⟩), (h c).2.2.2.2⟩) (run_blocks m ρ)

/-- The reference's results are the same functions. -/
theorem grad_eq (p q : Vec Ideal S8x256x128 .bf16) : Cert.AdamPleUpRefIdeal.Read.val_main_v6 (F := Ideal) p q = AdamW.grad2 p q := by
  funext i
  obtain ⟨z, a, b, rfl⟩ : ∃ (z : Fin 2) (a : Fin 256) (b : Fin 128), i = ix3 z a b := ⟨i 0, i 1, i 2, eq_ix3 i⟩
  match z with
  | ⟨0, _⟩ =>
    refine Eq.trans ?_ (AdamW.grad2_zero p q a b).symm
    pointwise [Cert.AdamPleUpRefIdeal.Read.val_main_v6, Cert.AdamPleUpRefIdeal.Read.val_main_v5, Cert.AdamPleUpRefIdeal.Read.val_main_v4, Cert.AdamPleUpRefIdeal.Read.val_main_v3, Cert.AdamPleUpRefIdeal.Read.val_main_v2, Cert.AdamPleUpRefIdeal.Read.val_main_v1, Cert.AdamPleUpRefIdeal.Read.val_main_v0, Cert.AdamPleUpRefIdeal.Read.val_main_cst, Cert.AdamPleUpRefIdeal.Read.val_main_cst_0]
  | ⟨1, _⟩ =>
    refine Eq.trans ?_ (AdamW.grad2_one p q a b).symm
    pointwise [Cert.AdamPleUpRefIdeal.Read.val_main_v6, Cert.AdamPleUpRefIdeal.Read.val_main_v5, Cert.AdamPleUpRefIdeal.Read.val_main_v4, Cert.AdamPleUpRefIdeal.Read.val_main_v3, Cert.AdamPleUpRefIdeal.Read.val_main_v2, Cert.AdamPleUpRefIdeal.Read.val_main_v1, Cert.AdamPleUpRefIdeal.Read.val_main_v0, Cert.AdamPleUpRefIdeal.Read.val_main_cst, Cert.AdamPleUpRefIdeal.Read.val_main_cst_0]

theorem newM_eq (m : Vec Ideal S2x256x128 .f32) (p q : Vec Ideal S8x256x128 .bf16) : Cert.AdamPleUpRefIdeal.Read.val_main_v11 (F := Ideal) m p q = AdamW.newM m (AdamW.grad2 p q) := by
  rw [← grad_eq]
  rfl

theorem newV_eq (v : Vec Ideal S2x256x128 .f32) (p q : Vec Ideal S8x256x128 .bf16) : Cert.AdamPleUpRefIdeal.Read.val_main_v17 (F := Ideal) v p q = AdamW.newV v (AdamW.grad2 p q) := by
  rw [← grad_eq]
  rfl

theorem delta_eq (w m v : Vec Ideal S2x256x128 .f32) (p q : Vec Ideal S8x256x128 .bf16) :
    Cert.AdamPleUpRefIdeal.Read.val_main_v30 (F := Ideal) w m v p q = AdamW.delta w m v (AdamW.grad2 p q) := by
  rw [← grad_eq]
  rfl

/-- The program as printed and the one read at the extended reals have the same bodies. -/
theorem bodies_eq : @Cert.AdamPleUp.defs₀ Bits _ _ = @Cert.AdamPleUpIdeal.defs₀ Bits _ _ := by
  unfold Cert.AdamPleUp.defs₀ Cert.AdamPleUpIdeal.defs₀
  refine congrArg Defs.onTc (funext fun l => funext fun x => ?_)
  match l, x with
  | 0, (t, s) => rfl

/-- The kernel's frame, of the program as printed: the run of the same text at the device's own values. -/
theorem frame_kernel : Cert.quiescent_AdamPleUp := by
  intro m ρ _
  have h : Cert.AdamPleUp.defs (F := Bits) = Cert.AdamPleUpIdeal.defs (F := Bits) := congrArg (Pipeline.defs _) bodies_eq
  rw [h]
  exact Cert.AdamPleUpIdeal.Gen.frame (F := Bits) m ρ

theorem frame_ideal : Cert.quiescent_AdamPleUpIdeal := fun m ρ _ => Cert.AdamPleUpIdeal.Gen.frame (F := Ideal) m ρ

theorem frame_reference : Cert.quiescent_AdamPleUpRefIdeal := fun m ρ _ =>
  (θ_run Cert.AdamPleUpRefIdeal.defs _ _).mono (fun r h => ⟨fun c => (h c).2.2.2.2, sem_eq_zero_of_no_sems (by decide) r.2⟩)
    (Cert.AdamPleUpRefIdeal.Value.run (F := Ideal) m ρ)

theorem algebraic : Cert.algebraic_AdamPleUpIdeal_AdamPleUpRefIdeal := by
  intro m ρ m' ρ' _ hagree
  refine ⟨_, _, _, _, run m ρ, (θ_run Cert.AdamPleUpRefIdeal.defs _ _).mono (fun r h c => ⟨((h c).1.trans (Cert.AdamPleUpRefIdeal.Read.val_main_v6_eq _ _)).trans ?_,
      ((h c).2.1.trans (Cert.AdamPleUpRefIdeal.Read.val_main_v30_eq _ _ _ _ _)).trans ?_, ((h c).2.2.1.trans (Cert.AdamPleUpRefIdeal.Read.val_main_v11_eq _ _ _)).trans ?_,
      ((h c).2.2.2.1.trans (Cert.AdamPleUpRefIdeal.Read.val_main_v17_eq _ _ _)).trans ?_, (h c).2.2.2.2⟩)
    (Cert.AdamPleUpRefIdeal.Value.run (F := Ideal) m' ρ')⟩
  · rw [grad_eq, (hagree c).2.2.2.1, (hagree c).2.2.2.2]
  · rw [delta_eq, (hagree c).1, (hagree c).2.1, (hagree c).2.2.1, (hagree c).2.2.2.1, (hagree c).2.2.2.2]
  · rw [newM_eq, (hagree c).2.1, (hagree c).2.2.2.1, (hagree c).2.2.2.2]
  · rw [newV_eq, (hagree c).2.2.1, (hagree c).2.2.2.1, (hagree c).2.2.2.2]

end Cert.Proof.AdamPleUp

end
-- ==== Proof.AdamPleGate.lean ====
/- The optimiser's step for one device's shard of the per-layer embedding's gate: the four arrays the kernel leaves and the reference's four results are the
   gradient, the change and the two moments of AdamW, of both layers. -/
module

public import proofs.«01_k».proof.Defs
public import proofs.«01_k».proof.Proof.Gen.AdamPleGate
public import proofs.«01_k».proof.Proof.Gen.AdamPleGateIdeal.Value
public import proofs.«01_k».proof.Proof.Gen.AdamPleGateRefIdeal.Read
public import proofs.«01_k».proof.Proof.AdamW
public import Idealize.ShloMosaic.Lib.Pointwise
public import Idealize.ShloMosaic.Lib.Claim

@[expose] public section

set_option maxRecDepth 16384

noncomputable section

namespace Cert.Proof.AdamPleGate

open Cert.AdamPleGateIdeal Cert.AdamPleGateIdeal.Gen Cert.AdamPleGateIdeal.Value
open Idealize.ShloMosaic Idealize.ShloMosaic.TcCoe Idealize.SL.Sem

/-- The eight loads' sum, in the first layer's case and in the second's. -/
theorem total_A (x : Vec Ideal S8x128x1024 .bf16) :
    k0_pay5 (View.ld x (Rect.unit (s := S8x128x1024) ![0, 0, 0] S1x128x1024.size inb_S8x128x1024_S1x128x1024_0_0_0))
    (View.ld x (Rect.unit (s := S8x128x1024) ![1, 0, 0] S1x128x1024.size inb_S8x128x1024_S1x128x1024_1_0_0))
    (View.ld x (Rect.unit (s := S8x128x1024) ![2, 0, 0] S1x128x1024.size inb_S8x128x1024_S1x128x1024_2_0_0))
    (View.ld x (Rect.unit (s := S8x128x1024) ![3, 0, 0] S1x128x1024.size inb_S8x128x1024_S1x128x1024_3_0_0))
    (View.ld x (Rect.unit (s := S8x128x1024) ![4, 0, 0] S1x128x1024.size inb_S8x128x1024_S1x128x1024_4_0_0))
    (View.ld x (Rect.unit (s := S8x128x1024) ![5, 0, 0] S1x128x1024.size inb_S8x128x1024_S1x128x1024_5_0_0))
    (View.ld x (Rect.unit (s := S8x128x1024) ![6, 0, 0] S1x128x1024.size inb_S8x128x1024_S1x128x1024_6_0_0))
    (View.ld x (Rect.unit (s := S8x128x1024) ![7, 0, 0] S1x128x1024.size inb_S8x128x1024_S1x128x1024_7_0_0)) = AdamW.flat (AdamW.grad x) :=
  AdamW.total_eq x _ _ (by decide : ∀ s : Fin 8, ∀ a : Fin 3, (![s.val, 0, 0] : Fin 3 → Nat) a + S1x128x1024.size a ≤ S8x128x1024.size a)

theorem total_B (x : Vec Ideal S8x128x1024 .bf16) :
    k0_pay10 (View.ld x (Rect.unit (s := S8x128x1024) ![0, 0, 0] S1x128x1024.size inb_S8x128x1024_S1x128x1024_0_0_0))
    (View.ld x (Rect.unit (s := S8x128x1024) ![1, 0, 0] S1x128x1024.size inb_S8x128x1024_S1x128x1024_1_0_0))
    (View.ld x (Rect.unit (s := S8x128x1024) ![2, 0, 0] S1x128x1024.size inb_S8x128x1024_S1x128x1024_2_0_0))
    (View.ld x (Rect.unit (s := S8x128x1024) ![3, 0, 0] S1x128x1024.size inb_S8x128x1024_S1x128x1024_3_0_0))
    (View.ld x (Rect.unit (s := S8x128x1024) ![4, 0, 0] S1x128x1024.size inb_S8x128x1024_S1x128x1024_4_0_0))
    (View.ld x (Rect.unit (s := S8x128x1024) ![5, 0, 0] S1x128x1024.size inb_S8x128x1024_S1x128x1024_5_0_0))
    (View.ld x (Rect.unit (s := S8x128x1024) ![6, 0, 0] S1x128x1024.size inb_S8x128x1024_S1x128x1024_6_0_0))
    (View.ld x (Rect.unit (s := S8x128x1024) ![7, 0, 0] S1x128x1024.size inb_S8x128x1024_S1x128x1024_7_0_0)) = AdamW.flat (AdamW.grad x) :=
  total_A x

theorem zeros : (![0, 0, 0] : Fin 3 → Nat) = fun _ => 0 := funext fun a => by fin_cases a <;> rfl

variable (m : (ℓ : Loc nD τ sig) → Buf (Elt Ideal) ℓ) (ρ : Dev nD → PrngReg)

/-- What a point writes back: the functions of its blocks, the parts being the layer's. -/
theorem body5_A (c : Dev nD) (t : Fin cfg0.N) (h : t.val < 1) :
    (dats m 0 c).flushed 5 t = (cfg0.win 5).cut (grid0.coords t) (AdamW.grad (iblk m c 1 t)) := by
  have ht : t.val < 2 := t.isLt
  rw [flushed5_A m c t (by omega) (by omega)]
  unfold out0_A_5
  rw [View.read_writes_eq_canon _ _ _ (fun y => cover0_A_5 ..)]
  unfold kernelRun0_A
  dsimp only
  sl_unfold_words
  rw [View.canon_unit_zero zeros]
  simp only [View.readAt_eq_ld, (hs0_1 t).read_unread]
  exact congrArg _ ((congrArg k0_pay6 (total_A _)).trans (AdamW.cast_of_flat _ _))

theorem body5_B (c : Dev nD) (t : Fin cfg0.N) (h : 1 ≤ t.val) :
    (dats m 0 c).flushed 5 t = (cfg0.win 5).cut (grid0.coords t) (AdamW.grad (iblk m c 2 t)) := by
  have ht : t.val < 2 := t.isLt
  rw [flushed5_B m c t (by omega) (by omega)]
  unfold out0_B_5
  rw [View.read_writes_eq_canon _ _ _ (fun y => cover0_B_5 ..)]
  unfold kernelRun0_B
  dsimp only
  sl_unfold_words
  rw [View.canon_unit_zero zeros]
  simp only [View.readAt_eq_ld, (hs0_2 t).read_unread]
  exact congrArg _ ((congrArg k0_pay11 (total_B _)).trans (AdamW.cast_of_flat _ _))

theorem body6_A (c : Dev nD) (t : Fin cfg0.N) (h : t.val < 1) :
    (dats m 0 c).flushed 6 t = (cfg0.win 6).cut (grid0.coords t) (AdamW.delta (iblk m c 0 t) (iblk m c 3 t) (iblk m c 4 t) (AdamW.grad (iblk m c 1 t))) := by
  have ht : t.val < 2 := t.isLt
  rw [flushed6_A m c t (by omega) (by omega)]
  unfold out0_A_6
  rw [View.read_writes_eq_canon _ _ _ (fun y => cover0_A_6 ..)]
  unfold kernelRun0_A
  dsimp only
  sl_unfold_words
  rw [View.canon_unit_zero zeros]
  simp only [View.readAt_eq_ld, (hs0_0 t).read_unread, (hs0_1 t).read_unread, (hs0_3 t).read_unread, (hs0_4 t).read_unread, View.ld_unit_zero (S := S1x128x1024) zeros]
  exact congrArg _ ((congrArg (fun g => k0_pay9 g (iblk m c 0 t) (iblk m c 3 t) (iblk m c 4 t)) (total_A _)).trans (AdamW.storeD_eq (iblk m c 0 t) (iblk m c 3 t) (iblk m c 4 t) _ _ _))

theorem body6_B (c : Dev nD) (t : Fin cfg0.N) (h : 1 ≤ t.val) :
    (dats m 0 c).flushed 6 t = (cfg0.win 6).cut (grid0.coords t) (AdamW.delta (iblk m c 0 t) (iblk m c 3 t) (iblk m c 4 t) (AdamW.grad (iblk m c 2 t))) := by
  have ht : t.val < 2 := t.isLt
  rw [flushed6_B m c t (by omega) (by omega)]
  unfold out0_B_6
  rw [View.read_writes_eq_canon _ _ _ (fun y => cover0_B_6 ..)]
  unfold kernelRun0_B
  dsimp only
  sl_unfold_words
  rw [View.canon_unit_zero zeros]
  simp only [View.readAt_eq_ld, (hs0_0 t).read_unread, (hs0_2 t).read_unread, (hs0_3 t).read_unread, (hs0_4 t).read_unread, View.ld_unit_zero (S := S1x128x1024) zeros]
  exact congrArg _ ((congrArg (fun g => k0_pay14 g (iblk m c 0 t) (iblk m c 3 t) (iblk m c 4 t)) (total_B _)).trans (AdamW.storeD_eq (iblk m c 0 t) (iblk m c 3 t) (iblk m c 4 t) _ _ _))

theorem body7_A (c : Dev nD) (t : Fin cfg0.N) (h : t.val < 1) :
    (dats m 0 c).flushed 7 t = (cfg0.win 7).cut (grid0.coords t) (AdamW.newM (iblk m c 3 t) (AdamW.grad (iblk m c 1 t))) := by
  have ht : t.val < 2 := t.isLt
  rw [flushed7_A m c t (by omega) (by omega)]
  unfold out0_A_7
  rw [View.read_writes_eq_canon _ _ _ (fun y => cover0_A_7 ..)]
  unfold kernelRun0_A
  dsimp only
  sl_unfold_words
  rw [View.canon_unit_zero zeros]
  simp only [View.readAt_eq_ld, (hs0_1 t).read_unread, (hs0_3 t).read_unread, View.ld_unit_zero (S := S1x128x1024) zeros]
  exact congrArg _ ((congrArg (fun g => k0_pay1 (k0_pay7 g (iblk m c 3 t))) (total_A _)).trans (AdamW.storeM_eq (iblk m c 3 t) _ _ _))

theorem body7_B (c : Dev nD) (t : Fin cfg0.N) (h : 1 ≤ t.val) :
    (dats m 0 c).flushed 7 t = (cfg0.win 7).cut (grid0.coords t) (AdamW.newM (iblk m c 3 t) (AdamW.grad (iblk m c 2 t))) := by
  have ht : t.val < 2 := t.isLt
  rw [flushed7_B m c t (by omega) (by omega)]
  unfold out0_B_7
  rw [View.read_writes_eq_canon _ _ _ (fun y => cover0_B_7 ..)]
  unfold kernelRun0_B
  dsimp only
  sl_unfold_words
  rw [View.canon_unit_zero zeros]
  simp only [View.readAt_eq_ld, (hs0_2 t).read_unread, (hs0_3 t).read_unread, View.ld_unit_zero (S := S1x128x1024) zeros]
  exact congrArg _ ((congrArg (fun g => k0_pay3 (k0_pay12 g (iblk m c 3 t))) (total_B _)).trans (AdamW.storeM_eq (iblk m c 3 t) _ _ _))

theorem body8_A (c : Dev nD) (t : Fin cfg0.N) (h : t.val < 1) :
    (dats m 0 c).flushed 8 t = (cfg0.win 8).cut (grid0.coords t) (AdamW.newV (iblk m c 4 t) (AdamW.grad (iblk m c 1 t))) := by
  have ht : t.val < 2 := t.isLt
  rw [flushed8_A m c t (by omega) (by omega)]
  unfold out0_A_8
  rw [View.read_writes_eq_canon _ _ _ (fun y => cover0_A_8 ..)]
  unfold kernelRun0_A
  dsimp only
  sl_unfold_words
  rw [View.canon_unit_zero zeros]
  simp only [View.readAt_eq_ld, (hs0_1 t).read_unread, (hs0_4 t).read_unread, View.ld_unit_zero (S := S1x128x1024) zeros]
  exact congrArg _ ((congrArg (fun g => k0_pay2 (k0_pay8 g (iblk m c 4 t))) (total_A _)).trans (AdamW.storeV_eq (iblk m c 4 t) _ _ _))

theorem body8_B (c : Dev nD) (t : Fin cfg0.N) (h : 1 ≤ t.val) :
    (dats m 0 c).flushed 8 t = (cfg0.win 8).cut (grid0.coords t) (AdamW.newV (iblk m c 4 t) (AdamW.grad (iblk m c 2 t))) := by
  have ht : t.val < 2 := t.isLt
  rw [flushed8_B m c t (by omega) (by omega)]
  unfold out0_B_8
  rw [View.read_writes_eq_canon _ _ _ (fun y => cover0_B_8 ..)]
  unfold kernelRun0_B
  dsimp only
  sl_unfold_words
  rw [View.canon_unit_zero zeros]
  simp only [View.readAt_eq_ld, (hs0_2 t).read_unread, (hs0_4 t).read_unread, View.ld_unit_zero (S := S1x128x1024) zeros]
  exact congrArg _ ((congrArg (fun g => k0_pay4 (k0_pay13 g (iblk m c 4 t))) (total_B _)).trans (AdamW.storeV_eq (iblk m c 4 t) _ _ _))

/-- The block indices of the layers' parts' windows and of a result's: a point is a layer and a block of rows. -/
theorem points : ∀ t : Fin cfg0.N,
    (t.val < 1 → win0_1.index t (0 : Fin 3) = 0 ∧ win0_1.index t (1 : Fin 3) = t.val % 1 ∧ win0_1.index t (2 : Fin 3) = 0)
    ∧ (1 ≤ t.val → win0_2.index t (0 : Fin 3) = 0 ∧ win0_2.index t (1 : Fin 3) = t.val % 1 ∧ win0_2.index t (2 : Fin 3) = 0)
    ∧ (win0_5.index t (0 : Fin 3) = t.val / 1 ∧ win0_5.index t (1 : Fin 3) = t.val % 1 ∧ win0_5.index t (2 : Fin 3) = 0) :=
  (by decide +kernel : ∀ t : Fin grid0.N, _)

/-- Row `r` of point `t`'s block of rows. -/
def row (t : Fin cfg0.N) (r : Fin 128) : Fin 128 := ⟨t.val % 1 * 128 + r.val, by have h := r.isLt; omega⟩

/-- Point `t`'s layer. -/
def layerOf (t : Fin cfg0.N) : Fin 2 := ⟨t.val / 1, by have h : t.val < 2 := t.isLt; omega⟩

theorem emb1 (t : Fin cfg0.N) (h : t.val < 1) (s : Fin 8) (r : Fin 128) (k : Fin 1024) :
    ((cfg0.win 1).blk t).view.emb (ix3 s r k) = ix3 s (row t r) k := by
  obtain ⟨h0, h1, h2⟩ := (points t).1 h
  funext a; apply Fin.ext
  match a with
  | ⟨0, _⟩ => show win0_1.index t (0 : Fin 3) * 8 + 1 * s.val = s.val; omega
  | ⟨1, _⟩ => show win0_1.index t (1 : Fin 3) * 128 + 1 * r.val = t.val % 1 * 128 + r.val; omega
  | ⟨2, _⟩ => show win0_1.index t (2 : Fin 3) * 1024 + 1 * k.val = k.val; omega

theorem emb2 (t : Fin cfg0.N) (h : 1 ≤ t.val) (s : Fin 8) (r : Fin 128) (k : Fin 1024) :
    ((cfg0.win 2).blk t).view.emb (ix3 s r k) = ix3 s (row t r) k := by
  obtain ⟨h0, h1, h2⟩ := (points t).2.1 h
  funext a; apply Fin.ext
  match a with
  | ⟨0, _⟩ => show win0_2.index t (0 : Fin 3) * 8 + 1 * s.val = s.val; omega
  | ⟨1, _⟩ => show win0_2.index t (1 : Fin 3) * 128 + 1 * r.val = t.val % 1 * 128 + r.val; omega
  | ⟨2, _⟩ => show win0_2.index t (2 : Fin 3) * 1024 + 1 * k.val = k.val; omega

/-- A result's window; those of the weights and the moments are the same. -/
theorem emb5 (t : Fin cfg0.N) (r : Fin 128) (k : Fin 1024) :
    ((cfg0.win 5).blk t).view.emb (ix3 (0 : Fin 1) r k) = ix3 (layerOf t) (row t r) k := by
  obtain ⟨h0, h1, h2⟩ := (points t).2.2
  funext a; apply Fin.ext
  match a with
  | ⟨0, _⟩ => show win0_5.index t (0 : Fin 3) * 1 + 1 * 0 = t.val / 1; omega
  | ⟨1, _⟩ => show win0_5.index t (1 : Fin 3) * 128 + 1 * r.val = t.val % 1 * 128 + r.val; omega
  | ⟨2, _⟩ => show win0_5.index t (2 : Fin 3) * 1024 + 1 * k.val = k.val; omega

/-- The gradient of a block of the layer's parts is the block of the gradient … -/
theorem grad_A (c : Dev nD) (t : Fin cfg0.N) (h : t.val < 1) :
    AdamW.grad (iblk m c 1 t : Vec Ideal S8x128x1024 .bf16) = ((cfg0.win 5).blk t).view.read (Elt Ideal) (AdamW.grad2 (V m c main_arg3) (V m c main_arg4)) := by
  funext j
  obtain ⟨z, r, k, rfl⟩ : ∃ (z : Fin 1) (r : Fin 128) (k : Fin 1024), j = ix3 z r k := ⟨j 0, j 1, j 2, eq_ix3 j⟩
  obtain rfl : z = 0 := Subsingleton.elim _ _
  show _ = AdamW.grad2 (V m c main_arg3) (V m c main_arg4) (((cfg0.win 5).blk t).view.emb (ix3 (0 : Fin 1) r k))
  have e : layerOf t = 0 := Fin.ext (show t.val / 1 = 0 by omega)
  rw [emb5, e, AdamW.grad2_zero]
  exact Finset.sum_congr rfl fun s _ => congrArg (V m c main_arg3) (emb1 t h s r k)

theorem grad_B (c : Dev nD) (t : Fin cfg0.N) (h : 1 ≤ t.val) :
    AdamW.grad (iblk m c 2 t : Vec Ideal S8x128x1024 .bf16) = ((cfg0.win 5).blk t).view.read (Elt Ideal) (AdamW.grad2 (V m c main_arg3) (V m c main_arg4)) := by
  have ht : t.val < 2 := t.isLt
  funext j
  obtain ⟨z, r, k, rfl⟩ : ∃ (z : Fin 1) (r : Fin 128) (k : Fin 1024), j = ix3 z r k := ⟨j 0, j 1, j 2, eq_ix3 j⟩
  obtain rfl : z = 0 := Subsingleton.elim _ _
  show _ = AdamW.grad2 (V m c main_arg3) (V m c main_arg4) (((cfg0.win 5).blk t).view.emb (ix3 (0 : Fin 1) r k))
  have e : layerOf t = 1 := Fin.ext (show t.val / 1 = 1 by omega)
  rw [emb5, e, AdamW.grad2_one]
  exact Finset.sum_congr rfl fun s _ => congrArg (V m c main_arg4) (emb2 t h s r k)

theorem flushed_grad (c : Dev nD) (t : Fin cfg0.N) :
    (dats m 0 c).flushed 5 t = ((cfg0.win 5).blk t).view.read (Elt Ideal) (AdamW.grad2 (V m c main_arg3) (V m c main_arg4)) := by
  rcases Nat.lt_or_ge t.val 1 with h | h
  · rw [body5_A m c t h, grad_A m c t h]
  · rw [body5_B m c t h, grad_B m c t h]

/-- … and so of the three others, computed element by element. -/
theorem flushed_delta (c : Dev nD) (t : Fin cfg0.N) :
    (dats m 0 c).flushed 6 t = ((cfg0.win 6).blk t).view.read (Elt Ideal) (AdamW.delta (V m c main_arg0) (V m c main_arg1) (V m c main_arg2) (AdamW.grad2 (V m c main_arg3) (V m c main_arg4))) := by
  rcases Nat.lt_or_ge t.val 1 with h | h
  · rw [body6_A m c t h, grad_A m c t h]
    rfl
  · rw [body6_B m c t h, grad_B m c t h]
    rfl

theorem flushed_newM (c : Dev nD) (t : Fin cfg0.N) :
    (dats m 0 c).flushed 7 t = ((cfg0.win 7).blk t).view.read (Elt Ideal) (AdamW.newM (V m c main_arg1) (AdamW.grad2 (V m c main_arg3) (V m c main_arg4))) := by
  rcases Nat.lt_or_ge t.val 1 with h | h
  · rw [body7_A m c t h, grad_A m c t h]
    rfl
  · rw [body7_B m c t h, grad_B m c t h]
    rfl

theorem flushed_newV (c : Dev nD) (t : Fin cfg0.N) :
    (dats m 0 c).flushed 8 t = ((cfg0.win 8).blk t).view.read (Elt Ideal) (AdamW.newV (V m c main_arg2) (AdamW.grad2 (V m c main_arg3) (V m c main_arg4))) := by
  rcases Nat.lt_or_ge t.val 1 with h | h
  · rw [body8_A m c t h, grad_A m c t h]
    rfl
  · rw [body8_B m c t h, grad_B m c t h]
    rfl

/-- Every index lies in one point's block. -/
theorem covered (i : S2x128x1024.Idx) : ∃ t : Fin cfg0.N, i ∈ ((cfg0.win 5).blk t).view.set := by
  obtain ⟨z, a, b, rfl⟩ : ∃ (z : Fin 2) (a : Fin 128) (b : Fin 1024), i = ix3 z a b := ⟨i 0, i 1, i 2, eq_ix3 i⟩
  have ha := a.isLt
  have hz := z.isLt
  let t : Fin cfg0.N := ⟨z.val * 1 + a.val / 128, show z.val * 1 + a.val / 128 < 2 by omega⟩
  have h := ((cfg0.win 5).blk t).view.emb_mem_set (ix3 (0 : Fin 1) (⟨a.val % 128, by omega⟩ : Fin 128) b)
  have e : row t ⟨a.val % 128, by omega⟩ = a := Fin.ext (show (z.val * 1 + a.val / 128) % 1 * 128 + a.val % 128 = a.val by omega)
  have e' : layerOf t = z := Fin.ext (show (z.val * 1 + a.val / 128) / 1 = z.val by omega)
  rw [emb5, e, e'] at h
  exact ⟨t, h⟩

theorem flushes : ∀ t : Fin cfg0.N, (cfg0.win 5).flush t = true ∧ (cfg0.win 6).flush t = true ∧ (cfg0.win 7).flush t = true ∧ (cfg0.win 8).flush t = true :=
  (by decide +kernel : ∀ t : Fin grid0.N, win0_5.flush t = true ∧ win0_6.flush t = true ∧ win0_7.flush t = true ∧ win0_8.flush t = true)

/-- The kernel's run: its result arrays are those functions of the arguments. -/
theorem run : θ_run defs (onTc (τ := τ) (main (F := Ideal))) ⟨m, fun _ => 0, ρ⟩ fun r => ∀ c : Dev nD,
      r.2.mem ((c : Thread nD τ).loc main_v0_0) = AdamW.grad2 (m ((c : Thread nD τ).loc main_arg3)) (m ((c : Thread nD τ).loc main_arg4))
      ∧ r.2.mem ((c : Thread nD τ).loc main_v0_1) = AdamW.delta (m ((c : Thread nD τ).loc main_arg0)) (m ((c : Thread nD τ).loc main_arg1)) (m ((c : Thread nD τ).loc main_arg2)) (AdamW.grad2 (m ((c : Thread nD τ).loc main_arg3)) (m ((c : Thread nD τ).loc main_arg4)))
      ∧ r.2.mem ((c : Thread nD τ).loc main_v0_2) = AdamW.newM (m ((c : Thread nD τ).loc main_arg1)) (AdamW.grad2 (m ((c : Thread nD τ).loc main_arg3)) (m ((c : Thread nD τ).loc main_arg4)))
      ∧ r.2.mem ((c : Thread nD τ).loc main_v0_3) = AdamW.newV (m ((c : Thread nD τ).loc main_arg2)) (AdamW.grad2 (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t _ => flushed_grad m c t) fun i => (covered i).imp fun t h => ⟨(flushes t).1, h⟩),
    (h c).2.1.trans ((dats m 0 c).arrAt_eq_of_cover 6 _ (fun t _ => flushed_delta m c t) fun i => (covered i).imp fun t h => ⟨(flushes t).2.1, h⟩),
    (h c).2.2.1.trans ((dats m 0 c).arrAt_eq_of_cover 7 _ (fun t _ => flushed_newM m c t) fun i => (covered i).imp fun t h => ⟨(flushes t).2.2.1, h⟩),
    (h c).2.2.2.1.trans ((dats m 0 c).arrAt_eq_of_cover 8 _ (fun t _ => flushed_newV m c t) fun i => (covered i).imp fun t h => ⟨(flushes t).2.2.2, h⟩), (h c).2.2.2.2⟩) (run_blocks m ρ)

/-- The reference's results are the same functions. -/
theorem grad_eq (p q : Vec Ideal S8x128x1024 .bf16) : Cert.AdamPleGateRefIdeal.Read.val_main_v6 (F := Ideal) p q = AdamW.grad2 p q := by
  funext i
  obtain ⟨z, a, b, rfl⟩ : ∃ (z : Fin 2) (a : Fin 128) (b : Fin 1024), i = ix3 z a b := ⟨i 0, i 1, i 2, eq_ix3 i⟩
  match z with
  | ⟨0, _⟩ =>
    refine Eq.trans ?_ (AdamW.grad2_zero p q a b).symm
    pointwise [Cert.AdamPleGateRefIdeal.Read.val_main_v6, Cert.AdamPleGateRefIdeal.Read.val_main_v5, Cert.AdamPleGateRefIdeal.Read.val_main_v4, Cert.AdamPleGateRefIdeal.Read.val_main_v3, Cert.AdamPleGateRefIdeal.Read.val_main_v2, Cert.AdamPleGateRefIdeal.Read.val_main_v1, Cert.AdamPleGateRefIdeal.Read.val_main_v0, Cert.AdamPleGateRefIdeal.Read.val_main_cst, Cert.AdamPleGateRefIdeal.Read.val_main_cst_0]
  | ⟨1, _⟩ =>
    refine Eq.trans ?_ (AdamW.grad2_one p q a b).symm
    pointwise [Cert.AdamPleGateRefIdeal.Read.val_main_v6, Cert.AdamPleGateRefIdeal.Read.val_main_v5, Cert.AdamPleGateRefIdeal.Read.val_main_v4, Cert.AdamPleGateRefIdeal.Read.val_main_v3, Cert.AdamPleGateRefIdeal.Read.val_main_v2, Cert.AdamPleGateRefIdeal.Read.val_main_v1, Cert.AdamPleGateRefIdeal.Read.val_main_v0, Cert.AdamPleGateRefIdeal.Read.val_main_cst, Cert.AdamPleGateRefIdeal.Read.val_main_cst_0]

theorem newM_eq (m : Vec Ideal S2x128x1024 .f32) (p q : Vec Ideal S8x128x1024 .bf16) : Cert.AdamPleGateRefIdeal.Read.val_main_v11 (F := Ideal) m p q = AdamW.newM m (AdamW.grad2 p q) := by
  rw [← grad_eq]
  rfl

theorem newV_eq (v : Vec Ideal S2x128x1024 .f32) (p q : Vec Ideal S8x128x1024 .bf16) : Cert.AdamPleGateRefIdeal.Read.val_main_v17 (F := Ideal) v p q = AdamW.newV v (AdamW.grad2 p q) := by
  rw [← grad_eq]
  rfl

theorem delta_eq (w m v : Vec Ideal S2x128x1024 .f32) (p q : Vec Ideal S8x128x1024 .bf16) :
    Cert.AdamPleGateRefIdeal.Read.val_main_v30 (F := Ideal) w m v p q = AdamW.delta w m v (AdamW.grad2 p q) := by
  rw [← grad_eq]
  rfl

/-- The program as printed and the one read at the extended reals have the same bodies. -/
theorem bodies_eq : @Cert.AdamPleGate.defs₀ Bits _ _ = @Cert.AdamPleGateIdeal.defs₀ Bits _ _ := by
  unfold Cert.AdamPleGate.defs₀ Cert.AdamPleGateIdeal.defs₀
  refine congrArg Defs.onTc (funext fun l => funext fun x => ?_)
  match l, x with
  | 0, (t, s) => rfl

/-- The kernel's frame, of the program as printed: the run of the same text at the device's own values. -/
theorem frame_kernel : Cert.quiescent_AdamPleGate := by
  intro m ρ _
  have h : Cert.AdamPleGate.defs (F := Bits) = Cert.AdamPleGateIdeal.defs (F := Bits) := congrArg (Pipeline.defs _) bodies_eq
  rw [h]
  exact Cert.AdamPleGateIdeal.Gen.frame (F := Bits) m ρ

theorem frame_ideal : Cert.quiescent_AdamPleGateIdeal := fun m ρ _ => Cert.AdamPleGateIdeal.Gen.frame (F := Ideal) m ρ

theorem frame_reference : Cert.quiescent_AdamPleGateRefIdeal := fun m ρ _ =>
  (θ_run Cert.AdamPleGateRefIdeal.defs _ _).mono (fun r h => ⟨fun c => (h c).2.2.2.2, sem_eq_zero_of_no_sems (by decide) r.2⟩)
    (Cert.AdamPleGateRefIdeal.Value.run (F := Ideal) m ρ)

theorem algebraic : Cert.algebraic_AdamPleGateIdeal_AdamPleGateRefIdeal := by
  intro m ρ m' ρ' _ hagree
  refine ⟨_, _, _, _, run m ρ, (θ_run Cert.AdamPleGateRefIdeal.defs _ _).mono (fun r h c => ⟨((h c).1.trans (Cert.AdamPleGateRefIdeal.Read.val_main_v6_eq _ _)).trans ?_,
      ((h c).2.1.trans (Cert.AdamPleGateRefIdeal.Read.val_main_v30_eq _ _ _ _ _)).trans ?_, ((h c).2.2.1.trans (Cert.AdamPleGateRefIdeal.Read.val_main_v11_eq _ _ _)).trans ?_,
      ((h c).2.2.2.1.trans (Cert.AdamPleGateRefIdeal.Read.val_main_v17_eq _ _ _)).trans ?_, (h c).2.2.2.2⟩)
    (Cert.AdamPleGateRefIdeal.Value.run (F := Ideal) m' ρ')⟩
  · rw [grad_eq, (hagree c).2.2.2.1, (hagree c).2.2.2.2]
  · rw [delta_eq, (hagree c).1, (hagree c).2.1, (hagree c).2.2.1, (hagree c).2.2.2.1, (hagree c).2.2.2.2]
  · rw [newM_eq, (hagree c).2.1, (hagree c).2.2.2.1, (hagree c).2.2.2.2]
  · rw [newV_eq, (hagree c).2.2.1, (hagree c).2.2.2.1, (hagree c).2.2.2.2]

end Cert.Proof.AdamPleGate

end
-- ==== Proof.AdamSmallOut.lean ====
/- What the small weights' kernel leaves in each of its results' buffers, as a function of the blocks it reads: the pieces its stores write, one piece for a
   whole buffer and six (one for each row of each layer) for the layer norms' weights. -/
module

public import proofs.«01_k».proof.Proof.Gen.AdamSmallIdeal.Launch
public import proofs.«01_k».proof.Proof.Gen.AdamSmallIdeal.Skeleton
public import proofs.«01_k».proof.Proof.Gen.AdamSmallIdeal.Points
public import Idealize.ShloMosaic.Lib.Pipeline.FrameBody
public import Idealize.ShloMosaic.Lib.Ring
public import Idealize.ShloMosaic.Lib.Tactic

@[expose] public section

set_option maxRecDepth 16384

noncomputable section

namespace Cert.Proof.AdamSmallBody

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The rectangles the body reads and writes. -/

abbrev rect0 : Rect S8x1x128 := Rect.unit (s := S8x1x128) ![0, 0, 0] S1x1x128.size inb_S8x1x128_S1x1x128_0_0_0
abbrev rect1 : Rect S8x1x128 := Rect.unit (s := S8x1x128) ![1, 0, 0] S1x1x128.size inb_S8x1x128_S1x1x128_1_0_0
abbrev rect2 : Rect S8x1x128 := Rect.unit (s := S8x1x128) ![2, 0, 0] S1x1x128.size inb_S8x1x128_S1x1x128_2_0_0
abbrev rect3 : Rect S8x1x128 := Rect.unit (s := S8x1x128) ![3, 0, 0] S1x1x128.size inb_S8x1x128_S1x1x128_3_0_0
abbrev rect4 : Rect S8x1x128 := Rect.unit (s := S8x1x128) ![4, 0, 0] S1x1x128.size inb_S8x1x128_S1x1x128_4_0_0
abbrev rect5 : Rect S8x1x128 := Rect.unit (s := S8x1x128) ![5, 0, 0] S1x1x128.size inb_S8x1x128_S1x1x128_5_0_0
abbrev rect6 : Rect S8x1x128 := Rect.unit (s := S8x1x128) ![6, 0, 0] S1x1x128.size inb_S8x1x128_S1x1x128_6_0_0
abbrev rect7 : Rect S8x1x128 := Rect.unit (s := S8x1x128) ![7, 0, 0] S1x1x128.size inb_S8x1x128_S1x1x128_7_0_0
abbrev rect8 : Rect S1x128 := Rect.unit (s := S1x128) ![0, 0] S1x128.size inb_S1x128_S1x128_0_0
abbrev rect9 : Rect S8x2x1024 := Rect.unit (s := S8x2x1024) ![0, 0, 0] S1x2x128.size inb_S8x2x1024_S1x2x128_0_0_0
abbrev rect10 : Rect S8x2x1024 := Rect.unit (s := S8x2x1024) ![1, 0, 0] S1x2x128.size inb_S8x2x1024_S1x2x128_1_0_0
abbrev rect11 : Rect S8x2x1024 := Rect.unit (s := S8x2x1024) ![2, 0, 0] S1x2x128.size inb_S8x2x1024_S1x2x128_2_0_0
abbrev rect12 : Rect S8x2x1024 := Rect.unit (s := S8x2x1024) ![3, 0, 0] S1x2x128.size inb_S8x2x1024_S1x2x128_3_0_0
abbrev rect13 : Rect S8x2x1024 := Rect.unit (s := S8x2x1024) ![4, 0, 0] S1x2x128.size inb_S8x2x1024_S1x2x128_4_0_0
abbrev rect14 : Rect S8x2x1024 := Rect.unit (s := S8x2x1024) ![5, 0, 0] S1x2x128.size inb_S8x2x1024_S1x2x128_5_0_0
abbrev rect15 : Rect S8x2x1024 := Rect.unit (s := S8x2x1024) ![6, 0, 0] S1x2x128.size inb_S8x2x1024_S1x2x128_6_0_0
abbrev rect16 : Rect S8x2x1024 := Rect.unit (s := S8x2x1024) ![7, 0, 0] S1x2x128.size inb_S8x2x1024_S1x2x128_7_0_0
abbrev rect17 : Rect S2x128 := Rect.unit (s := S2x128) ![0, 0] S2x128.size inb_S2x128_S2x128_0_0
abbrev rect18 : Rect S8x6x1024 := Rect.unit (s := S8x6x1024) ![0, 0, 0] S1x1x128.size inb_S8x6x1024_S1x1x128_0_0_0
abbrev rect19 : Rect S8x6x1024 := Rect.unit (s := S8x6x1024) ![1, 0, 0] S1x1x128.size inb_S8x6x1024_S1x1x128_1_0_0
abbrev rect20 : Rect S8x6x1024 := Rect.unit (s := S8x6x1024) ![2, 0, 0] S1x1x128.size inb_S8x6x1024_S1x1x128_2_0_0
abbrev rect21 : Rect S8x6x1024 := Rect.unit (s := S8x6x1024) ![3, 0, 0] S1x1x128.size inb_S8x6x1024_S1x1x128_3_0_0
abbrev rect22 : Rect S8x6x1024 := Rect.unit (s := S8x6x1024) ![4, 0, 0] S1x1x128.size inb_S8x6x1024_S1x1x128_4_0_0
abbrev rect23 : Rect S8x6x1024 := Rect.unit (s := S8x6x1024) ![5, 0, 0] S1x1x128.size inb_S8x6x1024_S1x1x128_5_0_0
abbrev rect24 : Rect S8x6x1024 := Rect.unit (s := S8x6x1024) ![6, 0, 0] S1x1x128.size inb_S8x6x1024_S1x1x128_6_0_0
abbrev rect25 : Rect S8x6x1024 := Rect.unit (s := S8x6x1024) ![7, 0, 0] S1x1x128.size inb_S8x6x1024_S1x1x128_7_0_0
abbrev rect26 : Rect S3x2x128 := Rect.unit (s := S3x2x128) ![0, 0, 0] S1x1x128.size inb_S3x2x128_S1x1x128_0_0_0
abbrev rect27 : Rect S8x6x1024 := Rect.unit (s := S8x6x1024) ![0, 3, 0] S1x1x128.size inb_S8x6x1024_S1x1x128_0_3_0
abbrev rect28 : Rect S8x6x1024 := Rect.unit (s := S8x6x1024) ![1, 3, 0] S1x1x128.size inb_S8x6x1024_S1x1x128_1_3_0
abbrev rect29 : Rect S8x6x1024 := Rect.unit (s := S8x6x1024) ![2, 3, 0] S1x1x128.size inb_S8x6x1024_S1x1x128_2_3_0
abbrev rect30 : Rect S8x6x1024 := Rect.unit (s := S8x6x1024) ![3, 3, 0] S1x1x128.size inb_S8x6x1024_S1x1x128_3_3_0
abbrev rect31 : Rect S8x6x1024 := Rect.unit (s := S8x6x1024) ![4, 3, 0] S1x1x128.size inb_S8x6x1024_S1x1x128_4_3_0
abbrev rect32 : Rect S8x6x1024 := Rect.unit (s := S8x6x1024) ![5, 3, 0] S1x1x128.size inb_S8x6x1024_S1x1x128_5_3_0
abbrev rect33 : Rect S8x6x1024 := Rect.unit (s := S8x6x1024) ![6, 3, 0] S1x1x128.size inb_S8x6x1024_S1x1x128_6_3_0
abbrev rect34 : Rect S8x6x1024 := Rect.unit (s := S8x6x1024) ![7, 3, 0] S1x1x128.size inb_S8x6x1024_S1x1x128_7_3_0
abbrev rect35 : Rect S3x2x128 := Rect.unit (s := S3x2x128) ![0, 1, 0] S1x1x128.size inb_S3x2x128_S1x1x128_0_1_0
abbrev rect36 : Rect S8x6x1024 := Rect.unit (s := S8x6x1024) ![0, 1, 0] S1x1x128.size inb_S8x6x1024_S1x1x128_0_1_0
abbrev rect37 : Rect S8x6x1024 := Rect.unit (s := S8x6x1024) ![1, 1, 0] S1x1x128.size inb_S8x6x1024_S1x1x128_1_1_0
abbrev rect38 : Rect S8x6x1024 := Rect.unit (s := S8x6x1024) ![2, 1, 0] S1x1x128.size inb_S8x6x1024_S1x1x128_2_1_0
abbrev rect39 : Rect S8x6x1024 := Rect.unit (s := S8x6x1024) ![3, 1, 0] S1x1x128.size inb_S8x6x1024_S1x1x128_3_1_0
abbrev rect40 : Rect S8x6x1024 := Rect.unit (s := S8x6x1024) ![4, 1, 0] S1x1x128.size inb_S8x6x1024_S1x1x128_4_1_0
abbrev rect41 : Rect S8x6x1024 := Rect.unit (s := S8x6x1024) ![5, 1, 0] S1x1x128.size inb_S8x6x1024_S1x1x128_5_1_0
abbrev rect42 : Rect S8x6x1024 := Rect.unit (s := S8x6x1024) ![6, 1, 0] S1x1x128.size inb_S8x6x1024_S1x1x128_6_1_0
abbrev rect43 : Rect S8x6x1024 := Rect.unit (s := S8x6x1024) ![7, 1, 0] S1x1x128.size inb_S8x6x1024_S1x1x128_7_1_0
abbrev rect44 : Rect S3x2x128 := Rect.unit (s := S3x2x128) ![1, 0, 0] S1x1x128.size inb_S3x2x128_S1x1x128_1_0_0
abbrev rect45 : Rect S8x6x1024 := Rect.unit (s := S8x6x1024) ![0, 4, 0] S1x1x128.size inb_S8x6x1024_S1x1x128_0_4_0
abbrev rect46 : Rect S8x6x1024 := Rect.unit (s := S8x6x1024) ![1, 4, 0] S1x1x128.size inb_S8x6x1024_S1x1x128_1_4_0
abbrev rect47 : Rect S8x6x1024 := Rect.unit (s := S8x6x1024) ![2, 4, 0] S1x1x128.size inb_S8x6x1024_S1x1x128_2_4_0
abbrev rect48 : Rect S8x6x1024 := Rect.unit (s := S8x6x1024) ![3, 4, 0] S1x1x128.size inb_S8x6x1024_S1x1x128_3_4_0
abbrev rect49 : Rect S8x6x1024 := Rect.unit (s := S8x6x1024) ![4, 4, 0] S1x1x128.size inb_S8x6x1024_S1x1x128_4_4_0
abbrev rect50 : Rect S8x6x1024 := Rect.unit (s := S8x6x1024) ![5, 4, 0] S1x1x128.size inb_S8x6x1024_S1x1x128_5_4_0
abbrev rect51 : Rect S8x6x1024 := Rect.unit (s := S8x6x1024) ![6, 4, 0] S1x1x128.size inb_S8x6x1024_S1x1x128_6_4_0
abbrev rect52 : Rect S8x6x1024 := Rect.unit (s := S8x6x1024) ![7, 4, 0] S1x1x128.size inb_S8x6x1024_S1x1x128_7_4_0
abbrev rect53 : Rect S3x2x128 := Rect.unit (s := S3x2x128) ![1, 1, 0] S1x1x128.size inb_S3x2x128_S1x1x128_1_1_0
abbrev rect54 : Rect S8x6x1024 := Rect.unit (s := S8x6x1024) ![0, 2, 0] S1x1x128.size inb_S8x6x1024_S1x1x128_0_2_0
abbrev rect55 : Rect S8x6x1024 := Rect.unit (s := S8x6x1024) ![1, 2, 0] S1x1x128.size inb_S8x6x1024_S1x1x128_1_2_0
abbrev rect56 : Rect S8x6x1024 := Rect.unit (s := S8x6x1024) ![2, 2, 0] S1x1x128.size inb_S8x6x1024_S1x1x128_2_2_0
abbrev rect57 : Rect S8x6x1024 := Rect.unit (s := S8x6x1024) ![3, 2, 0] S1x1x128.size inb_S8x6x1024_S1x1x128_3_2_0
abbrev rect58 : Rect S8x6x1024 := Rect.unit (s := S8x6x1024) ![4, 2, 0] S1x1x128.size inb_S8x6x1024_S1x1x128_4_2_0
abbrev rect59 : Rect S8x6x1024 := Rect.unit (s := S8x6x1024) ![5, 2, 0] S1x1x128.size inb_S8x6x1024_S1x1x128_5_2_0
abbrev rect60 : Rect S8x6x1024 := Rect.unit (s := S8x6x1024) ![6, 2, 0] S1x1x128.size inb_S8x6x1024_S1x1x128_6_2_0
abbrev rect61 : Rect S8x6x1024 := Rect.unit (s := S8x6x1024) ![7, 2, 0] S1x1x128.size inb_S8x6x1024_S1x1x128_7_2_0
abbrev rect62 : Rect S3x2x128 := Rect.unit (s := S3x2x128) ![2, 0, 0] S1x1x128.size inb_S3x2x128_S1x1x128_2_0_0
abbrev rect63 : Rect S8x6x1024 := Rect.unit (s := S8x6x1024) ![0, 5, 0] S1x1x128.size inb_S8x6x1024_S1x1x128_0_5_0
abbrev rect64 : Rect S8x6x1024 := Rect.unit (s := S8x6x1024) ![1, 5, 0] S1x1x128.size inb_S8x6x1024_S1x1x128_1_5_0
abbrev rect65 : Rect S8x6x1024 := Rect.unit (s := S8x6x1024) ![2, 5, 0] S1x1x128.size inb_S8x6x1024_S1x1x128_2_5_0
abbrev rect66 : Rect S8x6x1024 := Rect.unit (s := S8x6x1024) ![3, 5, 0] S1x1x128.size inb_S8x6x1024_S1x1x128_3_5_0
abbrev rect67 : Rect S8x6x1024 := Rect.unit (s := S8x6x1024) ![4, 5, 0] S1x1x128.size inb_S8x6x1024_S1x1x128_4_5_0
abbrev rect68 : Rect S8x6x1024 := Rect.unit (s := S8x6x1024) ![5, 5, 0] S1x1x128.size inb_S8x6x1024_S1x1x128_5_5_0
abbrev rect69 : Rect S8x6x1024 := Rect.unit (s := S8x6x1024) ![6, 5, 0] S1x1x128.size inb_S8x6x1024_S1x1x128_6_5_0
abbrev rect70 : Rect S8x6x1024 := Rect.unit (s := S8x6x1024) ![7, 5, 0] S1x1x128.size inb_S8x6x1024_S1x1x128_7_5_0
abbrev rect71 : Rect S3x2x128 := Rect.unit (s := S3x2x128) ![2, 1, 0] S1x1x128.size inb_S3x2x128_S1x1x128_2_1_0
abbrev rect72 : Rect S8x1x512 := Rect.unit (s := S8x1x512) ![0, 0, 0] S1x1x512.size inb_S8x1x512_S1x1x512_0_0_0
abbrev rect73 : Rect S8x1x512 := Rect.unit (s := S8x1x512) ![1, 0, 0] S1x1x512.size inb_S8x1x512_S1x1x512_1_0_0
abbrev rect74 : Rect S8x1x512 := Rect.unit (s := S8x1x512) ![2, 0, 0] S1x1x512.size inb_S8x1x512_S1x1x512_2_0_0
abbrev rect75 : Rect S8x1x512 := Rect.unit (s := S8x1x512) ![3, 0, 0] S1x1x512.size inb_S8x1x512_S1x1x512_3_0_0
abbrev rect76 : Rect S8x1x512 := Rect.unit (s := S8x1x512) ![4, 0, 0] S1x1x512.size inb_S8x1x512_S1x1x512_4_0_0
abbrev rect77 : Rect S8x1x512 := Rect.unit (s := S8x1x512) ![5, 0, 0] S1x1x512.size inb_S8x1x512_S1x1x512_5_0_0
abbrev rect78 : Rect S8x1x512 := Rect.unit (s := S8x1x512) ![6, 0, 0] S1x1x512.size inb_S8x1x512_S1x1x512_6_0_0
abbrev rect79 : Rect S8x1x512 := Rect.unit (s := S8x1x512) ![7, 0, 0] S1x1x512.size inb_S8x1x512_S1x1x512_7_0_0
abbrev rect80 : Rect S1x512 := Rect.unit (s := S1x512) ![0, 0] S1x512.size inb_S1x512_S1x512_0_0
abbrev rect81 : Rect S8x1x1024 := Rect.unit (s := S8x1x1024) ![0, 0, 0] S1x1x1024.size inb_S8x1x1024_S1x1x1024_0_0_0
abbrev rect82 : Rect S8x1x1024 := Rect.unit (s := S8x1x1024) ![1, 0, 0] S1x1x1024.size inb_S8x1x1024_S1x1x1024_1_0_0
abbrev rect83 : Rect S8x1x1024 := Rect.unit (s := S8x1x1024) ![2, 0, 0] S1x1x1024.size inb_S8x1x1024_S1x1x1024_2_0_0
abbrev rect84 : Rect S8x1x1024 := Rect.unit (s := S8x1x1024) ![3, 0, 0] S1x1x1024.size inb_S8x1x1024_S1x1x1024_3_0_0
abbrev rect85 : Rect S8x1x1024 := Rect.unit (s := S8x1x1024) ![4, 0, 0] S1x1x1024.size inb_S8x1x1024_S1x1x1024_4_0_0
abbrev rect86 : Rect S8x1x1024 := Rect.unit (s := S8x1x1024) ![5, 0, 0] S1x1x1024.size inb_S8x1x1024_S1x1x1024_5_0_0
abbrev rect87 : Rect S8x1x1024 := Rect.unit (s := S8x1x1024) ![6, 0, 0] S1x1x1024.size inb_S8x1x1024_S1x1x1024_6_0_0
abbrev rect88 : Rect S8x1x1024 := Rect.unit (s := S8x1x1024) ![7, 0, 0] S1x1x1024.size inb_S8x1x1024_S1x1x1024_7_0_0
abbrev rect89 : Rect S1x1024 := Rect.unit (s := S1x1024) ![0, 0] S1x1024.size inb_S1x1024_S1x1024_0_0
abbrev rect90 : Rect S8x1x128 := Rect.unit (s := S8x1x128) ![0, 0, 0] S1x1x16.size inb_S8x1x128_S1x1x16_0_0_0
abbrev rect91 : Rect S8x1x128 := Rect.unit (s := S8x1x128) ![1, 0, 0] S1x1x16.size inb_S8x1x128_S1x1x16_1_0_0
abbrev rect92 : Rect S8x1x128 := Rect.unit (s := S8x1x128) ![2, 0, 0] S1x1x16.size inb_S8x1x128_S1x1x16_2_0_0
abbrev rect93 : Rect S8x1x128 := Rect.unit (s := S8x1x128) ![3, 0, 0] S1x1x16.size inb_S8x1x128_S1x1x16_3_0_0
abbrev rect94 : Rect S8x1x128 := Rect.unit (s := S8x1x128) ![4, 0, 0] S1x1x16.size inb_S8x1x128_S1x1x16_4_0_0
abbrev rect95 : Rect S8x1x128 := Rect.unit (s := S8x1x128) ![5, 0, 0] S1x1x16.size inb_S8x1x128_S1x1x16_5_0_0
abbrev rect96 : Rect S8x1x128 := Rect.unit (s := S8x1x128) ![6, 0, 0] S1x1x16.size inb_S8x1x128_S1x1x16_6_0_0
abbrev rect97 : Rect S8x1x128 := Rect.unit (s := S8x1x128) ![7, 0, 0] S1x1x16.size inb_S8x1x128_S1x1x16_7_0_0
abbrev rect98 : Rect S1x16 := Rect.unit (s := S1x16) ![0, 0] S1x16.size inb_S1x16_S1x16_0_0
abbrev rect99 : Rect S8x2x1024 := Rect.unit (s := S8x2x1024) ![0, 0, 0] S1x2x1024.size inb_S8x2x1024_S1x2x1024_0_0_0
abbrev rect100 : Rect S8x2x1024 := Rect.unit (s := S8x2x1024) ![1, 0, 0] S1x2x1024.size inb_S8x2x1024_S1x2x1024_1_0_0
abbrev rect101 : Rect S8x2x1024 := Rect.unit (s := S8x2x1024) ![2, 0, 0] S1x2x1024.size inb_S8x2x1024_S1x2x1024_2_0_0
abbrev rect102 : Rect S8x2x1024 := Rect.unit (s := S8x2x1024) ![3, 0, 0] S1x2x1024.size inb_S8x2x1024_S1x2x1024_3_0_0
abbrev rect103 : Rect S8x2x1024 := Rect.unit (s := S8x2x1024) ![4, 0, 0] S1x2x1024.size inb_S8x2x1024_S1x2x1024_4_0_0
abbrev rect104 : Rect S8x2x1024 := Rect.unit (s := S8x2x1024) ![5, 0, 0] S1x2x1024.size inb_S8x2x1024_S1x2x1024_5_0_0
abbrev rect105 : Rect S8x2x1024 := Rect.unit (s := S8x2x1024) ![6, 0, 0] S1x2x1024.size inb_S8x2x1024_S1x2x1024_6_0_0
abbrev rect106 : Rect S8x2x1024 := Rect.unit (s := S8x2x1024) ![7, 0, 0] S1x2x1024.size inb_S8x2x1024_S1x2x1024_7_0_0
abbrev rect107 : Rect S2x1024 := Rect.unit (s := S2x1024) ![0, 0] S2x1024.size inb_S2x1024_S2x1024_0_0

/-! The values the body uses more than once. -/

def val151 (x0 : Vec F S8x2x1024 .f32) : FVec F S2x128 .f32 :=
  k0_pay3 (View.ld x0 rect9)
def val152 (x0 : Vec F S8x2x1024 .f32) : FVec F S2x128 .f32 :=
  k0_pay4 (val151 x0) (View.ld x0 rect10) (View.ld x0 rect11) (View.ld x0 rect12) (View.ld x0 rect13) (View.ld x0 rect14) (View.ld x0 rect15) (View.ld x0 rect16)
def val153 (x0 : Vec F S8x2x1024 .f32) (x18 : Vec F S2x128 .f32) : FVec F S2x128 .f32 :=
  k0_pay5 (val151 x0) (View.ld x0 rect10) (View.ld x0 rect11) (View.ld x0 rect12) (View.ld x0 rect13) (View.ld x0 rect14) (View.ld x0 rect15) (View.ld x0 rect16) (View.ld x18 rect17)
def val154 (x1 : Vec F S8x6x1024 .f32) : FVec F S1x128 .f32 :=
  k0_pay8 (View.ld x1 rect18) (View.ld x1 rect19) (View.ld x1 rect20)
def val155 (x1 : Vec F S8x6x1024 .f32) (x19 : Vec F S3x2x128 .f32) : FVec F S1x128 .f32 :=
  k0_pay12 (val154 x1) (View.ld x1 rect21) (View.ld x1 rect22) (View.ld x1 rect23) (View.ld x1 rect24) (View.ld x1 rect25) (View.ld x19 rect26)
def val156 (x28 : Vec F S3x2x128 .f32) : FVec F S1x128 .f32 :=
  k0_pay13 (View.ld x28 rect26)
def val157 (x1 : Vec F S8x6x1024 .f32) : FVec F S1x128 .f32 :=
  k0_pay14 (val154 x1) (View.ld x1 rect21) (View.ld x1 rect22) (View.ld x1 rect23) (View.ld x1 rect24) (View.ld x1 rect25)
def val158 (x1 : Vec F S8x6x1024 .f32) : FVec F S1x128 .f32 :=
  k0_pay19 (View.ld x1 rect27) (View.ld x1 rect28) (View.ld x1 rect29)
def val159 (x1 : Vec F S8x6x1024 .f32) : FVec F S1x128 .f32 :=
  k0_pay20 (val158 x1) (View.ld x1 rect30) (View.ld x1 rect31) (View.ld x1 rect32) (View.ld x1 rect33) (View.ld x1 rect34)
def val160 (x28 : Vec F S3x2x128 .f32) : FVec F S1x128 .f32 :=
  k0_pay23 (View.ld x28 rect35)
def val161 (x1 : Vec F S8x6x1024 .f32) (x19 : Vec F S3x2x128 .f32) : FVec F S1x128 .f32 :=
  k0_pay24 (val158 x1) (View.ld x1 rect30) (View.ld x1 rect31) (View.ld x1 rect32) (View.ld x1 rect33) (View.ld x1 rect34) (View.ld x19 rect35)
def val162 (x1 : Vec F S8x6x1024 .f32) : FVec F S1x128 .f32 :=
  k0_pay29 (View.ld x1 rect36) (View.ld x1 rect37)
def val163 (x1 : Vec F S8x6x1024 .f32) : FVec F S1x128 .f32 :=
  k0_pay30 (val162 x1) (View.ld x1 rect38) (View.ld x1 rect39) (View.ld x1 rect40) (View.ld x1 rect41) (View.ld x1 rect42) (View.ld x1 rect43)
def val164 (x28 : Vec F S3x2x128 .f32) : FVec F S1x128 .f32 :=
  k0_pay33 (View.ld x28 rect44)
def val165 (x19 : Vec F S3x2x128 .f32) : FVec F S1x128 .f32 :=
  k0_pay34 (View.ld x19 rect44)
def val166 : FVec F S1x128 .f32 :=
  k0_pay35 (F := F)
def val167 (x1 : Vec F S8x6x1024 .f32) : FVec F S1x128 .f32 :=
  k0_pay41 (View.ld x1 rect45) (View.ld x1 rect46)
def val168 (x1 : Vec F S8x6x1024 .f32) : FVec F S1x128 .f32 :=
  k0_pay42 (val167 x1) (View.ld x1 rect47) (View.ld x1 rect48) (View.ld x1 rect49) (View.ld x1 rect50) (View.ld x1 rect51) (View.ld x1 rect52)
def val169 (x19 : Vec F S3x2x128 .f32) : FVec F S1x128 .f32 :=
  k0_pay45 (View.ld x19 rect53)
def val170 (x28 : Vec F S3x2x128 .f32) : FVec F S1x128 .f32 :=
  k0_pay46 (View.ld x28 rect53)
def val171 : FVec F S1x128 .f32 :=
  k0_pay47 (F := F)
def val172 (x1 : Vec F S8x6x1024 .f32) : FVec F S1x128 .f32 :=
  k0_pay53 (View.ld x1 rect54)
def val173 (x1 : Vec F S8x6x1024 .f32) : FVec F S1x128 .f32 :=
  k0_pay54 (val172 x1) (View.ld x1 rect55) (View.ld x1 rect56) (View.ld x1 rect57) (View.ld x1 rect58) (View.ld x1 rect59) (View.ld x1 rect60) (View.ld x1 rect61)
def val174 (x19 : Vec F S3x2x128 .f32) : FVec F S1x128 .f32 :=
  k0_pay57 (View.ld x19 rect62)
def val175 (x1 : Vec F S8x6x1024 .f32) : FVec F S1x128 .f32 :=
  k0_pay63 (View.ld x1 rect63)
def val176 (x1 : Vec F S8x6x1024 .f32) : FVec F S1x128 .f32 :=
  k0_pay64 (val175 x1) (View.ld x1 rect64) (View.ld x1 rect65) (View.ld x1 rect66) (View.ld x1 rect67) (View.ld x1 rect68) (View.ld x1 rect69) (View.ld x1 rect70)
def val177 (x19 : Vec F S3x2x128 .f32) : FVec F S1x128 .f32 :=
  k0_pay67 (View.ld x19 rect71)
def val178 (x2 : Vec F S8x6x1024 .f32) : FVec F S1x128 .f32 :=
  k0_pay73 (View.ld x2 rect18) (View.ld x2 rect19) (View.ld x2 rect20) (View.ld x2 rect21) (View.ld x2 rect22) (View.ld x2 rect23) (View.ld x2 rect24) (View.ld x2 rect25)
def val179 (x2 : Vec F S8x6x1024 .f32) : FVec F S1x128 .f32 :=
  k0_pay81 (View.ld x2 rect27) (View.ld x2 rect28) (View.ld x2 rect29) (View.ld x2 rect30) (View.ld x2 rect31) (View.ld x2 rect32) (View.ld x2 rect33) (View.ld x2 rect34)
def val180 (x2 : Vec F S8x6x1024 .f32) : FVec F S1x128 .f32 :=
  k0_pay88 (View.ld x2 rect36) (View.ld x2 rect37) (View.ld x2 rect38) (View.ld x2 rect39) (View.ld x2 rect40) (View.ld x2 rect41) (View.ld x2 rect42) (View.ld x2 rect43)
def val181 (x2 : Vec F S8x6x1024 .f32) : FVec F S1x128 .f32 :=
  k0_pay95 (View.ld x2 rect45) (View.ld x2 rect46) (View.ld x2 rect47) (View.ld x2 rect48) (View.ld x2 rect49) (View.ld x2 rect50) (View.ld x2 rect51) (View.ld x2 rect52)
def val182 (x2 : Vec F S8x6x1024 .f32) : FVec F S1x128 .f32 :=
  k0_pay102 (View.ld x2 rect54) (View.ld x2 rect55) (View.ld x2 rect56) (View.ld x2 rect57) (View.ld x2 rect58) (View.ld x2 rect59) (View.ld x2 rect60) (View.ld x2 rect61)
def val183 (x2 : Vec F S8x6x1024 .f32) : FVec F S1x128 .f32 :=
  k0_pay109 (View.ld x2 rect63) (View.ld x2 rect64) (View.ld x2 rect65) (View.ld x2 rect66) (View.ld x2 rect67) (View.ld x2 rect68) (View.ld x2 rect69)
def val184 (x3 : Vec F S8x1x128 .f32) : FVec F S1x128 .f32 :=
  k0_pay118 (View.ld x3 rect0) (View.ld x3 rect1) (View.ld x3 rect2) (View.ld x3 rect3) (View.ld x3 rect4) (View.ld x3 rect5) (View.ld x3 rect6)
def val185 (x4 : Vec F S8x1x512 .f32) : FVec F S1x512 .f32 :=
  k0_pay123 (View.ld x4 rect72) (View.ld x4 rect73) (View.ld x4 rect74) (View.ld x4 rect75) (View.ld x4 rect76) (View.ld x4 rect77) (View.ld x4 rect78) (View.ld x4 rect79)
def val186 (x5 : Vec F S8x1x1024 .f32) : FVec F S1x1024 .f32 :=
  k0_pay128 (View.ld x5 rect81)
def val187 (x5 : Vec F S8x1x1024 .f32) : FVec F S1x1024 .f32 :=
  k0_pay129 (val186 x5) (View.ld x5 rect82) (View.ld x5 rect83) (View.ld x5 rect84) (View.ld x5 rect85) (View.ld x5 rect86) (View.ld x5 rect87) (View.ld x5 rect88)
def val188 (x5 : Vec F S8x1x1024 .f32) (x23 : Vec F S1x1024 .f32) : FVec F S1x1024 .f32 :=
  k0_pay130 (val186 x5) (View.ld x5 rect82) (View.ld x5 rect83) (View.ld x5 rect84) (View.ld x5 rect85) (View.ld x5 rect86) (View.ld x5 rect87) (View.ld x5 rect88) (View.ld x23 rect89)
def val189 : FVec F S1x1024 .f32 :=
  k0_pay131 (F := F)
def val190 (x6 : Vec F S8x1x128 .f32) : FVec F S1x16 .f32 :=
  k0_pay134 (View.ld x6 rect90) (View.ld x6 rect91) (View.ld x6 rect92) (View.ld x6 rect93)
def val191 (x7 : Vec F S8x1x1024 .f32) : FVec F S1x1024 .f32 :=
  k0_pay142 (View.ld x7 rect81) (View.ld x7 rect82) (View.ld x7 rect83) (View.ld x7 rect84) (View.ld x7 rect85) (View.ld x7 rect86)
def val192 (x8 : Vec F S8x2x1024 .f32) : FVec F S2x1024 .f32 :=
  k0_pay147 (View.ld x8 rect99) (View.ld x8 rect100) (View.ld x8 rect101) (View.ld x8 rect102) (View.ld x8 rect103) (View.ld x8 rect104) (View.ld x8 rect105) (View.ld x8 rect106)
def val193 (x8 : Vec F S8x2x1024 .f32) (x26 : Vec F S2x1024 .f32) : FVec F S2x1024 .f32 :=
  k0_pay148 (val192 x8) (View.ld x26 rect107)
def val194 (x8 : Vec F S8x2x1024 .f32) (x35 : Vec F S2x1024 .f32) : FVec F S2x1024 .f32 :=
  k0_pay149 (val192 x8) (View.ld x35 rect107)

/-! What is left in each result's buffer. -/

def left37 (x0 : Vec F S8x2x1024 .f32) : Vec F S2x128 .f32 :=
  View.canon [⟨rect17, k0_pay4 (val151 x0) (View.ld x0 rect10) (View.ld x0 rect11) (View.ld x0 rect12) (View.ld x0 rect13) (View.ld x0 rect14) (View.ld x0 rect15) (View.ld x0 rect16)⟩]

def left38 (x0 : Vec F S8x2x1024 .f32) (x9 : Vec F S2x128 .f32) (x18 : Vec F S2x128 .f32) (x27 : Vec F S2x128 .f32) : Vec F S2x128 .f32 :=
  View.canon [⟨rect17, k0_pay7 (val152 x0) (View.ld x9 rect17) (View.ld x27 rect17) (val153 x0 x18)⟩]

def left39 (x0 : Vec F S8x2x1024 .f32) (x18 : Vec F S2x128 .f32) : Vec F S2x128 .f32 :=
  View.canon [⟨rect17, val153 x0 x18⟩]

def left40 (x0 : Vec F S8x2x1024 .f32) (x27 : Vec F S2x128 .f32) : Vec F S2x128 .f32 :=
  View.canon [⟨rect17, k0_pay6 (val152 x0) (View.ld x27 rect17)⟩]

def left41 (x1 : Vec F S8x6x1024 .f32) : Vec F S3x2x128 .f32 :=
  View.canon [⟨rect71, k0_pay65 (val175 x1) (View.ld x1 rect64) (View.ld x1 rect65) (View.ld x1 rect66) (View.ld x1 rect67) (View.ld x1 rect68) (View.ld x1 rect69) (View.ld x1 rect70)⟩,
    ⟨rect62, k0_pay55 (val172 x1) (View.ld x1 rect55) (View.ld x1 rect56) (View.ld x1 rect57) (View.ld x1 rect58) (View.ld x1 rect59) (View.ld x1 rect60) (View.ld x1 rect61)⟩,
    ⟨rect53, k0_pay43 (val167 x1) (View.ld x1 rect47) (View.ld x1 rect48) (View.ld x1 rect49) (View.ld x1 rect50) (View.ld x1 rect51) (View.ld x1 rect52)⟩,
    ⟨rect44, k0_pay31 (val162 x1) (View.ld x1 rect38) (View.ld x1 rect39) (View.ld x1 rect40) (View.ld x1 rect41) (View.ld x1 rect42) (View.ld x1 rect43)⟩,
    ⟨rect35, k0_pay21 (val158 x1) (View.ld x1 rect30) (View.ld x1 rect31) (View.ld x1 rect32) (View.ld x1 rect33) (View.ld x1 rect34)⟩,
    ⟨rect26, k0_pay10 (val154 x1) (View.ld x1 rect21) (View.ld x1 rect22) (View.ld x1 rect23) (View.ld x1 rect24) (View.ld x1 rect25)⟩]

def left42 (x1 : Vec F S8x6x1024 .f32) (x10 : Vec F S3x2x128 .f32) (x19 : Vec F S3x2x128 .f32) (x28 : Vec F S3x2x128 .f32) : Vec F S3x2x128 .f32 :=
  View.canon [⟨rect71, k0_pay70 (val176 x1) (k0_pay66 (View.ld x10 rect71)) (val177 x19) (View.ld x28 rect71)⟩,
    ⟨rect62, k0_pay60 (val173 x1) (k0_pay56 (View.ld x10 rect62)) (val174 x19) (View.ld x28 rect62)⟩,
    ⟨rect53, k0_pay50 (val168 x1) (k0_pay44 (View.ld x10 rect53)) (val169 x19) (val170 x28) (val171 (F := F))⟩,
    ⟨rect44, k0_pay38 (val163 x1) (k0_pay32 (View.ld x10 rect44)) (val164 x28) (val165 x19) (val166 (F := F))⟩,
    ⟨rect35, k0_pay26 (val159 x1) (k0_pay22 (View.ld x10 rect35)) (val160 x28) (val161 x1 x19) (Scalar.ofBits .f32 0x3F7FBE77#32)⟩,
    ⟨rect26, k0_pay16 (k0_pay11 (View.ld x10 rect26)) (val155 x1 x19) (val156 x28) (val157 x1)⟩]

def left43 (x1 : Vec F S8x6x1024 .f32) (x19 : Vec F S3x2x128 .f32) : Vec F S3x2x128 .f32 :=
  View.canon [⟨rect71, k0_pay71 (val176 x1) (val177 x19)⟩,
    ⟨rect62, k0_pay61 (val173 x1) (val174 x19)⟩,
    ⟨rect53, k0_pay51 (val168 x1) (val169 x19) (val171 (F := F))⟩,
    ⟨rect44, k0_pay39 (val163 x1) (val165 x19) (val166 (F := F))⟩,
    ⟨rect35, k0_pay27 (val161 x1 x19)⟩,
    ⟨rect26, k0_pay17 (val155 x1 x19)⟩]

def left44 (x1 : Vec F S8x6x1024 .f32) (x28 : Vec F S3x2x128 .f32) : Vec F S3x2x128 .f32 :=
  View.canon [⟨rect71, k0_pay72 (val176 x1) (View.ld x28 rect71)⟩,
    ⟨rect62, k0_pay62 (val173 x1) (View.ld x28 rect62)⟩,
    ⟨rect53, k0_pay52 (val168 x1) (val170 x28)⟩,
    ⟨rect44, k0_pay40 (val163 x1) (val164 x28)⟩,
    ⟨rect35, k0_pay28 (val159 x1) (val160 x28) (Scalar.ofBits .f32 0x3F7FBE77#32)⟩,
    ⟨rect26, k0_pay18 (val156 x28) (val157 x1)⟩]

def left45 (x2 : Vec F S8x6x1024 .f32) : Vec F S3x2x128 .f32 :=
  View.canon [⟨rect71, k0_pay111 (val183 x2) (View.ld x2 rect70)⟩,
    ⟨rect62, k0_pay103 (val182 x2)⟩,
    ⟨rect53, k0_pay96 (val181 x2)⟩,
    ⟨rect44, k0_pay89 (View.ld x2 rect36) (View.ld x2 rect37) (View.ld x2 rect38) (View.ld x2 rect39) (View.ld x2 rect40) (View.ld x2 rect41) (View.ld x2 rect42) (View.ld x2 rect43)⟩,
    ⟨rect35, k0_pay82 (View.ld x2 rect27) (View.ld x2 rect28) (View.ld x2 rect29) (View.ld x2 rect30) (View.ld x2 rect31) (View.ld x2 rect32) (View.ld x2 rect33) (View.ld x2 rect34)⟩,
    ⟨rect26, k0_pay74 (View.ld x2 rect18) (View.ld x2 rect19) (View.ld x2 rect20) (View.ld x2 rect21) (View.ld x2 rect22) (View.ld x2 rect23) (View.ld x2 rect24) (View.ld x2 rect25)⟩]

def left46 (x2 : Vec F S8x6x1024 .f32) (x11 : Vec F S3x2x128 .f32) (x20 : Vec F S3x2x128 .f32) (x29 : Vec F S3x2x128 .f32) : Vec F S3x2x128 .f32 :=
  View.canon [⟨rect71, k0_pay115 (k0_pay114 (val183 x2) (View.ld x2 rect70) (View.ld x11 rect71) (View.ld x20 rect71) (View.ld x29 rect71))⟩,
    ⟨rect62, k0_pay106 (val182 x2) (View.ld x11 rect62) (View.ld x20 rect62) (View.ld x29 rect62)⟩,
    ⟨rect53, k0_pay99 (val181 x2) (View.ld x11 rect53) (View.ld x20 rect53) (View.ld x29 rect53)⟩,
    ⟨rect44, k0_pay92 (val180 x2) (View.ld x11 rect44) (View.ld x20 rect44) (View.ld x29 rect44)⟩,
    ⟨rect35, k0_pay85 (val179 x2) (View.ld x11 rect35) (View.ld x20 rect35) (View.ld x29 rect35)⟩,
    ⟨rect26, k0_pay78 (val178 x2) (k0_pay75 (View.ld x11 rect26)) (View.ld x20 rect26) (View.ld x29 rect26)⟩]

def left47 (x2 : Vec F S8x6x1024 .f32) (x20 : Vec F S3x2x128 .f32) : Vec F S3x2x128 .f32 :=
  View.canon [⟨rect71, k0_pay116 (k0_pay112 (val183 x2) (View.ld x2 rect70) (View.ld x20 rect71))⟩,
    ⟨rect62, k0_pay107 (k0_pay104 (val182 x2) (View.ld x20 rect62))⟩,
    ⟨rect53, k0_pay100 (k0_pay97 (val181 x2) (View.ld x20 rect53))⟩,
    ⟨rect44, k0_pay93 (k0_pay90 (val180 x2) (View.ld x20 rect44))⟩,
    ⟨rect35, k0_pay86 (val179 x2) (View.ld x20 rect35)⟩,
    ⟨rect26, k0_pay79 (val178 x2) (View.ld x20 rect26)⟩]

def left48 (x2 : Vec F S8x6x1024 .f32) (x29 : Vec F S3x2x128 .f32) : Vec F S3x2x128 .f32 :=
  View.canon [⟨rect71, k0_pay117 (k0_pay113 (val183 x2) (View.ld x2 rect70) (View.ld x29 rect71))⟩,
    ⟨rect62, k0_pay108 (k0_pay105 (val182 x2) (View.ld x29 rect62))⟩,
    ⟨rect53, k0_pay101 (k0_pay98 (val181 x2) (View.ld x29 rect53))⟩,
    ⟨rect44, k0_pay94 (k0_pay91 (val180 x2) (View.ld x29 rect44))⟩,
    ⟨rect35, k0_pay87 (k0_pay84 (val179 x2) (View.ld x29 rect35))⟩,
    ⟨rect26, k0_pay80 (k0_pay77 (val178 x2) (View.ld x29 rect26))⟩]

def left49 (x3 : Vec F S8x1x128 .f32) : Vec F S1x128 .f32 :=
  View.canon [⟨rect8, k0_pay119 (val184 x3) (View.ld x3 rect7)⟩]

def left50 (x3 : Vec F S8x1x128 .f32) (x12 : Vec F S1x128 .f32) (x21 : Vec F S1x128 .f32) (x30 : Vec F S1x128 .f32) : Vec F S1x128 .f32 :=
  View.canon [⟨rect8, k0_pay122 (val184 x3) (View.ld x3 rect7) (View.ld x12 rect8) (View.ld x21 rect8) (View.ld x30 rect8)⟩]

def left51 (x3 : Vec F S8x1x128 .f32) (x21 : Vec F S1x128 .f32) : Vec F S1x128 .f32 :=
  View.canon [⟨rect8, k0_pay120 (val184 x3) (View.ld x3 rect7) (View.ld x21 rect8)⟩]

def left52 (x3 : Vec F S8x1x128 .f32) (x30 : Vec F S1x128 .f32) : Vec F S1x128 .f32 :=
  View.canon [⟨rect8, k0_pay121 (val184 x3) (View.ld x3 rect7) (View.ld x30 rect8)⟩]

def left53 (x4 : Vec F S8x1x512 .f32) : Vec F S1x512 .f32 :=
  View.canon [⟨rect80, k0_pay123 (View.ld x4 rect72) (View.ld x4 rect73) (View.ld x4 rect74) (View.ld x4 rect75) (View.ld x4 rect76) (View.ld x4 rect77) (View.ld x4 rect78) (View.ld x4 rect79)⟩]

def left54 (x4 : Vec F S8x1x512 .f32) (x13 : Vec F S1x512 .f32) (x22 : Vec F S1x512 .f32) (x31 : Vec F S1x512 .f32) : Vec F S1x512 .f32 :=
  View.canon [⟨rect80, k0_pay127 (val185 x4) (k0_pay124 (View.ld x13 rect80)) (View.ld x22 rect80) (View.ld x31 rect80)⟩]

def left55 (x4 : Vec F S8x1x512 .f32) (x22 : Vec F S1x512 .f32) : Vec F S1x512 .f32 :=
  View.canon [⟨rect80, k0_pay125 (val185 x4) (View.ld x22 rect80)⟩]

def left56 (x4 : Vec F S8x1x512 .f32) (x31 : Vec F S1x512 .f32) : Vec F S1x512 .f32 :=
  View.canon [⟨rect80, k0_pay126 (val185 x4) (View.ld x31 rect80)⟩]

def left57 (x5 : Vec F S8x1x1024 .f32) : Vec F S1x1024 .f32 :=
  View.canon [⟨rect89, k0_pay129 (val186 x5) (View.ld x5 rect82) (View.ld x5 rect83) (View.ld x5 rect84) (View.ld x5 rect85) (View.ld x5 rect86) (View.ld x5 rect87) (View.ld x5 rect88)⟩]

def left58 (x5 : Vec F S8x1x1024 .f32) (x14 : Vec F S1x1024 .f32) (x23 : Vec F S1x1024 .f32) (x32 : Vec F S1x1024 .f32) : Vec F S1x1024 .f32 :=
  View.canon [⟨rect89, k0_pay133 (val187 x5) (View.ld x14 rect89) (View.ld x32 rect89) (val188 x5 x23) (val189 (F := F))⟩]

def left59 (x5 : Vec F S8x1x1024 .f32) (x23 : Vec F S1x1024 .f32) : Vec F S1x1024 .f32 :=
  View.canon [⟨rect89, val188 x5 x23⟩]

def left60 (x5 : Vec F S8x1x1024 .f32) (x32 : Vec F S1x1024 .f32) : Vec F S1x1024 .f32 :=
  View.canon [⟨rect89, k0_pay132 (val187 x5) (View.ld x32 rect89) (val189 (F := F))⟩]

def left61 (x6 : Vec F S8x1x128 .f32) : Vec F S1x16 .f32 :=
  View.canon [⟨rect98, k0_pay135 (val190 x6) (View.ld x6 rect94) (View.ld x6 rect95) (View.ld x6 rect96) (View.ld x6 rect97)⟩]

def left62 (x6 : Vec F S8x1x128 .f32) (x15 : Vec F S1x16 .f32) (x24 : Vec F S1x16 .f32) (x33 : Vec F S1x16 .f32) : Vec F S1x16 .f32 :=
  View.canon [⟨rect98, k0_pay141 (View.ld x15 rect98) (k0_pay138 (val190 x6) (View.ld x6 rect94) (View.ld x6 rect95) (View.ld x6 rect96) (View.ld x6 rect97) (View.ld x24 rect98)) (k0_pay139 (val190 x6) (View.ld x6 rect94) (View.ld x6 rect95) (View.ld x6 rect96) (View.ld x6 rect97) (View.ld x33 rect98)) (k0_pay140 (F := F))⟩]

def left63 (x6 : Vec F S8x1x128 .f32) (x24 : Vec F S1x16 .f32) : Vec F S1x16 .f32 :=
  View.canon [⟨rect98, k0_pay136 (val190 x6) (View.ld x6 rect94) (View.ld x6 rect95) (View.ld x6 rect96) (View.ld x6 rect97) (View.ld x24 rect98)⟩]

def left64 (x6 : Vec F S8x1x128 .f32) (x33 : Vec F S1x16 .f32) : Vec F S1x16 .f32 :=
  View.canon [⟨rect98, k0_pay137 (val190 x6) (View.ld x6 rect94) (View.ld x6 rect95) (View.ld x6 rect96) (View.ld x6 rect97) (View.ld x33 rect98)⟩]

def left65 (x7 : Vec F S8x1x1024 .f32) : Vec F S1x1024 .f32 :=
  View.canon [⟨rect89, k0_pay143 (val191 x7) (View.ld x7 rect87) (View.ld x7 rect88)⟩]

def left66 (x7 : Vec F S8x1x1024 .f32) (x16 : Vec F S1x1024 .f32) (x25 : Vec F S1x1024 .f32) (x34 : Vec F S1x1024 .f32) : Vec F S1x1024 .f32 :=
  View.canon [⟨rect89, k0_pay146 (val191 x7) (View.ld x7 rect87) (View.ld x7 rect88) (View.ld x16 rect89) (View.ld x25 rect89) (View.ld x34 rect89)⟩]

def left67 (x7 : Vec F S8x1x1024 .f32) (x25 : Vec F S1x1024 .f32) : Vec F S1x1024 .f32 :=
  View.canon [⟨rect89, k0_pay144 (val191 x7) (View.ld x7 rect87) (View.ld x7 rect88) (View.ld x25 rect89)⟩]

def left68 (x7 : Vec F S8x1x1024 .f32) (x34 : Vec F S1x1024 .f32) : Vec F S1x1024 .f32 :=
  View.canon [⟨rect89, k0_pay145 (val191 x7) (View.ld x7 rect87) (View.ld x7 rect88) (View.ld x34 rect89)⟩]

def left69 (x8 : Vec F S8x2x1024 .f32) : Vec F S2x1024 .f32 :=
  View.canon [⟨rect107, k0_pay147 (View.ld x8 rect99) (View.ld x8 rect100) (View.ld x8 rect101) (View.ld x8 rect102) (View.ld x8 rect103) (View.ld x8 rect104) (View.ld x8 rect105) (View.ld x8 rect106)⟩]

def left70 (x8 : Vec F S8x2x1024 .f32) (x17 : Vec F S2x1024 .f32) (x26 : Vec F S2x1024 .f32) (x35 : Vec F S2x1024 .f32) : Vec F S2x1024 .f32 :=
  View.canon [⟨rect107, k0_pay1 (View.ld x17 rect107) (val193 x8 x26) (val194 x8 x35) (k0_pay150 (F := F))⟩]

def left71 (x8 : Vec F S8x2x1024 .f32) (x26 : Vec F S2x1024 .f32) : Vec F S2x1024 .f32 :=
  View.canon [⟨rect107, val193 x8 x26⟩]

def left72 (x8 : Vec F S8x2x1024 .f32) (x35 : Vec F S2x1024 .f32) : Vec F S2x1024 .f32 :=
  View.canon [⟨rect107, val194 x8 x35⟩]

def left73 (x36 : Vec F S8x1x128 .f32) : Vec F S1x128 .f32 :=
  View.canon [⟨rect8, k0_pay2 (View.ld x36 rect0) (View.ld x36 rect1) (View.ld x36 rect2) (View.ld x36 rect3) (View.ld x36 rect4) (View.ld x36 rect5) (View.ld x36 rect6) (View.ld x36 rect7)⟩]

/-! The stores cover the buffers. -/

/-- A store of the whole buffer covers it. -/
theorem cover_whole {s : Shape} {e : EltTy} {o : Fin s.rank → ℕ} (ho : ∀ a, o a = 0) (h : ∀ a, o a + s.size a ≤ s.size a) (p : Vec F ⟨s.rank, s.size⟩ e) (y : s.Idx) :
    ∃ pc ∈ ([⟨Rect.unit (s := s) o s.size h, p⟩] : List (View.Piece (Elt F) s e)), y ∈ pc.1.set := by
  refine ⟨_, List.mem_singleton.mpr rfl, (Rect.mem_set_unit (inb := h)).mpr fun a => ?_⟩
  have := ho a
  have := (y a).isLt
  omega

/-- The six rows of the two layers cover the layer norms' weights. -/
theorem cover_rows (p0 p1 p2 p3 p4 p5 : Vec F S1x1x128 .f32) (y : S3x2x128.Idx) :
    ∃ pc ∈ ([⟨rect71, p0⟩, ⟨rect62, p1⟩, ⟨rect53, p2⟩, ⟨rect44, p3⟩, ⟨rect35, p4⟩, ⟨rect26, p5⟩] : List (View.Piece (Elt F) S3x2x128 .f32)), y ∈ pc.1.set :=
  View.cover_of_tiled [⟨rect71, p0⟩, ⟨rect62, p1⟩, ⟨rect53, p2⟩, ⟨rect44, p3⟩, ⟨rect35, p4⟩, ⟨rect26, p5⟩] S1x1x128.size (by rfl) y

end Cert.Proof.AdamSmallBody

end

end
-- ==== Proof.AdamSmallBody.lean ====
/- The body of the small weights' kernel, run: from its buffers at what the pipeline puts in them to each result's buffer at what the stores leave. -/
module

public import proofs.«01_k».proof.Proof.AdamSmallOut

@[expose] public section

set_option maxRecDepth 16384

noncomputable section

namespace Cert.Proof.AdamSmallBody

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 40000000 in
/-- The body leaves the blocks it reads as they were, and in each result's buffer the function of them stated for it. -/
theorem sound_kernel (c : Dev nD) (E : Set ℕ)
    {arg0 : Memref sig .tc .vmem S8x2x1024 .f32} {harg0 : arg0.IsWhole} {arg1 : Memref sig .tc .vmem S8x6x1024 .f32} {harg1 : arg1.IsWhole} {arg2 : Memref sig .tc .vmem S8x6x1024 .f32} {harg2 : arg2.IsWhole} {arg3 : Memref sig .tc .vmem S8x1x128 .f32} {harg3 : arg3.IsWhole}
    {arg4 : Memref sig .tc .vmem S8x1x512 .f32} {harg4 : arg4.IsWhole} {arg5 : Memref sig .tc .vmem S8x1x1024 .f32} {harg5 : arg5.IsWhole} {arg6 : Memref sig .tc .vmem S8x1x128 .f32} {harg6 : arg6.IsWhole} {arg7 : Memref sig .tc .vmem S8x1x1024 .f32} {harg7 : arg7.IsWhole}
    {arg8 : Memref sig .tc .vmem S8x2x1024 .f32} {harg8 : arg8.IsWhole} {arg9 : Memref sig .tc .vmem S2x128 .f32} {harg9 : arg9.IsWhole} {arg10 : Memref sig .tc .vmem S3x2x128 .f32} {harg10 : arg10.IsWhole} {arg11 : Memref sig .tc .vmem S3x2x128 .f32} {harg11 : arg11.IsWhole}
    {arg12 : Memref sig .tc .vmem S1x128 .f32} {harg12 : arg12.IsWhole} {arg13 : Memref sig .tc .vmem S1x512 .f32} {harg13 : arg13.IsWhole} {arg14 : Memref sig .tc .vmem S1x1024 .f32} {harg14 : arg14.IsWhole} {arg15 : Memref sig .tc .vmem S1x16 .f32} {harg15 : arg15.IsWhole}
    {arg16 : Memref sig .tc .vmem S1x1024 .f32} {harg16 : arg16.IsWhole} {arg17 : Memref sig .tc .vmem S2x1024 .f32} {harg17 : arg17.IsWhole} {arg18 : Memref sig .tc .vmem S2x128 .f32} {harg18 : arg18.IsWhole} {arg19 : Memref sig .tc .vmem S3x2x128 .f32} {harg19 : arg19.IsWhole}
    {arg20 : Memref sig .tc .vmem S3x2x128 .f32} {harg20 : arg20.IsWhole} {arg21 : Memref sig .tc .vmem S1x128 .f32} {harg21 : arg21.IsWhole} {arg22 : Memref sig .tc .vmem S1x512 .f32} {harg22 : arg22.IsWhole} {arg23 : Memref sig .tc .vmem S1x1024 .f32} {harg23 : arg23.IsWhole}
    {arg24 : Memref sig .tc .vmem S1x16 .f32} {harg24 : arg24.IsWhole} {arg25 : Memref sig .tc .vmem S1x1024 .f32} {harg25 : arg25.IsWhole} {arg26 : Memref sig .tc .vmem S2x1024 .f32} {harg26 : arg26.IsWhole} {arg27 : Memref sig .tc .vmem S2x128 .f32} {harg27 : arg27.IsWhole}
    {arg28 : Memref sig .tc .vmem S3x2x128 .f32} {harg28 : arg28.IsWhole} {arg29 : Memref sig .tc .vmem S3x2x128 .f32} {harg29 : arg29.IsWhole} {arg30 : Memref sig .tc .vmem S1x128 .f32} {harg30 : arg30.IsWhole} {arg31 : Memref sig .tc .vmem S1x512 .f32} {harg31 : arg31.IsWhole}
    {arg32 : Memref sig .tc .vmem S1x1024 .f32} {harg32 : arg32.IsWhole} {arg33 : Memref sig .tc .vmem S1x16 .f32} {harg33 : arg33.IsWhole} {arg34 : Memref sig .tc .vmem S1x1024 .f32} {harg34 : arg34.IsWhole} {arg35 : Memref sig .tc .vmem S2x1024 .f32} {harg35 : arg35.IsWhole}
    {arg36 : Memref sig .tc .vmem S8x1x128 .f32} {harg36 : arg36.IsWhole} {arg37 : Memref sig .tc .vmem S2x128 .f32} {harg37 : arg37.IsWhole} {arg38 : Memref sig .tc .vmem S2x128 .f32} {harg38 : arg38.IsWhole} {arg39 : Memref sig .tc .vmem S2x128 .f32} {harg39 : arg39.IsWhole}
    {arg40 : Memref sig .tc .vmem S2x128 .f32} {harg40 : arg40.IsWhole} {arg41 : Memref sig .tc .vmem S3x2x128 .f32} {harg41 : arg41.IsWhole} {arg42 : Memref sig .tc .vmem S3x2x128 .f32} {harg42 : arg42.IsWhole} {arg43 : Memref sig .tc .vmem S3x2x128 .f32} {harg43 : arg43.IsWhole}
    {arg44 : Memref sig .tc .vmem S3x2x128 .f32} {harg44 : arg44.IsWhole} {arg45 : Memref sig .tc .vmem S3x2x128 .f32} {harg45 : arg45.IsWhole} {arg46 : Memref sig .tc .vmem S3x2x128 .f32} {harg46 : arg46.IsWhole} {arg47 : Memref sig .tc .vmem S3x2x128 .f32} {harg47 : arg47.IsWhole}
    {arg48 : Memref sig .tc .vmem S3x2x128 .f32} {harg48 : arg48.IsWhole} {arg49 : Memref sig .tc .vmem S1x128 .f32} {harg49 : arg49.IsWhole} {arg50 : Memref sig .tc .vmem S1x128 .f32} {harg50 : arg50.IsWhole} {arg51 : Memref sig .tc .vmem S1x128 .f32} {harg51 : arg51.IsWhole}
    {arg52 : Memref sig .tc .vmem S1x128 .f32} {harg52 : arg52.IsWhole} {arg53 : Memref sig .tc .vmem S1x512 .f32} {harg53 : arg53.IsWhole} {arg54 : Memref sig .tc .vmem S1x512 .f32} {harg54 : arg54.IsWhole} {arg55 : Memref sig .tc .vmem S1x512 .f32} {harg55 : arg55.IsWhole}
    {arg56 : Memref sig .tc .vmem S1x512 .f32} {harg56 : arg56.IsWhole} {arg57 : Memref sig .tc .vmem S1x1024 .f32} {harg57 : arg57.IsWhole} {arg58 : Memref sig .tc .vmem S1x1024 .f32} {harg58 : arg58.IsWhole} {arg59 : Memref sig .tc .vmem S1x1024 .f32} {harg59 : arg59.IsWhole}
    {arg60 : Memref sig .tc .vmem S1x1024 .f32} {harg60 : arg60.IsWhole} {arg61 : Memref sig .tc .vmem S1x16 .f32} {harg61 : arg61.IsWhole} {arg62 : Memref sig .tc .vmem S1x16 .f32} {harg62 : arg62.IsWhole} {arg63 : Memref sig .tc .vmem S1x16 .f32} {harg63 : arg63.IsWhole}
    {arg64 : Memref sig .tc .vmem S1x16 .f32} {harg64 : arg64.IsWhole} {arg65 : Memref sig .tc .vmem S1x1024 .f32} {harg65 : arg65.IsWhole} {arg66 : Memref sig .tc .vmem S1x1024 .f32} {harg66 : arg66.IsWhole} {arg67 : Memref sig .tc .vmem S1x1024 .f32} {harg67 : arg67.IsWhole}
    {arg68 : Memref sig .tc .vmem S1x1024 .f32} {harg68 : arg68.IsWhole} {arg69 : Memref sig .tc .vmem S2x1024 .f32} {harg69 : arg69.IsWhole} {arg70 : Memref sig .tc .vmem S2x1024 .f32} {harg70 : arg70.IsWhole} {arg71 : Memref sig .tc .vmem S2x1024 .f32} {harg71 : arg71.IsWhole}
    {arg72 : Memref sig .tc .vmem S2x1024 .f32} {harg72 : arg72.IsWhole} {arg73 : Memref sig .tc .vmem S1x128 .f32} {harg73 : arg73.IsWhole}
    (x0 : Vec F S8x2x1024 .f32) (x1 : Vec F S8x6x1024 .f32) (x2 : Vec F S8x6x1024 .f32) (x3 : Vec F S8x1x128 .f32) (x4 : Vec F S8x1x512 .f32) (x5 : Vec F S8x1x1024 .f32) (x6 : Vec F S8x1x128 .f32)
    (x7 : Vec F S8x1x1024 .f32) (x8 : Vec F S8x2x1024 .f32) (x9 : Vec F S2x128 .f32) (x10 : Vec F S3x2x128 .f32) (x11 : Vec F S3x2x128 .f32) (x12 : Vec F S1x128 .f32) (x13 : Vec F S1x512 .f32)
    (x14 : Vec F S1x1024 .f32) (x15 : Vec F S1x16 .f32) (x16 : Vec F S1x1024 .f32) (x17 : Vec F S2x1024 .f32) (x18 : Vec F S2x128 .f32) (x19 : Vec F S3x2x128 .f32) (x20 : Vec F S3x2x128 .f32)
    (x21 : Vec F S1x128 .f32) (x22 : Vec F S1x512 .f32) (x23 : Vec F S1x1024 .f32) (x24 : Vec F S1x16 .f32) (x25 : Vec F S1x1024 .f32) (x26 : Vec F S2x1024 .f32) (x27 : Vec F S2x128 .f32)
    (x28 : Vec F S3x2x128 .f32) (x29 : Vec F S3x2x128 .f32) (x30 : Vec F S1x128 .f32) (x31 : Vec F S1x512 .f32) (x32 : Vec F S1x1024 .f32) (x33 : Vec F S1x16 .f32) (x34 : Vec F S1x1024 .f32)
    (x35 : Vec F S2x1024 .f32) (x36 : Vec F S8x1x128 .f32) (K : PUnit → sProp (MT nD τ sig Unit (Elt F) ℕ (UR sig nD τ) ℕ)) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
      ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
      ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
      ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29
      ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35
      ∗ owns (c : Thread nD τ) arg36 fullShare x36
      ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d)
      ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d)
      ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d)
      ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d)
      ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d)
      ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d)
      ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d)
      ∗ (∃ d, owns (c : Thread nD τ) arg65 fullShare d) ∗ (∃ d, owns (c : Thread nD τ) arg66 fullShare d) ∗ (∃ d, owns (c : Thread nD τ) arg67 fullShare d) ∗ (∃ d, owns (c : Thread nD τ) arg68 fullShare d)
      ∗ (∃ d, owns (c : Thread nD τ) arg69 fullShare d) ∗ (∃ d, owns (c : Thread nD τ) arg70 fullShare d) ∗ (∃ d, owns (c : Thread nD τ) arg71 fullShare d) ∗ (∃ d, owns (c : Thread nD τ) arg72 fullShare d)
      ∗ (∃ d, owns (c : Thread nD τ) arg73 fullShare d)
      ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
        ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29
        ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35
        ∗ owns (c : Thread nD τ) arg36 fullShare x36
        ∗ owns (c : Thread nD τ) arg37 fullShare (left37 x0) ∗ owns (c : Thread nD τ) arg38 fullShare (left38 x0 x9 x18 x27) ∗ owns (c : Thread nD τ) arg39 fullShare (left39 x0 x18)
        ∗ owns (c : Thread nD τ) arg40 fullShare (left40 x0 x27) ∗ owns (c : Thread nD τ) arg41 fullShare (left41 x1) ∗ owns (c : Thread nD τ) arg42 fullShare (left42 x1 x10 x19 x28)
        ∗ owns (c : Thread nD τ) arg43 fullShare (left43 x1 x19) ∗ owns (c : Thread nD τ) arg44 fullShare (left44 x1 x28) ∗ owns (c : Thread nD τ) arg45 fullShare (left45 x2)
        ∗ owns (c : Thread nD τ) arg46 fullShare (left46 x2 x11 x20 x29) ∗ owns (c : Thread nD τ) arg47 fullShare (left47 x2 x20) ∗ owns (c : Thread nD τ) arg48 fullShare (left48 x2 x29)
        ∗ owns (c : Thread nD τ) arg49 fullShare (left49 x3) ∗ owns (c : Thread nD τ) arg50 fullShare (left50 x3 x12 x21 x30) ∗ owns (c : Thread nD τ) arg51 fullShare (left51 x3 x21)
        ∗ owns (c : Thread nD τ) arg52 fullShare (left52 x3 x30) ∗ owns (c : Thread nD τ) arg53 fullShare (left53 x4) ∗ owns (c : Thread nD τ) arg54 fullShare (left54 x4 x13 x22 x31)
        ∗ owns (c : Thread nD τ) arg55 fullShare (left55 x4 x22) ∗ owns (c : Thread nD τ) arg56 fullShare (left56 x4 x31) ∗ owns (c : Thread nD τ) arg57 fullShare (left57 x5)
        ∗ owns (c : Thread nD τ) arg58 fullShare (left58 x5 x14 x23 x32) ∗ owns (c : Thread nD τ) arg59 fullShare (left59 x5 x23) ∗ owns (c : Thread nD τ) arg60 fullShare (left60 x5 x32)
        ∗ owns (c : Thread nD τ) arg61 fullShare (left61 x6) ∗ owns (c : Thread nD τ) arg62 fullShare (left62 x6 x15 x24 x33) ∗ owns (c : Thread nD τ) arg63 fullShare (left63 x6 x24)
        ∗ owns (c : Thread nD τ) arg64 fullShare (left64 x6 x33) ∗ owns (c : Thread nD τ) arg65 fullShare (left65 x7) ∗ owns (c : Thread nD τ) arg66 fullShare (left66 x7 x16 x25 x34)
        ∗ owns (c : Thread nD τ) arg67 fullShare (left67 x7 x25) ∗ owns (c : Thread nD τ) arg68 fullShare (left68 x7 x34) ∗ owns (c : Thread nD τ) arg69 fullShare (left69 x8)
        ∗ owns (c : Thread nD τ) arg70 fullShare (left70 x8 x17 x26 x35) ∗ owns (c : Thread nD τ) arg71 fullShare (left71 x8 x26) ∗ owns (c : Thread nD τ) arg72 fullShare (left72 x8 x35)
        ∗ owns (c : Thread nD τ) arg73 fullShare (left73 x36)) -∗ K ⟨⟩))
      ⊢ wp frame (wpE (defs₀ (F := F)) Variants.none c none) E
        (cc0_adam_small arg0 harg0 arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22 harg22 arg23 harg23
          arg24 harg24 arg25 harg25 arg26 harg26 arg27 harg27 arg28 harg28 arg29 harg29 arg30 harg30 arg31 harg31 arg32 harg32 arg33 harg33 arg34 harg34 arg35 harg35
          arg36 harg36 arg37 harg37 arg38 harg38 arg39 harg39 arg40 harg40 arg41 harg41 arg42 harg42 arg43 harg43 arg44 harg44 arg45 harg45 arg46 harg46 arg47 harg47
          arg48 harg48 arg49 harg49 arg50 harg50 arg51 harg51 arg52 harg52 arg53 harg53 arg54 harg54 arg55 harg55 arg56 harg56 arg57 harg57 arg58 harg58 arg59 harg59
          arg60 harg60 arg61 harg61 arg62 harg62 arg63 harg63 arg64 harg64 arg65 harg65 arg66 harg66 arg67 harg67 arg68 harg68 arg69 harg69 arg70 harg70 arg71 harg71
          arg72 harg72 arg73 harg73) K := by
  simp only [cc0_adam_small_eq_skeleton]; unfold cc0_adam_small_skel
  simp only [k0_part38_eq_skeleton, k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton, k0_part21_eq_skeleton, k0_part22_eq_skeleton, k0_part23_eq_skeleton,
    k0_part24_eq_skeleton, k0_part25_eq_skeleton, k0_part26_eq_skeleton, k0_part27_eq_skeleton, k0_part28_eq_skeleton, k0_part29_eq_skeleton, k0_part30_eq_skeleton, k0_part31_eq_skeleton,
    k0_part32_eq_skeleton, k0_part33_eq_skeleton, k0_part34_eq_skeleton, k0_part35_eq_skeleton, k0_part36_eq_skeleton, k0_part37_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
    ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩,
    ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩,
    ⟨%f32, %hf32, H32⟩, ⟨%f33, %hf33, H33⟩, ⟨%f34, %hf34, H34⟩, ⟨%f35, %hf35, H35⟩, ⟨%f36, %hf36, H36⟩, ⟨%d37, %f37, -, H37⟩, ⟨%d38, %f38, -, H38⟩, ⟨%d39, %f39, -, H39⟩,
    ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩,
    ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩,
    ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩,
    ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩,
    ⟨%d72, %f72, -, H72⟩, ⟨%d73, %f73, -, H73⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36
  sl_exec
  sl_step
  iapply Hk
  isplitl [H0]; swap; isplitl [H1]; swap; isplitl [H2]; swap; isplitl [H3]; swap; isplitl [H4]; swap; isplitl [H5]; swap
  isplitl [H6]; swap; isplitl [H7]; swap; isplitl [H8]; swap; isplitl [H9]; swap; isplitl [H10]; swap; isplitl [H11]; swap
  isplitl [H12]; swap; isplitl [H13]; swap; isplitl [H14]; swap; isplitl [H15]; swap; isplitl [H16]; swap; isplitl [H17]; swap
  isplitl [H18]; swap; isplitl [H19]; swap; isplitl [H20]; swap; isplitl [H21]; swap; isplitl [H22]; swap; isplitl [H23]; swap
  isplitl [H24]; swap; isplitl [H25]; swap; isplitl [H26]; swap; isplitl [H27]; swap; isplitl [H28]; swap; isplitl [H29]; swap
  isplitl [H30]; swap; isplitl [H31]; swap; isplitl [H32]; swap; isplitl [H33]; swap; isplitl [H34]; swap; isplitl [H35]; swap
  isplitl [H36]; swap
  rotate_left
  iterate 37 (iexists _; isplitr; swap; iassumption; ipureintro; rfl)
  isplitl [H37]; swap; isplitl [H38]; swap; isplitl [H39]; swap; isplitl [H40]; swap; isplitl [H41]; swap; isplitl [H42]; swap
  isplitl [H43]; swap; isplitl [H44]; swap; isplitl [H45]; swap; isplitl [H46]; swap; isplitl [H47]; swap; isplitl [H48]; swap
  isplitl [H49]; swap; isplitl [H50]; swap; isplitl [H51]; swap; isplitl [H52]; swap; isplitl [H53]; swap; isplitl [H54]; swap
  isplitl [H55]; swap; isplitl [H56]; swap; isplitl [H57]; swap; isplitl [H58]; swap; isplitl [H59]; swap; isplitl [H60]; swap
  isplitl [H61]; swap; isplitl [H62]; swap; isplitl [H63]; swap; isplitl [H64]; swap; isplitl [H65]; swap; isplitl [H66]; swap
  isplitl [H67]; swap; isplitl [H68]; swap; isplitl [H69]; swap; isplitl [H70]; swap; isplitl [H71]; swap; isplitl [H72]; swap
  all_goals iexists _; isplitr; swap; iassumption; ipureintro
  all_goals refine (View.read_writes_eq_canon _ _ _ ?_).trans ?_
  all_goals first | exact cover_whole (by decide) _ _ | exact cover_rows _ _ _ _ _ _ | rfl

end Cert.Proof.AdamSmallBody

end

end
-- ==== Proof.AdamSmallFrame.lean ====
/- The run of the small weights' kernel: its windows' buffers around the body, the body's specification met, and the arguments left as they were. -/
module

public import proofs.«01_k».proof.Proof.AdamSmallBody
public import Idealize.ShloMosaic.Lib.Claim

@[expose] public section

set_option maxRecDepth 16384

noncomputable section

namespace Cert.Proof.AdamSmallBody

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! The arrays as the pipeline finds them. -/

/-- A buffer of a core after the operations ahead of the kernel. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the operations ahead of the kernel and the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer other than the nine re-laid ones is found as it was launched. -/
theorem V_kept (c : Dev nD) (b : Ref sig .tc) (h : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    obtain ⟨h0, h1, h2, h3, h4, h5, h6, h7, h8⟩ := h
    exact ⟨StableHlo.devRef_ne_of_ne h0, StableHlo.devRef_ne_of_ne h1, StableHlo.devRef_ne_of_ne h2, StableHlo.devRef_ne_of_ne h3, StableHlo.devRef_ne_of_ne h4,
      StableHlo.devRef_ne_of_ne h5, StableHlo.devRef_ne_of_ne h6, StableHlo.devRef_ne_of_ne h7, StableHlo.devRef_ne_of_ne h8⟩))

/-- The block of a window's array at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! What the buffers hold around the body. -/

/-- The arrays as found, and after the body each read window at its block and each result's at what the body leaves of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => left37 (iblk m c 0 t)
    | ⟨38, _⟩ => left38 (iblk m c 0 t) (iblk m c 9 t) (iblk m c 18 t) (iblk m c 27 t)
    | ⟨39, _⟩ => left39 (iblk m c 0 t) (iblk m c 18 t)
    | ⟨40, _⟩ => left40 (iblk m c 0 t) (iblk m c 27 t)
    | ⟨41, _⟩ => left41 (iblk m c 1 t)
    | ⟨42, _⟩ => left42 (iblk m c 1 t) (iblk m c 10 t) (iblk m c 19 t) (iblk m c 28 t)
    | ⟨43, _⟩ => left43 (iblk m c 1 t) (iblk m c 19 t)
    | ⟨44, _⟩ => left44 (iblk m c 1 t) (iblk m c 28 t)
    | ⟨45, _⟩ => left45 (iblk m c 2 t)
    | ⟨46, _⟩ => left46 (iblk m c 2 t) (iblk m c 11 t) (iblk m c 20 t) (iblk m c 29 t)
    | ⟨47, _⟩ => left47 (iblk m c 2 t) (iblk m c 20 t)
    | ⟨48, _⟩ => left48 (iblk m c 2 t) (iblk m c 29 t)
    | ⟨49, _⟩ => left49 (iblk m c 3 t)
    | ⟨50, _⟩ => left50 (iblk m c 3 t) (iblk m c 12 t) (iblk m c 21 t) (iblk m c 30 t)
    | ⟨51, _⟩ => left51 (iblk m c 3 t) (iblk m c 21 t)
    | ⟨52, _⟩ => left52 (iblk m c 3 t) (iblk m c 30 t)
    | ⟨53, _⟩ => left53 (iblk m c 4 t)
    | ⟨54, _⟩ => left54 (iblk m c 4 t) (iblk m c 13 t) (iblk m c 22 t) (iblk m c 31 t)
    | ⟨55, _⟩ => left55 (iblk m c 4 t) (iblk m c 22 t)
    | ⟨56, _⟩ => left56 (iblk m c 4 t) (iblk m c 31 t)
    | ⟨57, _⟩ => left57 (iblk m c 5 t)
    | ⟨58, _⟩ => left58 (iblk m c 5 t) (iblk m c 14 t) (iblk m c 23 t) (iblk m c 32 t)
    | ⟨59, _⟩ => left59 (iblk m c 5 t) (iblk m c 23 t)
    | ⟨60, _⟩ => left60 (iblk m c 5 t) (iblk m c 32 t)
    | ⟨61, _⟩ => left61 (iblk m c 6 t)
    | ⟨62, _⟩ => left62 (iblk m c 6 t) (iblk m c 15 t) (iblk m c 24 t) (iblk m c 33 t)
    | ⟨63, _⟩ => left63 (iblk m c 6 t) (iblk m c 24 t)
    | ⟨64, _⟩ => left64 (iblk m c 6 t) (iblk m c 33 t)
    | ⟨65, _⟩ => left65 (iblk m c 7 t)
    | ⟨66, _⟩ => left66 (iblk m c 7 t) (iblk m c 16 t) (iblk m c 25 t) (iblk m c 34 t)
    | ⟨67, _⟩ => left67 (iblk m c 7 t) (iblk m c 25 t)
    | ⟨68, _⟩ => left68 (iblk m c 7 t) (iblk m c 34 t)
    | ⟨69, _⟩ => left69 (iblk m c 8 t)
    | ⟨70, _⟩ => left70 (iblk m c 8 t) (iblk m c 17 t) (iblk m c 26 t) (iblk m c 35 t)
    | ⟨71, _⟩ => left71 (iblk m c 8 t) (iblk m c 26 t)
    | ⟨72, _⟩ => left72 (iblk m c 8 t) (iblk m c 35 t)
    | ⟨73, _⟩ => left73 (iblk m c 36 t)
    | ⟨_ + 74, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = iblk m c 15 t := by dsimp only [dats]
theorem after0_16 : (dats m 0 c).after 16 t = iblk m c 16 t := by dsimp only [dats]
theorem after0_17 : (dats m 0 c).after 17 t = iblk m c 17 t := by dsimp only [dats]
theorem after0_18 : (dats m 0 c).after 18 t = iblk m c 18 t := by dsimp only [dats]
theorem after0_19 : (dats m 0 c).after 19 t = iblk m c 19 t := by dsimp only [dats]
theorem after0_20 : (dats m 0 c).after 20 t = iblk m c 20 t := by dsimp only [dats]
theorem after0_21 : (dats m 0 c).after 21 t = iblk m c 21 t := by dsimp only [dats]
theorem after0_22 : (dats m 0 c).after 22 t = iblk m c 22 t := by dsimp only [dats]
theorem after0_23 : (dats m 0 c).after 23 t = iblk m c 23 t := by dsimp only [dats]
theorem after0_24 : (dats m 0 c).after 24 t = iblk m c 24 t := by dsimp only [dats]
theorem after0_25 : (dats m 0 c).after 25 t = iblk m c 25 t := by dsimp only [dats]
theorem after0_26 : (dats m 0 c).after 26 t = iblk m c 26 t := by dsimp only [dats]
theorem after0_27 : (dats m 0 c).after 27 t = iblk m c 27 t := by dsimp only [dats]
theorem after0_28 : (dats m 0 c).after 28 t = iblk m c 28 t := by dsimp only [dats]
theorem after0_29 : (dats m 0 c).after 29 t = iblk m c 29 t := by dsimp only [dats]
theorem after0_30 : (dats m 0 c).after 30 t = iblk m c 30 t := by dsimp only [dats]
theorem after0_31 : (dats m 0 c).after 31 t = iblk m c 31 t := by dsimp only [dats]
theorem after0_32 : (dats m 0 c).after 32 t = iblk m c 32 t := by dsimp only [dats]
theorem after0_33 : (dats m 0 c).after 33 t = iblk m c 33 t := by dsimp only [dats]
theorem after0_34 : (dats m 0 c).after 34 t = iblk m c 34 t := by dsimp only [dats]
theorem after0_35 : (dats m 0 c).after 35 t = iblk m c 35 t := by dsimp only [dats]
theorem after0_36 : (dats m 0 c).after 36 t = iblk m c 36 t := by dsimp only [dats]
theorem after0_37 : (dats m 0 c).after 37 t = left37 (iblk m c 0 t) := by dsimp only [dats]
theorem after0_38 : (dats m 0 c).after 38 t = left38 (iblk m c 0 t) (iblk m c 9 t) (iblk m c 18 t) (iblk m c 27 t) := by dsimp only [dats]
theorem after0_39 : (dats m 0 c).after 39 t = left39 (iblk m c 0 t) (iblk m c 18 t) := by dsimp only [dats]
theorem after0_40 : (dats m 0 c).after 40 t = left40 (iblk m c 0 t) (iblk m c 27 t) := by dsimp only [dats]
theorem after0_41 : (dats m 0 c).after 41 t = left41 (iblk m c 1 t) := by dsimp only [dats]
theorem after0_42 : (dats m 0 c).after 42 t = left42 (iblk m c 1 t) (iblk m c 10 t) (iblk m c 19 t) (iblk m c 28 t) := by dsimp only [dats]
theorem after0_43 : (dats m 0 c).after 43 t = left43 (iblk m c 1 t) (iblk m c 19 t) := by dsimp only [dats]
theorem after0_44 : (dats m 0 c).after 44 t = left44 (iblk m c 1 t) (iblk m c 28 t) := by dsimp only [dats]
theorem after0_45 : (dats m 0 c).after 45 t = left45 (iblk m c 2 t) := by dsimp only [dats]
theorem after0_46 : (dats m 0 c).after 46 t = left46 (iblk m c 2 t) (iblk m c 11 t) (iblk m c 20 t) (iblk m c 29 t) := by dsimp only [dats]
theorem after0_47 : (dats m 0 c).after 47 t = left47 (iblk m c 2 t) (iblk m c 20 t) := by dsimp only [dats]
theorem after0_48 : (dats m 0 c).after 48 t = left48 (iblk m c 2 t) (iblk m c 29 t) := by dsimp only [dats]
theorem after0_49 : (dats m 0 c).after 49 t = left49 (iblk m c 3 t) := by dsimp only [dats]
theorem after0_50 : (dats m 0 c).after 50 t = left50 (iblk m c 3 t) (iblk m c 12 t) (iblk m c 21 t) (iblk m c 30 t) := by dsimp only [dats]
theorem after0_51 : (dats m 0 c).after 51 t = left51 (iblk m c 3 t) (iblk m c 21 t) := by dsimp only [dats]
theorem after0_52 : (dats m 0 c).after 52 t = left52 (iblk m c 3 t) (iblk m c 30 t) := by dsimp only [dats]
theorem after0_53 : (dats m 0 c).after 53 t = left53 (iblk m c 4 t) := by dsimp only [dats]
theorem after0_54 : (dats m 0 c).after 54 t = left54 (iblk m c 4 t) (iblk m c 13 t) (iblk m c 22 t) (iblk m c 31 t) := by dsimp only [dats]
theorem after0_55 : (dats m 0 c).after 55 t = left55 (iblk m c 4 t) (iblk m c 22 t) := by dsimp only [dats]
theorem after0_56 : (dats m 0 c).after 56 t = left56 (iblk m c 4 t) (iblk m c 31 t) := by dsimp only [dats]
theorem after0_57 : (dats m 0 c).after 57 t = left57 (iblk m c 5 t) := by dsimp only [dats]
theorem after0_58 : (dats m 0 c).after 58 t = left58 (iblk m c 5 t) (iblk m c 14 t) (iblk m c 23 t) (iblk m c 32 t) := by dsimp only [dats]
theorem after0_59 : (dats m 0 c).after 59 t = left59 (iblk m c 5 t) (iblk m c 23 t) := by dsimp only [dats]
theorem after0_60 : (dats m 0 c).after 60 t = left60 (iblk m c 5 t) (iblk m c 32 t) := by dsimp only [dats]
theorem after0_61 : (dats m 0 c).after 61 t = left61 (iblk m c 6 t) := by dsimp only [dats]
theorem after0_62 : (dats m 0 c).after 62 t = left62 (iblk m c 6 t) (iblk m c 15 t) (iblk m c 24 t) (iblk m c 33 t) := by dsimp only [dats]
theorem after0_63 : (dats m 0 c).after 63 t = left63 (iblk m c 6 t) (iblk m c 24 t) := by dsimp only [dats]
theorem after0_64 : (dats m 0 c).after 64 t = left64 (iblk m c 6 t) (iblk m c 33 t) := by dsimp only [dats]
theorem after0_65 : (dats m 0 c).after 65 t = left65 (iblk m c 7 t) := by dsimp only [dats]
theorem after0_66 : (dats m 0 c).after 66 t = left66 (iblk m c 7 t) (iblk m c 16 t) (iblk m c 25 t) (iblk m c 34 t) := by dsimp only [dats]
theorem after0_67 : (dats m 0 c).after 67 t = left67 (iblk m c 7 t) (iblk m c 25 t) := by dsimp only [dats]
theorem after0_68 : (dats m 0 c).after 68 t = left68 (iblk m c 7 t) (iblk m c 34 t) := by dsimp only [dats]
theorem after0_69 : (dats m 0 c).after 69 t = left69 (iblk m c 8 t) := by dsimp only [dats]
theorem after0_70 : (dats m 0 c).after 70 t = left70 (iblk m c 8 t) (iblk m c 17 t) (iblk m c 26 t) (iblk m c 35 t) := by dsimp only [dats]
theorem after0_71 : (dats m 0 c).after 71 t = left71 (iblk m c 8 t) (iblk m c 26 t) := by dsimp only [dats]
theorem after0_72 : (dats m 0 c).after 72 t = left72 (iblk m c 8 t) (iblk m c 35 t) := by dsimp only [dats]
theorem after0_73 : (dats m 0 c).after 73 t = left73 (iblk m c 36 t) := by dsimp only [dats]

/-- A read window's buffer holds, ahead of the body, what the body leaves there: its block. -/
theorem before_eq (w : Fin cfg0.W) (hw : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dats m 0 c).after w t) = iblk m c w t)
    (d : (cfg0.win w).block.Idx → Elt F (cfg0.win w).elt) :
    (dats m 0 c).before w t d = (dats m 0 c).fetched w t d :=
  (dats m 0 c).before_in_eq_fetched w hw hlive hclip (fun t => (hkeep t).trans (by unfold Dat.blockOf iblk; rw [A_eq])) t d

theorem before0_0 (d) : (dats m 0 c).before 0 t d = iblk m c 0 t :=
  (before_eq m c t 0 rfl (fun _ => rfl) (fun _ _ _ => rfl) (fun t => by rw [after0_0]) d).trans (by unfold Dat.fetched Dat.blockOf iblk; rw [A_eq]; rfl)
theorem before0_1 (d) : (dats m 0 c).before 1 t d = iblk m c 1 t :=
  (before_eq m c t 1 rfl (fun _ => rfl) (fun _ _ _ => rfl) (fun t => by rw [after0_1]) d).trans (by unfold Dat.fetched Dat.blockOf iblk; rw [A_eq]; rfl)
theorem before0_2 (d) : (dats m 0 c).before 2 t d = iblk m c 2 t :=
  (before_eq m c t 2 rfl (fun _ => rfl) (fun _ _ _ => rfl) (fun t => by rw [after0_2]) d).trans (by unfold Dat.fetched Dat.blockOf iblk; rw [A_eq]; rfl)
theorem before0_3 (d) : (dats m 0 c).before 3 t d = iblk m c 3 t :=
  (before_eq m c t 3 rfl (fun _ => rfl) (fun _ _ _ => rfl) (fun t => by rw [after0_3]) d).trans (by unfold Dat.fetched Dat.blockOf iblk; rw [A_eq]; rfl)
theorem before0_4 (d) : (dats m 0 c).before 4 t d = iblk m c 4 t :=
  (before_eq m c t 4 rfl (fun _ => rfl) (fun _ _ _ => rfl) (fun t => by rw [after0_4]) d).trans (by unfold Dat.fetched Dat.blockOf iblk; rw [A_eq]; rfl)
theorem before0_5 (d) : (dats m 0 c).before 5 t d = iblk m c 5 t :=
  (before_eq m c t 5 rfl (fun _ => rfl) (fun _ _ _ => rfl) (fun t => by rw [after0_5]) d).trans (by unfold Dat.fetched Dat.blockOf iblk; rw [A_eq]; rfl)
theorem before0_6 (d) : (dats m 0 c).before 6 t d = iblk m c 6 t :=
  (before_eq m c t 6 rfl (fun _ => rfl) (fun _ _ _ => rfl) (fun t => by rw [after0_6]) d).trans (by unfold Dat.fetched Dat.blockOf iblk; rw [A_eq]; rfl)
theorem before0_7 (d) : (dats m 0 c).before 7 t d = iblk m c 7 t :=
  (before_eq m c t 7 rfl (fun _ => rfl) (fun _ _ _ => rfl) (fun t => by rw [after0_7]) d).trans (by unfold Dat.fetched Dat.blockOf iblk; rw [A_eq]; rfl)
theorem before0_8 (d) : (dats m 0 c).before 8 t d = iblk m c 8 t :=
  (before_eq m c t 8 rfl (fun _ => rfl) (fun _ _ _ => rfl) (fun t => by rw [after0_8]) d).trans (by unfold Dat.fetched Dat.blockOf iblk; rw [A_eq]; rfl)
theorem before0_9 (d) : (dats m 0 c).before 9 t d = iblk m c 9 t :=
  (before_eq m c t 9 rfl (fun _ => rfl) (fun _ _ _ => rfl) (fun t => by rw [after0_9]) d).trans (by unfold Dat.fetched Dat.blockOf iblk; rw [A_eq]; rfl)
theorem before0_10 (d) : (dats m 0 c).before 10 t d = iblk m c 10 t :=
  (before_eq m c t 10 rfl (fun _ => rfl) (fun _ _ _ => rfl) (fun t => by rw [after0_10]) d).trans (by unfold Dat.fetched Dat.blockOf iblk; rw [A_eq]; rfl)
theorem before0_11 (d) : (dats m 0 c).before 11 t d = iblk m c 11 t :=
  (before_eq m c t 11 rfl (fun _ => rfl) (fun _ _ _ => rfl) (fun t => by rw [after0_11]) d).trans (by unfold Dat.fetched Dat.blockOf iblk; rw [A_eq]; rfl)
theorem before0_12 (d) : (dats m 0 c).before 12 t d = iblk m c 12 t :=
  (before_eq m c t 12 rfl (fun _ => rfl) (fun _ _ _ => rfl) (fun t => by rw [after0_12]) d).trans (by unfold Dat.fetched Dat.blockOf iblk; rw [A_eq]; rfl)
theorem before0_13 (d) : (dats m 0 c).before 13 t d = iblk m c 13 t :=
  (before_eq m c t 13 rfl (fun _ => rfl) (fun _ _ _ => rfl) (fun t => by rw [after0_13]) d).trans (by unfold Dat.fetched Dat.blockOf iblk; rw [A_eq]; rfl)
theorem before0_14 (d) : (dats m 0 c).before 14 t d = iblk m c 14 t :=
  (before_eq m c t 14 rfl (fun _ => rfl) (fun _ _ _ => rfl) (fun t => by rw [after0_14]) d).trans (by unfold Dat.fetched Dat.blockOf iblk; rw [A_eq]; rfl)
theorem before0_15 (d) : (dats m 0 c).before 15 t d = iblk m c 15 t :=
  (before_eq m c t 15 rfl (fun _ => rfl) (fun _ _ _ => rfl) (fun t => by rw [after0_15]) d).trans (by unfold Dat.fetched Dat.blockOf iblk; rw [A_eq]; rfl)
theorem before0_16 (d) : (dats m 0 c).before 16 t d = iblk m c 16 t :=
  (before_eq m c t 16 rfl (fun _ => rfl) (fun _ _ _ => rfl) (fun t => by rw [after0_16]) d).trans (by unfold Dat.fetched Dat.blockOf iblk; rw [A_eq]; rfl)
theorem before0_17 (d) : (dats m 0 c).before 17 t d = iblk m c 17 t :=
  (before_eq m c t 17 rfl (fun _ => rfl) (fun _ _ _ => rfl) (fun t => by rw [after0_17]) d).trans (by unfold Dat.fetched Dat.blockOf iblk; rw [A_eq]; rfl)
theorem before0_18 (d) : (dats m 0 c).before 18 t d = iblk m c 18 t :=
  (before_eq m c t 18 rfl (fun _ => rfl) (fun _ _ _ => rfl) (fun t => by rw [after0_18]) d).trans (by unfold Dat.fetched Dat.blockOf iblk; rw [A_eq]; rfl)
theorem before0_19 (d) : (dats m 0 c).before 19 t d = iblk m c 19 t :=
  (before_eq m c t 19 rfl (fun _ => rfl) (fun _ _ _ => rfl) (fun t => by rw [after0_19]) d).trans (by unfold Dat.fetched Dat.blockOf iblk; rw [A_eq]; rfl)
theorem before0_20 (d) : (dats m 0 c).before 20 t d = iblk m c 20 t :=
  (before_eq m c t 20 rfl (fun _ => rfl) (fun _ _ _ => rfl) (fun t => by rw [after0_20]) d).trans (by unfold Dat.fetched Dat.blockOf iblk; rw [A_eq]; rfl)
theorem before0_21 (d) : (dats m 0 c).before 21 t d = iblk m c 21 t :=
  (before_eq m c t 21 rfl (fun _ => rfl) (fun _ _ _ => rfl) (fun t => by rw [after0_21]) d).trans (by unfold Dat.fetched Dat.blockOf iblk; rw [A_eq]; rfl)
theorem before0_22 (d) : (dats m 0 c).before 22 t d = iblk m c 22 t :=
  (before_eq m c t 22 rfl (fun _ => rfl) (fun _ _ _ => rfl) (fun t => by rw [after0_22]) d).trans (by unfold Dat.fetched Dat.blockOf iblk; rw [A_eq]; rfl)
theorem before0_23 (d) : (dats m 0 c).before 23 t d = iblk m c 23 t :=
  (before_eq m c t 23 rfl (fun _ => rfl) (fun _ _ _ => rfl) (fun t => by rw [after0_23]) d).trans (by unfold Dat.fetched Dat.blockOf iblk; rw [A_eq]; rfl)
theorem before0_24 (d) : (dats m 0 c).before 24 t d = iblk m c 24 t :=
  (before_eq m c t 24 rfl (fun _ => rfl) (fun _ _ _ => rfl) (fun t => by rw [after0_24]) d).trans (by unfold Dat.fetched Dat.blockOf iblk; rw [A_eq]; rfl)
theorem before0_25 (d) : (dats m 0 c).before 25 t d = iblk m c 25 t :=
  (before_eq m c t 25 rfl (fun _ => rfl) (fun _ _ _ => rfl) (fun t => by rw [after0_25]) d).trans (by unfold Dat.fetched Dat.blockOf iblk; rw [A_eq]; rfl)
theorem before0_26 (d) : (dats m 0 c).before 26 t d = iblk m c 26 t :=
  (before_eq m c t 26 rfl (fun _ => rfl) (fun _ _ _ => rfl) (fun t => by rw [after0_26]) d).trans (by unfold Dat.fetched Dat.blockOf iblk; rw [A_eq]; rfl)
theorem before0_27 (d) : (dats m 0 c).before 27 t d = iblk m c 27 t :=
  (before_eq m c t 27 rfl (fun _ => rfl) (fun _ _ _ => rfl) (fun t => by rw [after0_27]) d).trans (by unfold Dat.fetched Dat.blockOf iblk; rw [A_eq]; rfl)
theorem before0_28 (d) : (dats m 0 c).before 28 t d = iblk m c 28 t :=
  (before_eq m c t 28 rfl (fun _ => rfl) (fun _ _ _ => rfl) (fun t => by rw [after0_28]) d).trans (by unfold Dat.fetched Dat.blockOf iblk; rw [A_eq]; rfl)
theorem before0_29 (d) : (dats m 0 c).before 29 t d = iblk m c 29 t :=
  (before_eq m c t 29 rfl (fun _ => rfl) (fun _ _ _ => rfl) (fun t => by rw [after0_29]) d).trans (by unfold Dat.fetched Dat.blockOf iblk; rw [A_eq]; rfl)
theorem before0_30 (d) : (dats m 0 c).before 30 t d = iblk m c 30 t :=
  (before_eq m c t 30 rfl (fun _ => rfl) (fun _ _ _ => rfl) (fun t => by rw [after0_30]) d).trans (by unfold Dat.fetched Dat.blockOf iblk; rw [A_eq]; rfl)
theorem before0_31 (d) : (dats m 0 c).before 31 t d = iblk m c 31 t :=
  (before_eq m c t 31 rfl (fun _ => rfl) (fun _ _ _ => rfl) (fun t => by rw [after0_31]) d).trans (by unfold Dat.fetched Dat.blockOf iblk; rw [A_eq]; rfl)
theorem before0_32 (d) : (dats m 0 c).before 32 t d = iblk m c 32 t :=
  (before_eq m c t 32 rfl (fun _ => rfl) (fun _ _ _ => rfl) (fun t => by rw [after0_32]) d).trans (by unfold Dat.fetched Dat.blockOf iblk; rw [A_eq]; rfl)
theorem before0_33 (d) : (dats m 0 c).before 33 t d = iblk m c 33 t :=
  (before_eq m c t 33 rfl (fun _ => rfl) (fun _ _ _ => rfl) (fun t => by rw [after0_33]) d).trans (by unfold Dat.fetched Dat.blockOf iblk; rw [A_eq]; rfl)
theorem before0_34 (d) : (dats m 0 c).before 34 t d = iblk m c 34 t :=
  (before_eq m c t 34 rfl (fun _ => rfl) (fun _ _ _ => rfl) (fun t => by rw [after0_34]) d).trans (by unfold Dat.fetched Dat.blockOf iblk; rw [A_eq]; rfl)
theorem before0_35 (d) : (dats m 0 c).before 35 t d = iblk m c 35 t :=
  (before_eq m c t 35 rfl (fun _ => rfl) (fun _ _ _ => rfl) (fun t => by rw [after0_35]) d).trans (by unfold Dat.fetched Dat.blockOf iblk; rw [A_eq]; rfl)
theorem before0_36 (d) : (dats m 0 c).before 36 t d = iblk m c 36 t :=
  (before_eq m c t 36 rfl (fun _ => rfl) (fun _ _ _ => rfl) (fun t => by rw [after0_36]) d).trans (by unfold Dat.fetched Dat.blockOf iblk; rw [A_eq]; rfl)

/-- What the body is handed. -/
def bodyPre : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d))
    ∗ (∃ d, owns (c : Thread nD τ) (st0_67 t) fullShare ((dats m 0 c).before 67 t d))
    ∗ (∃ d, owns (c : Thread nD τ) (st0_68 t) fullShare ((dats m 0 c).before 68 t d))
    ∗ (∃ d, owns (c : Thread nD τ) (st0_69 t) fullShare ((dats m 0 c).before 69 t d))
    ∗ (∃ d, owns (c : Thread nD τ) (st0_70 t) fullShare ((dats m 0 c).before 70 t d))
    ∗ (∃ d, owns (c : Thread nD τ) (st0_71 t) fullShare ((dats m 0 c).before 71 t d))
    ∗ (∃ d, owns (c : Thread nD τ) (st0_72 t) fullShare ((dats m 0 c).before 72 t d))
    ∗ (∃ d, owns (c : Thread nD τ) (st0_73 t) fullShare ((dats m 0 c).before 73 t d)))

/-- What it hands back. -/
def bodyPost : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t)
    ∗ owns (c : Thread nD τ) (st0_67 t) fullShare ((dats m 0 c).after 67 t)
    ∗ owns (c : Thread nD τ) (st0_68 t) fullShare ((dats m 0 c).after 68 t)
    ∗ owns (c : Thread nD τ) (st0_69 t) fullShare ((dats m 0 c).after 69 t)
    ∗ owns (c : Thread nD τ) (st0_70 t) fullShare ((dats m 0 c).after 70 t)
    ∗ owns (c : Thread nD τ) (st0_71 t) fullShare ((dats m 0 c).after 71 t)
    ∗ owns (c : Thread nD τ) (st0_72 t) fullShare ((dats m 0 c).after 72 t)
    ∗ owns (c : Thread nD τ) (st0_73 t) fullShare ((dats m 0 c).after 73 t))

set_option maxHeartbeats 40000000 in
/-- The body at a point: the read windows' buffers hold their blocks, so the run of the body applies. -/
theorem sound_body : bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
    ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩,
    ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩,
    ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩,
    ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩,
    ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩,
    ⟨%d72, H72⟩, ⟨%d73, H73⟩⟩
  iapply (sound_kernel c Set.univ (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) (iblk m c 18 t) (iblk m c 19 t) (iblk m c 20 t) (iblk m c 21 t) (iblk m c 22 t) (iblk m c 23 t)
    (iblk m c 24 t) (iblk m c 25 t) (iblk m c 26 t) (iblk m c 27 t) (iblk m c 28 t) (iblk m c 29 t) (iblk m c 30 t) (iblk m c 31 t)
    (iblk m c 32 t) (iblk m c 33 t) (iblk m c 34 t) (iblk m c 35 t) (iblk m c 36 t) _)
  isplitl [H0]; swap; isplitl [H1]; swap; isplitl [H2]; swap; isplitl [H3]; swap; isplitl [H4]; swap; isplitl [H5]; swap
  isplitl [H6]; swap; isplitl [H7]; swap; isplitl [H8]; swap; isplitl [H9]; swap; isplitl [H10]; swap; isplitl [H11]; swap
  isplitl [H12]; swap; isplitl [H13]; swap; isplitl [H14]; swap; isplitl [H15]; swap; isplitl [H16]; swap; isplitl [H17]; swap
  isplitl [H18]; swap; isplitl [H19]; swap; isplitl [H20]; swap; isplitl [H21]; swap; isplitl [H22]; swap; isplitl [H23]; swap
  isplitl [H24]; swap; isplitl [H25]; swap; isplitl [H26]; swap; isplitl [H27]; swap; isplitl [H28]; swap; isplitl [H29]; swap
  isplitl [H30]; swap; isplitl [H31]; swap; isplitl [H32]; swap; isplitl [H33]; swap; isplitl [H34]; swap; isplitl [H35]; swap
  isplitl [H36]; swap; isplitl [H37]; swap; isplitl [H38]; swap; isplitl [H39]; swap; isplitl [H40]; swap; isplitl [H41]; swap
  isplitl [H42]; swap; isplitl [H43]; swap; isplitl [H44]; swap; isplitl [H45]; swap; isplitl [H46]; swap; isplitl [H47]; swap
  isplitl [H48]; swap; isplitl [H49]; swap; isplitl [H50]; swap; isplitl [H51]; swap; isplitl [H52]; swap; isplitl [H53]; swap
  isplitl [H54]; swap; isplitl [H55]; swap; isplitl [H56]; swap; isplitl [H57]; swap; isplitl [H58]; swap; isplitl [H59]; swap
  isplitl [H60]; swap; isplitl [H61]; swap; isplitl [H62]; swap; isplitl [H63]; swap; isplitl [H64]; swap; isplitl [H65]; swap
  isplitl [H66]; swap; isplitl [H67]; swap; isplitl [H68]; swap; isplitl [H69]; swap; isplitl [H70]; swap; isplitl [H71]; swap
  isplitl [H72]; swap; isplitl [H73]; swap
  rotate_left
  iterate 37 (iexists _; iassumption)
  (rw [before0_36]; iassumption); (rw [before0_35]; iassumption); (rw [before0_34]; iassumption); (rw [before0_33]; iassumption); (rw [before0_32]; iassumption); (rw [before0_31]; iassumption)
  (rw [before0_30]; iassumption); (rw [before0_29]; iassumption); (rw [before0_28]; iassumption); (rw [before0_27]; iassumption); (rw [before0_26]; iassumption); (rw [before0_25]; iassumption)
  (rw [before0_24]; iassumption); (rw [before0_23]; iassumption); (rw [before0_22]; iassumption); (rw [before0_21]; iassumption); (rw [before0_20]; iassumption); (rw [before0_19]; iassumption)
  (rw [before0_18]; iassumption); (rw [before0_17]; iassumption); (rw [before0_16]; iassumption); (rw [before0_15]; iassumption); (rw [before0_14]; iassumption); (rw [before0_13]; iassumption)
  (rw [before0_12]; iassumption); (rw [before0_11]; iassumption); (rw [before0_10]; iassumption); (rw [before0_9]; iassumption); (rw [before0_8]; iassumption); (rw [before0_7]; iassumption)
  (rw [before0_6]; iassumption); (rw [before0_5]; iassumption); (rw [before0_4]; iassumption); (rw [before0_3]; iassumption); (rw [before0_2]; iassumption); (rw [before0_1]; iassumption)
  (rw [before0_0]; iassumption)
  iintro ⟨H0, H1, H2, H3, H4, H5, H6, H7, H8, H9, H10, H11, H12, H13, H14, H15, H16, H17, H18, H19,
    H20, H21, H22, H23, H24, H25, H26, H27, H28, H29, H30, H31, H32, H33, H34, H35, H36, H37, H38, H39,
    H40, H41, H42, H43, H44, H45, H46, H47, H48, H49, H50, H51, H52, H53, H54, H55, H56, H57, H58, H59,
    H60, H61, H62, H63, H64, H65, H66, H67, H68, H69, H70, H71, H72, H73⟩
  isplitl [HΦ]; iassumption
  isplitl [Ho]; iassumption
  isplitl [H0]; swap; isplitl [H1]; swap; isplitl [H2]; swap; isplitl [H3]; swap; isplitl [H4]; swap; isplitl [H5]; swap
  isplitl [H6]; swap; isplitl [H7]; swap; isplitl [H8]; swap; isplitl [H9]; swap; isplitl [H10]; swap; isplitl [H11]; swap
  isplitl [H12]; swap; isplitl [H13]; swap; isplitl [H14]; swap; isplitl [H15]; swap; isplitl [H16]; swap; isplitl [H17]; swap
  isplitl [H18]; swap; isplitl [H19]; swap; isplitl [H20]; swap; isplitl [H21]; swap; isplitl [H22]; swap; isplitl [H23]; swap
  isplitl [H24]; swap; isplitl [H25]; swap; isplitl [H26]; swap; isplitl [H27]; swap; isplitl [H28]; swap; isplitl [H29]; swap
  isplitl [H30]; swap; isplitl [H31]; swap; isplitl [H32]; swap; isplitl [H33]; swap; isplitl [H34]; swap; isplitl [H35]; swap
  isplitl [H36]; swap; isplitl [H37]; swap; isplitl [H38]; swap; isplitl [H39]; swap; isplitl [H40]; swap; isplitl [H41]; swap
  isplitl [H42]; swap; isplitl [H43]; swap; isplitl [H44]; swap; isplitl [H45]; swap; isplitl [H46]; swap; isplitl [H47]; swap
  isplitl [H48]; swap; isplitl [H49]; swap; isplitl [H50]; swap; isplitl [H51]; swap; isplitl [H52]; swap; isplitl [H53]; swap
  isplitl [H54]; swap; isplitl [H55]; swap; isplitl [H56]; swap; isplitl [H57]; swap; isplitl [H58]; swap; isplitl [H59]; swap
  isplitl [H60]; swap; isplitl [H61]; swap; isplitl [H62]; swap; isplitl [H63]; swap; isplitl [H64]; swap; isplitl [H65]; swap
  isplitl [H66]; swap; isplitl [H67]; swap; isplitl [H68]; swap; isplitl [H69]; swap; isplitl [H70]; swap; isplitl [H71]; swap
  isplitl [H72]; swap
  (rw [after0_73]; iassumption); (rw [after0_72]; iassumption); (rw [after0_71]; iassumption); (rw [after0_70]; iassumption); (rw [after0_69]; iassumption); (rw [after0_68]; iassumption)
  (rw [after0_67]; iassumption); (rw [after0_66]; iassumption); (rw [after0_65]; iassumption); (rw [after0_64]; iassumption); (rw [after0_63]; iassumption); (rw [after0_62]; iassumption)
  (rw [after0_61]; iassumption); (rw [after0_60]; iassumption); (rw [after0_59]; iassumption); (rw [after0_58]; iassumption); (rw [after0_57]; iassumption); (rw [after0_56]; iassumption)
  (rw [after0_55]; iassumption); (rw [after0_54]; iassumption); (rw [after0_53]; iassumption); (rw [after0_52]; iassumption); (rw [after0_51]; iassumption); (rw [after0_50]; iassumption)
  (rw [after0_49]; iassumption); (rw [after0_48]; iassumption); (rw [after0_47]; iassumption); (rw [after0_46]; iassumption); (rw [after0_45]; iassumption); (rw [after0_44]; iassumption)
  (rw [after0_43]; iassumption); (rw [after0_42]; iassumption); (rw [after0_41]; iassumption); (rw [after0_40]; iassumption); (rw [after0_39]; iassumption); (rw [after0_38]; iassumption)
  (rw [after0_37]; iassumption); (rw [after0_36]; iassumption); (rw [after0_35]; iassumption); (rw [after0_34]; iassumption); (rw [after0_33]; iassumption); (rw [after0_32]; iassumption)
  (rw [after0_31]; iassumption); (rw [after0_30]; iassumption); (rw [after0_29]; iassumption); (rw [after0_28]; iassumption); (rw [after0_27]; iassumption); (rw [after0_26]; iassumption)
  (rw [after0_25]; iassumption); (rw [after0_24]; iassumption); (rw [after0_23]; iassumption); (rw [after0_22]; iassumption); (rw [after0_21]; iassumption); (rw [after0_20]; iassumption)
  (rw [after0_19]; iassumption); (rw [after0_18]; iassumption); (rw [after0_17]; iassumption); (rw [after0_16]; iassumption); (rw [after0_15]; iassumption); (rw [after0_14]; iassumption)
  (rw [after0_13]; iassumption); (rw [after0_12]; iassumption); (rw [after0_11]; iassumption); (rw [after0_10]; iassumption); (rw [after0_9]; iassumption); (rw [after0_8]; iassumption)
  (rw [after0_7]; iassumption); (rw [after0_6]; iassumption); (rw [after0_5]; iassumption); (rw [after0_4]; iassumption); (rw [after0_3]; iassumption); (rw [after0_2]; iassumption)
  (rw [after0_1]; iassumption); (rw [after0_0]; iassumption)

omit t in
/-- The table's row for the body is the body. -/
theorem defs₀_row (t : Fin cfg0.N) : defs₀ (F := F) .tc cfg0.body (cfg0.bodyArgs t (cfg0.slots t)) = bodyAt0 t := by
  unfold defs₀; rw [Defs.onTc_tc]

omit t in
set_option maxHeartbeats 40000000 in
/-- The body meets its specification at every point. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

/-! The run. -/

omit c t

set_option backward.isDefEq.respectTransparency.types false in
set_option maxHeartbeats 800000 in
/-- The run: every array of the pipeline ends at what the windows' buffers leave there, every other buffer as it was found, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument the kernel reads is left as it was found. -/
theorem kept {r : PUnit × MemSt nD τ sig (Elt F)} (h : Pipeline.FramePost cfgs (dats m) 0 (V m) r) (c : Dev nD) (w : Fin cfg0.W) (hw : (cfg0.win w).isOut = false) :
    r.2.mem ((cfg0.win w).arr.view.loc (c.tc : Thread nD τ)) = V m c (Pipeline.arrRef spec0 w) :=
  ((h c).1 w).trans (((dats m 0 c).arrAt_in w hw _).trans (A_eq m c w))

set_option maxHeartbeats 4440000 in
/-- The arguments end as they were launched. -/
theorem unchanged {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36) :=
  ⟨(kept m h c 0 rfl).trans (V_kept m c main_arg0 (by decide)),
    (kept m h c 1 rfl).trans (V_kept m c main_arg1 (by decide)),
    (kept m h c 2 rfl).trans (V_kept m c main_arg2 (by decide)),
    (kept m h c 3 rfl).trans (V_kept m c main_arg3 (by decide)),
    (kept m h c 4 rfl).trans (V_kept m c main_arg4 (by decide)),
    (kept m h c 5 rfl).trans (V_kept m c main_arg5 (by decide)),
    (kept m h c 6 rfl).trans (V_kept m c main_arg6 (by decide)),
    (kept m h c 7 rfl).trans (V_kept m c main_arg7 (by decide)),
    (kept m h c 8 rfl).trans (V_kept m c main_arg8 (by decide)),
    (kept m h c 9 rfl).trans (V_kept m c main_arg9 (by decide)),
    ((h c).2 main_arg10 (Pipeline.mem_restRefs_of main_arg10 (by decide) (by decide))).trans (V_kept m c main_arg10 (by decide)),
    ((h c).2 main_arg11 (Pipeline.mem_restRefs_of main_arg11 (by decide) (by decide))).trans (V_kept m c main_arg11 (by decide)),
    (kept m h c 12 rfl).trans (V_kept m c main_arg12 (by decide)),
    ((h c).2 main_arg13 (Pipeline.mem_restRefs_of main_arg13 (by decide) (by decide))).trans (V_kept m c main_arg13 (by decide)),
    (kept m h c 14 rfl).trans (V_kept m c main_arg14 (by decide)),
    (kept m h c 15 rfl).trans (V_kept m c main_arg15 (by decide)),
    (kept m h c 16 rfl).trans (V_kept m c main_arg16 (by decide)),
    (kept m h c 17 rfl).trans (V_kept m c main_arg17 (by decide)),
    (kept m h c 18 rfl).trans (V_kept m c main_arg18 (by decide)),
    ((h c).2 main_arg19 (Pipeline.mem_restRefs_of main_arg19 (by decide) (by decide))).trans (V_kept m c main_arg19 (by decide)),
    ((h c).2 main_arg20 (Pipeline.mem_restRefs_of main_arg20 (by decide) (by decide))).trans (V_kept m c main_arg20 (by decide)),
    (kept m h c 21 rfl).trans (V_kept m c main_arg21 (by decide)),
    ((h c).2 main_arg22 (Pipeline.mem_restRefs_of main_arg22 (by decide) (by decide))).trans (V_kept m c main_arg22 (by decide)),
    (kept m h c 23 rfl).trans (V_kept m c main_arg23 (by decide)),
    (kept m h c 24 rfl).trans (V_kept m c main_arg24 (by decide)),
    (kept m h c 25 rfl).trans (V_kept m c main_arg25 (by decide)),
    (kept m h c 26 rfl).trans (V_kept m c main_arg26 (by decide)),
    (kept m h c 27 rfl).trans (V_kept m c main_arg27 (by decide)),
    ((h c).2 main_arg28 (Pipeline.mem_restRefs_of main_arg28 (by decide) (by decide))).trans (V_kept m c main_arg28 (by decide)),
    ((h c).2 main_arg29 (Pipeline.mem_restRefs_of main_arg29 (by decide) (by decide))).trans (V_kept m c main_arg29 (by decide)),
    (kept m h c 30 rfl).trans (V_kept m c main_arg30 (by decide)),
    ((h c).2 main_arg31 (Pipeline.mem_restRefs_of main_arg31 (by decide) (by decide))).trans (V_kept m c main_arg31 (by decide)),
    (kept m h c 32 rfl).trans (V_kept m c main_arg32 (by decide)),
    (kept m h c 33 rfl).trans (V_kept m c main_arg33 (by decide)),
    (kept m h c 34 rfl).trans (V_kept m c main_arg34 (by decide)),
    (kept m h c 35 rfl).trans (V_kept m c main_arg35 (by decide)),
    (kept m h c 36 rfl).trans (V_kept m c main_arg36 (by decide))⟩

/-- The frame: the run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36))
      ∧ r.2.sem = fun _ => 0) :=
  (θ_run defs _ _).mono (fun _ h => ⟨fun c => unchanged m h.1 c, h.2⟩) (run_main_quiescent m ρ)

end Cert.Proof.AdamSmallBody

end

end
-- ==== Proof.AdamParts.lean ====
/- What the small weights' optimiser kernel stores: AdamW's step of the first device's columns of the devices' parts, for
   every size of weight, and layer by layer for the norms. -/
module

public import proofs.«01_k».proof.Proof.AdamW

@[expose] public section

noncomputable section

namespace Cert.Proof.AdamW

open Idealize.ShloMosaic

variable {N R C B : ℕ}

/-- The sum of the eight parts, of the first `B` of their columns. -/
def sums (hB : B ≤ C) (p : Vec Ideal ⟨3, ![8, R, C]⟩ .f32) : Vec Ideal ⟨2, ![R, B]⟩ .f32 :=
  fun j => ∑ s : Fin 8, p (ix3 s (j 0) (Fin.castLE hB (j 1)))

section

variable (p : Vec Ideal ⟨3, ![8, N, C]⟩ .f32) (r₀ : ℕ) (h : (⟨3, ![1, R, B]⟩ : Shape).ShapeCasts ⟨2, ![R, B]⟩)
  (l : ∀ s : Fin 8, ∀ a, (![s.val, r₀, 0] : Fin 3 → Nat) a + (⟨3, ![1, R, B]⟩ : Shape).size a ≤ (⟨3, ![8, N, C]⟩ : Shape).size a)

/-- A load of one part, from row `r₀` on, its leading axis dropped … -/
def loaded (s : Fin 8) : FVec Ideal ⟨2, ![R, B]⟩ .f32 :=
  shapeCast ⟨2, ![R, B]⟩ (View.ld p (Rect.unit (s := ⟨3, ![8, N, C]⟩) ![s.val, r₀, 0] (⟨3, ![1, R, B]⟩ : Shape).size (l s))) h

/-- … and the eight added up. -/
def total : FVec Ideal ⟨2, ![R, B]⟩ .f32 :=
  addf (addf (addf (addf (addf (addf (addf (loaded p r₀ h l 0) (loaded p r₀ h l 1)) (loaded p r₀ h l 2)) (loaded p r₀ h l 3)) (loaded p r₀ h l 4))
    (loaded p r₀ h l 5)) (loaded p r₀ h l 6)) (loaded p r₀ h l 7)

variable (hB : B ≤ C) (r : Fin R) (r' : Fin N) (hr : r'.val = r₀ + r.val) (k : Fin B)

include hr in
theorem loaded_apply (s : Fin 8) : loaded p r₀ h l s (ix2 r k) = p (ix3 s r' (Fin.castLE hB k)) := by
  refine (ValueIdx.shapeCast_1ab_ab_apply _ h r k).trans (congrArg p (funext fun a => Fin.ext ?_))
  match a with
  | ⟨0, _⟩ => show s.val + 1 * 0 = s.val; omega
  | ⟨1, _⟩ => show r₀ + 1 * r.val = r'.val; omega
  | ⟨2, _⟩ => show 0 + 1 * k.val = k.val; omega

include hr in
theorem total_apply : total p r₀ h l (ix2 r k) = ∑ s : Fin 8, p (ix3 s r' (Fin.castLE hB k)) := by
  show loaded p r₀ h l 0 (ix2 r k) + loaded p r₀ h l 1 (ix2 r k) + loaded p r₀ h l 2 (ix2 r k) + loaded p r₀ h l 3 (ix2 r k) + loaded p r₀ h l 4 (ix2 r k)
    + loaded p r₀ h l 5 (ix2 r k) + loaded p r₀ h l 6 (ix2 r k) + loaded p r₀ h l 7 (ix2 r k) = _
  simp only [loaded_apply p r₀ h l hB r r' hr k, Fin.sum_univ_eight]

end

/-- From the first row on, over all rows, they are the sum of the parts. -/
theorem total_sums (p : Vec Ideal ⟨3, ![8, R, C]⟩ .f32) (hB : B ≤ C) (h : (⟨3, ![1, R, B]⟩ : Shape).ShapeCasts ⟨2, ![R, B]⟩)
    (l : ∀ s : Fin 8, ∀ a, (![s.val, 0, 0] : Fin 3 → Nat) a + (⟨3, ![1, R, B]⟩ : Shape).size a ≤ (⟨3, ![8, R, C]⟩ : Shape).size a) :
    total p 0 h l = sums hB p := by
  funext j
  obtain ⟨r, k, rfl⟩ : ∃ (r : Fin R) (k : Fin B), j = ix2 r k := ⟨j 0, j 1, eq_ix2 j⟩
  exact total_apply p 0 h l hB r r (Nat.zero_add _).symm k

variable {S : Shape}

/-- The body's arithmetic, on whole arrays: the first moments … -/
def opM (m g : FVec Ideal S .f32) : FVec Ideal S .f32 :=
  addf (mulf (broadcast S (Scalar.ofBits .f32 0x3F666666#32)) m) (mulf (broadcast S (Scalar.ofBits .f32 0x3DCCCCCD#32)) g)

/-- … the second moments … -/
def opV (v g : FVec Ideal S .f32) : FVec Ideal S .f32 :=
  addf (mulf (broadcast S (Scalar.ofBits .f32 0x3F7FBE77#32)) v) (mulf (broadcast S (Scalar.ofBits .f32 0x3A83126F#32)) (mulf g g))

/-- … and the change. -/
def opD (w m v g : FVec Ideal S .f32) : FVec Ideal S .f32 :=
  mulf (broadcast S (Scalar.ofBits .f32 0xBA83126F#32))
    (addf (divf (divf (opM m g) (broadcast S (Scalar.ofBits .f32 0x3F26BD02#32)))
        (addf (sqrt (divf (opV v g) (broadcast S (Scalar.ofBits .f32 0x3C231ACC#32)))) (broadcast S (Scalar.ofBits .f32 0x322BCC77#32))))
      (mulf (broadcast S (Scalar.ofBits .f32 0x3C23D70A#32)) w))

theorem opM_eq (m g : Vec Ideal S .f32) : opM m g = newM m g := rfl

theorem opV_eq (v g : Vec Ideal S .f32) : opV v g = newV v g := rfl

theorem opD_eq (w m v g : Vec Ideal S .f32) : opD w m v g = delta w m v g := rfl

variable {K L : ℕ}

theorem layerRow (hN : L * K ≤ N) (l : Fin L) (k : Fin K) : l.val * K + k.val < N :=
  calc l.val * K + k.val < l.val * K + K := Nat.add_lt_add_left k.isLt _
    _ = (l.val + 1) * K := (Nat.succ_mul _ _).symm
    _ ≤ L * K := Nat.mul_le_mul_right K l.isLt
    _ ≤ N := hN

/-- The gradient of the norms' weights, held row by row of a layer: row `k` of layer `l` is row `l K + k` of the parts. -/
def lnSums (hN : L * K ≤ N) (hB : B ≤ C) (p : Vec Ideal ⟨3, ![8, N, C]⟩ .f32) : Vec Ideal ⟨3, ![K, L, B]⟩ .f32 :=
  fun j => ∑ s : Fin 8, p (ix3 s (⟨(j 1).val * K + (j 0).val, layerRow hN (j 1) (j 0)⟩ : Fin N) (Fin.castLE hB (j 2)))

section

variable (hN : L * K ≤ N) (hB : B ≤ C) (p : Vec Ideal ⟨3, ![8, N, C]⟩ .f32) (w m v : Vec Ideal ⟨3, ![K, L, B]⟩ .f32) (k : Fin K) (l : Fin L)
  (b : ∀ a, (![k.val, l.val, 0] : Fin 3 → Nat) a + (⟨3, ![1, 1, B]⟩ : Shape).size a ≤ (⟨3, ![K, L, B]⟩ : Shape).size a)
  (h : (⟨3, ![1, 1, B]⟩ : Shape).ShapeCasts ⟨2, ![1, B]⟩) (h' : (⟨2, ![1, B]⟩ : Shape).ShapeCasts ⟨3, ![1, 1, B]⟩)
  (d : ∀ s : Fin 8, ∀ a, (![s.val, l.val * K + k.val, 0] : Fin 3 → Nat) a + (⟨3, ![1, 1, B]⟩ : Shape).size a ≤ (⟨3, ![8, N, C]⟩ : Shape).size a)

/-- The block of one row of one layer. -/
def lnRow (x : Vec Ideal ⟨3, ![K, L, B]⟩ .f32) : Vec Ideal ⟨3, ![1, 1, B]⟩ .f32 :=
  View.ld x (Rect.unit (s := ⟨3, ![K, L, B]⟩) ![k.val, l.val, 0] (⟨3, ![1, 1, B]⟩ : Shape).size b)

theorem lnRow_apply (x : Vec Ideal ⟨3, ![K, L, B]⟩ .f32) (c : Fin B) : lnRow k l b x (ix3 (0 : Fin 1) (0 : Fin 1) c) = x (ix3 k l c) := by
  refine congrArg x (funext fun a => Fin.ext ?_)
  match a with
  | ⟨0, _⟩ => show k.val + 1 * 0 = k.val; omega
  | ⟨1, _⟩ => show l.val + 1 * 0 = l.val; omega
  | ⟨2, _⟩ => show 0 + 1 * c.val = c.val; omega

theorem lnTotal_eq : total p (l.val * K + k.val) h d = flat (lnRow k l b (lnSums hN hB p)) := by
  funext j
  obtain ⟨r, c, rfl⟩ : ∃ (r : Fin 1) (c : Fin B), j = ix2 r c := ⟨j 0, j 1, eq_ix2 j⟩
  obtain rfl : r = 0 := Subsingleton.elim _ _
  rw [total_apply p _ h d hB 0 (⟨l.val * K + k.val, layerRow hN l k⟩ : Fin N) rfl c]
  show _ = lnRow k l b (lnSums hN hB p) (ix3 (0 : Fin 1) (0 : Fin 1) c)
  rw [lnRow_apply]
  rfl

/-- What is stored for one row of one layer is that block of AdamW's step. -/
theorem ln_grad : shapeCast ⟨3, ![1, 1, B]⟩ (total p (l.val * K + k.val) h d) h' = lnRow k l b (lnSums hN hB p) := by
  rw [lnTotal_eq hN hB p k l b h d]
  exact cast_of_flat _ h'

theorem ln_newM : shapeCast ⟨3, ![1, 1, B]⟩ (opM (shapeCast ⟨2, ![1, B]⟩ (lnRow k l b m) h) (total p (l.val * K + k.val) h d)) h'
    = lnRow k l b (newM m (lnSums hN hB p)) := by
  rw [lnTotal_eq hN hB p k l b h d]
  exact storeM_eq _ _ h h'

theorem ln_newV : shapeCast ⟨3, ![1, 1, B]⟩ (opV (shapeCast ⟨2, ![1, B]⟩ (lnRow k l b v) h) (total p (l.val * K + k.val) h d)) h'
    = lnRow k l b (newV v (lnSums hN hB p)) := by
  rw [lnTotal_eq hN hB p k l b h d]
  exact storeV_eq _ _ h h'

theorem ln_delta : shapeCast ⟨3, ![1, 1, B]⟩ (opD (shapeCast ⟨2, ![1, B]⟩ (lnRow k l b w) h) (shapeCast ⟨2, ![1, B]⟩ (lnRow k l b m) h)
      (shapeCast ⟨2, ![1, B]⟩ (lnRow k l b v) h) (total p (l.val * K + k.val) h d)) h'
    = lnRow k l b (delta w m v (lnSums hN hB p)) := by
  rw [lnTotal_eq hN hB p k l b h d]
  exact storeD_eq _ _ _ _ h h'

end

end Cert.Proof.AdamW

end
-- ==== Proof.AdamSmallRef.lean ====
/- The reference of the small weights' step: its results are the gradients and AdamW's steps of the first device's columns. -/
module

public import proofs.«01_k».proof.Proof.Gen.AdamSmallRefIdeal.Read
public import proofs.«01_k».proof.Proof.AdamParts
public import Idealize.ShloMosaic.Lib.Pointwise

@[expose] public section

set_option maxRecDepth 16384

noncomputable section

namespace Cert.Proof.AdamSmallRef

open Cert.AdamSmallRefIdeal Cert.AdamSmallRefIdeal.Gen Cert.AdamSmallRefIdeal.Read
open Idealize.ShloMosaic

/-- The norms' weights as the step holds them: row by row of a layer. -/
def layers (x : Vec Ideal S2x3x128 .f32) : Vec Ideal S3x2x128 .f32 := transpose S3x2x128 [1, 0, 2] x transposes_S2x3x128_S3x2x128_1_0_2

/-- A bias as one row. -/
def row (x : Vec Ideal S512 .f32) : Vec Ideal S1x512 .f32 := shapeCast S1x512 x shapeCasts_S512_S1x512

/-- The gradient of the norms' weights. -/
abbrev lnGrad (p : Vec Ideal S8x6x1024 .f32) : Vec Ideal S3x2x128 .f32 := AdamW.lnSums (K := 3) (L := 2) (N := 6) (C := 1024) (B := 128) (by decide) (by decide) p

/-! The gradients. -/

theorem grad0 (p : Vec Ideal S8x2x1024 .f32) : val_main_v1 (F := Ideal) p = AdamW.sums (R := 2) (C := 1024) (B := 128) (by decide) p := by
  funext i
  obtain ⟨a, b, rfl⟩ : ∃ (a : Fin 2) (b : Fin 128), i = ix2 a b := ⟨i 0, i 1, eq_ix2 i⟩
  pointwise [AdamW.sums, val_main_v1, val_main_v0, val_main_cst]
  rfl

theorem grad1 (p : Vec Ideal S8x6x1024 .f32) : val_main_v29 (F := Ideal) p = lnGrad p := by
  funext i
  obtain ⟨a, b, c, rfl⟩ : ∃ (a : Fin 3) (b : Fin 2) (c : Fin 128), i = ix3 a b c := ⟨i 0, i 1, i 2, eq_ix3 i⟩
  pointwise [AdamW.lnSums, val_main_v29, val_main_v28, val_main_v27, val_main_v26, val_main_cst_9]
  rfl

theorem grad2 (p : Vec Ideal S8x6x1024 .f32) : val_main_v60 (F := Ideal) p = lnGrad p := by
  funext i
  obtain ⟨a, b, c, rfl⟩ : ∃ (a : Fin 3) (b : Fin 2) (c : Fin 128), i = ix3 a b c := ⟨i 0, i 1, i 2, eq_ix3 i⟩
  pointwise [AdamW.lnSums, val_main_v60, val_main_v59, val_main_v58, val_main_v57, val_main_cst_19]
  rfl

theorem grad3 (p : Vec Ideal S8x1x128 .f32) : val_main_v88 (F := Ideal) p = AdamW.sums (R := 1) (C := 128) (B := 128) (by decide) p := by
  funext i
  obtain ⟨a, b, rfl⟩ : ∃ (a : Fin 1) (b : Fin 128), i = ix2 a b := ⟨i 0, i 1, eq_ix2 i⟩
  obtain rfl : a = 0 := Subsingleton.elim _ _
  pointwise [AdamW.sums, val_main_v88, val_main_cst_29]
  rfl

theorem grad4 (p : Vec Ideal S8x1x512 .f32) : val_main_v115 (F := Ideal) p = AdamW.sums (R := 1) (C := 512) (B := 512) (by decide) p := by
  funext i
  obtain ⟨a, b, rfl⟩ : ∃ (a : Fin 1) (b : Fin 512), i = ix2 a b := ⟨i 0, i 1, eq_ix2 i⟩
  obtain rfl : a = 0 := Subsingleton.elim _ _
  pointwise [AdamW.sums, val_main_v115, val_main_v114, val_main_v113, val_main_cst_39]
  rfl

theorem grad5 (p : Vec Ideal S8x1x1024 .f32) : val_main_v143 (F := Ideal) p = AdamW.sums (R := 1) (C := 1024) (B := 1024) (by decide) p := by
  funext i
  obtain ⟨a, b, rfl⟩ : ∃ (a : Fin 1) (b : Fin 1024), i = ix2 a b := ⟨i 0, i 1, eq_ix2 i⟩
  obtain rfl : a = 0 := Subsingleton.elim _ _
  pointwise [AdamW.sums, val_main_v143, val_main_cst_49]
  rfl

theorem grad6 (p : Vec Ideal S8x1x128 .f32) : val_main_v169 (F := Ideal) p = AdamW.sums (R := 1) (C := 128) (B := 16) (by decide) p := by
  funext i
  obtain ⟨a, b, rfl⟩ : ∃ (a : Fin 1) (b : Fin 16), i = ix2 a b := ⟨i 0, i 1, eq_ix2 i⟩
  obtain rfl : a = 0 := Subsingleton.elim _ _
  pointwise [AdamW.sums, val_main_v169, val_main_v168, val_main_cst_59]
  rfl

theorem grad7 (p : Vec Ideal S8x1x1024 .f32) : val_main_v194 (F := Ideal) p = AdamW.sums (R := 1) (C := 1024) (B := 1024) (by decide) p := by
  funext i
  obtain ⟨a, b, rfl⟩ : ∃ (a : Fin 1) (b : Fin 1024), i = ix2 a b := ⟨i 0, i 1, eq_ix2 i⟩
  obtain rfl : a = 0 := Subsingleton.elim _ _
  pointwise [AdamW.sums, val_main_v194, val_main_cst_69]
  rfl

theorem grad8 (p : Vec Ideal S8x2x1024 .f32) : val_main_v219 (F := Ideal) p = AdamW.sums (R := 2) (C := 1024) (B := 1024) (by decide) p := by
  funext i
  obtain ⟨a, b, rfl⟩ : ∃ (a : Fin 2) (b : Fin 1024), i = ix2 a b := ⟨i 0, i 1, eq_ix2 i⟩
  pointwise [AdamW.sums, val_main_v219, val_main_cst_79]
  rfl

theorem loss (p : Vec Ideal S8x1x128 .f32) : val_main_v244 (F := Ideal) p = AdamW.sums (R := 1) (C := 128) (B := 128) (by decide) p := by
  funext i
  obtain ⟨a, b, rfl⟩ : ∃ (a : Fin 1) (b : Fin 128), i = ix2 a b := ⟨i 0, i 1, eq_ix2 i⟩
  obtain rfl : a = 0 := Subsingleton.elim _ _
  pointwise [AdamW.sums, val_main_v244, val_main_cst_89]
  rfl

/-! The steps: the change and the two moments. -/

theorem delta0 (p : Vec Ideal S8x2x1024 .f32) (w m v : Vec Ideal S2x128 .f32) :
    val_main_v25 (F := Ideal) p w m v = AdamW.delta w m v (AdamW.sums (R := 2) (C := 1024) (B := 128) (by decide) p) := by
  rw [← grad0]
  rfl

theorem newM0 (p : Vec Ideal S8x2x1024 .f32) (m : Vec Ideal S2x128 .f32) : val_main_v6 (F := Ideal) p m = AdamW.newM m (AdamW.sums (R := 2) (C := 1024) (B := 128) (by decide) p) := by
  rw [← grad0]
  rfl

theorem newV0 (p : Vec Ideal S8x2x1024 .f32) (v : Vec Ideal S2x128 .f32) : val_main_v12 (F := Ideal) p v = AdamW.newV v (AdamW.sums (R := 2) (C := 1024) (B := 128) (by decide) p) := by
  rw [← grad0]
  rfl

theorem delta1 (p : Vec Ideal S8x6x1024 .f32) (w m v : Vec Ideal S2x3x128 .f32) :
    val_main_v56 (F := Ideal) p w m v = AdamW.delta (layers w) (layers m) (layers v) (lnGrad p) := by
  rw [← grad1]
  rfl

theorem newM1 (p : Vec Ideal S8x6x1024 .f32) (m : Vec Ideal S2x3x128 .f32) : val_main_v37 (F := Ideal) p m = AdamW.newM (layers m) (lnGrad p) := by
  rw [← grad1]
  rfl

theorem newV1 (p : Vec Ideal S8x6x1024 .f32) (v : Vec Ideal S2x3x128 .f32) : val_main_v43 (F := Ideal) p v = AdamW.newV (layers v) (lnGrad p) := by
  rw [← grad1]
  rfl

theorem delta2 (p : Vec Ideal S8x6x1024 .f32) (w m v : Vec Ideal S2x3x128 .f32) :
    val_main_v87 (F := Ideal) p w m v = AdamW.delta (layers w) (layers m) (layers v) (lnGrad p) := by
  rw [← grad2]
  rfl

theorem newM2 (p : Vec Ideal S8x6x1024 .f32) (m : Vec Ideal S2x3x128 .f32) : val_main_v68 (F := Ideal) p m = AdamW.newM (layers m) (lnGrad p) := by
  rw [← grad2]
  rfl

theorem newV2 (p : Vec Ideal S8x6x1024 .f32) (v : Vec Ideal S2x3x128 .f32) : val_main_v74 (F := Ideal) p v = AdamW.newV (layers v) (lnGrad p) := by
  rw [← grad2]
  rfl

theorem delta3 (p : Vec Ideal S8x1x128 .f32) (w m v : Vec Ideal S1x128 .f32) :
    val_main_v112 (F := Ideal) p w m v = AdamW.delta w m v (AdamW.sums (R := 1) (C := 128) (B := 128) (by decide) p) := by
  rw [← grad3]
  rfl

theorem newM3 (p : Vec Ideal S8x1x128 .f32) (m : Vec Ideal S1x128 .f32) : val_main_v93 (F := Ideal) p m = AdamW.newM m (AdamW.sums (R := 1) (C := 128) (B := 128) (by decide) p) := by
  rw [← grad3]
  rfl

theorem newV3 (p : Vec Ideal S8x1x128 .f32) (v : Vec Ideal S1x128 .f32) : val_main_v99 (F := Ideal) p v = AdamW.newV v (AdamW.sums (R := 1) (C := 128) (B := 128) (by decide) p) := by
  rw [← grad3]
  rfl

theorem delta4 (p : Vec Ideal S8x1x512 .f32) (w m v : Vec Ideal S512 .f32) :
    val_main_v142 (F := Ideal) p w m v = AdamW.delta (row w) (row m) (row v) (AdamW.sums (R := 1) (C := 512) (B := 512) (by decide) p) := by
  rw [← grad4]
  rfl

theorem newM4 (p : Vec Ideal S8x1x512 .f32) (m : Vec Ideal S512 .f32) : val_main_v123 (F := Ideal) p m = AdamW.newM (row m) (AdamW.sums (R := 1) (C := 512) (B := 512) (by decide) p) := by
  rw [← grad4]
  rfl

theorem newV4 (p : Vec Ideal S8x1x512 .f32) (v : Vec Ideal S512 .f32) : val_main_v129 (F := Ideal) p v = AdamW.newV (row v) (AdamW.sums (R := 1) (C := 512) (B := 512) (by decide) p) := by
  rw [← grad4]
  rfl

theorem delta5 (p : Vec Ideal S8x1x1024 .f32) (w m v : Vec Ideal S1x1024 .f32) :
    val_main_v167 (F := Ideal) p w m v = AdamW.delta w m v (AdamW.sums (R := 1) (C := 1024) (B := 1024) (by decide) p) := by
  rw [← grad5]
  rfl

theorem newM5 (p : Vec Ideal S8x1x1024 .f32) (m : Vec Ideal S1x1024 .f32) : val_main_v148 (F := Ideal) p m = AdamW.newM m (AdamW.sums (R := 1) (C := 1024) (B := 1024) (by decide) p) := by
  rw [← grad5]
  rfl

theorem newV5 (p : Vec Ideal S8x1x1024 .f32) (v : Vec Ideal S1x1024 .f32) : val_main_v154 (F := Ideal) p v = AdamW.newV v (AdamW.sums (R := 1) (C := 1024) (B := 1024) (by decide) p) := by
  rw [← grad5]
  rfl

theorem delta6 (p : Vec Ideal S8x1x128 .f32) (w m v : Vec Ideal S1x16 .f32) :
    val_main_v193 (F := Ideal) p w m v = AdamW.delta w m v (AdamW.sums (R := 1) (C := 128) (B := 16) (by decide) p) := by
  rw [← grad6]
  rfl

theorem newM6 (p : Vec Ideal S8x1x128 .f32) (m : Vec Ideal S1x16 .f32) : val_main_v174 (F := Ideal) p m = AdamW.newM m (AdamW.sums (R := 1) (C := 128) (B := 16) (by decide) p) := by
  rw [← grad6]
  rfl

theorem newV6 (p : Vec Ideal S8x1x128 .f32) (v : Vec Ideal S1x16 .f32) : val_main_v180 (F := Ideal) p v = AdamW.newV v (AdamW.sums (R := 1) (C := 128) (B := 16) (by decide) p) := by
  rw [← grad6]
  rfl

theorem delta7 (p : Vec Ideal S8x1x1024 .f32) (w m v : Vec Ideal S1x1024 .f32) :
    val_main_v218 (F := Ideal) p w m v = AdamW.delta w m v (AdamW.sums (R := 1) (C := 1024) (B := 1024) (by decide) p) := by
  rw [← grad7]
  rfl

theorem newM7 (p : Vec Ideal S8x1x1024 .f32) (m : Vec Ideal S1x1024 .f32) : val_main_v199 (F := Ideal) p m = AdamW.newM m (AdamW.sums (R := 1) (C := 1024) (B := 1024) (by decide) p) := by
  rw [← grad7]
  rfl

theorem newV7 (p : Vec Ideal S8x1x1024 .f32) (v : Vec Ideal S1x1024 .f32) : val_main_v205 (F := Ideal) p v = AdamW.newV v (AdamW.sums (R := 1) (C := 1024) (B := 1024) (by decide) p) := by
  rw [← grad7]
  rfl

theorem delta8 (p : Vec Ideal S8x2x1024 .f32) (w m v : Vec Ideal S2x1024 .f32) :
    val_main_v243 (F := Ideal) p w m v = AdamW.delta w m v (AdamW.sums (R := 2) (C := 1024) (B := 1024) (by decide) p) := by
  rw [← grad8]
  rfl

theorem newM8 (p : Vec Ideal S8x2x1024 .f32) (m : Vec Ideal S2x1024 .f32) : val_main_v224 (F := Ideal) p m = AdamW.newM m (AdamW.sums (R := 2) (C := 1024) (B := 1024) (by decide) p) := by
  rw [← grad8]
  rfl

theorem newV8 (p : Vec Ideal S8x2x1024 .f32) (v : Vec Ideal S2x1024 .f32) : val_main_v230 (F := Ideal) p v = AdamW.newV v (AdamW.sums (R := 2) (C := 1024) (B := 1024) (by decide) p) := by
  rw [← grad8]
  rfl

end Cert.Proof.AdamSmallRef

end
-- ==== Proof.AdamSmallVal.lean ====
/- What the small weights' kernel leaves in each result's buffer, of the whole arrays it is given: the sums of the parts, and AdamW's steps of those. -/
module

public import proofs.«01_k».proof.Proof.AdamSmallOut
public import proofs.«01_k».proof.Proof.AdamParts
public import proofs.«01_k».proof.Proof.AdamSmallRef
public import Idealize.ShloMosaic.Lib.Pipeline.ValueKit
public import Idealize.ShloMosaic.Lib.Claim

@[expose] public section

set_option maxRecDepth 16384

noncomputable section

namespace Cert.Proof.AdamSmallVal

open Cert.AdamSmallIdeal Cert.AdamSmallIdeal.Gen AdamSmallBody
open Idealize.ShloMosaic Idealize.ShloMosaic.TcCoe Idealize.SL.Sem

theorem zeros : (![0, 0] : Fin 2 → Nat) = fun _ => 0 := funext fun a => by fin_cases a <;> rfl

/-! What the body leaves in each result's buffer, of the whole arrays it is given. -/

section

/-- The six blocks of the norms' arrays, one for each row of each layer, make up the array. -/
theorem pieces (G : Vec Ideal S3x2x128 .f32) (b : ∀ (k : Fin 3) (l : Fin 2) (a : Fin 3), (![k.val, l.val, 0] : Fin 3 → Nat) a + S1x1x128.size a ≤ S3x2x128.size a)
    {p0 p1 p2 p3 p4 p5 : Vec Ideal S1x1x128 .f32} (h0 : p0 = AdamW.lnRow 2 1 (b 2 1) G) (h1 : p1 = AdamW.lnRow 2 0 (b 2 0) G) (h2 : p2 = AdamW.lnRow 1 1 (b 1 1) G)
    (h3 : p3 = AdamW.lnRow 1 0 (b 1 0) G) (h4 : p4 = AdamW.lnRow 0 1 (b 0 1) G) (h5 : p5 = AdamW.lnRow 0 0 (b 0 0) G) :
    View.canon ([⟨rect71, p0⟩, ⟨rect62, p1⟩, ⟨rect53, p2⟩, ⟨rect44, p3⟩, ⟨rect35, p4⟩, ⟨rect26, p5⟩] : List (View.Piece (Elt Ideal) S3x2x128 .f32)) = G := by
  subst h0 h1 h2 h3 h4 h5
  funext y
  refine View.canon_apply_of_pieces G _ (fun q hq => ?_) y (cover_rows _ _ _ _ _ _ y)
  simp only [List.mem_cons, List.not_mem_nil, or_false] at hq
  rcases hq with rfl | rfl | rfl | rfl | rfl | rfl <;> exact fun x => rfl

theorem rows : ∀ (k : Fin 3) (l : Fin 2) (a : Fin 3), (![k.val, l.val, 0] : Fin 3 → Nat) a + S1x1x128.size a ≤ S3x2x128.size a := by decide

theorem loads : ∀ (k : Fin 3) (l : Fin 2) (s : Fin 8) (a : Fin 3), (![s.val, l.val * 3 + k.val, 0] : Fin 3 → Nat) a + S1x1x128.size a ≤ S8x6x1024.size a := by decide

variable (x0 : Vec Ideal S8x2x1024 .f32) (x1 : Vec Ideal S8x6x1024 .f32) (x2 : Vec Ideal S8x6x1024 .f32) (x3 : Vec Ideal S8x1x128 .f32) (x4 : Vec Ideal S8x1x512 .f32) (x5 : Vec Ideal S8x1x1024 .f32) (x6 : Vec Ideal S8x1x128 .f32) (x7 : Vec Ideal S8x1x1024 .f32) (x8 : Vec Ideal S8x2x1024 .f32) (x9 : Vec Ideal S2x128 .f32) (x10 : Vec Ideal S3x2x128 .f32) (x11 : Vec Ideal S3x2x128 .f32) (x12 : Vec Ideal S1x128 .f32) (x13 : Vec Ideal S1x512 .f32) (x14 : Vec Ideal S1x1024 .f32) (x15 : Vec Ideal S1x16 .f32) (x16 : Vec Ideal S1x1024 .f32) (x17 : Vec Ideal S2x1024 .f32) (x18 : Vec Ideal S2x128 .f32) (x19 : Vec Ideal S3x2x128 .f32) (x20 : Vec Ideal S3x2x128 .f32) (x21 : Vec Ideal S1x128 .f32) (x22 : Vec Ideal S1x512 .f32) (x23 : Vec Ideal S1x1024 .f32) (x24 : Vec Ideal S1x16 .f32) (x25 : Vec Ideal S1x1024 .f32) (x26 : Vec Ideal S2x1024 .f32) (x27 : Vec Ideal S2x128 .f32) (x28 : Vec Ideal S3x2x128 .f32) (x29 : Vec Ideal S3x2x128 .f32) (x30 : Vec Ideal S1x128 .f32) (x31 : Vec Ideal S1x512 .f32) (x32 : Vec Ideal S1x1024 .f32) (x33 : Vec Ideal S1x16 .f32) (x34 : Vec Ideal S1x1024 .f32) (x35 : Vec Ideal S2x1024 .f32) (x36 : Vec Ideal S8x1x128 .f32)

theorem out37 : left37 x0 = AdamW.sums (R := 2) (C := 1024) (B := 128) (by decide) x0 := by
  unfold left37 val151
  rw [View.canon_unit_zero zeros]
  exact AdamW.total_sums x0 _ _ (by decide)

theorem out38 : left38 x0 x9 x18 x27 = AdamW.delta x9 x18 x27 (AdamW.sums (R := 2) (C := 1024) (B := 128) (by decide) x0) := by
  unfold left38 val153 val152 val151
  rw [View.canon_unit_zero zeros]
  simp only [View.ld_unit_zero (S := S2x128) zeros]
  exact congrArg (AdamW.opD x9 x18 x27) (AdamW.total_sums x0 _ _ (by decide))

theorem out39 : left39 x0 x18 = AdamW.newM x18 (AdamW.sums (R := 2) (C := 1024) (B := 128) (by decide) x0) := by
  unfold left39 val153 val151
  rw [View.canon_unit_zero zeros]
  simp only [View.ld_unit_zero (S := S2x128) zeros]
  exact congrArg (AdamW.opM x18) (AdamW.total_sums x0 _ _ (by decide))

theorem out40 : left40 x0 x27 = AdamW.newV x27 (AdamW.sums (R := 2) (C := 1024) (B := 128) (by decide) x0) := by
  unfold left40 val152 val151
  rw [View.canon_unit_zero zeros]
  simp only [View.ld_unit_zero (S := S2x128) zeros]
  exact congrArg (AdamW.opV x27) (AdamW.total_sums x0 _ _ (by decide))

theorem out41 : left41 x1 = AdamSmallRef.lnGrad x1 := by
  unfold left41 val175 val172 val167 val162 val158 val154
  have h := fun (k : Fin 3) (l : Fin 2) => AdamW.ln_grad (K := 3) (L := 2) (N := 6) (C := 1024) (B := 128) (by decide) (by decide) x1 k l (rows k l) shapeCasts_S1x1x128_S1x128 shapeCasts_S1x128_S1x1x128 (loads k l)
  exact pieces _ rows (h 2 1) (h 2 0) (h 1 1) (h 1 0) (h 0 1) (h 0 0)

theorem out42 : left42 x1 x10 x19 x28 = AdamW.delta x10 x19 x28 (AdamSmallRef.lnGrad x1) := by
  unfold left42 val177 val176 val175 val174 val173 val172 val171 val170 val169 val168 val167 val166 val165 val164 val163 val162 val161 val160 val159 val158 val157 val156 val155 val154
  have h := fun (k : Fin 3) (l : Fin 2) => AdamW.ln_delta (K := 3) (L := 2) (N := 6) (C := 1024) (B := 128) (by decide) (by decide) x1 x10 x19 x28 k l (rows k l) shapeCasts_S1x1x128_S1x128 shapeCasts_S1x128_S1x1x128 (loads k l)
  exact pieces _ rows (h 2 1) (h 2 0) (h 1 1) (h 1 0) (h 0 1) (h 0 0)

theorem out43 : left43 x1 x19 = AdamW.newM x19 (AdamSmallRef.lnGrad x1) := by
  unfold left43 val177 val176 val175 val174 val173 val172 val171 val169 val168 val167 val166 val165 val163 val162 val161 val158 val155 val154
  have h := fun (k : Fin 3) (l : Fin 2) => AdamW.ln_newM (K := 3) (L := 2) (N := 6) (C := 1024) (B := 128) (by decide) (by decide) x1 x19 k l (rows k l) shapeCasts_S1x1x128_S1x128 shapeCasts_S1x128_S1x1x128 (loads k l)
  exact pieces _ rows (h 2 1) (h 2 0) (h 1 1) (h 1 0) (h 0 1) (h 0 0)

theorem out44 : left44 x1 x28 = AdamW.newV x28 (AdamSmallRef.lnGrad x1) := by
  unfold left44 val176 val175 val173 val172 val170 val168 val167 val164 val163 val162 val160 val159 val158 val157 val156 val154
  have h := fun (k : Fin 3) (l : Fin 2) => AdamW.ln_newV (K := 3) (L := 2) (N := 6) (C := 1024) (B := 128) (by decide) (by decide) x1 x28 k l (rows k l) shapeCasts_S1x1x128_S1x128 shapeCasts_S1x128_S1x1x128 (loads k l)
  exact pieces _ rows (h 2 1) (h 2 0) (h 1 1) (h 1 0) (h 0 1) (h 0 0)

theorem out45 : left45 x2 = AdamSmallRef.lnGrad x2 := by
  unfold left45 val183 val182 val181
  have h := fun (k : Fin 3) (l : Fin 2) => AdamW.ln_grad (K := 3) (L := 2) (N := 6) (C := 1024) (B := 128) (by decide) (by decide) x2 k l (rows k l) shapeCasts_S1x1x128_S1x128 shapeCasts_S1x128_S1x1x128 (loads k l)
  exact pieces _ rows (h 2 1) (h 2 0) (h 1 1) (h 1 0) (h 0 1) (h 0 0)

theorem out46 : left46 x2 x11 x20 x29 = AdamW.delta x11 x20 x29 (AdamSmallRef.lnGrad x2) := by
  unfold left46 val183 val182 val181 val180 val179 val178
  have h := fun (k : Fin 3) (l : Fin 2) => AdamW.ln_delta (K := 3) (L := 2) (N := 6) (C := 1024) (B := 128) (by decide) (by decide) x2 x11 x20 x29 k l (rows k l) shapeCasts_S1x1x128_S1x128 shapeCasts_S1x128_S1x1x128 (loads k l)
  exact pieces _ rows (h 2 1) (h 2 0) (h 1 1) (h 1 0) (h 0 1) (h 0 0)

theorem out47 : left47 x2 x20 = AdamW.newM x20 (AdamSmallRef.lnGrad x2) := by
  unfold left47 val183 val182 val181 val180 val179 val178
  have h := fun (k : Fin 3) (l : Fin 2) => AdamW.ln_newM (K := 3) (L := 2) (N := 6) (C := 1024) (B := 128) (by decide) (by decide) x2 x20 k l (rows k l) shapeCasts_S1x1x128_S1x128 shapeCasts_S1x128_S1x1x128 (loads k l)
  exact pieces _ rows (h 2 1) (h 2 0) (h 1 1) (h 1 0) (h 0 1) (h 0 0)

theorem out48 : left48 x2 x29 = AdamW.newV x29 (AdamSmallRef.lnGrad x2) := by
  unfold left48 val183 val182 val181 val180 val179 val178
  have h := fun (k : Fin 3) (l : Fin 2) => AdamW.ln_newV (K := 3) (L := 2) (N := 6) (C := 1024) (B := 128) (by decide) (by decide) x2 x29 k l (rows k l) shapeCasts_S1x1x128_S1x128 shapeCasts_S1x128_S1x1x128 (loads k l)
  exact pieces _ rows (h 2 1) (h 2 0) (h 1 1) (h 1 0) (h 0 1) (h 0 0)

theorem out49 : left49 x3 = AdamW.sums (R := 1) (C := 128) (B := 128) (by decide) x3 := by
  unfold left49 val184
  rw [View.canon_unit_zero zeros]
  exact AdamW.total_sums x3 _ _ (by decide)

theorem out50 : left50 x3 x12 x21 x30 = AdamW.delta x12 x21 x30 (AdamW.sums (R := 1) (C := 128) (B := 128) (by decide) x3) := by
  unfold left50 val184
  rw [View.canon_unit_zero zeros]
  simp only [View.ld_unit_zero (S := S1x128) zeros]
  exact congrArg (AdamW.opD x12 x21 x30) (AdamW.total_sums x3 _ _ (by decide))

theorem out51 : left51 x3 x21 = AdamW.newM x21 (AdamW.sums (R := 1) (C := 128) (B := 128) (by decide) x3) := by
  unfold left51 val184
  rw [View.canon_unit_zero zeros]
  simp only [View.ld_unit_zero (S := S1x128) zeros]
  exact congrArg (AdamW.opM x21) (AdamW.total_sums x3 _ _ (by decide))

theorem out52 : left52 x3 x30 = AdamW.newV x30 (AdamW.sums (R := 1) (C := 128) (B := 128) (by decide) x3) := by
  unfold left52 val184
  rw [View.canon_unit_zero zeros]
  simp only [View.ld_unit_zero (S := S1x128) zeros]
  exact congrArg (AdamW.opV x30) (AdamW.total_sums x3 _ _ (by decide))

theorem out53 : left53 x4 = AdamW.sums (R := 1) (C := 512) (B := 512) (by decide) x4 := by
  unfold left53
  rw [View.canon_unit_zero zeros]
  exact AdamW.total_sums x4 _ _ (by decide)

theorem out54 : left54 x4 x13 x22 x31 = AdamW.delta x13 x22 x31 (AdamW.sums (R := 1) (C := 512) (B := 512) (by decide) x4) := by
  unfold left54 val185
  rw [View.canon_unit_zero zeros]
  simp only [View.ld_unit_zero (S := S1x512) zeros]
  unfold k0_pay127 k0_pay126 k0_pay125 k0_pay124
  simp only [shapeCast_self]
  exact congrArg (AdamW.opD x13 x22 x31) (AdamW.total_sums x4 _ _ (by decide))

theorem out55 : left55 x4 x22 = AdamW.newM x22 (AdamW.sums (R := 1) (C := 512) (B := 512) (by decide) x4) := by
  unfold left55 val185
  rw [View.canon_unit_zero zeros]
  simp only [View.ld_unit_zero (S := S1x512) zeros]
  unfold k0_pay125
  simp only [shapeCast_self]
  exact congrArg (AdamW.opM x22) (AdamW.total_sums x4 _ _ (by decide))

theorem out56 : left56 x4 x31 = AdamW.newV x31 (AdamW.sums (R := 1) (C := 512) (B := 512) (by decide) x4) := by
  unfold left56 val185
  rw [View.canon_unit_zero zeros]
  simp only [View.ld_unit_zero (S := S1x512) zeros]
  unfold k0_pay126
  simp only [shapeCast_self]
  exact congrArg (AdamW.opV x31) (AdamW.total_sums x4 _ _ (by decide))

theorem out57 : left57 x5 = AdamW.sums (R := 1) (C := 1024) (B := 1024) (by decide) x5 := by
  unfold left57 val186
  rw [View.canon_unit_zero zeros]
  exact AdamW.total_sums x5 _ _ (by decide)

theorem out58 : left58 x5 x14 x23 x32 = AdamW.delta x14 x23 x32 (AdamW.sums (R := 1) (C := 1024) (B := 1024) (by decide) x5) := by
  unfold left58 val189 val188 val187 val186
  rw [View.canon_unit_zero zeros]
  simp only [View.ld_unit_zero (S := S1x1024) zeros]
  exact congrArg (AdamW.opD x14 x23 x32) (AdamW.total_sums x5 _ _ (by decide))

theorem out59 : left59 x5 x23 = AdamW.newM x23 (AdamW.sums (R := 1) (C := 1024) (B := 1024) (by decide) x5) := by
  unfold left59 val188 val186
  rw [View.canon_unit_zero zeros]
  simp only [View.ld_unit_zero (S := S1x1024) zeros]
  exact congrArg (AdamW.opM x23) (AdamW.total_sums x5 _ _ (by decide))

theorem out60 : left60 x5 x32 = AdamW.newV x32 (AdamW.sums (R := 1) (C := 1024) (B := 1024) (by decide) x5) := by
  unfold left60 val189 val187 val186
  rw [View.canon_unit_zero zeros]
  simp only [View.ld_unit_zero (S := S1x1024) zeros]
  exact congrArg (AdamW.opV x32) (AdamW.total_sums x5 _ _ (by decide))

theorem out61 : left61 x6 = AdamW.sums (R := 1) (C := 128) (B := 16) (by decide) x6 := by
  unfold left61 val190
  rw [View.canon_unit_zero zeros]
  exact AdamW.total_sums x6 _ _ (by decide)

theorem out62 : left62 x6 x15 x24 x33 = AdamW.delta x15 x24 x33 (AdamW.sums (R := 1) (C := 128) (B := 16) (by decide) x6) := by
  unfold left62 val190
  rw [View.canon_unit_zero zeros]
  simp only [View.ld_unit_zero (S := S1x16) zeros]
  exact congrArg (AdamW.opD x15 x24 x33) (AdamW.total_sums x6 _ _ (by decide))

theorem out63 : left63 x6 x24 = AdamW.newM x24 (AdamW.sums (R := 1) (C := 128) (B := 16) (by decide) x6) := by
  unfold left63 val190
  rw [View.canon_unit_zero zeros]
  simp only [View.ld_unit_zero (S := S1x16) zeros]
  exact congrArg (AdamW.opM x24) (AdamW.total_sums x6 _ _ (by decide))

theorem out64 : left64 x6 x33 = AdamW.newV x33 (AdamW.sums (R := 1) (C := 128) (B := 16) (by decide) x6) := by
  unfold left64 val190
  rw [View.canon_unit_zero zeros]
  simp only [View.ld_unit_zero (S := S1x16) zeros]
  exact congrArg (AdamW.opV x33) (AdamW.total_sums x6 _ _ (by decide))

theorem out65 : left65 x7 = AdamW.sums (R := 1) (C := 1024) (B := 1024) (by decide) x7 := by
  unfold left65 val191
  rw [View.canon_unit_zero zeros]
  exact AdamW.total_sums x7 _ _ (by decide)

theorem out66 : left66 x7 x16 x25 x34 = AdamW.delta x16 x25 x34 (AdamW.sums (R := 1) (C := 1024) (B := 1024) (by decide) x7) := by
  unfold left66 val191
  rw [View.canon_unit_zero zeros]
  simp only [View.ld_unit_zero (S := S1x1024) zeros]
  exact congrArg (AdamW.opD x16 x25 x34) (AdamW.total_sums x7 _ _ (by decide))

theorem out67 : left67 x7 x25 = AdamW.newM x25 (AdamW.sums (R := 1) (C := 1024) (B := 1024) (by decide) x7) := by
  unfold left67 val191
  rw [View.canon_unit_zero zeros]
  simp only [View.ld_unit_zero (S := S1x1024) zeros]
  exact congrArg (AdamW.opM x25) (AdamW.total_sums x7 _ _ (by decide))

theorem out68 : left68 x7 x34 = AdamW.newV x34 (AdamW.sums (R := 1) (C := 1024) (B := 1024) (by decide) x7) := by
  unfold left68 val191
  rw [View.canon_unit_zero zeros]
  simp only [View.ld_unit_zero (S := S1x1024) zeros]
  exact congrArg (AdamW.opV x34) (AdamW.total_sums x7 _ _ (by decide))

theorem out69 : left69 x8 = AdamW.sums (R := 2) (C := 1024) (B := 1024) (by decide) x8 := by
  unfold left69
  rw [View.canon_unit_zero zeros]
  exact AdamW.total_sums x8 _ _ (by decide)

theorem out70 : left70 x8 x17 x26 x35 = AdamW.delta x17 x26 x35 (AdamW.sums (R := 2) (C := 1024) (B := 1024) (by decide) x8) := by
  unfold left70 val194 val193 val192
  rw [View.canon_unit_zero zeros]
  simp only [View.ld_unit_zero (S := S2x1024) zeros]
  exact congrArg (AdamW.opD x17 x26 x35) (AdamW.total_sums x8 _ _ (by decide))

theorem out71 : left71 x8 x26 = AdamW.newM x26 (AdamW.sums (R := 2) (C := 1024) (B := 1024) (by decide) x8) := by
  unfold left71 val193 val192
  rw [View.canon_unit_zero zeros]
  simp only [View.ld_unit_zero (S := S2x1024) zeros]
  exact congrArg (AdamW.opM x26) (AdamW.total_sums x8 _ _ (by decide))

theorem out72 : left72 x8 x35 = AdamW.newV x35 (AdamW.sums (R := 2) (C := 1024) (B := 1024) (by decide) x8) := by
  unfold left72 val194 val192
  rw [View.canon_unit_zero zeros]
  simp only [View.ld_unit_zero (S := S2x1024) zeros]
  exact congrArg (AdamW.opV x35) (AdamW.total_sums x8 _ _ (by decide))

theorem out73 : left73 x36 = AdamW.sums (R := 1) (C := 128) (B := 128) (by decide) x36 := by
  unfold left73
  rw [View.canon_unit_zero zeros]
  exact AdamW.total_sums x36 _ _ (by decide)

end

end Cert.Proof.AdamSmallVal

end
-- ==== Proof.AdamSmallArrays.lean ====
/- The thirty-seven arrays the kernel for the small weights leaves, each as a function of the program's arguments. -/
module

public import proofs.«01_k».proof.Defs
public import proofs.«01_k».proof.Proof.Gen.AdamSmall
public import proofs.«01_k».proof.Proof.AdamSmallFrame
public import proofs.«01_k».proof.Proof.AdamSmallVal
public import Idealize.ShloMosaic.Lib.Pipeline.ValueKit
public import Idealize.ShloMosaic.Lib.Claim

@[expose] public section

set_option maxRecDepth 16384

noncomputable section

namespace Cert.Proof.AdamSmall

open Cert.AdamSmallIdeal Cert.AdamSmallIdeal.Gen AdamSmallBody AdamSmallVal
open Idealize.ShloMosaic Idealize.ShloMosaic.TcCoe Idealize.SL.Sem

variable (m : (ℓ : Loc nD τ sig) → Buf (Elt Ideal) ℓ) (ρ : Dev nD → PrngReg) (c : Dev nD)

/-- The one point. -/
abbrev pt : Fin cfg0.N := ⟨0, Nat.one_pos⟩

/-! Every block is the whole array. -/

section

variable {sg : RefSig} {s : Shape} {e : EltTy} {cs : CoreSpace} (arr : Memref sg .tc .hbm s e) (o y : Bool)
    (stage : Memref sg .tc (.core cs) ⟨s.rank, s.size⟩ e) (sem : DmaSem sg) (harr : arr.IsWhole) (hstage : stage.IsWhole) (t : Fin Pipeline.Grid.none.N)

theorem read_whole (X) : ((Pipeline.Window.whole arr o y stage sem harr hstage).blk t).view.read (Elt Ideal) X = arr.view.read (Elt Ideal) X := by
  funext j
  refine congrArg (fun i => _root_.cast _ (X (arr.view.emb i))) (funext fun a => Fin.ext ?_)
  show 0 * s.size a + 1 * (j a).val = (j a).val
  omega

end

theorem block0 : (iblk m c 0 pt : Vec Ideal S8x2x1024 .f32) = V m c main_arg0 :=
  read_whole (Memref.whole main_arg0) false false (stage0_0 0) (sem0_0 0) (Memref.isWhole_whole _) (hstage0_0 0) pt _

theorem block1 : (iblk m c 1 pt : Vec Ideal S8x6x1024 .f32) = V m c main_arg1 :=
  read_whole (Memref.whole main_arg1) false false (stage0_1 0) (sem0_1 0) (Memref.isWhole_whole _) (hstage0_1 0) pt _

theorem block2 : (iblk m c 2 pt : Vec Ideal S8x6x1024 .f32) = V m c main_arg2 :=
  read_whole (Memref.whole main_arg2) false false (stage0_2 0) (sem0_2 0) (Memref.isWhole_whole _) (hstage0_2 0) pt _

theorem block3 : (iblk m c 3 pt : Vec Ideal S8x1x128 .f32) = V m c main_arg3 :=
  read_whole (Memref.whole main_arg3) false false (stage0_3 0) (sem0_3 0) (Memref.isWhole_whole _) (hstage0_3 0) pt _

theorem block4 : (iblk m c 4 pt : Vec Ideal S8x1x512 .f32) = V m c main_arg4 :=
  read_whole (Memref.whole main_arg4) false false (stage0_4 0) (sem0_4 0) (Memref.isWhole_whole _) (hstage0_4 0) pt _

theorem block5 : (iblk m c 5 pt : Vec Ideal S8x1x1024 .f32) = V m c main_arg5 :=
  read_whole (Memref.whole main_arg5) false false (stage0_5 0) (sem0_5 0) (Memref.isWhole_whole _) (hstage0_5 0) pt _

theorem block6 : (iblk m c 6 pt : Vec Ideal S8x1x128 .f32) = V m c main_arg6 :=
  read_whole (Memref.whole main_arg6) false false (stage0_6 0) (sem0_6 0) (Memref.isWhole_whole _) (hstage0_6 0) pt _

theorem block7 : (iblk m c 7 pt : Vec Ideal S8x1x1024 .f32) = V m c main_arg7 :=
  read_whole (Memref.whole main_arg7) false false (stage0_7 0) (sem0_7 0) (Memref.isWhole_whole _) (hstage0_7 0) pt _

theorem block8 : (iblk m c 8 pt : Vec Ideal S8x2x1024 .f32) = V m c main_arg8 :=
  read_whole (Memref.whole main_arg8) false false (stage0_8 0) (sem0_8 0) (Memref.isWhole_whole _) (hstage0_8 0) pt _

theorem block9 : (iblk m c 9 pt : Vec Ideal S2x128 .f32) = V m c main_arg9 :=
  read_whole (Memref.whole main_arg9) false false (stage0_9 0) (sem0_9 0) (Memref.isWhole_whole _) (hstage0_9 0) pt _

theorem block10 : (iblk m c 10 pt : Vec Ideal S3x2x128 .f32) = V m c main_v0 :=
  read_whole (Memref.whole main_v0) false false (stage0_10 0) (sem0_10 0) (Memref.isWhole_whole _) (hstage0_10 0) pt _

theorem block11 : (iblk m c 11 pt : Vec Ideal S3x2x128 .f32) = V m c main_v1 :=
  read_whole (Memref.whole main_v1) false false (stage0_11 0) (sem0_11 0) (Memref.isWhole_whole _) (hstage0_11 0) pt _

theorem block12 : (iblk m c 12 pt : Vec Ideal S1x128 .f32) = V m c main_arg12 :=
  read_whole (Memref.whole main_arg12) false false (stage0_12 0) (sem0_12 0) (Memref.isWhole_whole _) (hstage0_12 0) pt _

theorem block13 : (iblk m c 13 pt : Vec Ideal S1x512 .f32) = V m c main_v2 :=
  read_whole (Memref.whole main_v2) false false (stage0_13 0) (sem0_13 0) (Memref.isWhole_whole _) (hstage0_13 0) pt _

theorem block14 : (iblk m c 14 pt : Vec Ideal S1x1024 .f32) = V m c main_arg14 :=
  read_whole (Memref.whole main_arg14) false false (stage0_14 0) (sem0_14 0) (Memref.isWhole_whole _) (hstage0_14 0) pt _

theorem block15 : (iblk m c 15 pt : Vec Ideal S1x16 .f32) = V m c main_arg15 :=
  read_whole (Memref.whole main_arg15) false false (stage0_15 0) (sem0_15 0) (Memref.isWhole_whole _) (hstage0_15 0) pt _

theorem block16 : (iblk m c 16 pt : Vec Ideal S1x1024 .f32) = V m c main_arg16 :=
  read_whole (Memref.whole main_arg16) false false (stage0_16 0) (sem0_16 0) (Memref.isWhole_whole _) (hstage0_16 0) pt _

theorem block17 : (iblk m c 17 pt : Vec Ideal S2x1024 .f32) = V m c main_arg17 :=
  read_whole (Memref.whole main_arg17) false false (stage0_17 0) (sem0_17 0) (Memref.isWhole_whole _) (hstage0_17 0) pt _

theorem block18 : (iblk m c 18 pt : Vec Ideal S2x128 .f32) = V m c main_arg18 :=
  read_whole (Memref.whole main_arg18) false false (stage0_18 0) (sem0_18 0) (Memref.isWhole_whole _) (hstage0_18 0) pt _

theorem block19 : (iblk m c 19 pt : Vec Ideal S3x2x128 .f32) = V m c main_v3 :=
  read_whole (Memref.whole main_v3) false false (stage0_19 0) (sem0_19 0) (Memref.isWhole_whole _) (hstage0_19 0) pt _

theorem block20 : (iblk m c 20 pt : Vec Ideal S3x2x128 .f32) = V m c main_v4 :=
  read_whole (Memref.whole main_v4) false false (stage0_20 0) (sem0_20 0) (Memref.isWhole_whole _) (hstage0_20 0) pt _

theorem block21 : (iblk m c 21 pt : Vec Ideal S1x128 .f32) = V m c main_arg21 :=
  read_whole (Memref.whole main_arg21) false false (stage0_21 0) (sem0_21 0) (Memref.isWhole_whole _) (hstage0_21 0) pt _

theorem block22 : (iblk m c 22 pt : Vec Ideal S1x512 .f32) = V m c main_v5 :=
  read_whole (Memref.whole main_v5) false false (stage0_22 0) (sem0_22 0) (Memref.isWhole_whole _) (hstage0_22 0) pt _

theorem block23 : (iblk m c 23 pt : Vec Ideal S1x1024 .f32) = V m c main_arg23 :=
  read_whole (Memref.whole main_arg23) false false (stage0_23 0) (sem0_23 0) (Memref.isWhole_whole _) (hstage0_23 0) pt _

theorem block24 : (iblk m c 24 pt : Vec Ideal S1x16 .f32) = V m c main_arg24 :=
  read_whole (Memref.whole main_arg24) false false (stage0_24 0) (sem0_24 0) (Memref.isWhole_whole _) (hstage0_24 0) pt _

theorem block25 : (iblk m c 25 pt : Vec Ideal S1x1024 .f32) = V m c main_arg25 :=
  read_whole (Memref.whole main_arg25) false false (stage0_25 0) (sem0_25 0) (Memref.isWhole_whole _) (hstage0_25 0) pt _

theorem block26 : (iblk m c 26 pt : Vec Ideal S2x1024 .f32) = V m c main_arg26 :=
  read_whole (Memref.whole main_arg26) false false (stage0_26 0) (sem0_26 0) (Memref.isWhole_whole _) (hstage0_26 0) pt _

theorem block27 : (iblk m c 27 pt : Vec Ideal S2x128 .f32) = V m c main_arg27 :=
  read_whole (Memref.whole main_arg27) false false (stage0_27 0) (sem0_27 0) (Memref.isWhole_whole _) (hstage0_27 0) pt _

theorem block28 : (iblk m c 28 pt : Vec Ideal S3x2x128 .f32) = V m c main_v6 :=
  read_whole (Memref.whole main_v6) false false (stage0_28 0) (sem0_28 0) (Memref.isWhole_whole _) (hstage0_28 0) pt _

theorem block29 : (iblk m c 29 pt : Vec Ideal S3x2x128 .f32) = V m c main_v7 :=
  read_whole (Memref.whole main_v7) false false (stage0_29 0) (sem0_29 0) (Memref.isWhole_whole _) (hstage0_29 0) pt _

theorem block30 : (iblk m c 30 pt : Vec Ideal S1x128 .f32) = V m c main_arg30 :=
  read_whole (Memref.whole main_arg30) false false (stage0_30 0) (sem0_30 0) (Memref.isWhole_whole _) (hstage0_30 0) pt _

theorem block31 : (iblk m c 31 pt : Vec Ideal S1x512 .f32) = V m c main_v8 :=
  read_whole (Memref.whole main_v8) false false (stage0_31 0) (sem0_31 0) (Memref.isWhole_whole _) (hstage0_31 0) pt _

theorem block32 : (iblk m c 32 pt : Vec Ideal S1x1024 .f32) = V m c main_arg32 :=
  read_whole (Memref.whole main_arg32) false false (stage0_32 0) (sem0_32 0) (Memref.isWhole_whole _) (hstage0_32 0) pt _

theorem block33 : (iblk m c 33 pt : Vec Ideal S1x16 .f32) = V m c main_arg33 :=
  read_whole (Memref.whole main_arg33) false false (stage0_33 0) (sem0_33 0) (Memref.isWhole_whole _) (hstage0_33 0) pt _

theorem block34 : (iblk m c 34 pt : Vec Ideal S1x1024 .f32) = V m c main_arg34 :=
  read_whole (Memref.whole main_arg34) false false (stage0_34 0) (sem0_34 0) (Memref.isWhole_whole _) (hstage0_34 0) pt _

theorem block35 : (iblk m c 35 pt : Vec Ideal S2x1024 .f32) = V m c main_arg35 :=
  read_whole (Memref.whole main_arg35) false false (stage0_35 0) (sem0_35 0) (Memref.isWhole_whole _) (hstage0_35 0) pt _

theorem block36 : (iblk m c 36 pt : Vec Ideal S8x1x128 .f32) = V m c main_arg36 :=
  read_whole (Memref.whole main_arg36) false false (stage0_36 0) (sem0_36 0) (Memref.isWhole_whole _) (hstage0_36 0) pt _

/-! What the host passes the kernel. -/

theorem entry10 : (V m c main_v0 : Vec Ideal S3x2x128 .f32) = AdamSmallRef.layers (m ((c : Thread nD τ).loc main_arg10)) := by
  have h : (V m c main_v0 : Vec Ideal S3x2x128 .f32) = AdamSmallRef.layers (V m c main_arg10) := rfl
  rw [h, V_kept m c main_arg10 (by decide)]

theorem entry11 : (V m c main_v1 : Vec Ideal S3x2x128 .f32) = AdamSmallRef.layers (m ((c : Thread nD τ).loc main_arg11)) := by
  have h : (V m c main_v1 : Vec Ideal S3x2x128 .f32) = AdamSmallRef.layers (V m c main_arg11) := rfl
  rw [h, V_kept m c main_arg11 (by decide)]

theorem entry13 : (V m c main_v2 : Vec Ideal S1x512 .f32) = AdamSmallRef.row (m ((c : Thread nD τ).loc main_arg13)) := by
  have h : (V m c main_v2 : Vec Ideal S1x512 .f32) = AdamSmallRef.row (V m c main_arg13) := rfl
  rw [h, V_kept m c main_arg13 (by decide)]

theorem entry19 : (V m c main_v3 : Vec Ideal S3x2x128 .f32) = AdamSmallRef.layers (m ((c : Thread nD τ).loc main_arg19)) := by
  have h : (V m c main_v3 : Vec Ideal S3x2x128 .f32) = AdamSmallRef.layers (V m c main_arg19) := rfl
  rw [h, V_kept m c main_arg19 (by decide)]

theorem entry20 : (V m c main_v4 : Vec Ideal S3x2x128 .f32) = AdamSmallRef.layers (m ((c : Thread nD τ).loc main_arg20)) := by
  have h : (V m c main_v4 : Vec Ideal S3x2x128 .f32) = AdamSmallRef.layers (V m c main_arg20) := rfl
  rw [h, V_kept m c main_arg20 (by decide)]

theorem entry22 : (V m c main_v5 : Vec Ideal S1x512 .f32) = AdamSmallRef.row (m ((c : Thread nD τ).loc main_arg22)) := by
  have h : (V m c main_v5 : Vec Ideal S1x512 .f32) = AdamSmallRef.row (V m c main_arg22) := rfl
  rw [h, V_kept m c main_arg22 (by decide)]

theorem entry28 : (V m c main_v6 : Vec Ideal S3x2x128 .f32) = AdamSmallRef.layers (m ((c : Thread nD τ).loc main_arg28)) := by
  have h : (V m c main_v6 : Vec Ideal S3x2x128 .f32) = AdamSmallRef.layers (V m c main_arg28) := rfl
  rw [h, V_kept m c main_arg28 (by decide)]

theorem entry29 : (V m c main_v7 : Vec Ideal S3x2x128 .f32) = AdamSmallRef.layers (m ((c : Thread nD τ).loc main_arg29)) := by
  have h : (V m c main_v7 : Vec Ideal S3x2x128 .f32) = AdamSmallRef.layers (V m c main_arg29) := rfl
  rw [h, V_kept m c main_arg29 (by decide)]

theorem entry31 : (V m c main_v8 : Vec Ideal S1x512 .f32) = AdamSmallRef.row (m ((c : Thread nD τ).loc main_arg31)) := by
  have h : (V m c main_v8 : Vec Ideal S1x512 .f32) = AdamSmallRef.row (V m c main_arg31) := rfl
  rw [h, V_kept m c main_arg31 (by decide)]

/-! The arrays the kernel leaves. -/

theorem array37 : (dats m 0 c).arrAt 37 cfg0.N = AdamW.sums (R := 2) (C := 1024) (B := 128) (by decide) (m ((c : Thread nD τ).loc main_arg0)) := by
  have h := (after0_37 m c pt).trans (out37 ..)
  rw [block0 m c, V_kept m c main_arg0 (by decide)] at h
  exact (dats m 0 c).arrAt_eq_of_after_last 37 pt (by decide +kernel) _ (congrFun h)

theorem array38 : (dats m 0 c).arrAt 38 cfg0.N = AdamW.delta (m ((c : Thread nD τ).loc main_arg9)) (m ((c : Thread nD τ).loc main_arg18)) (m ((c : Thread nD τ).loc main_arg27)) (AdamW.sums (R := 2) (C := 1024) (B := 128) (by decide) (m ((c : Thread nD τ).loc main_arg0))) := by
  have h := (after0_38 m c pt).trans (out38 ..)
  rw [block9 m c, V_kept m c main_arg9 (by decide), block18 m c, V_kept m c main_arg18 (by decide), block27 m c, V_kept m c main_arg27 (by decide), block0 m c, V_kept m c main_arg0 (by decide)] at h
  exact (dats m 0 c).arrAt_eq_of_after_last 38 pt (by decide +kernel) _ (congrFun h)

theorem array39 : (dats m 0 c).arrAt 39 cfg0.N = AdamW.newM (m ((c : Thread nD τ).loc main_arg18)) (AdamW.sums (R := 2) (C := 1024) (B := 128) (by decide) (m ((c : Thread nD τ).loc main_arg0))) := by
  have h := (after0_39 m c pt).trans (out39 ..)
  rw [block18 m c, V_kept m c main_arg18 (by decide), block0 m c, V_kept m c main_arg0 (by decide)] at h
  exact (dats m 0 c).arrAt_eq_of_after_last 39 pt (by decide +kernel) _ (congrFun h)

theorem array40 : (dats m 0 c).arrAt 40 cfg0.N = AdamW.newV (m ((c : Thread nD τ).loc main_arg27)) (AdamW.sums (R := 2) (C := 1024) (B := 128) (by decide) (m ((c : Thread nD τ).loc main_arg0))) := by
  have h := (after0_40 m c pt).trans (out40 ..)
  rw [block27 m c, V_kept m c main_arg27 (by decide), block0 m c, V_kept m c main_arg0 (by decide)] at h
  exact (dats m 0 c).arrAt_eq_of_after_last 40 pt (by decide +kernel) _ (congrFun h)

theorem array41 : (dats m 0 c).arrAt 41 cfg0.N = AdamSmallRef.lnGrad (m ((c : Thread nD τ).loc main_arg1)) := by
  have h := (after0_41 m c pt).trans (out41 ..)
  rw [block1 m c, V_kept m c main_arg1 (by decide)] at h
  exact (dats m 0 c).arrAt_eq_of_after_last 41 pt (by decide +kernel) _ (congrFun h)

theorem array42 : (dats m 0 c).arrAt 42 cfg0.N = AdamW.delta (AdamSmallRef.layers (m ((c : Thread nD τ).loc main_arg10))) (AdamSmallRef.layers (m ((c : Thread nD τ).loc main_arg19))) (AdamSmallRef.layers (m ((c : Thread nD τ).loc main_arg28))) (AdamSmallRef.lnGrad (m ((c : Thread nD τ).loc main_arg1))) := by
  have h := (after0_42 m c pt).trans (out42 ..)
  rw [block10 m c, entry10 m c, block19 m c, entry19 m c, block28 m c, entry28 m c, block1 m c, V_kept m c main_arg1 (by decide)] at h
  exact (dats m 0 c).arrAt_eq_of_after_last 42 pt (by decide +kernel) _ (congrFun h)

theorem array43 : (dats m 0 c).arrAt 43 cfg0.N = AdamW.newM (AdamSmallRef.layers (m ((c : Thread nD τ).loc main_arg19))) (AdamSmallRef.lnGrad (m ((c : Thread nD τ).loc main_arg1))) := by
  have h := (after0_43 m c pt).trans (out43 ..)
  rw [block19 m c, entry19 m c, block1 m c, V_kept m c main_arg1 (by decide)] at h
  exact (dats m 0 c).arrAt_eq_of_after_last 43 pt (by decide +kernel) _ (congrFun h)

theorem array44 : (dats m 0 c).arrAt 44 cfg0.N = AdamW.newV (AdamSmallRef.layers (m ((c : Thread nD τ).loc main_arg28))) (AdamSmallRef.lnGrad (m ((c : Thread nD τ).loc main_arg1))) := by
  have h := (after0_44 m c pt).trans (out44 ..)
  rw [block28 m c, entry28 m c, block1 m c, V_kept m c main_arg1 (by decide)] at h
  exact (dats m 0 c).arrAt_eq_of_after_last 44 pt (by decide +kernel) _ (congrFun h)

theorem array45 : (dats m 0 c).arrAt 45 cfg0.N = AdamSmallRef.lnGrad (m ((c : Thread nD τ).loc main_arg2)) := by
  have h := (after0_45 m c pt).trans (out45 ..)
  rw [block2 m c, V_kept m c main_arg2 (by decide)] at h
  exact (dats m 0 c).arrAt_eq_of_after_last 45 pt (by decide +kernel) _ (congrFun h)

theorem array46 : (dats m 0 c).arrAt 46 cfg0.N = AdamW.delta (AdamSmallRef.layers (m ((c : Thread nD τ).loc main_arg11))) (AdamSmallRef.layers (m ((c : Thread nD τ).loc main_arg20))) (AdamSmallRef.layers (m ((c : Thread nD τ).loc main_arg29))) (AdamSmallRef.lnGrad (m ((c : Thread nD τ).loc main_arg2))) := by
  have h := (after0_46 m c pt).trans (out46 ..)
  rw [block11 m c, entry11 m c, block20 m c, entry20 m c, block29 m c, entry29 m c, block2 m c, V_kept m c main_arg2 (by decide)] at h
  exact (dats m 0 c).arrAt_eq_of_after_last 46 pt (by decide +kernel) _ (congrFun h)

theorem array47 : (dats m 0 c).arrAt 47 cfg0.N = AdamW.newM (AdamSmallRef.layers (m ((c : Thread nD τ).loc main_arg20))) (AdamSmallRef.lnGrad (m ((c : Thread nD τ).loc main_arg2))) := by
  have h := (after0_47 m c pt).trans (out47 ..)
  rw [block20 m c, entry20 m c, block2 m c, V_kept m c main_arg2 (by decide)] at h
  exact (dats m 0 c).arrAt_eq_of_after_last 47 pt (by decide +kernel) _ (congrFun h)

theorem array48 : (dats m 0 c).arrAt 48 cfg0.N = AdamW.newV (AdamSmallRef.layers (m ((c : Thread nD τ).loc main_arg29))) (AdamSmallRef.lnGrad (m ((c : Thread nD τ).loc main_arg2))) := by
  have h := (after0_48 m c pt).trans (out48 ..)
  rw [block29 m c, entry29 m c, block2 m c, V_kept m c main_arg2 (by decide)] at h
  exact (dats m 0 c).arrAt_eq_of_after_last 48 pt (by decide +kernel) _ (congrFun h)

theorem array49 : (dats m 0 c).arrAt 49 cfg0.N = AdamW.sums (R := 1) (C := 128) (B := 128) (by decide) (m ((c : Thread nD τ).loc main_arg3)) := by
  have h := (after0_49 m c pt).trans (out49 ..)
  rw [block3 m c, V_kept m c main_arg3 (by decide)] at h
  exact (dats m 0 c).arrAt_eq_of_after_last 49 pt (by decide +kernel) _ (congrFun h)

theorem array50 : (dats m 0 c).arrAt 50 cfg0.N = AdamW.delta (m ((c : Thread nD τ).loc main_arg12)) (m ((c : Thread nD τ).loc main_arg21)) (m ((c : Thread nD τ).loc main_arg30)) (AdamW.sums (R := 1) (C := 128) (B := 128) (by decide) (m ((c : Thread nD τ).loc main_arg3))) := by
  have h := (after0_50 m c pt).trans (out50 ..)
  rw [block12 m c, V_kept m c main_arg12 (by decide), block21 m c, V_kept m c main_arg21 (by decide), block30 m c, V_kept m c main_arg30 (by decide), block3 m c, V_kept m c main_arg3 (by decide)] at h
  exact (dats m 0 c).arrAt_eq_of_after_last 50 pt (by decide +kernel) _ (congrFun h)

theorem array51 : (dats m 0 c).arrAt 51 cfg0.N = AdamW.newM (m ((c : Thread nD τ).loc main_arg21)) (AdamW.sums (R := 1) (C := 128) (B := 128) (by decide) (m ((c : Thread nD τ).loc main_arg3))) := by
  have h := (after0_51 m c pt).trans (out51 ..)
  rw [block21 m c, V_kept m c main_arg21 (by decide), block3 m c, V_kept m c main_arg3 (by decide)] at h
  exact (dats m 0 c).arrAt_eq_of_after_last 51 pt (by decide +kernel) _ (congrFun h)

theorem array52 : (dats m 0 c).arrAt 52 cfg0.N = AdamW.newV (m ((c : Thread nD τ).loc main_arg30)) (AdamW.sums (R := 1) (C := 128) (B := 128) (by decide) (m ((c : Thread nD τ).loc main_arg3))) := by
  have h := (after0_52 m c pt).trans (out52 ..)
  rw [block30 m c, V_kept m c main_arg30 (by decide), block3 m c, V_kept m c main_arg3 (by decide)] at h
  exact (dats m 0 c).arrAt_eq_of_after_last 52 pt (by decide +kernel) _ (congrFun h)

theorem array53 : (dats m 0 c).arrAt 53 cfg0.N = AdamW.sums (R := 1) (C := 512) (B := 512) (by decide) (m ((c : Thread nD τ).loc main_arg4)) := by
  have h := (after0_53 m c pt).trans (out53 ..)
  rw [block4 m c, V_kept m c main_arg4 (by decide)] at h
  exact (dats m 0 c).arrAt_eq_of_after_last 53 pt (by decide +kernel) _ (congrFun h)

theorem array54 : (dats m 0 c).arrAt 54 cfg0.N = AdamW.delta (AdamSmallRef.row (m ((c : Thread nD τ).loc main_arg13))) (AdamSmallRef.row (m ((c : Thread nD τ).loc main_arg22))) (AdamSmallRef.row (m ((c : Thread nD τ).loc main_arg31))) (AdamW.sums (R := 1) (C := 512) (B := 512) (by decide) (m ((c : Thread nD τ).loc main_arg4))) := by
  have h := (after0_54 m c pt).trans (out54 ..)
  rw [block13 m c, entry13 m c, block22 m c, entry22 m c, block31 m c, entry31 m c, block4 m c, V_kept m c main_arg4 (by decide)] at h
  exact (dats m 0 c).arrAt_eq_of_after_last 54 pt (by decide +kernel) _ (congrFun h)

theorem array55 : (dats m 0 c).arrAt 55 cfg0.N = AdamW.newM (AdamSmallRef.row (m ((c : Thread nD τ).loc main_arg22))) (AdamW.sums (R := 1) (C := 512) (B := 512) (by decide) (m ((c : Thread nD τ).loc main_arg4))) := by
  have h := (after0_55 m c pt).trans (out55 ..)
  rw [block22 m c, entry22 m c, block4 m c, V_kept m c main_arg4 (by decide)] at h
  exact (dats m 0 c).arrAt_eq_of_after_last 55 pt (by decide +kernel) _ (congrFun h)

theorem array56 : (dats m 0 c).arrAt 56 cfg0.N = AdamW.newV (AdamSmallRef.row (m ((c : Thread nD τ).loc main_arg31))) (AdamW.sums (R := 1) (C := 512) (B := 512) (by decide) (m ((c : Thread nD τ).loc main_arg4))) := by
  have h := (after0_56 m c pt).trans (out56 ..)
  rw [block31 m c, entry31 m c, block4 m c, V_kept m c main_arg4 (by decide)] at h
  exact (dats m 0 c).arrAt_eq_of_after_last 56 pt (by decide +kernel) _ (congrFun h)

theorem array57 : (dats m 0 c).arrAt 57 cfg0.N = AdamW.sums (R := 1) (C := 1024) (B := 1024) (by decide) (m ((c : Thread nD τ).loc main_arg5)) := by
  have h := (after0_57 m c pt).trans (out57 ..)
  rw [block5 m c, V_kept m c main_arg5 (by decide)] at h
  exact (dats m 0 c).arrAt_eq_of_after_last 57 pt (by decide +kernel) _ (congrFun h)

theorem array58 : (dats m 0 c).arrAt 58 cfg0.N = AdamW.delta (m ((c : Thread nD τ).loc main_arg14)) (m ((c : Thread nD τ).loc main_arg23)) (m ((c : Thread nD τ).loc main_arg32)) (AdamW.sums (R := 1) (C := 1024) (B := 1024) (by decide) (m ((c : Thread nD τ).loc main_arg5))) := by
  have h := (after0_58 m c pt).trans (out58 ..)
  rw [block14 m c, V_kept m c main_arg14 (by decide), block23 m c, V_kept m c main_arg23 (by decide), block32 m c, V_kept m c main_arg32 (by decide), block5 m c, V_kept m c main_arg5 (by decide)] at h
  exact (dats m 0 c).arrAt_eq_of_after_last 58 pt (by decide +kernel) _ (congrFun h)

theorem array59 : (dats m 0 c).arrAt 59 cfg0.N = AdamW.newM (m ((c : Thread nD τ).loc main_arg23)) (AdamW.sums (R := 1) (C := 1024) (B := 1024) (by decide) (m ((c : Thread nD τ).loc main_arg5))) := by
  have h := (after0_59 m c pt).trans (out59 ..)
  rw [block23 m c, V_kept m c main_arg23 (by decide), block5 m c, V_kept m c main_arg5 (by decide)] at h
  exact (dats m 0 c).arrAt_eq_of_after_last 59 pt (by decide +kernel) _ (congrFun h)

theorem array60 : (dats m 0 c).arrAt 60 cfg0.N = AdamW.newV (m ((c : Thread nD τ).loc main_arg32)) (AdamW.sums (R := 1) (C := 1024) (B := 1024) (by decide) (m ((c : Thread nD τ).loc main_arg5))) := by
  have h := (after0_60 m c pt).trans (out60 ..)
  rw [block32 m c, V_kept m c main_arg32 (by decide), block5 m c, V_kept m c main_arg5 (by decide)] at h
  exact (dats m 0 c).arrAt_eq_of_after_last 60 pt (by decide +kernel) _ (congrFun h)

theorem array61 : (dats m 0 c).arrAt 61 cfg0.N = AdamW.sums (R := 1) (C := 128) (B := 16) (by decide) (m ((c : Thread nD τ).loc main_arg6)) := by
  have h := (after0_61 m c pt).trans (out61 ..)
  rw [block6 m c, V_kept m c main_arg6 (by decide)] at h
  exact (dats m 0 c).arrAt_eq_of_after_last 61 pt (by decide +kernel) _ (congrFun h)

theorem array62 : (dats m 0 c).arrAt 62 cfg0.N = AdamW.delta (m ((c : Thread nD τ).loc main_arg15)) (m ((c : Thread nD τ).loc main_arg24)) (m ((c : Thread nD τ).loc main_arg33)) (AdamW.sums (R := 1) (C := 128) (B := 16) (by decide) (m ((c : Thread nD τ).loc main_arg6))) := by
  have h := (after0_62 m c pt).trans (out62 ..)
  rw [block15 m c, V_kept m c main_arg15 (by decide), block24 m c, V_kept m c main_arg24 (by decide), block33 m c, V_kept m c main_arg33 (by decide), block6 m c, V_kept m c main_arg6 (by decide)] at h
  exact (dats m 0 c).arrAt_eq_of_after_last 62 pt (by decide +kernel) _ (congrFun h)

theorem array63 : (dats m 0 c).arrAt 63 cfg0.N = AdamW.newM (m ((c : Thread nD τ).loc main_arg24)) (AdamW.sums (R := 1) (C := 128) (B := 16) (by decide) (m ((c : Thread nD τ).loc main_arg6))) := by
  have h := (after0_63 m c pt).trans (out63 ..)
  rw [block24 m c, V_kept m c main_arg24 (by decide), block6 m c, V_kept m c main_arg6 (by decide)] at h
  exact (dats m 0 c).arrAt_eq_of_after_last 63 pt (by decide +kernel) _ (congrFun h)

theorem array64 : (dats m 0 c).arrAt 64 cfg0.N = AdamW.newV (m ((c : Thread nD τ).loc main_arg33)) (AdamW.sums (R := 1) (C := 128) (B := 16) (by decide) (m ((c : Thread nD τ).loc main_arg6))) := by
  have h := (after0_64 m c pt).trans (out64 ..)
  rw [block33 m c, V_kept m c main_arg33 (by decide), block6 m c, V_kept m c main_arg6 (by decide)] at h
  exact (dats m 0 c).arrAt_eq_of_after_last 64 pt (by decide +kernel) _ (congrFun h)

theorem array65 : (dats m 0 c).arrAt 65 cfg0.N = AdamW.sums (R := 1) (C := 1024) (B := 1024) (by decide) (m ((c : Thread nD τ).loc main_arg7)) := by
  have h := (after0_65 m c pt).trans (out65 ..)
  rw [block7 m c, V_kept m c main_arg7 (by decide)] at h
  exact (dats m 0 c).arrAt_eq_of_after_last 65 pt (by decide +kernel) _ (congrFun h)

theorem array66 : (dats m 0 c).arrAt 66 cfg0.N = AdamW.delta (m ((c : Thread nD τ).loc main_arg16)) (m ((c : Thread nD τ).loc main_arg25)) (m ((c : Thread nD τ).loc main_arg34)) (AdamW.sums (R := 1) (C := 1024) (B := 1024) (by decide) (m ((c : Thread nD τ).loc main_arg7))) := by
  have h := (after0_66 m c pt).trans (out66 ..)
  rw [block16 m c, V_kept m c main_arg16 (by decide), block25 m c, V_kept m c main_arg25 (by decide), block34 m c, V_kept m c main_arg34 (by decide), block7 m c, V_kept m c main_arg7 (by decide)] at h
  exact (dats m 0 c).arrAt_eq_of_after_last 66 pt (by decide +kernel) _ (congrFun h)

theorem array67 : (dats m 0 c).arrAt 67 cfg0.N = AdamW.newM (m ((c : Thread nD τ).loc main_arg25)) (AdamW.sums (R := 1) (C := 1024) (B := 1024) (by decide) (m ((c : Thread nD τ).loc main_arg7))) := by
  have h := (after0_67 m c pt).trans (out67 ..)
  rw [block25 m c, V_kept m c main_arg25 (by decide), block7 m c, V_kept m c main_arg7 (by decide)] at h
  exact (dats m 0 c).arrAt_eq_of_after_last 67 pt (by decide +kernel) _ (congrFun h)

theorem array68 : (dats m 0 c).arrAt 68 cfg0.N = AdamW.newV (m ((c : Thread nD τ).loc main_arg34)) (AdamW.sums (R := 1) (C := 1024) (B := 1024) (by decide) (m ((c : Thread nD τ).loc main_arg7))) := by
  have h := (after0_68 m c pt).trans (out68 ..)
  rw [block34 m c, V_kept m c main_arg34 (by decide), block7 m c, V_kept m c main_arg7 (by decide)] at h
  exact (dats m 0 c).arrAt_eq_of_after_last 68 pt (by decide +kernel) _ (congrFun h)

theorem array69 : (dats m 0 c).arrAt 69 cfg0.N = AdamW.sums (R := 2) (C := 1024) (B := 1024) (by decide) (m ((c : Thread nD τ).loc main_arg8)) := by
  have h := (after0_69 m c pt).trans (out69 ..)
  rw [block8 m c, V_kept m c main_arg8 (by decide)] at h
  exact (dats m 0 c).arrAt_eq_of_after_last 69 pt (by decide +kernel) _ (congrFun h)

theorem array70 : (dats m 0 c).arrAt 70 cfg0.N = AdamW.delta (m ((c : Thread nD τ).loc main_arg17)) (m ((c : Thread nD τ).loc main_arg26)) (m ((c : Thread nD τ).loc main_arg35)) (AdamW.sums (R := 2) (C := 1024) (B := 1024) (by decide) (m ((c : Thread nD τ).loc main_arg8))) := by
  have h := (after0_70 m c pt).trans (out70 ..)
  rw [block17 m c, V_kept m c main_arg17 (by decide), block26 m c, V_kept m c main_arg26 (by decide), block35 m c, V_kept m c main_arg35 (by decide), block8 m c, V_kept m c main_arg8 (by decide)] at h
  exact (dats m 0 c).arrAt_eq_of_after_last 70 pt (by decide +kernel) _ (congrFun h)

theorem array71 : (dats m 0 c).arrAt 71 cfg0.N = AdamW.newM (m ((c : Thread nD τ).loc main_arg26)) (AdamW.sums (R := 2) (C := 1024) (B := 1024) (by decide) (m ((c : Thread nD τ).loc main_arg8))) := by
  have h := (after0_71 m c pt).trans (out71 ..)
  rw [block26 m c, V_kept m c main_arg26 (by decide), block8 m c, V_kept m c main_arg8 (by decide)] at h
  exact (dats m 0 c).arrAt_eq_of_after_last 71 pt (by decide +kernel) _ (congrFun h)

theorem array72 : (dats m 0 c).arrAt 72 cfg0.N = AdamW.newV (m ((c : Thread nD τ).loc main_arg35)) (AdamW.sums (R := 2) (C := 1024) (B := 1024) (by decide) (m ((c : Thread nD τ).loc main_arg8))) := by
  have h := (after0_72 m c pt).trans (out72 ..)
  rw [block35 m c, V_kept m c main_arg35 (by decide), block8 m c, V_kept m c main_arg8 (by decide)] at h
  exact (dats m 0 c).arrAt_eq_of_after_last 72 pt (by decide +kernel) _ (congrFun h)

theorem array73 : (dats m 0 c).arrAt 73 cfg0.N = AdamW.sums (R := 1) (C := 128) (B := 128) (by decide) (m ((c : Thread nD τ).loc main_arg36)) := by
  have h := (after0_73 m c pt).trans (out73 ..)
  rw [block36 m c, V_kept m c main_arg36 (by decide)] at h
  exact (dats m 0 c).arrAt_eq_of_after_last 73 pt (by decide +kernel) _ (congrFun h)

end Cert.Proof.AdamSmall

end
-- ==== Proof.AdamSmallSame.lean ====
/- The program for the small weights as printed and the one read at the extended reals have the same bodies. -/
module

public import proofs.«01_k».proof.Defs
public import proofs.«01_k».proof.Proof.Gen.AdamSmall
public import proofs.«01_k».proof.Proof.Gen.AdamSmallIdeal
public import Idealize.ShloMosaic.Lib.Pipeline.ValueKit
public import Idealize.ShloMosaic.Lib.Claim

@[expose] public section

set_option maxRecDepth 16384

noncomputable section

namespace Cert.Proof.AdamSmall

open Idealize.ShloMosaic Idealize.ShloMosaic.TcCoe Idealize.SL.Sem

set_option maxHeartbeats 40000000 in
/-- The program as printed and the one read at the extended reals have the same bodies. -/
theorem bodies_eq : @Cert.AdamSmall.defs₀ Bits _ _ = @Cert.AdamSmallIdeal.defs₀ Bits _ _ := by
  unfold Cert.AdamSmall.defs₀ Cert.AdamSmallIdeal.defs₀
  refine congrArg Defs.onTc (funext fun l => funext fun x => ?_)
  match l, x with
  | 0, (t, s) => rfl

end Cert.Proof.AdamSmall

end
-- ==== Proof.AdamSmall.lean ====
/- The optimiser's step for the small weights of one device, and the loss: the thirty-seven arrays the kernel leaves are the sums of the parts and AdamW's
   steps, as the reference's results are. -/
module

public import proofs.«01_k».proof.Defs
public import proofs.«01_k».proof.Proof.Gen.AdamSmall
public import proofs.«01_k».proof.Proof.AdamSmallFrame
public import proofs.«01_k».proof.Proof.AdamSmallArrays
public import proofs.«01_k».proof.Proof.AdamSmallSame
public import Idealize.ShloMosaic.Lib.Pipeline.ValueKit
public import Idealize.ShloMosaic.Lib.Claim

@[expose] public section

set_option maxRecDepth 16384

noncomputable section

namespace Cert.Proof.AdamSmall

open Cert.AdamSmallIdeal Cert.AdamSmallIdeal.Gen AdamSmallBody AdamSmallVal
open Idealize.ShloMosaic Idealize.ShloMosaic.TcCoe Idealize.SL.Sem

variable (m : (ℓ : Loc nD τ sig) → Buf (Elt Ideal) ℓ) (ρ : Dev nD → PrngReg)

set_option maxHeartbeats 40000000 in
/-- The kernel's run: its result arrays are those functions of the arguments. -/
theorem run : θ_run defs (onTc (τ := τ) (main (F := Ideal))) ⟨m, fun _ => 0, ρ⟩ fun r => ∀ c : Dev nD,
      r.2.mem ((c : Thread nD τ).loc main_v9_0) = AdamW.sums (R := 2) (C := 1024) (B := 128) (by decide) (m ((c : Thread nD τ).loc main_arg0))
      ∧ r.2.mem ((c : Thread nD τ).loc main_v9_1) = AdamW.delta (m ((c : Thread nD τ).loc main_arg9)) (m ((c : Thread nD τ).loc main_arg18)) (m ((c : Thread nD τ).loc main_arg27)) (AdamW.sums (R := 2) (C := 1024) (B := 128) (by decide) (m ((c : Thread nD τ).loc main_arg0)))
      ∧ r.2.mem ((c : Thread nD τ).loc main_v9_2) = AdamW.newM (m ((c : Thread nD τ).loc main_arg18)) (AdamW.sums (R := 2) (C := 1024) (B := 128) (by decide) (m ((c : Thread nD τ).loc main_arg0)))
      ∧ r.2.mem ((c : Thread nD τ).loc main_v9_3) = AdamW.newV (m ((c : Thread nD τ).loc main_arg27)) (AdamW.sums (R := 2) (C := 1024) (B := 128) (by decide) (m ((c : Thread nD τ).loc main_arg0)))
      ∧ r.2.mem ((c : Thread nD τ).loc main_v9_4) = AdamSmallRef.lnGrad (m ((c : Thread nD τ).loc main_arg1))
      ∧ r.2.mem ((c : Thread nD τ).loc main_v9_5) = AdamW.delta (AdamSmallRef.layers (m ((c : Thread nD τ).loc main_arg10))) (AdamSmallRef.layers (m ((c : Thread nD τ).loc main_arg19))) (AdamSmallRef.layers (m ((c : Thread nD τ).loc main_arg28))) (AdamSmallRef.lnGrad (m ((c : Thread nD τ).loc main_arg1)))
      ∧ r.2.mem ((c : Thread nD τ).loc main_v9_6) = AdamW.newM (AdamSmallRef.layers (m ((c : Thread nD τ).loc main_arg19))) (AdamSmallRef.lnGrad (m ((c : Thread nD τ).loc main_arg1)))
      ∧ r.2.mem ((c : Thread nD τ).loc main_v9_7) = AdamW.newV (AdamSmallRef.layers (m ((c : Thread nD τ).loc main_arg28))) (AdamSmallRef.lnGrad (m ((c : Thread nD τ).loc main_arg1)))
      ∧ r.2.mem ((c : Thread nD τ).loc main_v9_8) = AdamSmallRef.lnGrad (m ((c : Thread nD τ).loc main_arg2))
      ∧ r.2.mem ((c : Thread nD τ).loc main_v9_9) = AdamW.delta (AdamSmallRef.layers (m ((c : Thread nD τ).loc main_arg11))) (AdamSmallRef.layers (m ((c : Thread nD τ).loc main_arg20))) (AdamSmallRef.layers (m ((c : Thread nD τ).loc main_arg29))) (AdamSmallRef.lnGrad (m ((c : Thread nD τ).loc main_arg2)))
      ∧ r.2.mem ((c : Thread nD τ).loc main_v9_10) = AdamW.newM (AdamSmallRef.layers (m ((c : Thread nD τ).loc main_arg20))) (AdamSmallRef.lnGrad (m ((c : Thread nD τ).loc main_arg2)))
      ∧ r.2.mem ((c : Thread nD τ).loc main_v9_11) = AdamW.newV (AdamSmallRef.layers (m ((c : Thread nD τ).loc main_arg29))) (AdamSmallRef.lnGrad (m ((c : Thread nD τ).loc main_arg2)))
      ∧ r.2.mem ((c : Thread nD τ).loc main_v9_12) = AdamW.sums (R := 1) (C := 128) (B := 128) (by decide) (m ((c : Thread nD τ).loc main_arg3))
      ∧ r.2.mem ((c : Thread nD τ).loc main_v9_13) = AdamW.delta (m ((c : Thread nD τ).loc main_arg12)) (m ((c : Thread nD τ).loc main_arg21)) (m ((c : Thread nD τ).loc main_arg30)) (AdamW.sums (R := 1) (C := 128) (B := 128) (by decide) (m ((c : Thread nD τ).loc main_arg3)))
      ∧ r.2.mem ((c : Thread nD τ).loc main_v9_14) = AdamW.newM (m ((c : Thread nD τ).loc main_arg21)) (AdamW.sums (R := 1) (C := 128) (B := 128) (by decide) (m ((c : Thread nD τ).loc main_arg3)))
      ∧ r.2.mem ((c : Thread nD τ).loc main_v9_15) = AdamW.newV (m ((c : Thread nD τ).loc main_arg30)) (AdamW.sums (R := 1) (C := 128) (B := 128) (by decide) (m ((c : Thread nD τ).loc main_arg3)))
      ∧ r.2.mem ((c : Thread nD τ).loc main_v9_16) = AdamW.sums (R := 1) (C := 512) (B := 512) (by decide) (m ((c : Thread nD τ).loc main_arg4))
      ∧ r.2.mem ((c : Thread nD τ).loc main_v9_17) = AdamW.delta (AdamSmallRef.row (m ((c : Thread nD τ).loc main_arg13))) (AdamSmallRef.row (m ((c : Thread nD τ).loc main_arg22))) (AdamSmallRef.row (m ((c : Thread nD τ).loc main_arg31))) (AdamW.sums (R := 1) (C := 512) (B := 512) (by decide) (m ((c : Thread nD τ).loc main_arg4)))
      ∧ r.2.mem ((c : Thread nD τ).loc main_v9_18) = AdamW.newM (AdamSmallRef.row (m ((c : Thread nD τ).loc main_arg22))) (AdamW.sums (R := 1) (C := 512) (B := 512) (by decide) (m ((c : Thread nD τ).loc main_arg4)))
      ∧ r.2.mem ((c : Thread nD τ).loc main_v9_19) = AdamW.newV (AdamSmallRef.row (m ((c : Thread nD τ).loc main_arg31))) (AdamW.sums (R := 1) (C := 512) (B := 512) (by decide) (m ((c : Thread nD τ).loc main_arg4)))
      ∧ r.2.mem ((c : Thread nD τ).loc main_v9_20) = AdamW.sums (R := 1) (C := 1024) (B := 1024) (by decide) (m ((c : Thread nD τ).loc main_arg5))
      ∧ r.2.mem ((c : Thread nD τ).loc main_v9_21) = AdamW.delta (m ((c : Thread nD τ).loc main_arg14)) (m ((c : Thread nD τ).loc main_arg23)) (m ((c : Thread nD τ).loc main_arg32)) (AdamW.sums (R := 1) (C := 1024) (B := 1024) (by decide) (m ((c : Thread nD τ).loc main_arg5)))
      ∧ r.2.mem ((c : Thread nD τ).loc main_v9_22) = AdamW.newM (m ((c : Thread nD τ).loc main_arg23)) (AdamW.sums (R := 1) (C := 1024) (B := 1024) (by decide) (m ((c : Thread nD τ).loc main_arg5)))
      ∧ r.2.mem ((c : Thread nD τ).loc main_v9_23) = AdamW.newV (m ((c : Thread nD τ).loc main_arg32)) (AdamW.sums (R := 1) (C := 1024) (B := 1024) (by decide) (m ((c : Thread nD τ).loc main_arg5)))
      ∧ r.2.mem ((c : Thread nD τ).loc main_v9_24) = AdamW.sums (R := 1) (C := 128) (B := 16) (by decide) (m ((c : Thread nD τ).loc main_arg6))
      ∧ r.2.mem ((c : Thread nD τ).loc main_v9_25) = AdamW.delta (m ((c : Thread nD τ).loc main_arg15)) (m ((c : Thread nD τ).loc main_arg24)) (m ((c : Thread nD τ).loc main_arg33)) (AdamW.sums (R := 1) (C := 128) (B := 16) (by decide) (m ((c : Thread nD τ).loc main_arg6)))
      ∧ r.2.mem ((c : Thread nD τ).loc main_v9_26) = AdamW.newM (m ((c : Thread nD τ).loc main_arg24)) (AdamW.sums (R := 1) (C := 128) (B := 16) (by decide) (m ((c : Thread nD τ).loc main_arg6)))
      ∧ r.2.mem ((c : Thread nD τ).loc main_v9_27) = AdamW.newV (m ((c : Thread nD τ).loc main_arg33)) (AdamW.sums (R := 1) (C := 128) (B := 16) (by decide) (m ((c : Thread nD τ).loc main_arg6)))
      ∧ r.2.mem ((c : Thread nD τ).loc main_v9_28) = AdamW.sums (R := 1) (C := 1024) (B := 1024) (by decide) (m ((c : Thread nD τ).loc main_arg7))
      ∧ r.2.mem ((c : Thread nD τ).loc main_v9_29) = AdamW.delta (m ((c : Thread nD τ).loc main_arg16)) (m ((c : Thread nD τ).loc main_arg25)) (m ((c : Thread nD τ).loc main_arg34)) (AdamW.sums (R := 1) (C := 1024) (B := 1024) (by decide) (m ((c : Thread nD τ).loc main_arg7)))
      ∧ r.2.mem ((c : Thread nD τ).loc main_v9_30) = AdamW.newM (m ((c : Thread nD τ).loc main_arg25)) (AdamW.sums (R := 1) (C := 1024) (B := 1024) (by decide) (m ((c : Thread nD τ).loc main_arg7)))
      ∧ r.2.mem ((c : Thread nD τ).loc main_v9_31) = AdamW.newV (m ((c : Thread nD τ).loc main_arg34)) (AdamW.sums (R := 1) (C := 1024) (B := 1024) (by decide) (m ((c : Thread nD τ).loc main_arg7)))
      ∧ r.2.mem ((c : Thread nD τ).loc main_v9_32) = AdamW.sums (R := 2) (C := 1024) (B := 1024) (by decide) (m ((c : Thread nD τ).loc main_arg8))
      ∧ r.2.mem ((c : Thread nD τ).loc main_v9_33) = AdamW.delta (m ((c : Thread nD τ).loc main_arg17)) (m ((c : Thread nD τ).loc main_arg26)) (m ((c : Thread nD τ).loc main_arg35)) (AdamW.sums (R := 2) (C := 1024) (B := 1024) (by decide) (m ((c : Thread nD τ).loc main_arg8)))
      ∧ r.2.mem ((c : Thread nD τ).loc main_v9_34) = AdamW.newM (m ((c : Thread nD τ).loc main_arg26)) (AdamW.sums (R := 2) (C := 1024) (B := 1024) (by decide) (m ((c : Thread nD τ).loc main_arg8)))
      ∧ r.2.mem ((c : Thread nD τ).loc main_v9_35) = AdamW.newV (m ((c : Thread nD τ).loc main_arg35)) (AdamW.sums (R := 2) (C := 1024) (B := 1024) (by decide) (m ((c : Thread nD τ).loc main_arg8)))
      ∧ r.2.mem ((c : Thread nD τ).loc main_v9_36) = AdamW.sums (R := 1) (C := 128) (B := 128) (by decide) (m ((c : Thread nD τ).loc main_arg36))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35)
      ∧ r.2.mem ((c : Thread nD τ).loc main_arg36) = m ((c : Thread nD τ).loc main_arg36) :=
  (θ_run defs _ _).mono (fun r h c => ⟨((h.1 c).1 37).trans (array37 m c),
    ((h.1 c).1 38).trans (array38 m c),
    ((h.1 c).1 39).trans (array39 m c),
    ((h.1 c).1 40).trans (array40 m c),
    ((h.1 c).1 41).trans (array41 m c),
    ((h.1 c).1 42).trans (array42 m c),
    ((h.1 c).1 43).trans (array43 m c),
    ((h.1 c).1 44).trans (array44 m c),
    ((h.1 c).1 45).trans (array45 m c),
    ((h.1 c).1 46).trans (array46 m c),
    ((h.1 c).1 47).trans (array47 m c),
    ((h.1 c).1 48).trans (array48 m c),
    ((h.1 c).1 49).trans (array49 m c),
    ((h.1 c).1 50).trans (array50 m c),
    ((h.1 c).1 51).trans (array51 m c),
    ((h.1 c).1 52).trans (array52 m c),
    ((h.1 c).1 53).trans (array53 m c),
    ((h.1 c).1 54).trans (array54 m c),
    ((h.1 c).1 55).trans (array55 m c),
    ((h.1 c).1 56).trans (array56 m c),
    ((h.1 c).1 57).trans (array57 m c),
    ((h.1 c).1 58).trans (array58 m c),
    ((h.1 c).1 59).trans (array59 m c),
    ((h.1 c).1 60).trans (array60 m c),
    ((h.1 c).1 61).trans (array61 m c),
    ((h.1 c).1 62).trans (array62 m c),
    ((h.1 c).1 63).trans (array63 m c),
    ((h.1 c).1 64).trans (array64 m c),
    ((h.1 c).1 65).trans (array65 m c),
    ((h.1 c).1 66).trans (array66 m c),
    ((h.1 c).1 67).trans (array67 m c),
    ((h.1 c).1 68).trans (array68 m c),
    ((h.1 c).1 69).trans (array69 m c),
    ((h.1 c).1 70).trans (array70 m c),
    ((h.1 c).1 71).trans (array71 m c),
    ((h.1 c).1 72).trans (array72 m c),
    ((h.1 c).1 73).trans (array73 m c),
    unchanged m h.1 c⟩) (run_main_quiescent m ρ)

set_option maxHeartbeats 40000000 in
/-- The kernel's frame, of the program as printed: the run of the same text at the device's own values. -/
theorem frame_kernel : Cert.quiescent_AdamSmall := by
  intro m ρ _
  have h : Cert.AdamSmall.defs (F := Bits) = Cert.AdamSmallIdeal.defs (F := Bits) := congrArg (Pipeline.defs _) bodies_eq
  rw [h]
  exact AdamSmallBody.frame (F := Bits) m ρ

set_option maxHeartbeats 40000000 in
theorem frame_ideal : Cert.quiescent_AdamSmallIdeal := fun m ρ _ => AdamSmallBody.frame (F := Ideal) m ρ

set_option maxHeartbeats 40000000 in
theorem frame_reference : Cert.quiescent_AdamSmallRefIdeal := fun m ρ _ =>
  (θ_run Cert.AdamSmallRefIdeal.defs _ _).mono (fun r h => ⟨fun c => (h c).2.2.2.2.2.2.2.2.2.2.2.2.2.2.2.2.2.2.2.2.2.2.2.2.2.2.2.2.2.2.2.2.2.2.2.2.2, sem_eq_zero_of_no_sems (by decide) r.2⟩)
    (Cert.AdamSmallRefIdeal.Value.run (F := Ideal) m ρ)

set_option maxHeartbeats 40000000 in
theorem algebraic : Cert.algebraic_AdamSmallIdeal_AdamSmallRefIdeal := by
  intro m ρ m' ρ' _ hagree
  refine ⟨_, _, _, _, _, _, _, _, _, _, _, _, _, _, _, _, _, _, _, _, _, _, _, _, _, _, _, _, _, _, _, _, _, _, _, _, _, run m ρ, (θ_run Cert.AdamSmallRefIdeal.defs _ _).mono (fun r h c => ?_) (Cert.AdamSmallRefIdeal.Value.run (F := Ideal) m' ρ')⟩
  obtain ⟨a0, a1, a2, a3, a4, a5, a6, a7, a8, a9, a10, a11, a12, a13, a14, a15, a16, a17, a18, a19, a20, a21, a22, a23, a24, a25, a26, a27, a28, a29, a30, a31, a32, a33, a34, a35, a36⟩ := hagree c
  obtain ⟨h0, h1, h2, h3, h4, h5, h6, h7, h8, h9, h10, h11, h12, h13, h14, h15, h16, h17, h18, h19, h20, h21, h22, h23, h24, h25, h26, h27, h28, h29, h30, h31, h32, h33, h34, h35, h36, hk⟩ := h c
  refine ⟨((h0.trans (Cert.AdamSmallRefIdeal.Read.val_main_v1_eq _)).trans (AdamSmallRef.grad0 ..)).trans ?_,
    ((h1.trans (Cert.AdamSmallRefIdeal.Read.val_main_v25_eq _)).trans (AdamSmallRef.delta0 ..)).trans ?_,
    ((h2.trans (Cert.AdamSmallRefIdeal.Read.val_main_v6_eq _)).trans (AdamSmallRef.newM0 ..)).trans ?_,
    ((h3.trans (Cert.AdamSmallRefIdeal.Read.val_main_v12_eq _)).trans (AdamSmallRef.newV0 ..)).trans ?_,
    ((h4.trans (Cert.AdamSmallRefIdeal.Read.val_main_v29_eq _)).trans (AdamSmallRef.grad1 ..)).trans ?_,
    ((h5.trans (Cert.AdamSmallRefIdeal.Read.val_main_v56_eq _)).trans (AdamSmallRef.delta1 ..)).trans ?_,
    ((h6.trans (Cert.AdamSmallRefIdeal.Read.val_main_v37_eq _)).trans (AdamSmallRef.newM1 ..)).trans ?_,
    ((h7.trans (Cert.AdamSmallRefIdeal.Read.val_main_v43_eq _)).trans (AdamSmallRef.newV1 ..)).trans ?_,
    ((h8.trans (Cert.AdamSmallRefIdeal.Read.val_main_v60_eq _)).trans (AdamSmallRef.grad2 ..)).trans ?_,
    ((h9.trans (Cert.AdamSmallRefIdeal.Read.val_main_v87_eq _)).trans (AdamSmallRef.delta2 ..)).trans ?_,
    ((h10.trans (Cert.AdamSmallRefIdeal.Read.val_main_v68_eq _)).trans (AdamSmallRef.newM2 ..)).trans ?_,
    ((h11.trans (Cert.AdamSmallRefIdeal.Read.val_main_v74_eq _)).trans (AdamSmallRef.newV2 ..)).trans ?_,
    ((h12.trans (Cert.AdamSmallRefIdeal.Read.val_main_v88_eq _)).trans (AdamSmallRef.grad3 ..)).trans ?_,
    ((h13.trans (Cert.AdamSmallRefIdeal.Read.val_main_v112_eq _)).trans (AdamSmallRef.delta3 ..)).trans ?_,
    ((h14.trans (Cert.AdamSmallRefIdeal.Read.val_main_v93_eq _)).trans (AdamSmallRef.newM3 ..)).trans ?_,
    ((h15.trans (Cert.AdamSmallRefIdeal.Read.val_main_v99_eq _)).trans (AdamSmallRef.newV3 ..)).trans ?_,
    ((h16.trans (Cert.AdamSmallRefIdeal.Read.val_main_v115_eq _)).trans (AdamSmallRef.grad4 ..)).trans ?_,
    ((h17.trans (Cert.AdamSmallRefIdeal.Read.val_main_v142_eq _)).trans (AdamSmallRef.delta4 ..)).trans ?_,
    ((h18.trans (Cert.AdamSmallRefIdeal.Read.val_main_v123_eq _)).trans (AdamSmallRef.newM4 ..)).trans ?_,
    ((h19.trans (Cert.AdamSmallRefIdeal.Read.val_main_v129_eq _)).trans (AdamSmallRef.newV4 ..)).trans ?_,
    ((h20.trans (Cert.AdamSmallRefIdeal.Read.val_main_v143_eq _)).trans (AdamSmallRef.grad5 ..)).trans ?_,
    ((h21.trans (Cert.AdamSmallRefIdeal.Read.val_main_v167_eq _)).trans (AdamSmallRef.delta5 ..)).trans ?_,
    ((h22.trans (Cert.AdamSmallRefIdeal.Read.val_main_v148_eq _)).trans (AdamSmallRef.newM5 ..)).trans ?_,
    ((h23.trans (Cert.AdamSmallRefIdeal.Read.val_main_v154_eq _)).trans (AdamSmallRef.newV5 ..)).trans ?_,
    ((h24.trans (Cert.AdamSmallRefIdeal.Read.val_main_v169_eq _)).trans (AdamSmallRef.grad6 ..)).trans ?_,
    ((h25.trans (Cert.AdamSmallRefIdeal.Read.val_main_v193_eq _)).trans (AdamSmallRef.delta6 ..)).trans ?_,
    ((h26.trans (Cert.AdamSmallRefIdeal.Read.val_main_v174_eq _)).trans (AdamSmallRef.newM6 ..)).trans ?_,
    ((h27.trans (Cert.AdamSmallRefIdeal.Read.val_main_v180_eq _)).trans (AdamSmallRef.newV6 ..)).trans ?_,
    ((h28.trans (Cert.AdamSmallRefIdeal.Read.val_main_v194_eq _)).trans (AdamSmallRef.grad7 ..)).trans ?_,
    ((h29.trans (Cert.AdamSmallRefIdeal.Read.val_main_v218_eq _)).trans (AdamSmallRef.delta7 ..)).trans ?_,
    ((h30.trans (Cert.AdamSmallRefIdeal.Read.val_main_v199_eq _)).trans (AdamSmallRef.newM7 ..)).trans ?_,
    ((h31.trans (Cert.AdamSmallRefIdeal.Read.val_main_v205_eq _)).trans (AdamSmallRef.newV7 ..)).trans ?_,
    ((h32.trans (Cert.AdamSmallRefIdeal.Read.val_main_v219_eq _)).trans (AdamSmallRef.grad8 ..)).trans ?_,
    ((h33.trans (Cert.AdamSmallRefIdeal.Read.val_main_v243_eq _)).trans (AdamSmallRef.delta8 ..)).trans ?_,
    ((h34.trans (Cert.AdamSmallRefIdeal.Read.val_main_v224_eq _)).trans (AdamSmallRef.newM8 ..)).trans ?_,
    ((h35.trans (Cert.AdamSmallRefIdeal.Read.val_main_v230_eq _)).trans (AdamSmallRef.newV8 ..)).trans ?_,
    ((h36.trans (Cert.AdamSmallRefIdeal.Read.val_main_v244_eq _)).trans (AdamSmallRef.loss ..)).trans ?_, hk⟩
  · rw [← a0]
  · rw [← a9, ← a18, ← a27, ← a0]
  · rw [← a18, ← a0]
  · rw [← a27, ← a0]
  · rw [← a1]
  · rw [← a10, ← a19, ← a28, ← a1]
  · rw [← a19, ← a1]
  · rw [← a28, ← a1]
  · rw [← a2]
  · rw [← a11, ← a20, ← a29, ← a2]
  · rw [← a20, ← a2]
  · rw [← a29, ← a2]
  · rw [← a3]
  · rw [← a12, ← a21, ← a30, ← a3]
  · rw [← a21, ← a3]
  · rw [← a30, ← a3]
  · rw [← a4]
  · rw [← a13, ← a22, ← a31, ← a4]
  · rw [← a22, ← a4]
  · rw [← a31, ← a4]
  · rw [← a5]
  · rw [← a14, ← a23, ← a32, ← a5]
  · rw [← a23, ← a5]
  · rw [← a32, ← a5]
  · rw [← a6]
  · rw [← a15, ← a24, ← a33, ← a6]
  · rw [← a24, ← a6]
  · rw [← a33, ← a6]
  · rw [← a7]
  · rw [← a16, ← a25, ← a34, ← a7]
  · rw [← a25, ← a7]
  · rw [← a34, ← a7]
  · rw [← a8]
  · rw [← a17, ← a26, ← a35, ← a8]
  · rw [← a26, ← a8]
  · rw [← a35, ← a8]
  · rw [← a36]

end Cert.Proof.AdamSmall

end
-- ==== Proof.lean ====
module

public import proofs.«01_k».proof.Defs
public import proofs.«01_k».proof.Proof.AttnFrames
public import proofs.«01_k».proof.Proof.FfnHidden
public import proofs.«01_k».proof.Proof.FfnDownGrad
public import proofs.«01_k».proof.Proof.FfnUpGrad
public import proofs.«01_k».proof.Proof.FfnInput
public import proofs.«01_k».proof.Proof.FfnFwdHidden
public import proofs.«01_k».proof.Proof.FfnFwdDown
public import proofs.«01_k».proof.Proof.InProj
public import proofs.«01_k».proof.Proof.InInput
public import proofs.«01_k».proof.Proof.InGrad
public import proofs.«01_k».proof.Proof.SquareGrad
public import proofs.«01_k».proof.Proof.KvGrad
public import proofs.«01_k».proof.Proof.PleUpGrad
public import proofs.«01_k».proof.Proof.AdamIn
public import proofs.«01_k».proof.Proof.AdamSquare
public import proofs.«01_k».proof.Proof.AdamKv
public import proofs.«01_k».proof.Proof.AdamGateUp
public import proofs.«01_k».proof.Proof.AdamDown
public import proofs.«01_k».proof.Proof.AdamPleUp
public import proofs.«01_k».proof.Proof.AdamPleGate
public import proofs.«01_k».proof.Proof.AdamSmall

@[expose] public section

noncomputable section

namespace Cert.Proof

theorem claim : Cert.Claim :=
  ⟨Cert.Kernel.Gen.facts, Cert.KernelIdeal.Gen.facts, Cert.ReferenceIdeal.Gen.facts,
   Cert.FfnHidden.Gen.facts, Cert.FfnHiddenIdeal.Gen.facts, Cert.FfnHiddenRefIdeal.Gen.facts,
   Cert.FfnDownGrad.Gen.facts, Cert.FfnDownGradIdeal.Gen.facts, Cert.FfnDownGradRefIdeal.Gen.facts,
   Cert.FfnUpGrad.Gen.facts, Cert.FfnUpGradIdeal.Gen.facts, Cert.FfnUpGradRefIdeal.Gen.facts,
   Cert.FfnInput.Gen.facts, Cert.FfnInputIdeal.Gen.facts, Cert.FfnInputRefIdeal.Gen.facts,
   Cert.FfnFwdHidden.Gen.facts, Cert.FfnFwdHiddenIdeal.Gen.facts, Cert.FfnFwdHiddenRefIdeal.Gen.facts,
   Cert.FfnFwdDown.Gen.facts, Cert.FfnFwdDownIdeal.Gen.facts, Cert.FfnFwdDownRefIdeal.Gen.facts,
   Cert.InProj.Gen.facts, Cert.InProjIdeal.Gen.facts, Cert.InProjRefIdeal.Gen.facts,
   Cert.InInput.Gen.facts, Cert.InInputIdeal.Gen.facts, Cert.InInputRefIdeal.Gen.facts,
   Cert.InGrad.Gen.facts, Cert.InGradIdeal.Gen.facts, Cert.InGradRefIdeal.Gen.facts,
   Cert.SquareGrad.Gen.facts, Cert.SquareGradIdeal.Gen.facts, Cert.SquareGradRefIdeal.Gen.facts,
   Cert.KvGrad.Gen.facts, Cert.KvGradIdeal.Gen.facts, Cert.KvGradRefIdeal.Gen.facts,
   Cert.PleUpGrad.Gen.facts, Cert.PleUpGradIdeal.Gen.facts, Cert.PleUpGradRefIdeal.Gen.facts,
   Cert.AdamIn.Gen.facts, Cert.AdamInIdeal.Gen.facts, Cert.AdamInRefIdeal.Gen.facts,
   Cert.AdamSquare.Gen.facts, Cert.AdamSquareIdeal.Gen.facts, Cert.AdamSquareRefIdeal.Gen.facts,
   Cert.AdamKv.Gen.facts, Cert.AdamKvIdeal.Gen.facts, Cert.AdamKvRefIdeal.Gen.facts,
   Cert.AdamGateUp.Gen.facts, Cert.AdamGateUpIdeal.Gen.facts, Cert.AdamGateUpRefIdeal.Gen.facts,
   Cert.AdamDown.Gen.facts, Cert.AdamDownIdeal.Gen.facts, Cert.AdamDownRefIdeal.Gen.facts,
   Cert.AdamPleUp.Gen.facts, Cert.AdamPleUpIdeal.Gen.facts, Cert.AdamPleUpRefIdeal.Gen.facts,
   Cert.AdamPleGate.Gen.facts, Cert.AdamPleGateIdeal.Gen.facts, Cert.AdamPleGateRefIdeal.Gen.facts,
   Cert.AdamSmall.Gen.facts, Cert.AdamSmallIdeal.Gen.facts, Cert.AdamSmallRefIdeal.Gen.facts,
   FfnHidden.pre_facts,
   Attn.frame_kernel, Attn.frame_ideal, Attn.frame_reference,
   FfnHidden.frame_kernel, FfnHidden.frame_ideal, FfnHidden.frame_ideal_finite, FfnHidden.frame_reference, FfnHidden.frame_reference_finite,
   FfnDownGrad.frame_kernel, FfnDownGrad.frame_ideal, FfnDownGrad.frame_reference,
   FfnUpGrad.frame_kernel, FfnUpGrad.frame_ideal, FfnUpGrad.frame_reference,
   FfnInput.frame_kernel, FfnInput.frame_ideal, FfnInput.frame_reference,
   FfnFwdHidden.frame_kernel, FfnFwdHidden.frame_ideal, FfnFwdHidden.frame_reference,
   FfnFwdDown.frame_kernel, FfnFwdDown.frame_ideal, FfnFwdDown.frame_reference,
   InProj.frame_kernel, InProj.frame_ideal, InProj.frame_reference,
   InInput.frame_kernel, InInput.frame_ideal, InInput.frame_reference,
   InGrad.frame_kernel, InGrad.frame_ideal, InGrad.frame_reference,
   SquareGrad.frame_kernel, SquareGrad.frame_ideal, SquareGrad.frame_reference,
   KvGrad.frame_kernel, KvGrad.frame_ideal, KvGrad.frame_reference,
   PleUpGrad.frame_kernel, PleUpGrad.frame_ideal, PleUpGrad.frame_reference,
   AdamIn.frame_kernel, AdamIn.frame_ideal, AdamIn.frame_reference,
   AdamSquare.frame_kernel, AdamSquare.frame_ideal, AdamSquare.frame_reference,
   AdamKv.frame_kernel, AdamKv.frame_ideal, AdamKv.frame_reference,
   AdamGateUp.frame_kernel, AdamGateUp.frame_ideal, AdamGateUp.frame_reference,
   AdamDown.frame_kernel, AdamDown.frame_ideal, AdamDown.frame_reference,
   AdamPleUp.frame_kernel, AdamPleUp.frame_ideal, AdamPleUp.frame_reference,
   AdamPleGate.frame_kernel, AdamPleGate.frame_ideal, AdamPleGate.frame_reference,
   AdamSmall.frame_kernel, AdamSmall.frame_ideal, AdamSmall.frame_reference,
   trivial,
   trivial, FfnHidden.algebraic,
   trivial, FfnDownGrad.algebraic,
   trivial, FfnUpGrad.algebraic,
   trivial, FfnInput.algebraic,
   trivial, FfnFwdHidden.algebraic,
   trivial, FfnFwdDown.algebraic,
   trivial, InProj.algebraic,
   trivial, InInput.algebraic,
   trivial, InGrad.algebraic,
   trivial, SquareGrad.algebraic,
   trivial, KvGrad.algebraic,
   trivial, PleUpGrad.algebraic,
   trivial, AdamIn.algebraic,
   trivial, AdamSquare.algebraic,
   trivial, AdamKv.algebraic,
   trivial, AdamGateUp.algebraic,
   trivial, AdamDown.algebraic,
   trivial, AdamPleUp.algebraic,
   trivial, AdamPleGate.algebraic,
   trivial, AdamSmall.algebraic⟩

end Cert.Proof

end
